-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_pre [hPre_attn_pre : Cert.Pre_attn_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjRes (m : (ℓ : Loc Cert.ProjRes.nD Cert.ProjRes.τ Cert.ProjRes.sig) → Buf (Elt Bits) ℓ) : Prop :=
  True

def Pre_ProjResIdeal (m : (ℓ : Loc Cert.ProjResIdeal.nD Cert.ProjResIdeal.τ Cert.ProjResIdeal.sig) → Buf (Elt Ideal) ℓ) : Prop :=
  True

def Pre_ProjResRefIdeal (m : (ℓ : Loc Cert.ProjResRefIdeal.nD Cert.ProjResRefIdeal.τ Cert.ProjResRefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_ProjKRefIdeal (m : (ℓ : Loc Cert.ProjKRefIdeal.nD Cert.ProjKRefIdeal.τ Cert.ProjKRefIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVRefIdeal (m : (ℓ : Loc Cert.ProjVRefIdeal.nD Cert.ProjVRefIdeal.τ Cert.ProjVRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_ModTab (m : (ℓ : Loc Cert.ModTab.nD Cert.ModTab.τ Cert.ModTab.sig) → Buf (Elt Bits) ℓ) : Prop :=
  True

def Pre_ModTabIdeal (m : (ℓ : Loc Cert.ModTabIdeal.nD Cert.ModTabIdeal.τ Cert.ModTabIdeal.sig) → Buf (Elt Ideal) ℓ) : Prop :=
  True

def Pre_ModTabRefIdeal (m : (ℓ : Loc Cert.ModTabRefIdeal.nD Cert.ModTabRefIdeal.τ Cert.ModTabRefIdeal.sig) → Buf (Elt Ideal) ℓ) : Prop :=
  True

def Pre_NormR (m : (ℓ : Loc Cert.NormR.nD Cert.NormR.τ Cert.NormR.sig) → Buf (Elt Bits) ℓ) : Prop :=
  True

def Pre_NormRIdeal (m : (ℓ : Loc Cert.NormRIdeal.nD Cert.NormRIdeal.τ Cert.NormRIdeal.sig) → Buf (Elt Ideal) ℓ) : Prop :=
  True

def Pre_NormRRefIdeal (m : (ℓ : Loc Cert.NormRRefIdeal.nD Cert.NormRRefIdeal.τ Cert.NormRRefIdeal.sig) → Buf (Elt Ideal) ℓ) : Prop :=
  True

def Pre_FfnRes (m : (ℓ : Loc Cert.FfnRes.nD Cert.FfnRes.τ Cert.FfnRes.sig) → Buf (Elt Bits) ℓ) : Prop :=
  True

def Pre_FfnResIdeal (m : (ℓ : Loc Cert.FfnResIdeal.nD Cert.FfnResIdeal.τ Cert.FfnResIdeal.sig) → Buf (Elt Ideal) ℓ) : Prop :=
  True

def Pre_FfnResRefIdeal (m : (ℓ : Loc Cert.FfnResRefIdeal.nD Cert.FfnResRefIdeal.τ Cert.FfnResRefIdeal.sig) → Buf (Elt Ideal) ℓ) : Prop :=
  True

def Pre_ModLast (m : (ℓ : Loc Cert.ModLast.nD Cert.ModLast.τ Cert.ModLast.sig) → Buf (Elt Bits) ℓ) : Prop :=
  True

def Pre_ModLastIdeal (m : (ℓ : Loc Cert.ModLastIdeal.nD Cert.ModLastIdeal.τ Cert.ModLastIdeal.sig) → Buf (Elt Ideal) ℓ) : Prop :=
  True

def Pre_ModLastRefIdeal (m : (ℓ : Loc Cert.ModLastRefIdeal.nD Cert.ModLastRefIdeal.τ Cert.ModLastRefIdeal.sig) → Buf (Elt Ideal) ℓ) : Prop :=
  True

def Pre_NormLast (m : (ℓ : Loc Cert.NormLast.nD Cert.NormLast.τ Cert.NormLast.sig) → Buf (Elt Bits) ℓ) : Prop :=
  True

def Pre_NormLastIdeal (m : (ℓ : Loc Cert.NormLastIdeal.nD Cert.NormLastIdeal.τ Cert.NormLastIdeal.sig) → Buf (Elt Ideal) ℓ) : Prop :=
  True

def Pre_NormLastRefIdeal (m : (ℓ : Loc Cert.NormLastRefIdeal.nD Cert.NormLastRefIdeal.τ Cert.NormLastRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_Moe [hPre_moe_pre : Cert.Pre_moe_pre.Facts] (m : (ℓ : Loc Cert.Moe.nD Cert.Moe.τ Cert.Moe.sig) → Buf (Elt Bits) ℓ) : Prop :=
  ∀ c : Dev Cert.Moe.nD,
    (Cert.Pre_moe_pre.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_moe_pre : Cert.Pre_moe_pre.Facts] (m : (ℓ : Loc Cert.MoeIdeal.nD Cert.MoeIdeal.τ Cert.MoeIdeal.sig) → Buf (Elt Ideal) ℓ) : Prop :=
  ∀ c : Dev Cert.MoeIdeal.nD,
    (Cert.Pre_moe_pre.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_pre [hPre_moe_pre : Cert.Pre_moe_pre.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_pre.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_MoeLast [hPre_moe_last_pre : Cert.Pre_moe_last_pre.Facts] (m : (ℓ : Loc Cert.MoeLast.nD Cert.MoeLast.τ Cert.MoeLast.sig) → Buf (Elt Bits) ℓ) : Prop :=
  ∀ c : Dev Cert.MoeLast.nD,
    (Cert.Pre_moe_last_pre.fn (F := Bits) (m ((c.tc : Thread Cert.MoeLast.nD Cert.MoeLast.τ).loc Cert.MoeLast.main_arg0)) (m ((c.tc : Thread Cert.MoeLast.nD Cert.MoeLast.τ).loc Cert.MoeLast.main_arg1)) (m ((c.tc : Thread Cert.MoeLast.nD Cert.MoeLast.τ).loc Cert.MoeLast.main_arg2)) (m ((c.tc : Thread Cert.MoeLast.nD Cert.MoeLast.τ).loc Cert.MoeLast.main_arg3)) (m ((c.tc : Thread Cert.MoeLast.nD Cert.MoeLast.τ).loc Cert.MoeLast.main_arg4)) (m ((c.tc : Thread Cert.MoeLast.nD Cert.MoeLast.τ).loc Cert.MoeLast.main_arg5))) = (fun _ => 1#1)

def Pre_MoeLastIdeal [hPre_moe_last_pre : Cert.Pre_moe_last_pre.Facts] (m : (ℓ : Loc Cert.MoeLastIdeal.nD Cert.MoeLastIdeal.τ Cert.MoeLastIdeal.sig) → Buf (Elt Ideal) ℓ) : Prop :=
  ∀ c : Dev Cert.MoeLastIdeal.nD,
    (Cert.Pre_moe_last_pre.fn (F := Ideal) (m ((c.tc : Thread Cert.MoeLastIdeal.nD Cert.MoeLastIdeal.τ).loc Cert.MoeLastIdeal.main_arg0)) (m ((c.tc : Thread Cert.MoeLastIdeal.nD Cert.MoeLastIdeal.τ).loc Cert.MoeLastIdeal.main_arg1)) (m ((c.tc : Thread Cert.MoeLastIdeal.nD Cert.MoeLastIdeal.τ).loc Cert.MoeLastIdeal.main_arg2)) (m ((c.tc : Thread Cert.MoeLastIdeal.nD Cert.MoeLastIdeal.τ).loc Cert.MoeLastIdeal.main_arg3)) (m ((c.tc : Thread Cert.MoeLastIdeal.nD Cert.MoeLastIdeal.τ).loc Cert.MoeLastIdeal.main_arg4)) (m ((c.tc : Thread Cert.MoeLastIdeal.nD Cert.MoeLastIdeal.τ).loc Cert.MoeLastIdeal.main_arg5))) = (fun _ => 1#1)

def Pre_MoeLastRefIdeal (m : (ℓ : Loc Cert.MoeLastRefIdeal.nD Cert.MoeLastRefIdeal.τ Cert.MoeLastRefIdeal.sig) → Buf (Elt Ideal) ℓ) : Prop :=
  True

def Pre_MoeLastRefIdeal_moe_last_pre [hPre_moe_last_pre : Cert.Pre_moe_last_pre.Facts] (m : (ℓ : Loc Cert.MoeLastRefIdeal.nD Cert.MoeLastRefIdeal.τ Cert.MoeLastRefIdeal.sig) → Buf (Elt Ideal) ℓ) : Prop :=
  ∀ c : Dev Cert.MoeLastRefIdeal.nD,
    (Cert.Pre_moe_last_pre.fn (F := Ideal) (m ((c.tc : Thread Cert.MoeLastRefIdeal.nD Cert.MoeLastRefIdeal.τ).loc Cert.MoeLastRefIdeal.main_arg0)) (m ((c.tc : Thread Cert.MoeLastRefIdeal.nD Cert.MoeLastRefIdeal.τ).loc Cert.MoeLastRefIdeal.main_arg1)) (m ((c.tc : Thread Cert.MoeLastRefIdeal.nD Cert.MoeLastRefIdeal.τ).loc Cert.MoeLastRefIdeal.main_arg2)) (m ((c.tc : Thread Cert.MoeLastRefIdeal.nD Cert.MoeLastRefIdeal.τ).loc Cert.MoeLastRefIdeal.main_arg3)) (m ((c.tc : Thread Cert.MoeLastRefIdeal.nD Cert.MoeLastRefIdeal.τ).loc Cert.MoeLastRefIdeal.main_arg4)) (m ((c.tc : Thread Cert.MoeLastRefIdeal.nD Cert.MoeLastRefIdeal.τ).loc Cert.MoeLastRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_pre [hAttnRefIdeal : Cert.AttnRefIdeal.Facts] [hPre_attn_pre : Cert.Pre_attn_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2))
      ∧ r.2.sem = fun _ => 0)

def quiescent_ProjRes [hProjRes : Cert.ProjRes.Facts] : Prop :=
  ∀ (m : (ℓ : Loc Cert.ProjRes.nD Cert.ProjRes.τ Cert.ProjRes.sig) → Buf (Elt Bits) ℓ) (g : Dev Cert.ProjRes.nD → PrngReg), Pre_ProjRes m →
    θ_run (Cert.ProjRes.defs (F := Bits)) (onTc (τ := Cert.ProjRes.τ) (Cert.ProjRes.main (F := Bits))) ⟨m, fun _ => 0, g⟩ (fun r => (∀ c : Dev Cert.ProjRes.nD,
      r.2.mem ((c.tc : Thread Cert.ProjRes.nD Cert.ProjRes.τ).loc Cert.ProjRes.main_arg0) = m ((c.tc : Thread Cert.ProjRes.nD Cert.ProjRes.τ).loc Cert.ProjRes.main_arg0)
      ∧ r.2.mem ((c.tc : Thread Cert.ProjRes.nD Cert.ProjRes.τ).loc Cert.ProjRes.main_arg1) = m ((c.tc : Thread Cert.ProjRes.nD Cert.ProjRes.τ).loc Cert.ProjRes.main_arg1)
      ∧ r.2.mem ((c.tc : Thread Cert.ProjRes.nD Cert.ProjRes.τ).loc Cert.ProjRes.main_arg2) = m ((c.tc : Thread Cert.ProjRes.nD Cert.ProjRes.τ).loc Cert.ProjRes.main_arg2)
      ∧ r.2.mem ((c.tc : Thread Cert.ProjRes.nD Cert.ProjRes.τ).loc Cert.ProjRes.main_arg3) = m ((c.tc : Thread Cert.ProjRes.nD Cert.ProjRes.τ).loc Cert.ProjRes.main_arg3))
      ∧ r.2.sem = fun _ => 0)

def quiescent_ProjResIdeal [hProjResIdeal : Cert.ProjResIdeal.Facts] : Prop :=
  ∀ (m : (ℓ : Loc Cert.ProjResIdeal.nD Cert.ProjResIdeal.τ Cert.ProjResIdeal.sig) → Buf (Elt Ideal) ℓ) (g : Dev Cert.ProjResIdeal.nD → PrngReg), Pre_ProjResIdeal m →
    θ_run (Cert.ProjResIdeal.defs (F := Ideal)) (onTc (τ := Cert.ProjResIdeal.τ) (Cert.ProjResIdeal.main (F := Ideal))) ⟨m, fun _ => 0, g⟩ (fun r => (∀ c : Dev Cert.ProjResIdeal.nD,
      r.2.mem ((c.tc : Thread Cert.ProjResIdeal.nD Cert.ProjResIdeal.τ).loc Cert.ProjResIdeal.main_arg0) = m ((c.tc : Thread Cert.ProjResIdeal.nD Cert.ProjResIdeal.τ).loc Cert.ProjResIdeal.main_arg0)
      ∧ r.2.mem ((c.tc : Thread Cert.ProjResIdeal.nD Cert.ProjResIdeal.τ).loc Cert.ProjResIdeal.main_arg1) = m ((c.tc : Thread Cert.ProjResIdeal.nD Cert.ProjResIdeal.τ).loc Cert.ProjResIdeal.main_arg1)
      ∧ r.2.mem ((c.tc : Thread Cert.ProjResIdeal.nD Cert.ProjResIdeal.τ).loc Cert.ProjResIdeal.main_arg2) = m ((c.tc : Thread Cert.ProjResIdeal.nD Cert.ProjResIdeal.τ).loc Cert.ProjResIdeal.main_arg2)
      ∧ r.2.mem ((c.tc : Thread Cert.ProjResIdeal.nD Cert.ProjResIdeal.τ).loc Cert.ProjResIdeal.main_arg3) = m ((c.tc : Thread Cert.ProjResIdeal.nD Cert.ProjResIdeal.τ).loc Cert.ProjResIdeal.main_arg3))
      ∧ r.2.sem = fun _ => 0)

def quiescent_ProjResRefIdeal [hProjResRefIdeal : Cert.ProjResRefIdeal.Facts] : Prop :=
  ∀ (m : (ℓ : Loc Cert.ProjResRefIdeal.nD Cert.ProjResRefIdeal.τ Cert.ProjResRefIdeal.sig) → Buf (Elt Ideal) ℓ) (g : Dev Cert.ProjResRefIdeal.nD → PrngReg), Pre_ProjResRefIdeal m →
    θ_run (Cert.ProjResRefIdeal.defs (F := Ideal)) (onTc (τ := Cert.ProjResRefIdeal.τ) (Cert.ProjResRefIdeal.main (F := Ideal))) ⟨m, fun _ => 0, g⟩ (fun r => (∀ c : Dev Cert.ProjResRefIdeal.nD,
      r.2.mem ((c.tc : Thread Cert.ProjResRefIdeal.nD Cert.ProjResRefIdeal.τ).loc Cert.ProjResRefIdeal.main_arg0) = m ((c.tc : Thread Cert.ProjResRefIdeal.nD Cert.ProjResRefIdeal.τ).loc Cert.ProjResRefIdeal.main_arg0)
      ∧ r.2.mem ((c.tc : Thread Cert.ProjResRefIdeal.nD Cert.ProjResRefIdeal.τ).loc Cert.ProjResRefIdeal.main_arg1) = m ((c.tc : Thread Cert.ProjResRefIdeal.nD Cert.ProjResRefIdeal.τ).loc Cert.ProjResRefIdeal.main_arg1)
      ∧ r.2.mem ((c.tc : Thread Cert.ProjResRefIdeal.nD Cert.ProjResRefIdeal.τ).loc Cert.ProjResRefIdeal.main_arg2) = m ((c.tc : Thread Cert.ProjResRefIdeal.nD Cert.ProjResRefIdeal.τ).loc Cert.ProjResRefIdeal.main_arg2)
      ∧ r.2.mem ((c.tc : Thread Cert.ProjResRefIdeal.nD Cert.ProjResRefIdeal.τ).loc Cert.ProjResRefIdeal.main_arg3) = m ((c.tc : Thread Cert.ProjResRefIdeal.nD Cert.ProjResRefIdeal.τ).loc Cert.ProjResRefIdeal.main_arg3))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1)
      ∧ r.2.mem ((c.tc : Thread Cert.ProjQRefIdeal.nD Cert.ProjQRefIdeal.τ).loc Cert.ProjQRefIdeal.main_arg2) = m ((c.tc : Thread Cert.ProjQRefIdeal.nD Cert.ProjQRefIdeal.τ).loc Cert.ProjQRefIdeal.main_arg2))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1)
      ∧ r.2.mem ((c.tc : Thread Cert.ProjK.nD Cert.ProjK.τ).loc Cert.ProjK.main_arg2) = m ((c.tc : Thread Cert.ProjK.nD Cert.ProjK.τ).loc Cert.ProjK.main_arg2))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
      ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2))
      ∧ r.2.sem = fun _ => 0)

def quiescent_ProjKRefIdeal [hProjKRefIdeal : Cert.ProjKRefIdeal.Facts] : Prop :=
  ∀ (m : (ℓ : Loc Cert.ProjKRefIdeal.nD Cert.ProjKRefIdeal.τ Cert.ProjKRefIdeal.sig) → Buf (Elt Ideal) ℓ) (g : Dev Cert.ProjKRefIdeal.nD → PrngReg), Pre_ProjKRefIdeal m →
    θ_run (Cert.ProjKRefIdeal.defs (F := Ideal)) (onTc (τ := Cert.ProjKRefIdeal.τ) (Cert.ProjKRefIdeal.main (F := Ideal))) ⟨m, fun _ => 0, g⟩ (fun r => (∀ c : Dev Cert.ProjKRefIdeal.nD,
      r.2.mem ((c.tc : Thread Cert.ProjKRefIdeal.nD Cert.ProjKRefIdeal.τ).loc Cert.ProjKRefIdeal.main_arg0) = m ((c.tc : Thread Cert.ProjKRefIdeal.nD Cert.ProjKRefIdeal.τ).loc Cert.ProjKRefIdeal.main_arg0)
      ∧ r.2.mem ((c.tc : Thread Cert.ProjKRefIdeal.nD Cert.ProjKRefIdeal.τ).loc Cert.ProjKRefIdeal.main_arg1) = m ((c.tc : Thread Cert.ProjKRefIdeal.nD Cert.ProjKRefIdeal.τ).loc Cert.ProjKRefIdeal.main_arg1)
      ∧ r.2.mem ((c.tc : Thread Cert.ProjKRefIdeal.nD Cert.ProjKRefIdeal.τ).loc Cert.ProjKRefIdeal.main_arg2) = m ((c.tc : Thread Cert.ProjKRefIdeal.nD Cert.ProjKRefIdeal.τ).loc Cert.ProjKRefIdeal.main_arg2))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ r.2.sem = fun _ => 0)

def quiescent_ProjVRefIdeal [hProjVRefIdeal : Cert.ProjVRefIdeal.Facts] : Prop :=
  ∀ (m : (ℓ : Loc Cert.ProjVRefIdeal.nD Cert.ProjVRefIdeal.τ Cert.ProjVRefIdeal.sig) → Buf (Elt Ideal) ℓ) (g : Dev Cert.ProjVRefIdeal.nD → PrngReg), Pre_ProjVRefIdeal m →
    θ_run (Cert.ProjVRefIdeal.defs (F := Ideal)) (onTc (τ := Cert.ProjVRefIdeal.τ) (Cert.ProjVRefIdeal.main (F := Ideal))) ⟨m, fun _ => 0, g⟩ (fun r => (∀ c : Dev Cert.ProjVRefIdeal.nD,
      r.2.mem ((c.tc : Thread Cert.ProjVRefIdeal.nD Cert.ProjVRefIdeal.τ).loc Cert.ProjVRefIdeal.main_arg0) = m ((c.tc : Thread Cert.ProjVRefIdeal.nD Cert.ProjVRefIdeal.τ).loc Cert.ProjVRefIdeal.main_arg0)
      ∧ r.2.mem ((c.tc : Thread Cert.ProjVRefIdeal.nD Cert.ProjVRefIdeal.τ).loc Cert.ProjVRefIdeal.main_arg1) = m ((c.tc : Thread Cert.ProjVRefIdeal.nD Cert.ProjVRefIdeal.τ).loc Cert.ProjVRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3))
      ∧ r.2.sem = fun _ => 0)

def quiescent_ModTab [hModTab : Cert.ModTab.Facts] : Prop :=
  ∀ (m : (ℓ : Loc Cert.ModTab.nD Cert.ModTab.τ Cert.ModTab.sig) → Buf (Elt Bits) ℓ) (g : Dev Cert.ModTab.nD → PrngReg), Pre_ModTab m →
    θ_run (Cert.ModTab.defs (F := Bits)) (onTc (τ := Cert.ModTab.τ) (Cert.ModTab.main (F := Bits))) ⟨m, fun _ => 0, g⟩ (fun r => (∀ c : Dev Cert.ModTab.nD,
      r.2.mem ((c.tc : Thread Cert.ModTab.nD Cert.ModTab.τ).loc Cert.ModTab.main_arg0) = m ((c.tc : Thread Cert.ModTab.nD Cert.ModTab.τ).loc Cert.ModTab.main_arg0)
      ∧ r.2.mem ((c.tc : Thread Cert.ModTab.nD Cert.ModTab.τ).loc Cert.ModTab.main_arg1) = m ((c.tc : Thread Cert.ModTab.nD Cert.ModTab.τ).loc Cert.ModTab.main_arg1)
      ∧ r.2.mem ((c.tc : Thread Cert.ModTab.nD Cert.ModTab.τ).loc Cert.ModTab.main_arg2) = m ((c.tc : Thread Cert.ModTab.nD Cert.ModTab.τ).loc Cert.ModTab.main_arg2))
      ∧ r.2.sem = fun _ => 0)

def quiescent_ModTabIdeal [hModTabIdeal : Cert.ModTabIdeal.Facts] : Prop :=
  ∀ (m : (ℓ : Loc Cert.ModTabIdeal.nD Cert.ModTabIdeal.τ Cert.ModTabIdeal.sig) → Buf (Elt Ideal) ℓ) (g : Dev Cert.ModTabIdeal.nD → PrngReg), Pre_ModTabIdeal m →
    θ_run (Cert.ModTabIdeal.defs (F := Ideal)) (onTc (τ := Cert.ModTabIdeal.τ) (Cert.ModTabIdeal.main (F := Ideal))) ⟨m, fun _ => 0, g⟩ (fun r => (∀ c : Dev Cert.ModTabIdeal.nD,
      r.2.mem ((c.tc : Thread Cert.ModTabIdeal.nD Cert.ModTabIdeal.τ).loc Cert.ModTabIdeal.main_arg0) = m ((c.tc : Thread Cert.ModTabIdeal.nD Cert.ModTabIdeal.τ).loc Cert.ModTabIdeal.main_arg0)
      ∧ r.2.mem ((c.tc : Thread Cert.ModTabIdeal.nD Cert.ModTabIdeal.τ).loc Cert.ModTabIdeal.main_arg1) = m ((c.tc : Thread Cert.ModTabIdeal.nD Cert.ModTabIdeal.τ).loc Cert.ModTabIdeal.main_arg1)
      ∧ r.2.mem ((c.tc : Thread Cert.ModTabIdeal.nD Cert.ModTabIdeal.τ).loc Cert.ModTabIdeal.main_arg2) = m ((c.tc : Thread Cert.ModTabIdeal.nD Cert.ModTabIdeal.τ).loc Cert.ModTabIdeal.main_arg2))
      ∧ r.2.sem = fun _ => 0)

def quiescent_ModTabRefIdeal [hModTabRefIdeal : Cert.ModTabRefIdeal.Facts] : Prop :=
  ∀ (m : (ℓ : Loc Cert.ModTabRefIdeal.nD Cert.ModTabRefIdeal.τ Cert.ModTabRefIdeal.sig) → Buf (Elt Ideal) ℓ) (g : Dev Cert.ModTabRefIdeal.nD → PrngReg), Pre_ModTabRefIdeal m →
    θ_run (Cert.ModTabRefIdeal.defs (F := Ideal)) (onTc (τ := Cert.ModTabRefIdeal.τ) (Cert.ModTabRefIdeal.main (F := Ideal))) ⟨m, fun _ => 0, g⟩ (fun r => (∀ c : Dev Cert.ModTabRefIdeal.nD,
      r.2.mem ((c.tc : Thread Cert.ModTabRefIdeal.nD Cert.ModTabRefIdeal.τ).loc Cert.ModTabRefIdeal.main_arg0) = m ((c.tc : Thread Cert.ModTabRefIdeal.nD Cert.ModTabRefIdeal.τ).loc Cert.ModTabRefIdeal.main_arg0)
      ∧ r.2.mem ((c.tc : Thread Cert.ModTabRefIdeal.nD Cert.ModTabRefIdeal.τ).loc Cert.ModTabRefIdeal.main_arg1) = m ((c.tc : Thread Cert.ModTabRefIdeal.nD Cert.ModTabRefIdeal.τ).loc Cert.ModTabRefIdeal.main_arg1)
      ∧ r.2.mem ((c.tc : Thread Cert.ModTabRefIdeal.nD Cert.ModTabRefIdeal.τ).loc Cert.ModTabRefIdeal.main_arg2) = m ((c.tc : Thread Cert.ModTabRefIdeal.nD Cert.ModTabRefIdeal.τ).loc Cert.ModTabRefIdeal.main_arg2))
      ∧ r.2.sem = fun _ => 0)

def quiescent_NormR [hNormR : Cert.NormR.Facts] : Prop :=
  ∀ (m : (ℓ : Loc Cert.NormR.nD Cert.NormR.τ Cert.NormR.sig) → Buf (Elt Bits) ℓ) (g : Dev Cert.NormR.nD → PrngReg), Pre_NormR m →
    θ_run (Cert.NormR.defs (F := Bits)) (onTc (τ := Cert.NormR.τ) (Cert.NormR.main (F := Bits))) ⟨m, fun _ => 0, g⟩ (fun r => (∀ c : Dev Cert.NormR.nD,
      r.2.mem ((c.tc : Thread Cert.NormR.nD Cert.NormR.τ).loc Cert.NormR.main_arg0) = m ((c.tc : Thread Cert.NormR.nD Cert.NormR.τ).loc Cert.NormR.main_arg0)
      ∧ r.2.mem ((c.tc : Thread Cert.NormR.nD Cert.NormR.τ).loc Cert.NormR.main_arg1) = m ((c.tc : Thread Cert.NormR.nD Cert.NormR.τ).loc Cert.NormR.main_arg1)
      ∧ r.2.mem ((c.tc : Thread Cert.NormR.nD Cert.NormR.τ).loc Cert.NormR.main_arg2) = m ((c.tc : Thread Cert.NormR.nD Cert.NormR.τ).loc Cert.NormR.main_arg2)
      ∧ r.2.mem ((c.tc : Thread Cert.NormR.nD Cert.NormR.τ).loc Cert.NormR.main_arg3) = m ((c.tc : Thread Cert.NormR.nD Cert.NormR.τ).loc Cert.NormR.main_arg3))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3))
      ∧ r.2.sem = fun _ => 0)

def quiescent_NormRRefIdeal [hNormRRefIdeal : Cert.NormRRefIdeal.Facts] : Prop :=
  ∀ (m : (ℓ : Loc Cert.NormRRefIdeal.nD Cert.NormRRefIdeal.τ Cert.NormRRefIdeal.sig) → Buf (Elt Ideal) ℓ) (g : Dev Cert.NormRRefIdeal.nD → PrngReg), Pre_NormRRefIdeal m →
    θ_run (Cert.NormRRefIdeal.defs (F := Ideal)) (onTc (τ := Cert.NormRRefIdeal.τ) (Cert.NormRRefIdeal.main (F := Ideal))) ⟨m, fun _ => 0, g⟩ (fun r => (∀ c : Dev Cert.NormRRefIdeal.nD,
      r.2.mem ((c.tc : Thread Cert.NormRRefIdeal.nD Cert.NormRRefIdeal.τ).loc Cert.NormRRefIdeal.main_arg0) = m ((c.tc : Thread Cert.NormRRefIdeal.nD Cert.NormRRefIdeal.τ).loc Cert.NormRRefIdeal.main_arg0)
      ∧ r.2.mem ((c.tc : Thread Cert.NormRRefIdeal.nD Cert.NormRRefIdeal.τ).loc Cert.NormRRefIdeal.main_arg1) = m ((c.tc : Thread Cert.NormRRefIdeal.nD Cert.NormRRefIdeal.τ).loc Cert.NormRRefIdeal.main_arg1)
      ∧ r.2.mem ((c.tc : Thread Cert.NormRRefIdeal.nD Cert.NormRRefIdeal.τ).loc Cert.NormRRefIdeal.main_arg2) = m ((c.tc : Thread Cert.NormRRefIdeal.nD Cert.NormRRefIdeal.τ).loc Cert.NormRRefIdeal.main_arg2)
      ∧ r.2.mem ((c.tc : Thread Cert.NormRRefIdeal.nD Cert.NormRRefIdeal.τ).loc Cert.NormRRefIdeal.main_arg3) = m ((c.tc : Thread Cert.NormRRefIdeal.nD Cert.NormRRefIdeal.τ).loc Cert.NormRRefIdeal.main_arg3))
      ∧ r.2.sem = fun _ => 0)

def quiescent_FfnRes [hFfnRes : Cert.FfnRes.Facts] : Prop :=
  ∀ (m : (ℓ : Loc Cert.FfnRes.nD Cert.FfnRes.τ Cert.FfnRes.sig) → Buf (Elt Bits) ℓ) (g : Dev Cert.FfnRes.nD → PrngReg), Pre_FfnRes m →
    θ_run (Cert.FfnRes.defs (F := Bits)) (onTc (τ := Cert.FfnRes.τ) (Cert.FfnRes.main (F := Bits))) ⟨m, fun _ => 0, g⟩ (fun r => (∀ c : Dev Cert.FfnRes.nD,
      r.2.mem ((c.tc : Thread Cert.FfnRes.nD Cert.FfnRes.τ).loc Cert.FfnRes.main_arg0) = m ((c.tc : Thread Cert.FfnRes.nD Cert.FfnRes.τ).loc Cert.FfnRes.main_arg0)
      ∧ r.2.mem ((c.tc : Thread Cert.FfnRes.nD Cert.FfnRes.τ).loc Cert.FfnRes.main_arg1) = m ((c.tc : Thread Cert.FfnRes.nD Cert.FfnRes.τ).loc Cert.FfnRes.main_arg1)
      ∧ r.2.mem ((c.tc : Thread Cert.FfnRes.nD Cert.FfnRes.τ).loc Cert.FfnRes.main_arg2) = m ((c.tc : Thread Cert.FfnRes.nD Cert.FfnRes.τ).loc Cert.FfnRes.main_arg2)
      ∧ r.2.mem ((c.tc : Thread Cert.FfnRes.nD Cert.FfnRes.τ).loc Cert.FfnRes.main_arg3) = m ((c.tc : Thread Cert.FfnRes.nD Cert.FfnRes.τ).loc Cert.FfnRes.main_arg3)
      ∧ r.2.mem ((c.tc : Thread Cert.FfnRes.nD Cert.FfnRes.τ).loc Cert.FfnRes.main_arg4) = m ((c.tc : Thread Cert.FfnRes.nD Cert.FfnRes.τ).loc Cert.FfnRes.main_arg4)
      ∧ r.2.mem ((c.tc : Thread Cert.FfnRes.nD Cert.FfnRes.τ).loc Cert.FfnRes.main_arg5) = m ((c.tc : Thread Cert.FfnRes.nD Cert.FfnRes.τ).loc Cert.FfnRes.main_arg5))
      ∧ r.2.sem = fun _ => 0)

def quiescent_FfnResIdeal [hFfnResIdeal : Cert.FfnResIdeal.Facts] : Prop :=
  ∀ (m : (ℓ : Loc Cert.FfnResIdeal.nD Cert.FfnResIdeal.τ Cert.FfnResIdeal.sig) → Buf (Elt Ideal) ℓ) (g : Dev Cert.FfnResIdeal.nD → PrngReg), Pre_FfnResIdeal m →
    θ_run (Cert.FfnResIdeal.defs (F := Ideal)) (onTc (τ := Cert.FfnResIdeal.τ) (Cert.FfnResIdeal.main (F := Ideal))) ⟨m, fun _ => 0, g⟩ (fun r => (∀ c : Dev Cert.FfnResIdeal.nD,
      r.2.mem ((c.tc : Thread Cert.FfnResIdeal.nD Cert.FfnResIdeal.τ).loc Cert.FfnResIdeal.main_arg0) = m ((c.tc : Thread Cert.FfnResIdeal.nD Cert.FfnResIdeal.τ).loc Cert.FfnResIdeal.main_arg0)
      ∧ r.2.mem ((c.tc : Thread Cert.FfnResIdeal.nD Cert.FfnResIdeal.τ).loc Cert.FfnResIdeal.main_arg1) = m ((c.tc : Thread Cert.FfnResIdeal.nD Cert.FfnResIdeal.τ).loc Cert.FfnResIdeal.main_arg1)
      ∧ r.2.mem ((c.tc : Thread Cert.FfnResIdeal.nD Cert.FfnResIdeal.τ).loc Cert.FfnResIdeal.main_arg2) = m ((c.tc : Thread Cert.FfnResIdeal.nD Cert.FfnResIdeal.τ).loc Cert.FfnResIdeal.main_arg2)
      ∧ r.2.mem ((c.tc : Thread Cert.FfnResIdeal.nD Cert.FfnResIdeal.τ).loc Cert.FfnResIdeal.main_arg3) = m ((c.tc : Thread Cert.FfnResIdeal.nD Cert.FfnResIdeal.τ).loc Cert.FfnResIdeal.main_arg3)
      ∧ r.2.mem ((c.tc : Thread Cert.FfnResIdeal.nD Cert.FfnResIdeal.τ).loc Cert.FfnResIdeal.main_arg4) = m ((c.tc : Thread Cert.FfnResIdeal.nD Cert.FfnResIdeal.τ).loc Cert.FfnResIdeal.main_arg4)
      ∧ r.2.mem ((c.tc : Thread Cert.FfnResIdeal.nD Cert.FfnResIdeal.τ).loc Cert.FfnResIdeal.main_arg5) = m ((c.tc : Thread Cert.FfnResIdeal.nD Cert.FfnResIdeal.τ).loc Cert.FfnResIdeal.main_arg5))
      ∧ r.2.sem = fun _ => 0)

def quiescent_FfnResRefIdeal [hFfnResRefIdeal : Cert.FfnResRefIdeal.Facts] : Prop :=
  ∀ (m : (ℓ : Loc Cert.FfnResRefIdeal.nD Cert.FfnResRefIdeal.τ Cert.FfnResRefIdeal.sig) → Buf (Elt Ideal) ℓ) (g : Dev Cert.FfnResRefIdeal.nD → PrngReg), Pre_FfnResRefIdeal m →
    θ_run (Cert.FfnResRefIdeal.defs (F := Ideal)) (onTc (τ := Cert.FfnResRefIdeal.τ) (Cert.FfnResRefIdeal.main (F := Ideal))) ⟨m, fun _ => 0, g⟩ (fun r => (∀ c : Dev Cert.FfnResRefIdeal.nD,
      r.2.mem ((c.tc : Thread Cert.FfnResRefIdeal.nD Cert.FfnResRefIdeal.τ).loc Cert.FfnResRefIdeal.main_arg0) = m ((c.tc : Thread Cert.FfnResRefIdeal.nD Cert.FfnResRefIdeal.τ).loc Cert.FfnResRefIdeal.main_arg0)
      ∧ r.2.mem ((c.tc : Thread Cert.FfnResRefIdeal.nD Cert.FfnResRefIdeal.τ).loc Cert.FfnResRefIdeal.main_arg1) = m ((c.tc : Thread Cert.FfnResRefIdeal.nD Cert.FfnResRefIdeal.τ).loc Cert.FfnResRefIdeal.main_arg1)
      ∧ r.2.mem ((c.tc : Thread Cert.FfnResRefIdeal.nD Cert.FfnResRefIdeal.τ).loc Cert.FfnResRefIdeal.main_arg2) = m ((c.tc : Thread Cert.FfnResRefIdeal.nD Cert.FfnResRefIdeal.τ).loc Cert.FfnResRefIdeal.main_arg2)
      ∧ r.2.mem ((c.tc : Thread Cert.FfnResRefIdeal.nD Cert.FfnResRefIdeal.τ).loc Cert.FfnResRefIdeal.main_arg3) = m ((c.tc : Thread Cert.FfnResRefIdeal.nD Cert.FfnResRefIdeal.τ).loc Cert.FfnResRefIdeal.main_arg3)
      ∧ r.2.mem ((c.tc : Thread Cert.FfnResRefIdeal.nD Cert.FfnResRefIdeal.τ).loc Cert.FfnResRefIdeal.main_arg4) = m ((c.tc : Thread Cert.FfnResRefIdeal.nD Cert.FfnResRefIdeal.τ).loc Cert.FfnResRefIdeal.main_arg4)
      ∧ r.2.mem ((c.tc : Thread Cert.FfnResRefIdeal.nD Cert.FfnResRefIdeal.τ).loc Cert.FfnResRefIdeal.main_arg5) = m ((c.tc : Thread Cert.FfnResRefIdeal.nD Cert.FfnResRefIdeal.τ).loc Cert.FfnResRefIdeal.main_arg5))
      ∧ r.2.sem = fun _ => 0)

def quiescent_ModLast [hModLast : Cert.ModLast.Facts] : Prop :=
  ∀ (m : (ℓ : Loc Cert.ModLast.nD Cert.ModLast.τ Cert.ModLast.sig) → Buf (Elt Bits) ℓ) (g : Dev Cert.ModLast.nD → PrngReg), Pre_ModLast m →
    θ_run (Cert.ModLast.defs (F := Bits)) (onTc (τ := Cert.ModLast.τ) (Cert.ModLast.main (F := Bits))) ⟨m, fun _ => 0, g⟩ (fun r => (∀ c : Dev Cert.ModLast.nD,
      r.2.mem ((c.tc : Thread Cert.ModLast.nD Cert.ModLast.τ).loc Cert.ModLast.main_arg0) = m ((c.tc : Thread Cert.ModLast.nD Cert.ModLast.τ).loc Cert.ModLast.main_arg0)
      ∧ r.2.mem ((c.tc : Thread Cert.ModLast.nD Cert.ModLast.τ).loc Cert.ModLast.main_arg1) = m ((c.tc : Thread Cert.ModLast.nD Cert.ModLast.τ).loc Cert.ModLast.main_arg1)
      ∧ r.2.mem ((c.tc : Thread Cert.ModLast.nD Cert.ModLast.τ).loc Cert.ModLast.main_arg2) = m ((c.tc : Thread Cert.ModLast.nD Cert.ModLast.τ).loc Cert.ModLast.main_arg2))
      ∧ r.2.sem = fun _ => 0)

def quiescent_ModLastIdeal [hModLastIdeal : Cert.ModLastIdeal.Facts] : Prop :=
  ∀ (m : (ℓ : Loc Cert.ModLastIdeal.nD Cert.ModLastIdeal.τ Cert.ModLastIdeal.sig) → Buf (Elt Ideal) ℓ) (g : Dev Cert.ModLastIdeal.nD → PrngReg), Pre_ModLastIdeal m →
    θ_run (Cert.ModLastIdeal.defs (F := Ideal)) (onTc (τ := Cert.ModLastIdeal.τ) (Cert.ModLastIdeal.main (F := Ideal))) ⟨m, fun _ => 0, g⟩ (fun r => (∀ c : Dev Cert.ModLastIdeal.nD,
      r.2.mem ((c.tc : Thread Cert.ModLastIdeal.nD Cert.ModLastIdeal.τ).loc Cert.ModLastIdeal.main_arg0) = m ((c.tc : Thread Cert.ModLastIdeal.nD Cert.ModLastIdeal.τ).loc Cert.ModLastIdeal.main_arg0)
      ∧ r.2.mem ((c.tc : Thread Cert.ModLastIdeal.nD Cert.ModLastIdeal.τ).loc Cert.ModLastIdeal.main_arg1) = m ((c.tc : Thread Cert.ModLastIdeal.nD Cert.ModLastIdeal.τ).loc Cert.ModLastIdeal.main_arg1)
      ∧ r.2.mem ((c.tc : Thread Cert.ModLastIdeal.nD Cert.ModLastIdeal.τ).loc Cert.ModLastIdeal.main_arg2) = m ((c.tc : Thread Cert.ModLastIdeal.nD Cert.ModLastIdeal.τ).loc Cert.ModLastIdeal.main_arg2))
      ∧ r.2.sem = fun _ => 0)

def quiescent_ModLastRefIdeal [hModLastRefIdeal : Cert.ModLastRefIdeal.Facts] : Prop :=
  ∀ (m : (ℓ : Loc Cert.ModLastRefIdeal.nD Cert.ModLastRefIdeal.τ Cert.ModLastRefIdeal.sig) → Buf (Elt Ideal) ℓ) (g : Dev Cert.ModLastRefIdeal.nD → PrngReg), Pre_ModLastRefIdeal m →
    θ_run (Cert.ModLastRefIdeal.defs (F := Ideal)) (onTc (τ := Cert.ModLastRefIdeal.τ) (Cert.ModLastRefIdeal.main (F := Ideal))) ⟨m, fun _ => 0, g⟩ (fun r => (∀ c : Dev Cert.ModLastRefIdeal.nD,
      r.2.mem ((c.tc : Thread Cert.ModLastRefIdeal.nD Cert.ModLastRefIdeal.τ).loc Cert.ModLastRefIdeal.main_arg0) = m ((c.tc : Thread Cert.ModLastRefIdeal.nD Cert.ModLastRefIdeal.τ).loc Cert.ModLastRefIdeal.main_arg0)
      ∧ r.2.mem ((c.tc : Thread Cert.ModLastRefIdeal.nD Cert.ModLastRefIdeal.τ).loc Cert.ModLastRefIdeal.main_arg1) = m ((c.tc : Thread Cert.ModLastRefIdeal.nD Cert.ModLastRefIdeal.τ).loc Cert.ModLastRefIdeal.main_arg1)
      ∧ r.2.mem ((c.tc : Thread Cert.ModLastRefIdeal.nD Cert.ModLastRefIdeal.τ).loc Cert.ModLastRefIdeal.main_arg2) = m ((c.tc : Thread Cert.ModLastRefIdeal.nD Cert.ModLastRefIdeal.τ).loc Cert.ModLastRefIdeal.main_arg2))
      ∧ r.2.sem = fun _ => 0)

def quiescent_NormLast [hNormLast : Cert.NormLast.Facts] : Prop :=
  ∀ (m : (ℓ : Loc Cert.NormLast.nD Cert.NormLast.τ Cert.NormLast.sig) → Buf (Elt Bits) ℓ) (g : Dev Cert.NormLast.nD → PrngReg), Pre_NormLast m →
    θ_run (Cert.NormLast.defs (F := Bits)) (onTc (τ := Cert.NormLast.τ) (Cert.NormLast.main (F := Bits))) ⟨m, fun _ => 0, g⟩ (fun r => (∀ c : Dev Cert.NormLast.nD,
      r.2.mem ((c.tc : Thread Cert.NormLast.nD Cert.NormLast.τ).loc Cert.NormLast.main_arg0) = m ((c.tc : Thread Cert.NormLast.nD Cert.NormLast.τ).loc Cert.NormLast.main_arg0)
      ∧ r.2.mem ((c.tc : Thread Cert.NormLast.nD Cert.NormLast.τ).loc Cert.NormLast.main_arg1) = m ((c.tc : Thread Cert.NormLast.nD Cert.NormLast.τ).loc Cert.NormLast.main_arg1)
      ∧ r.2.mem ((c.tc : Thread Cert.NormLast.nD Cert.NormLast.τ).loc Cert.NormLast.main_arg2) = m ((c.tc : Thread Cert.NormLast.nD Cert.NormLast.τ).loc Cert.NormLast.main_arg2)
      ∧ r.2.mem ((c.tc : Thread Cert.NormLast.nD Cert.NormLast.τ).loc Cert.NormLast.main_arg3) = m ((c.tc : Thread Cert.NormLast.nD Cert.NormLast.τ).loc Cert.NormLast.main_arg3))
      ∧ r.2.sem = fun _ => 0)

def quiescent_NormLastIdeal [hNormLastIdeal : Cert.NormLastIdeal.Facts] : Prop :=
  ∀ (m : (ℓ : Loc Cert.NormLastIdeal.nD Cert.NormLastIdeal.τ Cert.NormLastIdeal.sig) → Buf (Elt Ideal) ℓ) (g : Dev Cert.NormLastIdeal.nD → PrngReg), Pre_NormLastIdeal m →
    θ_run (Cert.NormLastIdeal.defs (F := Ideal)) (onTc (τ := Cert.NormLastIdeal.τ) (Cert.NormLastIdeal.main (F := Ideal))) ⟨m, fun _ => 0, g⟩ (fun r => (∀ c : Dev Cert.NormLastIdeal.nD,
      r.2.mem ((c.tc : Thread Cert.NormLastIdeal.nD Cert.NormLastIdeal.τ).loc Cert.NormLastIdeal.main_arg0) = m ((c.tc : Thread Cert.NormLastIdeal.nD Cert.NormLastIdeal.τ).loc Cert.NormLastIdeal.main_arg0)
      ∧ r.2.mem ((c.tc : Thread Cert.NormLastIdeal.nD Cert.NormLastIdeal.τ).loc Cert.NormLastIdeal.main_arg1) = m ((c.tc : Thread Cert.NormLastIdeal.nD Cert.NormLastIdeal.τ).loc Cert.NormLastIdeal.main_arg1)
      ∧ r.2.mem ((c.tc : Thread Cert.NormLastIdeal.nD Cert.NormLastIdeal.τ).loc Cert.NormLastIdeal.main_arg2) = m ((c.tc : Thread Cert.NormLastIdeal.nD Cert.NormLastIdeal.τ).loc Cert.NormLastIdeal.main_arg2)
      ∧ r.2.mem ((c.tc : Thread Cert.NormLastIdeal.nD Cert.NormLastIdeal.τ).loc Cert.NormLastIdeal.main_arg3) = m ((c.tc : Thread Cert.NormLastIdeal.nD Cert.NormLastIdeal.τ).loc Cert.NormLastIdeal.main_arg3))
      ∧ r.2.sem = fun _ => 0)

def quiescent_NormLastRefIdeal [hNormLastRefIdeal : Cert.NormLastRefIdeal.Facts] : Prop :=
  ∀ (m : (ℓ : Loc Cert.NormLastRefIdeal.nD Cert.NormLastRefIdeal.τ Cert.NormLastRefIdeal.sig) → Buf (Elt Ideal) ℓ) (g : Dev Cert.NormLastRefIdeal.nD → PrngReg), Pre_NormLastRefIdeal m →
    θ_run (Cert.NormLastRefIdeal.defs (F := Ideal)) (onTc (τ := Cert.NormLastRefIdeal.τ) (Cert.NormLastRefIdeal.main (F := Ideal))) ⟨m, fun _ => 0, g⟩ (fun r => (∀ c : Dev Cert.NormLastRefIdeal.nD,
      r.2.mem ((c.tc : Thread Cert.NormLastRefIdeal.nD Cert.NormLastRefIdeal.τ).loc Cert.NormLastRefIdeal.main_arg0) = m ((c.tc : Thread Cert.NormLastRefIdeal.nD Cert.NormLastRefIdeal.τ).loc Cert.NormLastRefIdeal.main_arg0)
      ∧ r.2.mem ((c.tc : Thread Cert.NormLastRefIdeal.nD Cert.NormLastRefIdeal.τ).loc Cert.NormLastRefIdeal.main_arg1) = m ((c.tc : Thread Cert.NormLastRefIdeal.nD Cert.NormLastRefIdeal.τ).loc Cert.NormLastRefIdeal.main_arg1)
      ∧ r.2.mem ((c.tc : Thread Cert.NormLastRefIdeal.nD Cert.NormLastRefIdeal.τ).loc Cert.NormLastRefIdeal.main_arg2) = m ((c.tc : Thread Cert.NormLastRefIdeal.nD Cert.NormLastRefIdeal.τ).loc Cert.NormLastRefIdeal.main_arg2)
      ∧ r.2.mem ((c.tc : Thread Cert.NormLastRefIdeal.nD Cert.NormLastRefIdeal.τ).loc Cert.NormLastRefIdeal.main_arg3) = m ((c.tc : Thread Cert.NormLastRefIdeal.nD Cert.NormLastRefIdeal.τ).loc Cert.NormLastRefIdeal.main_arg3))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4))
      ∧ r.2.sem = fun _ => 0)

def quiescent_Moe [hMoe : Cert.Moe.Facts] [hPre_moe_pre : Cert.Pre_moe_pre.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_moe_pre : Cert.Pre_moe_pre.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_moe_pre [hMoeRefIdeal : Cert.MoeRefIdeal.Facts] [hPre_moe_pre : Cert.Pre_moe_pre.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_pre m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeLast [hMoeLast : Cert.MoeLast.Facts] [hPre_moe_last_pre : Cert.Pre_moe_last_pre.Facts] : Prop :=
  ∀ (m : (ℓ : Loc Cert.MoeLast.nD Cert.MoeLast.τ Cert.MoeLast.sig) → Buf (Elt Bits) ℓ) (g : Dev Cert.MoeLast.nD → PrngReg), Pre_MoeLast m →
    θ_run (Cert.MoeLast.defs (F := Bits)) (onTc (τ := Cert.MoeLast.τ) (Cert.MoeLast.main (F := Bits))) ⟨m, fun _ => 0, g⟩ (fun r => (∀ c : Dev Cert.MoeLast.nD,
      r.2.mem ((c.tc : Thread Cert.MoeLast.nD Cert.MoeLast.τ).loc Cert.MoeLast.main_arg0) = m ((c.tc : Thread Cert.MoeLast.nD Cert.MoeLast.τ).loc Cert.MoeLast.main_arg0)
      ∧ r.2.mem ((c.tc : Thread Cert.MoeLast.nD Cert.MoeLast.τ).loc Cert.MoeLast.main_arg1) = m ((c.tc : Thread Cert.MoeLast.nD Cert.MoeLast.τ).loc Cert.MoeLast.main_arg1)
      ∧ r.2.mem ((c.tc : Thread Cert.MoeLast.nD Cert.MoeLast.τ).loc Cert.MoeLast.main_arg2) = m ((c.tc : Thread Cert.MoeLast.nD Cert.MoeLast.τ).loc Cert.MoeLast.main_arg2)
      ∧ r.2.mem ((c.tc : Thread Cert.MoeLast.nD Cert.MoeLast.τ).loc Cert.MoeLast.main_arg3) = m ((c.tc : Thread Cert.MoeLast.nD Cert.MoeLast.τ).loc Cert.MoeLast.main_arg3)
      ∧ r.2.mem ((c.tc : Thread Cert.MoeLast.nD Cert.MoeLast.τ).loc Cert.MoeLast.main_arg4) = m ((c.tc : Thread Cert.MoeLast.nD Cert.MoeLast.τ).loc Cert.MoeLast.main_arg4)
      ∧ r.2.mem ((c.tc : Thread Cert.MoeLast.nD Cert.MoeLast.τ).loc Cert.MoeLast.main_arg5) = m ((c.tc : Thread Cert.MoeLast.nD Cert.MoeLast.τ).loc Cert.MoeLast.main_arg5))
      ∧ r.2.sem = fun _ => 0)

def quiescent_MoeLastIdeal [hMoeLastIdeal : Cert.MoeLastIdeal.Facts] [hPre_moe_last_pre : Cert.Pre_moe_last_pre.Facts] : Prop :=
  ∀ (m : (ℓ : Loc Cert.MoeLastIdeal.nD Cert.MoeLastIdeal.τ Cert.MoeLastIdeal.sig) → Buf (Elt Ideal) ℓ) (g : Dev Cert.MoeLastIdeal.nD → PrngReg), Pre_MoeLastIdeal m →
    θ_run (Cert.MoeLastIdeal.defs (F := Ideal)) (onTc (τ := Cert.MoeLastIdeal.τ) (Cert.MoeLastIdeal.main (F := Ideal))) ⟨m, fun _ => 0, g⟩ (fun r => (∀ c : Dev Cert.MoeLastIdeal.nD,
      r.2.mem ((c.tc : Thread Cert.MoeLastIdeal.nD Cert.MoeLastIdeal.τ).loc Cert.MoeLastIdeal.main_arg0) = m ((c.tc : Thread Cert.MoeLastIdeal.nD Cert.MoeLastIdeal.τ).loc Cert.MoeLastIdeal.main_arg0)
      ∧ r.2.mem ((c.tc : Thread Cert.MoeLastIdeal.nD Cert.MoeLastIdeal.τ).loc Cert.MoeLastIdeal.main_arg1) = m ((c.tc : Thread Cert.MoeLastIdeal.nD Cert.MoeLastIdeal.τ).loc Cert.MoeLastIdeal.main_arg1)
      ∧ r.2.mem ((c.tc : Thread Cert.MoeLastIdeal.nD Cert.MoeLastIdeal.τ).loc Cert.MoeLastIdeal.main_arg2) = m ((c.tc : Thread Cert.MoeLastIdeal.nD Cert.MoeLastIdeal.τ).loc Cert.MoeLastIdeal.main_arg2)
      ∧ r.2.mem ((c.tc : Thread Cert.MoeLastIdeal.nD Cert.MoeLastIdeal.τ).loc Cert.MoeLastIdeal.main_arg3) = m ((c.tc : Thread Cert.MoeLastIdeal.nD Cert.MoeLastIdeal.τ).loc Cert.MoeLastIdeal.main_arg3)
      ∧ r.2.mem ((c.tc : Thread Cert.MoeLastIdeal.nD Cert.MoeLastIdeal.τ).loc Cert.MoeLastIdeal.main_arg4) = m ((c.tc : Thread Cert.MoeLastIdeal.nD Cert.MoeLastIdeal.τ).loc Cert.MoeLastIdeal.main_arg4)
      ∧ r.2.mem ((c.tc : Thread Cert.MoeLastIdeal.nD Cert.MoeLastIdeal.τ).loc Cert.MoeLastIdeal.main_arg5) = m ((c.tc : Thread Cert.MoeLastIdeal.nD Cert.MoeLastIdeal.τ).loc Cert.MoeLastIdeal.main_arg5))
      ∧ r.2.sem = fun _ => 0)

def quiescent_MoeLastRefIdeal [hMoeLastRefIdeal : Cert.MoeLastRefIdeal.Facts] : Prop :=
  ∀ (m : (ℓ : Loc Cert.MoeLastRefIdeal.nD Cert.MoeLastRefIdeal.τ Cert.MoeLastRefIdeal.sig) → Buf (Elt Ideal) ℓ) (g : Dev Cert.MoeLastRefIdeal.nD → PrngReg), Pre_MoeLastRefIdeal m →
    θ_run (Cert.MoeLastRefIdeal.defs (F := Ideal)) (onTc (τ := Cert.MoeLastRefIdeal.τ) (Cert.MoeLastRefIdeal.main (F := Ideal))) ⟨m, fun _ => 0, g⟩ (fun r => (∀ c : Dev Cert.MoeLastRefIdeal.nD,
      r.2.mem ((c.tc : Thread Cert.MoeLastRefIdeal.nD Cert.MoeLastRefIdeal.τ).loc Cert.MoeLastRefIdeal.main_arg0) = m ((c.tc : Thread Cert.MoeLastRefIdeal.nD Cert.MoeLastRefIdeal.τ).loc Cert.MoeLastRefIdeal.main_arg0)
      ∧ r.2.mem ((c.tc : Thread Cert.MoeLastRefIdeal.nD Cert.MoeLastRefIdeal.τ).loc Cert.MoeLastRefIdeal.main_arg1) = m ((c.tc : Thread Cert.MoeLastRefIdeal.nD Cert.MoeLastRefIdeal.τ).loc Cert.MoeLastRefIdeal.main_arg1)
      ∧ r.2.mem ((c.tc : Thread Cert.MoeLastRefIdeal.nD Cert.MoeLastRefIdeal.τ).loc Cert.MoeLastRefIdeal.main_arg2) = m ((c.tc : Thread Cert.MoeLastRefIdeal.nD Cert.MoeLastRefIdeal.τ).loc Cert.MoeLastRefIdeal.main_arg2)
      ∧ r.2.mem ((c.tc : Thread Cert.MoeLastRefIdeal.nD Cert.MoeLastRefIdeal.τ).loc Cert.MoeLastRefIdeal.main_arg3) = m ((c.tc : Thread Cert.MoeLastRefIdeal.nD Cert.MoeLastRefIdeal.τ).loc Cert.MoeLastRefIdeal.main_arg3)
      ∧ r.2.mem ((c.tc : Thread Cert.MoeLastRefIdeal.nD Cert.MoeLastRefIdeal.τ).loc Cert.MoeLastRefIdeal.main_arg4) = m ((c.tc : Thread Cert.MoeLastRefIdeal.nD Cert.MoeLastRefIdeal.τ).loc Cert.MoeLastRefIdeal.main_arg4)
      ∧ r.2.mem ((c.tc : Thread Cert.MoeLastRefIdeal.nD Cert.MoeLastRefIdeal.τ).loc Cert.MoeLastRefIdeal.main_arg5) = m ((c.tc : Thread Cert.MoeLastRefIdeal.nD Cert.MoeLastRefIdeal.τ).loc Cert.MoeLastRefIdeal.main_arg5))
      ∧ r.2.sem = fun _ => 0)

def quiescent_MoeLastRefIdeal_pre_moe_last_pre [hMoeLastRefIdeal : Cert.MoeLastRefIdeal.Facts] [hPre_moe_last_pre : Cert.Pre_moe_last_pre.Facts] : Prop :=
  ∀ (m : (ℓ : Loc Cert.MoeLastRefIdeal.nD Cert.MoeLastRefIdeal.τ Cert.MoeLastRefIdeal.sig) → Buf (Elt Ideal) ℓ) (g : Dev Cert.MoeLastRefIdeal.nD → PrngReg), Pre_MoeLastRefIdeal_moe_last_pre m →
    θ_run (Cert.MoeLastRefIdeal.defs (F := Ideal)) (onTc (τ := Cert.MoeLastRefIdeal.τ) (Cert.MoeLastRefIdeal.main (F := Ideal))) ⟨m, fun _ => 0, g⟩ (fun r => (∀ c : Dev Cert.MoeLastRefIdeal.nD,
      r.2.mem ((c.tc : Thread Cert.MoeLastRefIdeal.nD Cert.MoeLastRefIdeal.τ).loc Cert.MoeLastRefIdeal.main_arg0) = m ((c.tc : Thread Cert.MoeLastRefIdeal.nD Cert.MoeLastRefIdeal.τ).loc Cert.MoeLastRefIdeal.main_arg0)
      ∧ r.2.mem ((c.tc : Thread Cert.MoeLastRefIdeal.nD Cert.MoeLastRefIdeal.τ).loc Cert.MoeLastRefIdeal.main_arg1) = m ((c.tc : Thread Cert.MoeLastRefIdeal.nD Cert.MoeLastRefIdeal.τ).loc Cert.MoeLastRefIdeal.main_arg1)
      ∧ r.2.mem ((c.tc : Thread Cert.MoeLastRefIdeal.nD Cert.MoeLastRefIdeal.τ).loc Cert.MoeLastRefIdeal.main_arg2) = m ((c.tc : Thread Cert.MoeLastRefIdeal.nD Cert.MoeLastRefIdeal.τ).loc Cert.MoeLastRefIdeal.main_arg2)
      ∧ r.2.mem ((c.tc : Thread Cert.MoeLastRefIdeal.nD Cert.MoeLastRefIdeal.τ).loc Cert.MoeLastRefIdeal.main_arg3) = m ((c.tc : Thread Cert.MoeLastRefIdeal.nD Cert.MoeLastRefIdeal.τ).loc Cert.MoeLastRefIdeal.main_arg3)
      ∧ r.2.mem ((c.tc : Thread Cert.MoeLastRefIdeal.nD Cert.MoeLastRefIdeal.τ).loc Cert.MoeLastRefIdeal.main_arg4) = m ((c.tc : Thread Cert.MoeLastRefIdeal.nD Cert.MoeLastRefIdeal.τ).loc Cert.MoeLastRefIdeal.main_arg4)
      ∧ r.2.mem ((c.tc : Thread Cert.MoeLastRefIdeal.nD Cert.MoeLastRefIdeal.τ).loc Cert.MoeLastRefIdeal.main_arg5) = m ((c.tc : Thread Cert.MoeLastRefIdeal.nD Cert.MoeLastRefIdeal.τ).loc Cert.MoeLastRefIdeal.main_arg5))
      ∧ r.2.sem = fun _ => 0)

def preserves_Attn_AttnIdeal : Prop :=
  True

def algebraic_AttnIdeal_AttnRefIdeal_pre_attn_pre [hAttnIdeal : Cert.AttnIdeal.Facts] [hAttnRefIdeal : Cert.AttnRefIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v30) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)) →
    ∃ (v0 : (c : Dev Cert.ProjInIdeal.nD) → Buf (Elt Ideal) ((c.tc : Thread Cert.ProjInIdeal.nD Cert.ProjInIdeal.τ).loc Cert.ProjInIdeal.main_v19)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v19) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v14) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2))

def preserves_ProjRes_ProjResIdeal : Prop :=
  True

def algebraic_ProjResIdeal_ProjResRefIdeal [hProjResIdeal : Cert.ProjResIdeal.Facts] [hProjResRefIdeal : Cert.ProjResRefIdeal.Facts] : Prop :=
  ∀ (m : (ℓ : Loc Cert.ProjResIdeal.nD Cert.ProjResIdeal.τ Cert.ProjResIdeal.sig) → Buf (Elt Ideal) ℓ) (g : Dev Cert.ProjResIdeal.nD → PrngReg)
    (m' : (ℓ : Loc Cert.ProjResRefIdeal.nD Cert.ProjResRefIdeal.τ Cert.ProjResRefIdeal.sig) → Buf (Elt Ideal) ℓ) (g' : Dev Cert.ProjResRefIdeal.nD → PrngReg), Pre_ProjResIdeal m →
    (∀ c : Dev Cert.ProjResIdeal.nD,
      m' ((c.tc : Thread Cert.ProjResRefIdeal.nD Cert.ProjResRefIdeal.τ).loc Cert.ProjResRefIdeal.main_arg0) = m ((c.tc : Thread Cert.ProjResIdeal.nD Cert.ProjResIdeal.τ).loc Cert.ProjResIdeal.main_arg0)
      ∧ m' ((c.tc : Thread Cert.ProjResRefIdeal.nD Cert.ProjResRefIdeal.τ).loc Cert.ProjResRefIdeal.main_arg1) = m ((c.tc : Thread Cert.ProjResIdeal.nD Cert.ProjResIdeal.τ).loc Cert.ProjResIdeal.main_arg1)
      ∧ m' ((c.tc : Thread Cert.ProjResRefIdeal.nD Cert.ProjResRefIdeal.τ).loc Cert.ProjResRefIdeal.main_arg2) = m ((c.tc : Thread Cert.ProjResIdeal.nD Cert.ProjResIdeal.τ).loc Cert.ProjResIdeal.main_arg2)
      ∧ m' ((c.tc : Thread Cert.ProjResRefIdeal.nD Cert.ProjResRefIdeal.τ).loc Cert.ProjResRefIdeal.main_arg3) = m ((c.tc : Thread Cert.ProjResIdeal.nD Cert.ProjResIdeal.τ).loc Cert.ProjResIdeal.main_arg3)) →
    ∃ (v0 : (c : Dev Cert.ProjResIdeal.nD) → Buf (Elt Ideal) ((c.tc : Thread Cert.ProjResIdeal.nD Cert.ProjResIdeal.τ).loc Cert.ProjResIdeal.main_v1)),
      θ_run (Cert.ProjResIdeal.defs (F := Ideal)) (onTc (τ := Cert.ProjResIdeal.τ) (Cert.ProjResIdeal.main (F := Ideal))) ⟨m, fun _ => 0, g⟩ (fun r => ∀ c : Dev Cert.ProjResIdeal.nD,
          r.2.mem ((c.tc : Thread Cert.ProjResIdeal.nD Cert.ProjResIdeal.τ).loc Cert.ProjResIdeal.main_v1) = v0 c
          ∧ r.2.mem ((c.tc : Thread Cert.ProjResIdeal.nD Cert.ProjResIdeal.τ).loc Cert.ProjResIdeal.main_arg0) = m ((c.tc : Thread Cert.ProjResIdeal.nD Cert.ProjResIdeal.τ).loc Cert.ProjResIdeal.main_arg0)
          ∧ r.2.mem ((c.tc : Thread Cert.ProjResIdeal.nD Cert.ProjResIdeal.τ).loc Cert.ProjResIdeal.main_arg1) = m ((c.tc : Thread Cert.ProjResIdeal.nD Cert.ProjResIdeal.τ).loc Cert.ProjResIdeal.main_arg1)
          ∧ r.2.mem ((c.tc : Thread Cert.ProjResIdeal.nD Cert.ProjResIdeal.τ).loc Cert.ProjResIdeal.main_arg2) = m ((c.tc : Thread Cert.ProjResIdeal.nD Cert.ProjResIdeal.τ).loc Cert.ProjResIdeal.main_arg2)
          ∧ r.2.mem ((c.tc : Thread Cert.ProjResIdeal.nD Cert.ProjResIdeal.τ).loc Cert.ProjResIdeal.main_arg3) = m ((c.tc : Thread Cert.ProjResIdeal.nD Cert.ProjResIdeal.τ).loc Cert.ProjResIdeal.main_arg3))
      ∧ θ_run (Cert.ProjResRefIdeal.defs (F := Ideal)) (onTc (τ := Cert.ProjResRefIdeal.τ) (Cert.ProjResRefIdeal.main (F := Ideal))) ⟨m', fun _ => 0, g'⟩ (fun r => ∀ c : Dev Cert.ProjResRefIdeal.nD,
          r.2.mem ((c.tc : Thread Cert.ProjResRefIdeal.nD Cert.ProjResRefIdeal.τ).loc Cert.ProjResRefIdeal.main_v32) = v0 c
          ∧ r.2.mem ((c.tc : Thread Cert.ProjResRefIdeal.nD Cert.ProjResRefIdeal.τ).loc Cert.ProjResRefIdeal.main_arg0) = m' ((c.tc : Thread Cert.ProjResRefIdeal.nD Cert.ProjResRefIdeal.τ).loc Cert.ProjResRefIdeal.main_arg0)
          ∧ r.2.mem ((c.tc : Thread Cert.ProjResRefIdeal.nD Cert.ProjResRefIdeal.τ).loc Cert.ProjResRefIdeal.main_arg1) = m' ((c.tc : Thread Cert.ProjResRefIdeal.nD Cert.ProjResRefIdeal.τ).loc Cert.ProjResRefIdeal.main_arg1)
          ∧ r.2.mem ((c.tc : Thread Cert.ProjResRefIdeal.nD Cert.ProjResRefIdeal.τ).loc Cert.ProjResRefIdeal.main_arg2) = m' ((c.tc : Thread Cert.ProjResRefIdeal.nD Cert.ProjResRefIdeal.τ).loc Cert.ProjResRefIdeal.main_arg2)
          ∧ r.2.mem ((c.tc : Thread Cert.ProjResRefIdeal.nD Cert.ProjResRefIdeal.τ).loc Cert.ProjResRefIdeal.main_arg3) = m' ((c.tc : Thread Cert.ProjResRefIdeal.nD Cert.ProjResRefIdeal.τ).loc Cert.ProjResRefIdeal.main_arg3))

def preserves_ProjQ_ProjQIdeal : Prop :=
  IdealRules.named_const.Statement Cert.ProjQIdeal.κ "inv_sqrt_head" .f32 0x3DB504F3#32 (((Real.sqrt 128)⁻¹ : ℝ) : EReal)

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)
      ∧ m' ((c.tc : Thread Cert.ProjQRefIdeal.nD Cert.ProjQRefIdeal.τ).loc Cert.ProjQRefIdeal.main_arg2) = m ((c.tc : Thread Cert.ProjQIdeal.nD Cert.ProjQIdeal.τ).loc Cert.ProjQIdeal.main_arg2)) →
    ∃ (v0 : (c : Dev Cert.ProjQIdeal.nD) → Buf (Elt Ideal) ((c.tc : Thread Cert.ProjQIdeal.nD Cert.ProjQIdeal.τ).loc Cert.ProjQIdeal.main_v43)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v43) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v65) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1)
          ∧ r.2.mem ((c.tc : Thread Cert.ProjQRefIdeal.nD Cert.ProjQRefIdeal.τ).loc Cert.ProjQRefIdeal.main_arg2) = m' ((c.tc : Thread Cert.ProjQRefIdeal.nD Cert.ProjQRefIdeal.τ).loc Cert.ProjQRefIdeal.main_arg2))

def preserves_ProjK_ProjKIdeal : Prop :=
  True

def algebraic_ProjKIdeal_ProjKRefIdeal [hProjKIdeal : Cert.ProjKIdeal.Facts] [hProjKRefIdeal : Cert.ProjKRefIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjKRefIdeal.nD Cert.ProjKRefIdeal.τ Cert.ProjKRefIdeal.sig) → Buf (Elt Ideal) ℓ) (g' : Dev Cert.ProjKRefIdeal.nD → PrngReg), Pre_ProjKIdeal m →
    (∀ c : Dev Cert.ProjKIdeal.nD,
      m' ((c.tc : Thread Cert.ProjKRefIdeal.nD Cert.ProjKRefIdeal.τ).loc Cert.ProjKRefIdeal.main_arg0) = m ((c.tc : Thread Cert.ProjKIdeal.nD Cert.ProjKIdeal.τ).loc Cert.ProjKIdeal.main_arg0)
      ∧ m' ((c.tc : Thread Cert.ProjKRefIdeal.nD Cert.ProjKRefIdeal.τ).loc Cert.ProjKRefIdeal.main_arg1) = m ((c.tc : Thread Cert.ProjKIdeal.nD Cert.ProjKIdeal.τ).loc Cert.ProjKIdeal.main_arg1)
      ∧ m' ((c.tc : Thread Cert.ProjKRefIdeal.nD Cert.ProjKRefIdeal.τ).loc Cert.ProjKRefIdeal.main_arg2) = m ((c.tc : Thread Cert.ProjKIdeal.nD Cert.ProjKIdeal.τ).loc Cert.ProjKIdeal.main_arg2)) →
    ∃ (v0 : (c : Dev Cert.ProjKIdeal.nD) → Buf (Elt Ideal) ((c.tc : Thread Cert.ProjKIdeal.nD Cert.ProjKIdeal.τ).loc Cert.ProjKIdeal.main_v43)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v43) = v0 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
          ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2))
      ∧ θ_run (Cert.ProjKRefIdeal.defs (F := Ideal)) (onTc (τ := Cert.ProjKRefIdeal.τ) (Cert.ProjKRefIdeal.main (F := Ideal))) ⟨m', fun _ => 0, g'⟩ (fun r => ∀ c : Dev Cert.ProjKRefIdeal.nD,
          r.2.mem ((c.tc : Thread Cert.ProjKRefIdeal.nD Cert.ProjKRefIdeal.τ).loc Cert.ProjKRefIdeal.main_v66) = v0 c
          ∧ r.2.mem ((c.tc : Thread Cert.ProjKRefIdeal.nD Cert.ProjKRefIdeal.τ).loc Cert.ProjKRefIdeal.main_arg0) = m' ((c.tc : Thread Cert.ProjKRefIdeal.nD Cert.ProjKRefIdeal.τ).loc Cert.ProjKRefIdeal.main_arg0)
          ∧ r.2.mem ((c.tc : Thread Cert.ProjKRefIdeal.nD Cert.ProjKRefIdeal.τ).loc Cert.ProjKRefIdeal.main_arg1) = m' ((c.tc : Thread Cert.ProjKRefIdeal.nD Cert.ProjKRefIdeal.τ).loc Cert.ProjKRefIdeal.main_arg1)
          ∧ r.2.mem ((c.tc : Thread Cert.ProjKRefIdeal.nD Cert.ProjKRefIdeal.τ).loc Cert.ProjKRefIdeal.main_arg2) = m' ((c.tc : Thread Cert.ProjKRefIdeal.nD Cert.ProjKRefIdeal.τ).loc Cert.ProjKRefIdeal.main_arg2))

def preserves_ProjV_ProjVIdeal : Prop :=
  True

def algebraic_ProjVIdeal_ProjVRefIdeal [hProjVIdeal : Cert.ProjVIdeal.Facts] [hProjVRefIdeal : Cert.ProjVRefIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVRefIdeal.nD Cert.ProjVRefIdeal.τ Cert.ProjVRefIdeal.sig) → Buf (Elt Ideal) ℓ) (g' : Dev Cert.ProjVRefIdeal.nD → PrngReg), Pre_ProjVIdeal m →
    (∀ c : Dev Cert.ProjVIdeal.nD,
      m' ((c.tc : Thread Cert.ProjVRefIdeal.nD Cert.ProjVRefIdeal.τ).loc Cert.ProjVRefIdeal.main_arg0) = m ((c.tc : Thread Cert.ProjVIdeal.nD Cert.ProjVIdeal.τ).loc Cert.ProjVIdeal.main_arg0)
      ∧ m' ((c.tc : Thread Cert.ProjVRefIdeal.nD Cert.ProjVRefIdeal.τ).loc Cert.ProjVRefIdeal.main_arg1) = m ((c.tc : Thread Cert.ProjVIdeal.nD Cert.ProjVIdeal.τ).loc Cert.ProjVIdeal.main_arg1)) →
    ∃ (v0 : (c : Dev Cert.ProjVIdeal.nD) → Buf (Elt Ideal) ((c.tc : Thread Cert.ProjVIdeal.nD Cert.ProjVIdeal.τ).loc Cert.ProjVIdeal.main_v1)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v1) = v0 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ θ_run (Cert.ProjVRefIdeal.defs (F := Ideal)) (onTc (τ := Cert.ProjVRefIdeal.τ) (Cert.ProjVRefIdeal.main (F := Ideal))) ⟨m', fun _ => 0, g'⟩ (fun r => ∀ c : Dev Cert.ProjVRefIdeal.nD,
          r.2.mem ((c.tc : Thread Cert.ProjVRefIdeal.nD Cert.ProjVRefIdeal.τ).loc Cert.ProjVRefIdeal.main_v3) = v0 c
          ∧ r.2.mem ((c.tc : Thread Cert.ProjVRefIdeal.nD Cert.ProjVRefIdeal.τ).loc Cert.ProjVRefIdeal.main_arg0) = m' ((c.tc : Thread Cert.ProjVRefIdeal.nD Cert.ProjVRefIdeal.τ).loc Cert.ProjVRefIdeal.main_arg0)
          ∧ r.2.mem ((c.tc : Thread Cert.ProjVRefIdeal.nD Cert.ProjVRefIdeal.τ).loc Cert.ProjVRefIdeal.main_arg1) = m' ((c.tc : Thread Cert.ProjVRefIdeal.nD Cert.ProjVRefIdeal.τ).loc Cert.ProjVRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)) →
    ∃ (v0 : (c : Dev Cert.ProjOutIdeal.nD) → Buf (Elt Ideal) ((c.tc : Thread Cert.ProjOutIdeal.nD Cert.ProjOutIdeal.τ).loc Cert.ProjOutIdeal.main_v1)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v1) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v15) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3))

def preserves_ModTab_ModTabIdeal : Prop :=
  True

def algebraic_ModTabIdeal_ModTabRefIdeal [hModTabIdeal : Cert.ModTabIdeal.Facts] [hModTabRefIdeal : Cert.ModTabRefIdeal.Facts] : Prop :=
  ∀ (m : (ℓ : Loc Cert.ModTabIdeal.nD Cert.ModTabIdeal.τ Cert.ModTabIdeal.sig) → Buf (Elt Ideal) ℓ) (g : Dev Cert.ModTabIdeal.nD → PrngReg)
    (m' : (ℓ : Loc Cert.ModTabRefIdeal.nD Cert.ModTabRefIdeal.τ Cert.ModTabRefIdeal.sig) → Buf (Elt Ideal) ℓ) (g' : Dev Cert.ModTabRefIdeal.nD → PrngReg), Pre_ModTabIdeal m →
    (∀ c : Dev Cert.ModTabIdeal.nD,
      m' ((c.tc : Thread Cert.ModTabRefIdeal.nD Cert.ModTabRefIdeal.τ).loc Cert.ModTabRefIdeal.main_arg0) = m ((c.tc : Thread Cert.ModTabIdeal.nD Cert.ModTabIdeal.τ).loc Cert.ModTabIdeal.main_arg0)
      ∧ m' ((c.tc : Thread Cert.ModTabRefIdeal.nD Cert.ModTabRefIdeal.τ).loc Cert.ModTabRefIdeal.main_arg1) = m ((c.tc : Thread Cert.ModTabIdeal.nD Cert.ModTabIdeal.τ).loc Cert.ModTabIdeal.main_arg1)
      ∧ m' ((c.tc : Thread Cert.ModTabRefIdeal.nD Cert.ModTabRefIdeal.τ).loc Cert.ModTabRefIdeal.main_arg2) = m ((c.tc : Thread Cert.ModTabIdeal.nD Cert.ModTabIdeal.τ).loc Cert.ModTabIdeal.main_arg2)) →
    ∃ (v0 : (c : Dev Cert.ModTabIdeal.nD) → Buf (Elt Ideal) ((c.tc : Thread Cert.ModTabIdeal.nD Cert.ModTabIdeal.τ).loc Cert.ModTabIdeal.main_v1)),
      θ_run (Cert.ModTabIdeal.defs (F := Ideal)) (onTc (τ := Cert.ModTabIdeal.τ) (Cert.ModTabIdeal.main (F := Ideal))) ⟨m, fun _ => 0, g⟩ (fun r => ∀ c : Dev Cert.ModTabIdeal.nD,
          r.2.mem ((c.tc : Thread Cert.ModTabIdeal.nD Cert.ModTabIdeal.τ).loc Cert.ModTabIdeal.main_v1) = v0 c
          ∧ r.2.mem ((c.tc : Thread Cert.ModTabIdeal.nD Cert.ModTabIdeal.τ).loc Cert.ModTabIdeal.main_arg0) = m ((c.tc : Thread Cert.ModTabIdeal.nD Cert.ModTabIdeal.τ).loc Cert.ModTabIdeal.main_arg0)
          ∧ r.2.mem ((c.tc : Thread Cert.ModTabIdeal.nD Cert.ModTabIdeal.τ).loc Cert.ModTabIdeal.main_arg1) = m ((c.tc : Thread Cert.ModTabIdeal.nD Cert.ModTabIdeal.τ).loc Cert.ModTabIdeal.main_arg1)
          ∧ r.2.mem ((c.tc : Thread Cert.ModTabIdeal.nD Cert.ModTabIdeal.τ).loc Cert.ModTabIdeal.main_arg2) = m ((c.tc : Thread Cert.ModTabIdeal.nD Cert.ModTabIdeal.τ).loc Cert.ModTabIdeal.main_arg2))
      ∧ θ_run (Cert.ModTabRefIdeal.defs (F := Ideal)) (onTc (τ := Cert.ModTabRefIdeal.τ) (Cert.ModTabRefIdeal.main (F := Ideal))) ⟨m', fun _ => 0, g'⟩ (fun r => ∀ c : Dev Cert.ModTabRefIdeal.nD,
          r.2.mem ((c.tc : Thread Cert.ModTabRefIdeal.nD Cert.ModTabRefIdeal.τ).loc Cert.ModTabRefIdeal.main_v8) = v0 c
          ∧ r.2.mem ((c.tc : Thread Cert.ModTabRefIdeal.nD Cert.ModTabRefIdeal.τ).loc Cert.ModTabRefIdeal.main_arg0) = m' ((c.tc : Thread Cert.ModTabRefIdeal.nD Cert.ModTabRefIdeal.τ).loc Cert.ModTabRefIdeal.main_arg0)
          ∧ r.2.mem ((c.tc : Thread Cert.ModTabRefIdeal.nD Cert.ModTabRefIdeal.τ).loc Cert.ModTabRefIdeal.main_arg1) = m' ((c.tc : Thread Cert.ModTabRefIdeal.nD Cert.ModTabRefIdeal.τ).loc Cert.ModTabRefIdeal.main_arg1)
          ∧ r.2.mem ((c.tc : Thread Cert.ModTabRefIdeal.nD Cert.ModTabRefIdeal.τ).loc Cert.ModTabRefIdeal.main_arg2) = m' ((c.tc : Thread Cert.ModTabRefIdeal.nD Cert.ModTabRefIdeal.τ).loc Cert.ModTabRefIdeal.main_arg2))

def preserves_NormR_NormRIdeal : Prop :=
  True

def algebraic_NormRIdeal_NormRRefIdeal [hNormRIdeal : Cert.NormRIdeal.Facts] [hNormRRefIdeal : Cert.NormRRefIdeal.Facts] : Prop :=
  ∀ (m : (ℓ : Loc Cert.NormRIdeal.nD Cert.NormRIdeal.τ Cert.NormRIdeal.sig) → Buf (Elt Ideal) ℓ) (g : Dev Cert.NormRIdeal.nD → PrngReg)
    (m' : (ℓ : Loc Cert.NormRRefIdeal.nD Cert.NormRRefIdeal.τ Cert.NormRRefIdeal.sig) → Buf (Elt Ideal) ℓ) (g' : Dev Cert.NormRRefIdeal.nD → PrngReg), Pre_NormRIdeal m →
    (∀ c : Dev Cert.NormRIdeal.nD,
      m' ((c.tc : Thread Cert.NormRRefIdeal.nD Cert.NormRRefIdeal.τ).loc Cert.NormRRefIdeal.main_arg0) = m ((c.tc : Thread Cert.NormRIdeal.nD Cert.NormRIdeal.τ).loc Cert.NormRIdeal.main_arg0)
      ∧ m' ((c.tc : Thread Cert.NormRRefIdeal.nD Cert.NormRRefIdeal.τ).loc Cert.NormRRefIdeal.main_arg1) = m ((c.tc : Thread Cert.NormRIdeal.nD Cert.NormRIdeal.τ).loc Cert.NormRIdeal.main_arg1)
      ∧ m' ((c.tc : Thread Cert.NormRRefIdeal.nD Cert.NormRRefIdeal.τ).loc Cert.NormRRefIdeal.main_arg2) = m ((c.tc : Thread Cert.NormRIdeal.nD Cert.NormRIdeal.τ).loc Cert.NormRIdeal.main_arg2)
      ∧ m' ((c.tc : Thread Cert.NormRRefIdeal.nD Cert.NormRRefIdeal.τ).loc Cert.NormRRefIdeal.main_arg3) = m ((c.tc : Thread Cert.NormRIdeal.nD Cert.NormRIdeal.τ).loc Cert.NormRIdeal.main_arg3)) →
    ∃ (v0 : (c : Dev Cert.NormRIdeal.nD) → Buf (Elt Ideal) ((c.tc : Thread Cert.NormRIdeal.nD Cert.NormRIdeal.τ).loc Cert.NormRIdeal.main_v2_0)) (v1 : (c : Dev Cert.NormRIdeal.nD) → Buf (Elt Ideal) ((c.tc : Thread Cert.NormRIdeal.nD Cert.NormRIdeal.τ).loc Cert.NormRIdeal.main_v2_1)),
      θ_run (Cert.NormRIdeal.defs (F := Ideal)) (onTc (τ := Cert.NormRIdeal.τ) (Cert.NormRIdeal.main (F := Ideal))) ⟨m, fun _ => 0, g⟩ (fun r => ∀ c : Dev Cert.NormRIdeal.nD,
          r.2.mem ((c.tc : Thread Cert.NormRIdeal.nD Cert.NormRIdeal.τ).loc Cert.NormRIdeal.main_v2_0) = v0 c
          ∧ r.2.mem ((c.tc : Thread Cert.NormRIdeal.nD Cert.NormRIdeal.τ).loc Cert.NormRIdeal.main_v2_1) = v1 c
          ∧ r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
          ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
          ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3))
      ∧ θ_run (Cert.NormRRefIdeal.defs (F := Ideal)) (onTc (τ := Cert.NormRRefIdeal.τ) (Cert.NormRRefIdeal.main (F := Ideal))) ⟨m', fun _ => 0, g'⟩ (fun r => ∀ c : Dev Cert.NormRRefIdeal.nD,
          r.2.mem ((c.tc : Thread Cert.NormRRefIdeal.nD Cert.NormRRefIdeal.τ).loc Cert.NormRRefIdeal.main_v38) = v0 c
          ∧ r.2.mem ((c.tc : Thread Cert.NormRRefIdeal.nD Cert.NormRRefIdeal.τ).loc Cert.NormRRefIdeal.main_v40) = v1 c
          ∧ r.2.mem ((c.tc : Thread Cert.NormRRefIdeal.nD Cert.NormRRefIdeal.τ).loc Cert.NormRRefIdeal.main_arg0) = m' ((c.tc : Thread Cert.NormRRefIdeal.nD Cert.NormRRefIdeal.τ).loc Cert.NormRRefIdeal.main_arg0)
          ∧ r.2.mem ((c.tc : Thread Cert.NormRRefIdeal.nD Cert.NormRRefIdeal.τ).loc Cert.NormRRefIdeal.main_arg1) = m' ((c.tc : Thread Cert.NormRRefIdeal.nD Cert.NormRRefIdeal.τ).loc Cert.NormRRefIdeal.main_arg1)
          ∧ r.2.mem ((c.tc : Thread Cert.NormRRefIdeal.nD Cert.NormRRefIdeal.τ).loc Cert.NormRRefIdeal.main_arg2) = m' ((c.tc : Thread Cert.NormRRefIdeal.nD Cert.NormRRefIdeal.τ).loc Cert.NormRRefIdeal.main_arg2)
          ∧ r.2.mem ((c.tc : Thread Cert.NormRRefIdeal.nD Cert.NormRRefIdeal.τ).loc Cert.NormRRefIdeal.main_arg3) = m' ((c.tc : Thread Cert.NormRRefIdeal.nD Cert.NormRRefIdeal.τ).loc Cert.NormRRefIdeal.main_arg3))

def preserves_FfnRes_FfnResIdeal : Prop :=
  True

def algebraic_FfnResIdeal_FfnResRefIdeal [hFfnResIdeal : Cert.FfnResIdeal.Facts] [hFfnResRefIdeal : Cert.FfnResRefIdeal.Facts] : Prop :=
  ∀ (m : (ℓ : Loc Cert.FfnResIdeal.nD Cert.FfnResIdeal.τ Cert.FfnResIdeal.sig) → Buf (Elt Ideal) ℓ) (g : Dev Cert.FfnResIdeal.nD → PrngReg)
    (m' : (ℓ : Loc Cert.FfnResRefIdeal.nD Cert.FfnResRefIdeal.τ Cert.FfnResRefIdeal.sig) → Buf (Elt Ideal) ℓ) (g' : Dev Cert.FfnResRefIdeal.nD → PrngReg), Pre_FfnResIdeal m →
    (∀ c : Dev Cert.FfnResIdeal.nD,
      m' ((c.tc : Thread Cert.FfnResRefIdeal.nD Cert.FfnResRefIdeal.τ).loc Cert.FfnResRefIdeal.main_arg0) = m ((c.tc : Thread Cert.FfnResIdeal.nD Cert.FfnResIdeal.τ).loc Cert.FfnResIdeal.main_arg0)
      ∧ m' ((c.tc : Thread Cert.FfnResRefIdeal.nD Cert.FfnResRefIdeal.τ).loc Cert.FfnResRefIdeal.main_arg1) = m ((c.tc : Thread Cert.FfnResIdeal.nD Cert.FfnResIdeal.τ).loc Cert.FfnResIdeal.main_arg1)
      ∧ m' ((c.tc : Thread Cert.FfnResRefIdeal.nD Cert.FfnResRefIdeal.τ).loc Cert.FfnResRefIdeal.main_arg2) = m ((c.tc : Thread Cert.FfnResIdeal.nD Cert.FfnResIdeal.τ).loc Cert.FfnResIdeal.main_arg2)
      ∧ m' ((c.tc : Thread Cert.FfnResRefIdeal.nD Cert.FfnResRefIdeal.τ).loc Cert.FfnResRefIdeal.main_arg3) = m ((c.tc : Thread Cert.FfnResIdeal.nD Cert.FfnResIdeal.τ).loc Cert.FfnResIdeal.main_arg3)
      ∧ m' ((c.tc : Thread Cert.FfnResRefIdeal.nD Cert.FfnResRefIdeal.τ).loc Cert.FfnResRefIdeal.main_arg4) = m ((c.tc : Thread Cert.FfnResIdeal.nD Cert.FfnResIdeal.τ).loc Cert.FfnResIdeal.main_arg4)
      ∧ m' ((c.tc : Thread Cert.FfnResRefIdeal.nD Cert.FfnResRefIdeal.τ).loc Cert.FfnResRefIdeal.main_arg5) = m ((c.tc : Thread Cert.FfnResIdeal.nD Cert.FfnResIdeal.τ).loc Cert.FfnResIdeal.main_arg5)) →
    ∃ (v0 : (c : Dev Cert.FfnResIdeal.nD) → Buf (Elt Ideal) ((c.tc : Thread Cert.FfnResIdeal.nD Cert.FfnResIdeal.τ).loc Cert.FfnResIdeal.main_v1)),
      θ_run (Cert.FfnResIdeal.defs (F := Ideal)) (onTc (τ := Cert.FfnResIdeal.τ) (Cert.FfnResIdeal.main (F := Ideal))) ⟨m, fun _ => 0, g⟩ (fun r => ∀ c : Dev Cert.FfnResIdeal.nD,
          r.2.mem ((c.tc : Thread Cert.FfnResIdeal.nD Cert.FfnResIdeal.τ).loc Cert.FfnResIdeal.main_v1) = v0 c
          ∧ r.2.mem ((c.tc : Thread Cert.FfnResIdeal.nD Cert.FfnResIdeal.τ).loc Cert.FfnResIdeal.main_arg0) = m ((c.tc : Thread Cert.FfnResIdeal.nD Cert.FfnResIdeal.τ).loc Cert.FfnResIdeal.main_arg0)
          ∧ r.2.mem ((c.tc : Thread Cert.FfnResIdeal.nD Cert.FfnResIdeal.τ).loc Cert.FfnResIdeal.main_arg1) = m ((c.tc : Thread Cert.FfnResIdeal.nD Cert.FfnResIdeal.τ).loc Cert.FfnResIdeal.main_arg1)
          ∧ r.2.mem ((c.tc : Thread Cert.FfnResIdeal.nD Cert.FfnResIdeal.τ).loc Cert.FfnResIdeal.main_arg2) = m ((c.tc : Thread Cert.FfnResIdeal.nD Cert.FfnResIdeal.τ).loc Cert.FfnResIdeal.main_arg2)
          ∧ r.2.mem ((c.tc : Thread Cert.FfnResIdeal.nD Cert.FfnResIdeal.τ).loc Cert.FfnResIdeal.main_arg3) = m ((c.tc : Thread Cert.FfnResIdeal.nD Cert.FfnResIdeal.τ).loc Cert.FfnResIdeal.main_arg3)
          ∧ r.2.mem ((c.tc : Thread Cert.FfnResIdeal.nD Cert.FfnResIdeal.τ).loc Cert.FfnResIdeal.main_arg4) = m ((c.tc : Thread Cert.FfnResIdeal.nD Cert.FfnResIdeal.τ).loc Cert.FfnResIdeal.main_arg4)
          ∧ r.2.mem ((c.tc : Thread Cert.FfnResIdeal.nD Cert.FfnResIdeal.τ).loc Cert.FfnResIdeal.main_arg5) = m ((c.tc : Thread Cert.FfnResIdeal.nD Cert.FfnResIdeal.τ).loc Cert.FfnResIdeal.main_arg5))
      ∧ θ_run (Cert.FfnResRefIdeal.defs (F := Ideal)) (onTc (τ := Cert.FfnResRefIdeal.τ) (Cert.FfnResRefIdeal.main (F := Ideal))) ⟨m', fun _ => 0, g'⟩ (fun r => ∀ c : Dev Cert.FfnResRefIdeal.nD,
          r.2.mem ((c.tc : Thread Cert.FfnResRefIdeal.nD Cert.FfnResRefIdeal.τ).loc Cert.FfnResRefIdeal.main_v26) = v0 c
          ∧ r.2.mem ((c.tc : Thread Cert.FfnResRefIdeal.nD Cert.FfnResRefIdeal.τ).loc Cert.FfnResRefIdeal.main_arg0) = m' ((c.tc : Thread Cert.FfnResRefIdeal.nD Cert.FfnResRefIdeal.τ).loc Cert.FfnResRefIdeal.main_arg0)
          ∧ r.2.mem ((c.tc : Thread Cert.FfnResRefIdeal.nD Cert.FfnResRefIdeal.τ).loc Cert.FfnResRefIdeal.main_arg1) = m' ((c.tc : Thread Cert.FfnResRefIdeal.nD Cert.FfnResRefIdeal.τ).loc Cert.FfnResRefIdeal.main_arg1)
          ∧ r.2.mem ((c.tc : Thread Cert.FfnResRefIdeal.nD Cert.FfnResRefIdeal.τ).loc Cert.FfnResRefIdeal.main_arg2) = m' ((c.tc : Thread Cert.FfnResRefIdeal.nD Cert.FfnResRefIdeal.τ).loc Cert.FfnResRefIdeal.main_arg2)
          ∧ r.2.mem ((c.tc : Thread Cert.FfnResRefIdeal.nD Cert.FfnResRefIdeal.τ).loc Cert.FfnResRefIdeal.main_arg3) = m' ((c.tc : Thread Cert.FfnResRefIdeal.nD Cert.FfnResRefIdeal.τ).loc Cert.FfnResRefIdeal.main_arg3)
          ∧ r.2.mem ((c.tc : Thread Cert.FfnResRefIdeal.nD Cert.FfnResRefIdeal.τ).loc Cert.FfnResRefIdeal.main_arg4) = m' ((c.tc : Thread Cert.FfnResRefIdeal.nD Cert.FfnResRefIdeal.τ).loc Cert.FfnResRefIdeal.main_arg4)
          ∧ r.2.mem ((c.tc : Thread Cert.FfnResRefIdeal.nD Cert.FfnResRefIdeal.τ).loc Cert.FfnResRefIdeal.main_arg5) = m' ((c.tc : Thread Cert.FfnResRefIdeal.nD Cert.FfnResRefIdeal.τ).loc Cert.FfnResRefIdeal.main_arg5))

def preserves_ModLast_ModLastIdeal : Prop :=
  True

def algebraic_ModLastIdeal_ModLastRefIdeal [hModLastIdeal : Cert.ModLastIdeal.Facts] [hModLastRefIdeal : Cert.ModLastRefIdeal.Facts] : Prop :=
  ∀ (m : (ℓ : Loc Cert.ModLastIdeal.nD Cert.ModLastIdeal.τ Cert.ModLastIdeal.sig) → Buf (Elt Ideal) ℓ) (g : Dev Cert.ModLastIdeal.nD → PrngReg)
    (m' : (ℓ : Loc Cert.ModLastRefIdeal.nD Cert.ModLastRefIdeal.τ Cert.ModLastRefIdeal.sig) → Buf (Elt Ideal) ℓ) (g' : Dev Cert.ModLastRefIdeal.nD → PrngReg), Pre_ModLastIdeal m →
    (∀ c : Dev Cert.ModLastIdeal.nD,
      m' ((c.tc : Thread Cert.ModLastRefIdeal.nD Cert.ModLastRefIdeal.τ).loc Cert.ModLastRefIdeal.main_arg0) = m ((c.tc : Thread Cert.ModLastIdeal.nD Cert.ModLastIdeal.τ).loc Cert.ModLastIdeal.main_arg0)
      ∧ m' ((c.tc : Thread Cert.ModLastRefIdeal.nD Cert.ModLastRefIdeal.τ).loc Cert.ModLastRefIdeal.main_arg1) = m ((c.tc : Thread Cert.ModLastIdeal.nD Cert.ModLastIdeal.τ).loc Cert.ModLastIdeal.main_arg1)
      ∧ m' ((c.tc : Thread Cert.ModLastRefIdeal.nD Cert.ModLastRefIdeal.τ).loc Cert.ModLastRefIdeal.main_arg2) = m ((c.tc : Thread Cert.ModLastIdeal.nD Cert.ModLastIdeal.τ).loc Cert.ModLastIdeal.main_arg2)) →
    ∃ (v0 : (c : Dev Cert.ModLastIdeal.nD) → Buf (Elt Ideal) ((c.tc : Thread Cert.ModLastIdeal.nD Cert.ModLastIdeal.τ).loc Cert.ModLastIdeal.main_v1)),
      θ_run (Cert.ModLastIdeal.defs (F := Ideal)) (onTc (τ := Cert.ModLastIdeal.τ) (Cert.ModLastIdeal.main (F := Ideal))) ⟨m, fun _ => 0, g⟩ (fun r => ∀ c : Dev Cert.ModLastIdeal.nD,
          r.2.mem ((c.tc : Thread Cert.ModLastIdeal.nD Cert.ModLastIdeal.τ).loc Cert.ModLastIdeal.main_v1) = v0 c
          ∧ r.2.mem ((c.tc : Thread Cert.ModLastIdeal.nD Cert.ModLastIdeal.τ).loc Cert.ModLastIdeal.main_arg0) = m ((c.tc : Thread Cert.ModLastIdeal.nD Cert.ModLastIdeal.τ).loc Cert.ModLastIdeal.main_arg0)
          ∧ r.2.mem ((c.tc : Thread Cert.ModLastIdeal.nD Cert.ModLastIdeal.τ).loc Cert.ModLastIdeal.main_arg1) = m ((c.tc : Thread Cert.ModLastIdeal.nD Cert.ModLastIdeal.τ).loc Cert.ModLastIdeal.main_arg1)
          ∧ r.2.mem ((c.tc : Thread Cert.ModLastIdeal.nD Cert.ModLastIdeal.τ).loc Cert.ModLastIdeal.main_arg2) = m ((c.tc : Thread Cert.ModLastIdeal.nD Cert.ModLastIdeal.τ).loc Cert.ModLastIdeal.main_arg2))
      ∧ θ_run (Cert.ModLastRefIdeal.defs (F := Ideal)) (onTc (τ := Cert.ModLastRefIdeal.τ) (Cert.ModLastRefIdeal.main (F := Ideal))) ⟨m', fun _ => 0, g'⟩ (fun r => ∀ c : Dev Cert.ModLastRefIdeal.nD,
          r.2.mem ((c.tc : Thread Cert.ModLastRefIdeal.nD Cert.ModLastRefIdeal.τ).loc Cert.ModLastRefIdeal.main_v8) = v0 c
          ∧ r.2.mem ((c.tc : Thread Cert.ModLastRefIdeal.nD Cert.ModLastRefIdeal.τ).loc Cert.ModLastRefIdeal.main_arg0) = m' ((c.tc : Thread Cert.ModLastRefIdeal.nD Cert.ModLastRefIdeal.τ).loc Cert.ModLastRefIdeal.main_arg0)
          ∧ r.2.mem ((c.tc : Thread Cert.ModLastRefIdeal.nD Cert.ModLastRefIdeal.τ).loc Cert.ModLastRefIdeal.main_arg1) = m' ((c.tc : Thread Cert.ModLastRefIdeal.nD Cert.ModLastRefIdeal.τ).loc Cert.ModLastRefIdeal.main_arg1)
          ∧ r.2.mem ((c.tc : Thread Cert.ModLastRefIdeal.nD Cert.ModLastRefIdeal.τ).loc Cert.ModLastRefIdeal.main_arg2) = m' ((c.tc : Thread Cert.ModLastRefIdeal.nD Cert.ModLastRefIdeal.τ).loc Cert.ModLastRefIdeal.main_arg2))

def preserves_NormLast_NormLastIdeal : Prop :=
  True

def algebraic_NormLastIdeal_NormLastRefIdeal [hNormLastIdeal : Cert.NormLastIdeal.Facts] [hNormLastRefIdeal : Cert.NormLastRefIdeal.Facts] : Prop :=
  ∀ (m : (ℓ : Loc Cert.NormLastIdeal.nD Cert.NormLastIdeal.τ Cert.NormLastIdeal.sig) → Buf (Elt Ideal) ℓ) (g : Dev Cert.NormLastIdeal.nD → PrngReg)
    (m' : (ℓ : Loc Cert.NormLastRefIdeal.nD Cert.NormLastRefIdeal.τ Cert.NormLastRefIdeal.sig) → Buf (Elt Ideal) ℓ) (g' : Dev Cert.NormLastRefIdeal.nD → PrngReg), Pre_NormLastIdeal m →
    (∀ c : Dev Cert.NormLastIdeal.nD,
      m' ((c.tc : Thread Cert.NormLastRefIdeal.nD Cert.NormLastRefIdeal.τ).loc Cert.NormLastRefIdeal.main_arg0) = m ((c.tc : Thread Cert.NormLastIdeal.nD Cert.NormLastIdeal.τ).loc Cert.NormLastIdeal.main_arg0)
      ∧ m' ((c.tc : Thread Cert.NormLastRefIdeal.nD Cert.NormLastRefIdeal.τ).loc Cert.NormLastRefIdeal.main_arg1) = m ((c.tc : Thread Cert.NormLastIdeal.nD Cert.NormLastIdeal.τ).loc Cert.NormLastIdeal.main_arg1)
      ∧ m' ((c.tc : Thread Cert.NormLastRefIdeal.nD Cert.NormLastRefIdeal.τ).loc Cert.NormLastRefIdeal.main_arg2) = m ((c.tc : Thread Cert.NormLastIdeal.nD Cert.NormLastIdeal.τ).loc Cert.NormLastIdeal.main_arg2)
      ∧ m' ((c.tc : Thread Cert.NormLastRefIdeal.nD Cert.NormLastRefIdeal.τ).loc Cert.NormLastRefIdeal.main_arg3) = m ((c.tc : Thread Cert.NormLastIdeal.nD Cert.NormLastIdeal.τ).loc Cert.NormLastIdeal.main_arg3)) →
    ∃ (v0 : (c : Dev Cert.NormLastIdeal.nD) → Buf (Elt Ideal) ((c.tc : Thread Cert.NormLastIdeal.nD Cert.NormLastIdeal.τ).loc Cert.NormLastIdeal.main_v2_0)) (v1 : (c : Dev Cert.NormLastIdeal.nD) → Buf (Elt Ideal) ((c.tc : Thread Cert.NormLastIdeal.nD Cert.NormLastIdeal.τ).loc Cert.NormLastIdeal.main_v2_1)),
      θ_run (Cert.NormLastIdeal.defs (F := Ideal)) (onTc (τ := Cert.NormLastIdeal.τ) (Cert.NormLastIdeal.main (F := Ideal))) ⟨m, fun _ => 0, g⟩ (fun r => ∀ c : Dev Cert.NormLastIdeal.nD,
          r.2.mem ((c.tc : Thread Cert.NormLastIdeal.nD Cert.NormLastIdeal.τ).loc Cert.NormLastIdeal.main_v2_0) = v0 c
          ∧ r.2.mem ((c.tc : Thread Cert.NormLastIdeal.nD Cert.NormLastIdeal.τ).loc Cert.NormLastIdeal.main_v2_1) = v1 c
          ∧ r.2.mem ((c.tc : Thread Cert.NormLastIdeal.nD Cert.NormLastIdeal.τ).loc Cert.NormLastIdeal.main_arg0) = m ((c.tc : Thread Cert.NormLastIdeal.nD Cert.NormLastIdeal.τ).loc Cert.NormLastIdeal.main_arg0)
          ∧ r.2.mem ((c.tc : Thread Cert.NormLastIdeal.nD Cert.NormLastIdeal.τ).loc Cert.NormLastIdeal.main_arg1) = m ((c.tc : Thread Cert.NormLastIdeal.nD Cert.NormLastIdeal.τ).loc Cert.NormLastIdeal.main_arg1)
          ∧ r.2.mem ((c.tc : Thread Cert.NormLastIdeal.nD Cert.NormLastIdeal.τ).loc Cert.NormLastIdeal.main_arg2) = m ((c.tc : Thread Cert.NormLastIdeal.nD Cert.NormLastIdeal.τ).loc Cert.NormLastIdeal.main_arg2)
          ∧ r.2.mem ((c.tc : Thread Cert.NormLastIdeal.nD Cert.NormLastIdeal.τ).loc Cert.NormLastIdeal.main_arg3) = m ((c.tc : Thread Cert.NormLastIdeal.nD Cert.NormLastIdeal.τ).loc Cert.NormLastIdeal.main_arg3))
      ∧ θ_run (Cert.NormLastRefIdeal.defs (F := Ideal)) (onTc (τ := Cert.NormLastRefIdeal.τ) (Cert.NormLastRefIdeal.main (F := Ideal))) ⟨m', fun _ => 0, g'⟩ (fun r => ∀ c : Dev Cert.NormLastRefIdeal.nD,
          r.2.mem ((c.tc : Thread Cert.NormLastRefIdeal.nD Cert.NormLastRefIdeal.τ).loc Cert.NormLastRefIdeal.main_v23) = v0 c
          ∧ r.2.mem ((c.tc : Thread Cert.NormLastRefIdeal.nD Cert.NormLastRefIdeal.τ).loc Cert.NormLastRefIdeal.main_v25) = v1 c
          ∧ r.2.mem ((c.tc : Thread Cert.NormLastRefIdeal.nD Cert.NormLastRefIdeal.τ).loc Cert.NormLastRefIdeal.main_arg0) = m' ((c.tc : Thread Cert.NormLastRefIdeal.nD Cert.NormLastRefIdeal.τ).loc Cert.NormLastRefIdeal.main_arg0)
          ∧ r.2.mem ((c.tc : Thread Cert.NormLastRefIdeal.nD Cert.NormLastRefIdeal.τ).loc Cert.NormLastRefIdeal.main_arg1) = m' ((c.tc : Thread Cert.NormLastRefIdeal.nD Cert.NormLastRefIdeal.τ).loc Cert.NormLastRefIdeal.main_arg1)
          ∧ r.2.mem ((c.tc : Thread Cert.NormLastRefIdeal.nD Cert.NormLastRefIdeal.τ).loc Cert.NormLastRefIdeal.main_arg2) = m' ((c.tc : Thread Cert.NormLastRefIdeal.nD Cert.NormLastRefIdeal.τ).loc Cert.NormLastRefIdeal.main_arg2)
          ∧ r.2.mem ((c.tc : Thread Cert.NormLastRefIdeal.nD Cert.NormLastRefIdeal.τ).loc Cert.NormLastRefIdeal.main_arg3) = m' ((c.tc : Thread Cert.NormLastRefIdeal.nD Cert.NormLastRefIdeal.τ).loc Cert.NormLastRefIdeal.main_arg3))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)) →
    ∃ (v0 : (c : Dev Cert.NormMixIdeal.nD) → Buf (Elt Ideal) ((c.tc : Thread Cert.NormMixIdeal.nD Cert.NormMixIdeal.τ).loc Cert.NormMixIdeal.main_v1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v1) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v38) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v0)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v0) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v24) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4))

def preserves_Moe_MoeIdeal : Prop :=
  True

def algebraic_MoeIdeal_MoeRefIdeal [hMoeIdeal : Cert.MoeIdeal.Facts] [hMoeRefIdeal : Cert.MoeRefIdeal.Facts] [hPre_moe_pre : Cert.Pre_moe_pre.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v37) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_MoeLast_MoeLastIdeal : Prop :=
  True

def algebraic_MoeLastIdeal_MoeLastRefIdeal [hMoeLastIdeal : Cert.MoeLastIdeal.Facts] [hMoeLastRefIdeal : Cert.MoeLastRefIdeal.Facts] [hPre_moe_last_pre : Cert.Pre_moe_last_pre.Facts] : Prop :=
  ∀ (m : (ℓ : Loc Cert.MoeLastIdeal.nD Cert.MoeLastIdeal.τ Cert.MoeLastIdeal.sig) → Buf (Elt Ideal) ℓ) (g : Dev Cert.MoeLastIdeal.nD → PrngReg)
    (m' : (ℓ : Loc Cert.MoeLastRefIdeal.nD Cert.MoeLastRefIdeal.τ Cert.MoeLastRefIdeal.sig) → Buf (Elt Ideal) ℓ) (g' : Dev Cert.MoeLastRefIdeal.nD → PrngReg), Pre_MoeLastIdeal m →
    (∀ c : Dev Cert.MoeLastIdeal.nD,
      m' ((c.tc : Thread Cert.MoeLastRefIdeal.nD Cert.MoeLastRefIdeal.τ).loc Cert.MoeLastRefIdeal.main_arg0) = m ((c.tc : Thread Cert.MoeLastIdeal.nD Cert.MoeLastIdeal.τ).loc Cert.MoeLastIdeal.main_arg0)
      ∧ m' ((c.tc : Thread Cert.MoeLastRefIdeal.nD Cert.MoeLastRefIdeal.τ).loc Cert.MoeLastRefIdeal.main_arg1) = m ((c.tc : Thread Cert.MoeLastIdeal.nD Cert.MoeLastIdeal.τ).loc Cert.MoeLastIdeal.main_arg1)
      ∧ m' ((c.tc : Thread Cert.MoeLastRefIdeal.nD Cert.MoeLastRefIdeal.τ).loc Cert.MoeLastRefIdeal.main_arg2) = m ((c.tc : Thread Cert.MoeLastIdeal.nD Cert.MoeLastIdeal.τ).loc Cert.MoeLastIdeal.main_arg2)
      ∧ m' ((c.tc : Thread Cert.MoeLastRefIdeal.nD Cert.MoeLastRefIdeal.τ).loc Cert.MoeLastRefIdeal.main_arg3) = m ((c.tc : Thread Cert.MoeLastIdeal.nD Cert.MoeLastIdeal.τ).loc Cert.MoeLastIdeal.main_arg3)
      ∧ m' ((c.tc : Thread Cert.MoeLastRefIdeal.nD Cert.MoeLastRefIdeal.τ).loc Cert.MoeLastRefIdeal.main_arg4) = m ((c.tc : Thread Cert.MoeLastIdeal.nD Cert.MoeLastIdeal.τ).loc Cert.MoeLastIdeal.main_arg4)
      ∧ m' ((c.tc : Thread Cert.MoeLastRefIdeal.nD Cert.MoeLastRefIdeal.τ).loc Cert.MoeLastRefIdeal.main_arg5) = m ((c.tc : Thread Cert.MoeLastIdeal.nD Cert.MoeLastIdeal.τ).loc Cert.MoeLastIdeal.main_arg5)) →
    ∃ (v0 : (c : Dev Cert.MoeLastIdeal.nD) → Buf (Elt Ideal) ((c.tc : Thread Cert.MoeLastIdeal.nD Cert.MoeLastIdeal.τ).loc Cert.MoeLastIdeal.main_v0)),
      θ_run (Cert.MoeLastIdeal.defs (F := Ideal)) (onTc (τ := Cert.MoeLastIdeal.τ) (Cert.MoeLastIdeal.main (F := Ideal))) ⟨m, fun _ => 0, g⟩ (fun r => ∀ c : Dev Cert.MoeLastIdeal.nD,
          r.2.mem ((c.tc : Thread Cert.MoeLastIdeal.nD Cert.MoeLastIdeal.τ).loc Cert.MoeLastIdeal.main_v0) = v0 c
          ∧ r.2.mem ((c.tc : Thread Cert.MoeLastIdeal.nD Cert.MoeLastIdeal.τ).loc Cert.MoeLastIdeal.main_arg0) = m ((c.tc : Thread Cert.MoeLastIdeal.nD Cert.MoeLastIdeal.τ).loc Cert.MoeLastIdeal.main_arg0)
          ∧ r.2.mem ((c.tc : Thread Cert.MoeLastIdeal.nD Cert.MoeLastIdeal.τ).loc Cert.MoeLastIdeal.main_arg1) = m ((c.tc : Thread Cert.MoeLastIdeal.nD Cert.MoeLastIdeal.τ).loc Cert.MoeLastIdeal.main_arg1)
          ∧ r.2.mem ((c.tc : Thread Cert.MoeLastIdeal.nD Cert.MoeLastIdeal.τ).loc Cert.MoeLastIdeal.main_arg2) = m ((c.tc : Thread Cert.MoeLastIdeal.nD Cert.MoeLastIdeal.τ).loc Cert.MoeLastIdeal.main_arg2)
          ∧ r.2.mem ((c.tc : Thread Cert.MoeLastIdeal.nD Cert.MoeLastIdeal.τ).loc Cert.MoeLastIdeal.main_arg3) = m ((c.tc : Thread Cert.MoeLastIdeal.nD Cert.MoeLastIdeal.τ).loc Cert.MoeLastIdeal.main_arg3)
          ∧ r.2.mem ((c.tc : Thread Cert.MoeLastIdeal.nD Cert.MoeLastIdeal.τ).loc Cert.MoeLastIdeal.main_arg4) = m ((c.tc : Thread Cert.MoeLastIdeal.nD Cert.MoeLastIdeal.τ).loc Cert.MoeLastIdeal.main_arg4)
          ∧ r.2.mem ((c.tc : Thread Cert.MoeLastIdeal.nD Cert.MoeLastIdeal.τ).loc Cert.MoeLastIdeal.main_arg5) = m ((c.tc : Thread Cert.MoeLastIdeal.nD Cert.MoeLastIdeal.τ).loc Cert.MoeLastIdeal.main_arg5))
      ∧ θ_run (Cert.MoeLastRefIdeal.defs (F := Ideal)) (onTc (τ := Cert.MoeLastRefIdeal.τ) (Cert.MoeLastRefIdeal.main (F := Ideal))) ⟨m', fun _ => 0, g'⟩ (fun r => ∀ c : Dev Cert.MoeLastRefIdeal.nD,
          r.2.mem ((c.tc : Thread Cert.MoeLastRefIdeal.nD Cert.MoeLastRefIdeal.τ).loc Cert.MoeLastRefIdeal.main_v37) = v0 c
          ∧ r.2.mem ((c.tc : Thread Cert.MoeLastRefIdeal.nD Cert.MoeLastRefIdeal.τ).loc Cert.MoeLastRefIdeal.main_arg0) = m' ((c.tc : Thread Cert.MoeLastRefIdeal.nD Cert.MoeLastRefIdeal.τ).loc Cert.MoeLastRefIdeal.main_arg0)
          ∧ r.2.mem ((c.tc : Thread Cert.MoeLastRefIdeal.nD Cert.MoeLastRefIdeal.τ).loc Cert.MoeLastRefIdeal.main_arg1) = m' ((c.tc : Thread Cert.MoeLastRefIdeal.nD Cert.MoeLastRefIdeal.τ).loc Cert.MoeLastRefIdeal.main_arg1)
          ∧ r.2.mem ((c.tc : Thread Cert.MoeLastRefIdeal.nD Cert.MoeLastRefIdeal.τ).loc Cert.MoeLastRefIdeal.main_arg2) = m' ((c.tc : Thread Cert.MoeLastRefIdeal.nD Cert.MoeLastRefIdeal.τ).loc Cert.MoeLastRefIdeal.main_arg2)
          ∧ r.2.mem ((c.tc : Thread Cert.MoeLastRefIdeal.nD Cert.MoeLastRefIdeal.τ).loc Cert.MoeLastRefIdeal.main_arg3) = m' ((c.tc : Thread Cert.MoeLastRefIdeal.nD Cert.MoeLastRefIdeal.τ).loc Cert.MoeLastRefIdeal.main_arg3)
          ∧ r.2.mem ((c.tc : Thread Cert.MoeLastRefIdeal.nD Cert.MoeLastRefIdeal.τ).loc Cert.MoeLastRefIdeal.main_arg4) = m' ((c.tc : Thread Cert.MoeLastRefIdeal.nD Cert.MoeLastRefIdeal.τ).loc Cert.MoeLastRefIdeal.main_arg4)
          ∧ r.2.mem ((c.tc : Thread Cert.MoeLastRefIdeal.nD Cert.MoeLastRefIdeal.τ).loc Cert.MoeLastRefIdeal.main_arg5) = m' ((c.tc : Thread Cert.MoeLastRefIdeal.nD Cert.MoeLastRefIdeal.τ).loc Cert.MoeLastRefIdeal.main_arg5))

def Claim : Prop :=
  ∃ (hAttn : Cert.Attn.Facts) (hAttnIdeal : Cert.AttnIdeal.Facts) (hAttnRefIdeal : Cert.AttnRefIdeal.Facts) (hProjIn : Cert.ProjIn.Facts) (hProjInIdeal : Cert.ProjInIdeal.Facts) (hProjInRefIdeal : Cert.ProjInRefIdeal.Facts) (hProjRes : Cert.ProjRes.Facts) (hProjResIdeal : Cert.ProjResIdeal.Facts) (hProjResRefIdeal : Cert.ProjResRefIdeal.Facts) (hProjQ : Cert.ProjQ.Facts) (hProjQIdeal : Cert.ProjQIdeal.Facts) (hProjQRefIdeal : Cert.ProjQRefIdeal.Facts) (hProjK : Cert.ProjK.Facts) (hProjKIdeal : Cert.ProjKIdeal.Facts) (hProjKRefIdeal : Cert.ProjKRefIdeal.Facts) (hProjV : Cert.ProjV.Facts) (hProjVIdeal : Cert.ProjVIdeal.Facts) (hProjVRefIdeal : Cert.ProjVRefIdeal.Facts) (hProjOut : Cert.ProjOut.Facts) (hProjOutIdeal : Cert.ProjOutIdeal.Facts) (hProjOutRefIdeal : Cert.ProjOutRefIdeal.Facts) (hModTab : Cert.ModTab.Facts) (hModTabIdeal : Cert.ModTabIdeal.Facts) (hModTabRefIdeal : Cert.ModTabRefIdeal.Facts) (hNormR : Cert.NormR.Facts) (hNormRIdeal : Cert.NormRIdeal.Facts) (hNormRRefIdeal : Cert.NormRRefIdeal.Facts) (hFfnRes : Cert.FfnRes.Facts) (hFfnResIdeal : Cert.FfnResIdeal.Facts) (hFfnResRefIdeal : Cert.FfnResRefIdeal.Facts) (hModLast : Cert.ModLast.Facts) (hModLastIdeal : Cert.ModLastIdeal.Facts) (hModLastRefIdeal : Cert.ModLastRefIdeal.Facts) (hNormLast : Cert.NormLast.Facts) (hNormLastIdeal : Cert.NormLastIdeal.Facts) (hNormLastRefIdeal : Cert.NormLastRefIdeal.Facts) (hNormMix : Cert.NormMix.Facts) (hNormMixIdeal : Cert.NormMixIdeal.Facts) (hNormMixRefIdeal : Cert.NormMixRefIdeal.Facts) (hFfnMid : Cert.FfnMid.Facts) (hFfnMidIdeal : Cert.FfnMidIdeal.Facts) (hFfnMidRefIdeal : Cert.FfnMidRefIdeal.Facts) (hMoe : Cert.Moe.Facts) (hMoeIdeal : Cert.MoeIdeal.Facts) (hMoeRefIdeal : Cert.MoeRefIdeal.Facts) (hMoeLast : Cert.MoeLast.Facts) (hMoeLastIdeal : Cert.MoeLastIdeal.Facts) (hMoeLastRefIdeal : Cert.MoeLastRefIdeal.Facts) (hPre_attn_pre : Cert.Pre_attn_pre.Facts) (hPre_moe_pre : Cert.Pre_moe_pre.Facts) (hPre_moe_last_pre : Cert.Pre_moe_last_pre.Facts),
    quiescent_Attn (hAttn := hAttn)
    ∧ quiescent_AttnIdeal (hAttnIdeal := hAttnIdeal)
    ∧ quiescent_AttnIdeal_pre_attn_pre (hAttnIdeal := hAttnIdeal) (hPre_attn_pre := hPre_attn_pre)
    ∧ quiescent_AttnRefIdeal (hAttnRefIdeal := hAttnRefIdeal)
    ∧ quiescent_AttnRefIdeal_pre_attn_pre (hAttnRefIdeal := hAttnRefIdeal) (hPre_attn_pre := hPre_attn_pre)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjRes (hProjRes := hProjRes)
    ∧ quiescent_ProjResIdeal (hProjResIdeal := hProjResIdeal)
    ∧ quiescent_ProjResRefIdeal (hProjResRefIdeal := hProjResRefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_ProjK (hProjK := hProjK)
    ∧ quiescent_ProjKIdeal (hProjKIdeal := hProjKIdeal)
    ∧ quiescent_ProjKRefIdeal (hProjKRefIdeal := hProjKRefIdeal)
    ∧ quiescent_ProjV (hProjV := hProjV)
    ∧ quiescent_ProjVIdeal (hProjVIdeal := hProjVIdeal)
    ∧ quiescent_ProjVRefIdeal (hProjVRefIdeal := hProjVRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_ModTab (hModTab := hModTab)
    ∧ quiescent_ModTabIdeal (hModTabIdeal := hModTabIdeal)
    ∧ quiescent_ModTabRefIdeal (hModTabRefIdeal := hModTabRefIdeal)
    ∧ quiescent_NormR (hNormR := hNormR)
    ∧ quiescent_NormRIdeal (hNormRIdeal := hNormRIdeal)
    ∧ quiescent_NormRRefIdeal (hNormRRefIdeal := hNormRRefIdeal)
    ∧ quiescent_FfnRes (hFfnRes := hFfnRes)
    ∧ quiescent_FfnResIdeal (hFfnResIdeal := hFfnResIdeal)
    ∧ quiescent_FfnResRefIdeal (hFfnResRefIdeal := hFfnResRefIdeal)
    ∧ quiescent_ModLast (hModLast := hModLast)
    ∧ quiescent_ModLastIdeal (hModLastIdeal := hModLastIdeal)
    ∧ quiescent_ModLastRefIdeal (hModLastRefIdeal := hModLastRefIdeal)
    ∧ quiescent_NormLast (hNormLast := hNormLast)
    ∧ quiescent_NormLastIdeal (hNormLastIdeal := hNormLastIdeal)
    ∧ quiescent_NormLastRefIdeal (hNormLastRefIdeal := hNormLastRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_Moe (hMoe := hMoe) (hPre_moe_pre := hPre_moe_pre)
    ∧ quiescent_MoeIdeal (hMoeIdeal := hMoeIdeal) (hPre_moe_pre := hPre_moe_pre)
    ∧ quiescent_MoeRefIdeal (hMoeRefIdeal := hMoeRefIdeal)
    ∧ quiescent_MoeRefIdeal_pre_moe_pre (hMoeRefIdeal := hMoeRefIdeal) (hPre_moe_pre := hPre_moe_pre)
    ∧ quiescent_MoeLast (hMoeLast := hMoeLast) (hPre_moe_last_pre := hPre_moe_last_pre)
    ∧ quiescent_MoeLastIdeal (hMoeLastIdeal := hMoeLastIdeal) (hPre_moe_last_pre := hPre_moe_last_pre)
    ∧ quiescent_MoeLastRefIdeal (hMoeLastRefIdeal := hMoeLastRefIdeal)
    ∧ quiescent_MoeLastRefIdeal_pre_moe_last_pre (hMoeLastRefIdeal := hMoeLastRefIdeal) (hPre_moe_last_pre := hPre_moe_last_pre)
    ∧ preserves_Attn_AttnIdeal
    ∧ algebraic_AttnIdeal_AttnRefIdeal_pre_attn_pre (hAttnIdeal := hAttnIdeal) (hAttnRefIdeal := hAttnRefIdeal) (hPre_attn_pre := hPre_attn_pre)
    ∧ preserves_ProjIn_ProjInIdeal
    ∧ algebraic_ProjInIdeal_ProjInRefIdeal (hProjInIdeal := hProjInIdeal) (hProjInRefIdeal := hProjInRefIdeal)
    ∧ preserves_ProjRes_ProjResIdeal
    ∧ algebraic_ProjResIdeal_ProjResRefIdeal (hProjResIdeal := hProjResIdeal) (hProjResRefIdeal := hProjResRefIdeal)
    ∧ preserves_ProjQ_ProjQIdeal
    ∧ algebraic_ProjQIdeal_ProjQRefIdeal (hProjQIdeal := hProjQIdeal) (hProjQRefIdeal := hProjQRefIdeal)
    ∧ preserves_ProjK_ProjKIdeal
    ∧ algebraic_ProjKIdeal_ProjKRefIdeal (hProjKIdeal := hProjKIdeal) (hProjKRefIdeal := hProjKRefIdeal)
    ∧ preserves_ProjV_ProjVIdeal
    ∧ algebraic_ProjVIdeal_ProjVRefIdeal (hProjVIdeal := hProjVIdeal) (hProjVRefIdeal := hProjVRefIdeal)
    ∧ preserves_ProjOut_ProjOutIdeal
    ∧ algebraic_ProjOutIdeal_ProjOutRefIdeal (hProjOutIdeal := hProjOutIdeal) (hProjOutRefIdeal := hProjOutRefIdeal)
    ∧ preserves_ModTab_ModTabIdeal
    ∧ algebraic_ModTabIdeal_ModTabRefIdeal (hModTabIdeal := hModTabIdeal) (hModTabRefIdeal := hModTabRefIdeal)
    ∧ preserves_NormR_NormRIdeal
    ∧ algebraic_NormRIdeal_NormRRefIdeal (hNormRIdeal := hNormRIdeal) (hNormRRefIdeal := hNormRRefIdeal)
    ∧ preserves_FfnRes_FfnResIdeal
    ∧ algebraic_FfnResIdeal_FfnResRefIdeal (hFfnResIdeal := hFfnResIdeal) (hFfnResRefIdeal := hFfnResRefIdeal)
    ∧ preserves_ModLast_ModLastIdeal
    ∧ algebraic_ModLastIdeal_ModLastRefIdeal (hModLastIdeal := hModLastIdeal) (hModLastRefIdeal := hModLastRefIdeal)
    ∧ preserves_NormLast_NormLastIdeal
    ∧ algebraic_NormLastIdeal_NormLastRefIdeal (hNormLastIdeal := hNormLastIdeal) (hNormLastRefIdeal := hNormLastRefIdeal)
    ∧ preserves_NormMix_NormMixIdeal
    ∧ algebraic_NormMixIdeal_NormMixRefIdeal (hNormMixIdeal := hNormMixIdeal) (hNormMixRefIdeal := hNormMixRefIdeal)
    ∧ preserves_FfnMid_FfnMidIdeal
    ∧ algebraic_FfnMidIdeal_FfnMidRefIdeal (hFfnMidIdeal := hFfnMidIdeal) (hFfnMidRefIdeal := hFfnMidRefIdeal)
    ∧ preserves_Moe_MoeIdeal
    ∧ algebraic_MoeIdeal_MoeRefIdeal (hMoeIdeal := hMoeIdeal) (hMoeRefIdeal := hMoeRefIdeal) (hPre_moe_pre := hPre_moe_pre)
    ∧ preserves_MoeLast_MoeLastIdeal
    ∧ algebraic_MoeLastIdeal_MoeLastRefIdeal (hMoeLastIdeal := hMoeLastIdeal) (hMoeLastRefIdeal := hMoeLastRefIdeal) (hPre_moe_last_pre := hPre_moe_last_pre)
-- ==== Pre_attn_pre.lean ====
abbrev S8192x4096 : Shape := ⟨2, ![8192, 4096]⟩
abbrev S8704x1024 : Shape := ⟨2, ![8704, 1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8704x1024 : S_.BroadcastsInDim S8704x1024 (![] : Fin 0 → Fin S8704x1024.rank)
  reducesTo_S8704x1024_S_d0_1 : S8704x1024.ReducesTo [0, 1] S_

variable [Facts]

def fn {F : FTy → Type} [FloatOps F] (main_arg0 : FVec F S8192x4096 .bf16) (main_arg1 : FVec F S8704x1024 .bf16) (main_arg2 : FVec F S8704x1024 .bf16) : IVec S_ 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8704x1024 .bf16 := Host.absf main_arg1
  let main_cst_0 : FVec F S_ .bf16 := constant S_ .bf16 0x7F80#16
  let main_v5 : FVec F S8704x1024 .bf16 := broadcastInDim S8704x1024 ![] bcast_S_S8704x1024 main_cst_0
  let main_v6 : IVec S8704x1024 1 := cmpf .olt main_v4 main_v5
  let main_c_1 : IVec S_ 1 := constantI S_ 1 1#1
  let main_v7 : IVec S_ 1 := (fun x v => Host.reduce IntOp.andi x v reducesTo_S8704x1024_S_d0_1 h_S_) main_v6 main_c_1
  let main_v8 : IVec S_ 1 := andi main_v3 main_v7
  main_v8
-- ==== Pre_moe_last_pre.lean ====
abbrev S80 : Shape := ⟨1, ![80]⟩
abbrev S1 : Shape := ⟨1, ![1]⟩
abbrev S20480x4096 : Shape := ⟨2, ![20480, 4096]⟩
abbrev S16x4096x1024 : Shape := ⟨3, ![16, 4096, 1024]⟩
abbrev S16x1024x4096 : Shape := ⟨3, ![16, 1024, 4096]⟩
abbrev S_ : Shape := ⟨0, ![]⟩

class Facts : Prop where
  bcast_S_S80 : S_.BroadcastsInDim S80 (![] : Fin 0 → Fin S80.rank)

variable [Facts]

def fn {F : FTy → Type} [FloatOps F] (main_arg0 : IVec S80 32) (main_arg1 : IVec S1 32) (main_arg2 : FVec F S20480x4096 .bf16) (main_arg3 : FVec F S16x4096x1024 .bf16) (main_arg4 : FVec F S16x4096x1024 .bf16) (main_arg5 : FVec F S16x1024x4096 .bf16) : IVec S80 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 16#32
  let main_v2 : IVec S80 32 := broadcastInDim S80 ![] bcast_S_S80 main_c_0
  let main_v3 : IVec S80 1 := cmpi .slt main_arg0 main_v2
  let main_v4 : IVec S80 1 := andi main_v1 main_v3
  main_v4
-- ==== Pre_moe_pre.lean ====
abbrev S84 : Shape := ⟨1, ![84]⟩
abbrev S1 : Shape := ⟨1, ![1]⟩
abbrev S21504x4096 : Shape := ⟨2, ![21504, 4096]⟩
abbrev S16x4096x1024 : Shape := ⟨3, ![16, 4096, 1024]⟩
abbrev S16x1024x4096 : Shape := ⟨3, ![16, 1024, 4096]⟩
abbrev S_ : Shape := ⟨0, ![]⟩

class Facts : Prop where
  bcast_S_S84 : S_.BroadcastsInDim S84 (![] : Fin 0 → Fin S84.rank)

variable [Facts]

def fn {F : FTy → Type} [FloatOps F] (main_arg0 : IVec S84 32) (main_arg1 : IVec S1 32) (main_arg2 : FVec F S21504x4096 .bf16) (main_arg3 : FVec F S16x4096x1024 .bf16) (main_arg4 : FVec F S16x4096x1024 .bf16) (main_arg5 : FVec F S16x1024x4096 .bf16) : IVec S84 1 :=
  let main_c : IVec S_ 32 := constantI S_ 32 0#32
  let main_v0 : IVec S84 32 := broadcastInDim S84 ![] bcast_S_S84 main_c
  let main_v1 : IVec S84 1 := cmpi .sge main_arg0 main_v0
  let main_c_0 : IVec S_ 32 := constantI S_ 32 16#32
  let main_v2 : IVec S84 32 := broadcastInDim S84 ![] bcast_S_S84 main_c_0
  let main_v3 : IVec S84 1 := cmpi .slt main_arg0 main_v2
  let main_v4 : IVec S84 1 := andi main_v1 main_v3
  main_v4
-- ==== Attn.lean ====
abbrev S8192x4096 : Shape := ⟨2, ![8192, 4096]⟩
abbrev S8704x1024 : Shape := ⟨2, ![8704, 1024]⟩
abbrev S256x512 : Shape := ⟨2, ![256, 512]⟩
abbrev S4096x128 : Shape := ⟨2, ![4096, 128]⟩
abbrev S256x128 : Shape := ⟨2, ![256, 128]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S8704x1024, .bf16⟩
  | .hbm, ⟨2, _⟩ => ⟨S8704x1024, .bf16⟩
  | .hbm, ⟨3, _⟩ => ⟨S8192x4096, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S8192x4096 : Shape := ⟨2, ![8192, 4096]⟩
abbrev S8704x1024 : Shape := ⟨2, ![8704, 1024]⟩
abbrev S2x4096x8x4x128 : Shape := ⟨5, ![2, 4096, 8, 4, 128]⟩
abbrev S8192x1024 : Shape := ⟨2, ![8192, 1024]⟩
abbrev S2x4096x8x128 : Shape := ⟨4, ![2, 4096, 8, 128]⟩
abbrev S512x1024 : Shape := ⟨2, ![512, 1024]⟩
abbrev S2x256x8x128 : Shape := ⟨4, ![2, 256, 8, 128]⟩
abbrev S2x4352x8x128 : Shape := ⟨4, ![2, 4352, 8, 128]⟩
abbrev S2x8x4352x4096x4 : Shape := ⟨5, ![2, 8, 4352, 4096, 4]⟩
abbrev S2x8x4x4096x4352 : Shape := ⟨5, ![2, 8, 4, 4096, 4352]⟩
abbrev S_ : Shape := ⟨0, ![]⟩
abbrev S2x8x4x4096 : Shape := ⟨4, ![2, 8, 4, 4096]⟩
abbrev S2x8x4x4096x1 : Shape := ⟨5, ![2, 8, 4, 4096, 1]⟩
abbrev S2x8x128x4x4096 : Shape := ⟨5, ![2, 8, 128, 4, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8704x1024, .bf16⟩
  | .hbm, ⟨2, _⟩ => ⟨S8704x1024, .bf16⟩
  | .hbm, ⟨3, _⟩ => ⟨S8192x4096, .f32⟩
  | .hbm, ⟨4, _⟩ => ⟨S8704x1024, .f32⟩
  | .hbm, ⟨5, _⟩ => ⟨S8704x1024, .f32⟩
  | .hbm, ⟨6, _⟩ => ⟨S2x4096x8x4x128, .f32⟩
  | .hbm, ⟨7, _⟩ => ⟨S8192x1024, .f32⟩
  | .hbm, ⟨8, _⟩ => ⟨S2x4096x8x128, .f32⟩
  | .hbm, ⟨9, _⟩ => ⟨S512x1024, .f32⟩
  | .hbm, ⟨10, _⟩ => ⟨S2x256x8x128, .f32⟩
  | .hbm, ⟨11, _⟩ => ⟨S8192x1024, .f32⟩
  | .hbm, ⟨12, _⟩ => ⟨S2x4096x8x128, .f32⟩
  | .hbm, ⟨13, _⟩ => ⟨S512x1024, .f32⟩
  | .hbm, ⟨14, _⟩ => ⟨S2x256x8x128, .f32⟩
  | .hbm, ⟨15, _⟩ => ⟨S2x4352x8x128, .f32⟩
  | .hbm, ⟨16, _⟩ => ⟨S2x4352x8x128, .f32⟩
  | .hbm, ⟨17, _⟩ => ⟨S2x8x4352x4096x4, .f32⟩
  | .hbm, ⟨18, _⟩ => ⟨S2x8x4x4096x4352, .f32⟩
  | .hbm, ⟨19, _⟩ => ⟨S_, .f32⟩
  | .hbm, ⟨20, _⟩ => ⟨S2x8x4x4096, .f32⟩
  | .hbm, ⟨21, _⟩ => ⟨S_, .f32⟩
  | .hbm, ⟨22, _⟩ => ⟨S2x8x4x4096, .f32⟩
  | .hbm, ⟨23, _⟩ => ⟨S2x8x4x4096, .f32⟩
  | .hbm, ⟨24, _⟩ => ⟨S2x8x4x4096x1, .f32⟩
  | .hbm, ⟨25, _⟩ => ⟨S2x8x4x4096x4352, .f32⟩
  | .hbm, ⟨26, _⟩ => ⟨S2x8x4x4096x4352, .f32⟩
  | .hbm, ⟨27, _⟩ => ⟨S2x8x4x4096x4352, .f32⟩
  | .hbm, ⟨28, _⟩ => ⟨S_, .f32⟩
  | .hbm, ⟨29, _⟩ => ⟨S2x8x4x4096, .f32⟩
  | .hbm, ⟨30, _⟩ => ⟨S2x8x4x4096x1, .f32⟩
  | .hbm, ⟨31, _⟩ => ⟨S2x8x4x4096x4352, .f32⟩
  | .hbm, ⟨32, _⟩ => ⟨S2x8x4x4096x4352, .f32⟩
  | .hbm, ⟨33, _⟩ => ⟨S2x8x128x4x4096, .f32⟩
  | .hbm, ⟨34, _⟩ => ⟨S2x4096x8x4x128, .f32⟩
  | .hbm, ⟨35, _⟩ => ⟨S8192x4096, .f32⟩
  | .hbm, ⟨36, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== ProjIn.lean ====
abbrev S8704x4096 : Shape := ⟨2, ![8704, 4096]⟩
abbrev S4096x12768 : Shape := ⟨2, ![4096, 12768]⟩
abbrev S6592 : Shape := ⟨1, ![6592]⟩
abbrev S4096x96 : Shape := ⟨2, ![4096, 96]⟩
abbrev S4096x256 : Shape := ⟨2, ![4096, 256]⟩
abbrev S4096x6144 : Shape := ⟨2, ![4096, 6144]⟩
abbrev S4096x32 : Shape := ⟨2, ![4096, 32]⟩
abbrev S4096x128 : Shape := ⟨2, ![4096, 128]⟩
abbrev S_ : Shape := ⟨0, ![]⟩
abbrev S4096x12800 : Shape := ⟨2, ![4096, 12800]⟩
abbrev S1x6592 : Shape := ⟨2, ![1, 6592]⟩
abbrev S1x256 : Shape := ⟨2, ![1, 256]⟩
abbrev S1x96 : Shape := ⟨2, ![1, 96]⟩
abbrev S1x128 : Shape := ⟨2, ![1, 128]⟩
abbrev S1x512 : Shape := ⟨2, ![1, 512]⟩
abbrev S1x6144 : Shape := ⟨2, ![1, 6144]⟩
abbrev S8704x12800 : Shape := ⟨2, ![8704, 12800]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 31
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x12768, .f32⟩
  | .hbm, ⟨2, _⟩ => ⟨S6592, .f32⟩
  | .hbm, ⟨3, _⟩ => ⟨S4096x96, .f32⟩
  | .hbm, ⟨4, _⟩ => ⟨S4096x96, .f32⟩
  | .hbm, ⟨5, _⟩ => ⟨S4096x256, .f32⟩
  | .hbm, ⟨6, _⟩ => ⟨S4096x6144, .f32⟩
  | .hbm, ⟨7, _⟩ => ⟨S4096x6144, .f32⟩
  | .hbm, ⟨8, _⟩ => ⟨S4096x32, .f32⟩
  | .hbm, ⟨9, _⟩ => ⟨S4096x128, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x12800, .f32⟩
  | .hbm, ⟨17, _⟩ => ⟨S4096x12800, .bf16⟩
  | .hbm, ⟨18, _⟩ => ⟨S1x6592, .f32⟩
  | .hbm, ⟨19, _⟩ => ⟨S1x256, .f32⟩
  | .hbm, ⟨20, _⟩ => ⟨S1x96, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S1x96, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S1x512, .f32⟩
  | .hbm, ⟨29, _⟩ => ⟨S1x6144, .f32⟩
  | .hbm, ⟨30, _⟩ => ⟨S8704x12800, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call3_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInRefIdeal.lean ====
abbrev S8704x4096 : Shape := ⟨2, ![8704, 4096]⟩
abbrev S4096x12768 : Shape := ⟨2, ![4096, 12768]⟩
abbrev S6592 : Shape := ⟨1, ![6592]⟩
abbrev S8704x12768 : Shape := ⟨2, ![8704, 12768]⟩
abbrev S8704x2048 : Shape := ⟨2, ![8704, 2048]⟩
abbrev S8704x96 : Shape := ⟨2, ![8704, 96]⟩
abbrev S8704x256 : Shape := ⟨2, ![8704, 256]⟩
abbrev S8704x1024 : Shape := ⟨2, ![8704, 1024]⟩
abbrev S8704x32 : Shape := ⟨2, ![8704, 32]⟩
abbrev S_ : Shape := ⟨0, ![]⟩
abbrev S8704x12800 : Shape := ⟨2, ![8704, 12800]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x12768, .f32⟩
  | .hbm, ⟨2, _⟩ => ⟨S6592, .f32⟩
  | .hbm, ⟨3, _⟩ => ⟨S8704x4096, .f32⟩
  | .hbm, ⟨4, _⟩ => ⟨S8704x12768, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S8704x96, .f32⟩
  | .hbm, ⟨9, _⟩ => ⟨S8704x96, .f32⟩
  | .hbm, ⟨10, _⟩ => ⟨S8704x256, .f32⟩
  | .hbm, ⟨11, _⟩ => ⟨S8704x1024, .f32⟩
  | .hbm, ⟨12, _⟩ => ⟨S8704x1024, .f32⟩
  | .hbm, ⟨13, _⟩ => ⟨S8704x2048, .f32⟩
  | .hbm, ⟨14, _⟩ => ⟨S8704x2048, .f32⟩
  | .hbm, ⟨15, _⟩ => ⟨S8704x32, .f32⟩
  | .hbm, ⟨16, _⟩ => ⟨S_, .f32⟩
  | .hbm, ⟨17, _⟩ => ⟨S8704x32, .f32⟩
  | .hbm, ⟨18, _⟩ => ⟨S8704x12800, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== ProjRes.lean ====
abbrev S8704x4096 : Shape := ⟨2, ![8704, 4096]⟩
abbrev S4096x4096 : Shape := ⟨2, ![4096, 4096]⟩
abbrev S8x1x24576 : Shape := ⟨3, ![8, 1, 24576]⟩
abbrev S512x4096 : Shape := ⟨2, ![512, 4096]⟩
abbrev S4096x512 : Shape := ⟨2, ![4096, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .f32⟩
  | .hbm, ⟨2, _⟩ => ⟨S8704x4096, .f32⟩
  | .hbm, ⟨3, _⟩ => ⟨S8x1x24576, .f32⟩
  | .hbm, ⟨4, _⟩ => ⟨S4096x4096, .bf16⟩
  | .hbm, ⟨5, _⟩ => ⟨S8704x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c16_i32 : BitVec 32 := 16#32
  let v19 : BitVec 32 := Scalar.addi c16_i32 arg0
  let c0_i32_4 : BitVec 32 := 0#32
  let c0_i32_5 : BitVec 32 := 0#32
  ![v18.toNat, c0_i32_4.toNat, v19.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjResRefIdeal.lean ====
abbrev S8704x4096 : Shape := ⟨2, ![8704, 4096]⟩
abbrev S4096x4096 : Shape := ⟨2, ![4096, 4096]⟩
abbrev S8x1x24576 : Shape := ⟨3, ![8, 1, 24576]⟩
abbrev S2x1x24576 : Shape := ⟨3, ![2, 1, 24576]⟩
abbrev S2x1x4096 : Shape := ⟨3, ![2, 1, 4096]⟩
abbrev S1x1x24576 : Shape := ⟨3, ![1, 1, 24576]⟩
abbrev S1x1x4096 : Shape := ⟨3, ![1, 1, 4096]⟩
abbrev S8192x4096 : Shape := ⟨2, ![8192, 4096]⟩
abbrev S2x4096x4096 : Shape := ⟨3, ![2, 4096, 4096]⟩
abbrev S512x4096 : Shape := ⟨2, ![512, 4096]⟩
abbrev S2x256x4096 : Shape := ⟨3, ![2, 256, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .f32⟩
  | .hbm, ⟨2, _⟩ => ⟨S8704x4096, .f32⟩
  | .hbm, ⟨3, _⟩ => ⟨S8x1x24576, .f32⟩
  | .hbm, ⟨4, _⟩ => ⟨S8704x4096, .f32⟩
  | .hbm, ⟨5, _⟩ => ⟨S8704x4096, .f32⟩
  | .hbm, ⟨6, _⟩ => ⟨S2x1x24576, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S2x1x4096, .f32⟩
  | .hbm, ⟨11, _⟩ => ⟨S2x1x4096, .f32⟩
  | .hbm, ⟨12, _⟩ => ⟨S2x1x4096, .f32⟩
  | .hbm, ⟨13, _⟩ => ⟨S1x1x24576, .f32⟩
  | .hbm, ⟨14, _⟩ => ⟨S1x1x4096, .f32⟩
  | .hbm, ⟨15, _⟩ => ⟨S1x1x4096, .f32⟩
  | .hbm, ⟨16, _⟩ => ⟨S1x1x4096, .f32⟩
  | .hbm, ⟨17, _⟩ => ⟨S1x1x4096, .f32⟩
  | .hbm, ⟨18, _⟩ => ⟨S1x1x4096, .f32⟩
  | .hbm, ⟨19, _⟩ => ⟨S1x1x4096, .f32⟩
  | .hbm, ⟨20, _⟩ => ⟨S8192x4096, .f32⟩
  | .hbm, ⟨21, _⟩ => ⟨S2x4096x4096, .f32⟩
  | .hbm, ⟨22, _⟩ => ⟨S512x4096, .f32⟩
  | .hbm, ⟨23, _⟩ => ⟨S2x256x4096, .f32⟩
  | .hbm, ⟨24, _⟩ => ⟨S8192x4096, .f32⟩
  | .hbm, ⟨25, _⟩ => ⟨S2x4096x4096, .f32⟩
  | .hbm, ⟨26, _⟩ => ⟨S512x4096, .f32⟩
  | .hbm, ⟨27, _⟩ => ⟨S2x256x4096, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S2x256x4096, .f32⟩
  | .hbm, ⟨32, _⟩ => ⟨S2x256x4096, .f32⟩
  | .hbm, ⟨33, _⟩ => ⟨S2x256x4096, .f32⟩
  | .hbm, ⟨34, _⟩ => ⟨S8192x4096, .f32⟩
  | .hbm, ⟨35, _⟩ => ⟨S512x4096, .f32⟩
  | .hbm, ⟨36, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== ProjQ.lean ====
abbrev S8704x4096 : Shape := ⟨2, ![8704, 4096]⟩
abbrev S4096x6144 : Shape := ⟨2, ![4096, 6144]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S512x128 : Shape := ⟨2, ![512, 128]⟩
abbrev S8704x128 : Shape := ⟨2, ![8704, 128]⟩
abbrev S1x128 : Shape := ⟨2, ![1, 128]⟩
abbrev S8192x4096 : Shape := ⟨2, ![8192, 4096]⟩
abbrev S512x4096 : Shape := ⟨2, ![512, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 51
  | .vmem => 11
  | .smem => 0
  | _ => 0

abbrev bufTy : (tb : Table) → Fin (tcTables nBuf tb) → BufTy
  | .hbm, ⟨0, _⟩ => ⟨S8704x4096, .bf16⟩
  | .hbm, ⟨1, _⟩ => ⟨S4096x6144, .f32⟩
  | .hbm, ⟨2, _⟩ => ⟨S128, .f32⟩
  | .hbm, ⟨3, _⟩ => ⟨S64, .i32⟩
  | .hbm, ⟨4, _⟩ => ⟨S64x64, .i32⟩
  | .hbm, ⟨5, _⟩ => ⟨S4096, .i32⟩
  | .hbm, ⟨6, _⟩ => ⟨S4096, .f32⟩
  | .hbm, ⟨7, _⟩ => ⟨S64, .i32⟩
  | .hbm, ⟨8, _⟩ => ⟨S1x64, .i32⟩
  | .hbm, ⟨9, _⟩ => ⟨S64x64, .i32⟩
  | .hbm, ⟨10, _⟩ => ⟨S4096, .i32⟩
  | .hbm, ⟨11, _⟩ => ⟨S4096, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x64, .f32⟩
  | .hbm, ⟨31, _⟩ => ⟨S4096x64, .f32⟩
  | .hbm, ⟨32, _⟩ => ⟨S4096x64, .f32⟩
  | .hbm, ⟨33, _⟩ => ⟨S4096x128, .f32⟩
  | .hbm, ⟨34, _⟩ => ⟨S1x4096x1x128, .f32⟩
  | .hbm, ⟨35, _⟩ => ⟨S2x4096x1x128, .f32⟩
  | .hbm, ⟨36, _⟩ => ⟨S8192x128, .f32⟩
  | .hbm, ⟨37, _⟩ => ⟨S4096x64, .f32⟩
  | .hbm, ⟨38, _⟩ => ⟨S4096x128, .f32⟩
  | .hbm, ⟨39, _⟩ => ⟨S1x4096x1x128, .f32⟩
  | .hbm, ⟨40, _⟩ => ⟨S2x4096x1x128, .f32⟩
  | .hbm, ⟨41, _⟩ => ⟨S8192x128, .f32⟩
  | .hbm, ⟨42, _⟩ => ⟨S_, .f32⟩
  | .hbm, ⟨43, _⟩ => ⟨S512x128, .f32⟩
  | .hbm, ⟨44, _⟩ => ⟨S8704x128, .f32⟩
  | .hbm, ⟨45, _⟩ => ⟨S_, .f32⟩
  | .hbm, ⟨46, _⟩ => ⟨S512x128, .f32⟩
  | .hbm, ⟨47, _⟩ => ⟨S8704x128, .f32⟩
  | .hbm, ⟨48, _⟩ => ⟨S4096x6144, .bf16⟩
  | .hbm, ⟨49, _⟩ => ⟨S1x128, .f32⟩
  | .hbm, ⟨50, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjQIdeal.lean ====
variable {F : FTy → Type} [FloatOps F] [Named F]
def κ : String → Option EReal := fun
  | "inv_sqrt_head" => some (((Real.sqrt 128)⁻¹ : ℝ) : EReal)
  | _ => none
-- ==== ProjQRefIdeal.lean ====
abbrev S8704x4096 : Shape := ⟨2, ![8704, 4096]⟩
abbrev S4096x6144 : Shape := ⟨2, ![4096, 6144]⟩
abbrev S128 : Shape := ⟨1, ![128]⟩
abbrev S8192x4096 : Shape := ⟨2, ![8192, 4096]⟩
abbrev S4096x4096 : Shape := ⟨2, ![4096, 4096]⟩
abbrev S2x4096x32x128 : Shape := ⟨4, ![2, 4096, 32, 128]⟩
abbrev S_ : Shape := ⟨0, ![]⟩
abbrev S2x4096x32 : Shape := ⟨3, ![2, 4096, 32]⟩
abbrev S2x4096x32x1 : Shape := ⟨4, ![2, 4096, 32, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S2x4096x32x64 : Shape := ⟨4, ![2, 4096, 32, 64]⟩

abbrev nBuf : Space → Nat
  | .hbm => 75
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x6144, .f32⟩
  | .hbm, ⟨2, _⟩ => ⟨S128, .f32⟩
  | .hbm, ⟨3, _⟩ => ⟨S8192x4096, .bf16⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S2x4096x32x128, .f32⟩
  | .hbm, ⟨8, _⟩ => ⟨S2x4096x32x128, .f32⟩
  | .hbm, ⟨9, _⟩ => ⟨S_, .f32⟩
  | .hbm, ⟨10, _⟩ => ⟨S2x4096x32, .f32⟩
  | .hbm, ⟨11, _⟩ => ⟨S2x4096x32x1, .f32⟩
  | .hbm, ⟨12, _⟩ => ⟨S_, .f32⟩
  | .hbm, ⟨13, _⟩ => ⟨S2x4096x32x1, .f32⟩
  | .hbm, ⟨14, _⟩ => ⟨S2x4096x32x1, .f32⟩
  | .hbm, ⟨15, _⟩ => ⟨S_, .f32⟩
  | .hbm, ⟨16, _⟩ => ⟨S2x4096x32x1, .f32⟩
  | .hbm, ⟨17, _⟩ => ⟨S2x4096x32x1, .f32⟩
  | .hbm, ⟨18, _⟩ => ⟨S2x4096x32x1, .f32⟩
  | .hbm, ⟨19, _⟩ => ⟨S2x4096x32x128, .f32⟩
  | .hbm, ⟨20, _⟩ => ⟨S2x4096x32x128, .f32⟩
  | .hbm, ⟨21, _⟩ => ⟨S1x1x1x128, .f32⟩
  | .hbm, ⟨22, _⟩ => ⟨S2x4096x32x128, .f32⟩
  | .hbm, ⟨23, _⟩ => ⟨S2x4096x32x128, .f32⟩
  | .hbm, ⟨24, _⟩ => ⟨S64, .i32⟩
  | .hbm, ⟨25, _⟩ => ⟨S64x64, .i32⟩
  | .hbm, ⟨26, _⟩ => ⟨S4096, .i32⟩
  | .hbm, ⟨27, _⟩ => ⟨S4096, .f32⟩
  | .hbm, ⟨28, _⟩ => ⟨S64, .i32⟩
  | .hbm, ⟨29, _⟩ => ⟨S1x64, .i32⟩
  | .hbm, ⟨30, _⟩ => ⟨S64x64, .i32⟩
  | .hbm, ⟨31, _⟩ => ⟨S4096, .i32⟩
  | .hbm, ⟨32, _⟩ => ⟨S4096, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096x1, .f32⟩
  | .hbm, ⟨42, _⟩ => ⟨S1x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x64, .f32⟩
  | .hbm, ⟨52, _⟩ => ⟨S4096x64, .f32⟩
  | .hbm, ⟨53, _⟩ => ⟨S1x4096x1x64, .f32⟩
  | .hbm, ⟨54, _⟩ => ⟨S4096x64, .f32⟩
  | .hbm, ⟨55, _⟩ => ⟨S1x4096x1x64, .f32⟩
  | .hbm, ⟨56, _⟩ => ⟨S2x4096x32x64, .f32⟩
  | .hbm, ⟨57, _⟩ => ⟨S2x4096x32x64, .f32⟩
  | .hbm, ⟨58, _⟩ => ⟨S2x4096x32x64, .f32⟩
  | .hbm, ⟨59, _⟩ => ⟨S2x4096x32x64, .f32⟩
  | .hbm, ⟨60, _⟩ => ⟨S2x4096x32x64, .f32⟩
  | .hbm, ⟨61, _⟩ => ⟨S2x4096x32x64, .f32⟩
  | .hbm, ⟨62, _⟩ => ⟨S2x4096x32x64, .f32⟩
  | .hbm, ⟨63, _⟩ => ⟨S2x4096x32x64, .f32⟩
  | .hbm, ⟨64, _⟩ => ⟨S2x4096x32x64, .f32⟩
  | .hbm, ⟨65, _⟩ => ⟨S2x4096x32x64, .f32⟩
  | .hbm, ⟨66, _⟩ => ⟨S2x4096x32x64, .f32⟩
  | .hbm, ⟨67, _⟩ => ⟨S2x4096x32x64, .f32⟩
  | .hbm, ⟨68, _⟩ => ⟨S2x4096x32x128, .f32⟩
  | .hbm, ⟨69, _⟩ => ⟨S_, .f32⟩
  | .hbm, ⟨70, _⟩ => ⟨S_, .f32⟩
  | .hbm, ⟨71, _⟩ => ⟨S2x4096x32x128, .f32⟩
  | .hbm, ⟨72, _⟩ => ⟨S2x4096x32x128, .f32⟩
  | .hbm, ⟨73, _⟩ => ⟨S8192x4096, .f32⟩
  | .hbm, ⟨74, _⟩ => ⟨S8192x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩

abbrev nD : Nat := 1
abbrev τ : Topo := Topo.v7x

variable {F : FTy → Type} [FloatOps F]
-- ==== ProjK.lean ====
abbrev S8704x4096 : Shape := ⟨2, ![8704, 4096]⟩
abbrev S4096x6144 : Shape := ⟨2, ![4096, 6144]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S512x128 : Shape := ⟨2, ![512, 128]⟩
abbrev S8704x128 : Shape := ⟨2, ![8704, 128]⟩
abbrev S1x128 : Shape := ⟨2, ![1, 128]⟩
abbrev S8704x1024 : Shape := ⟨2, ![8704, 1024]⟩
abbrev S512x4096 : Shape := ⟨2, ![512, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 51
  | .vmem => 11
  | .smem => 0
  | _ => 0

abbrev bufTy : (tb : Table) → Fin (tcTables nBuf tb) → BufTy
  | .hbm, ⟨0, _⟩ => ⟨S8704x4096, .bf16⟩
  | .hbm, ⟨1, _⟩ => ⟨S4096x6144, .f32⟩
  | .hbm, ⟨2, _⟩ => ⟨S128, .f32⟩
  | .hbm, ⟨3, _⟩ => ⟨S64, .i32⟩
  | .hbm, ⟨4, _⟩ => ⟨S64x64, .i32⟩
  | .hbm, ⟨5, _⟩ => ⟨S4096, .i32⟩
  | .hbm, ⟨6, _⟩ => ⟨S4096, .f32⟩
  | .hbm, ⟨7, _⟩ => ⟨S64, .i32⟩
  | .hbm, ⟨8, _⟩ => ⟨S1x64, .i32⟩
  | .hbm, ⟨9, _⟩ => ⟨S64x64, .i32⟩
  | .hbm, ⟨10, _⟩ => ⟨S4096, .i32⟩
  | .hbm, ⟨11, _⟩ => ⟨S4096, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x64, .f32⟩
  | .hbm, ⟨31, _⟩ => ⟨S4096x64, .f32⟩
  | .hbm, ⟨32, _⟩ => ⟨S4096x64, .f32⟩
  | .hbm, ⟨33, _⟩ => ⟨S4096x128, .f32⟩
  | .hbm, ⟨34, _⟩ => ⟨S1x4096x1x128, .f32⟩
  | .hbm, ⟨35, _⟩ => ⟨S2x4096x1x128, .f32⟩
  | .hbm, ⟨36, _⟩ => ⟨S8192x128, .f32⟩
  | .hbm, ⟨37, _⟩ => ⟨S4096x64, .f32⟩
  | .hbm, ⟨38, _⟩ => ⟨S4096x128, .f32⟩
  | .hbm, ⟨39, _⟩ => ⟨S1x4096x1x128, .f32⟩
  | .hbm, ⟨40, _⟩ => ⟨S2x4096x1x128, .f32⟩
  | .hbm, ⟨41, _⟩ => ⟨S8192x128, .f32⟩
  | .hbm, ⟨42, _⟩ => ⟨S_, .f32⟩
  | .hbm, ⟨43, _⟩ => ⟨S512x128, .f32⟩
  | .hbm, ⟨44, _⟩ => ⟨S8704x128, .f32⟩
  | .hbm, ⟨45, _⟩ => ⟨S_, .f32⟩
  | .hbm, ⟨46, _⟩ => ⟨S512x128, .f32⟩
  | .hbm, ⟨47, _⟩ => ⟨S8704x128, .f32⟩
  | .hbm, ⟨48, _⟩ => ⟨S4096x6144, .bf16⟩
  | .hbm, ⟨49, _⟩ => ⟨S1x128, .f32⟩
  | .hbm, ⟨50, _⟩ => ⟨S8704x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjKRefIdeal.lean ====
abbrev S8704x4096 : Shape := ⟨2, ![8704, 4096]⟩
abbrev S4096x6144 : Shape := ⟨2, ![4096, 6144]⟩
abbrev S128 : Shape := ⟨1, ![128]⟩
abbrev S4096x1024 : Shape := ⟨2, ![4096, 1024]⟩
abbrev S8704x1024 : Shape := ⟨2, ![8704, 1024]⟩
abbrev S8704x8x128 : Shape := ⟨3, ![8704, 8, 128]⟩
abbrev S_ : Shape := ⟨0, ![]⟩
abbrev S8704x8 : Shape := ⟨2, ![8704, 8]⟩
abbrev S8704x8x1 : Shape := ⟨3, ![8704, 8, 1]⟩
abbrev S1x1x128 : Shape := ⟨3, ![1, 1, 128]⟩
abbrev S8192x8x128 : Shape := ⟨3, ![8192, 8, 128]⟩
abbrev S2x4096x8x128 : Shape := ⟨4, ![2, 4096, 8, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S8192x1024 : Shape := ⟨2, ![8192, 1024]⟩
abbrev S512x8x128 : Shape := ⟨3, ![512, 8, 128]⟩
abbrev S512x1024 : Shape := ⟨2, ![512, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x6144, .f32⟩
  | .hbm, ⟨2, _⟩ => ⟨S128, .f32⟩
  | .hbm, ⟨3, _⟩ => ⟨S8704x4096, .f32⟩
  | .hbm, ⟨4, _⟩ => ⟨S4096x1024, .f32⟩
  | .hbm, ⟨5, _⟩ => ⟨S8704x1024, .f32⟩
  | .hbm, ⟨6, _⟩ => ⟨S8704x8x128, .f32⟩
  | .hbm, ⟨7, _⟩ => ⟨S8704x8x128, .f32⟩
  | .hbm, ⟨8, _⟩ => ⟨S_, .f32⟩
  | .hbm, ⟨9, _⟩ => ⟨S8704x8, .f32⟩
  | .hbm, ⟨10, _⟩ => ⟨S8704x8x1, .f32⟩
  | .hbm, ⟨11, _⟩ => ⟨S_, .f32⟩
  | .hbm, ⟨12, _⟩ => ⟨S8704x8x1, .f32⟩
  | .hbm, ⟨13, _⟩ => ⟨S8704x8x1, .f32⟩
  | .hbm, ⟨14, _⟩ => ⟨S_, .f32⟩
  | .hbm, ⟨15, _⟩ => ⟨S8704x8x1, .f32⟩
  | .hbm, ⟨16, _⟩ => ⟨S8704x8x1, .f32⟩
  | .hbm, ⟨17, _⟩ => ⟨S8704x8x1, .f32⟩
  | .hbm, ⟨18, _⟩ => ⟨S8704x8x128, .f32⟩
  | .hbm, ⟨19, _⟩ => ⟨S8704x8x128, .f32⟩
  | .hbm, ⟨20, _⟩ => ⟨S1x1x128, .f32⟩
  | .hbm, ⟨21, _⟩ => ⟨S8704x8x128, .f32⟩
  | .hbm, ⟨22, _⟩ => ⟨S8704x8x128, .f32⟩
  | .hbm, ⟨23, _⟩ => ⟨S8192x8x128, .f32⟩
  | .hbm, ⟨24, _⟩ => ⟨S2x4096x8x128, .f32⟩
  | .hbm, ⟨25, _⟩ => ⟨S64, .i32⟩
  | .hbm, ⟨26, _⟩ => ⟨S64x64, .i32⟩
  | .hbm, ⟨27, _⟩ => ⟨S4096, .i32⟩
  | .hbm, ⟨28, _⟩ => ⟨S4096, .f32⟩
  | .hbm, ⟨29, _⟩ => ⟨S64, .i32⟩
  | .hbm, ⟨30, _⟩ => ⟨S1x64, .i32⟩
  | .hbm, ⟨31, _⟩ => ⟨S64x64, .i32⟩
  | .hbm, ⟨32, _⟩ => ⟨S4096, .i32⟩
  | .hbm, ⟨33, _⟩ => ⟨S4096, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x1, .f32⟩
  | .hbm, ⟨48, _⟩ => ⟨S1x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x64, .f32⟩
  | .hbm, ⟨53, _⟩ => ⟨S4096x64, .f32⟩
  | .hbm, ⟨54, _⟩ => ⟨S1x4096x1x64, .f32⟩
  | .hbm, ⟨55, _⟩ => ⟨S4096x64, .f32⟩
  | .hbm, ⟨56, _⟩ => ⟨S1x4096x1x64, .f32⟩
  | .hbm, ⟨57, _⟩ => ⟨S2x4096x8x64, .f32⟩
  | .hbm, ⟨58, _⟩ => ⟨S2x4096x8x64, .f32⟩
  | .hbm, ⟨59, _⟩ => ⟨S2x4096x8x64, .f32⟩
  | .hbm, ⟨60, _⟩ => ⟨S2x4096x8x64, .f32⟩
  | .hbm, ⟨61, _⟩ => ⟨S2x4096x8x64, .f32⟩
  | .hbm, ⟨62, _⟩ => ⟨S2x4096x8x64, .f32⟩
  | .hbm, ⟨63, _⟩ => ⟨S2x4096x8x64, .f32⟩
  | .hbm, ⟨64, _⟩ => ⟨S2x4096x8x64, .f32⟩
  | .hbm, ⟨65, _⟩ => ⟨S2x4096x8x64, .f32⟩
  | .hbm, ⟨66, _⟩ => ⟨S2x4096x8x64, .f32⟩
  | .hbm, ⟨67, _⟩ => ⟨S2x4096x8x64, .f32⟩
  | .hbm, ⟨68, _⟩ => ⟨S2x4096x8x64, .f32⟩
  | .hbm, ⟨69, _⟩ => ⟨S2x4096x8x128, .f32⟩
  | .hbm, ⟨70, _⟩ => ⟨S8192x1024, .f32⟩
  | .hbm, ⟨71, _⟩ => ⟨S512x8x128, .f32⟩
  | .hbm, ⟨72, _⟩ => ⟨S512x1024, .f32⟩
  | .hbm, ⟨73, _⟩ => ⟨S8704x1024, .f32⟩
  | .hbm, ⟨74, _⟩ => ⟨S8704x1024, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩

abbrev nD : Nat := 1
abbrev τ : Topo := Topo.v7x

variable {F : FTy → Type} [FloatOps F]
-- ==== ProjV.lean ====
abbrev S8704x4096 : Shape := ⟨2, ![8704, 4096]⟩
abbrev S4096x6144 : Shape := ⟨2, ![4096, 6144]⟩
abbrev S8704x1024 : Shape := ⟨2, ![8704, 1024]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x6144, .f32⟩
  | .hbm, ⟨2, _⟩ => ⟨S4096x6144, .bf16⟩
  | .hbm, ⟨3, _⟩ => ⟨S8704x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjVRefIdeal.lean ====
abbrev S8704x4096 : Shape := ⟨2, ![8704, 4096]⟩
abbrev S4096x6144 : Shape := ⟨2, ![4096, 6144]⟩
abbrev S4096x1024 : Shape := ⟨2, ![4096, 1024]⟩
abbrev S8704x1024 : Shape := ⟨2, ![8704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x6144, .f32⟩
  | .hbm, ⟨2, _⟩ => ⟨S8704x4096, .f32⟩
  | .hbm, ⟨3, _⟩ => ⟨S4096x1024, .f32⟩
  | .hbm, ⟨4, _⟩ => ⟨S8704x1024, .f32⟩
  | .hbm, ⟨5, _⟩ => ⟨S8704x1024, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjOut.lean ====
abbrev S8192x4096 : Shape := ⟨2, ![8192, 4096]⟩
abbrev S4096x4096 : Shape := ⟨2, ![4096, 4096]⟩
abbrev S8704x4096 : Shape := ⟨2, ![8704, 4096]⟩
abbrev S8x1x24576 : Shape := ⟨3, ![8, 1, 24576]⟩
abbrev S512x4096 : Shape := ⟨2, ![512, 4096]⟩
abbrev S4096x512 : Shape := ⟨2, ![4096, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8704x4096, .f32⟩
  | .hbm, ⟨3, _⟩ => ⟨S8x1x24576, .f32⟩
  | .hbm, ⟨4, _⟩ => ⟨S4096x4096, .bf16⟩
  | .hbm, ⟨5, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c16_i32 : BitVec 32 := 16#32
  let v19 : BitVec 32 := Scalar.addi c16_i32 arg0
  let c0_i32_4 : BitVec 32 := 0#32
  let c0_i32_5 : BitVec 32 := 0#32
  ![v18.toNat, c0_i32_4.toNat, v19.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjOutRefIdeal.lean ====
abbrev S8192x4096 : Shape := ⟨2, ![8192, 4096]⟩
abbrev S4096x4096 : Shape := ⟨2, ![4096, 4096]⟩
abbrev S8704x4096 : Shape := ⟨2, ![8704, 4096]⟩
abbrev S8x1x24576 : Shape := ⟨3, ![8, 1, 24576]⟩
abbrev S2x4096x4096 : Shape := ⟨3, ![2, 4096, 4096]⟩
abbrev S2x1x24576 : Shape := ⟨3, ![2, 1, 24576]⟩
abbrev S2x1x4096 : Shape := ⟨3, ![2, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8704x4096, .f32⟩
  | .hbm, ⟨3, _⟩ => ⟨S8x1x24576, .f32⟩
  | .hbm, ⟨4, _⟩ => ⟨S8192x4096, .f32⟩
  | .hbm, ⟨5, _⟩ => ⟨S8192x4096, .f32⟩
  | .hbm, ⟨6, _⟩ => ⟨S2x4096x4096, .f32⟩
  | .hbm, ⟨7, _⟩ => ⟨S8192x4096, .f32⟩
  | .hbm, ⟨8, _⟩ => ⟨S2x4096x4096, .f32⟩
  | .hbm, ⟨9, _⟩ => ⟨S2x1x24576, .f32⟩
  | .hbm, ⟨10, _⟩ => ⟨S2x1x4096, .f32⟩
  | .hbm, ⟨11, _⟩ => ⟨S2x1x4096, .f32⟩
  | .hbm, ⟨12, _⟩ => ⟨S2x1x4096, .f32⟩
  | .hbm, ⟨13, _⟩ => ⟨S2x1x4096, .f32⟩
  | .hbm, ⟨14, _⟩ => ⟨S2x1x4096, .f32⟩
  | .hbm, ⟨15, _⟩ => ⟨S2x1x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== ModTab.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModTabRefIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩

abbrev nBuf : Space → Nat
  | .hbm => 20
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== NormR.lean ====
abbrev S8704x4096 : Shape := ⟨2, ![8704, 4096]⟩
abbrev S4096 : Shape := ⟨1, ![4096]⟩
abbrev S8x1x24576 : Shape := ⟨3, ![8, 1, 24576]⟩
abbrev S4096x16 : Shape := ⟨2, ![4096, 16]⟩
abbrev S_ : Shape := ⟨0, ![]⟩
abbrev S4096x128 : Shape := ⟨2, ![4096, 128]⟩
abbrev S1x4096 : Shape := ⟨2, ![1, 4096]⟩
abbrev S8704x128 : Shape := ⟨2, ![8704, 128]⟩
abbrev S256x4096 : Shape := ⟨2, ![256, 4096]⟩
abbrev S1x1x4096 : Shape := ⟨3, ![1, 1, 4096]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8x1x24576, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S1x4096, .f32⟩
  | .hbm, ⟨8, _⟩ => ⟨S8704x4096, .bf16⟩
  | .hbm, ⟨9, _⟩ => ⟨S8704x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x128, .f32⟩
  | .local _ .vmem, ⟨8, _⟩ => ⟨S256x4096, .bf16⟩
  | .local _ .vmem, ⟨9, _⟩ => ⟨S256x4096, .bf16⟩
  | .local _ .vmem, ⟨10, _⟩ => ⟨S256x128, .f32⟩
  | .local _ .vmem, ⟨11, _⟩ => ⟨S256x128, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c4_i32 : BitVec 32 := 4#32
  let c0_i32_5 : BitVec 32 := 0#32
  ![v18.toNat, c0_i32_4.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRRefIdeal.lean ====
abbrev S8704x4096 : Shape := ⟨2, ![8704, 4096]⟩
abbrev S4096 : Shape := ⟨1, ![4096]⟩
abbrev S8x1x24576 : Shape := ⟨3, ![8, 1, 24576]⟩
abbrev S4096x16 : Shape := ⟨2, ![4096, 16]⟩
abbrev S8x1x4096 : Shape := ⟨3, ![8, 1, 4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S8192x4096 : Shape := ⟨2, ![8192, 4096]⟩
abbrev S2x4096x4096 : Shape := ⟨3, ![2, 4096, 4096]⟩
abbrev S2x1x4096 : Shape := ⟨3, ![2, 1, 4096]⟩
abbrev S512x4096 : Shape := ⟨2, ![512, 4096]⟩
abbrev S1x1x4096 : Shape := ⟨3, ![1, 1, 4096]⟩
abbrev S8704x16 : Shape := ⟨2, ![8704, 16]⟩
abbrev S8704x128 : Shape := ⟨2, ![8704, 128]⟩

abbrev nBuf : Space → Nat
  | .hbm => 52
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8x1x24576, .f32⟩
  | .hbm, ⟨3, _⟩ => ⟨S4096x16, .f32⟩
  | .hbm, ⟨4, _⟩ => ⟨S8x1x4096, .f32⟩
  | .hbm, ⟨5, _⟩ => ⟨S8x1x4096, .f32⟩
  | .hbm, ⟨6, _⟩ => ⟨S8704x4096, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x4096, .f32⟩
  | .hbm, ⟨18, _⟩ => ⟨S8704x4096, .f32⟩
  | .hbm, ⟨19, _⟩ => ⟨S1x4096, .f32⟩
  | .hbm, ⟨20, _⟩ => ⟨S8704x4096, .f32⟩
  | .hbm, ⟨21, _⟩ => ⟨S8704x4096, .f32⟩
  | .hbm, ⟨22, _⟩ => ⟨S8192x4096, .f32⟩
  | .hbm, ⟨23, _⟩ => ⟨S2x4096x4096, .f32⟩
  | .hbm, ⟨24, _⟩ => ⟨S2x1x4096, .f32⟩
  | .hbm, ⟨25, _⟩ => ⟨S_, .f32⟩
  | .hbm, ⟨26, _⟩ => ⟨S2x1x4096, .f32⟩
  | .hbm, ⟨27, _⟩ => ⟨S2x1x4096, .f32⟩
  | .hbm, ⟨28, _⟩ => ⟨S2x4096x4096, .f32⟩
  | .hbm, ⟨29, _⟩ => ⟨S2x4096x4096, .f32⟩
  | .hbm, ⟨30, _⟩ => ⟨S2x1x4096, .f32⟩
  | .hbm, ⟨31, _⟩ => ⟨S2x4096x4096, .f32⟩
  | .hbm, ⟨32, _⟩ => ⟨S2x4096x4096, .f32⟩
  | .hbm, ⟨33, _⟩ => ⟨S512x4096, .f32⟩
  | .hbm, ⟨34, _⟩ => ⟨S1x1x4096, .f32⟩
  | .hbm, ⟨35, _⟩ => ⟨S1x4096, .f32⟩
  | .hbm, ⟨36, _⟩ => ⟨S_, .f32⟩
  | .hbm, ⟨37, _⟩ => ⟨S1x4096, .f32⟩
  | .hbm, ⟨38, _⟩ => ⟨S1x4096, .f32⟩
  | .hbm, ⟨39, _⟩ => ⟨S512x4096, .f32⟩
  | .hbm, ⟨40, _⟩ => ⟨S512x4096, .f32⟩
  | .hbm, ⟨41, _⟩ => ⟨S1x1x4096, .f32⟩
  | .hbm, ⟨42, _⟩ => ⟨S1x4096, .f32⟩
  | .hbm, ⟨43, _⟩ => ⟨S512x4096, .f32⟩
  | .hbm, ⟨44, _⟩ => ⟨S512x4096, .f32⟩
  | .hbm, ⟨45, _⟩ => ⟨S8192x4096, .f32⟩
  | .hbm, ⟨46, _⟩ => ⟨S8704x4096, .f32⟩
  | .hbm, ⟨47, _⟩ => ⟨S8704x4096, .bf16⟩
  | .hbm, ⟨48, _⟩ => ⟨S8704x16, .f32⟩
  | .hbm, ⟨49, _⟩ => ⟨S_, .i32⟩
  | .hbm, ⟨50, _⟩ => ⟨S_, .f32⟩
  | .hbm, ⟨51, _⟩ => ⟨S8704x128, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c : Ref sig .tc := ⟨.hbm, 49, rfl⟩
abbrev main_call0_v0 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== FfnRes.lean ====
abbrev S8192x4096 : Shape := ⟨2, ![8192, 4096]⟩
abbrev S8192x2 : Shape := ⟨2, ![8192, 2]⟩
abbrev S8x1x24576 : Shape := ⟨3, ![8, 1, 24576]⟩
abbrev S4096 : Shape := ⟨1, ![4096]⟩
abbrev S1x4096 : Shape := ⟨2, ![1, 4096]⟩
abbrev S256x4096 : Shape := ⟨2, ![256, 4096]⟩
abbrev S256x2 : Shape := ⟨2, ![256, 2]⟩
abbrev S1x1x4096 : Shape := ⟨3, ![1, 1, 4096]⟩
abbrev S256x1 : Shape := ⟨2, ![256, 1]⟩
abbrev S256 : Shape := ⟨1, ![256]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x2, .f32⟩
  | .hbm, ⟨4, _⟩ => ⟨S8x1x24576, .f32⟩
  | .hbm, ⟨5, _⟩ => ⟨S4096, .f32⟩
  | .hbm, ⟨6, _⟩ => ⟨S1x4096, .f32⟩
  | .hbm, ⟨7, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x2, .f32⟩
  | .local _ .vmem, ⟨7, _⟩ => ⟨S256x2, .f32⟩
  | .local _ .vmem, ⟨8, _⟩ => ⟨S1x1x4096, .f32⟩
  | .local _ .vmem, ⟨9, _⟩ => ⟨S1x1x4096, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnResRefIdeal.lean ====
abbrev S8192x4096 : Shape := ⟨2, ![8192, 4096]⟩
abbrev S8192x2 : Shape := ⟨2, ![8192, 2]⟩
abbrev S8x1x24576 : Shape := ⟨3, ![8, 1, 24576]⟩
abbrev S4096 : Shape := ⟨1, ![4096]⟩
abbrev S8192x1 : Shape := ⟨2, ![8192, 1]⟩
abbrev S2x4096x4096 : Shape := ⟨3, ![2, 4096, 4096]⟩
abbrev S2x1x4096 : Shape := ⟨3, ![2, 1, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x2, .f32⟩
  | .hbm, ⟨4, _⟩ => ⟨S8x1x24576, .f32⟩
  | .hbm, ⟨5, _⟩ => ⟨S4096, .f32⟩
  | .hbm, ⟨6, _⟩ => ⟨S8192x1, .f32⟩
  | .hbm, ⟨7, _⟩ => ⟨S8192x4096, .f32⟩
  | .hbm, ⟨8, _⟩ => ⟨S8192x4096, .f32⟩
  | .hbm, ⟨9, _⟩ => ⟨S8192x1, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S2x4096x4096, .f32⟩
  | .hbm, ⟨14, _⟩ => ⟨S2x1x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x4096, .f32⟩
  | .hbm, ⟨31, _⟩ => ⟨S2x4096x4096, .f32⟩
  | .hbm, ⟨32, _⟩ => ⟨S1x1x4096, .f32⟩
  | .hbm, ⟨33, _⟩ => ⟨S2x4096x4096, .f32⟩
  | .hbm, ⟨34, _⟩ => ⟨S2x4096x4096, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== ModLast.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModLastRefIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩

abbrev nBuf : Space → Nat
  | .hbm => 20
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== NormLast.lean ====
abbrev S8192x4096 : Shape := ⟨2, ![8192, 4096]⟩
abbrev S4096 : Shape := ⟨1, ![4096]⟩
abbrev S8x1x24576 : Shape := ⟨3, ![8, 1, 24576]⟩
abbrev S4096x16 : Shape := ⟨2, ![4096, 16]⟩
abbrev S_ : Shape := ⟨0, ![]⟩
abbrev S4096x128 : Shape := ⟨2, ![4096, 128]⟩
abbrev S1x4096 : Shape := ⟨2, ![1, 4096]⟩
abbrev S8192x128 : Shape := ⟨2, ![8192, 128]⟩
abbrev S256x4096 : Shape := ⟨2, ![256, 4096]⟩
abbrev S1x1x4096 : Shape := ⟨3, ![1, 1, 4096]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x1x24576, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S1x4096, .f32⟩
  | .hbm, ⟨8, _⟩ => ⟨S8192x4096, .bf16⟩
  | .hbm, ⟨9, _⟩ => ⟨S8192x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x128, .f32⟩
  | .local _ .vmem, ⟨8, _⟩ => ⟨S256x4096, .bf16⟩
  | .local _ .vmem, ⟨9, _⟩ => ⟨S256x4096, .bf16⟩
  | .local _ .vmem, ⟨10, _⟩ => ⟨S256x128, .f32⟩
  | .local _ .vmem, ⟨11, _⟩ => ⟨S256x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c4_i32 : BitVec 32 := 4#32
  let c0_i32_5 : BitVec 32 := 0#32
  ![v18.toNat, c0_i32_4.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormLastRefIdeal.lean ====
abbrev S8192x4096 : Shape := ⟨2, ![8192, 4096]⟩
abbrev S4096 : Shape := ⟨1, ![4096]⟩
abbrev S8x1x24576 : Shape := ⟨3, ![8, 1, 24576]⟩
abbrev S4096x16 : Shape := ⟨2, ![4096, 16]⟩
abbrev S2x1x4096 : Shape := ⟨3, ![2, 1, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S2x4096x4096 : Shape := ⟨3, ![2, 4096, 4096]⟩
abbrev S8192x16 : Shape := ⟨2, ![8192, 16]⟩
abbrev S8192x128 : Shape := ⟨2, ![8192, 128]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x1x24576, .f32⟩
  | .hbm, ⟨3, _⟩ => ⟨S4096x16, .f32⟩
  | .hbm, ⟨4, _⟩ => ⟨S2x1x4096, .f32⟩
  | .hbm, ⟨5, _⟩ => ⟨S2x1x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S2x4096x4096, .f32⟩
  | .hbm, ⟨23, _⟩ => ⟨S_, .f32⟩
  | .hbm, ⟨24, _⟩ => ⟨S2x1x4096, .f32⟩
  | .hbm, ⟨25, _⟩ => ⟨S2x1x4096, .f32⟩
  | .hbm, ⟨26, _⟩ => ⟨S2x4096x4096, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S8192x4096, .f32⟩
  | .hbm, ⟨31, _⟩ => ⟨S8192x4096, .bf16⟩
  | .hbm, ⟨32, _⟩ => ⟨S8192x16, .f32⟩
  | .hbm, ⟨33, _⟩ => ⟨S_, .i32⟩
  | .hbm, ⟨34, _⟩ => ⟨S_, .f32⟩
  | .hbm, ⟨35, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== NormMix.lean ====
abbrev S8704x4096 : Shape := ⟨2, ![8704, 4096]⟩
abbrev S4096 : Shape := ⟨1, ![4096]⟩
abbrev S8x1x24576 : Shape := ⟨3, ![8, 1, 24576]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8x1x24576, .f32⟩
  | .hbm, ⟨3, _⟩ => ⟨S1x4096, .f32⟩
  | .hbm, ⟨4, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormMixRefIdeal.lean ====
abbrev S8704x4096 : Shape := ⟨2, ![8704, 4096]⟩
abbrev S4096 : Shape := ⟨1, ![4096]⟩
abbrev S8x1x24576 : Shape := ⟨3, ![8, 1, 24576]⟩
abbrev S8x1x4096 : Shape := ⟨3, ![8, 1, 4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S8192x4096 : Shape := ⟨2, ![8192, 4096]⟩
abbrev S2x4096x4096 : Shape := ⟨3, ![2, 4096, 4096]⟩
abbrev S2x1x4096 : Shape := ⟨3, ![2, 1, 4096]⟩
abbrev S512x4096 : Shape := ⟨2, ![512, 4096]⟩
abbrev S1x1x4096 : Shape := ⟨3, ![1, 1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8x1x24576, .f32⟩
  | .hbm, ⟨3, _⟩ => ⟨S8x1x4096, .f32⟩
  | .hbm, ⟨4, _⟩ => ⟨S8x1x4096, .f32⟩
  | .hbm, ⟨5, _⟩ => ⟨S8704x4096, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x4096, .f32⟩
  | .hbm, ⟨17, _⟩ => ⟨S8704x4096, .f32⟩
  | .hbm, ⟨18, _⟩ => ⟨S1x4096, .f32⟩
  | .hbm, ⟨19, _⟩ => ⟨S8704x4096, .f32⟩
  | .hbm, ⟨20, _⟩ => ⟨S8704x4096, .f32⟩
  | .hbm, ⟨21, _⟩ => ⟨S8192x4096, .f32⟩
  | .hbm, ⟨22, _⟩ => ⟨S2x4096x4096, .f32⟩
  | .hbm, ⟨23, _⟩ => ⟨S2x1x4096, .f32⟩
  | .hbm, ⟨24, _⟩ => ⟨S_, .f32⟩
  | .hbm, ⟨25, _⟩ => ⟨S2x1x4096, .f32⟩
  | .hbm, ⟨26, _⟩ => ⟨S2x1x4096, .f32⟩
  | .hbm, ⟨27, _⟩ => ⟨S2x4096x4096, .f32⟩
  | .hbm, ⟨28, _⟩ => ⟨S2x4096x4096, .f32⟩
  | .hbm, ⟨29, _⟩ => ⟨S2x1x4096, .f32⟩
  | .hbm, ⟨30, _⟩ => ⟨S2x4096x4096, .f32⟩
  | .hbm, ⟨31, _⟩ => ⟨S2x4096x4096, .f32⟩
  | .hbm, ⟨32, _⟩ => ⟨S512x4096, .f32⟩
  | .hbm, ⟨33, _⟩ => ⟨S1x1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S512x4096, .f32⟩
  | .hbm, ⟨39, _⟩ => ⟨S512x4096, .f32⟩
  | .hbm, ⟨40, _⟩ => ⟨S1x1x4096, .f32⟩
  | .hbm, ⟨41, _⟩ => ⟨S1x4096, .f32⟩
  | .hbm, ⟨42, _⟩ => ⟨S512x4096, .f32⟩
  | .hbm, ⟨43, _⟩ => ⟨S512x4096, .f32⟩
  | .hbm, ⟨44, _⟩ => ⟨S8192x4096, .f32⟩
  | .hbm, ⟨45, _⟩ => ⟨S8704x4096, .f32⟩
  | .hbm, ⟨46, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== FfnMid.lean ====
abbrev S8704x4096 : Shape := ⟨2, ![8704, 4096]⟩
abbrev S8704x2 : Shape := ⟨2, ![8704, 2]⟩
abbrev S8x1x24576 : Shape := ⟨3, ![8, 1, 24576]⟩
abbrev S256x4096 : Shape := ⟨2, ![256, 4096]⟩
abbrev S256x2 : Shape := ⟨2, ![256, 2]⟩
abbrev S1x1x4096 : Shape := ⟨3, ![1, 1, 4096]⟩
abbrev S256x1 : Shape := ⟨2, ![256, 1]⟩
abbrev S1x4096 : Shape := ⟨2, ![1, 4096]⟩

abbrev nBuf : Space → Nat
  | .hbm => 6
  | .vmem => 12
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S8704x4096, .f32⟩
  | .hbm, ⟨3, _⟩ => ⟨S8704x2, .f32⟩
  | .hbm, ⟨4, _⟩ => ⟨S8x1x24576, .f32⟩
  | .hbm, ⟨5, _⟩ => ⟨S8704x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x2, .f32⟩
  | .local _ .vmem, ⟨7, _⟩ => ⟨S256x2, .f32⟩
  | .local _ .vmem, ⟨8, _⟩ => ⟨S1x1x4096, .f32⟩
  | .local _ .vmem, ⟨9, _⟩ => ⟨S1x1x4096, .f32⟩
  | .local _ .vmem, ⟨10, _⟩ => ⟨S256x4096, .f32⟩
  | .local _ .vmem, ⟨11, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnMidRefIdeal.lean ====
abbrev S8704x4096 : Shape := ⟨2, ![8704, 4096]⟩
abbrev S8704x2 : Shape := ⟨2, ![8704, 2]⟩
abbrev S8x1x24576 : Shape := ⟨3, ![8, 1, 24576]⟩
abbrev S8704x1 : Shape := ⟨2, ![8704, 1]⟩
abbrev S8x1x4096 : Shape := ⟨3, ![8, 1, 4096]⟩
abbrev S8192x4096 : Shape := ⟨2, ![8192, 4096]⟩
abbrev S2x4096x4096 : Shape := ⟨3, ![2, 4096, 4096]⟩
abbrev S2x1x4096 : Shape := ⟨3, ![2, 1, 4096]⟩
abbrev S512x4096 : Shape := ⟨2, ![512, 4096]⟩
abbrev S1x1x4096 : Shape := ⟨3, ![1, 1, 4096]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S8704x4096, .f32⟩
  | .hbm, ⟨3, _⟩ => ⟨S8704x2, .f32⟩
  | .hbm, ⟨4, _⟩ => ⟨S8x1x24576, .f32⟩
  | .hbm, ⟨5, _⟩ => ⟨S8704x1, .f32⟩
  | .hbm, ⟨6, _⟩ => ⟨S8704x4096, .f32⟩
  | .hbm, ⟨7, _⟩ => ⟨S8704x4096, .f32⟩
  | .hbm, ⟨8, _⟩ => ⟨S8704x1, .f32⟩
  | .hbm, ⟨9, _⟩ => ⟨S8704x4096, .f32⟩
  | .hbm, ⟨10, _⟩ => ⟨S8704x4096, .f32⟩
  | .hbm, ⟨11, _⟩ => ⟨S8704x4096, .f32⟩
  | .hbm, ⟨12, _⟩ => ⟨S8x1x4096, .f32⟩
  | .hbm, ⟨13, _⟩ => ⟨S8192x4096, .f32⟩
  | .hbm, ⟨14, _⟩ => ⟨S2x4096x4096, .f32⟩
  | .hbm, ⟨15, _⟩ => ⟨S2x1x4096, .f32⟩
  | .hbm, ⟨16, _⟩ => ⟨S8192x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S512x4096, .f32⟩
  | .hbm, ⟨22, _⟩ => ⟨S1x1x4096, .f32⟩
  | .hbm, ⟨23, _⟩ => ⟨S1x4096, .f32⟩
  | .hbm, ⟨24, _⟩ => ⟨S512x4096, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S8192x4096, .f32⟩
  | .hbm, ⟨29, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Moe.lean ====
abbrev S84 : Shape := ⟨1, ![84]⟩
abbrev S1 : Shape := ⟨1, ![1]⟩
abbrev S21504x4096 : Shape := ⟨2, ![21504, 4096]⟩
abbrev S16x4096x1024 : Shape := ⟨3, ![16, 4096, 1024]⟩
abbrev S16x1024x4096 : Shape := ⟨3, ![16, 1024, 4096]⟩
abbrev S256x4096 : Shape := ⟨2, ![256, 4096]⟩
abbrev S1x4096x512 : Shape := ⟨3, ![1, 4096, 512]⟩
abbrev S1x512x4096 : Shape := ⟨3, ![1, 512, 4096]⟩
abbrev S4096x512 : Shape := ⟨2, ![4096, 512]⟩
abbrev S256x512 : Shape := ⟨2, ![256, 512]⟩
abbrev S512x4096 : Shape := ⟨2, ![512, 4096]⟩

abbrev nBuf : Space → Nat
  | .hbm => 5
  | .vmem => 10
  | .smem => 2
  | _ => 0

abbrev bufTy : (tb : Table) → Fin (tcTables nBuf tb) → BufTy
  | .hbm, ⟨0, _⟩ => ⟨S21504x4096, .bf16⟩
  | .hbm, ⟨1, _⟩ => ⟨S16x4096x1024, .bf16⟩
  | .hbm, ⟨2, _⟩ => ⟨S16x4096x1024, .bf16⟩
  | .hbm, ⟨3, _⟩ => ⟨S16x1024x4096, .bf16⟩
  | .hbm, ⟨4, _⟩ => ⟨S21504x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x4096, .bf16⟩
  | .local _ .vmem, ⟨7, _⟩ => ⟨S1x512x4096, .bf16⟩
  | .local _ .vmem, ⟨8, _⟩ => ⟨S256x4096, .f32⟩
  | .local _ .vmem, ⟨9, _⟩ => ⟨S256x4096, .f32⟩
  | .local _ .smem, ⟨0, _⟩ => ⟨S84, .i32⟩
  | .local _ .smem, ⟨1, _⟩ => ⟨S1, .i32⟩
  | _, _ => ⟨S21504x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![84, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_15 : BitVec 32 := 0#32
  let v23 : BitVec 1 := Scalar.cmpi .eq arg1 c0_i32_15
  let v24 : BitVec 32 := Scalar.extui v23
  let c0_i32_16 : BitVec 32 := 0#32
  let v25 : BitVec 1 := Scalar.cmpi .ne v24 c0_i32_16
  v25

def k0_cond3 (i : grid0.Coords) : BitVec 1 :=
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .ne v27 c0_i32_18
  v28

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S84.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S84.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S84.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeIdeal.lean ====
abbrev S84 : Shape := ⟨1, ![84]⟩
abbrev S1 : Shape := ⟨1, ![1]⟩
abbrev S21504x4096 : Shape := ⟨2, ![21504, 4096]⟩
abbrev S16x4096x1024 : Shape := ⟨3, ![16, 4096, 1024]⟩
abbrev S16x1024x4096 : Shape := ⟨3, ![16, 1024, 4096]⟩
abbrev S256x4096 : Shape := ⟨2, ![256, 4096]⟩
abbrev S1x4096x512 : Shape := ⟨3, ![1, 4096, 512]⟩
abbrev S1x512x4096 : Shape := ⟨3, ![1, 512, 4096]⟩
abbrev S4096x512 : Shape := ⟨2, ![4096, 512]⟩
abbrev S256x512 : Shape := ⟨2, ![256, 512]⟩
abbrev S512x4096 : Shape := ⟨2, ![512, 4096]⟩

abbrev nBuf : Space → Nat
  | .hbm => 5
  | .vmem => 10
  | .smem => 2
  | _ => 0

abbrev bufTy : (tb : Table) → Fin (tcTables nBuf tb) → BufTy
  | .hbm, ⟨0, _⟩ => ⟨S21504x4096, .bf16⟩
  | .hbm, ⟨1, _⟩ => ⟨S16x4096x1024, .bf16⟩
  | .hbm, ⟨2, _⟩ => ⟨S16x4096x1024, .bf16⟩
  | .hbm, ⟨3, _⟩ => ⟨S16x1024x4096, .bf16⟩
  | .hbm, ⟨4, _⟩ => ⟨S21504x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x4096, .bf16⟩
  | .local _ .vmem, ⟨7, _⟩ => ⟨S1x512x4096, .bf16⟩
  | .local _ .vmem, ⟨8, _⟩ => ⟨S256x4096, .f32⟩
  | .local _ .vmem, ⟨9, _⟩ => ⟨S256x4096, .f32⟩
  | .local _ .smem, ⟨0, _⟩ => ⟨S84, .i32⟩
  | .local _ .smem, ⟨1, _⟩ => ⟨S1, .i32⟩
  | _, _ => ⟨S21504x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![84, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_15 : BitVec 32 := 0#32
  let v23 : BitVec 1 := Scalar.cmpi .eq arg1 c0_i32_15
  let v24 : BitVec 32 := Scalar.extui v23
  let c0_i32_16 : BitVec 32 := 0#32
  let v25 : BitVec 1 := Scalar.cmpi .ne v24 c0_i32_16
  v25

def k0_cond3 (i : grid0.Coords) : BitVec 1 :=
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .ne v27 c0_i32_18
  v28

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S84.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S84.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S84.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S84 : Shape := ⟨1, ![84]⟩
abbrev S1 : Shape := ⟨1, ![1]⟩
abbrev S21504x4096 : Shape := ⟨2, ![21504, 4096]⟩
abbrev S16x4096x1024 : Shape := ⟨3, ![16, 4096, 1024]⟩
abbrev S16x1024x4096 : Shape := ⟨3, ![16, 1024, 4096]⟩
abbrev S84x256x4096 : Shape := ⟨3, ![84, 256, 4096]⟩
abbrev S_ : Shape := ⟨0, ![]⟩
abbrev S84x1 : Shape := ⟨2, ![84, 1]⟩
abbrev S84x4096x1024 : Shape := ⟨3, ![84, 4096, 1024]⟩
abbrev S84x256x1024 : Shape := ⟨3, ![84, 256, 1024]⟩
abbrev S84x1024x4096 : Shape := ⟨3, ![84, 1024, 4096]⟩
abbrev S84x1x1 : Shape := ⟨3, ![84, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S84, .i32⟩
  | .hbm, ⟨1, _⟩ => ⟨S1, .i32⟩
  | .hbm, ⟨2, _⟩ => ⟨S21504x4096, .bf16⟩
  | .hbm, ⟨3, _⟩ => ⟨S16x4096x1024, .bf16⟩
  | .hbm, ⟨4, _⟩ => ⟨S16x4096x1024, .bf16⟩
  | .hbm, ⟨5, _⟩ => ⟨S16x1024x4096, .bf16⟩
  | .hbm, ⟨6, _⟩ => ⟨S21504x4096, .f32⟩
  | .hbm, ⟨7, _⟩ => ⟨S16x4096x1024, .f32⟩
  | .hbm, ⟨8, _⟩ => ⟨S16x4096x1024, .f32⟩
  | .hbm, ⟨9, _⟩ => ⟨S16x1024x4096, .f32⟩
  | .hbm, ⟨10, _⟩ => ⟨S84x256x4096, .f32⟩
  | .hbm, ⟨11, _⟩ => ⟨S_, .i32⟩
  | .hbm, ⟨12, _⟩ => ⟨S84, .i32⟩
  | .hbm, ⟨13, _⟩ => ⟨S84, .i1⟩
  | .hbm, ⟨14, _⟩ => ⟨S_, .i32⟩
  | .hbm, ⟨15, _⟩ => ⟨S84, .i32⟩
  | .hbm, ⟨16, _⟩ => ⟨S84, .i32⟩
  | .hbm, ⟨17, _⟩ => ⟨S84, .i32⟩
  | .hbm, ⟨18, _⟩ => ⟨S84x1, .i32⟩
  | .hbm, ⟨19, _⟩ => ⟨S84x4096x1024, .f32⟩
  | .hbm, ⟨20, _⟩ => ⟨S84x256x1024, .f32⟩
  | .hbm, ⟨21, _⟩ => ⟨S_, .i32⟩
  | .hbm, ⟨22, _⟩ => ⟨S84, .i32⟩
  | .hbm, ⟨23, _⟩ => ⟨S84, .i1⟩
  | .hbm, ⟨24, _⟩ => ⟨S_, .i32⟩
  | .hbm, ⟨25, _⟩ => ⟨S84, .i32⟩
  | .hbm, ⟨26, _⟩ => ⟨S84, .i32⟩
  | .hbm, ⟨27, _⟩ => ⟨S84, .i32⟩
  | .hbm, ⟨28, _⟩ => ⟨S84x1, .i32⟩
  | .hbm, ⟨29, _⟩ => ⟨S84x4096x1024, .f32⟩
  | .hbm, ⟨30, _⟩ => ⟨S84x256x1024, .f32⟩
  | .hbm, ⟨31, _⟩ => ⟨S84x256x1024, .f32⟩
  | .hbm, ⟨32, _⟩ => ⟨S84x256x1024, .f32⟩
  | .hbm, ⟨33, _⟩ => ⟨S_, .f32⟩
  | .hbm, ⟨34, _⟩ => ⟨S84x256x1024, .f32⟩
  | .hbm, ⟨35, _⟩ => ⟨S84x256x1024, .f32⟩
  | .hbm, ⟨36, _⟩ => ⟨S_, .f32⟩
  | .hbm, ⟨37, _⟩ => ⟨S84x256x1024, .f32⟩
  | .hbm, ⟨38, _⟩ => ⟨S84x256x1024, .f32⟩
  | .hbm, ⟨39, _⟩ => ⟨S84x256x1024, .f32⟩
  | .hbm, ⟨40, _⟩ => ⟨S84x256x1024, .f32⟩
  | .hbm, ⟨41, _⟩ => ⟨S_, .i32⟩
  | .hbm, ⟨42, _⟩ => ⟨S84, .i32⟩
  | .hbm, ⟨43, _⟩ => ⟨S84, .i1⟩
  | .hbm, ⟨44, _⟩ => ⟨S_, .i32⟩
  | .hbm, ⟨45, _⟩ => ⟨S84, .i32⟩
  | .hbm, ⟨46, _⟩ => ⟨S84, .i32⟩
  | .hbm, ⟨47, _⟩ => ⟨S84, .i32⟩
  | .hbm, ⟨48, _⟩ => ⟨S84x1, .i32⟩
  | .hbm, ⟨49, _⟩ => ⟨S84x1024x4096, .f32⟩
  | .hbm, ⟨50, _⟩ => ⟨S84x256x4096, .f32⟩
  | .hbm, ⟨51, _⟩ => ⟨S84, .i32⟩
  | .hbm, ⟨52, _⟩ => ⟨S_, .i32⟩
  | .hbm, ⟨53, _⟩ => ⟨S84, .i32⟩
  | .hbm, ⟨54, _⟩ => ⟨S84, .i1⟩
  | .hbm, ⟨55, _⟩ => ⟨S84x1x1, .i1⟩
  | .hbm, ⟨56, _⟩ => ⟨S_, .f32⟩
  | .hbm, ⟨57, _⟩ => ⟨S_, .f32⟩
  | .hbm, ⟨58, _⟩ => ⟨S84x256x4096, .i1⟩
  | .hbm, ⟨59, _⟩ => ⟨S84x256x4096, .f32⟩
  | .hbm, ⟨60, _⟩ => ⟨S84x256x4096, .f32⟩
  | .hbm, ⟨61, _⟩ => ⟨S21504x4096, .f32⟩
  | _, _ => ⟨S84, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== MoeLast.lean ====
abbrev S80 : Shape := ⟨1, ![80]⟩
abbrev S1 : Shape := ⟨1, ![1]⟩
abbrev S20480x4096 : Shape := ⟨2, ![20480, 4096]⟩
abbrev S16x4096x1024 : Shape := ⟨3, ![16, 4096, 1024]⟩
abbrev S16x1024x4096 : Shape := ⟨3, ![16, 1024, 4096]⟩
abbrev S256x4096 : Shape := ⟨2, ![256, 4096]⟩
abbrev S1x4096x512 : Shape := ⟨3, ![1, 4096, 512]⟩
abbrev S1x512x4096 : Shape := ⟨3, ![1, 512, 4096]⟩
abbrev S4096x512 : Shape := ⟨2, ![4096, 512]⟩
abbrev S256x512 : Shape := ⟨2, ![256, 512]⟩
abbrev S512x4096 : Shape := ⟨2, ![512, 4096]⟩

abbrev nBuf : Space → Nat
  | .hbm => 5
  | .vmem => 10
  | .smem => 2
  | _ => 0

abbrev bufTy : (tb : Table) → Fin (tcTables nBuf tb) → BufTy
  | .hbm, ⟨0, _⟩ => ⟨S20480x4096, .bf16⟩
  | .hbm, ⟨1, _⟩ => ⟨S16x4096x1024, .bf16⟩
  | .hbm, ⟨2, _⟩ => ⟨S16x4096x1024, .bf16⟩
  | .hbm, ⟨3, _⟩ => ⟨S16x1024x4096, .bf16⟩
  | .hbm, ⟨4, _⟩ => ⟨S20480x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x4096, .bf16⟩
  | .local _ .vmem, ⟨7, _⟩ => ⟨S1x512x4096, .bf16⟩
  | .local _ .vmem, ⟨8, _⟩ => ⟨S256x4096, .f32⟩
  | .local _ .vmem, ⟨9, _⟩ => ⟨S256x4096, .f32⟩
  | .local _ .smem, ⟨0, _⟩ => ⟨S80, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![80, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_15 : BitVec 32 := 0#32
  let v23 : BitVec 1 := Scalar.cmpi .eq arg1 c0_i32_15
  let v24 : BitVec 32 := Scalar.extui v23
  let c0_i32_16 : BitVec 32 := 0#32
  let v25 : BitVec 1 := Scalar.cmpi .ne v24 c0_i32_16
  v25

def k0_cond3 (i : grid0.Coords) : BitVec 1 :=
  let arg1 : BitVec 32 := BitVec.ofNat 32 (i 1).val
  let c0_i32_17 : BitVec 32 := 0#32
  let v26 : BitVec 1 := Scalar.cmpi .sgt arg1 c0_i32_17
  let v27 : BitVec 32 := Scalar.extui v26
  let c0_i32_18 : BitVec 32 := 0#32
  let v28 : BitVec 1 := Scalar.cmpi .ne v27 c0_i32_18
  v28

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeLastRefIdeal.lean ====
abbrev S80 : Shape := ⟨1, ![80]⟩
abbrev S1 : Shape := ⟨1, ![1]⟩
abbrev S20480x4096 : Shape := ⟨2, ![20480, 4096]⟩
abbrev S16x4096x1024 : Shape := ⟨3, ![16, 4096, 1024]⟩
abbrev S16x1024x4096 : Shape := ⟨3, ![16, 1024, 4096]⟩
abbrev S80x256x4096 : Shape := ⟨3, ![80, 256, 4096]⟩
abbrev S_ : Shape := ⟨0, ![]⟩
abbrev S80x1 : Shape := ⟨2, ![80, 1]⟩
abbrev S80x4096x1024 : Shape := ⟨3, ![80, 4096, 1024]⟩
abbrev S80x256x1024 : Shape := ⟨3, ![80, 256, 1024]⟩
abbrev S80x1024x4096 : Shape := ⟨3, ![80, 1024, 4096]⟩
abbrev S80x1x1 : Shape := ⟨3, ![80, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S20480x4096, .bf16⟩
  | .hbm, ⟨3, _⟩ => ⟨S16x4096x1024, .bf16⟩
  | .hbm, ⟨4, _⟩ => ⟨S16x4096x1024, .bf16⟩
  | .hbm, ⟨5, _⟩ => ⟨S16x1024x4096, .bf16⟩
  | .hbm, ⟨6, _⟩ => ⟨S20480x4096, .f32⟩
  | .hbm, ⟨7, _⟩ => ⟨S16x4096x1024, .f32⟩
  | .hbm, ⟨8, _⟩ => ⟨S16x4096x1024, .f32⟩
  | .hbm, ⟨9, _⟩ => ⟨S16x1024x4096, .f32⟩
  | .hbm, ⟨10, _⟩ => ⟨S80x256x4096, .f32⟩
  | .hbm, ⟨11, _⟩ => ⟨S_, .i32⟩
  | .hbm, ⟨12, _⟩ => ⟨S80, .i32⟩
  | .hbm, ⟨13, _⟩ => ⟨S80, .i1⟩
  | .hbm, ⟨14, _⟩ => ⟨S_, .i32⟩
  | .hbm, ⟨15, _⟩ => ⟨S80, .i32⟩
  | .hbm, ⟨16, _⟩ => ⟨S80, .i32⟩
  | .hbm, ⟨17, _⟩ => ⟨S80, .i32⟩
  | .hbm, ⟨18, _⟩ => ⟨S80x1, .i32⟩
  | .hbm, ⟨19, _⟩ => ⟨S80x4096x1024, .f32⟩
  | .hbm, ⟨20, _⟩ => ⟨S80x256x1024, .f32⟩
  | .hbm, ⟨21, _⟩ => ⟨S_, .i32⟩
  | .hbm, ⟨22, _⟩ => ⟨S80, .i32⟩
  | .hbm, ⟨23, _⟩ => ⟨S80, .i1⟩
  | .hbm, ⟨24, _⟩ => ⟨S_, .i32⟩
  | .hbm, ⟨25, _⟩ => ⟨S80, .i32⟩
  | .hbm, ⟨26, _⟩ => ⟨S80, .i32⟩
  | .hbm, ⟨27, _⟩ => ⟨S80, .i32⟩
  | .hbm, ⟨28, _⟩ => ⟨S80x1, .i32⟩
  | .hbm, ⟨29, _⟩ => ⟨S80x4096x1024, .f32⟩
  | .hbm, ⟨30, _⟩ => ⟨S80x256x1024, .f32⟩
  | .hbm, ⟨31, _⟩ => ⟨S80x256x1024, .f32⟩
  | .hbm, ⟨32, _⟩ => ⟨S80x256x1024, .f32⟩
  | .hbm, ⟨33, _⟩ => ⟨S_, .f32⟩
  | .hbm, ⟨34, _⟩ => ⟨S80x256x1024, .f32⟩
  | .hbm, ⟨35, _⟩ => ⟨S80x256x1024, .f32⟩
  | .hbm, ⟨36, _⟩ => ⟨S_, .f32⟩
  | .hbm, ⟨37, _⟩ => ⟨S80x256x1024, .f32⟩
  | .hbm, ⟨38, _⟩ => ⟨S80x256x1024, .f32⟩
  | .hbm, ⟨39, _⟩ => ⟨S80x256x1024, .f32⟩
  | .hbm, ⟨40, _⟩ => ⟨S80x256x1024, .f32⟩
  | .hbm, ⟨41, _⟩ => ⟨S_, .i32⟩
  | .hbm, ⟨42, _⟩ => ⟨S80, .i32⟩
  | .hbm, ⟨43, _⟩ => ⟨S80, .i1⟩
  | .hbm, ⟨44, _⟩ => ⟨S_, .i32⟩
  | .hbm, ⟨45, _⟩ => ⟨S80, .i32⟩
  | .hbm, ⟨46, _⟩ => ⟨S80, .i32⟩
  | .hbm, ⟨47, _⟩ => ⟨S80, .i32⟩
  | .hbm, ⟨48, _⟩ => ⟨S80x1, .i32⟩
  | .hbm, ⟨49, _⟩ => ⟨S80x1024x4096, .f32⟩
  | .hbm, ⟨50, _⟩ => ⟨S80x256x4096, .f32⟩
  | .hbm, ⟨51, _⟩ => ⟨S80, .i32⟩
  | .hbm, ⟨52, _⟩ => ⟨S_, .i32⟩
  | .hbm, ⟨53, _⟩ => ⟨S80, .i32⟩
  | .hbm, ⟨54, _⟩ => ⟨S80, .i1⟩
  | .hbm, ⟨55, _⟩ => ⟨S80x1x1, .i1⟩
  | .hbm, ⟨56, _⟩ => ⟨S_, .f32⟩
  | .hbm, ⟨57, _⟩ => ⟨S_, .f32⟩
  | .hbm, ⟨58, _⟩ => ⟨S80x256x4096, .i1⟩
  | .hbm, ⟨59, _⟩ => ⟨S80x256x4096, .f32⟩
  | .hbm, ⟨60, _⟩ => ⟨S80x256x4096, .f32⟩
  | .hbm, ⟨61, _⟩ => ⟨S20480x4096, .f32⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Proof.AttnMath.lean ====
/-
  The arithmetic of one softmax row over the extended reals: a row of finite scores split into a context part and a
  latent part, its weights applied to values and divided by their sum at the end, is the softmax applied to the values.
-/
module

public import Idealize.ShloMosaic.PureOps.Ideal
public import Idealize.ShloMosaic.PureOps.Ideal.Laws

@[expose] public section

noncomputable section

namespace Cert.Proof.AttnMath

open Idealize.ShloMosaic
open scoped BigOperators

/-- A sum of finitely many reals, taken in the extended reals, is a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals is a real. -/
theorem finite_dot {n : ℕ} (x y : Fin n → EReal) (hx : ∀ k, ∃ r : ℝ, x k = r) (hy : ∀ k, ∃ r : ℝ, y k = r) :
    ∃ r : ℝ, ∑ k, x k * y k = r := by
  choose f hf using hx
  choose g hg using hy
  refine ⟨∑ k, f k * g k, ?_⟩
  rw [← coe_sum]
  exact Finset.sum_congr rfl fun k _ => by rw [hf, hg, EReal.coe_mul]

/-- The largest element of a list of extended reals, from `⊥`. -/
def top {n : ℕ} (s : Fin n → EReal) : EReal := (Finset.univ : Finset (Fin n)).fold max ⊥ s

/-- The largest entry is the supremum over all indices. -/
theorem top_eq_sup {n : ℕ} (s : Fin n → EReal) : top s = Finset.univ.sup s := rfl

/-- The largest of a joined list is the larger of its parts' largest. -/
theorem top_append {m n : ℕ} (s : Fin (m + n) → EReal) :
    top s = max (top fun j => s (Fin.natAdd m j)) (top fun j => s (Fin.castAdd n j)) := by
  apply le_antisymm
  · rw [top_eq_sup]
    refine Finset.sup_le fun j _ => ?_
    refine Fin.addCases (fun i => ?_) (fun i => ?_) j
    · exact le_max_of_le_right (Finset.le_sup (f := fun j => s (Fin.castAdd n j)) (Finset.mem_univ i))
    · exact le_max_of_le_left (Finset.le_sup (f := fun j => s (Fin.natAdd m j)) (Finset.mem_univ i))
  · refine max_le ?_ ?_
    · exact Finset.sup_le fun j _ => Finset.le_sup (f := s) (Finset.mem_univ _)
    · exact Finset.sup_le fun j _ => Finset.le_sup (f := s) (Finset.mem_univ _)

/-- The largest of finitely many reals, at least one, is a real. -/
theorem top_real {n : ℕ} (hn : 0 < n) (s : Fin n → EReal) (hs : ∀ j, ∃ r : ℝ, s j = r) : ∃ r : ℝ, top s = r := by
  haveI : Nonempty (Fin n) := ⟨⟨0, hn⟩⟩
  obtain ⟨i, -, hi⟩ := Finset.exists_mem_eq_sup (Finset.univ : Finset (Fin n)) Finset.univ_nonempty s
  rw [top_eq_sup, hi]
  exact hs i

/-- The weight of a real score under a real shift is a positive real. -/
theorem exp_real (x y : ℝ) : Ideal.exp ((x : EReal) - (y : EReal)) = ((Real.exp (x - y) : ℝ) : EReal) := by
  rw [← EReal.coe_sub]; rfl

/-- A real factor that is not negative passes into a sum of extended reals. -/
theorem sum_mul_real {n : ℕ} (c : ℝ) (hc : 0 ≤ c) (x : Fin n → EReal) : (∑ j, x j) * (c : EReal) = ∑ j, x j * (c : EReal) := by
  have h : ∀ s : Finset (Fin n), (∑ j ∈ s, x j) * (c : EReal) = ∑ j ∈ s, x j * (c : EReal) := by
    intro s
    induction s using Finset.induction_on with
    | empty => simp
    | insert a s ha ih =>
      rw [Finset.sum_insert ha, Finset.sum_insert ha, ← ih]
      exact EReal.right_distrib_of_nonneg_of_ne_top (by exact_mod_cast hc) (EReal.coe_ne_top c) _ _
  exact h Finset.univ

/-- One row: weights of the latent and the context scores under their common largest, applied to the values and divided
    by the weights' sum, is the softmax of the joined scores applied to the joined values. -/
theorem row_eq {m n : ℕ} (hn : 0 < n) (s v : Fin (m + n) → EReal) (hs : ∀ j, ∃ r : ℝ, s j = r) (M : EReal) (hM : M = top s) :
    Ideal.div ((∑ j : Fin n, Ideal.exp (s (Fin.natAdd m j) - M) * v (Fin.natAdd m j))
        + ∑ j : Fin m, Ideal.exp (s (Fin.castAdd n j) - M) * v (Fin.castAdd n j))
      ((∑ j : Fin n, Ideal.exp (s (Fin.natAdd m j) - M)) + ∑ j : Fin m, Ideal.exp (s (Fin.castAdd n j) - M))
    = ∑ j, v j * Ideal.div (Ideal.exp (s j - M)) (∑ j, Ideal.exp (s j - M)) := by
  obtain ⟨μ, hμ⟩ := top_real (by omega) s hs
  rw [hμ] at hM
  subst hM
  choose f hf using hs
  have e (j) : Ideal.exp (s j - (μ : EReal)) = ((Real.exp (f j - μ) : ℝ) : EReal) := by rw [hf, exp_real]
  rw [add_comm (∑ j : Fin n, Ideal.exp (s (Fin.natAdd m j) - (μ : EReal)) * v (Fin.natAdd m j)),
    add_comm (∑ j : Fin n, Ideal.exp (s (Fin.natAdd m j) - (μ : EReal))),
    ← Fin.sum_univ_add (fun j => Ideal.exp (s j - (μ : EReal)) * v j), ← Fin.sum_univ_add (fun j => Ideal.exp (s j - (μ : EReal)))]
  have hd : ∑ j, Ideal.exp (s j - (μ : EReal)) = ((∑ j, Real.exp (f j - μ) : ℝ) : EReal) := by
    rw [← coe_sum]; exact Finset.sum_congr rfl fun j _ => e j
  haveI : Nonempty (Fin (m + n)) := ⟨⟨0, by omega⟩⟩
  have hpos : 0 < ∑ j, Real.exp (f j - μ) := Finset.sum_pos (fun j _ => Real.exp_pos _) Finset.univ_nonempty
  rw [hd]
  generalize ∑ j, Real.exp (f j - μ) = d at hpos
  have hd0 : ((d : ℝ) : EReal) ≠ 0 := by exact_mod_cast hpos.ne'
  simp only [Ideal.div, if_neg hd0]
  rw [← EReal.coe_inv, sum_mul_real _ (inv_nonneg.mpr hpos.le)]
  refine Finset.sum_congr rfl fun j _ => ?_
  rw [mul_comm (Ideal.exp (s j - (μ : EReal))) (v j), mul_assoc]

end Cert.Proof.AttnMath

end
-- ==== Proof.AttnKernel.lean ====
/-
  The attention kernel's body at an index: one head's output at a row and column is the row's weights, under the larger of
  its two pieces' largest scores, applied to the values and divided by the weights' sum.
-/
module

public import proofs.«01_k».proof.Defs
public import proofs.«01_k».proof.Proof.AttnMath
public import proofs.«01_k».proof.Proof.Gen.AttnIdeal.Value
public import Idealize.ShloMosaic.Lib.Pipeline.Value
public import Idealize.ShloMosaic.Lib.MatmulPlain
public import Idealize.ShloMosaic.Lib.ValueIdx

@[expose] public section

set_option maxRecDepth 16384

noncomputable section

namespace Cert.Proof.Attn

open Cert.AttnIdeal Cert.AttnIdeal.Gen Idealize.ShloMosaic Idealize.ShloMosaic.TcCoe Idealize.SL.Sem
open Idealize.ShloMosaic.Pipeline (Dat)
open Idealize.ShloMosaic.ValueIdx Cert.Proof.AttnMath
open scoped BigOperators

/-- One row of one head as the kernel computes it: a query, the latent and the context keys, a column of the values. -/
def kval (a : Fin 128 → EReal) (kl : Fin 4096 → Fin 128 → EReal) (kc : Fin 256 → Fin 128 → EReal) (vl : Fin 4096 → EReal)
    (vc : Fin 256 → EReal) : EReal :=
  Ideal.div ((∑ j, Ideal.exp ((∑ d, a d * kl j d) - max (top fun j => ∑ d, a d * kl j d) (top fun j => ∑ d, a d * kc j d)) * vl j)
      + ∑ j, Ideal.exp ((∑ d, a d * kc j d) - max (top fun j => ∑ d, a d * kl j d) (top fun j => ∑ d, a d * kc j d)) * vc j)
    ((∑ j, Ideal.exp ((∑ d, a d * kl j d) - max (top fun j => ∑ d, a d * kl j d) (top fun j => ∑ d, a d * kc j d)))
      + ∑ j, Ideal.exp ((∑ d, a d * kc j d) - max (top fun j => ∑ d, a d * kl j d) (top fun j => ∑ d, a d * kc j d)))

/-- The scores against the latent keys. -/
theorem scores_lat (q : FVec Ideal S256x128 .bf16) (k : FVec Ideal S4096x128 .bf16) (r : Fin 256) (j : Fin 4096) :
    matmul (F := Ideal) dot_S256x128_S4096x128_S256x4096_1_1_0_0_n_n none q k (constant S256x4096 .f32 0x00000000#32) (ix2 r j)
      = ∑ d : Fin 128, q (ix2 r d) * k (ix2 j d) := by
  refine (Ideal.matmul_transposedRhs_apply none q k _ r j).trans ?_
  rw [constant_apply, Ideal.ofBits_zero_f32, zero_add]

/-- The scores against the context keys. -/
theorem scores_ctx (q : FVec Ideal S256x128 .bf16) (k : FVec Ideal S256x128 .bf16) (r : Fin 256) (j : Fin 256) :
    matmul (F := Ideal) dot_S256x128_S256x128_S256x256_1_1_0_0_n_n none q k (constant S256x256 .f32 0x00000000#32) (ix2 r j)
      = ∑ d : Fin 128, q (ix2 r d) * k (ix2 j d) := by
  refine (Ideal.matmul_transposedRhs_apply none q k _ r j).trans ?_
  rw [constant_apply, Ideal.ofBits_zero_f32, zero_add]

/-- The latent weights applied to the values. -/
theorem apply_lat (p : FVec Ideal S256x4096 .bf16) (v : FVec Ideal S4096x128 .bf16) (r : Fin 256) (s : Fin 128) :
    matmul (F := Ideal) dot_S256x4096_S4096x128_S256x128_1_0_0_1_n_n none p v (constant S256x128 .f32 0x00000000#32) (ix2 r s)
      = ∑ j : Fin 4096, p (ix2 r j) * v (ix2 j s) := by
  refine (Ideal.matmul_plain_apply none p v _ r s).trans ?_
  rw [constant_apply, Ideal.ofBits_zero_f32, zero_add]

/-- The context weights applied to the values. -/
theorem apply_ctx (p : FVec Ideal S256x256 .bf16) (v : FVec Ideal S256x128 .bf16) (r : Fin 256) (s : Fin 128) :
    matmul (F := Ideal) dot_S256x256_S256x128_S256x128_1_0_0_1_n_n none p v (constant S256x128 .f32 0x00000000#32) (ix2 r s)
      = ∑ j : Fin 256, p (ix2 r j) * v (ix2 j s) := by
  refine (Ideal.matmul_plain_apply none p v _ r s).trans ?_
  rw [constant_apply, Ideal.ofBits_zero_f32, zero_add]

/-- The float pattern of negative infinity. -/
theorem ofBits_ninf : (FloatOps.ofBits (F := Ideal) .f32 0xFF800000#32 : EReal) = ⊥ := by
  rw [Ideal.ofBits_def]
  decide +kernel

/-- A one-column array at its row. -/
theorem column {x : FVec Ideal S256 .f32} (r : Fin 256) : shapeCast S256x1 x shapeCasts_S256_S256x1 (ix2 r 0) = x (ix1 r) :=
  shapeCast_apply x shapeCasts_S256_S256x1 _ _ (by rw [Shape.rowMajor_val_one, Shape.rowMajor_val_two]; simp [ix1, ix2])

/-- The largest latent score of a row. -/
theorem max_lat (x : FVec Ideal S256x4096 .f32) (r : Fin 256) :
    multiReduction (F := Ideal) .maximumf [1] S256 x 0xFF800000#32 reduces_S256x4096_S256 (.inl rfl) rfl (ix1 r)
      = top fun j => x (ix2 r j) := by
  refine (Ideal.multiReduction_maximumf_single x _ _ _ _ _).trans ?_
  rw [ofBits_ninf]
  exact congrArg (fun f => (Finset.univ : Finset (Fin 4096)).fold max ⊥ f)
    (funext fun j => congrArg x (Shape.idx_ext₂ rfl rfl))

/-- The largest context score of a row. -/
theorem max_ctx (x : FVec Ideal S256x256 .f32) (r : Fin 256) :
    multiReduction (F := Ideal) .maximumf [1] S256 x 0xFF800000#32 reduces_S256x256_S256 (.inl rfl) rfl (ix1 r)
      = top fun j => x (ix2 r j) := by
  refine (Ideal.multiReduction_maximumf_single x _ _ _ _ _).trans ?_
  rw [ofBits_ninf]
  exact congrArg (fun f => (Finset.univ : Finset (Fin 256)).fold max ⊥ f)
    (funext fun j => congrArg x (Shape.idx_ext₂ rfl rfl))

/-- The latent weights' sum over a row. -/
theorem sum_lat (x : FVec Ideal S256x4096 .f32) (r : Fin 256) :
    multiReduction (F := Ideal) .add [1] S256 x 0x00000000#32 reduces_S256x4096_S256 (.inl rfl) rfl (ix1 r)
      = ∑ j : Fin 4096, x (ix2 r j) := by
  refine (Ideal.multiReduction_add_single x _ _ _ _ _).trans ?_
  exact Finset.sum_congr rfl fun j _ => congrArg x (Shape.idx_ext₂ rfl rfl)

/-- The context weights' sum over a row. -/
theorem sum_ctx (x : FVec Ideal S256x256 .f32) (r : Fin 256) :
    multiReduction (F := Ideal) .add [1] S256 x 0x00000000#32 reduces_S256x256_S256 (.inl rfl) rfl (ix1 r)
      = ∑ j : Fin 256, x (ix2 r j) := by
  refine (Ideal.multiReduction_add_single x _ _ _ _ _).trans ?_
  exact Finset.sum_congr rfl fun j _ => congrArg x (Shape.idx_ext₂ rfl rfl)

/-- A column repeated along rows of 4096. -/
theorem bcast_lat (x : FVec Ideal S256x1 .f32) (r : Fin 256) (j : Fin 4096) :
    broadcastTo S256x4096 x broadcasts_S256x1_S256x4096 (ix2 r j) = x (ix2 r 0) :=
  broadcastTo_apply x _ _ _ fun a => match a with
    | ⟨0, _⟩ => rfl
    | ⟨1, _⟩ => rfl

/-- A column repeated along rows of 256. -/
theorem bcast_ctx (x : FVec Ideal S256x1 .f32) (r : Fin 256) (j : Fin 256) :
    broadcastTo S256x256 x broadcasts_S256x1_S256x256 (ix2 r j) = x (ix2 r 0) :=
  broadcastTo_apply x _ _ _ fun a => match a with
    | ⟨0, _⟩ => rfl
    | ⟨1, _⟩ => rfl

/-- A column repeated along rows of 128. -/
theorem bcast_out (x : FVec Ideal S256x1 .f32) (r : Fin 256) (j : Fin 128) :
    broadcastTo S256x128 x broadcasts_S256x1_S256x128 (ix2 r j) = x (ix2 r 0) :=
  broadcastTo_apply x _ _ _ fun a => match a with
    | ⟨0, _⟩ => rfl
    | ⟨1, _⟩ => rfl

/-- An elementwise exponential at an index. -/
theorem exp_at {s : Shape} (x : FVec Ideal s .f32) (i : s.Idx) : exp (F := Ideal) x i = Ideal.exp (x i) := rfl

/-- One head's output at a row and column. -/
theorem pay1_apply (x0 : FVec Ideal S4096x128 .bf16) (x1 : FVec Ideal S256x128 .bf16) (x2 : FVec Ideal S4096x128 .bf16)
    (x3 : FVec Ideal S256x128 .bf16) (x4 : FVec Ideal S256x128 .bf16) (r : Fin 256) (s : Fin 128) :
    k0_pay1 (F := Ideal) x0 x1 x2 x3 x4 (ix2 r s)
      = kval (fun d => x4 (ix2 r d)) (fun j d => x0 (ix2 j d)) (fun j d => x1 (ix2 j d)) (fun j => x2 (ix2 j s)) (fun j => x3 (ix2 j s)) := by
  unfold k0_pay1
  have hl (j : Fin 4096) := scores_lat x4 x0 r j
  have hc (j : Fin 256) := scores_ctx x4 x1 r j
  revert hl hc
  generalize matmul (F := Ideal) dot_S256x128_S4096x128_S256x4096_1_1_0_0_n_n none x4 x0 (constant S256x4096 .f32 0x00000000#32) = sl
  generalize matmul (F := Ideal) dot_S256x128_S256x128_S256x256_1_1_0_0_n_n none x4 x1 (constant S256x256 .f32 0x00000000#32) = sc
  intro hl hc
  have hM : maximumf (shapeCast S256x1 (multiReduction (F := Ideal) .maximumf [1] S256 sl 0xFF800000#32 reduces_S256x4096_S256 (.inl rfl) rfl) shapeCasts_S256_S256x1)
      (shapeCast S256x1 (multiReduction (F := Ideal) .maximumf [1] S256 sc 0xFF800000#32 reduces_S256x256_S256 (.inl rfl) rfl) shapeCasts_S256_S256x1) (ix2 r 0)
      = max (top fun j => ∑ d : Fin 128, x4 (ix2 r d) * x0 (ix2 j d)) (top fun j => ∑ d : Fin 128, x4 (ix2 r d) * x1 (ix2 j d)) := by
    refine (maximumf_apply _ _ _).trans ?_
    rw [column, column, max_lat, max_ctx, funext hl, funext hc]
  revert hM
  generalize maximumf (shapeCast S256x1 (multiReduction (F := Ideal) .maximumf [1] S256 sl 0xFF800000#32 reduces_S256x4096_S256 (.inl rfl) rfl) shapeCasts_S256_S256x1)
      (shapeCast S256x1 (multiReduction (F := Ideal) .maximumf [1] S256 sc 0xFF800000#32 reduces_S256x256_S256 (.inl rfl) rfl) shapeCasts_S256_S256x1) = M
  intro hM
  have hpl (j : Fin 4096) : exp (F := Ideal) (subf sl (broadcastTo S256x4096 M broadcasts_S256x1_S256x4096)) (ix2 r j)
      = Ideal.exp ((∑ d : Fin 128, x4 (ix2 r d) * x0 (ix2 j d)) - max (top fun j => ∑ d : Fin 128, x4 (ix2 r d) * x0 (ix2 j d)) (top fun j => ∑ d : Fin 128, x4 (ix2 r d) * x1 (ix2 j d))) := by
    rw [exp_at, subf_apply, bcast_lat, hM, hl]
  have hpc (j : Fin 256) : exp (F := Ideal) (subf sc (broadcastTo S256x256 M broadcasts_S256x1_S256x256)) (ix2 r j)
      = Ideal.exp ((∑ d : Fin 128, x4 (ix2 r d) * x1 (ix2 j d)) - max (top fun j => ∑ d : Fin 128, x4 (ix2 r d) * x0 (ix2 j d)) (top fun j => ∑ d : Fin 128, x4 (ix2 r d) * x1 (ix2 j d))) := by
    rw [exp_at, subf_apply, bcast_ctx, hM, hc]
  revert hpl hpc
  generalize exp (F := Ideal) (subf sl (broadcastTo S256x4096 M broadcasts_S256x1_S256x4096)) = pl
  generalize exp (F := Ideal) (subf sc (broadcastTo S256x256 M broadcasts_S256x1_S256x256)) = pc
  intro hpl hpc
  rw [truncf_apply, divf_apply]
  unfold kval
  refine congrArg₂ Ideal.div ?_ ?_
  · refine (addf_apply _ _ _).trans (congrArg₂ (· + ·) ?_ ?_)
    · rw [apply_lat]
      exact Finset.sum_congr rfl fun j _ => congrArg (· * x2 (ix2 j s)) (hpl j)
    · rw [apply_ctx]
      exact Finset.sum_congr rfl fun j _ => congrArg (· * x3 (ix2 j s)) (hpc j)
  · rw [bcast_out]
    refine (addf_apply _ _ _).trans (congrArg₂ (· + ·) ?_ ?_)
    · rw [column, sum_lat]; exact Finset.sum_congr rfl fun j _ => hpl j
    · rw [column, sum_ctx]; exact Finset.sum_congr rfl fun j _ => hpc j

/-- The second head's payload is the first's. -/
theorem pay2_eq (x0 : FVec Ideal S4096x128 .bf16) (x1 : FVec Ideal S256x128 .bf16) (x2 : FVec Ideal S4096x128 .bf16)
    (x3 : FVec Ideal S256x128 .bf16) (x4 : FVec Ideal S256x128 .bf16) :
    k0_pay2 (F := Ideal) x0 x1 x2 x3 x4 (constant S256x4096 .f32 0x00000000#32) = k0_pay1 x0 x1 x2 x3 x4 := rfl

/-- The payload taken in parts is the first head's. -/
theorem pay9_eq (x0 : FVec Ideal S4096x128 .bf16) (x1 : FVec Ideal S256x128 .bf16) (x2 : FVec Ideal S4096x128 .bf16)
    (x3 : FVec Ideal S256x128 .bf16) (x4 : FVec Ideal S256x128 .bf16) :
    k0_pay9 (F := Ideal) x2 x3 (k0_pay6 x0 x1 x4) (k0_pay7 x0 x1 x4) (k0_pay8 x0 x1 x4) = k0_pay1 x0 x1 x2 x3 x4 := rfl

/-- The last payload is the first head's. -/
theorem pay10_eq (x0 : FVec Ideal S4096x128 .bf16) (x1 : FVec Ideal S256x128 .bf16) (x2 : FVec Ideal S4096x128 .bf16)
    (x3 : FVec Ideal S256x128 .bf16) (x4 : FVec Ideal S256x128 .bf16) :
    k0_pay10 (F := Ideal) x0 x1 x2 x3 x4 = k0_pay1 x0 x1 x2 x3 x4 := rfl

/-- The output block: column `g * 128 + s` is head `g`'s column `s`. -/
def B (X : FVec Ideal S256x512 .bf16) (x0 : FVec Ideal S4096x128 .bf16) (x1 : FVec Ideal S256x128 .bf16)
    (x2 : FVec Ideal S4096x128 .bf16) (x3 : FVec Ideal S256x128 .bf16) : S256x512.Idx → EReal := fun y =>
  kval (fun d => X (ix2 (y 0) ⟨(y 1).val / 128 * 128 + d.val, by have h : (y 1).val < 512 := (y 1).isLt; have := d.isLt; omega⟩))
    (fun j d => x0 (ix2 j d)) (fun j d => x1 (ix2 j d))
    (fun j => x2 (ix2 j ⟨(y 1).val % 128, by omega⟩)) (fun j => x3 (ix2 j ⟨(y 1).val % 128, by omega⟩))

/-- The offsets of a whole buffer with two axes are zero. -/
theorem hz : (![0, 0] : Fin 2 → Nat) = fun _ => 0 := funext fun a => by fin_cases a <;> rfl

/-- A read of a whole buffer through a rectangle is a read of its contents. -/
theorem rd (a : Memref sig .tc .vmem S256x512 .bf16) (h : a.IsWhole) (X : Vec Ideal S256x512 .bf16) (R : Rect S256x512) :
    View.readAt (Elt Ideal) a.view R.toLoadRect (h.unread X) = View.ld X R := by
  rw [View.readAt_eq_ld, h.read_unread]

/-- A whole read of a buffer of latent rows. -/
theorem rd_lat (a : Memref sig .tc .vmem S4096x128 .bf16) (h : a.IsWhole) (X : Vec Ideal S4096x128 .bf16) :
    View.readAt (Elt Ideal) a.view (Rect.unit (s := S4096x128) ![0, 0] ![4096, 128] inb_S4096x128_S4096x128_0_0).toLoadRect (h.unread X) = X := by
  rw [View.readAt_eq_ld, h.read_unread]
  exact View.ld_unit_zero (S := S4096x128) hz _ X

/-- A whole read of a buffer of context rows. -/
theorem rd_ctx (a : Memref sig .tc .vmem S256x128 .bf16) (h : a.IsWhole) (X : Vec Ideal S256x128 .bf16) :
    View.readAt (Elt Ideal) a.view (Rect.unit (s := S256x128) ![0, 0] ![256, 128] inb_S256x128_S256x128_0_0).toLoadRect (h.unread X) = X := by
  rw [View.readAt_eq_ld, h.read_unread]
  exact View.ld_unit_zero (S := S256x128) hz _ X

/-- The latent keys are read as they are. -/
theorem r_eq (c : Dev nD) (a : Memref sig .tc .vmem S4096x128 .bf16) (h : a.IsWhole) (X : Vec Ideal S4096x128 .bf16) :
    kernelRun0_A.sl.r (F := Ideal) c a h X = X := rd_lat a h X

/-- The context keys are read as they are. -/
theorem r1_eq (c : Dev nD) (a : Memref sig .tc .vmem S256x128 .bf16) (h : a.IsWhole) (X : Vec Ideal S256x128 .bf16) :
    kernelRun0_A.sl.r_1 (F := Ideal) c a h X = X := rd_ctx a h X

/-- The latent values are read as they are. -/
theorem r2_eq (c : Dev nD) (a : Memref sig .tc .vmem S4096x128 .bf16) (h : a.IsWhole) (X : Vec Ideal S4096x128 .bf16) :
    kernelRun0_A.sl.r_2 (F := Ideal) c a h X = X := rd_lat a h X

/-- The context values are read as they are. -/
theorem r3_eq (c : Dev nD) (a : Memref sig .tc .vmem S256x128 .bf16) (h : a.IsWhole) (X : Vec Ideal S256x128 .bf16) :
    kernelRun0_A.sl.r_3 (F := Ideal) c a h X = X := rd_ctx a h X

/-- Head `g`'s output, from the query block's columns `128 g` on, is the block `B` at those columns. -/
theorem piece_eq (X : FVec Ideal S256x512 .bf16) (x0 : FVec Ideal S4096x128 .bf16) (x1 : FVec Ideal S256x128 .bf16)
    (x2 : FVec Ideal S4096x128 .bf16) (x3 : FVec Ideal S256x128 .bf16) (g : Fin 4)
    (inb : ∀ a, (![0, g.val * 128] : Fin 2 → Nat) a + (![256, 128] : Fin 2 → Nat) a ≤ S256x512.size a) (j : S256x128.Idx) :
    k0_pay1 (F := Ideal) x0 x1 x2 x3 (View.ld X (Rect.unit (s := S256x512) ![0, g.val * 128] ![256, 128] inb)) j
      = B X x0 x1 x2 x3 ((Rect.unit (s := S256x512) ![0, g.val * 128] ![256, 128] inb).emb j) := by
  obtain ⟨r, s, rfl⟩ : ∃ (r : Fin 256) (s : Fin 128), j = ix2 r s := ⟨j 0, j 1, eq_ix2 j⟩
  refine (pay1_apply x0 x1 x2 x3 _ r s).trans ?_
  have hs : s.val < 128 := s.isLt
  have e0 : ∀ t : Fin 128, ((Rect.unit (s := S256x512) ![0, g.val * 128] ![256, 128] inb).emb (ix2 r t) 0).val = r.val := fun t => by
    rw [Rect.emb_apply]; show 0 + 1 * r.val = _; omega
  have e1 : ∀ t : Fin 128, ((Rect.unit (s := S256x512) ![0, g.val * 128] ![256, 128] inb).emb (ix2 r t) 1).val = g.val * 128 + t.val := fun t => by
    rw [Rect.emb_apply]; show g.val * 128 + 1 * t.val = _; omega
  have es : (⟨((Rect.unit (s := S256x512) ![0, g.val * 128] ![256, 128] inb).emb (ix2 r s) 1).val % 128, by omega⟩ : Fin 128) = s :=
    Fin.ext (by show _ % 128 = _; rw [e1 s]; omega)
  unfold B
  rw [es]
  congr 1
  funext d
  show X ((Rect.unit (s := S256x512) ![0, g.val * 128] ![256, 128] inb).emb (ix2 r d)) = _
  refine congrArg X (Shape.idx_ext₂ ?_ ?_)
  · rw [e0]; exact (e0 s).symm
  · rw [e1]; show _ = _ / 128 * 128 + d.val; rw [e1 s]; omega

/-- Four heads' stores, each at its columns, leave the block `B`. -/
theorem out_eq (c : Dev nD) (i : grid0.Coords) (a3 : Memref sig .tc .vmem S256x512 .bf16) (h3 : a3.IsWhole) (a4 : Memref sig .tc .vmem S4096x128 .bf16) (h4 : a4.IsWhole)
    (a5 : Memref sig .tc .vmem S256x128 .bf16) (h5 : a5.IsWhole) (a6 : Memref sig .tc .vmem S4096x128 .bf16) (h6 : a6.IsWhole)
    (a7 : Memref sig .tc .vmem S256x128 .bf16) (h7 : a7.IsWhole) (a8 : Memref sig .tc .vmem S256x512 .bf16) (h8 : a8.IsWhole)
    (X : Vec Ideal S256x512 .bf16) (x0 : Vec Ideal S4096x128 .bf16) (x1 : Vec Ideal S256x128 .bf16) (x2 : Vec Ideal S4096x128 .bf16) (x3 : Vec Ideal S256x128 .bf16) :
    out0_A_5 (F := Ideal) c i a3 h3 a4 h4 a5 h5 a6 h6 a7 h7 a8 h8 X x0 x1 x2 x3 = B X x0 x1 x2 x3 := by
  funext y
  unfold out0_A_5
  rw [View.read_writes_eq_canon _ _ _ (cover0_A_5 c i a3 h3 a4 h4 a5 h5 a6 h6 a7 h7 a8 h8 X x0 x1 x2 x3)]
  refine View.canon_apply_of_pieces _ _ (fun p hp j => ?_) y (cover0_A_5 c i a3 h3 a4 h4 a5 h5 a6 h6 a7 h7 a8 h8 X x0 x1 x2 x3 y)
  unfold kernelRun0_A at hp
  dsimp only at hp
  simp only [List.mem_cons, List.mem_nil_iff, or_false] at hp
  rcases hp with rfl | rfl | rfl | rfl
  · dsimp only at j ⊢
    unfold kernelRun0_A.sl.r_8
    rw [r_eq, r1_eq, r2_eq, r3_eq, rd, pay10_eq]
    exact piece_eq X x0 x1 x2 x3 3 inb_S256x512_S256x128_0_384 j
  · dsimp only at j ⊢
    unfold kernelRun0_A.sl.r_5 kernelRun0_A.sl.r_6 kernelRun0_A.sl.r_7
    rw [r_eq, r1_eq, r2_eq, r3_eq, rd, pay9_eq]
    exact piece_eq X x0 x1 x2 x3 2 inb_S256x512_S256x128_0_256 j
  · dsimp only at j ⊢
    unfold kernelRun0_A.sl.r_4 kernelRun0_A.sl.cst_19
    rw [r_eq, r1_eq, r2_eq, r3_eq, rd, pay2_eq]
    exact piece_eq X x0 x1 x2 x3 1 inb_S256x512_S256x128_0_128 j
  · dsimp only at j ⊢
    rw [rd_lat, rd_ctx, rd_lat, rd_ctx, rd]
    exact piece_eq X x0 x1 x2 x3 0 inb_S256x512_S256x128_0_0 j

/-- Row `n` of the queries, column `c`: batch `n / 4096`, key head `c / 512`, query head `c / 128`, column `c % 128` of it. -/
def G (q : S8192x4096.Idx → EReal) (k v : S8704x1024.Idx → EReal) : S8192x4096.Idx → EReal := fun i =>
  have h0 : (i 0).val < 8192 := (i 0).isLt
  have h1 : (i 1).val < 4096 := (i 1).isLt
  kval (fun d => q (ix2 (i 0) ⟨(i 1).val / 128 * 128 + d.val, by omega⟩))
    (fun j d => k (ix2 ⟨(i 0).val / 4096 * 4096 + j.val, by omega⟩ ⟨(i 1).val / 512 * 128 + d.val, by omega⟩))
    (fun j d => k (ix2 ⟨8192 + (i 0).val / 4096 * 256 + j.val, by omega⟩ ⟨(i 1).val / 512 * 128 + d.val, by omega⟩))
    (fun j => v (ix2 ⟨(i 0).val / 4096 * 4096 + j.val, by omega⟩ ⟨(i 1).val / 512 * 128 + (i 1).val % 128, by omega⟩))
    (fun j => v (ix2 ⟨8192 + (i 0).val / 4096 * 256 + j.val, by omega⟩ ⟨(i 1).val / 512 * 128 + (i 1).val % 128, by omega⟩))

section Kernel
variable (m : (ℓ : Loc nD τ sig) → Buf (Elt Ideal) ℓ) (ρ : Dev nD → PrngReg)

/-- Block indices of the windows, point by point. -/
theorem idx_h : ∀ t : Fin cfg0.N, win0_0.index t 0 = win0_5.index t 0 ∧ win0_0.index t 1 = win0_5.index t 1
    ∧ (win0_1.index t 0 = win0_5.index t 0 / 16 ∧ win0_1.index t 1 = win0_5.index t 1)
    ∧ (win0_2.index t 0 = 32 + win0_5.index t 0 / 16 ∧ win0_2.index t 1 = win0_5.index t 1)
    ∧ (win0_3.index t 0 = win0_5.index t 0 / 16 ∧ win0_3.index t 1 = win0_5.index t 1)
    ∧ (win0_4.index t 0 = 32 + win0_5.index t 0 / 16 ∧ win0_4.index t 1 = win0_5.index t 1) :=
  (by decide +kernel : ∀ t : Fin grid0.N, win0_0.index t 0 = win0_5.index t 0 ∧ win0_0.index t 1 = win0_5.index t 1
    ∧ (win0_1.index t 0 = win0_5.index t 0 / 16 ∧ win0_1.index t 1 = win0_5.index t 1)
    ∧ (win0_2.index t 0 = 32 + win0_5.index t 0 / 16 ∧ win0_2.index t 1 = win0_5.index t 1)
    ∧ (win0_3.index t 0 = win0_5.index t 0 / 16 ∧ win0_3.index t 1 = win0_5.index t 1)
    ∧ (win0_4.index t 0 = 32 + win0_5.index t 0 / 16 ∧ win0_4.index t 1 = win0_5.index t 1))

/-- Every block of the result is some point's. -/
theorem idx_onto : ∀ (a : Fin 32) (b : Fin 8), ∃ t : Fin cfg0.N, win0_5.index t 0 = a.val ∧ win0_5.index t 1 = b.val :=
  (by decide +kernel : ∀ (a : Fin 32) (b : Fin 8), ∃ t : Fin grid0.N, win0_5.index t 0 = a.val ∧ win0_5.index t 1 = b.val)

/-- The staged queries at an index. -/
theorem q_at (c : Dev nD) (t : Fin cfg0.N) (r : Fin 256) (d : Fin 512) (i : S8192x4096.Idx)
    (h0 : (i 0).val = win0_5.index t 0 * 256 + r.val) (h1 : (i 1).val = win0_5.index t 1 * 512 + d.val) :
    (iblk m c 0 t : S256x512.Idx → EReal) (ix2 r d) = m ((c : Thread nD τ).loc main_arg0) i := by
  show V m c main_arg0 ((win0_0.rect t).emb (ix2 r d)) = _
  rw [V_main_arg0]
  obtain ⟨e0, e1, -⟩ := idx_h t
  have a0 := win0_0.rect_emb_val t (ix2 r d) 0
  have a1 := win0_0.rect_emb_val t (ix2 r d) 1
  refine congrArg _ (Shape.idx_ext₂ ?_ ?_)
  · rw [a0, e0]; exact h0.symm
  · rw [a1, e1]; exact h1.symm

/-- The staged latent keys at an index. -/
theorem kl_at (c : Dev nD) (t : Fin cfg0.N) (r : Fin 4096) (d : Fin 128) (i : S8704x1024.Idx)
    (h0 : (i 0).val = win0_5.index t 0 / 16 * 4096 + r.val) (h1 : (i 1).val = win0_5.index t 1 * 128 + d.val) :
    (X0_1 m c t : S4096x128.Idx → EReal) (ix2 r d) = m ((c : Thread nD τ).loc main_arg1) i := by
  unfold X0_1 Pipeline.Window.fill
  rw [dif_pos (moved0_1 t (ix2 r d))]
  show V m c main_arg1 ((win0_1.rect t).emb _) = _
  rw [V_main_arg1]
  obtain ⟨-, -, ⟨e0, e1⟩, -⟩ := idx_h t
  refine congrArg _ (Shape.idx_ext₂ ?_ ?_)
  · refine (win0_1.rect_emb_val t _ 0).trans ?_
    rw [e0]; exact h0.symm
  · refine (win0_1.rect_emb_val t _ 1).trans ?_
    rw [e1]; exact h1.symm

/-- The staged latent values at an index. -/
theorem vl_at (c : Dev nD) (t : Fin cfg0.N) (r : Fin 4096) (d : Fin 128) (i : S8704x1024.Idx)
    (h0 : (i 0).val = win0_5.index t 0 / 16 * 4096 + r.val) (h1 : (i 1).val = win0_5.index t 1 * 128 + d.val) :
    (X0_3 m c t : S4096x128.Idx → EReal) (ix2 r d) = m ((c : Thread nD τ).loc main_arg2) i := by
  unfold X0_3 Pipeline.Window.fill
  rw [dif_pos (moved0_3 t (ix2 r d))]
  show V m c main_arg2 ((win0_3.rect t).emb _) = _
  rw [V_main_arg2]
  obtain ⟨-, -, -, -, ⟨e0, e1⟩, -⟩ := idx_h t
  refine congrArg _ (Shape.idx_ext₂ ?_ ?_)
  · refine (win0_3.rect_emb_val t _ 0).trans ?_
    rw [e0]; exact h0.symm
  · refine (win0_3.rect_emb_val t _ 1).trans ?_
    rw [e1]; exact h1.symm

/-- The staged context keys at an index. -/
theorem kc_at (c : Dev nD) (t : Fin cfg0.N) (r : Fin 256) (d : Fin 128) (i : S8704x1024.Idx)
    (h0 : (i 0).val = 8192 + win0_5.index t 0 / 16 * 256 + r.val) (h1 : (i 1).val = win0_5.index t 1 * 128 + d.val) :
    (iblk m c 2 t : S256x128.Idx → EReal) (ix2 r d) = m ((c : Thread nD τ).loc main_arg1) i := by
  show V m c main_arg1 ((win0_2.rect t).emb (ix2 r d)) = _
  rw [V_main_arg1]
  obtain ⟨-, -, -, ⟨e0, e1⟩, -⟩ := idx_h t
  refine congrArg _ (Shape.idx_ext₂ ?_ ?_)
  · refine (win0_2.rect_emb_val t _ 0).trans ?_
    rw [e0, h0]
    show (32 + win0_5.index t 0 / 16) * 256 + r.val = _
    omega
  · refine (win0_2.rect_emb_val t _ 1).trans ?_
    rw [e1]; exact h1.symm

/-- The staged context values at an index. -/
theorem vc_at (c : Dev nD) (t : Fin cfg0.N) (r : Fin 256) (d : Fin 128) (i : S8704x1024.Idx)
    (h0 : (i 0).val = 8192 + win0_5.index t 0 / 16 * 256 + r.val) (h1 : (i 1).val = win0_5.index t 1 * 128 + d.val) :
    (iblk m c 4 t : S256x128.Idx → EReal) (ix2 r d) = m ((c : Thread nD τ).loc main_arg2) i := by
  show V m c main_arg2 ((win0_4.rect t).emb (ix2 r d)) = _
  rw [V_main_arg2]
  obtain ⟨-, -, -, -, -, ⟨e0, e1⟩⟩ := idx_h t
  refine congrArg _ (Shape.idx_ext₂ ?_ ?_)
  · refine (win0_4.rect_emb_val t _ 0).trans ?_
    rw [e0, h0]
    show (32 + win0_5.index t 0 / 16) * 256 + r.val = _
    omega
  · refine (win0_4.rect_emb_val t _ 1).trans ?_
    rw [e1]; exact h1.symm

/-- What point `t` writes back is block `t` of `G`. -/
theorem flushed_eq (c : Dev nD) (t : Fin cfg0.N) :
    (dats m 0 c).flushed 5 t = (win0_5.blk t).view.read (Elt Ideal)
      (G (m ((c : Thread nD τ).loc main_arg0)) (m ((c : Thread nD τ).loc main_arg1)) (m ((c : Thread nD τ).loc main_arg2))) := by
  rw [Value.flushed5_A, out_eq]
  funext y
  obtain ⟨r, s, rfl⟩ : ∃ (r : Fin 256) (s : Fin 512), y = ix2 r s := ⟨y 0, y 1, eq_ix2 y⟩
  show B (iblk m c 0 t) (X0_1 m c t) (iblk m c 2 t) (X0_3 m c t) (iblk m c 4 t) (ix2 r s)
    = G (m ((c : Thread nD τ).loc main_arg0)) (m ((c : Thread nD τ).loc main_arg1)) (m ((c : Thread nD τ).loc main_arg2)) ((win0_5.rect t).emb (ix2 r s))
  have o0 : ((win0_5.rect t).emb (ix2 r s) 0).val = win0_5.index t 0 * 256 + r.val := win0_5.rect_emb_val t (ix2 r s) 0
  have o1 : ((win0_5.rect t).emb (ix2 r s) 1).val = win0_5.index t 1 * 512 + s.val := win0_5.rect_emb_val t (ix2 r s) 1
  have hr := r.isLt
  have hs := s.isLt
  unfold B G
  dsimp only
  congr 1
  · funext d
    refine q_at m c t r _ _ o0 ?_
    show _ / 128 * 128 + d.val = win0_5.index t 1 * 512 + (s.val / 128 * 128 + d.val)
    rw [o1]; omega
  · funext j d
    refine kl_at m c t j d _ ?_ ?_
    · show _ / 4096 * 4096 + j.val = _
      rw [o0]; omega
    · show _ / 512 * 128 + d.val = _
      rw [o1]; omega
  · funext j d
    refine kc_at m c t j d _ ?_ ?_
    · show 8192 + _ / 4096 * 256 + j.val = _
      rw [o0]; omega
    · show _ / 512 * 128 + d.val = _
      rw [o1]; omega
  · funext j
    refine vl_at m c t j _ _ ?_ ?_
    · show _ / 4096 * 4096 + j.val = _
      rw [o0]; omega
    · show _ / 512 * 128 + _ % 128 = win0_5.index t 1 * 128 + s.val % 128
      rw [o1]; omega
  · funext j
    refine vc_at m c t j _ _ ?_ ?_
    · show 8192 + _ / 4096 * 256 + j.val = _
      rw [o0]; omega
    · show _ / 512 * 128 + _ % 128 = win0_5.index t 1 * 128 + s.val % 128
      rw [o1]; omega

/-- The result's blocks tile its array. -/
theorem cover (i : S8192x4096.Idx) :
    ∃ t : Fin cfg0.N, (cfg0.win 5).flush t = true ∧ i ∈ ((cfg0.win 5).blk t).view.set := by
  have h0 : (i 0 : Nat) < 8192 := (i 0).isLt
  have h1 : (i 1 : Nat) < 4096 := (i 1).isLt
  obtain ⟨t, ha, hb⟩ := idx_onto ⟨(i 0 : Nat) / 256, by omega⟩ ⟨(i 1 : Nat) / 512, by omega⟩
  refine ⟨t, flush0_5 t, ?_⟩
  show i ∈ ((View.whole main_v0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [ha]; dsimp only; omega
  | ⟨1, _⟩ =>
    show win0_5.index t 1 * 512 ≤ (i 1 : Nat) ∧ (i 1 : Nat) < win0_5.index t 1 * 512 + 512
    rw [hb]; dsimp only; omega

/-- So the result array ends holding `G` of the three arguments. -/
theorem final (c : Dev nD) : (dats m 0 c).arrAt 5 cfg0.N
    = G (m ((c : Thread nD τ).loc main_arg0)) (m ((c : Thread nD τ).loc main_arg1)) (m ((c : Thread nD τ).loc main_arg2)) :=
  (dats m 0 c).arrAt_eq_of_cover 5 _ (fun t _ => flushed_eq m c t) cover

end Kernel

end Cert.Proof.Attn

end
-- ==== Proof.AttnRef.lean ====
/-
  The attention reference at an index, and the claim: the softmax of the joined scores applied to the joined values is
  what the kernel's rows compute, where the queries and the keys are finite.
-/
module

public import proofs.«01_k».proof.Defs
public import proofs.«01_k».proof.Proof.AttnMath
public import proofs.«01_k».proof.Proof.AttnKernel
public import proofs.«01_k».proof.Proof.Gen.AttnRefIdeal.Run
public import proofs.«01_k».proof.Proof.Gen.AttnRefIdeal.Read
public import Idealize.ShloMosaic.Lib.KernelVsHost
public import Idealize.ShloMosaic.Lib.ReduceAll

@[expose] public section

set_option maxRecDepth 16384

noncomputable section

namespace Cert.Proof.Attn

open Cert.AttnRefIdeal Cert.AttnRefIdeal.Gen Cert.AttnRefIdeal.Read Idealize.ShloMosaic Idealize.ShloMosaic.TcCoe Idealize.SL.Sem
open Idealize.ShloMosaic.ValueIdx Cert.Proof.AttnMath
open scoped BigOperators

variable (q : S8192x4096.Idx → EReal) (k v : S8704x1024.Idx → EReal)

/-- Two indices of five axes with the same coordinates. -/
theorem ext5 {n0 n1 n2 n3 n4 : ℕ} {i j : (⟨5, ![n0, n1, n2, n3, n4]⟩ : Shape).Idx} (h0 : (i 0).val = (j 0).val) (h1 : (i 1).val = (j 1).val)
    (h2 : (i 2).val = (j 2).val) (h3 : (i 3).val = (j 3).val) (h4 : (i 4).val = (j 4).val) : i = j :=
  funext fun a => Fin.ext (match a with | ⟨0, _⟩ => h0 | ⟨1, _⟩ => h1 | ⟨2, _⟩ => h2 | ⟨3, _⟩ => h3 | ⟨4, _⟩ => h4)

/-- Two indices of four axes with the same coordinates. -/
theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun a => Fin.ext (match a with | ⟨0, _⟩ => h0 | ⟨1, _⟩ => h1 | ⟨2, _⟩ => h2 | ⟨3, _⟩ => h3)

/-- The reshaped queries at an index. -/
theorem q_read (b : Fin 2) (t : Fin 4096) (h : Fin 8) (g : Fin 4) (d : Fin 128) :
    val_main_v3 (F := Ideal) q (ix5 b t h g d)
      = q (ix2 ⟨b.val * 4096 + t.val, by omega⟩ ⟨h.val * 512 + g.val * 128 + d.val, by omega⟩) := by
  rw [val_main_v3_apply, val_main_v0_apply, Ideal.extf_def]
  refine congrArg q (Shape.idx_ext₂ ?_ ?_)
  · show ((((b.val * 4096 + t.val) * 8 + h.val) * 4 + g.val) * 128 + d.val) / 4096 = b.val * 4096 + t.val
    omega
  · show ((((b.val * 4096 + t.val) * 8 + h.val) * 4 + g.val) * 128 + d.val) % 4096 = h.val * 512 + g.val * 128 + d.val
    omega

/-- The joined keys at a context position. -/
theorem k_ctx (b : Fin 2) (j : Fin 256) (h : Fin 8) (d : Fin 128) :
    val_main_v12 (F := Ideal) k (ix4 b (Fin.castAdd 4096 j) h d)
      = k (ix2 ⟨8192 + b.val * 256 + j.val, by omega⟩ ⟨h.val * 128 + d.val, by omega⟩) := by
  unfold val_main_v12
  refine (concatenate_pair_apply_left (t := S2x4352x8x128) (s₁ := S2x256x8x128) (s₂ := S2x4096x8x128) 1 _ _ _ _ rfl (ix4 b j h d)
    (fun a => match a with | ⟨0, _⟩ => rfl | ⟨1, _⟩ => rfl | ⟨2, _⟩ => rfl | ⟨3, _⟩ => rfl)).trans ?_
  rw [val_main_v7_apply, val_main_v6_apply, val_main_v1_apply, Ideal.extf_def]
  refine congrArg k (Shape.idx_ext₂ ?_ ?_)
  · show 8192 + (((b.val * 256 + j.val) * 8 + h.val) * 128 + d.val) / 1024 = 8192 + b.val * 256 + j.val
    omega
  · show (((b.val * 256 + j.val) * 8 + h.val) * 128 + d.val) % 1024 = h.val * 128 + d.val
    omega

/-- The joined keys at a latent position. -/
theorem k_lat (b : Fin 2) (j : Fin 4096) (h : Fin 8) (d : Fin 128) :
    val_main_v12 (F := Ideal) k (ix4 b (Fin.natAdd 256 j) h d)
      = k (ix2 ⟨b.val * 4096 + j.val, by omega⟩ ⟨h.val * 128 + d.val, by omega⟩) := by
  unfold val_main_v12
  refine (concatenate_pair_apply_right (t := S2x4352x8x128) (s₁ := S2x256x8x128) (s₂ := S2x4096x8x128) 1 _ _ _ _ rfl rfl (ix4 b j h d)
    (fun a ha => match a, ha with | ⟨0, _⟩, _ => rfl | ⟨1, _⟩, ha => absurd rfl ha | ⟨2, _⟩, _ => rfl | ⟨3, _⟩, _ => rfl)
    (by show j.val + 256 = 256 + j.val; omega)).trans ?_
  rw [val_main_v5_apply, val_main_v4_apply, val_main_v1_apply, Ideal.extf_def]
  refine congrArg k (Shape.idx_ext₂ ?_ ?_)
  · show (((b.val * 4096 + j.val) * 8 + h.val) * 128 + d.val) / 1024 = b.val * 4096 + j.val
    omega
  · show (((b.val * 4096 + j.val) * 8 + h.val) * 128 + d.val) % 1024 = h.val * 128 + d.val
    omega

/-- Keys and values are joined alike. -/
theorem v_read (i : S2x4352x8x128.Idx) : val_main_v13 (F := Ideal) v i = val_main_v12 (F := Ideal) v i := rfl

/-- The scores at an index. -/
theorem score (b : Fin 2) (h : Fin 8) (g : Fin 4) (t : Fin 4096) (s : Fin 4352) :
    val_main_v15 (F := Ideal) q k (ix5 b h g t s)
      = ∑ d : Fin 128, val_main_v12 (F := Ideal) k (ix4 b s h d) * val_main_v3 (F := Ideal) q (ix5 b t h g d) := by
  rw [val_main_v15_apply, val_main_v14_apply]
  exact Finset.sum_congr rfl fun d _ => congrArg₂ (· * ·) (congrArg _ (ext4 rfl rfl rfl rfl)) (congrArg _ (ext5 rfl rfl rfl rfl rfl))

/-- The largest score of a row. -/
theorem largest (b : Fin 2) (h : Fin 8) (g : Fin 4) (t : Fin 4096) :
    val_main_v18 (F := Ideal) q k (ix4 b h g t) = top fun s : Fin 4352 => val_main_v15 (F := Ideal) q k (ix5 b h g t s) := by
  rw [val_main_v18_apply, val_main_v17_apply, val_main_cst_0_apply, ofBits_ninf, Ideal.maximumf_def, max_eq_right bot_le]
  unfold val_main_v16 val_main_cst
  generalize val_main_v15 (F := Ideal) q k = y
  have hr : S2x8x4x4096x4352.Reduces [4] S2x8x4x4096 := by decide
  rw [hostReduce_maximumf_eq_multiReduction (F := Ideal) (φ := .f32) y 0xFF800000#32 reducesTo_S2x8x4x4096x4352_S2x8x4x4096_d4 h_S_ hr (.inl rfl) rfl]
  refine (Ideal.multiReduction_maximumf_single y _ hr _ _ _).trans ?_
  rw [ofBits_ninf]
  exact congrArg (fun f => (Finset.univ : Finset (Fin 4352)).fold max ⊥ f) (funext fun s => congrArg y (ext5 rfl rfl rfl rfl rfl))

/-- The weights at an index. -/
theorem weight (b : Fin 2) (h : Fin 8) (g : Fin 4) (t : Fin 4096) (s : Fin 4352) :
    val_main_v22 (F := Ideal) q k (ix5 b h g t s)
      = Ideal.exp (val_main_v15 (F := Ideal) q k (ix5 b h g t s) - top fun s : Fin 4352 => val_main_v15 (F := Ideal) q k (ix5 b h g t s)) := by
  rw [val_main_v22_apply, val_main_v21_apply, val_main_v20_apply, val_main_v19_apply, ← largest]
  exact congrArg (fun z => Ideal.exp (val_main_v15 (F := Ideal) q k (ix5 b h g t s) - z)) (congrArg _ (ext4 rfl rfl rfl rfl))

/-- The weights' sum at an index. -/
theorem total (b : Fin 2) (h : Fin 8) (g : Fin 4) (t : Fin 4096) (s : Fin 4352) :
    val_main_v25 (F := Ideal) q k (ix5 b h g t s) = ∑ s : Fin 4352, val_main_v22 (F := Ideal) q k (ix5 b h g t s) := by
  rw [val_main_v25_apply, val_main_v24_apply, val_main_v23_apply, val_main_cst_1_apply, Ideal.ofBits_def, Ideal.ofBits_zero_f32, zero_add]
  exact Finset.sum_congr rfl fun s _ => congrArg _ (ext5 rfl rfl rfl rfl rfl)

/-- The attention at an index. -/
theorem out_read (n : Fin 8192) (c : Fin 4096) (b : Fin 2) (t : Fin 4096) (h : Fin 8) (g : Fin 4) (d : Fin 128)
    (hn : n.val = b.val * 4096 + t.val) (hc : c.val = h.val * 512 + g.val * 128 + d.val) :
    val_main_v30 (F := Ideal) q k v (ix2 n c)
      = ∑ s : Fin 4352, val_main_v12 (F := Ideal) v (ix4 b s h d)
          * Ideal.div (val_main_v22 (F := Ideal) q k (ix5 b h g t s)) (∑ s : Fin 4352, val_main_v22 (F := Ideal) q k (ix5 b h g t s)) := by
  rw [val_main_v30_apply, Ideal.truncf_def, val_main_v29_apply]
  have e : idx_main_v29 (ix2 n c) = ix5 b t h g d := by
    refine ext5 ?_ ?_ ?_ ?_ ?_
    · show (n.val * 4096 + c.val) / 16777216 = b.val
      omega
    · show (n.val * 4096 + c.val) / 4096 % 4096 = t.val
      omega
    · show (n.val * 4096 + c.val) / 512 % 8 = h.val
      omega
    · show (n.val * 4096 + c.val) / 128 % 4 = g.val
      omega
    · show (n.val * 4096 + c.val) % 128 = d.val
      omega
  rw [e, val_main_v28_apply, val_main_v27_apply]
  refine Finset.sum_congr rfl fun s _ => congrArg₂ (· * ·) ?_ ?_
  · rw [v_read]; exact congrArg _ (ext4 rfl rfl rfl rfl)
  · have e' : ridx_main_v27 (idx_main_v28 (ix5 b t h g d)) s = ix5 b h g t s := ext5 rfl rfl rfl rfl rfl
    rw [e', val_main_v26_apply, Ideal.hostDivf_def, total]

/-- Where queries and keys are finite the reference's result is the kernel's. -/
theorem ref_eq (hq : ∀ i, ∃ r : ℝ, q i = r) (hk : ∀ i, ∃ r : ℝ, k i = r) : val_main_v30 (F := Ideal) q k v = G q k v := by
  funext i
  obtain ⟨n, c, rfl⟩ : ∃ (n : Fin 8192) (c : Fin 4096), i = ix2 n c := ⟨i 0, i 1, eq_ix2 i⟩
  have hn := n.isLt
  have hc := c.isLt
  rw [out_read q k v n c ⟨n.val / 4096, by omega⟩ ⟨n.val % 4096, by omega⟩ ⟨c.val / 512, by omega⟩ ⟨c.val / 128 % 4, by omega⟩
    ⟨c.val % 128, by omega⟩ (by show _ = n.val / 4096 * 4096 + n.val % 4096; omega)
    (by show _ = c.val / 512 * 512 + c.val / 128 % 4 * 128 + c.val % 128; omega)]
  generalize hb : (⟨n.val / 4096, by omega⟩ : Fin 2) = b
  generalize ht : (⟨n.val % 4096, by omega⟩ : Fin 4096) = t
  generalize hh : (⟨c.val / 512, by omega⟩ : Fin 8) = h
  generalize hg : (⟨c.val / 128 % 4, by omega⟩ : Fin 4) = g
  generalize hd : (⟨c.val % 128, by omega⟩ : Fin 128) = d
  have hb' : n.val / 4096 = b.val := by rw [← hb]
  have ht' : n.val % 4096 = t.val := by rw [← ht]
  have hh' : c.val / 512 = h.val := by rw [← hh]
  have hg' : c.val / 128 % 4 = g.val := by rw [← hg]
  have hd' : c.val % 128 = d.val := by rw [← hd]
  simp only [weight]
  -- the scores, split at the context's end
  have hs : ∀ s : Fin 4352, ∃ r : ℝ, val_main_v15 (F := Ideal) q k (ix5 b h g t s) = r := fun s => by
    rw [score]
    refine finite_dot _ _ (fun e => ?_) (fun e => by rw [q_read]; exact hq _)
    refine Fin.addCases (m := 256) (n := 4096) (fun j => ?_) (fun j => ?_) s
    · rw [k_ctx]; exact hk _
    · rw [k_lat]; exact hk _
  have qe (e : Fin 128) : val_main_v3 (F := Ideal) q (ix5 b t h g e) = q (ix2 n ⟨c.val / 128 * 128 + e.val, by omega⟩) := by
    rw [q_read]; refine congrArg q (Shape.idx_ext₂ ?_ ?_)
    · show b.val * 4096 + t.val = n.val; omega
    · show h.val * 512 + g.val * 128 + e.val = c.val / 128 * 128 + e.val; omega
  have sl (j : Fin 4096) : val_main_v15 (F := Ideal) q k (ix5 b h g t (Fin.natAdd 256 j))
      = ∑ e : Fin 128, q (ix2 n ⟨c.val / 128 * 128 + e.val, by omega⟩)
          * k (ix2 ⟨n.val / 4096 * 4096 + j.val, by omega⟩ ⟨c.val / 512 * 128 + e.val, by omega⟩) := by
    refine (score q k b h g t _).trans (Finset.sum_congr rfl fun e _ => ?_)
    rw [k_lat, qe, mul_comm]
    simp only [hb', hh']
  have sc (j : Fin 256) : val_main_v15 (F := Ideal) q k (ix5 b h g t (Fin.castAdd 4096 j))
      = ∑ e : Fin 128, q (ix2 n ⟨c.val / 128 * 128 + e.val, by omega⟩)
          * k (ix2 ⟨8192 + n.val / 4096 * 256 + j.val, by omega⟩ ⟨c.val / 512 * 128 + e.val, by omega⟩) := by
    refine (score q k b h g t _).trans (Finset.sum_congr rfl fun e _ => ?_)
    rw [k_ctx, qe, mul_comm]
    simp only [hb', hh']
  refine (row_eq (m := 256) (n := 4096) (by decide) (fun s => val_main_v15 (F := Ideal) q k (ix5 b h g t s))
    (fun s => val_main_v12 (F := Ideal) v (ix4 b s h d)) hs _ rfl).symm.trans ?_
  rw [top_append (m := 256) (n := 4096) (fun s => val_main_v15 (F := Ideal) q k (ix5 b h g t s))]
  simp only [sl, sc, k_lat, k_ctx]
  unfold G kval
  simp only [hb', hh', hd']

end Cert.Proof.Attn

end
-- ==== Proof.AttnClaim.lean ====
/-
  The attention's claims: the precondition read back as the finiteness of the queries and the keys, and the two programs'
  results equal.
-/
module

public import proofs.«01_k».proof.Defs
public import proofs.«01_k».proof.Proof.Gen.Pre_attn_pre
public import proofs.«01_k».proof.Proof.AttnKernel
public import proofs.«01_k».proof.Proof.AttnRef
public import Idealize.ShloMosaic.Lib.ReduceAll
public import Idealize.ShloMosaic.Lib.Affine

@[expose] public section

set_option maxRecDepth 16384

noncomputable section

namespace Cert.Proof.Attn

open Idealize.ShloMosaic Idealize.ShloMosaic.TcCoe Idealize.SL.Sem
open Idealize.ShloMosaic.ValueIdx
open Cert.AttnIdeal Cert.AttnIdeal.Gen

/-- The half-width float pattern of infinity. -/
theorem ofBits_inf : (FloatOps.ofBits (F := Ideal) .bf16 0x7F80#16 : EReal) = ⊤ := by
  rw [Ideal.ofBits_def]
  decide +kernel

/-- An element whose absolute value compares below infinity is a real. -/
theorem finite_of_cmp (x : EReal) (h : Ideal.cmp .olt (max x (-x)) ⊤ = 1#1) : ∃ r : ℝ, x = r := by
  have h' : max x (-x) < ⊤ := by
    by_contra hn
    simp [Ideal.cmp, hn] at h
  induction x using EReal.rec with
  | bot => simp at h'
  | top => simp at h'
  | coe r => exact ⟨r, rfl⟩

/-- The precondition says that every query and every key is a real. -/
theorem finite_of_pre (q : S8192x4096.Idx → EReal) (k v : S8704x1024.Idx → EReal)
    (h : Cert.Pre_attn_pre.fn (F := Ideal) q k v = (fun _ => 1#1)) :
    (∀ i, ∃ r : ℝ, q i = r) ∧ ∀ i, ∃ r : ℝ, k i = r := by
  haveI : Subsingleton (Cert.Pre_attn_pre.S_).Idx := ⟨fun a b => funext fun x => x.elim0⟩
  have e := congrFun h (Shape.Idx.first Cert.Pre_attn_pre.Facts.h_S_)
  unfold Cert.Pre_attn_pre.fn at e
  obtain ⟨e1, e2⟩ := IntOp.andi_eq_one.1 e
  refine ⟨fun i => finite_of_cmp _ ?_, fun i => finite_of_cmp _ ?_⟩
  · have a := Host.reduce_andi_all _ _ _ _ _ e1 i
    rw [← ofBits_inf]; exact a
  · have a := Host.reduce_andi_all _ _ _ _ _ e2 i
    rw [← ofBits_inf]; exact a

/-- The reference's run ends with its arguments unchanged and its counters at zero. -/
theorem frame_ref : Cert.quiescent_AttnRefIdeal := fun m ρ _ =>
  (θ_run Cert.AttnRefIdeal.defs _ _).mono (fun r h => ⟨fun c => (h c).2,
      sem_eq_zero_of_no_sems (by decide) r.2⟩)
    (Cert.AttnRefIdeal.Value.run (F := Ideal) m ρ)

/-- The same under the precondition. -/
theorem frame_ref_pre : Cert.quiescent_AttnRefIdeal_pre_attn_pre := fun m ρ _ => frame_ref m ρ trivial

/-- The kernel's result is the reference's, where the queries and the keys are finite. -/
theorem algebraic : Cert.algebraic_AttnIdeal_AttnRefIdeal_pre_attn_pre := by
  intro m ρ m' ρ' hpre hagree
  refine ⟨fun c => G (m ((c : Thread nD τ).loc main_arg0)) (m ((c : Thread nD τ).loc main_arg1)) (m ((c : Thread nD τ).loc main_arg2)), ?_, ?_⟩
  · exact (θ_run Cert.AttnIdeal.defs _ _).mono (fun r h c => ⟨((h c).1).trans (final m c), (h c).2⟩)
      (Cert.AttnIdeal.Value.run_blocks (F := Ideal) m ρ)
  · refine (θ_run Cert.AttnRefIdeal.defs _ _).mono (fun r h c => ⟨(h c).1.trans ?_, (h c).2⟩)
      (Cert.AttnRefIdeal.Value.run (F := Ideal) m' ρ')
    obtain ⟨hq, hk⟩ := finite_of_pre _ _ _ (hpre c)
    rw [Cert.AttnRefIdeal.Read.val_main_v30_eq, (hagree c).1, (hagree c).2.1, (hagree c).2.2]
    exact ref_eq _ _ _ hq hk

end Cert.Proof.Attn

end
-- ==== Proof.ProjIn.lean ====
/-
  The input projection: the kernel's result array and the reference's are one function of the arguments.
-/
module

public import proofs.«01_k».proof.Defs
public import proofs.«01_k».proof.Proof.Gen.ProjInIdeal.Value
public import proofs.«01_k».proof.Proof.Gen.ProjInRefIdeal.Run
public import proofs.«01_k».proof.Proof.Gen.ProjInRefIdeal.Read
public import Idealize.ShloMosaic.Lib.Pipeline.Value
public import Idealize.ShloMosaic.Lib.MatmulPlain
public import Idealize.ShloMosaic.Lib.KernelVsHost
public import Idealize.ShloMosaic.Lib.ValueIdx

@[expose] public section

set_option maxRecDepth 16384

noncomputable section

namespace Cert.Proof.ProjIn

open Cert.ProjInIdeal Cert.ProjInIdeal.Gen Idealize.ShloMosaic Idealize.ShloMosaic.TcCoe Idealize.SL.Sem
open Idealize.ShloMosaic.Pipeline (Dat)
open Idealize.ShloMosaic.ValueIdx
open scoped BigOperators

/-- The column of the weights that column `j` of the result takes, where it takes one. -/
def src (j : Nat) : Nat :=
  if j < 6144 then j else if j < 12288 then j + 448 else if j < 12544 then j - 5952 else if j < 12640 then j - 6400
    else if j < 12672 then j + 96 else j - 6432

/-- The source of a column lies among the given columns. -/
theorem src_lt {j : Nat} (h : j < 12768) : src j < 12768 := by
  unfold src; split_ifs <;> omega

/-- The weights' columns in the result's order: the last 32 are zero. -/
def wcol (w : S4096x12768.Idx → EReal) (k : Fin 4096) (j : Nat) : EReal :=
  if h : j < 12768 then w (ix2 k ⟨src j, src_lt h⟩) else 0

/-- A column that is taken. -/
theorem wcol_of {w : S4096x12768.Idx → EReal} {k : Fin 4096} {j : Nat} (h : j < 12768) (y : S4096x12768.Idx)
    (h0 : (y 0).val = k.val) (h1 : (y 1).val = src j) : w y = wcol w k j := by
  unfold wcol
  rw [dif_pos h]
  exact congrArg w (Shape.idx_ext₂ h0 h1)

/-- A column past the last one taken. -/
theorem wcol_zero {w : S4096x12768.Idx → EReal} {k : Fin 4096} {j : Nat} (h : ¬ j < 12768) : wcol w k j = 0 := dif_neg h

/-- The result at row `i 0`, column `i 1`: the row of `h` times that column of the reordered weights. -/
def G (h : S8704x4096.Idx → EReal) (w : S4096x12768.Idx → EReal) : S8704x12800.Idx → EReal := fun i =>
  ∑ k : Fin 4096, h (ix2 (i 0) k) * wcol w k (i 1).val

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl

/-- The padding value, an integer zero made a float. -/
def zero : S_.Idx → EReal := sitofp (F := Ideal) .f32 (constantI S_ 32 0#32)

/-- The padding is zero. -/
theorem zero_eq (i : S_.Idx) : zero i = 0 := by
  show (((0#32 : BitVec 32).toInt : ℝ) : EReal) = 0
  simp

/-- The third packed segment: the decay's columns, then the gates'. -/
def seg3 (w : S4096x12768.Idx → EReal) : S4096x128.Idx → EReal :=
  pad S4096x128 ![0, 0] ![0, 0] ![0, 0]
    (concatenate S4096x128 1 [⟨S4096x96, extractStridedSlice S4096x96 ![0, 6144] w slices_S4096x12768_S4096x96_0_6144⟩,
      ⟨S4096x32, extractStridedSlice S4096x32 ![0, 12736] w slices_S4096x12768_S4096x32_0_12736⟩]
      concatenates_S4096x96_S4096x32_S4096x128_d1) zero pads_S4096x128_S4096x128_000_000 h_S_

/-- The last packed segment: 96 columns, padded to 128. -/
def seg4 (w : S4096x12768.Idx → EReal) : S4096x128.Idx → EReal :=
  pad S4096x128 ![0, 0] ![0, 32] ![0, 0] (extractStridedSlice S4096x96 ![0, 6240] w slices_S4096x12768_S4096x96_0_6240) zero
    pads_S4096x96_S4096x128_000_0320 h_S_

/-- The packed weights. -/
def packed (w : S4096x12768.Idx → EReal) : S4096x12800.Idx → EReal :=
  concatenate S4096x12800 1 [⟨S4096x6144, extractStridedSlice S4096x6144 ![0, 0] w slices_S4096x12768_S4096x6144_0_0⟩,
    ⟨S4096x6144, extractStridedSlice S4096x6144 ![0, 6592] w slices_S4096x12768_S4096x6144_0_6592⟩,
    ⟨S4096x256, extractStridedSlice S4096x256 ![0, 6336] w slices_S4096x12768_S4096x256_0_6336⟩,
    ⟨S4096x128, seg3 w⟩, ⟨S4096x128, seg4 w⟩]
    concatenates_S4096x6144_S4096x6144_S4096x256_S4096x128_S4096x128_S4096x12800_d1

/-- The packed weights, as the region finds them. -/
theorem V_w (c : Dev nD) : V m c main_v10 = truncf (F := Ideal) .bf16 (packed (m ((c : Thread nD τ).loc main_arg1))) bitsLt_bf16_f32 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

variable {m} in
/-- A slice of columns, entry by entry. -/
theorem slice_at {n : Nat} (o : Nat) (w : S4096x12768.Idx → EReal) (h : S4096x12768.Slices ![0, o] ⟨2, ![4096, n]⟩) (k : Fin 4096)
    (j : Fin n) (hj : o + j.val < 12768) :
    extractStridedSlice ⟨2, ![4096, n]⟩ ![0, o] w h (ix2 k j) = w (ix2 k ⟨o + j.val, hj⟩) :=
  extractStridedSlice_apply ![0, o] w h (ix2 k j) (ix2 k ⟨o + j.val, hj⟩) (fun a => match a with
    | ⟨0, _⟩ => by show k.val = 0 + k.val; omega
    | ⟨1, _⟩ => rfl)

/-- The fourth piece holds its columns. -/
theorem seg3_apply (w : S4096x12768.Idx → EReal) (k : Fin 4096) (j : Fin 128) : seg3 w (ix2 k j) = wcol w k (12544 + j.val) := by
  have hj := j.isLt
  unfold seg3
  refine (pad_apply_of_inside _ _ _ _ _ _ _ (ix2 k j) (ix2 k j) (fun a => match a with
    | ⟨0, _⟩ => by show k.val = 0 + k.val * (0 + 1); omega
    | ⟨1, _⟩ => by show j.val = 0 + j.val * (0 + 1); omega)).trans ?_
  by_cases h : j.val < 96
  · refine (concatenate_pair_apply_left (t := S4096x128) (s₁ := S4096x96) (s₂ := S4096x32) 1 _ _ _ _ rfl (ix2 k ⟨j.val, h⟩)
      (fun b => match b with | ⟨0, _⟩ => rfl | ⟨1, _⟩ => rfl)).trans ?_
    refine (slice_at 6144 w _ k ⟨j.val, h⟩ (by show 6144 + j.val < 12768; omega)).trans (wcol_of (by omega) _ rfl ?_)
    show 6144 + j.val = src (12544 + j.val)
    unfold src; split_ifs <;> omega
  · refine (concatenate_pair_apply_right (t := S4096x128) (s₁ := S4096x96) (s₂ := S4096x32) 1 _ _ _ _ rfl rfl (ix2 k ⟨j.val - 96, by omega⟩)
      (fun b hb => match b, hb with | ⟨0, _⟩, _ => rfl | ⟨1, _⟩, hb => absurd rfl hb) (by show j.val - 96 + 96 = j.val; omega)).trans ?_
    refine (slice_at 12736 w _ k ⟨j.val - 96, by omega⟩ (by show 12736 + (j.val - 96) < 12768; omega)).trans (wcol_of (by omega) _ rfl ?_)
    show 12736 + (j.val - 96) = src (12544 + j.val)
    unfold src; split_ifs <;> omega

/-- The last piece holds its columns, then zeros. -/
theorem seg4_apply (w : S4096x12768.Idx → EReal) (k : Fin 4096) (j : Fin 128) : seg4 w (ix2 k j) = wcol w k (12672 + j.val) := by
  have hj := j.isLt
  unfold seg4
  by_cases h : j.val < 96
  · refine (pad_apply_of_inside _ _ _ _ _ _ _ (ix2 k j) (ix2 k ⟨j.val, h⟩) (fun a => match a with
      | ⟨0, _⟩ => by show k.val = 0 + k.val * (0 + 1); omega
      | ⟨1, _⟩ => by show j.val = 0 + j.val * (0 + 1); omega)).trans ?_
    refine (slice_at 6240 w _ k ⟨j.val, h⟩ (by show 6240 + j.val < 12768; omega)).trans (wcol_of (by omega) _ rfl ?_)
    show 6240 + j.val = src (12672 + j.val)
    unfold src; split_ifs <;> omega
  · refine (pad_apply_of_not_inside _ _ _ _ _ _ _ (ix2 k j) (1 : Fin 2) (fun hn => ?_)).trans ?_
    · have := hn.2.2
      have : (j.val - 0) / (0 + 1) < 96 := this
      omega
    · rw [zero_eq, wcol_zero (by omega)]

/-- The packed weights are the weights' columns in the result's order. -/
theorem packed_apply (w : S4096x12768.Idx → EReal) (k : Fin 4096) (j : Fin 12800) : packed w (ix2 k j) = wcol w k j.val := by
  have hj := j.isLt
  unfold packed
  by_cases h1 : j.val < 6144
  · refine (concatenate_apply_piece (t := S4096x12800) 1 _ _ (ix2 k j) 0 (by simp) S4096x6144 _ rfl rfl 0 rfl (ix2 k ⟨j.val, h1⟩)
      (fun b hb => match b, hb with | ⟨0, _⟩, _ => rfl | ⟨1, _⟩, hb => absurd rfl hb) (by show 0 + j.val = j.val; omega)).trans ?_
    refine (slice_at 0 w _ k ⟨j.val, h1⟩ (by show 0 + j.val < 12768; omega)).trans (wcol_of (by omega) _ rfl ?_)
    show 0 + j.val = src j.val
    unfold src; split_ifs <;> omega
  by_cases h2 : j.val < 12288
  · refine (concatenate_apply_piece (t := S4096x12800) 1 _ _ (ix2 k j) 1 (by simp) S4096x6144 _ rfl rfl 6144 rfl (ix2 k ⟨j.val - 6144, by omega⟩)
      (fun b hb => match b, hb with | ⟨0, _⟩, _ => rfl | ⟨1, _⟩, hb => absurd rfl hb) (by show 6144 + (j.val - 6144) = j.val; omega)).trans ?_
    refine (slice_at 6592 w _ k ⟨j.val - 6144, by omega⟩ (by show 6592 + (j.val - 6144) < 12768; omega)).trans (wcol_of (by omega) _ rfl ?_)
    show 6592 + (j.val - 6144) = src j.val
    unfold src; split_ifs <;> omega
  by_cases h3 : j.val < 12544
  · refine (concatenate_apply_piece (t := S4096x12800) 1 _ _ (ix2 k j) 2 (by simp) S4096x256 _ rfl rfl 12288 rfl (ix2 k ⟨j.val - 12288, by omega⟩)
      (fun b hb => match b, hb with | ⟨0, _⟩, _ => rfl | ⟨1, _⟩, hb => absurd rfl hb) (by show 12288 + (j.val - 12288) = j.val; omega)).trans ?_
    refine (slice_at 6336 w _ k ⟨j.val - 12288, by omega⟩ (by show 6336 + (j.val - 12288) < 12768; omega)).trans (wcol_of (by omega) _ rfl ?_)
    show 6336 + (j.val - 12288) = src j.val
    unfold src; split_ifs <;> omega
  by_cases h4 : j.val < 12672
  · refine (concatenate_apply_piece (t := S4096x12800) 1 _ _ (ix2 k j) 3 (by simp) S4096x128 _ rfl rfl 12544 rfl (ix2 k ⟨j.val - 12544, by omega⟩)
      (fun b hb => match b, hb with | ⟨0, _⟩, _ => rfl | ⟨1, _⟩, hb => absurd rfl hb) (by show 12544 + (j.val - 12544) = j.val; omega)).trans ?_
    refine (seg3_apply w k ⟨j.val - 12544, by omega⟩).trans (congrArg (wcol w k) ?_)
    show 12544 + (j.val - 12544) = j.val
    omega
  · refine (concatenate_apply_piece (t := S4096x12800) 1 _ _ (ix2 k j) 4 (by simp) S4096x128 _ rfl rfl 12672 rfl (ix2 k ⟨j.val - 12672, by omega⟩)
      (fun b hb => match b, hb with | ⟨0, _⟩, _ => rfl | ⟨1, _⟩, hb => absurd rfl hb) (by show 12672 + (j.val - 12672) = j.val; omega)).trans ?_
    refine (seg4_apply w k ⟨j.val - 12672, by omega⟩).trans (congrArg (wcol w k) ?_)
    show 12672 + (j.val - 12672) = j.val
    omega

/-- Block indices of the three windows, point by point. -/
theorem idx_h : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1)

/-- Every block of the result is some point's. -/
theorem idx_onto : ∀ (a : Fin 17) (b : Fin 25), ∃ t : Fin cfg0.N, win0_2.index t 0 = a.val ∧ win0_2.index t 1 = b.val :=
  (by decide +kernel : ∀ (a : Fin 17) (b : Fin 25), ∃ t : Fin grid0.N, win0_2.index t 0 = a.val ∧ win0_2.index t 1 = b.val)

/-- The body's product of two blocks, at an index. -/
theorem pay_apply (x0 : FVec Ideal S512x4096 .bf16) (x1 : FVec Ideal S4096x512 .bf16) (r : Fin 512) (s : Fin 512) :
    k0_pay1 (F := Ideal) x0 x1 (ix2 r s) = ∑ k : Fin 4096, x0 (ix2 r k) * x1 (ix2 k s) := by
  unfold k0_pay1
  rw [shapeCast_self]
  refine (Ideal.matmul_plain_apply none x0 x1 _ r s).trans ?_
  rw [constant_apply, Ideal.ofBits_zero_f32, zero_add]

/-- What point `t` writes back is block `t` of `G`. -/
theorem flushed_eq (c : Dev nD) (t : Fin cfg0.N) :
    (dats m 0 c).flushed 2 t = (win0_2.blk t).view.read (Elt Ideal)
      (G (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz, View.ld_unit_zero hz, View.ld_unit_zero hz]
  funext y
  obtain ⟨r, s, rfl⟩ : ∃ (r : Fin 512) (s : Fin 512), y = ix2 r s := ⟨y 0, y 1, eq_ix2 y⟩
  refine (pay_apply (iblk m c 0 t) (iblk m c 1 t) r s).trans ?_
  show _ = G (m ((c : Thread nD τ).loc main_arg0)) (m ((c : Thread nD τ).loc main_arg1)) ((win0_2.rect t).emb (ix2 r s))
  obtain ⟨e1, e2, e3, e4⟩ := idx_h t
  have o0 := win0_2.rect_emb_val t (ix2 r s) 0
  have o1 := win0_2.rect_emb_val t (ix2 r s) 1
  unfold G
  refine Finset.sum_congr rfl fun k _ => congrArg₂ (· * ·) ?_ ?_
  · show V m c main_arg0 ((win0_0.rect t).emb (ix2 r k)) = _
    rw [V_main_arg0]
    have a0 := win0_0.rect_emb_val t (ix2 r k) 0
    have a1 := win0_0.rect_emb_val t (ix2 r k) 1
    refine congrArg _ (Shape.idx_ext₂ ?_ ?_)
    · rw [a0, e1]; exact o0.symm
    · rw [a1, e2]; exact (Nat.zero_add _)
  · show V m c main_v10 ((win0_1.rect t).emb (ix2 k s)) = _
    rw [V_w]
    have b0 := win0_1.rect_emb_val t (ix2 k s) 0
    have b1 := win0_1.rect_emb_val t (ix2 k s) 1
    have e : (win0_1.rect t).emb (ix2 k s) = ix2 k ((win0_2.rect t).emb (ix2 r s) 1) := Shape.idx_ext₂
      (by rw [b0, e3]; exact Nat.zero_add _) (by rw [b1, e4]; exact o1.symm)
    rw [e]
    exact packed_apply _ _ _

/-- The result's blocks tile its array. -/
theorem cover (i : S8704x12800.Idx) :
    ∃ t : Fin cfg0.N, (cfg0.win 2).flush t = true ∧ i ∈ ((cfg0.win 2).blk t).view.set := by
  have h0 : (i 0 : Nat) < 8704 := (i 0).isLt
  have h1 : (i 1 : Nat) < 12800 := (i 1).isLt
  obtain ⟨t, ha, hb⟩ := idx_onto ⟨(i 0 : Nat) / 512, by omega⟩ ⟨(i 1 : Nat) / 512, by omega⟩
  refine ⟨t, flush0_2 t, ?_⟩
  show i ∈ ((View.whole main_v19).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [ha]; dsimp only; omega
  | ⟨1, _⟩ =>
    show win0_2.index t 1 * 512 ≤ (i 1 : Nat) ∧ (i 1 : Nat) < win0_2.index t 1 * 512 + 512
    rw [hb]; dsimp only; omega

/-- So the result array ends holding `G` of the two arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

end Kernel

section Reference
open Cert.ProjInRefIdeal.Read

variable (h : S8704x4096.Idx → EReal) (w : S4096x12768.Idx → EReal)

/-- The reference's product at an index whose column is the one that column `j` of the result takes. -/
theorem prod_eq (y : Cert.ProjInRefIdeal.S8704x12768.Idx) (r : Fin 8704) (j : Fin 12800) (hj : j.val < 12768) (h0 : (y 0).val = r.val)
    (h1 : (y 1).val = src j.val) : val_main_v1 (F := Ideal) h w y = G h w (ix2 r j) := by
  rw [val_main_v1_apply]
  unfold G
  refine Finset.sum_congr rfl fun k _ => congrArg₂ (· * ·) ?_ (wcol_of hj _ rfl h1)
  rw [val_main_v0_apply]
  exact congrArg h (Shape.idx_ext₂ h0 rfl)

/-- The columns before each piece of the reference's result. -/
theorem pre_eq : ∀ k : Fin 12, ((([Cert.ProjInRefIdeal.S8704x2048, Cert.ProjInRefIdeal.S8704x2048, Cert.ProjInRefIdeal.S8704x2048, Cert.ProjInRefIdeal.S8704x1024, Cert.ProjInRefIdeal.S8704x1024, Cert.ProjInRefIdeal.S8704x2048, Cert.ProjInRefIdeal.S8704x2048, Cert.ProjInRefIdeal.S8704x256, Cert.ProjInRefIdeal.S8704x96, Cert.ProjInRefIdeal.S8704x32, Cert.ProjInRefIdeal.S8704x96, Cert.ProjInRefIdeal.S8704x32] : List Shape).take k.val).map fun s => if h : s.rank = S8704x12800.rank then
      s.size ((1 : Fin S8704x12800.rank).cast h.symm) else 0).sum = ([0, 2048, 4096, 6144, 7168, 8192, 10240, 12288, 12544, 12640, 12672, 12768] : List Nat)[k.val]'(k.isLt) := by
  decide +kernel

/-- The pieces of the reference's result. -/
abbrev pieces : List ((s : Shape) × (s.Idx → EReal)) :=
  [⟨Cert.ProjInRefIdeal.S8704x2048, val_main_v2 (F := Ideal) h w⟩,
    ⟨Cert.ProjInRefIdeal.S8704x2048, val_main_v3 (F := Ideal) h w⟩,
    ⟨Cert.ProjInRefIdeal.S8704x2048, val_main_v4 (F := Ideal) h w⟩,
    ⟨Cert.ProjInRefIdeal.S8704x1024, val_main_v8 (F := Ideal) h w⟩,
    ⟨Cert.ProjInRefIdeal.S8704x1024, val_main_v9 (F := Ideal) h w⟩,
    ⟨Cert.ProjInRefIdeal.S8704x2048, val_main_v10 (F := Ideal) h w⟩,
    ⟨Cert.ProjInRefIdeal.S8704x2048, val_main_v11 (F := Ideal) h w⟩,
    ⟨Cert.ProjInRefIdeal.S8704x256, val_main_v7 (F := Ideal) h w⟩,
    ⟨Cert.ProjInRefIdeal.S8704x96, val_main_v5 (F := Ideal) h w⟩,
    ⟨Cert.ProjInRefIdeal.S8704x32, val_main_v12 (F := Ideal) h w⟩,
    ⟨Cert.ProjInRefIdeal.S8704x96, val_main_v6 (F := Ideal) h w⟩,
    ⟨Cert.ProjInRefIdeal.S8704x32, val_main_v13 (F := Ideal)⟩]

/-- The reference's result at an index that piece `k` holds. -/
theorem piece_eq (r : Fin 8704) (j : Fin 12800) (k : Fin 12) (pre : Nat)
    (hp : ([0, 2048, 4096, 6144, 7168, 8192, 10240, 12288, 12544, 12640, 12672, 12768] : List Nat)[k.val]'(k.isLt) = pre) {n : Nat}
    (x : (⟨2, ![8704, n]⟩ : Shape).Idx → EReal) (hx : (pieces h w)[k.val]'(k.isLt) = ⟨⟨2, ![8704, n]⟩, x⟩) (hl : pre ≤ j.val)
    (hj : j.val - pre < n) : val_main_v14 (F := Ideal) h w (ix2 r j) = x (ix2 r ⟨j.val - pre, hj⟩) := by
  unfold val_main_v14
  refine concatenate_apply_piece (t := S8704x12800) 1 (pieces h w) _ (ix2 r j) k.val k.isLt ⟨2, ![8704, n]⟩ x hx rfl pre ?_
    (ix2 r ⟨j.val - pre, hj⟩) (fun b hb => match b, hb with | ⟨0, _⟩, _ => rfl | ⟨1, _⟩, hb => absurd rfl hb) ?_
  · rw [List.map_take]
    exact (pre_eq k).trans hp
  · show pre + (j.val - pre) = j.val
    omega

/-- The reference's result, its pieces read one by one, is `G`. -/
theorem ref_eq : val_main_v14 (F := Ideal) h w = G h w := by
  funext i
  obtain ⟨r, j, rfl⟩ : ∃ (r : Fin 8704) (j : Fin 12800), i = ix2 r j := ⟨i 0, i 1, eq_ix2 i⟩
  have hj := j.isLt
  by_cases c0 : j.val < 2048
  · refine (piece_eq h w r j 0 0 rfl (val_main_v2 (F := Ideal) h w) rfl (by omega) (by omega)).trans ?_
    rw [val_main_v2_apply]
    refine prod_eq h w _ r j (by omega) rfl ?_
    show j.val - 0 = src j.val
    unfold src; split_ifs <;> omega
  by_cases c1 : j.val < 4096
  · refine (piece_eq h w r j 1 2048 rfl (val_main_v3 (F := Ideal) h w) rfl (by omega) (by omega)).trans ?_
    rw [val_main_v3_apply]
    refine prod_eq h w _ r j (by omega) rfl ?_
    show 2048 + (j.val - 2048) = src j.val
    unfold src; split_ifs <;> omega
  by_cases c2 : j.val < 6144
  · refine (piece_eq h w r j 2 4096 rfl (val_main_v4 (F := Ideal) h w) rfl (by omega) (by omega)).trans ?_
    rw [val_main_v4_apply]
    refine prod_eq h w _ r j (by omega) rfl ?_
    show 4096 + (j.val - 4096) = src j.val
    unfold src; split_ifs <;> omega
  by_cases c3 : j.val < 7168
  · refine (piece_eq h w r j 3 6144 rfl (val_main_v8 (F := Ideal) h w) rfl (by omega) (by omega)).trans ?_
    rw [val_main_v8_apply]
    refine prod_eq h w _ r j (by omega) rfl ?_
    show 6592 + (j.val - 6144) = src j.val
    unfold src; split_ifs <;> omega
  by_cases c4 : j.val < 8192
  · refine (piece_eq h w r j 4 7168 rfl (val_main_v9 (F := Ideal) h w) rfl (by omega) (by omega)).trans ?_
    rw [val_main_v9_apply]
    refine prod_eq h w _ r j (by omega) rfl ?_
    show 7616 + (j.val - 7168) = src j.val
    unfold src; split_ifs <;> omega
  by_cases c5 : j.val < 10240
  · refine (piece_eq h w r j 5 8192 rfl (val_main_v10 (F := Ideal) h w) rfl (by omega) (by omega)).trans ?_
    rw [val_main_v10_apply]
    refine prod_eq h w _ r j (by omega) rfl ?_
    show 8640 + (j.val - 8192) = src j.val
    unfold src; split_ifs <;> omega
  by_cases c6 : j.val < 12288
  · refine (piece_eq h w r j 6 10240 rfl (val_main_v11 (F := Ideal) h w) rfl (by omega) (by omega)).trans ?_
    rw [val_main_v11_apply]
    refine prod_eq h w _ r j (by omega) rfl ?_
    show 10688 + (j.val - 10240) = src j.val
    unfold src; split_ifs <;> omega
  by_cases c7 : j.val < 12544
  · refine (piece_eq h w r j 7 12288 rfl (val_main_v7 (F := Ideal) h w) rfl (by omega) (by omega)).trans ?_
    rw [val_main_v7_apply]
    refine prod_eq h w _ r j (by omega) rfl ?_
    show 6336 + (j.val - 12288) = src j.val
    unfold src; split_ifs <;> omega
  by_cases c8 : j.val < 12640
  · refine (piece_eq h w r j 8 12544 rfl (val_main_v5 (F := Ideal) h w) rfl (by omega) (by omega)).trans ?_
    rw [val_main_v5_apply]
    refine prod_eq h w _ r j (by omega) rfl ?_
    show 6144 + (j.val - 12544) = src j.val
    unfold src; split_ifs <;> omega
  by_cases c9 : j.val < 12672
  · refine (piece_eq h w r j 9 12640 rfl (val_main_v12 (F := Ideal) h w) rfl (by omega) (by omega)).trans ?_
    rw [val_main_v12_apply]
    refine prod_eq h w _ r j (by omega) rfl ?_
    show 12736 + (j.val - 12640) = src j.val
    unfold src; split_ifs <;> omega
  by_cases c10 : j.val < 12768
  · refine (piece_eq h w r j 10 12672 rfl (val_main_v6 (F := Ideal) h w) rfl (by omega) (by omega)).trans ?_
    rw [val_main_v6_apply]
    refine prod_eq h w _ r j (by omega) rfl ?_
    show 6240 + (j.val - 12672) = src j.val
    unfold src; split_ifs <;> omega
  · refine (piece_eq h w r j 11 12768 rfl (val_main_v13 (F := Ideal)) rfl (by omega) (by omega)).trans ?_
    rw [val_main_v13_apply, val_main_cst_apply, Ideal.ofBits_def, Ideal.ofBits_zero_f32]
    unfold G
    refine (Finset.sum_eq_zero fun k _ => ?_).symm
    show _ * wcol w k j.val = 0
    rw [wcol_zero c10, mul_zero]

end Reference

/-- The reference's frame. -/
theorem frame_ref : Cert.quiescent_ProjInRefIdeal := fun m ρ _ =>
  (θ_run Cert.ProjInRefIdeal.defs _ _).mono (fun r h => ⟨fun c => (h c).2,
      sem_eq_zero_of_no_sems (by decide) r.2⟩)
    (Cert.ProjInRefIdeal.Value.run (F := Ideal) m ρ)

/-- The kernel's result is the reference's. -/
theorem algebraic : Cert.algebraic_ProjInIdeal_ProjInRefIdeal := by
  intro m ρ m' ρ' _ hagree
  refine ⟨fun c => G (m ((c : Thread nD τ).loc main_arg0)) (m ((c : Thread nD τ).loc main_arg1)), ?_, ?_⟩
  · exact (θ_run Cert.ProjInIdeal.defs _ _).mono (fun r h c => ⟨((h c).1).trans (final m c), (h c).2⟩)
      (Cert.ProjInIdeal.Value.run_blocks (F := Ideal) m ρ)
  · refine (θ_run Cert.ProjInRefIdeal.defs _ _).mono (fun r h c => ⟨(h c).1.trans ?_, (h c).2⟩)
      (Cert.ProjInRefIdeal.Value.run (F := Ideal) m' ρ')
    rw [Cert.ProjInRefIdeal.Read.val_main_v14_eq, ref_eq, (hagree c).1, (hagree c).2.1]

end Cert.Proof.ProjIn

end
-- ==== Proof.ProjRes.lean ====
/-
  The residual projection: the kernel's result array and the reference's are one function of the arguments.
-/
module

public import proofs.«01_k».proof.Defs
public import proofs.«01_k».proof.Proof.Gen.ProjResIdeal.Value
public import proofs.«01_k».proof.Proof.Gen.ProjResRefIdeal.Run
public import proofs.«01_k».proof.Proof.Gen.ProjResRefIdeal.Read
public import Idealize.ShloMosaic.Lib.Pipeline.Value
public import Idealize.ShloMosaic.Lib.MatmulPlain
public import Idealize.ShloMosaic.Lib.ValueIdx

@[expose] public section

set_option maxRecDepth 16384

noncomputable section

namespace Cert.Proof.ProjRes

open Cert.ProjResIdeal Cert.ProjResIdeal.Gen Idealize.ShloMosaic Idealize.ShloMosaic.TcCoe Idealize.SL.Sem
open Idealize.ShloMosaic.Pipeline (Dat)
open Idealize.ShloMosaic.ValueIdx
open scoped BigOperators

/-- The group of a row: its sample for a latent row, the third for a context row. -/
theorem grp_lt (i : S8704x4096.Idx) : (i 0).val / 4096 < 8 := by
  have h0 : (i 0).val < 8704 := (i 0).isLt
  omega

/-- The result at row `i 0`, column `i 1`: the residual plus its group's gate times the row of `a` against the column of
    `w`. -/
def G (a : S8704x4096.Idx → EReal) (w : S4096x4096.Idx → EReal) (x : S8704x4096.Idx → EReal) (g : S8x1x24576.Idx → EReal) :
    S8704x4096.Idx → EReal := fun i =>
  x i + g (ix3 ⟨(i 0).val / 4096, grp_lt i⟩ (0 : Fin 1) ⟨8192 + (i 1).val, by have h1 : (i 1).val < 4096 := (i 1).isLt; omega⟩)
    * ∑ k : Fin 4096, a (ix2 (i 0) k) * w (ix2 k (i 1))

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- The cast weights, as the region finds them. -/
theorem V_w (c : Dev nD) : V m c main_v0 = truncf (F := Ideal) .bf16 (m ((c : Thread nD τ).loc main_arg1)) bitsLt_bf16_f32 := by
  unfold V
  after_results

/-- Block indices of the windows, point by point: eight blocks of rows make one latent group. -/
theorem idx_h : ∀ t : Fin cfg0.N, win0_0.index t 0 = win0_4.index t 0 ∧ win0_0.index t 1 = 0
    ∧ win0_1.index t 0 = 0 ∧ win0_1.index t 1 = win0_4.index t 1
    ∧ win0_2.index t 0 = win0_4.index t 0 ∧ win0_2.index t 1 = win0_4.index t 1
    ∧ win0_3.index t 0 = win0_4.index t 0 / 8 ∧ win0_3.index t 1 = 0 ∧ win0_3.index t 2 = 16 + win0_4.index t 1 :=
  (by decide +kernel : ∀ t : Fin grid0.N, win0_0.index t 0 = win0_4.index t 0 ∧ win0_0.index t 1 = 0
    ∧ win0_1.index t 0 = 0 ∧ win0_1.index t 1 = win0_4.index t 1
    ∧ win0_2.index t 0 = win0_4.index t 0 ∧ win0_2.index t 1 = win0_4.index t 1
    ∧ win0_3.index t 0 = win0_4.index t 0 / 8 ∧ win0_3.index t 1 = 0 ∧ win0_3.index t 2 = 16 + win0_4.index t 1)

/-- Every block of the result is some point's. -/
theorem idx_onto : ∀ (a : Fin 17) (b : Fin 8), ∃ t : Fin cfg0.N, win0_4.index t 0 = a.val ∧ win0_4.index t 1 = b.val :=
  (by decide +kernel : ∀ (a : Fin 17) (b : Fin 8), ∃ t : Fin grid0.N, win0_4.index t 0 = a.val ∧ win0_4.index t 1 = b.val)

/-- The body's result, at an index. -/
theorem pay_apply (x0 : FVec Ideal S512x4096 .bf16) (x1 : FVec Ideal S4096x512 .bf16) (x2 : FVec Ideal S512x512 .f32)
    (x3 : FVec Ideal S1x1x512 .f32) (r : Fin 512) (s : Fin 512) :
    k0_pay1 (F := Ideal) x0 x1 x2 x3 (ix2 r s)
      = x2 (ix2 r s) + x3 (ix3 (0 : Fin 1) (0 : Fin 1) s) * ∑ k : Fin 4096, x0 (ix2 r k) * x1 (ix2 k s) := by
  unfold k0_pay1
  rw [addf_apply, mulf_apply, shapeCast_self]
  refine congrArg (x2 (ix2 r s) + ·) (congrArg₂ (· * ·) ?_ ?_)
  · refine (broadcastTo_apply _ _ (ix2 r s) (ix2 (0 : Fin 1) s) (fun a => match a with | ⟨0, _⟩ => rfl | ⟨1, _⟩ => rfl)).trans ?_
    exact shapeCast_apply x3 _ (ix2 (0 : Fin 1) s) (ix3 (0 : Fin 1) (0 : Fin 1) s) (by
      rw [Shape.rowMajor_val_three, Shape.rowMajor_val_two]; rfl)
  · refine (Ideal.matmul_plain_apply none x0 x1 _ r s).trans ?_
    rw [constant_apply, Ideal.ofBits_zero_f32, zero_add]

/-- What point `t` writes back is block `t` of `G`. -/
theorem flushed_eq (c : Dev nD) (t : Fin cfg0.N) :
    (dats m 0 c).flushed 4 t = (win0_4.blk t).view.read (Elt Ideal)
      (G (m ((c : Thread nD τ).loc main_arg0)) (m ((c : Thread nD τ).loc main_arg1)) (m ((c : Thread nD τ).loc main_arg2))
        (m ((c : Thread nD τ).loc main_arg3))) := by
  show (cfg0.win 4).cut (grid0.coords t) ((dats m 0 c).after 4 t) = _
  rw [after0_4]
  unfold out0_4
  rw [View.canon_unit_zero hz, View.ld_unit_zero hz, View.ld_unit_zero hz, View.ld_unit_zero hz, View.ld_unit_zero hz3]
  funext y
  obtain ⟨r, s, rfl⟩ : ∃ (r : Fin 512) (s : Fin 512), y = ix2 r s := ⟨y 0, y 1, eq_ix2 y⟩
  refine (pay_apply (iblk m c 0 t) (iblk m c 1 t) (iblk m c 2 t) (iblk m c 3 t) r s).trans ?_
  show _ = G (m ((c : Thread nD τ).loc main_arg0)) (m ((c : Thread nD τ).loc main_arg1)) (m ((c : Thread nD τ).loc main_arg2))
    (m ((c : Thread nD τ).loc main_arg3)) ((win0_4.rect t).emb (ix2 r s))
  obtain ⟨e1, e2, e3, e4, e5, e6, e7, e8, e9⟩ := idx_h t
  have o0 : ((win0_4.rect t).emb (ix2 r s) 0).val = win0_4.index t 0 * 512 + r.val := win0_4.rect_emb_val t (ix2 r s) 0
  have o1 : ((win0_4.rect t).emb (ix2 r s) 1).val = win0_4.index t 1 * 512 + s.val := win0_4.rect_emb_val t (ix2 r s) 1
  have hr : r.val < 512 := r.isLt
  unfold G
  refine congrArg₂ (· + ·) ?_ (congrArg₂ (· * ·) ?_ (Finset.sum_congr rfl fun k _ => congrArg₂ (· * ·) ?_ ?_))
  · show V m c main_arg2 ((win0_2.rect t).emb (ix2 r s)) = _
    rw [V_main_arg2]
    have a0 := win0_2.rect_emb_val t (ix2 r s) 0
    have a1 := win0_2.rect_emb_val t (ix2 r s) 1
    refine congrArg _ (Shape.idx_ext₂ ?_ ?_)
    · rw [a0, e5]; exact o0.symm
    · rw [a1, e6]; exact o1.symm
  · show V m c main_arg3 ((win0_3.rect t).emb (ix3 (0 : Fin 1) (0 : Fin 1) s)) = _
    rw [V_main_arg3]
    have a0 := win0_3.rect_emb_val t (ix3 (0 : Fin 1) (0 : Fin 1) s) 0
    have a1 := win0_3.rect_emb_val t (ix3 (0 : Fin 1) (0 : Fin 1) s) 1
    have a2 := win0_3.rect_emb_val t (ix3 (0 : Fin 1) (0 : Fin 1) s) 2
    refine congrArg _ (funext fun a => Fin.ext ?_)
    match a with
    | ⟨0, _⟩ =>
      refine a0.trans ?_
      rw [e7]
      show win0_4.index t 0 / 8 * 1 + 0 = ((win0_4.rect t).emb (ix2 r s) 0).val / 4096
      rw [o0]; omega
    | ⟨1, _⟩ =>
      refine a1.trans ?_
      rw [e8]; rfl
    | ⟨2, _⟩ =>
      refine a2.trans ?_
      rw [e9]
      show (16 + win0_4.index t 1) * 512 + s.val = 8192 + ((win0_4.rect t).emb (ix2 r s) 1).val
      rw [o1]; omega
  · show V m c main_arg0 ((win0_0.rect t).emb (ix2 r k)) = _
    rw [V_main_arg0]
    have a0 := win0_0.rect_emb_val t (ix2 r k) 0
    have a1 := win0_0.rect_emb_val t (ix2 r k) 1
    refine congrArg _ (Shape.idx_ext₂ ?_ ?_)
    · rw [a0, e1]; exact o0.symm
    · rw [a1, e2]; exact (Nat.zero_add _)
  · show V m c main_v0 ((win0_1.rect t).emb (ix2 k s)) = _
    rw [V_w]
    have b0 := win0_1.rect_emb_val t (ix2 k s) 0
    have b1 := win0_1.rect_emb_val t (ix2 k s) 1
    refine congrArg (m ((c : Thread nD τ).loc main_arg1)) (Shape.idx_ext₂ ?_ ?_)
    · rw [b0, e3]; exact (Nat.zero_add _)
    · rw [b1, e4]; exact o1.symm

/-- The result's blocks tile its array. -/
theorem cover (i : S8704x4096.Idx) :
    ∃ t : Fin cfg0.N, (cfg0.win 4).flush t = true ∧ i ∈ ((cfg0.win 4).blk t).view.set := by
  have h0 : (i 0 : Nat) < 8704 := (i 0).isLt
  have h1 : (i 1 : Nat) < 4096 := (i 1).isLt
  obtain ⟨t, ha, hb⟩ := idx_onto ⟨(i 0 : Nat) / 512, by omega⟩ ⟨(i 1 : Nat) / 512, by omega⟩
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [ha]; dsimp only; omega
  | ⟨1, _⟩ =>
    show win0_4.index t 1 * 512 ≤ (i 1 : Nat) ∧ (i 1 : Nat) < win0_4.index t 1 * 512 + 512
    rw [hb]; dsimp only; omega

/-- So the result array ends holding `G` of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

end Kernel

section Reference
open Cert.ProjResRefIdeal.Read

variable (a : S8704x4096.Idx → EReal) (w : S4096x4096.Idx → EReal) (x : S8704x4096.Idx → EReal) (g : S8x1x24576.Idx → EReal)

/-- The reference's product, at an index. -/
theorem prod_eq (i : S8704x4096.Idx) :
    val_main_v1 (F := Ideal) a w i = ∑ k : Fin 4096, a (ix2 (i 0) k) * w (ix2 k (i 1)) := by
  rw [val_main_v1_apply]
  refine Finset.sum_congr rfl fun k _ => congrArg₂ (· * ·) ?_ ?_
  · rw [val_main_v0_apply]
    exact congrArg a (Shape.idx_ext₂ rfl rfl)
  · exact congrArg w (Shape.idx_ext₂ rfl rfl)

/-- The latent rows of the reference. -/
theorem latent_eq (r : Fin 8192) (s : Fin 4096) :
    val_main_v30 (F := Ideal) a w x g (ix2 r s) = G a w x g (ix2 ⟨r.val, by omega⟩ s) := by
  have hr := r.isLt
  have hs := s.isLt
  rw [val_main_v30_apply, val_main_v26_apply, val_main_v25_apply, val_main_v24_apply, val_main_v21_apply, val_main_v17_apply,
    val_main_v20_apply, val_main_v16_apply, val_main_v5_apply, val_main_v2_apply, prod_eq, Ideal.addf_def, Ideal.mulf_def]
  unfold G
  have e0 : ((r.val * 4096 + s.val) / 16777216 * 4096 + (r.val * 4096 + s.val) / 4096 % 4096) * 4096 + (r.val * 4096 + s.val) % 4096
      = r.val * 4096 + s.val := by omega
  refine congrArg₂ (· + ·) (congrArg x (Shape.idx_ext₂ ?_ ?_)) (congrArg₂ (· * ·) (congrArg g (funext fun b => Fin.ext ?_))
    (Finset.sum_congr rfl fun k _ => congrArg₂ (· * ·) (congrArg a (Shape.idx_ext₂ ?_ rfl)) (congrArg w (Shape.idx_ext₂ rfl ?_))))
  · show (((r.val * 4096 + s.val) / 16777216 * 4096 + (r.val * 4096 + s.val) / 4096 % 4096) * 4096 + (r.val * 4096 + s.val) % 4096) / 4096 = r.val
    omega
  · show (((r.val * 4096 + s.val) / 16777216 * 4096 + (r.val * 4096 + s.val) / 4096 % 4096) * 4096 + (r.val * 4096 + s.val) % 4096) % 4096 = s.val
    omega
  · match b with
    | ⟨0, _⟩ =>
      show (r.val * 4096 + s.val) / 16777216 = r.val / 4096
      omega
    | ⟨1, _⟩ => rfl
    | ⟨2, _⟩ =>
      show 8192 + (r.val * 4096 + s.val) % 4096 = 8192 + s.val
      omega
  · show (((r.val * 4096 + s.val) / 16777216 * 4096 + (r.val * 4096 + s.val) / 4096 % 4096) * 4096 + (r.val * 4096 + s.val) % 4096) / 4096 = r.val
    omega
  · show (((r.val * 4096 + s.val) / 16777216 * 4096 + (r.val * 4096 + s.val) / 4096 % 4096) * 4096 + (r.val * 4096 + s.val) % 4096) % 4096 = s.val
    omega

/-- The context rows of the reference. -/
theorem context_eq (r : Fin 512) (s : Fin 4096) :
    val_main_v31 (F := Ideal) a w x g (ix2 r s) = G a w x g (ix2 ⟨8192 + r.val, by omega⟩ s) := by
  have hr := r.isLt
  have hs := s.isLt
  rw [val_main_v31_apply, val_main_v29_apply, val_main_v28_apply, val_main_v27_apply, val_main_v23_apply, val_main_v19_apply,
    val_main_v22_apply, val_main_v18_apply, val_main_v12_apply, val_main_v9_apply, prod_eq, Ideal.addf_def, Ideal.mulf_def]
  unfold G
  have e0 : ((r.val * 4096 + s.val) / 1048576 * 256 + (r.val * 4096 + s.val) / 4096 % 256) * 4096 + (r.val * 4096 + s.val) % 4096
      = r.val * 4096 + s.val := by omega
  refine congrArg₂ (· + ·) (congrArg x (Shape.idx_ext₂ ?_ ?_)) (congrArg₂ (· * ·) (congrArg g (funext fun b => Fin.ext ?_))
    (Finset.sum_congr rfl fun k _ => congrArg₂ (· * ·) (congrArg a (Shape.idx_ext₂ ?_ rfl)) (congrArg w (Shape.idx_ext₂ rfl ?_))))
  · show 8192 + (((r.val * 4096 + s.val) / 1048576 * 256 + (r.val * 4096 + s.val) / 4096 % 256) * 4096 + (r.val * 4096 + s.val) % 4096) / 4096 = 8192 + r.val
    omega
  · show (((r.val * 4096 + s.val) / 1048576 * 256 + (r.val * 4096 + s.val) / 4096 % 256) * 4096 + (r.val * 4096 + s.val) % 4096) % 4096 = s.val
    omega
  · match b with
    | ⟨0, _⟩ =>
      show 2 + 0 = (8192 + r.val) / 4096
      omega
    | ⟨1, _⟩ => rfl
    | ⟨2, _⟩ =>
      show 8192 + (r.val * 4096 + s.val) % 4096 = 8192 + s.val
      omega
  · show 8192 + (((r.val * 4096 + s.val) / 1048576 * 256 + (r.val * 4096 + s.val) / 4096 % 256) * 4096 + (r.val * 4096 + s.val) % 4096) / 4096 = 8192 + r.val
    omega
  · show (((r.val * 4096 + s.val) / 1048576 * 256 + (r.val * 4096 + s.val) / 4096 % 256) * 4096 + (r.val * 4096 + s.val) % 4096) % 4096 = s.val
    omega

/-- The reference's result is `G`. -/
theorem ref_eq : val_main_v32 (F := Ideal) a w x g = G a w x g := by
  funext i
  obtain ⟨r, s, rfl⟩ : ∃ (r : Fin 8704) (s : Fin 4096), i = ix2 r s := ⟨i 0, i 1, eq_ix2 i⟩
  unfold val_main_v32
  by_cases h : r.val < 8192
  · refine (concatenate_pair_apply_left (t := S8704x4096) (s₁ := Cert.ProjResRefIdeal.S8192x4096) (s₂ := Cert.ProjResRefIdeal.S512x4096) 0 _ _ _ _ rfl (ix2 ⟨r.val, h⟩ s)
      (fun b => match b with | ⟨0, _⟩ => rfl | ⟨1, _⟩ => rfl)).trans ?_
    exact latent_eq a w x g ⟨r.val, h⟩ s
  · have hr := r.isLt
    refine (concatenate_pair_apply_right (t := S8704x4096) (s₁ := Cert.ProjResRefIdeal.S8192x4096) (s₂ := Cert.ProjResRefIdeal.S512x4096) 0 _ _ _ _ rfl rfl
      (ix2 ⟨r.val - 8192, by omega⟩ s) (fun b hb => match b, hb with | ⟨0, _⟩, hb => absurd rfl hb | ⟨1, _⟩, _ => rfl)
      (by show r.val - 8192 + 8192 = r.val; omega)).trans ?_
    have e : (⟨8192 + (r.val - 8192), by omega⟩ : Fin 8704) = r := Fin.ext (by show 8192 + (r.val - 8192) = r.val; omega)
    refine (context_eq a w x g ⟨r.val - 8192, by omega⟩ s).trans ?_
    rw [e]

end Reference

/-- The reference's frame. -/
theorem frame_ref : Cert.quiescent_ProjResRefIdeal := fun m ρ _ =>
  (θ_run Cert.ProjResRefIdeal.defs _ _).mono (fun r h => ⟨fun c => (h c).2,
      sem_eq_zero_of_no_sems (by decide) r.2⟩)
    (Cert.ProjResRefIdeal.Value.run (F := Ideal) m ρ)

/-- The kernel's result is the reference's. -/
theorem algebraic : Cert.algebraic_ProjResIdeal_ProjResRefIdeal := by
  intro m ρ m' ρ' _ hagree
  refine ⟨fun c => G (m ((c : Thread nD τ).loc main_arg0)) (m ((c : Thread nD τ).loc main_arg1))
    (m ((c : Thread nD τ).loc main_arg2)) (m ((c : Thread nD τ).loc main_arg3)), ?_, ?_⟩
  · exact (θ_run Cert.ProjResIdeal.defs _ _).mono (fun r h c => ⟨((h c).1).trans (final m c), (h c).2⟩)
      (Cert.ProjResIdeal.Value.run_blocks (F := Ideal) m ρ)
  · refine (θ_run Cert.ProjResRefIdeal.defs _ _).mono (fun r h c => ⟨(h c).1.trans ?_, (h c).2⟩)
      (Cert.ProjResRefIdeal.Value.run (F := Ideal) m' ρ')
    rw [Cert.ProjResRefIdeal.Read.val_main_v32_eq, ref_eq, (hagree c).1, (hagree c).2.1, (hagree c).2.2.1, (hagree c).2.2.2]

end Cert.Proof.ProjRes

end
-- ==== Proof.Rope.lean ====
/-
  What the query and key projections share: one head of a block normalised, scaled by its weights and rotated, read at an
  index; and the table of cosines (or signed sines) that the rotation multiplies by, read at an index.
-/
module

public import Idealize.ShloMosaic.Lib.Pipeline.Value
public import Idealize.ShloMosaic.Lib.KernelVsHost
public import Idealize.ShloMosaic.Lib.MatmulPlain
public import Idealize.ShloMosaic.Lib.ValueIdx

@[expose] public section

set_option maxRecDepth 16384

noncomputable section

namespace Cert.Proof.Rope

open Idealize.ShloMosaic
open Idealize.ShloMosaic.ValueIdx
open scoped BigOperators

/-- A matrix shape. -/
abbrev Mat (a b : Nat) : Shape := ⟨2, ![a, b]⟩

/-- A head's row divided by the root of its mean square (plus a millionth), times the weights. -/
def headNorm (x nw : Fin 128 → EReal) (d : Fin 128) : EReal :=
  x d * Ideal.rsqrt (Ideal.div (∑ e, x e * x e) (FloatOps.ofBits (F := Ideal) .f32 0x43000000#32)
    + FloatOps.ofBits (F := Ideal) .f32 0x358637BD#32) * nw d

/-- The column a rotation by half a head brings to column `d`. -/
def rot (d : Fin 128) : Fin 128 := ⟨(d.val + 64) % 128, Nat.mod_lt _ (by omega)⟩

/-- One head's columns of a block, normalised. -/
def normed (A : FVec Ideal (Mat 512 512) .f32) (nw : FVec Ideal (Mat 1 128) .f32) (o : Nat)
    (hs : (Mat 512 512).Slices ![0, o] (Mat 512 128)) (hr : (Mat 512 128).Reduces [1] ⟨1, ![512]⟩)
    (hc : (⟨1, ![512]⟩ : Shape).ShapeCasts (Mat 512 1)) (hb : (Mat 512 1).Broadcasts (Mat 512 128))
    (hw : (Mat 1 128).Broadcasts (Mat 512 128)) : FVec Ideal (Mat 512 128) .f32 :=
  mulf (mulf (extractStridedSlice (Mat 512 128) ![0, o] A hs)
    (broadcastTo (Mat 512 128) (rsqrt (addf (divf (shapeCast (Mat 512 1)
      (multiReduction (F := Ideal) .add [1] ⟨1, ![512]⟩ (mulf (extractStridedSlice (Mat 512 128) ![0, o] A hs)
        (extractStridedSlice (Mat 512 128) ![0, o] A hs)) 0x00000000#32 hr (.inl rfl) rfl) hc)
      (broadcast (Mat 512 1) (Scalar.ofBits (F := Ideal) .f32 0x43000000#32)))
      (broadcast (Mat 512 1) (Scalar.ofBits (F := Ideal) .f32 0x358637BD#32)))) hb))
    (broadcastTo (Mat 512 128) nw hw)

/-- One head's columns of a block, normalised, rotated and scaled. -/
def headOut (A : FVec Ideal (Mat 512 512) .f32) (nw : FVec Ideal (Mat 1 128) .f32) (cs sn : FVec Ideal (Mat 512 128) .f32)
    (sc : Ideal .f32) (o : Nat)
    (hs : (Mat 512 512).Slices ![0, o] (Mat 512 128)) (hr : (Mat 512 128).Reduces [1] ⟨1, ![512]⟩)
    (hc : (⟨1, ![512]⟩ : Shape).ShapeCasts (Mat 512 1)) (hb : (Mat 512 1).Broadcasts (Mat 512 128))
    (hw : (Mat 1 128).Broadcasts (Mat 512 128)) (hrot : (Mat 512 128).Rotates 1 none)
    (ht : FTy.bits .bf16 < FTy.bits .f32) : FVec Ideal (Mat 512 128) .bf16 :=
  truncf .bf16 (mulf (addf (mulf (normed A nw o hs hr hc hb hw) cs)
    (mulf (dynamicRotate 1 64#32 none (normed A nw o hs hr hc hb hw) hrot) sn)) (broadcast (Mat 512 128) sc)) ht

/-- A head's columns of a block. -/
theorem slice_at (A : FVec Ideal (Mat 512 512) .f32) (o : Nat) (hs : (Mat 512 512).Slices ![0, o] (Mat 512 128)) (ho : o + 128 ≤ 512)
    (r : Fin 512) (d : Fin 128) :
    extractStridedSlice (Mat 512 128) ![0, o] A hs (ix2 r d) = A (ix2 r ⟨o + d.val, by omega⟩) :=
  extractStridedSlice_apply _ _ _ _ _ fun a => match a with
    | ⟨0, _⟩ => (Nat.zero_add _).symm
    | ⟨1, _⟩ => rfl

/-- The normalised columns at an index. -/
theorem normed_apply (A : FVec Ideal (Mat 512 512) .f32) (nw : FVec Ideal (Mat 1 128) .f32) (o : Nat) (hs) (hr) (hc) (hb) (hw)
    (ho : o + 128 ≤ 512) (r : Fin 512) (d : Fin 128) :
    normed A nw o hs hr hc hb hw (ix2 r d)
      = headNorm (fun e => A (ix2 r ⟨o + e.val, by omega⟩)) (fun e => nw (ix2 0 e)) d := by
  have e0 (x : FVec Ideal (Mat 512 1) .f32) (i : (Mat 512 1).Idx) : rsqrt (F := Ideal) x i = Ideal.rsqrt (x i) := rfl
  have e1 (x : FVec Ideal (Mat 512 1) .f32) : broadcastTo (Mat 512 128) x hb (ix2 r d) = x (ix2 r 0) :=
    broadcastTo_apply x _ _ _ fun a => match a with
      | ⟨0, _⟩ => rfl
      | ⟨1, _⟩ => rfl
  have e2 : broadcastTo (Mat 512 128) nw hw (ix2 r d) = nw (ix2 0 d) :=
    broadcastTo_apply nw _ _ _ fun a => match a with
      | ⟨0, _⟩ => rfl
      | ⟨1, _⟩ => rfl
  have e3 (x : FVec Ideal ⟨1, ![512]⟩ .f32) : shapeCast (Mat 512 1) x hc (ix2 r 0) = x (ix1 r) :=
    shapeCast_apply x _ _ _ (by
      rw [Shape.rowMajor_val_two, Shape.rowMajor_val_one]; show r.val = r.val * 1 + 0; omega)
  have e4 (x : FVec Ideal (Mat 512 128) .f32) :
      multiReduction (F := Ideal) .add [1] ⟨1, ![512]⟩ x 0x00000000#32 hr (.inl rfl) rfl (ix1 r) = ∑ e : Fin 128, x (ix2 r e) := by
    refine (Ideal.multiReduction_add_single x _ _ _ _ _).trans ?_
    exact Finset.sum_congr rfl fun j _ => congrArg x (Shape.idx_ext₂ rfl rfl)
  unfold normed headNorm
  rw [mulf_apply, mulf_apply, e1, e2, e0, addf_apply, divf_apply, e3, e4, slice_at A o hs ho]
  have e5 : (∑ e : Fin 128, mulf (extractStridedSlice (Mat 512 128) ![0, o] A hs) (extractStridedSlice (Mat 512 128) ![0, o] A hs) (ix2 r e))
      = ∑ e : Fin 128, A (ix2 r ⟨o + e.val, by omega⟩) * A (ix2 r ⟨o + e.val, by omega⟩) :=
    Finset.sum_congr rfl fun e _ => by rw [mulf_apply, slice_at A o hs ho]
  rw [e5]
  rfl

/-- The head's result at an index. -/
theorem headOut_apply (A : FVec Ideal (Mat 512 512) .f32) (nw : FVec Ideal (Mat 1 128) .f32) (cs sn : FVec Ideal (Mat 512 128) .f32)
    (sc : Ideal .f32) (o : Nat) (hs) (hr) (hc) (hb) (hw) (hrot) (ht) (ho : o + 128 ≤ 512) (r : Fin 512) (d : Fin 128) :
    headOut A nw cs sn sc o hs hr hc hb hw hrot ht (ix2 r d)
      = ((headNorm (fun e => A (ix2 r ⟨o + e.val, by omega⟩)) (fun e => nw (ix2 0 e)) d * cs (ix2 r d)
        + headNorm (fun e => A (ix2 r ⟨o + e.val, by omega⟩)) (fun e => nw (ix2 0 e)) (rot d) * sn (ix2 r d)) * sc : EReal) := by
  unfold headOut
  have e : dynamicRotate 1 64#32 none (normed A nw o hs hr hc hb hw) hrot (ix2 r d) = normed A nw o hs hr hc hb hw (ix2 r (rot d)) :=
    dynamicRotate_apply _ _ _ _ _ _ fun b => match b with
      | ⟨0, _⟩ => rfl
      | ⟨1, _⟩ => by
        show (d.val + 64) % 128 = (d.val + 128 - 64 % 128) % 128
        omega
  rw [truncf_apply, mulf_apply, addf_apply, mulf_apply, mulf_apply, e, normed_apply A nw o _ _ _ _ _ ho, normed_apply A nw o _ _ _ _ _ ho]
  rfl

/-- A block with all four of its heads normalised, rotated and scaled. -/
def blockVal (A : FVec Ideal (Mat 512 512) .f32) (nw : FVec Ideal (Mat 1 128) .f32) (cs sn : FVec Ideal (Mat 512 128) .f32)
    (sc : EReal) : (Mat 512 512).Idx → EReal := fun y =>
  have h1 : (y 1).val < 512 := (y 1).isLt
  (headNorm (fun e => A (ix2 (y 0) ⟨(y 1).val / 128 * 128 + e.val, by omega⟩)) (fun e => nw (ix2 0 e)) ⟨(y 1).val % 128, by omega⟩
      * cs (ix2 (y 0) ⟨(y 1).val % 128, by omega⟩)
    + headNorm (fun e => A (ix2 (y 0) ⟨(y 1).val / 128 * 128 + e.val, by omega⟩)) (fun e => nw (ix2 0 e)) (rot ⟨(y 1).val % 128, by omega⟩)
      * sn (ix2 (y 0) ⟨(y 1).val % 128, by omega⟩)) * sc

/-- Head `g`'s result is the block's at the columns from `128 g` on. -/
theorem head_block (A : FVec Ideal (Mat 512 512) .f32) (nw : FVec Ideal (Mat 1 128) .f32) (cs sn : FVec Ideal (Mat 512 128) .f32)
    (sc : Ideal .f32) (g : Fin 4) (hs) (hr) (hc) (hb) (hw) (hrot) (ht)
    (inb : ∀ a, (![0, g.val * 128] : Fin 2 → Nat) a + (![512, 128] : Fin 2 → Nat) a ≤ (Mat 512 512).size a) (j : (Mat 512 128).Idx) :
    headOut A nw cs sn sc (g.val * 128) hs hr hc hb hw hrot ht j
      = blockVal A nw cs sn sc ((Rect.unit (s := Mat 512 512) ![0, g.val * 128] ![512, 128] inb).emb j) := by
  have hg := g.isLt
  obtain ⟨r, d, rfl⟩ : ∃ (r : Fin 512) (d : Fin 128), j = ix2 r d := ⟨j 0, j 1, eq_ix2 j⟩
  have hd := d.isLt
  refine (headOut_apply A nw cs sn sc (g.val * 128) hs hr hc hb hw hrot ht (by omega) r d).trans ?_
  have e0 : (Rect.unit (s := Mat 512 512) ![0, g.val * 128] ![512, 128] inb).emb (ix2 r d) = ix2 r ⟨g.val * 128 + d.val, by omega⟩ :=
    Shape.idx_ext₂ (by rw [Rect.emb_apply]; show 0 + 1 * r.val = r.val; omega)
      (by rw [Rect.emb_apply]; show g.val * 128 + 1 * d.val = g.val * 128 + d.val; omega)
  rw [e0]
  have ed : (⟨(g.val * 128 + d.val) % 128, by omega⟩ : Fin 128) = d := Fin.ext (by show (g.val * 128 + d.val) % 128 = d.val; omega)
  have ex : (fun e : Fin 128 => A (ix2 r ⟨(g.val * 128 + d.val) / 128 * 128 + e.val, by have := e.isLt; omega⟩))
      = fun e : Fin 128 => A (ix2 r ⟨g.val * 128 + e.val, by have := e.isLt; omega⟩) := funext fun e =>
    congrArg A (congrArg (ix2 r) (Fin.ext (by show (g.val * 128 + d.val) / 128 * 128 + e.val = g.val * 128 + e.val; omega)))
  show _ = (headNorm (fun e : Fin 128 => A (ix2 r ⟨(g.val * 128 + d.val) / 128 * 128 + e.val, by have := e.isLt; omega⟩)) (fun e => nw (ix2 0 e)) ⟨(g.val * 128 + d.val) % 128, by omega⟩
      * cs (ix2 r ⟨(g.val * 128 + d.val) % 128, by omega⟩)
    + headNorm (fun e : Fin 128 => A (ix2 r ⟨(g.val * 128 + d.val) / 128 * 128 + e.val, by have := e.isLt; omega⟩)) (fun e => nw (ix2 0 e)) (rot ⟨(g.val * 128 + d.val) % 128, by omega⟩)
      * sn (ix2 r ⟨(g.val * 128 + d.val) % 128, by omega⟩)) * sc
  rw [ex, ed]

/-- The table: two halves side by side, both samples' rows, then the context rows' constant. -/
def table (c1 c2 : (Mat 4096 64).Idx → EReal) (one : (⟨0, ![]⟩ : Shape).Idx → EReal)
    (h1 : Shape.Concatenates [Mat 4096 64, Mat 4096 64] (Mat 4096 128) 1)
    (h2 : (Mat 4096 128).ShapeCasts ⟨4, ![1, 4096, 1, 128]⟩)
    (h3 : (⟨4, ![1, 4096, 1, 128]⟩ : Shape).BroadcastsInDim ⟨4, ![2, 4096, 1, 128]⟩ ![0, 1, 2, 3])
    (h4 : (⟨4, ![2, 4096, 1, 128]⟩ : Shape).ShapeCasts (Mat 8192 128))
    (h5 : (⟨0, ![]⟩ : Shape).BroadcastsInDim (Mat 512 128) ![])
    (h6 : Shape.Concatenates [Mat 8192 128, Mat 512 128] (Mat 8704 128) 0) : (Mat 8704 128).Idx → EReal :=
  concatenate (Mat 8704 128) 0
    [⟨Mat 8192 128, shapeCast (Mat 8192 128) (broadcastInDim ⟨4, ![2, 4096, 1, 128]⟩ ![0, 1, 2, 3] h3
      (shapeCast ⟨4, ![1, 4096, 1, 128]⟩ (concatenate (Mat 4096 128) 1 [⟨Mat 4096 64, c1⟩, ⟨Mat 4096 64, c2⟩] h1) h2)) h4⟩,
     ⟨Mat 512 128, broadcastInDim (Mat 512 128) ![] h5 one⟩] h6

/-- The table at an index: a latent row has its place's entry, a context row the constant. -/
def entry (c1 c2 : (Mat 4096 64).Idx → EReal) (one : EReal) (r : Nat) (d : Fin 128) : EReal :=
  if r < 8192 then
    if h : d.val < 64 then c1 (ix2 ⟨r % 4096, Nat.mod_lt _ (by omega)⟩ ⟨d.val, h⟩)
    else c2 (ix2 ⟨r % 4096, Nat.mod_lt _ (by omega)⟩ ⟨d.val - 64, by omega⟩)
  else one

/-- The table, entry by entry. -/
theorem table_apply (c1 c2 : (Mat 4096 64).Idx → EReal) (one : (⟨0, ![]⟩ : Shape).Idx → EReal) (h1) (h2) (h3) (h4) (h5) (h6)
    (r : Fin 8704) (d : Fin 128) :
    table c1 c2 one h1 h2 h3 h4 h5 h6 (ix2 r d) = entry c1 c2 (one ix0) r.val d := by
  have hr := r.isLt
  have hd := d.isLt
  unfold table entry
  by_cases h : r.val < 8192
  · rw [if_pos h]
    refine (concatenate_pair_apply_left (t := Mat 8704 128) (s₁ := Mat 8192 128) (s₂ := Mat 512 128) 0 _ _ _ _ rfl (ix2 ⟨r.val, h⟩ d)
      (fun b => match b with | ⟨0, _⟩ => rfl | ⟨1, _⟩ => rfl)).trans ?_
    refine (shapeCast_apply _ h4 _ (ix4 (⟨r.val / 4096, by omega⟩ : Fin 2) (⟨r.val % 4096, by omega⟩ : Fin 4096) (0 : Fin 1) d) (by
      rw [Shape.rowMajor_val_four, Shape.rowMajor_val_two]
      show ((r.val / 4096 * 4096 + r.val % 4096) * 1 + 0) * 128 + d.val = r.val * 128 + d.val
      omega)).trans ?_
    refine (broadcastInDim_apply _ h3 _ _ (ix4 (0 : Fin 1) (⟨r.val % 4096, by omega⟩ : Fin 4096) (0 : Fin 1) d) (fun a => match a with
      | ⟨0, _⟩ => rfl
      | ⟨1, _⟩ => rfl
      | ⟨2, _⟩ => rfl
      | ⟨3, _⟩ => rfl)).trans ?_
    refine (shapeCast_apply _ h2 _ (ix2 (⟨r.val % 4096, by omega⟩ : Fin 4096) d) (by
      rw [Shape.rowMajor_val_four, Shape.rowMajor_val_two]
      show r.val % 4096 * 128 + d.val = ((0 * 4096 + r.val % 4096) * 1 + 0) * 128 + d.val
      omega)).trans ?_
    by_cases hh : d.val < 64
    · rw [dif_pos hh]
      exact concatenate_pair_apply_left (t := Mat 4096 128) (s₁ := Mat 4096 64) (s₂ := Mat 4096 64) 1 _ _ _ _ rfl (ix2 _ ⟨d.val, hh⟩)
        (fun b => match b with | ⟨0, _⟩ => rfl | ⟨1, _⟩ => rfl)
    · rw [dif_neg hh]
      exact concatenate_pair_apply_right (t := Mat 4096 128) (s₁ := Mat 4096 64) (s₂ := Mat 4096 64) 1 _ _ _ _ rfl rfl (ix2 _ ⟨d.val - 64, by omega⟩)
        (fun b hb => match b, hb with | ⟨0, _⟩, _ => rfl | ⟨1, _⟩, hb => absurd rfl hb) (by show d.val - 64 + 64 = d.val; omega)
  · rw [if_neg h]
    refine (concatenate_pair_apply_right (t := Mat 8704 128) (s₁ := Mat 8192 128) (s₂ := Mat 512 128) 0 _ _ _ _ rfl rfl
      (ix2 ⟨r.val - 8192, by omega⟩ d) (fun b hb => match b, hb with | ⟨0, _⟩, hb => absurd rfl hb | ⟨1, _⟩, _ => rfl)
      (by show r.val - 8192 + 8192 = r.val; omega)).trans ?_
    exact broadcastInDim_apply _ h5 _ _ ix0 (fun a => a.elim0)

/-- A normalised head at column `d`, rotated by its row's angles. -/
def rotated (n : Fin 128 → EReal) (c s : (Mat 4096 64).Idx → EReal) (p : Fin 4096) (d : Fin 128) : EReal :=
  if h : d.val < 64 then n d * c (ix2 p ⟨d.val, h⟩) - n ⟨d.val + 64, by omega⟩ * s (ix2 p ⟨d.val, h⟩)
  else n ⟨d.val - 64, by omega⟩ * s (ix2 p ⟨d.val - 64, by omega⟩) + n d * c (ix2 p ⟨d.val - 64, by omega⟩)

/-- On a latent row the two tables' products are the rotation. -/
theorem mix_latent (n : Fin 128 → EReal) (c s : (Mat 4096 64).Idx → EReal) (a b : EReal) (r : Nat) (hr : r < 8192) (d : Fin 128) :
    n d * entry c c a r d + n (rot d) * entry (fun i => -s i) s b r d
      = rotated n c s ⟨r % 4096, Nat.mod_lt _ (by omega)⟩ d := by
  have hd := d.isLt
  unfold entry rotated
  rw [if_pos hr, if_pos hr]
  by_cases h : d.val < 64
  · rw [dif_pos h, dif_pos h, dif_pos h]
    have e : rot d = ⟨d.val + 64, by omega⟩ := Fin.ext (by show (d.val + 64) % 128 = d.val + 64; omega)
    rw [e, mul_neg, ← sub_eq_add_neg]
  · rw [dif_neg h, dif_neg h, dif_neg h]
    have e : rot d = ⟨d.val - 64, by omega⟩ := Fin.ext (by show (d.val + 64) % 128 = d.val - 64; omega)
    rw [e, add_comm]

/-- On a context row they are the head itself. -/
theorem mix_context (n : Fin 128 → EReal) (c s : (Mat 4096 64).Idx → EReal) (r : Nat) (hr : ¬r < 8192) (d : Fin 128) :
    n d * entry c c 1 r d + n (rot d) * entry (fun i => -s i) s 0 r d = n d := by
  unfold entry
  rw [if_neg hr, if_neg hr, mul_one, mul_zero, add_zero]

end Cert.Proof.Rope

end
-- ==== Proof.Consts.lean ====
/-
  The head size as the query projection's reference spells it: the pattern of the real 128.
-/
module

public import Idealize.ShloMosaic.PureOps.Ideal

@[expose] public section

noncomputable section

namespace Cert.Proof.Consts

open Idealize.ShloMosaic

/-- The pattern denotes the real 128. -/
theorem head_size : Ideal.ofBits .f32 0x43000000#32 = ((128 : ℝ) : EReal) := by
  simp [Ideal.ofBits, Ideal.ieee, -EReal.coe_mul]
  norm_num

end Cert.Proof.Consts

end
-- ==== Proof.ProjQ.lean ====
/-
  The query projection: the kernel's result array and the reference's are one function of the arguments.
-/
module

public import proofs.«01_k».proof.Defs
public import proofs.«01_k».proof.Proof.Rope
public import proofs.«01_k».proof.Proof.Consts
public import proofs.«01_k».proof.Proof.Gen.ProjQIdeal.Value
public import proofs.«01_k».proof.Proof.Gen.ProjQRefIdeal.Run
public import proofs.«01_k».proof.Proof.Gen.ProjQRefIdeal.Read
public import Idealize.ShloMosaic.Lib.Pipeline.Value
public import Idealize.ShloMosaic.Lib.IdealHost
public import Idealize.ShloMosaic.Lib.MatmulPlain
public import Idealize.ShloMosaic.Lib.ValueIdx

@[expose] public section

set_option maxRecDepth 16384

noncomputable section

namespace Cert.Proof.ProjQ

open Cert.ProjQIdeal Cert.ProjQIdeal.Gen Idealize.ShloMosaic Idealize.ShloMosaic.TcCoe Idealize.SL.Sem
open Idealize.ShloMosaic.Pipeline (Dat)
open Idealize.ShloMosaic.ValueIdx Cert.Proof.Rope
open scoped BigOperators

/-- The factor on every head. -/
abbrev sc : Ideal .f32 := Named.named (F := Ideal) κ "inv_sqrt_head" (φ := .f32) 0x3DB504F3#32

/-- The cosines of the rows' angles. -/
abbrev cosT : S4096x64.Idx → EReal := Cert.ProjQRefIdeal.Read.val_main_v44 (F := Ideal)

/-- The sines of the rows' angles. -/
abbrev sinT : S4096x64.Idx → EReal := Cert.ProjQRefIdeal.Read.val_main_v46 (F := Ideal)

/-- Row `r` of `h` times column `0 + c` of the packed weights. -/
def acc (h : S8704x4096.Idx → EReal) (w : S4096x6144.Idx → EReal) (r : Fin 8704) (c : Fin 4096) : EReal :=
  ∑ k : Fin 4096, h (ix2 r k) * w (ix2 k ⟨0 + c.val, by omega⟩)

/-- Row `r`, head `g`: the head normalised. -/
def headOf (h : S8704x4096.Idx → EReal) (w : S4096x6144.Idx → EReal) (nw : S128.Idx → EReal) (r : Fin 8704) (g : Fin 32) :
    Fin 128 → EReal :=
  headNorm (fun e => acc h w r ⟨g.val * 128 + e.val, by omega⟩) (fun e => nw (ix1 e))

/-- The result at row `i 0`, head `i 1 / 128`, column `i 1 % 128` of it: the normalised head, rotated and scaled. -/
def G (h : S8704x4096.Idx → EReal) (w : S4096x6144.Idx → EReal) (nw : S128.Idx → EReal) : S8192x4096.Idx → EReal := fun i =>
  rotated (headOf h w nw ⟨(i 0).val, by have h0 : (i 0).val < 8192 := (i 0).isLt; omega⟩
      ⟨(i 1).val / 128, by have h1 : (i 1).val < 4096 := (i 1).isLt; omega⟩) cosT sinT
    ⟨(i 0).val % 4096, Nat.mod_lt _ (by omega)⟩ ⟨(i 1).val % 128, Nat.mod_lt _ (by omega)⟩ * sc

/-- `G` by the two tables. -/
theorem G_at (h : S8704x4096.Idx → EReal) (w : S4096x6144.Idx → EReal) (nw : S128.Idx → EReal) (i : S8192x4096.Idx) :
    (headOf h w nw ⟨(i 0).val, by have h0 : (i 0).val < 8192 := (i 0).isLt; omega⟩
          ⟨(i 1).val / 128, by have h1 : (i 1).val < 4096 := (i 1).isLt; omega⟩ ⟨(i 1).val % 128, Nat.mod_lt _ (by omega)⟩
        * entry cosT cosT 1 (i 0).val ⟨(i 1).val % 128, Nat.mod_lt _ (by omega)⟩
      + headOf h w nw ⟨(i 0).val, by have h0 : (i 0).val < 8192 := (i 0).isLt; omega⟩
          ⟨(i 1).val / 128, by have h1 : (i 1).val < 4096 := (i 1).isLt; omega⟩ (rot ⟨(i 1).val % 128, Nat.mod_lt _ (by omega)⟩)
        * entry (fun i => -sinT i) sinT 0 (i 0).val ⟨(i 1).val % 128, Nat.mod_lt _ (by omega)⟩) * sc = G h w nw i := by
  have hi0 : (i 0).val < 8192 := (i 0).isLt
  unfold G
  rw [mix_latent _ _ _ _ _ _ hi0]

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl

/-- The cast weights, as the region finds them. -/
theorem V_w (c : Dev nD) : V m c main_v41 = truncf (F := Ideal) .bf16 (m ((c : Thread nD τ).loc main_arg1)) bitsLt_bf16_f32 := by
  unfold V
  after_results

/-- The heads' weights as one row, as the region finds them. -/
theorem V_nw (c : Dev nD) : V m c main_v42 = shapeCast S1x128 (m ((c : Thread nD τ).loc main_arg2)) shapeCasts_S128_S1x128 := by
  unfold V
  after_results_simp <;> rfl

/-- The table of cosines, as the region finds it. -/
theorem V_cos (c : Dev nD) : V m c main_v38 = table cosT cosT (constant (F := Ideal) S_ .f32 0x3F800000#32)
    concatenates_S4096x64_S4096x64_S4096x128_d1 shapeCasts_S4096x128_S1x4096x1x128 bcast_S1x4096x1x128_S2x4096x1x128_0_1_2_3
    shapeCasts_S2x4096x1x128_S8192x128 bcast_S_S512x128 concatenates_S8192x128_S512x128_S8704x128_d0 := by
  unfold V
  after_results_simp <;> rfl

/-- The table of signed sines, as the region finds it. -/
theorem V_sin (c : Dev nD) : V m c main_v40 = table (fun i => -sinT i) sinT (constant (F := Ideal) S_ .f32 0x00000000#32)
    concatenates_S4096x64_S4096x64_S4096x128_d1 shapeCasts_S4096x128_S1x4096x1x128 bcast_S1x4096x1x128_S2x4096x1x128_0_1_2_3
    shapeCasts_S2x4096x1x128_S8192x128 bcast_S_S512x128 concatenates_S8192x128_S512x128_S8704x128_d0 := by
  unfold V
  after_results_simp <;> rfl

/-- Block indices of the windows, point by point. -/
theorem idx_h : ∀ t : Fin cfg0.N, win0_0.index t 0 = win0_5.index t 0 ∧ win0_0.index t 1 = 0
    ∧ (win0_1.index t 0 = 0 ∧ win0_1.index t 1 = win0_5.index t 1 + 0)
    ∧ (win0_2.index t 0 = 0 ∧ win0_2.index t 1 = 0)
    ∧ (win0_3.index t 0 = win0_5.index t 0 ∧ win0_3.index t 1 = 0)
    ∧ (win0_4.index t 0 = win0_5.index t 0 ∧ win0_4.index t 1 = 0) :=
  (by decide +kernel : ∀ t : Fin grid0.N, win0_0.index t 0 = win0_5.index t 0 ∧ win0_0.index t 1 = 0
    ∧ (win0_1.index t 0 = 0 ∧ win0_1.index t 1 = win0_5.index t 1 + 0)
    ∧ (win0_2.index t 0 = 0 ∧ win0_2.index t 1 = 0)
    ∧ (win0_3.index t 0 = win0_5.index t 0 ∧ win0_3.index t 1 = 0)
    ∧ (win0_4.index t 0 = win0_5.index t 0 ∧ win0_4.index t 1 = 0))

/-- Every block of the result is some point's. -/
theorem idx_onto : ∀ (a : Fin 16) (b : Fin 8), ∃ t : Fin cfg0.N, win0_5.index t 0 = a.val ∧ win0_5.index t 1 = b.val :=
  (by decide +kernel : ∀ (a : Fin 16) (b : Fin 8), ∃ t : Fin grid0.N, win0_5.index t 0 = a.val ∧ win0_5.index t 1 = b.val)

/-- The body's product of two blocks, at an index. -/
theorem pay2_apply (x0 : FVec Ideal S512x4096 .bf16) (x1 : FVec Ideal S4096x512 .bf16) (r : Fin 512) (s : Fin 512) :
    k0_pay2 (F := Ideal) x0 x1 (ix2 r s) = ∑ k : Fin 4096, x0 (ix2 r k) * x1 (ix2 k s) := by
  unfold k0_pay2
  rw [shapeCast_self]
  refine (Ideal.matmul_plain_apply none x0 x1 _ r s).trans ?_
  rw [constant_apply, Ideal.ofBits_zero_f32, zero_add]

/-- A cast to the same shape changes nothing. -/
theorem pay3_eq (x : FVec Ideal S1x128 .f32) : k0_pay3 (F := Ideal) x = x := by unfold k0_pay3; rw [shapeCast_self]

/-- A cast to the same shape changes nothing. -/
theorem pay4_eq (x : FVec Ideal S512x128 .f32) : k0_pay4 (F := Ideal) x = x := by unfold k0_pay4; rw [shapeCast_self]

/-- A cast to the same shape changes nothing. -/
theorem pay5_eq (x : FVec Ideal S512x128 .f32) : k0_pay5 (F := Ideal) x = x := by unfold k0_pay5; rw [shapeCast_self]

/-- What the body leaves in the result's buffer: the block, head by head. -/
theorem out_eq (x0 : Vec Ideal S512x4096 .bf16) (x1 : Vec Ideal S4096x512 .bf16) (x2 : Vec Ideal S1x128 .f32)
    (x3 : Vec Ideal S512x128 .f32) (x4 : Vec Ideal S512x128 .f32) :
    out0_5 (F := Ideal) x0 x1 x2 x3 x4 = blockVal (k0_pay2 (F := Ideal) x0 x1) x2 x3 x4 sc := by
  funext y
  unfold out0_5
  refine View.canon_apply_of_pieces _ _ (fun p hp j => ?_) y (cover0_5 _ _ _ _ y)
  unfold k0_pay15 k0_pay16 k0_pay17 k0_pay14 at hp
  rw [View.ld_unit_zero hz, View.ld_unit_zero hz, View.ld_unit_zero hz, View.ld_unit_zero hz, View.ld_unit_zero hz, pay3_eq, pay4_eq, pay5_eq] at hp
  simp only [List.mem_cons, List.mem_nil_iff, or_false] at hp
  rcases hp with rfl | rfl | rfl | rfl
  · exact head_block (k0_pay2 (F := Ideal) x0 x1) x2 x3 x4 sc 3 slices_S512x512_o0_384_S512x128 reduces_S512x128_S512 shapeCasts_S512_S512x1
      broadcasts_S512x1_S512x128 broadcasts_S1x128_S512x128 rotates_S512x128_d1 bitsLt_bf16_f32 inb_S512x512_S512x128_0_384 j
  · exact head_block (k0_pay2 (F := Ideal) x0 x1) x2 x3 x4 sc 2 slices_S512x512_o0_256_S512x128 reduces_S512x128_S512 shapeCasts_S512_S512x1
      broadcasts_S512x1_S512x128 broadcasts_S1x128_S512x128 rotates_S512x128_d1 bitsLt_bf16_f32 inb_S512x512_S512x128_0_256 j
  · exact head_block (k0_pay2 (F := Ideal) x0 x1) x2 x3 x4 sc 1 slices_S512x512_o0_128_S512x128 reduces_S512x128_S512 shapeCasts_S512_S512x1
      broadcasts_S512x1_S512x128 broadcasts_S1x128_S512x128 rotates_S512x128_d1 bitsLt_bf16_f32 inb_S512x512_S512x128_0_128 j
  · dsimp only at j ⊢
    unfold k0_pay6
    rw [pay3_eq, pay4_eq, pay5_eq]
    exact head_block (k0_pay2 (F := Ideal) x0 x1) x2 x3 x4 sc 0 slices_S512x512_o0_0_S512x128 reduces_S512x128_S512 shapeCasts_S512_S512x1
      broadcasts_S512x1_S512x128 broadcasts_S1x128_S512x128 rotates_S512x128_d1 bitsLt_bf16_f32 inb_S512x512_S512x128_0_0 j

/-- What point `t` writes back is block `t` of `G`. -/
theorem flushed_eq (c : Dev nD) (t : Fin cfg0.N) :
    (dats m 0 c).flushed 5 t = (win0_5.blk t).view.read (Elt Ideal)
      (G (m ((c : Thread nD τ).loc main_arg0)) (m ((c : Thread nD τ).loc main_arg1)) (m ((c : Thread nD τ).loc main_arg2))) := by
  show (cfg0.win 5).cut (grid0.coords t) ((dats m 0 c).after 5 t) = _
  rw [after0_5, out_eq]
  funext y
  obtain ⟨r, s, rfl⟩ : ∃ (r : Fin 512) (s : Fin 512), y = ix2 r s := ⟨y 0, y 1, eq_ix2 y⟩
  show blockVal (k0_pay2 (F := Ideal) (iblk m c 0 t) (iblk m c 1 t)) (iblk m c 2 t) (iblk m c 3 t) (iblk m c 4 t) sc (ix2 r s)
    = G (m ((c : Thread nD τ).loc main_arg0)) (m ((c : Thread nD τ).loc main_arg1)) (m ((c : Thread nD τ).loc main_arg2))
      ((win0_5.rect t).emb (ix2 r s))
  obtain ⟨e1, e2, ⟨e3, e4⟩, ⟨e5, e6⟩, ⟨e7, e8⟩, e9, e10⟩ := idx_h t
  have hr := r.isLt
  have hs := s.isLt
  have o0 : ((win0_5.rect t).emb (ix2 r s) 0).val = win0_5.index t 0 * 512 + r.val := win0_5.rect_emb_val t (ix2 r s) 0
  have o1 : ((win0_5.rect t).emb (ix2 r s) 1).val = win0_5.index t 1 * 512 + s.val := win0_5.rect_emb_val t (ix2 r s) 1
  generalize (win0_5.rect t).emb (ix2 r s) = i at o0 o1 ⊢
  have hi0 : (i 0).val < 8192 := (i 0).isLt
  have hi1 : (i 1).val < 4096 := (i 1).isLt
  have hh (k : Fin 4096) : iblk m c 0 t (ix2 r k) = m ((c : Thread nD τ).loc main_arg0) (ix2 ⟨(i 0).val, by omega⟩ k) := by
    show V m c main_arg0 ((win0_0.rect t).emb (ix2 r k)) = _
    rw [V_main_arg0]
    have a0 := win0_0.rect_emb_val t (ix2 r k) 0
    have a1 := win0_0.rect_emb_val t (ix2 r k) 1
    refine congrArg _ (Shape.idx_ext₂ ?_ ?_)
    · rw [a0, e1]; exact o0.symm
    · rw [a1, e2]; exact (Nat.zero_add _)
  have hw (k : Fin 4096) (e : Fin 512) : iblk m c 1 t (ix2 k e)
      = m ((c : Thread nD τ).loc main_arg1) (ix2 k ⟨0 + (win0_5.index t 1 * 512 + e.val), by have := e.isLt; omega⟩) := by
    show V m c main_v41 ((win0_1.rect t).emb (ix2 k e)) = _
    rw [V_w]
    have b0 := win0_1.rect_emb_val t (ix2 k e) 0
    have b1 := win0_1.rect_emb_val t (ix2 k e) 1
    refine congrArg (m ((c : Thread nD τ).loc main_arg1)) (Shape.idx_ext₂ ?_ ?_)
    · rw [b0, e3]; exact (Nat.zero_add _)
    · rw [b1, e4]
      show (win0_5.index t 1 + 0) * 512 + e.val = 0 + (win0_5.index t 1 * 512 + e.val)
      omega
  have hnw (e : Fin 128) : iblk m c 2 t (ix2 0 e) = m ((c : Thread nD τ).loc main_arg2) (ix1 e) := by
    show V m c main_v42 ((win0_2.rect t).emb (ix2 0 e)) = _
    rw [V_nw]
    have b0 := win0_2.rect_emb_val t (ix2 0 e) 0
    have b1 := win0_2.rect_emb_val t (ix2 0 e) 1
    have eb : (win0_2.rect t).emb (ix2 0 e) = ix2 (0 : Fin 1) e := Shape.idx_ext₂ (by rw [b0, e5]; rfl) (by rw [b1, e6]; exact Nat.zero_add _)
    rw [eb]
    exact shapeCast_apply _ _ _ _ (by
      rw [Shape.rowMajor_val_two]
      refine (Shape.rowMajor_val_one (d := ![128]) (ix1 e)).trans ?_
      show e.val = 0 * 128 + e.val
      omega)
  have hcs (d : Fin 128) : iblk m c 3 t (ix2 r d) = entry cosT cosT 1 (i 0).val d := by
    show V m c main_v38 ((win0_3.rect t).emb (ix2 r d)) = _
    rw [V_cos]
    have b0 := win0_3.rect_emb_val t (ix2 r d) 0
    have b1 := win0_3.rect_emb_val t (ix2 r d) 1
    have eb : (win0_3.rect t).emb (ix2 r d) = ix2 (⟨(i 0).val, by omega⟩ : Fin 8704) d :=
      Shape.idx_ext₂ (by rw [b0, e7]; exact o0.symm) (by rw [b1, e8]; exact Nat.zero_add _)
    rw [eb, table_apply, constant_apply, Ideal.ofBits_one_f32]
  have hsn (d : Fin 128) : iblk m c 4 t (ix2 r d) = entry (fun i => -sinT i) sinT 0 (i 0).val d := by
    show V m c main_v40 ((win0_4.rect t).emb (ix2 r d)) = _
    rw [V_sin]
    have b0 := win0_4.rect_emb_val t (ix2 r d) 0
    have b1 := win0_4.rect_emb_val t (ix2 r d) 1
    have eb : (win0_4.rect t).emb (ix2 r d) = ix2 (⟨(i 0).val, by omega⟩ : Fin 8704) d :=
      Shape.idx_ext₂ (by rw [b0, e9]; exact o0.symm) (by rw [b1, e10]; exact Nat.zero_add _)
    rw [eb, table_apply, constant_apply, Ideal.ofBits_zero_f32]
  have hn : headNorm (fun e => k0_pay2 (F := Ideal) (iblk m c 0 t) (iblk m c 1 t) (ix2 r ⟨s.val / 128 * 128 + e.val, by omega⟩)) (fun e => iblk m c 2 t (ix2 0 e))
      = headOf (m ((c : Thread nD τ).loc main_arg0)) (m ((c : Thread nD τ).loc main_arg1)) (m ((c : Thread nD τ).loc main_arg2))
        ⟨(i 0).val, by omega⟩ ⟨(i 1).val / 128, by omega⟩ := by
    unfold headOf
    refine congrArg₂ headNorm (funext fun e => ?_) (funext hnw)
    rw [pay2_apply]
    unfold acc
    refine Finset.sum_congr rfl fun k _ => congrArg₂ (· * ·) (hh k) ((hw k _).trans ?_)
    refine congrArg (m ((c : Thread nD τ).loc main_arg1)) (Shape.idx_ext₂ rfl ?_)
    show 0 + (win0_5.index t 1 * 512 + (s.val / 128 * 128 + e.val)) = 0 + ((i 1).val / 128 * 128 + e.val)
    omega
  have ed : (⟨s.val % 128, by omega⟩ : Fin 128) = ⟨(i 1).val % 128, by omega⟩ := Fin.ext (by show s.val % 128 = (i 1).val % 128; omega)
  show (headNorm (fun e => k0_pay2 (F := Ideal) (iblk m c 0 t) (iblk m c 1 t) (ix2 r ⟨s.val / 128 * 128 + e.val, by omega⟩)) (fun e => iblk m c 2 t (ix2 0 e)) ⟨s.val % 128, by omega⟩
      * iblk m c 3 t (ix2 r ⟨s.val % 128, by omega⟩)
    + headNorm (fun e => k0_pay2 (F := Ideal) (iblk m c 0 t) (iblk m c 1 t) (ix2 r ⟨s.val / 128 * 128 + e.val, by omega⟩)) (fun e => iblk m c 2 t (ix2 0 e)) (rot ⟨s.val % 128, by omega⟩)
      * iblk m c 4 t (ix2 r ⟨s.val % 128, by omega⟩)) * sc = _
  rw [hn, hcs, hsn, ed]
  exact G_at _ _ _ i

/-- The result's blocks tile its array. -/
theorem cover (i : S8192x4096.Idx) :
    ∃ t : Fin cfg0.N, (cfg0.win 5).flush t = true ∧ i ∈ ((cfg0.win 5).blk t).view.set := by
  have h0 : (i 0 : Nat) < 8192 := (i 0).isLt
  have h1 : (i 1 : Nat) < 4096 := (i 1).isLt
  obtain ⟨t, ha, hb⟩ := idx_onto ⟨(i 0 : Nat) / 512, by omega⟩ ⟨(i 1 : Nat) / 512, by omega⟩
  refine ⟨t, flush0_5 t, ?_⟩
  show i ∈ ((View.whole main_v43).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [ha]; dsimp only; omega
  | ⟨1, _⟩ =>
    show win0_5.index t 1 * 512 ≤ (i 1 : Nat) ∧ (i 1 : Nat) < win0_5.index t 1 * 512 + 512
    rw [hb]; dsimp only; omega

/-- So the result array ends holding `G` of the arguments. -/
theorem final (c : Dev nD) : (dats m 0 c).arrAt 5 cfg0.N
    = G (m ((c : Thread nD τ).loc main_arg0)) (m ((c : Thread nD τ).loc main_arg1)) (m ((c : Thread nD τ).loc main_arg2)) :=
  (dats m 0 c).arrAt_eq_of_cover 5 _ (fun t _ => flushed_eq m c t) cover

end Kernel

open Cert.ProjQRefIdeal.Read in
/-- The reference's products. -/
theorem ref_x (h : S8704x4096.Idx → EReal) (w : S4096x6144.Idx → EReal) (b : Fin 2) (p : Fin 4096) (g : Fin 32) (e : Fin 128) :
    val_main_v4 (F := Ideal) h w (ix4 b p g e) = acc h w ⟨b.val * 4096 + p.val, by omega⟩ ⟨g.val * 128 + e.val, by omega⟩ := by
  have hb := b.isLt
  have hp := p.isLt
  have he := e.isLt
  have hg := g.isLt
  rw [val_main_v4_apply, val_main_v3_apply]
  unfold acc
  refine Finset.sum_congr rfl fun k _ => congrArg₂ (· * ·) ?_ ?_
  · rw [val_main_v1_apply, Ideal.extf_def, val_main_v0_apply]
    refine congrArg h (Shape.idx_ext₂ ?_ rfl)
    show (((b.val * 4096 + p.val) * 32 + g.val) * 128 + e.val) / 4096 = b.val * 4096 + p.val
    omega
  · rw [val_main_v2_apply]
    refine congrArg w (Shape.idx_ext₂ rfl ?_)
    show (((b.val * 4096 + p.val) * 32 + g.val) * 128 + e.val) % 4096 = 0 + (g.val * 128 + e.val)
    omega

open Cert.ProjQRefIdeal.Read in
/-- The reference's normalised heads. -/
theorem ref_norm (h : S8704x4096.Idx → EReal) (w : S4096x6144.Idx → EReal) (nw : S128.Idx → EReal) (b : Fin 2) (p : Fin 4096) (g : Fin 32) (d : Fin 128) :
    val_main_v17 (F := Ideal) h w nw (ix4 b p g d) = headOf h w nw ⟨b.val * 4096 + p.val, by omega⟩ g d := by
  have e1 (k : Fin 128) : idx_main_v6 (idx_main_v7 (idx_main_v13 (ix4 b p g d))) k = ix4 b p g k := by
    funext a
    match a with
    | ⟨0, _⟩ => rfl
    | ⟨1, _⟩ => rfl
    | ⟨2, _⟩ => rfl
    | ⟨3, _⟩ => rfl
  have e2 : val_main_cst (F := Ideal) (Shape.Idx.first Cert.ProjQRefIdeal.Facts₀.h_S_) = (0 : EReal) := Ideal.ofBits_zero_f32
  have e3 : idx_main_v15 (idx_main_v16 (ix4 b p g d)) = ix1 d := by
    funext a
    match a with
    | ⟨0, _⟩ => rfl
  rw [val_main_v17_apply, val_main_v14_apply, val_main_v16_apply, val_main_v15_apply, val_main_v13_apply, val_main_v12_apply,
    val_main_v11_apply, val_main_v9_apply, val_main_v7_apply, val_main_v6_apply, val_main_v8_apply, val_main_v10_apply, ref_x, e2, zero_add, e3]
  have e4 : (∑ k : Fin 128, val_main_v5 (F := Ideal) h w (idx_main_v6 (idx_main_v7 (idx_main_v13 (ix4 b p g d))) k))
      = ∑ k : Fin 128, acc h w ⟨b.val * 4096 + p.val, by omega⟩ ⟨g.val * 128 + k.val, by omega⟩ * acc h w ⟨b.val * 4096 + p.val, by omega⟩ ⟨g.val * 128 + k.val, by omega⟩ :=
    Finset.sum_congr rfl fun k _ => by rw [val_main_v5_apply, e1, ref_x]; rfl
  rw [e4]
  rfl

open Cert.ProjQRefIdeal.Read in
/-- The reference's rotated heads of the latent rows. -/
theorem ref_rot (h : S8704x4096.Idx → EReal) (w : S4096x6144.Idx → EReal) (nw : S128.Idx → EReal) (b : Fin 2) (p : Fin 4096) (g : Fin 32)
    (d : Fin 128) :
    val_main_v60 (F := Ideal) h w nw (ix4 b p g d)
      = rotated (headOf h w nw ⟨b.val * 4096 + p.val, by omega⟩ g) cosT sinT p d := by
  have hd := d.isLt
  unfold val_main_v60 rotated
  by_cases hh : d.val < 64
  · rw [dif_pos hh]
    refine (concatenate_pair_apply_left (t := Cert.ProjQRefIdeal.S2x4096x32x128) (s₁ := Cert.ProjQRefIdeal.S2x4096x32x64)
      (s₂ := Cert.ProjQRefIdeal.S2x4096x32x64) 3 _ _ _ _ rfl (ix4 b p g ⟨d.val, hh⟩)
      (fun a => match a with | ⟨0, _⟩ => rfl | ⟨1, _⟩ => rfl | ⟨2, _⟩ => rfl | ⟨3, _⟩ => rfl)).trans ?_
    have i1 : idx_main_v48 (ix4 b p g ⟨d.val, hh⟩) = ix4 b p g d := by
      funext a
      match a with
      | ⟨0, _⟩ => rfl
      | ⟨1, _⟩ => rfl
      | ⟨2, _⟩ => rfl
      | ⟨3, _⟩ => rfl
    have i2 : idx_main_v49 (ix4 b p g ⟨d.val, hh⟩) = ix4 b p g ⟨d.val + 64, by omega⟩ := by
      funext a
      match a with
      | ⟨0, _⟩ => rfl
      | ⟨1, _⟩ => rfl
      | ⟨2, _⟩ => rfl
      | ⟨3, _⟩ => exact Fin.ext (by show 64 + d.val = d.val + 64; omega)
    have i3 : idx_main_v45 (idx_main_v50 (ix4 b p g ⟨d.val, hh⟩)) = ix2 p ⟨d.val, hh⟩ := Shape.idx_ext₂ rfl rfl
    have i4 : idx_main_v47 (idx_main_v52 (ix4 b p g ⟨d.val, hh⟩)) = ix2 p ⟨d.val, hh⟩ := Shape.idx_ext₂ rfl rfl
    rw [val_main_v54_apply, val_main_v51_apply, val_main_v53_apply, val_main_v48_apply, val_main_v49_apply, val_main_v50_apply,
      val_main_v52_apply, val_main_v45_apply, val_main_v47_apply, i1, i2, i3, i4, ref_norm, ref_norm]
    rfl
  · rw [dif_neg hh]
    refine (concatenate_pair_apply_right (t := Cert.ProjQRefIdeal.S2x4096x32x128) (s₁ := Cert.ProjQRefIdeal.S2x4096x32x64)
      (s₂ := Cert.ProjQRefIdeal.S2x4096x32x64) 3 _ _ _ _ rfl rfl (ix4 b p g ⟨d.val - 64, by omega⟩)
      (fun a ha => match a, ha with | ⟨0, _⟩, _ => rfl | ⟨1, _⟩, _ => rfl | ⟨2, _⟩, _ => rfl | ⟨3, _⟩, ha => absurd rfl ha)
      (by show d.val - 64 + 64 = d.val; omega)).trans ?_
    have i1 : idx_main_v48 (ix4 b p g ⟨d.val - 64, by omega⟩) = ix4 b p g ⟨d.val - 64, by omega⟩ := by
      funext a
      match a with
      | ⟨0, _⟩ => rfl
      | ⟨1, _⟩ => rfl
      | ⟨2, _⟩ => rfl
      | ⟨3, _⟩ => rfl
    have i2 : idx_main_v49 (ix4 b p g ⟨d.val - 64, by omega⟩) = ix4 b p g d := by
      funext a
      match a with
      | ⟨0, _⟩ => rfl
      | ⟨1, _⟩ => rfl
      | ⟨2, _⟩ => rfl
      | ⟨3, _⟩ => exact Fin.ext (by show 64 + (d.val - 64) = d.val; omega)
    have i3 : idx_main_v47 (idx_main_v55 (ix4 b p g ⟨d.val - 64, by omega⟩)) = ix2 p ⟨d.val - 64, by omega⟩ := Shape.idx_ext₂ rfl rfl
    have i4 : idx_main_v45 (idx_main_v57 (ix4 b p g ⟨d.val - 64, by omega⟩)) = ix2 p ⟨d.val - 64, by omega⟩ := Shape.idx_ext₂ rfl rfl
    rw [val_main_v59_apply, val_main_v56_apply, val_main_v58_apply, val_main_v48_apply, val_main_v49_apply, val_main_v55_apply,
      val_main_v57_apply, val_main_v45_apply, val_main_v47_apply, i1, i2, i3, i4, ref_norm, ref_norm]
    rfl

/-- The kernel's factor is the reciprocal of the root of 128. -/
theorem sc_eq : Named.named (F := Ideal) κ "inv_sqrt_head" (φ := .f32) 0x3DB504F3#32 = (((Real.sqrt 128)⁻¹ : ℝ) : EReal) :=
  IdealRules.named_const.ideal_named_scalar _ _ _ _ rfl

/-- The reference's quotient by the root of 128 is the product with the kernel's factor. -/
theorem div_root (x : EReal) (j : Cert.ProjQRefIdeal.S_.Idx) :
    Ideal.div x (Ideal.sqrt (Cert.ProjQRefIdeal.Read.val_main_cst_4 (F := Ideal) j)) = x * sc := by
  rw [Cert.ProjQRefIdeal.Read.val_main_cst_4_apply, Ideal.ofBits_def, Consts.head_size, Ideal.sqrt_coe, if_neg (by norm_num),
    Ideal.div_coe (Real.sqrt_pos.mpr (by norm_num)).ne', one_div, ← sc_eq]

/-- The reference is `G`. -/
theorem ref_eq (h : S8704x4096.Idx → EReal) (w : S4096x6144.Idx → EReal) (nw : S128.Idx → EReal) :
    Cert.ProjQRefIdeal.Read.val_main_v65 (F := Ideal) h w nw = G h w nw := by
  funext i
  obtain ⟨r, c, rfl⟩ : ∃ (r : Fin 8192) (c : Fin 4096), i = ix2 r c := ⟨i 0, i 1, eq_ix2 i⟩
  have hr := r.isLt
  have hc := c.isLt
  have e : Cert.ProjQRefIdeal.Read.idx_main_v64 (ix2 r c) = ix4 (⟨r.val / 4096, by omega⟩ : Fin 2) (⟨r.val % 4096, by omega⟩ : Fin 4096)
      (⟨c.val / 128, by omega⟩ : Fin 32) (⟨c.val % 128, by omega⟩ : Fin 128) := by
    funext a
    match a with
    | ⟨0, _⟩ => exact Fin.ext (by show (r.val * 4096 + c.val) / 16777216 = r.val / 4096; omega)
    | ⟨1, _⟩ => exact Fin.ext (by show (r.val * 4096 + c.val) / 4096 % 4096 = r.val % 4096; omega)
    | ⟨2, _⟩ => exact Fin.ext (by show (r.val * 4096 + c.val) / 128 % 32 = c.val / 128; omega)
    | ⟨3, _⟩ => exact Fin.ext (by show (r.val * 4096 + c.val) % 128 = c.val % 128; omega)
  have er : (⟨r.val / 4096 * 4096 + r.val % 4096, by omega⟩ : Fin 8704) = ⟨r.val, by omega⟩ :=
    Fin.ext (by show r.val / 4096 * 4096 + r.val % 4096 = r.val; omega)
  rw [Cert.ProjQRefIdeal.Read.val_main_v65_apply, Ideal.truncf_def, Cert.ProjQRefIdeal.Read.val_main_v64_apply, e,
    Cert.ProjQRefIdeal.Read.val_main_v63_apply, Ideal.hostDivf_def, Cert.ProjQRefIdeal.Read.val_main_v62_apply,
    Cert.ProjQRefIdeal.Read.val_main_v61_apply, Ideal.hostUnary_sqrt_def, div_root, ref_rot, er]
  rfl

/-- The reference's frame. -/
theorem frame_ref : Cert.quiescent_ProjQRefIdeal := fun m ρ _ =>
  (θ_run Cert.ProjQRefIdeal.defs _ _).mono (fun r h => ⟨fun c => (h c).2,
      sem_eq_zero_of_no_sems (by decide) r.2⟩)
    (Cert.ProjQRefIdeal.Value.run (F := Ideal) m ρ)

/-- The named constant is the printed one's value. -/
theorem preserves : Cert.preserves_ProjQ_ProjQIdeal :=
  IdealRules.named_const.statement Cert.ProjQIdeal.κ "inv_sqrt_head" .f32 0x3DB504F3#32 (((Real.sqrt 128)⁻¹ : ℝ) : EReal) rfl

/-- The kernel's result is the reference's. -/
theorem algebraic : Cert.algebraic_ProjQIdeal_ProjQRefIdeal := by
  intro m ρ m' ρ' _ hagree
  refine ⟨fun c => G (m ((c : Thread nD τ).loc main_arg0)) (m ((c : Thread nD τ).loc main_arg1)) (m ((c : Thread nD τ).loc main_arg2)), ?_, ?_⟩
  · exact (θ_run Cert.ProjQIdeal.defs _ _).mono (fun r h c => ⟨((h c).1).trans (final m c), (h c).2⟩)
      (Cert.ProjQIdeal.Value.run_blocks (F := Ideal) m ρ)
  · refine (θ_run Cert.ProjQRefIdeal.defs _ _).mono (fun r h c => ⟨(h c).1.trans ?_, (h c).2⟩)
      (Cert.ProjQRefIdeal.Value.run (F := Ideal) m' ρ')
    rw [Cert.ProjQRefIdeal.Read.val_main_v65_eq, ref_eq, (hagree c).1, (hagree c).2.1, (hagree c).2.2]

end Cert.Proof.ProjQ

end
-- ==== Proof.ProjK.lean ====
/-
  The key projection: the kernel's result array and the reference's are one function of the arguments.
-/
module

public import proofs.«01_k».proof.Defs
public import proofs.«01_k».proof.Proof.Rope
public import proofs.«01_k».proof.Proof.Gen.ProjKIdeal.Value
public import proofs.«01_k».proof.Proof.Gen.ProjKRefIdeal.Run
public import proofs.«01_k».proof.Proof.Gen.ProjKRefIdeal.Read
public import Idealize.ShloMosaic.Lib.Pipeline.Value
public import Idealize.ShloMosaic.Lib.IdealHost
public import Idealize.ShloMosaic.Lib.MatmulPlain
public import Idealize.ShloMosaic.Lib.ValueIdx

@[expose] public section

set_option maxRecDepth 16384

noncomputable section

namespace Cert.Proof.ProjK

open Cert.ProjKIdeal Cert.ProjKIdeal.Gen Idealize.ShloMosaic Idealize.ShloMosaic.TcCoe Idealize.SL.Sem
open Idealize.ShloMosaic.Pipeline (Dat)
open Idealize.ShloMosaic.ValueIdx Cert.Proof.Rope
open scoped BigOperators

/-- The factor on every head. -/
abbrev sc : Ideal .f32 := Scalar.ofBits (F := Ideal) .f32 0x3F800000#32

/-- The cosines of the rows' angles. -/
abbrev cosT : S4096x64.Idx → EReal := Cert.ProjKRefIdeal.Read.val_main_v45 (F := Ideal)

/-- The sines of the rows' angles. -/
abbrev sinT : S4096x64.Idx → EReal := Cert.ProjKRefIdeal.Read.val_main_v47 (F := Ideal)

/-- Row `r` of `h` times column `4096 + c` of the packed weights. -/
def acc (h : S8704x4096.Idx → EReal) (w : S4096x6144.Idx → EReal) (r : Fin 8704) (c : Fin 1024) : EReal :=
  ∑ k : Fin 4096, h (ix2 r k) * w (ix2 k ⟨4096 + c.val, by omega⟩)

/-- Row `r`, head `g`: the head normalised. -/
def headOf (h : S8704x4096.Idx → EReal) (w : S4096x6144.Idx → EReal) (nw : S128.Idx → EReal) (r : Fin 8704) (g : Fin 8) :
    Fin 128 → EReal :=
  headNorm (fun e => acc h w r ⟨g.val * 128 + e.val, by omega⟩) (fun e => nw (ix1 e))

/-- The keys' factor is one. -/
theorem sc_one : (sc : EReal) = 1 := by
  show FloatOps.ofBits (F := Ideal) .f32 0x3F800000#32 = 1
  rw [Ideal.ofBits_def, Ideal.ofBits_one_f32]

/-- The result at row `i 0`, head `i 1 / 128`, column `i 1 % 128` of it: the normalised head, rotated if the row is latent. -/
def G (h : S8704x4096.Idx → EReal) (w : S4096x6144.Idx → EReal) (nw : S128.Idx → EReal) : S8704x1024.Idx → EReal := fun i =>
  if (i 0).val < 8192 then
    rotated (headOf h w nw ⟨(i 0).val, (i 0).isLt⟩ ⟨(i 1).val / 128, by have h1 : (i 1).val < 1024 := (i 1).isLt; omega⟩) cosT sinT
      ⟨(i 0).val % 4096, Nat.mod_lt _ (by omega)⟩ ⟨(i 1).val % 128, Nat.mod_lt _ (by omega)⟩
  else headOf h w nw ⟨(i 0).val, (i 0).isLt⟩ ⟨(i 1).val / 128, by have h1 : (i 1).val < 1024 := (i 1).isLt; omega⟩
      ⟨(i 1).val % 128, Nat.mod_lt _ (by omega)⟩

/-- `G` by the two tables. -/
theorem G_at (h : S8704x4096.Idx → EReal) (w : S4096x6144.Idx → EReal) (nw : S128.Idx → EReal) (i : S8704x1024.Idx) :
    (headOf h w nw ⟨(i 0).val, by have h0 : (i 0).val < 8704 := (i 0).isLt; omega⟩
          ⟨(i 1).val / 128, by have h1 : (i 1).val < 1024 := (i 1).isLt; omega⟩ ⟨(i 1).val % 128, Nat.mod_lt _ (by omega)⟩
        * entry cosT cosT 1 (i 0).val ⟨(i 1).val % 128, Nat.mod_lt _ (by omega)⟩
      + headOf h w nw ⟨(i 0).val, by have h0 : (i 0).val < 8704 := (i 0).isLt; omega⟩
          ⟨(i 1).val / 128, by have h1 : (i 1).val < 1024 := (i 1).isLt; omega⟩ (rot ⟨(i 1).val % 128, Nat.mod_lt _ (by omega)⟩)
        * entry (fun i => -sinT i) sinT 0 (i 0).val ⟨(i 1).val % 128, Nat.mod_lt _ (by omega)⟩) * sc = G h w nw i := by
  have hi0 : (i 0).val < 8704 := (i 0).isLt
  unfold G
  rw [sc_one, mul_one]
  by_cases h : (i 0).val < 8192
  · rw [if_pos h, mix_latent _ _ _ _ _ _ h]
  · rw [if_neg h, mix_context _ _ _ _ h]

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl

/-- The cast weights, as the region finds them. -/
theorem V_w (c : Dev nD) : V m c main_v41 = truncf (F := Ideal) .bf16 (m ((c : Thread nD τ).loc main_arg1)) bitsLt_bf16_f32 := by
  unfold V
  after_results

/-- The heads' weights as one row, as the region finds them. -/
theorem V_nw (c : Dev nD) : V m c main_v42 = shapeCast S1x128 (m ((c : Thread nD τ).loc main_arg2)) shapeCasts_S128_S1x128 := by
  unfold V
  after_results_simp <;> rfl

/-- The table of cosines, as the region finds it. -/
theorem V_cos (c : Dev nD) : V m c main_v38 = table cosT cosT (constant (F := Ideal) S_ .f32 0x3F800000#32)
    concatenates_S4096x64_S4096x64_S4096x128_d1 shapeCasts_S4096x128_S1x4096x1x128 bcast_S1x4096x1x128_S2x4096x1x128_0_1_2_3
    shapeCasts_S2x4096x1x128_S8192x128 bcast_S_S512x128 concatenates_S8192x128_S512x128_S8704x128_d0 := by
  unfold V
  after_results_simp <;> rfl

/-- The table of signed sines, as the region finds it. -/
theorem V_sin (c : Dev nD) : V m c main_v40 = table (fun i => -sinT i) sinT (constant (F := Ideal) S_ .f32 0x00000000#32)
    concatenates_S4096x64_S4096x64_S4096x128_d1 shapeCasts_S4096x128_S1x4096x1x128 bcast_S1x4096x1x128_S2x4096x1x128_0_1_2_3
    shapeCasts_S2x4096x1x128_S8192x128 bcast_S_S512x128 concatenates_S8192x128_S512x128_S8704x128_d0 := by
  unfold V
  after_results_simp <;> rfl

/-- Block indices of the windows, point by point. -/
theorem idx_h : ∀ t : Fin cfg0.N, win0_0.index t 0 = win0_5.index t 0 ∧ win0_0.index t 1 = 0
    ∧ (win0_1.index t 0 = 0 ∧ win0_1.index t 1 = win0_5.index t 1 + 8)
    ∧ (win0_2.index t 0 = 0 ∧ win0_2.index t 1 = 0)
    ∧ (win0_3.index t 0 = win0_5.index t 0 ∧ win0_3.index t 1 = 0)
    ∧ (win0_4.index t 0 = win0_5.index t 0 ∧ win0_4.index t 1 = 0) :=
  (by decide +kernel : ∀ t : Fin grid0.N, win0_0.index t 0 = win0_5.index t 0 ∧ win0_0.index t 1 = 0
    ∧ (win0_1.index t 0 = 0 ∧ win0_1.index t 1 = win0_5.index t 1 + 8)
    ∧ (win0_2.index t 0 = 0 ∧ win0_2.index t 1 = 0)
    ∧ (win0_3.index t 0 = win0_5.index t 0 ∧ win0_3.index t 1 = 0)
    ∧ (win0_4.index t 0 = win0_5.index t 0 ∧ win0_4.index t 1 = 0))

/-- Every block of the result is some point's. -/
theorem idx_onto : ∀ (a : Fin 17) (b : Fin 2), ∃ t : Fin cfg0.N, win0_5.index t 0 = a.val ∧ win0_5.index t 1 = b.val :=
  (by decide +kernel : ∀ (a : Fin 17) (b : Fin 2), ∃ t : Fin grid0.N, win0_5.index t 0 = a.val ∧ win0_5.index t 1 = b.val)

/-- The body's product of two blocks, at an index. -/
theorem pay2_apply (x0 : FVec Ideal S512x4096 .bf16) (x1 : FVec Ideal S4096x512 .bf16) (r : Fin 512) (s : Fin 512) :
    k0_pay2 (F := Ideal) x0 x1 (ix2 r s) = ∑ k : Fin 4096, x0 (ix2 r k) * x1 (ix2 k s) := by
  unfold k0_pay2
  rw [shapeCast_self]
  refine (Ideal.matmul_plain_apply none x0 x1 _ r s).trans ?_
  rw [constant_apply, Ideal.ofBits_zero_f32, zero_add]

/-- A cast to the same shape changes nothing. -/
theorem pay3_eq (x : FVec Ideal S1x128 .f32) : k0_pay3 (F := Ideal) x = x := by unfold k0_pay3; rw [shapeCast_self]

/-- A cast to the same shape changes nothing. -/
theorem pay4_eq (x : FVec Ideal S512x128 .f32) : k0_pay4 (F := Ideal) x = x := by unfold k0_pay4; rw [shapeCast_self]

/-- A cast to the same shape changes nothing. -/
theorem pay5_eq (x : FVec Ideal S512x128 .f32) : k0_pay5 (F := Ideal) x = x := by unfold k0_pay5; rw [shapeCast_self]

/-- What the body leaves in the result's buffer: the block, head by head. -/
theorem out_eq (x0 : Vec Ideal S512x4096 .bf16) (x1 : Vec Ideal S4096x512 .bf16) (x2 : Vec Ideal S1x128 .f32)
    (x3 : Vec Ideal S512x128 .f32) (x4 : Vec Ideal S512x128 .f32) :
    out0_5 (F := Ideal) x0 x1 x2 x3 x4 = blockVal (k0_pay2 (F := Ideal) x0 x1) x2 x3 x4 sc := by
  funext y
  unfold out0_5
  refine View.canon_apply_of_pieces _ _ (fun p hp j => ?_) y (cover0_5 _ _ _ _ y)
  unfold k0_pay15 k0_pay16 k0_pay17 k0_pay14 at hp
  rw [View.ld_unit_zero hz, View.ld_unit_zero hz, View.ld_unit_zero hz, View.ld_unit_zero hz, View.ld_unit_zero hz, pay3_eq, pay4_eq, pay5_eq] at hp
  simp only [List.mem_cons, List.mem_nil_iff, or_false] at hp
  rcases hp with rfl | rfl | rfl | rfl
  · exact head_block (k0_pay2 (F := Ideal) x0 x1) x2 x3 x4 sc 3 slices_S512x512_o0_384_S512x128 reduces_S512x128_S512 shapeCasts_S512_S512x1
      broadcasts_S512x1_S512x128 broadcasts_S1x128_S512x128 rotates_S512x128_d1 bitsLt_bf16_f32 inb_S512x512_S512x128_0_384 j
  · exact head_block (k0_pay2 (F := Ideal) x0 x1) x2 x3 x4 sc 2 slices_S512x512_o0_256_S512x128 reduces_S512x128_S512 shapeCasts_S512_S512x1
      broadcasts_S512x1_S512x128 broadcasts_S1x128_S512x128 rotates_S512x128_d1 bitsLt_bf16_f32 inb_S512x512_S512x128_0_256 j
  · exact head_block (k0_pay2 (F := Ideal) x0 x1) x2 x3 x4 sc 1 slices_S512x512_o0_128_S512x128 reduces_S512x128_S512 shapeCasts_S512_S512x1
      broadcasts_S512x1_S512x128 broadcasts_S1x128_S512x128 rotates_S512x128_d1 bitsLt_bf16_f32 inb_S512x512_S512x128_0_128 j
  · dsimp only at j ⊢
    unfold k0_pay6
    rw [pay3_eq, pay4_eq, pay5_eq]
    exact head_block (k0_pay2 (F := Ideal) x0 x1) x2 x3 x4 sc 0 slices_S512x512_o0_0_S512x128 reduces_S512x128_S512 shapeCasts_S512_S512x1
      broadcasts_S512x1_S512x128 broadcasts_S1x128_S512x128 rotates_S512x128_d1 bitsLt_bf16_f32 inb_S512x512_S512x128_0_0 j

/-- What point `t` writes back is block `t` of `G`. -/
theorem flushed_eq (c : Dev nD) (t : Fin cfg0.N) :
    (dats m 0 c).flushed 5 t = (win0_5.blk t).view.read (Elt Ideal)
      (G (m ((c : Thread nD τ).loc main_arg0)) (m ((c : Thread nD τ).loc main_arg1)) (m ((c : Thread nD τ).loc main_arg2))) := by
  show (cfg0.win 5).cut (grid0.coords t) ((dats m 0 c).after 5 t) = _
  rw [after0_5, out_eq]
  funext y
  obtain ⟨r, s, rfl⟩ : ∃ (r : Fin 512) (s : Fin 512), y = ix2 r s := ⟨y 0, y 1, eq_ix2 y⟩
  show blockVal (k0_pay2 (F := Ideal) (iblk m c 0 t) (iblk m c 1 t)) (iblk m c 2 t) (iblk m c 3 t) (iblk m c 4 t) sc (ix2 r s)
    = G (m ((c : Thread nD τ).loc main_arg0)) (m ((c : Thread nD τ).loc main_arg1)) (m ((c : Thread nD τ).loc main_arg2))
      ((win0_5.rect t).emb (ix2 r s))
  obtain ⟨e1, e2, ⟨e3, e4⟩, ⟨e5, e6⟩, ⟨e7, e8⟩, e9, e10⟩ := idx_h t
  have hr := r.isLt
  have hs := s.isLt
  have o0 : ((win0_5.rect t).emb (ix2 r s) 0).val = win0_5.index t 0 * 512 + r.val := win0_5.rect_emb_val t (ix2 r s) 0
  have o1 : ((win0_5.rect t).emb (ix2 r s) 1).val = win0_5.index t 1 * 512 + s.val := win0_5.rect_emb_val t (ix2 r s) 1
  generalize (win0_5.rect t).emb (ix2 r s) = i at o0 o1 ⊢
  have hi0 : (i 0).val < 8704 := (i 0).isLt
  have hi1 : (i 1).val < 1024 := (i 1).isLt
  have hh (k : Fin 4096) : iblk m c 0 t (ix2 r k) = m ((c : Thread nD τ).loc main_arg0) (ix2 ⟨(i 0).val, by omega⟩ k) := by
    show V m c main_arg0 ((win0_0.rect t).emb (ix2 r k)) = _
    rw [V_main_arg0]
    have a0 := win0_0.rect_emb_val t (ix2 r k) 0
    have a1 := win0_0.rect_emb_val t (ix2 r k) 1
    refine congrArg _ (Shape.idx_ext₂ ?_ ?_)
    · rw [a0, e1]; exact o0.symm
    · rw [a1, e2]; exact (Nat.zero_add _)
  have hw (k : Fin 4096) (e : Fin 512) : iblk m c 1 t (ix2 k e)
      = m ((c : Thread nD τ).loc main_arg1) (ix2 k ⟨4096 + (win0_5.index t 1 * 512 + e.val), by have := e.isLt; omega⟩) := by
    show V m c main_v41 ((win0_1.rect t).emb (ix2 k e)) = _
    rw [V_w]
    have b0 := win0_1.rect_emb_val t (ix2 k e) 0
    have b1 := win0_1.rect_emb_val t (ix2 k e) 1
    refine congrArg (m ((c : Thread nD τ).loc main_arg1)) (Shape.idx_ext₂ ?_ ?_)
    · rw [b0, e3]; exact (Nat.zero_add _)
    · rw [b1, e4]
      show (win0_5.index t 1 + 8) * 512 + e.val = 4096 + (win0_5.index t 1 * 512 + e.val)
      omega
  have hnw (e : Fin 128) : iblk m c 2 t (ix2 0 e) = m ((c : Thread nD τ).loc main_arg2) (ix1 e) := by
    show V m c main_v42 ((win0_2.rect t).emb (ix2 0 e)) = _
    rw [V_nw]
    have b0 := win0_2.rect_emb_val t (ix2 0 e) 0
    have b1 := win0_2.rect_emb_val t (ix2 0 e) 1
    have eb : (win0_2.rect t).emb (ix2 0 e) = ix2 (0 : Fin 1) e := Shape.idx_ext₂ (by rw [b0, e5]; rfl) (by rw [b1, e6]; exact Nat.zero_add _)
    rw [eb]
    exact shapeCast_apply _ _ _ _ (by
      rw [Shape.rowMajor_val_two]
      refine (Shape.rowMajor_val_one (d := ![128]) (ix1 e)).trans ?_
      show e.val = 0 * 128 + e.val
      omega)
  have hcs (d : Fin 128) : iblk m c 3 t (ix2 r d) = entry cosT cosT 1 (i 0).val d := by
    show V m c main_v38 ((win0_3.rect t).emb (ix2 r d)) = _
    rw [V_cos]
    have b0 := win0_3.rect_emb_val t (ix2 r d) 0
    have b1 := win0_3.rect_emb_val t (ix2 r d) 1
    have eb : (win0_3.rect t).emb (ix2 r d) = ix2 (⟨(i 0).val, by omega⟩ : Fin 8704) d :=
      Shape.idx_ext₂ (by rw [b0, e7]; exact o0.symm) (by rw [b1, e8]; exact Nat.zero_add _)
    rw [eb, table_apply, constant_apply, Ideal.ofBits_one_f32]
  have hsn (d : Fin 128) : iblk m c 4 t (ix2 r d) = entry (fun i => -sinT i) sinT 0 (i 0).val d := by
    show V m c main_v40 ((win0_4.rect t).emb (ix2 r d)) = _
    rw [V_sin]
    have b0 := win0_4.rect_emb_val t (ix2 r d) 0
    have b1 := win0_4.rect_emb_val t (ix2 r d) 1
    have eb : (win0_4.rect t).emb (ix2 r d) = ix2 (⟨(i 0).val, by omega⟩ : Fin 8704) d :=
      Shape.idx_ext₂ (by rw [b0, e9]; exact o0.symm) (by rw [b1, e10]; exact Nat.zero_add _)
    rw [eb, table_apply, constant_apply, Ideal.ofBits_zero_f32]
  have hn : headNorm (fun e => k0_pay2 (F := Ideal) (iblk m c 0 t) (iblk m c 1 t) (ix2 r ⟨s.val / 128 * 128 + e.val, by omega⟩)) (fun e => iblk m c 2 t (ix2 0 e))
      = headOf (m ((c : Thread nD τ).loc main_arg0)) (m ((c : Thread nD τ).loc main_arg1)) (m ((c : Thread nD τ).loc main_arg2))
        ⟨(i 0).val, by omega⟩ ⟨(i 1).val / 128, by omega⟩ := by
    unfold headOf
    refine congrArg₂ headNorm (funext fun e => ?_) (funext hnw)
    rw [pay2_apply]
    unfold acc
    refine Finset.sum_congr rfl fun k _ => congrArg₂ (· * ·) (hh k) ((hw k _).trans ?_)
    refine congrArg (m ((c : Thread nD τ).loc main_arg1)) (Shape.idx_ext₂ rfl ?_)
    show 4096 + (win0_5.index t 1 * 512 + (s.val / 128 * 128 + e.val)) = 4096 + ((i 1).val / 128 * 128 + e.val)
    omega
  have ed : (⟨s.val % 128, by omega⟩ : Fin 128) = ⟨(i 1).val % 128, by omega⟩ := Fin.ext (by show s.val % 128 = (i 1).val % 128; omega)
  show (headNorm (fun e => k0_pay2 (F := Ideal) (iblk m c 0 t) (iblk m c 1 t) (ix2 r ⟨s.val / 128 * 128 + e.val, by omega⟩)) (fun e => iblk m c 2 t (ix2 0 e)) ⟨s.val % 128, by omega⟩
      * iblk m c 3 t (ix2 r ⟨s.val % 128, by omega⟩)
    + headNorm (fun e => k0_pay2 (F := Ideal) (iblk m c 0 t) (iblk m c 1 t) (ix2 r ⟨s.val / 128 * 128 + e.val, by omega⟩)) (fun e => iblk m c 2 t (ix2 0 e)) (rot ⟨s.val % 128, by omega⟩)
      * iblk m c 4 t (ix2 r ⟨s.val % 128, by omega⟩)) * sc = _
  rw [hn, hcs, hsn, ed]
  exact G_at _ _ _ i

/-- The result's blocks tile its array. -/
theorem cover (i : S8704x1024.Idx) :
    ∃ t : Fin cfg0.N, (cfg0.win 5).flush t = true ∧ i ∈ ((cfg0.win 5).blk t).view.set := by
  have h0 : (i 0 : Nat) < 8704 := (i 0).isLt
  have h1 : (i 1 : Nat) < 1024 := (i 1).isLt
  obtain ⟨t, ha, hb⟩ := idx_onto ⟨(i 0 : Nat) / 512, by omega⟩ ⟨(i 1 : Nat) / 512, by omega⟩
  refine ⟨t, flush0_5 t, ?_⟩
  show i ∈ ((View.whole main_v43).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [ha]; dsimp only; omega
  | ⟨1, _⟩ =>
    show win0_5.index t 1 * 512 ≤ (i 1 : Nat) ∧ (i 1 : Nat) < win0_5.index t 1 * 512 + 512
    rw [hb]; dsimp only; omega

/-- So the result array ends holding `G` of the arguments. -/
theorem final (c : Dev nD) : (dats m 0 c).arrAt 5 cfg0.N
    = G (m ((c : Thread nD τ).loc main_arg0)) (m ((c : Thread nD τ).loc main_arg1)) (m ((c : Thread nD τ).loc main_arg2)) :=
  (dats m 0 c).arrAt_eq_of_cover 5 _ (fun t _ => flushed_eq m c t) cover

end Kernel

open Cert.ProjKRefIdeal.Read in
/-- The reference's products. -/
theorem ref_x (h : S8704x4096.Idx → EReal) (w : S4096x6144.Idx → EReal) (r : Fin 8704) (g : Fin 8) (e : Fin 128) :
    val_main_v3 (F := Ideal) h w (ix3 r g e) = acc h w r ⟨g.val * 128 + e.val, by omega⟩ := by
  have hr := r.isLt
  have he := e.isLt
  have hg := g.isLt
  rw [val_main_v3_apply, val_main_v2_apply]
  unfold acc
  refine Finset.sum_congr rfl fun k _ => congrArg₂ (· * ·) ?_ ?_
  · rw [val_main_v0_apply, Ideal.extf_def]
    refine congrArg h (Shape.idx_ext₂ ?_ rfl)
    show ((r.val * 8 + g.val) * 128 + e.val) / 1024 = r.val
    omega
  · rw [val_main_v1_apply]
    refine congrArg w (Shape.idx_ext₂ rfl ?_)
    show 4096 + ((r.val * 8 + g.val) * 128 + e.val) % 1024 = 4096 + (g.val * 128 + e.val)
    omega

open Cert.ProjKRefIdeal.Read in
/-- The reference's normalised heads. -/
theorem ref_norm (h : S8704x4096.Idx → EReal) (w : S4096x6144.Idx → EReal) (nw : S128.Idx → EReal) (r : Fin 8704) (g : Fin 8) (d : Fin 128) :
    val_main_v16 (F := Ideal) h w nw (ix3 r g d) = headOf h w nw r g d := by
  have e1 (k : Fin 128) : idx_main_v5 (idx_main_v6 (idx_main_v12 (ix3 r g d))) k = ix3 r g k := by
    funext a
    match a with
    | ⟨0, _⟩ => rfl
    | ⟨1, _⟩ => rfl
    | ⟨2, _⟩ => rfl
  have e2 : val_main_cst (F := Ideal) (Shape.Idx.first Cert.ProjKRefIdeal.Facts₀.h_S_) = (0 : EReal) := Ideal.ofBits_zero_f32
  have e3 : idx_main_v14 (idx_main_v15 (ix3 r g d)) = ix1 d := by
    funext a
    match a with
    | ⟨0, _⟩ => rfl
  rw [val_main_v16_apply, val_main_v13_apply, val_main_v15_apply, val_main_v14_apply, val_main_v12_apply, val_main_v11_apply,
    val_main_v10_apply, val_main_v8_apply, val_main_v6_apply, val_main_v5_apply, val_main_v7_apply, val_main_v9_apply, ref_x, e2, zero_add, e3]
  have e4 : (∑ k : Fin 128, val_main_v4 (F := Ideal) h w (idx_main_v5 (idx_main_v6 (idx_main_v12 (ix3 r g d))) k))
      = ∑ k : Fin 128, acc h w r ⟨g.val * 128 + k.val, by omega⟩ * acc h w r ⟨g.val * 128 + k.val, by omega⟩ :=
    Finset.sum_congr rfl fun k _ => by rw [val_main_v4_apply, e1, ref_x]; rfl
  rw [e4]
  rfl

open Cert.ProjKRefIdeal.Read in
/-- The latent rows' heads, by sample and place. -/
theorem ref_lat (h : S8704x4096.Idx → EReal) (w : S4096x6144.Idx → EReal) (nw : S128.Idx → EReal) (b : Fin 2) (p : Fin 4096) (g : Fin 8)
    (d : Fin 128) :
    val_main_v18 (F := Ideal) h w nw (ix4 b p g d) = headOf h w nw ⟨b.val * 4096 + p.val, by omega⟩ g d := by
  have hg := g.isLt
  have hd := d.isLt
  have e : idx_main_v17 (idx_main_v18 (ix4 b p g d)) = ix3 (⟨b.val * 4096 + p.val, by omega⟩ : Fin 8704) g d := by
    funext a
    match a with
    | ⟨0, _⟩ => exact Fin.ext (by show (((b.val * 4096 + p.val) * 8 + g.val) * 128 + d.val) / 1024 = b.val * 4096 + p.val; omega)
    | ⟨1, _⟩ => exact Fin.ext (by show (((b.val * 4096 + p.val) * 8 + g.val) * 128 + d.val) / 128 % 8 = g.val; omega)
    | ⟨2, _⟩ => exact Fin.ext (by show (((b.val * 4096 + p.val) * 8 + g.val) * 128 + d.val) % 128 = d.val; omega)
  rw [val_main_v18_apply, val_main_v17_apply, e, ref_norm]

open Cert.ProjKRefIdeal.Read in
/-- The reference's rotated heads of the latent rows. -/
theorem ref_rot (h : S8704x4096.Idx → EReal) (w : S4096x6144.Idx → EReal) (nw : S128.Idx → EReal) (b : Fin 2) (p : Fin 4096) (g : Fin 8)
    (d : Fin 128) :
    val_main_v61 (F := Ideal) h w nw (ix4 b p g d)
      = rotated (headOf h w nw ⟨b.val * 4096 + p.val, by omega⟩ g) cosT sinT p d := by
  have hd := d.isLt
  unfold val_main_v61 rotated
  by_cases hh : d.val < 64
  · rw [dif_pos hh]
    refine (concatenate_pair_apply_left (t := Cert.ProjKRefIdeal.S2x4096x8x128) (s₁ := Cert.ProjKRefIdeal.S2x4096x8x64)
      (s₂ := Cert.ProjKRefIdeal.S2x4096x8x64) 3 _ _ _ _ rfl (ix4 b p g ⟨d.val, hh⟩)
      (fun a => match a with | ⟨0, _⟩ => rfl | ⟨1, _⟩ => rfl | ⟨2, _⟩ => rfl | ⟨3, _⟩ => rfl)).trans ?_
    have i1 : idx_main_v49 (ix4 b p g ⟨d.val, hh⟩) = ix4 b p g d := by
      funext a
      match a with
      | ⟨0, _⟩ => rfl
      | ⟨1, _⟩ => rfl
      | ⟨2, _⟩ => rfl
      | ⟨3, _⟩ => rfl
    have i2 : idx_main_v50 (ix4 b p g ⟨d.val, hh⟩) = ix4 b p g ⟨d.val + 64, by omega⟩ := by
      funext a
      match a with
      | ⟨0, _⟩ => rfl
      | ⟨1, _⟩ => rfl
      | ⟨2, _⟩ => rfl
      | ⟨3, _⟩ => exact Fin.ext (by show 64 + d.val = d.val + 64; omega)
    have i3 : idx_main_v46 (idx_main_v51 (ix4 b p g ⟨d.val, hh⟩)) = ix2 p ⟨d.val, hh⟩ := Shape.idx_ext₂ rfl rfl
    have i4 : idx_main_v48 (idx_main_v53 (ix4 b p g ⟨d.val, hh⟩)) = ix2 p ⟨d.val, hh⟩ := Shape.idx_ext₂ rfl rfl
    rw [val_main_v55_apply, val_main_v52_apply, val_main_v54_apply, val_main_v49_apply, val_main_v50_apply, val_main_v51_apply,
      val_main_v53_apply, val_main_v46_apply, val_main_v48_apply, i1, i2, i3, i4, ref_lat, ref_lat]
    rfl
  · rw [dif_neg hh]
    refine (concatenate_pair_apply_right (t := Cert.ProjKRefIdeal.S2x4096x8x128) (s₁ := Cert.ProjKRefIdeal.S2x4096x8x64)
      (s₂ := Cert.ProjKRefIdeal.S2x4096x8x64) 3 _ _ _ _ rfl rfl (ix4 b p g ⟨d.val - 64, by omega⟩)
      (fun a ha => match a, ha with | ⟨0, _⟩, _ => rfl | ⟨1, _⟩, _ => rfl | ⟨2, _⟩, _ => rfl | ⟨3, _⟩, ha => absurd rfl ha)
      (by show d.val - 64 + 64 = d.val; omega)).trans ?_
    have i1 : idx_main_v49 (ix4 b p g ⟨d.val - 64, by omega⟩) = ix4 b p g ⟨d.val - 64, by omega⟩ := by
      funext a
      match a with
      | ⟨0, _⟩ => rfl
      | ⟨1, _⟩ => rfl
      | ⟨2, _⟩ => rfl
      | ⟨3, _⟩ => rfl
    have i2 : idx_main_v50 (ix4 b p g ⟨d.val - 64, by omega⟩) = ix4 b p g d := by
      funext a
      match a with
      | ⟨0, _⟩ => rfl
      | ⟨1, _⟩ => rfl
      | ⟨2, _⟩ => rfl
      | ⟨3, _⟩ => exact Fin.ext (by show 64 + (d.val - 64) = d.val; omega)
    have i3 : idx_main_v48 (idx_main_v56 (ix4 b p g ⟨d.val - 64, by omega⟩)) = ix2 p ⟨d.val - 64, by omega⟩ := Shape.idx_ext₂ rfl rfl
    have i4 : idx_main_v46 (idx_main_v58 (ix4 b p g ⟨d.val - 64, by omega⟩)) = ix2 p ⟨d.val - 64, by omega⟩ := Shape.idx_ext₂ rfl rfl
    rw [val_main_v60_apply, val_main_v57_apply, val_main_v59_apply, val_main_v49_apply, val_main_v50_apply, val_main_v56_apply,
      val_main_v58_apply, val_main_v46_apply, val_main_v48_apply, i1, i2, i3, i4, ref_lat, ref_lat]
    rfl

/-- The reference is `G`. -/
theorem ref_eq (h : S8704x4096.Idx → EReal) (w : S4096x6144.Idx → EReal) (nw : S128.Idx → EReal) :
    Cert.ProjKRefIdeal.Read.val_main_v66 (F := Ideal) h w nw = G h w nw := by
  funext i
  obtain ⟨r, c, rfl⟩ : ∃ (r : Fin 8704) (c : Fin 1024), i = ix2 r c := ⟨i 0, i 1, eq_ix2 i⟩
  have hr := r.isLt
  have hc := c.isLt
  rw [Cert.ProjKRefIdeal.Read.val_main_v66_apply, Ideal.truncf_def]
  show Cert.ProjKRefIdeal.Read.val_main_v65 (F := Ideal) h w nw (ix2 r c)
    = if r.val < 8192 then rotated (headOf h w nw r ⟨c.val / 128, by omega⟩) cosT sinT ⟨r.val % 4096, by omega⟩ ⟨c.val % 128, by omega⟩
      else headOf h w nw r ⟨c.val / 128, by omega⟩ ⟨c.val % 128, by omega⟩
  unfold Cert.ProjKRefIdeal.Read.val_main_v65
  by_cases hh : r.val < 8192
  · rw [if_pos hh]
    refine (concatenate_pair_apply_left (t := S8704x1024) (s₁ := Cert.ProjKRefIdeal.S8192x1024) (s₂ := Cert.ProjKRefIdeal.S512x1024) 0 _ _ _ _ rfl
      (ix2 ⟨r.val, hh⟩ c) (fun a => match a with | ⟨0, _⟩ => rfl | ⟨1, _⟩ => rfl)).trans ?_
    have e : Cert.ProjKRefIdeal.Read.idx_main_v62 (ix2 ⟨r.val, hh⟩ c) = ix4 (⟨r.val / 4096, by omega⟩ : Fin 2) (⟨r.val % 4096, by omega⟩ : Fin 4096)
        (⟨c.val / 128, by omega⟩ : Fin 8) (⟨c.val % 128, by omega⟩ : Fin 128) := by
      funext a
      match a with
      | ⟨0, _⟩ => exact Fin.ext (by show (r.val * 1024 + c.val) / 4194304 = r.val / 4096; omega)
      | ⟨1, _⟩ => exact Fin.ext (by show (r.val * 1024 + c.val) / 1024 % 4096 = r.val % 4096; omega)
      | ⟨2, _⟩ => exact Fin.ext (by show (r.val * 1024 + c.val) / 128 % 8 = c.val / 128; omega)
      | ⟨3, _⟩ => exact Fin.ext (by show (r.val * 1024 + c.val) % 128 = c.val % 128; omega)
    have er : (⟨r.val / 4096 * 4096 + r.val % 4096, by omega⟩ : Fin 8704) = r := Fin.ext (by show r.val / 4096 * 4096 + r.val % 4096 = r.val; omega)
    rw [Cert.ProjKRefIdeal.Read.val_main_v62_apply, e, ref_rot, er]
  · rw [if_neg hh]
    refine (concatenate_pair_apply_right (t := S8704x1024) (s₁ := Cert.ProjKRefIdeal.S8192x1024) (s₂ := Cert.ProjKRefIdeal.S512x1024) 0 _ _ _ _ rfl rfl
      (ix2 ⟨r.val - 8192, by omega⟩ c) (fun a ha => match a, ha with | ⟨0, _⟩, ha => absurd rfl ha | ⟨1, _⟩, _ => rfl)
      (by show r.val - 8192 + 8192 = r.val; omega)).trans ?_
    have e : Cert.ProjKRefIdeal.Read.idx_main_v63 (Cert.ProjKRefIdeal.Read.idx_main_v64 (ix2 ⟨r.val - 8192, by omega⟩ c))
        = ix3 r (⟨c.val / 128, by omega⟩ : Fin 8) (⟨c.val % 128, by omega⟩ : Fin 128) := by
      funext a
      match a with
      | ⟨0, _⟩ => exact Fin.ext (by show 8192 + ((r.val - 8192) * 1024 + c.val) / 1024 = r.val; omega)
      | ⟨1, _⟩ => exact Fin.ext (by show ((r.val - 8192) * 1024 + c.val) / 128 % 8 = c.val / 128; omega)
      | ⟨2, _⟩ => exact Fin.ext (by show ((r.val - 8192) * 1024 + c.val) % 128 = c.val % 128; omega)
    rw [Cert.ProjKRefIdeal.Read.val_main_v64_apply, Cert.ProjKRefIdeal.Read.val_main_v63_apply, e, ref_norm]

/-- The reference's frame. -/
theorem frame_ref : Cert.quiescent_ProjKRefIdeal := fun m ρ _ =>
  (θ_run Cert.ProjKRefIdeal.defs _ _).mono (fun r h => ⟨fun c => (h c).2,
      sem_eq_zero_of_no_sems (by decide) r.2⟩)
    (Cert.ProjKRefIdeal.Value.run (F := Ideal) m ρ)

/-- The kernel's result is the reference's. -/
theorem algebraic : Cert.algebraic_ProjKIdeal_ProjKRefIdeal := by
  intro m ρ m' ρ' _ hagree
  refine ⟨fun c => G (m ((c : Thread nD τ).loc main_arg0)) (m ((c : Thread nD τ).loc main_arg1)) (m ((c : Thread nD τ).loc main_arg2)), ?_, ?_⟩
  · exact (θ_run Cert.ProjKIdeal.defs _ _).mono (fun r h c => ⟨((h c).1).trans (final m c), (h c).2⟩)
      (Cert.ProjKIdeal.Value.run_blocks (F := Ideal) m ρ)
  · refine (θ_run Cert.ProjKRefIdeal.defs _ _).mono (fun r h c => ⟨(h c).1.trans ?_, (h c).2⟩)
      (Cert.ProjKRefIdeal.Value.run (F := Ideal) m' ρ')
    rw [Cert.ProjKRefIdeal.Read.val_main_v66_eq, ref_eq, (hagree c).1, (hagree c).2.1, (hagree c).2.2]

end Cert.Proof.ProjK

end
-- ==== Proof.ProjV.lean ====
/-
  The value projection: the kernel's result array and the reference's are one function of the arguments.
-/
module

public import proofs.«01_k».proof.Defs
public import proofs.«01_k».proof.Proof.Gen.ProjVIdeal.Value
public import proofs.«01_k».proof.Proof.Gen.ProjVRefIdeal.Run
public import proofs.«01_k».proof.Proof.Gen.ProjVRefIdeal.Read
public import Idealize.ShloMosaic.Lib.Pipeline.Value
public import Idealize.ShloMosaic.Lib.MatmulPlain
public import Idealize.ShloMosaic.Lib.ValueIdx

@[expose] public section

set_option maxRecDepth 16384

noncomputable section

namespace Cert.Proof.ProjV

open Cert.ProjVIdeal Cert.ProjVIdeal.Gen Idealize.ShloMosaic Idealize.ShloMosaic.TcCoe Idealize.SL.Sem
open Idealize.ShloMosaic.Pipeline (Dat)
open Idealize.ShloMosaic.ValueIdx
open scoped BigOperators

/-- The result at row `i 0`, column `i 1`: the row of `h` times column `5120 + i 1` of the packed weights. -/
def G (h : S8704x4096.Idx → EReal) (w : S4096x6144.Idx → EReal) : S8704x1024.Idx → EReal := fun i =>
  ∑ k : Fin 4096, h (ix2 (i 0) k) * w (ix2 k ⟨5120 + (i 1).val, by have h1 : (i 1).val < 1024 := (i 1).isLt; omega⟩)

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl

/-- The cast weights, as the region finds them. -/
theorem V_w (c : Dev nD) : V m c main_v0 = truncf (F := Ideal) .bf16 (m ((c : Thread nD τ).loc main_arg1)) bitsLt_bf16_f32 := by
  unfold V
  after_results

/-- Block indices of the three windows, point by point. -/
theorem idx_h : ∀ t : Fin cfg0.N, win0_0.index t 0 = win0_2.index t 0 ∧ win0_0.index t 1 = 0
    ∧ win0_1.index t 0 = 0 ∧ win0_1.index t 1 = win0_2.index t 1 + 10 :=
  (by decide +kernel : ∀ t : Fin grid0.N, win0_0.index t 0 = win0_2.index t 0 ∧ win0_0.index t 1 = 0
    ∧ win0_1.index t 0 = 0 ∧ win0_1.index t 1 = win0_2.index t 1 + 10)

/-- Every block of the result is some point's. -/
theorem idx_onto : ∀ (a : Fin 17) (b : Fin 2), ∃ t : Fin cfg0.N, win0_2.index t 0 = a.val ∧ win0_2.index t 1 = b.val :=
  (by decide +kernel : ∀ (a : Fin 17) (b : Fin 2), ∃ t : Fin grid0.N, win0_2.index t 0 = a.val ∧ win0_2.index t 1 = b.val)

/-- The body's product of two blocks, at an index. -/
theorem pay_apply (x0 : FVec Ideal S512x4096 .bf16) (x1 : FVec Ideal S4096x512 .bf16) (r : Fin 512) (s : Fin 512) :
    k0_pay1 (F := Ideal) x0 x1 (ix2 r s) = ∑ k : Fin 4096, x0 (ix2 r k) * x1 (ix2 k s) := by
  unfold k0_pay1
  rw [truncf_apply, shapeCast_self]
  refine (Ideal.matmul_plain_apply none x0 x1 _ r s).trans ?_
  rw [constant_apply, Ideal.ofBits_zero_f32, zero_add]

/-- What point `t` writes back is block `t` of `G`. -/
theorem flushed_eq (c : Dev nD) (t : Fin cfg0.N) :
    (dats m 0 c).flushed 2 t = (win0_2.blk t).view.read (Elt Ideal)
      (G (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz, View.ld_unit_zero hz, View.ld_unit_zero hz]
  funext y
  obtain ⟨r, s, rfl⟩ : ∃ (r : Fin 512) (s : Fin 512), y = ix2 r s := ⟨y 0, y 1, eq_ix2 y⟩
  refine (pay_apply (iblk m c 0 t) (iblk m c 1 t) r s).trans ?_
  show _ = G (m ((c : Thread nD τ).loc main_arg0)) (m ((c : Thread nD τ).loc main_arg1)) ((win0_2.rect t).emb (ix2 r s))
  obtain ⟨e1, e2, e3, e4⟩ := idx_h t
  have o0 := win0_2.rect_emb_val t (ix2 r s) 0
  have o1 := win0_2.rect_emb_val t (ix2 r s) 1
  unfold G
  refine Finset.sum_congr rfl fun k _ => congrArg₂ (· * ·) ?_ ?_
  · show V m c main_arg0 ((win0_0.rect t).emb (ix2 r k)) = _
    rw [V_main_arg0]
    have a0 := win0_0.rect_emb_val t (ix2 r k) 0
    have a1 := win0_0.rect_emb_val t (ix2 r k) 1
    refine congrArg _ (Shape.idx_ext₂ ?_ ?_)
    · rw [a0, e1]; exact o0.symm
    · rw [a1, e2]; exact (Nat.zero_add _)
  · show V m c main_v0 ((win0_1.rect t).emb (ix2 k s)) = _
    rw [V_w]
    have b0 := win0_1.rect_emb_val t (ix2 k s) 0
    have b1 := win0_1.rect_emb_val t (ix2 k s) 1
    refine congrArg (m ((c : Thread nD τ).loc main_arg1)) (Shape.idx_ext₂ ?_ ?_)
    · rw [b0, e3]; exact (Nat.zero_add _)
    · rw [b1, e4]
      show (win0_2.index t 1 + 10) * 512 + s.val = 5120 + ((win0_2.rect t).emb (ix2 r s) 1).val
      rw [o1]
      show (win0_2.index t 1 + 10) * 512 + s.val = 5120 + (win0_2.index t 1 * 512 + s.val)
      omega

/-- The result's blocks tile its array. -/
theorem cover (i : S8704x1024.Idx) :
    ∃ t : Fin cfg0.N, (cfg0.win 2).flush t = true ∧ i ∈ ((cfg0.win 2).blk t).view.set := by
  have h0 : (i 0 : Nat) < 8704 := (i 0).isLt
  have h1 : (i 1 : Nat) < 1024 := (i 1).isLt
  obtain ⟨t, ha, hb⟩ := idx_onto ⟨(i 0 : Nat) / 512, by omega⟩ ⟨(i 1 : Nat) / 512, by omega⟩
  refine ⟨t, flush0_2 t, ?_⟩
  show i ∈ ((View.whole main_v1).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [ha]; dsimp only; omega
  | ⟨1, _⟩ =>
    show win0_2.index t 1 * 512 ≤ (i 1 : Nat) ∧ (i 1 : Nat) < win0_2.index t 1 * 512 + 512
    rw [hb]; dsimp only; omega

/-- So the result array ends holding `G` of the two arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

end Kernel

/-- The reference's product, read at an index, is `G`. -/
theorem ref_eq (h : S8704x4096.Idx → EReal) (w : S4096x6144.Idx → EReal) :
    Cert.ProjVRefIdeal.Read.val_main_v3 (F := Ideal) h w = G h w := by
  funext i
  rw [Cert.ProjVRefIdeal.Read.val_main_v3_apply, Ideal.truncf_def, Cert.ProjVRefIdeal.Read.val_main_v2_apply]
  unfold G
  refine Finset.sum_congr rfl fun k _ => congrArg₂ (· * ·) ?_ ?_
  · rw [Cert.ProjVRefIdeal.Read.val_main_v0_apply]
    exact congrArg h (Shape.idx_ext₂ rfl rfl)
  · rw [Cert.ProjVRefIdeal.Read.val_main_v1_apply]
    exact congrArg w (Shape.idx_ext₂ rfl rfl)

/-- The reference's frame. -/
theorem frame_ref : Cert.quiescent_ProjVRefIdeal := fun m ρ _ =>
  (θ_run Cert.ProjVRefIdeal.defs _ _).mono (fun r h => ⟨fun c => (h c).2,
      sem_eq_zero_of_no_sems (by decide) r.2⟩)
    (Cert.ProjVRefIdeal.Value.run (F := Ideal) m ρ)

/-- The kernel's result is the reference's. -/
theorem algebraic : Cert.algebraic_ProjVIdeal_ProjVRefIdeal := by
  intro m ρ m' ρ' _ hagree
  refine ⟨fun c => G (m ((c : Thread nD τ).loc main_arg0)) (m ((c : Thread nD τ).loc main_arg1)), ?_, ?_⟩
  · exact (θ_run Cert.ProjVIdeal.defs _ _).mono (fun r h c => ⟨((h c).1).trans (final m c), (h c).2⟩)
      (Cert.ProjVIdeal.Value.run_blocks (F := Ideal) m ρ)
  · refine (θ_run Cert.ProjVRefIdeal.defs _ _).mono (fun r h c => ⟨(h c).1.trans ?_, (h c).2⟩)
      (Cert.ProjVRefIdeal.Value.run (F := Ideal) m' ρ')
    rw [Cert.ProjVRefIdeal.Read.val_main_v3_eq, ref_eq, (hagree c).1, (hagree c).2]

end Cert.Proof.ProjV

end
-- ==== Proof.MoeIdealRun.lean ====
/-
  The experts' layer over the extended reals: one step of its body in each of the four cases a step can be in.
-/
module

public import proofs.«01_k».proof.Defs
public import proofs.«01_k».proof.Proof.Gen.MoeIdeal
public import proofs.«01_k».proof.Proof.Gen.MoeIdeal.Launch
public import proofs.«01_k».proof.Proof.Gen.MoeIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.PureOps.Ideal

@[expose] public section

set_option maxRecDepth 16384
set_option Elab.async false

noncomputable section

namespace Cert.Proof.MoeI

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables, whole: the blocks' experts, and the number of used blocks. -/
abbrev tbM0_0 : Memref sig .tc .smem S84 .i32 := Memref.whole main_arg0
/-- The number of used blocks, whole. -/
abbrev tbM0_1 : Memref sig .tc .smem S1 .i32 := Memref.whole main_arg1

/-- The number of used blocks, as the body loads it. -/
abbrev word (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

/-- One staging buffer of the output, through which contents are stated. -/
abbrev VO : View sig .tc .vmem S256x4096 .f32 := (Memref.whole cc0_stg4_0 : Memref sig .tc .vmem S256x4096 .f32).view

variable (c : Dev nD) (i : grid0.Coords) (arg4 : Memref sig .tc .vmem S256x4096 .bf16) (harg4 : arg4.IsWhole)
  (arg5 : Memref sig .tc .vmem S1x4096x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S256x4096 .f32) (harg8 : arg8.IsWhole)
  (T0 : S84.Idx → Elt Ideal .i32) (T1 : S1.Idx → Elt Ideal .i32) (x0 : S256x4096.Idx → Elt Ideal .bf16) (x1 : S1x4096x512.Idx → Elt Ideal .bf16)
  (x2 : S1x4096x512.Idx → Elt Ideal .bf16) (x3 : S1x512x4096.Idx → Elt Ideal .bf16) (xo4 : S256x4096.Idx → Elt Ideal .f32)

set_option backward.proofsInPublic true in
set_option maxHeartbeats 8000000 in
/-- A used block, first half of the hidden columns: the body stores its product. -/
noncomputable def runA (k0_h1 : k0_cond1 i (word T1) = 1#1) (k0_h2 : k0_cond2 i = 1#1) (k0_h3 : ¬(k0_cond3 i = 1#1)) (k0_h4 : ¬(k0_cond4 i (word T1) = 1#1)) :
    { out0 : List (View.Piece (Elt Ideal) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = k0_cond2 _ = _; exact k0_h2) | (guard_target = ¬(k0_cond3 _ = _); exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverA (k0_h1 : k0_cond1 i (word T1) = 1#1) (k0_h2 : k0_cond2 i = 1#1) (k0_h3 : ¬(k0_cond3 i = 1#1)) (k0_h4 : ¬(k0_cond4 i (word T1) = 1#1)) (y : S256x4096.Idx) :
    ∃ pc ∈ (runA c i arg4 harg4 arg5 harg5 arg6 harg6 arg7 harg7 arg8 harg8 T0 T1 x0 x1 x2 x3 k0_h1 k0_h2 k0_h3 k0_h4).1, y ∈ pc.1.set :=
  View.cover_of_tiledL (runA c i arg4 harg4 arg5 harg5 arg6 harg6 arg7 harg7 arg8 harg8 T0 T1 x0 x1 x2 x3 k0_h1 k0_h2 k0_h3 k0_h4).1 S256x4096.size (by sl_kernel_rfl) y

/-- What this case leaves in the output's block. -/
noncomputable def leftA (k0_h1 : k0_cond1 i (word T1) = 1#1) (k0_h2 : k0_cond2 i = 1#1) (k0_h3 : ¬(k0_cond3 i = 1#1)) (k0_h4 : ¬(k0_cond4 i (word T1) = 1#1)) : S256x4096.Idx → Elt Ideal .f32 :=
  VO.read (Elt Ideal) (VO.writes (Elt Ideal) VO.junk (runA c i arg4 harg4 arg5 harg5 arg6 harg6 arg7 harg7 arg8 harg8 T0 T1 x0 x1 x2 x3 k0_h1 k0_h2 k0_h3 k0_h4).1)

set_option backward.proofsInPublic true in
set_option maxHeartbeats 8000000 in
/-- A used block, second half: the body adds its product to what the block holds. -/
noncomputable def runB (k0_h1 : k0_cond1 i (word T1) = 1#1) (k0_h2 : ¬(k0_cond2 i = 1#1)) (k0_h3 : k0_cond3 i = 1#1) (k0_h4 : ¬(k0_cond4 i (word T1) = 1#1)) :
    { out0 : List (View.Piece (Elt Ideal) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare xo4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverB (k0_h1 : k0_cond1 i (word T1) = 1#1) (k0_h2 : ¬(k0_cond2 i = 1#1)) (k0_h3 : k0_cond3 i = 1#1) (k0_h4 : ¬(k0_cond4 i (word T1) = 1#1)) (y : S256x4096.Idx) :
    ∃ pc ∈ (runB c i arg4 harg4 arg5 harg5 arg6 harg6 arg7 harg7 arg8 harg8 T0 T1 x0 x1 x2 x3 xo4 k0_h1 k0_h2 k0_h3 k0_h4).1, y ∈ pc.1.set :=
  View.cover_of_tiledL (runB c i arg4 harg4 arg5 harg5 arg6 harg6 arg7 harg7 arg8 harg8 T0 T1 x0 x1 x2 x3 xo4 k0_h1 k0_h2 k0_h3 k0_h4).1 S256x4096.size (by sl_kernel_rfl) y

/-- What this case leaves in the output's block. -/
noncomputable def leftB (k0_h1 : k0_cond1 i (word T1) = 1#1) (k0_h2 : ¬(k0_cond2 i = 1#1)) (k0_h3 : k0_cond3 i = 1#1) (k0_h4 : ¬(k0_cond4 i (word T1) = 1#1)) : S256x4096.Idx → Elt Ideal .f32 :=
  VO.read (Elt Ideal) (VO.writes (Elt Ideal) VO.junk (runB c i arg4 harg4 arg5 harg5 arg6 harg6 arg7 harg7 arg8 harg8 T0 T1 x0 x1 x2 x3 xo4 k0_h1 k0_h2 k0_h3 k0_h4).1)

set_option backward.proofsInPublic true in
set_option maxHeartbeats 8000000 in
/-- An unused block, first step: the body stores zeros. -/
noncomputable def runC (k0_h1 : ¬(k0_cond1 i (word T1) = 1#1)) (k0_h4 : k0_cond4 i (word T1) = 1#1) :
    { out0 : List (View.Piece (Elt Ideal) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond4 _ _ = _; exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverC (k0_h1 : ¬(k0_cond1 i (word T1) = 1#1)) (k0_h4 : k0_cond4 i (word T1) = 1#1) (y : S256x4096.Idx) :
    ∃ pc ∈ (runC c i arg4 harg4 arg5 harg5 arg6 harg6 arg7 harg7 arg8 harg8 T0 T1 x0 x1 x2 x3 k0_h1 k0_h4).1, y ∈ pc.1.set :=
  View.cover_of_tiledL (runC c i arg4 harg4 arg5 harg5 arg6 harg6 arg7 harg7 arg8 harg8 T0 T1 x0 x1 x2 x3 k0_h1 k0_h4).1 S256x4096.size (by sl_kernel_rfl) y

/-- What this case leaves in the output's block. -/
noncomputable def leftC (k0_h1 : ¬(k0_cond1 i (word T1) = 1#1)) (k0_h4 : k0_cond4 i (word T1) = 1#1) : S256x4096.Idx → Elt Ideal .f32 :=
  VO.read (Elt Ideal) (VO.writes (Elt Ideal) VO.junk (runC c i arg4 harg4 arg5 harg5 arg6 harg6 arg7 harg7 arg8 harg8 T0 T1 x0 x1 x2 x3 k0_h1 k0_h4).1)

set_option backward.proofsInPublic true in
set_option maxHeartbeats 8000000 in
/-- An unused block, second step: the body does nothing. -/
theorem runD (k0_h1 : ¬(k0_cond1 i (word T1) = 1#1)) (k0_h4 : ¬(k0_cond4 i (word T1) = 1#1)) (y4 : S256x4096.Idx → Elt Ideal .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4) -∗ K ⟨⟩))
          ⊢ wp frame (wpE (defs₀ (F := Ideal)) Variants.none c none) Set.univ (cc0_moe_ffn i tbM0_0 (Memref.isWhole_whole _) tbM0_1 (Memref.isWhole_whole _) arg4 harg4 arg5 harg5 arg6 harg6 arg7 harg7 arg8 harg8) K := by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = ¬(k0_cond1 _ _ = _); exact k0_h1) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; · ipureintro; exact harg8.read_unread _
    iexact HO4

end Cert.Proof.MoeI

end
-- ==== Proof.MoeIdealFrame.lean ====
/-
  The experts' layer over the extended reals: the kernel runs to its end from any tables that name only the sixteen experts.
-/
module

public import proofs.«01_k».proof.Proof.MoeIdealRun
public import Idealize.ShloMosaic.Lib.Pipeline.Quiescent
public import Idealize.ShloMosaic.Lib.Claim

@[expose] public section

set_option maxRecDepth 16384
set_option Elab.async false

noncomputable section

namespace Cert.Proof.MoeI

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The pipeline's share of the ghost state. -/
abbrev EP : Emb (UR sig nD τ) 𝕄 := emb₁

/-- The two tables' contents, every expert one of the sixteen. -/
structure Tab where
  be : S84.Idx → BitVec 32
  nu : S1.Idx → BitVec 32
  ok : ∀ x, (be x).toNat < 16

variable (tb : Tab)

set_option backward.proofsInPublic true in
/-- The tables' contents as the pipeline takes them. -/
def pfN : pre0.Contents (Elt Ideal) := fun | ⟨0, _⟩ => tb.be | ⟨1, _⟩ => tb.nu | ⟨_ + 2, h⟩ => absurd h (by simp)

/-- The coordinates of a grid point are small. -/
theorem crd_lt (i : grid0.Coords) : (BitVec.ofNat 32 (i 1).val).toNat < 2 := by
  have h : (i 1).val < 2 := (i 1).isLt
  rw [BitVec.toNat_ofNat]; omega

/-- Every expert read from the table has its blocks inside the weights. -/
theorem in1 (i : grid0.Coords) (a : Fin 3) : (cc0_transform_1 k0_off1_inb numel1_S1 (pfN tb) i a + 1) * S1x4096x512.size a ≤ S16x4096x1024.size a := by
  have h := crd_lt i
  match a with
  | ⟨0, _⟩ => exact (Nat.mul_one _).trans_le (tb.ok _)
  | ⟨1, _⟩ => exact (by decide : (0 + 1) * 4096 ≤ 4096)
  | ⟨2, _⟩ => show ((BitVec.ofNat 32 (i 1).val).toNat + 1) * 512 ≤ 1024; omega
/-- The second weights' block lies inside the weights. -/
theorem in2 (i : grid0.Coords) (a : Fin 3) : (cc0_transform_2 k0_off1_inb numel1_S1 (pfN tb) i a + 1) * S1x4096x512.size a ≤ S16x4096x1024.size a := in1 tb i a
/-- The third weights' block lies inside the weights. -/
theorem in3 (i : grid0.Coords) (a : Fin 3) : (cc0_transform_3 k0_off1_inb numel1_S1 (pfN tb) i a + 1) * S1x512x4096.size a ≤ S16x1024x4096.size a := by
  have h := crd_lt i
  match a with
  | ⟨0, _⟩ => exact (Nat.mul_one _).trans_le (tb.ok _)
  | ⟨1, _⟩ => show ((BitVec.ofNat 32 (i 1).val).toNat + 1) * 512 ≤ 1024; omega
  | ⟨2, _⟩ => exact (by decide : (0 + 1) * 4096 ≤ 4096)

/-- So the pipeline's side condition holds of these tables. -/
theorem ok_pfN : ok0 (F := Ideal) (pfN tb) :=
  ⟨fun i => ⟨in1 tb i, .inr (Affine.block_words_dvd (s := S16x4096x1024) (p := EltTy.packing .bf16) (by decide) (by decide))⟩,
   fun i => ⟨in2 tb i, .inr (Affine.block_words_dvd (s := S16x4096x1024) (p := EltTy.packing .bf16) (by decide) (by decide))⟩,
   fun i => ⟨in3 tb i, .inr (Affine.block_words_dvd (s := S16x1024x4096) (p := EltTy.packing .bf16) (by decide) (by decide))⟩⟩

/-- The pipeline at these tables. -/
def adm : (pcfg0 (F := Ideal)).Adm := ⟨pfN tb, ok_pfN tb⟩
/-- The pipeline's configuration at these tables. -/
abbrev cfgA : Pipeline.Cfg sig Λ₀ := cfg0 (F := Ideal) (adm tb)
/-- The one pipeline of the program. -/
abbrev pcs : Fin 1 → Pipeline.Cfg sig Λ₀ := Pipeline.pin (pcfgs (F := Ideal)) fun _ => adm tb

variable (m : (ℓ : Loc nD τ sig) → Buf (Elt Ideal) ℓ) (ρ : Dev nD → PrngReg)

/-- Point `t`'s coordinates. -/
abbrev crd (t : Fin (cfgA tb).N) : (cfgA tb).grid.Coords := (cfgA tb).grid.coords t

/-! Each window's staging buffer at point `t`, and that it is whole. -/
/-- The buffer of operand 0 at point `t`. -/
abbrev ms0 (t : Fin (cfgA tb).N) : Memref sig .tc .vmem S256x4096 .bf16 := spec0_0.stage ((cfgA tb).slots t (0 : Fin 5))
/-- Operand 0's buffer is taken whole. -/
abbrev hs0 (t : Fin (cfgA tb).N) : (ms0 tb t).IsWhole := hstage0_0 (((cfgA tb).slots t (0 : Fin 5)).cast nbuf0_0)
/-- The buffer of operand 1 at point `t`. -/
abbrev ms1 (t : Fin (cfgA tb).N) : Memref sig .tc .vmem S1x4096x512 .bf16 := spec0_1.stage ((cfgA tb).slots t (1 : Fin 5))
/-- Operand 1's buffer is taken whole. -/
abbrev hs1 (t : Fin (cfgA tb).N) : (ms1 tb t).IsWhole := hstage0_1 (((cfgA tb).slots t (1 : Fin 5)).cast nbuf0_1)
/-- The buffer of operand 2 at point `t`. -/
abbrev ms2 (t : Fin (cfgA tb).N) : Memref sig .tc .vmem S1x4096x512 .bf16 := spec0_2.stage ((cfgA tb).slots t (2 : Fin 5))
/-- Operand 2's buffer is taken whole. -/
abbrev hs2 (t : Fin (cfgA tb).N) : (ms2 tb t).IsWhole := hstage0_2 (((cfgA tb).slots t (2 : Fin 5)).cast nbuf0_2)
/-- The buffer of operand 3 at point `t`. -/
abbrev ms3 (t : Fin (cfgA tb).N) : Memref sig .tc .vmem S1x512x4096 .bf16 := spec0_3.stage ((cfgA tb).slots t (3 : Fin 5))
/-- Operand 3's buffer is taken whole. -/
abbrev hs3 (t : Fin (cfgA tb).N) : (ms3 tb t).IsWhole := hstage0_3 (((cfgA tb).slots t (3 : Fin 5)).cast nbuf0_3)
/-- The buffer of operand 4 at point `t`. -/
abbrev ms4 (t : Fin (cfgA tb).N) : Memref sig .tc .vmem S256x4096 .f32 := spec0_4.stage ((cfgA tb).slots t (4 : Fin 5))
/-- Operand 4's buffer is taken whole. -/
abbrev hs4 (t : Fin (cfgA tb).N) : (ms4 tb t).IsWhole := hstage0_4 (((cfgA tb).slots t (4 : Fin 5)).cast nbuf0_4)

/-- Window `w`'s block at point `t`, read off its array at launch. -/
def iblk (c : Dev nD) (w : Fin (cfgA tb).W) (t : Fin (cfgA tb).N) : (((cfgA tb).win w).xblock (crd tb t)).Idx → Elt Ideal ((cfgA tb).win w).elt :=
  (((cfgA tb).win w).blk t).view.read (Elt Ideal) ((s₀ m ρ).mem (((cfgA tb).win w).arr.view.loc (c : Thread nD τ)))

/-! ## The four cases -/

/-- The block at point `t` is used. -/
abbrev Used (t : Fin (cfgA tb).N) : Prop := k0_cond1 (crd tb t) (word tb.nu) = 1#1
/-- Point `t` is the first of its block. -/
abbrev First (t : Fin (cfgA tb).N) : Prop := k0_cond2 (crd tb t) = 1#1

/-- A point is the first of its block exactly if it is even. -/
theorem parity : ∀ t : Fin grid0.N, (k0_cond2 (grid0.coords t) = 1#1 ↔ t.val % 2 = 0) ∧ (k0_cond3 (grid0.coords t) = 1#1 ↔ ¬t.val % 2 = 0) := by
  decide +kernel

/-- The first points are the even ones. -/
theorem first_iff (t : Fin (cfgA tb).N) : First tb t ↔ t.val % 2 = 0 := (parity t).1

/-- The third condition holds exactly at a block's second point. -/
theorem cond3_iff (t : Fin (cfgA tb).N) : k0_cond3 (crd tb t) = 1#1 ↔ ¬First tb t :=
  (parity t).2.trans (not_congr (first_iff tb t)).symm

/-- Zeros are stored exactly at the first point of an unused block. -/
theorem cond4_iff (i : grid0.Coords) (w : BitVec 32) : k0_cond4 i w = 1#1 ↔ ¬k0_cond1 i w = 1#1 ∧ k0_cond2 i = 1#1 := by
  unfold k0_cond4 k0_cond1 k0_cond2
  dsimp only
  generalize Scalar.cmpi .slt (BitVec.ofNat 32 (i 0).val) w = a
  generalize Scalar.cmpi .eq (BitVec.ofNat 32 (i 1).val) 0#32 = b
  revert a b
  decide

/-- Whether the write-back at point `t` is where it is said to be. -/
def flushAt (t : Fin 168) : Bool := ((cfgA tb).win (4 : Fin 5)).flushF t == decide (t.val % 2 = 1)

/-- The output's block is written back at the odd points. -/
theorem flush_eq (t : Fin (cfgA tb).N) : ((cfgA tb).win (4 : Fin 5)).flush t = decide (t.val % 2 = 1) := by
  rw [Pipeline.Window.flush_eq_flushF]
  have h : decide (∀ t : Fin 168, flushAt tb t = true) = true := by sl_kernel_rfl
  exact eq_of_beq (of_decide_eq_true h t)

/-- Where the body stores nothing. -/
theorem idle_eq (t : Fin (cfgA tb).N) : (cfgA tb).idle (4 : Fin 5) ((cfgA tb).grid.coords t) = true ↔ ¬Used tb t ∧ ¬First tb t := by
  have e : (cfgA tb).idle (4 : Fin 5) ((cfgA tb).grid.coords t) = (!(k0_cond1 (crd tb t) (word tb.nu) == 1#1 && k0_cond2 (crd tb t) == 1#1)
      && !(k0_cond1 (crd tb t) (word tb.nu) == 1#1 && k0_cond3 (crd tb t) == 1#1) && !(k0_cond4 (crd tb t) (word tb.nu) == 1#1)) := rfl
  rw [e]
  have h3 := cond3_iff tb t
  have h4 := cond4_iff (crd tb t) (word tb.nu)
  by_cases q0 : Used tb t <;> by_cases q1 : First tb t <;> simp_all

/-- Outside an unused block's second point the output is stored. -/
theorem idle_false {t : Fin (cfgA tb).N} (h : ¬(¬Used tb t ∧ ¬First tb t)) : (cfgA tb).idle (4 : Fin 5) ((cfgA tb).grid.coords t) = false :=
  Bool.eq_false_iff.mpr fun e => h ((idle_eq tb t).mp e)

/-- Nothing has been stored in the output's buffer since its last write-back exactly before the even points. -/
theorem fresh_eq (t : Fin (cfgA tb).N) : (cfgA tb).fresh (4 : Fin 5) t.val = decide (t.val % 2 = 0) :=
  Pipeline.Cfg.fresh_tab (cfgA tb) (4 : Fin 5) (fun n => decide (n % 2 = 0)) rfl (fun t => by
    rw [flush_eq]
    by_cases h : t.val % 2 = 0
    · rw [idle_false tb (fun e => e.2 ((first_iff tb t).mpr h))]
      have h' : (t.val + 1) % 2 = 1 := by omega
      simp [h, h']
    · have h' : (t.val + 1) % 2 = 0 := by omega
      have h'' : t.val % 2 = 1 := by omega
      simp [h', h'']) t.val (Nat.le_of_lt t.isLt)

/-! Each case's conditions, as the body tests them, and its schedule. -/

/-- The four conditions at the first point of a used block. -/
theorem hypsA {t : Fin (cfgA tb).N} (q0 : Used tb t) (q1 : First tb t) :
    k0_cond1 (crd tb t) (word tb.nu) = 1#1 ∧ k0_cond2 (crd tb t) = 1#1 ∧ ¬k0_cond3 (crd tb t) = 1#1 ∧ ¬k0_cond4 (crd tb t) (word tb.nu) = 1#1 :=
  ⟨q0, q1, fun h => (cond3_iff tb t).mp h q1, fun h => ((cond4_iff _ _).mp h).1 q0⟩
/-- The four conditions at the second point of a used block. -/
theorem hypsB {t : Fin (cfgA tb).N} (q0 : Used tb t) (q1 : ¬First tb t) :
    k0_cond1 (crd tb t) (word tb.nu) = 1#1 ∧ ¬k0_cond2 (crd tb t) = 1#1 ∧ k0_cond3 (crd tb t) = 1#1 ∧ ¬k0_cond4 (crd tb t) (word tb.nu) = 1#1 :=
  ⟨q0, q1, (cond3_iff tb t).mpr q1, fun h => ((cond4_iff _ _).mp h).1 q0⟩
/-- The four conditions at the first point of an unused block. -/
theorem hypsC {t : Fin (cfgA tb).N} (q0 : ¬Used tb t) (q1 : First tb t) :
    ¬k0_cond1 (crd tb t) (word tb.nu) = 1#1 ∧ k0_cond4 (crd tb t) (word tb.nu) = 1#1 := ⟨q0, (cond4_iff _ _).mpr ⟨q0, q1⟩⟩
/-- The four conditions at the second point of an unused block. -/
theorem hypsD {t : Fin (cfgA tb).N} (q0 : ¬Used tb t) (q1 : ¬First tb t) :
    ¬k0_cond1 (crd tb t) (word tb.nu) = 1#1 ∧ ¬k0_cond4 (crd tb t) (word tb.nu) = 1#1 := ⟨q0, fun h => q1 ((cond4_iff _ _).mp h).2⟩

/-- At a first point the output is stored anew and not written back. -/
theorem sched_first {t : Fin (cfgA tb).N} (q : First tb t) :
    (cfgA tb).idle (4 : Fin 5) ((cfgA tb).grid.coords t) = false ∧ ((cfgA tb).win (4 : Fin 5)).flush t = false ∧ (cfgA tb).fresh (4 : Fin 5) t.val = true := by
  have h := (first_iff tb t).mp q
  rw [flush_eq, fresh_eq]
  exact ⟨idle_false tb fun e => e.2 q, decide_eq_false (by omega), decide_eq_true h⟩
/-- At a second point the output is written back. -/
theorem sched_second {t : Fin (cfgA tb).N} (q : ¬First tb t) :
    ((cfgA tb).win (4 : Fin 5)).flush t = true ∧ (cfgA tb).fresh (4 : Fin 5) t.val = false := by
  have h : ¬t.val % 2 = 0 := fun e => q ((first_iff tb t).mpr e)
  rw [flush_eq, fresh_eq]
  exact ⟨decide_eq_true (by omega), decide_eq_false h⟩

/-! ## What the output's buffer holds after each point -/

/-- One step: what the output's buffer holds after point `t`, from what it held before. -/
def step (c : Dev nD) (t : Fin (cfgA tb).N) (prev : S256x4096.Idx → Elt Ideal .f32) : S256x4096.Idx → Elt Ideal .f32 :=
  if q0 : Used tb t then
    if q1 : First tb t then
      leftA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsA tb q0 q1).1 (hypsA tb q0 q1).2.1 (hypsA tb q0 q1).2.2.1 (hypsA tb q0 q1).2.2.2
    else
      leftB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) prev (hypsB tb q0 q1).1 (hypsB tb q0 q1).2.1 (hypsB tb q0 q1).2.2.1 (hypsB tb q0 q1).2.2.2
  else
    if q1 : First tb t then
      leftC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsC tb q0 q1).1 (hypsC tb q0 q1).2
    else prev

/-- What it holds after position `n`. -/
def traj (c : Dev nD) : (n : ℕ) → n < (cfgA tb).N → (S256x4096.Idx → Elt Ideal .f32)
  | 0, h => step tb m ρ c ⟨0, h⟩ default
  | n + 1, h => step tb m ρ c ⟨n + 1, h⟩ (traj c n (Nat.lt_of_succ_lt h))

/-- What it held before point `t`. -/
def prev (c : Dev nD) (t : Fin (cfgA tb).N) : S256x4096.Idx → Elt Ideal .f32 :=
  if h : t.val = 0 then default else traj tb m ρ c (t.val - 1) (by omega)

/-- The output's buffer after a point is one step from what was there before. -/
theorem traj_eq (c : Dev nD) (t : Fin (cfgA tb).N) : traj tb m ρ c t.val t.isLt = step tb m ρ c t (prev tb m ρ c t) := by
  obtain ⟨n, hn⟩ := t
  cases n with
  | zero => rfl
  | succ n => unfold prev; simp only [Nat.add_one_ne_zero, dif_neg, not_false_eq_true]; rfl

/-- The step at the first point of a used block. -/
theorem stepA (c : Dev nD) (t : Fin (cfgA tb).N) (p : S256x4096.Idx → Elt Ideal .f32) (q0 : Used tb t) (q1 : First tb t) :
    step tb m ρ c t p = leftA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsA tb q0 q1).1 (hypsA tb q0 q1).2.1 (hypsA tb q0 q1).2.2.1 (hypsA tb q0 q1).2.2.2 := by
  unfold step; simp only [dif_pos q0, dif_pos q1]
/-- The step at the second point of a used block. -/
theorem stepB (c : Dev nD) (t : Fin (cfgA tb).N) (p : S256x4096.Idx → Elt Ideal .f32) (q0 : Used tb t) (q1 : ¬First tb t) :
    step tb m ρ c t p = leftB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) p (hypsB tb q0 q1).1 (hypsB tb q0 q1).2.1 (hypsB tb q0 q1).2.2.1 (hypsB tb q0 q1).2.2.2 := by
  unfold step; simp only [dif_pos q0, dif_neg q1]
/-- The step at the first point of an unused block. -/
theorem stepC (c : Dev nD) (t : Fin (cfgA tb).N) (p : S256x4096.Idx → Elt Ideal .f32) (q0 : ¬Used tb t) (q1 : First tb t) :
    step tb m ρ c t p = leftC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsC tb q0 q1).1 (hypsC tb q0 q1).2 := by
  unfold step; simp only [dif_neg q0, dif_pos q1]
/-- The step at the second point of an unused block. -/
theorem stepD (c : Dev nD) (t : Fin (cfgA tb).N) (p : S256x4096.Idx → Elt Ideal .f32) (q0 : ¬Used tb t) (q1 : ¬First tb t) :
    step tb m ρ c t p = p := by
  unfold step; simp only [dif_neg q0, dif_neg q1]

/-! ## The pipeline's proof data -/

/-- Between points the body keeps its half of the two tables. -/
def Phi (c : Dev nD) : sProp 𝕄 :=
  iprop((tbM0_0.view.loc (c : Thread nD τ) ↦{fullShare.right} tb.be) ∗ (tbM0_1.view.loc (c : Thread nD τ) ↦{fullShare.right} tb.nu))

/-- The proof data of the pipeline on core `c`. -/
def dats (_ : Fin 1) (c : Dev nD) : Dat τ (Elt Ideal) Unit ℕ (UR sig nD τ) ℕ (cfgA tb) c where
  A w := (s₀ m ρ).mem (((cfgA tb).win w).arr.view.loc (c : Thread nD τ))
  after w t := match w with
    | ⟨0, _⟩ => iblk tb m ρ c (0 : Fin 5) t
    | ⟨1, _⟩ => iblk tb m ρ c (1 : Fin 5) t
    | ⟨2, _⟩ => iblk tb m ρ c (2 : Fin 5) t
    | ⟨3, _⟩ => iblk tb m ρ c (3 : Fin 5) t
    | ⟨4, _⟩ => traj tb m ρ c t.val t.isLt
  Φ _ := Phi tb c
  q _ := fullShare
  owed _ := 0

/-- The body leaves operand 0's block as it was fetched. -/
theorem after0 (c : Dev nD) (t : Fin (cfgA tb).N) : (dats tb m ρ 0 c).after (0 : Fin 5) t = iblk tb m ρ c (0 : Fin 5) t := rfl
/-- The body leaves operand 1's block as it was fetched. -/
theorem after1 (c : Dev nD) (t : Fin (cfgA tb).N) : (dats tb m ρ 0 c).after (1 : Fin 5) t = iblk tb m ρ c (1 : Fin 5) t := rfl
/-- The body leaves operand 2's block as it was fetched. -/
theorem after2 (c : Dev nD) (t : Fin (cfgA tb).N) : (dats tb m ρ 0 c).after (2 : Fin 5) t = iblk tb m ρ c (2 : Fin 5) t := rfl
/-- The body leaves operand 3's block as it was fetched. -/
theorem after3 (c : Dev nD) (t : Fin (cfgA tb).N) : (dats tb m ρ 0 c).after (3 : Fin 5) t = iblk tb m ρ c (3 : Fin 5) t := rfl
/-- After the body, operand 4's buffer. -/
theorem after4 (c : Dev nD) (t : Fin (cfgA tb).N) : (dats tb m ρ 0 c).after (4 : Fin 5) t = traj tb m ρ c t.val t.isLt := rfl

/-! An input's buffer holds its block when the body runs. -/

/-- Before the body, operand 0's buffer holds its block. -/
theorem before0 (c : Dev nD) (t : Fin (cfgA tb).N) (d) : (dats tb m ρ 0 c).before (0 : Fin 5) t d = iblk tb m ρ c (0 : Fin 5) t :=
  ((dats tb m ρ 0 c).before_in_eq_fetched (0 : Fin 5) rfl (fun _ => rfl) (fun _ _ _ => rfl)
    (fun t => by rw [after0]; unfold Dat.blockOf iblk; rfl) t d).trans (by unfold Dat.fetched Dat.blockOf iblk; rfl)
/-- Before the body, operand 1's buffer holds its block. -/
theorem before1 (c : Dev nD) (t : Fin (cfgA tb).N) (d) : (dats tb m ρ 0 c).before (1 : Fin 5) t d = iblk tb m ρ c (1 : Fin 5) t :=
  ((dats tb m ρ 0 c).before_in_eq_fetched (1 : Fin 5) rfl (fun _ => rfl) (fun _ _ _ => rfl)
    (fun t => by rw [after1]; unfold Dat.blockOf iblk; rfl) t d).trans (by unfold Dat.fetched Dat.blockOf iblk; rfl)
/-- Before the body, operand 2's buffer holds its block. -/
theorem before2 (c : Dev nD) (t : Fin (cfgA tb).N) (d) : (dats tb m ρ 0 c).before (2 : Fin 5) t d = iblk tb m ρ c (2 : Fin 5) t :=
  ((dats tb m ρ 0 c).before_in_eq_fetched (2 : Fin 5) rfl (fun _ => rfl) (fun _ _ _ => rfl)
    (fun t => by rw [after2]; unfold Dat.blockOf iblk; rfl) t d).trans (by unfold Dat.fetched Dat.blockOf iblk; rfl)
/-- Before the body, operand 3's buffer holds its block. -/
theorem before3 (c : Dev nD) (t : Fin (cfgA tb).N) (d) : (dats tb m ρ 0 c).before (3 : Fin 5) t d = iblk tb m ρ c (3 : Fin 5) t :=
  ((dats tb m ρ 0 c).before_in_eq_fetched (3 : Fin 5) rfl (fun _ => rfl) (fun _ _ _ => rfl)
    (fun t => by rw [after3]; unfold Dat.blockOf iblk; rfl) t d).trans (by unfold Dat.fetched Dat.blockOf iblk; rfl)

/-- What the output's buffer holds carries over the points where the body stores nothing. -/
theorem carry (c : Dev nD) (t : Fin (cfgA tb).N) (ht : t.val ≠ 0) (hi : (cfgA tb).idle (4 : Fin 5) ((cfgA tb).grid.coords t) = true)
    (_ : (cfgA tb).fresh (4 : Fin 5) t.val = false) :
    (dats tb m ρ 0 c).after (4 : Fin 5) t = (dats tb m ρ 0 c).after (4 : Fin 5) ⟨t.val - 1, by omega⟩ := by
  obtain ⟨q0, q1⟩ := (idle_eq tb t).mp hi
  rw [after4, after4, traj_eq, stepD tb m ρ c t _ q0 q1]
  unfold prev; rw [dif_neg ht]

/-- The output's buffer, when the body runs: anything before a block's first point, then what the point before left. -/
theorem before4 (c : Dev nD) (t : Fin (cfgA tb).N) (d) :
    (dats tb m ρ 0 c).before (4 : Fin 5) t d = if (cfgA tb).fresh (4 : Fin 5) t.val then d else prev tb m ρ c t := by
  rw [(dats tb m ρ 0 c).before_out_traj (4 : Fin 5) rfl (fun _ _ => rfl) (carry tb m ρ c) t.val t rfl d]
  by_cases hf : (cfgA tb).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after4]; unfold prev; rw [dif_neg h0]

/-! ## The body at a point -/

/-- The body at point `t`, on that point's buffers. -/
abbrev bodyAt (t : Fin (cfgA tb).N) : Prog (TpuEff nD τ sig (Elt Ideal) Λ₀ .tc) PUnit :=
  cc0_moe_ffn (crd tb t) (Memref.whole main_arg0) (Memref.isWhole_whole _) (Memref.whole main_arg1) (Memref.isWhole_whole _) (ms0 tb t) (hs0 tb t) (ms1 tb t) (hs1 tb t) (ms2 tb t) (hs2 tb t) (ms3 tb t) (hs3 tb t) (ms4 tb t) (hs4 tb t)

set_option maxHeartbeats 4000000 in
/-- The body at point `t`, case by case, leaves the buffers as the proof data say. -/
theorem sound_body (c : Dev nD) (t : Fin (cfgA tb).N) :
    iprop((dats tb m ρ 0 c).Φ t.castSucc ∗ (dats tb m ρ 0 c).owesAt () t.castSucc
        ∗ (∃ d, owns (c : Thread nD τ) (ms0 tb t) fullShare ((dats tb m ρ 0 c).before (0 : Fin 5) t d))
        ∗ (∃ d, owns (c : Thread nD τ) (ms1 tb t) fullShare ((dats tb m ρ 0 c).before (1 : Fin 5) t d))
        ∗ (∃ d, owns (c : Thread nD τ) (ms2 tb t) fullShare ((dats tb m ρ 0 c).before (2 : Fin 5) t d))
        ∗ (∃ d, owns (c : Thread nD τ) (ms3 tb t) fullShare ((dats tb m ρ 0 c).before (3 : Fin 5) t d))
        ∗ (∃ d, owns (c : Thread nD τ) (ms4 tb t) fullShare ((dats tb m ρ 0 c).before (4 : Fin 5) t d)))
      ⊢ wp frame (wpE (defs₀ (F := Ideal)) Variants.none c none) Set.univ (bodyAt tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  by_cases q0 : Used tb t
  · by_cases q1 : First tb t
    · obtain ⟨i4, f4, fr4⟩ := sched_first tb q1
      have h := hypsA tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepA tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2.1 h.2.2.1 h.2.2.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverA c _ _ _ _ _ _ _ _ _ _ _ _ _ _ _ _ _ _ _ _ _)
    · obtain ⟨f4, fr4⟩ := sched_second tb q1
      have i4 := idle_false tb (fun e => e.1 q0)
      have h := hypsB tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepB tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) _ h.1 h.2.1 h.2.2.1 h.2.2.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverB c _ _ _ _ _ _ _ _ _ _ _ _ _ _ _ _ _ _ _ _ _ _)
  · by_cases q1 : First tb t
    · obtain ⟨i4, f4, fr4⟩ := sched_first tb q1
      have h := hypsC tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepC tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverC c _ _ _ _ _ _ _ _ _ _ _ _ _ _ _ _ _ _ _)
    · obtain ⟨f4, fr4⟩ := sched_second tb q1
      have i4 := (idle_eq tb t).mpr ⟨q0, q1⟩
      have h := hypsD tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepD tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply (runD c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4

/-- The body obligation at every point. -/
theorem body_obligation (c : Dev nD) : BodyObligation (dats tb m ρ 0 c) (defs₀ (F := Ideal)) Variants.none () Set.univ := fun t => by
  rw [bigSep_W0]
  exact sound_body tb m ρ c t

/-! ## The launch -/

/-- The ghost state at the start. -/
def u₀ : UR sig nD τ :=
  initOf (Pipeline.cells (pcs tb) ((launch0 (F := Ideal)).cellOf_inj fun _ => adm tb))
    (Pipeline.launchToks (pcs tb) ((launch0 (F := Ideal)).cellOf_inj fun _ => adm tb))

/-- Every window holds its operand whole. -/
theorem share_eq (c : Dev nD) (w : Fin (cfgA tb).W) : (dats tb m ρ 0 c).share w = fullShare := by unfold Dat.share; split <;> rfl

/-- Holding both tables is holding the one and the other. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The launch gives what the body keeps from point to point. -/
theorem phi_intro (c : Dev nD) :
    iprop(BI.emp ∗ Pipeline.prefHeld pre0 c (fun _ => fullShare.right) (adm tb).1 ∗ Pipeline.scopedRest spec0 c) ⊢ (dats tb m ρ 0 c).Φ 0 := by
  rw [prefHeld_eq, scopedRest0_eq, show (dats tb m ρ 0 c).Φ 0 = Phi tb c from rfl]
  unfold Phi
  iintro ⟨-, ⟨HT0, HT1⟩, -⟩
  isplitl [HT0]
  · iexact HT0
  iexact HT1

/-- What the body kept is given back at the end. -/
theorem phi_exit (c : Dev nD) : (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb c from rfl]
  unfold Phi
  iintro ⟨-, -⟩
  isplitr; · iempintro
  iempintro

/-- The launch memory's tables are `tb`'s. -/
def Held : Prop :=
  (∀ c : Dev nD, m ((c : Thread nD τ).loc main_arg0) = tb.be) ∧ (∀ c : Dev nD, m ((c : Thread nD τ).loc main_arg1) = tb.nu)

/-- What the run ends in: every array as the pipeline computes it, every table as it was. -/
def Ends : PUnit × MemSt nD τ sig (Elt Ideal) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = (adm tb).1 j

variable {tb m} in
/-- The tables hold the contents they were said to hold. -/
theorem held_pre (hp : Held tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- From a memory holding these tables the kernel runs to its end, all semaphores at zero. -/
theorem run_main_quiescent (hp : Held tb m) :
    θ_run (defs (F := Ideal)) (onTc (τ := τ) (main (F := Ideal))) (s₀ m ρ) (fun r => Ends tb m ρ r ∧ r.2.sem = fun _ => 0) :=
  Pipeline.θ_run_region_noSem_pf_quiescent pcfgs (fun _ => adm tb) (dats tb m ρ) () ((launch0 (F := Ideal)).cellOf_inj fun _ => adm tb) (0 : Fin 1)
    (launch0 (F := Ideal)).win.to₀ (launch0 (F := Ideal)).pre EP defs₀ Variants.none m ρ main
    (hbody := fun c => (body_obligation tb m ρ c).loose) (hne := (launch0 (F := Ideal)).block_pos)
    (harr := (launch0 (F := Ideal)).arr_whole) (hstage := (launch0 (F := Ideal)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Ideal)).win.arr_inj c (launch0 (F := Ideal)).arr_whole
      (share_eq tb m ρ c) _ _ fun _ => rfl)
    (hpf := held_pre hp)
    (X := fun _ => iprop(emp)) (Y := fun _ => iprop(emp)) (Z := fun _ => iprop(emp))
    (hX := fun c => by rw [unscopedRestP0_eq]; iintro -; isplitr <;> iempintro)
    (hin := phi_intro tb m ρ)
    (hout := phi_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The program runs to its end, and its memory is as stated. -/
theorem run_main (hp : Held tb m) : θ_run (defs (F := Ideal)) (onTc (τ := τ) (main (F := Ideal))) (s₀ m ρ) (Ends tb m ρ) :=
  (θ_run defs _ _).mono (fun _ h => h.1) (run_main_quiescent tb m ρ hp)

variable {tb m ρ} in
/-- The arguments end as they began. -/
theorem kept (hp : Held tb m) (r : PUnit × MemSt nD τ sig (Elt Ideal)) (h : Ends tb m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp.1 c).symm, ((h c).2 1).trans (hp.2 c).symm,
    ((h c).1 (0 : Fin 5)).trans ((dats tb m ρ 0 c).arrAt_in (0 : Fin 5) rfl _), ((h c).1 (1 : Fin 5)).trans ((dats tb m ρ 0 c).arrAt_in (1 : Fin 5) rfl _),
    ((h c).1 (2 : Fin 5)).trans ((dats tb m ρ 0 c).arrAt_in (2 : Fin 5) rfl _), ((h c).1 (3 : Fin 5)).trans ((dats tb m ρ 0 c).arrAt_in (3 : Fin 5) rfl _)⟩

/-- The frame: the kernel ends with its arguments unchanged and its semaphores at zero. -/
theorem frame (hp : Held tb m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept hp r h.1 c, h.2⟩) (run_main_quiescent tb m ρ hp)

end Cert.Proof.MoeI

end
-- ==== Proof.MoeRef.lean ====
/-
  The experts' layer: its mathematics as one function of the arguments, and the reference read as that function.
-/
module

public import proofs.«01_k».proof.Defs
public import proofs.«01_k».proof.Proof.Gen.MoeRefIdeal.Run
public import proofs.«01_k».proof.Proof.Gen.MoeRefIdeal.Read
public import proofs.«01_k».proof.Proof.Gen.Pre_moe_pre
public import Idealize.ShloMosaic.Lib.KernelVsHost
public import Idealize.ShloMosaic.Lib.ValueIdx
public import Idealize.ShloMosaic.Lib.StableHlo.Predicate
public import Idealize.ShloMosaic.Lib.IdealHost

@[expose] public section

set_option maxRecDepth 16384

noncomputable section

namespace Cert.Proof.Moe

open Cert.MoeRefIdeal Cert.MoeRefIdeal.Gen Idealize.ShloMosaic Idealize.ShloMosaic.TcCoe Idealize.SL.Sem
open Idealize.ShloMosaic.ValueIdx
open scoped BigOperators

/-- The block of 256 rows that row `p` is in. -/
def blockOf (p : Fin 21504) : Fin 84 := ⟨p.val / 256, by omega⟩

/-- The expert of a block. -/
def expert (be : S84.Idx → BitVec 32) (hb : ∀ x, (be x).toNat < 16) (b : Fin 84) : Fin 16 := ⟨(be (ix1 b)).toNat, hb _⟩

/-- Block `b` is one of the used ones: its number is below their count, as signed words. -/
def IsUsed (nu : S1.Idx → BitVec 32) (b : Nat) : Prop := IntOp.cmpi .slt (BitVec.ofNat 32 b) (nu (ix1 (0 : Fin 1))) = 1#1

instance (nu : S1.Idx → BitVec 32) (b : Nat) : Decidable (IsUsed nu b) := inferInstanceAs (Decidable (_ = _))

/-- Row `p` of the rows times column `f` of expert `e`'s matrix. -/
def proj (x : S21504x4096.Idx → EReal) (w : S16x4096x1024.Idx → EReal) (e : Fin 16) (p : Fin 21504) (f : Fin 1024) : EReal :=
  ∑ k : Fin 4096, x (ix2 p k) * w (ix3 e k f)

/-- The hidden layer: the first product times its logistic, times the second product. -/
def hid (x : S21504x4096.Idx → EReal) (w1 w3 : S16x4096x1024.Idx → EReal) (e : Fin 16) (p : Fin 21504) (f : Fin 1024) : EReal :=
  proj x w1 e p f * Ideal.logistic (proj x w1 e p f) * proj x w3 e p f

/-- Expert `e`'s output at row `p` and column `j`. -/
def ffn (x : S21504x4096.Idx → EReal) (w1 w3 : S16x4096x1024.Idx → EReal) (w2 : S16x1024x4096.Idx → EReal) (e : Fin 16)
    (p : Fin 21504) (j : Fin 4096) : EReal := ∑ f : Fin 1024, hid x w1 w3 e p f * w2 (ix3 e f j)

/-- The layer: each row through its block's expert, zero in the blocks that are not used. -/
def G (be : S84.Idx → BitVec 32) (hb : ∀ x, (be x).toNat < 16) (nu : S1.Idx → BitVec 32) (x : S21504x4096.Idx → EReal)
    (w1 w3 : S16x4096x1024.Idx → EReal) (w2 : S16x1024x4096.Idx → EReal) : S21504x4096.Idx → EReal := fun i =>
  if IsUsed nu (blockOf (i 0)).val then ffn x w1 w3 w2 (expert be hb (blockOf (i 0))) (i 0) (i 1) else 0

/-- A word that is signed-at-least 0 and signed-below 16 is one of the sixteen numbers. -/
theorem word_range (v : BitVec 32) (e : IntOp.andi (IntOp.cmpi .sge v 0#32) (IntOp.cmpi .slt v 16#32) = 1#1) : v.toNat < 16 := by
  obtain ⟨e1, e2⟩ : IntOp.cmpi .sge v 0#32 = 1#1 ∧ IntOp.cmpi .slt v 16#32 = 1#1 := by
    revert e
    generalize IntOp.cmpi .sge v 0#32 = a
    generalize IntOp.cmpi .slt v 16#32 = b
    revert a b
    decide
  have f1 : (0#32 : BitVec 32).sle v = true := (StableHlo.Predicate.ofBool_eq_one_iff _).mp e1
  have f2 : v.slt 16#32 = true := (StableHlo.Predicate.ofBool_eq_one_iff _).mp e2
  simp only [BitVec.slt, BitVec.sle, decide_eq_true_eq] at f1 f2
  have g1 : (0 : Int) ≤ v.toInt := f1
  have g2 : v.toInt < 16 := f2
  rw [BitVec.toInt_eq_toNat_cond] at g1 g2
  have := v.isLt
  split_ifs at g1 g2 <;> omega

/-- The precondition says that every block's expert is one of the sixteen. -/
theorem inRange (be : S84.Idx → BitVec 32) (nu : S1.Idx → BitVec 32) {F : FTy → Type} [FloatOps F] (x : FVec F S21504x4096 .bf16)
    (w1 w3 : FVec F S16x4096x1024 .bf16) (w2 : FVec F S16x1024x4096 .bf16)
    (h : Cert.Pre_moe_pre.fn (F := F) be nu x w1 w3 w2 = (fun _ => 1#1)) (i : S84.Idx) : (be i).toNat < 16 :=
  word_range (be i) (congrFun h i)

section Reference
open Cert.MoeRefIdeal.Read

variable (be : S84.Idx → BitVec 32) (hb : ∀ x, (be x).toNat < 16) (nu : S1.Idx → BitVec 32) (x : S21504x4096.Idx → EReal)
  (w1 w3 : S16x4096x1024.Idx → EReal) (w2 : S16x1024x4096.Idx → EReal)

/-- A word below sixteen is not negative, so the reference's wrap of a negative index leaves it. -/
theorem wrap_eq (v : BitVec 32) (h : v.toNat < 16) : Scalar.select (IntOp.cmpi .slt v 0#32) (IntOp.addi v 16#32) v = v := by
  have e : IntOp.cmpi .slt v 0#32 = 0#1 := by
    simp only [IntOp.cmpi]
    have : v.slt 0#32 = false := by
      rw [BitVec.slt, decide_eq_false_iff_not]
      have := StableHlo.Predicate.toInt_ofNat_small v.toNat (by omega)
      rw [BitVec.ofNat_toNat, BitVec.setWidth_eq] at this
      rw [this]; simp
    rw [this]; rfl
  rw [e]; rfl

/-- The signed reading of a word below sixteen, clamped into the sixteen. -/
theorem clamp_eq (v : BitVec 32) (h : v.toNat < 16) : min v.toInt.toNat (16 - 1) = v.toNat := by
  have := StableHlo.Predicate.toInt_ofNat_small v.toNat (by omega)
  rw [BitVec.ofNat_toNat, BitVec.setWidth_eq] at this
  rw [this]; omega

/-- The matrices of each block's expert, read at an index: the first two weights. -/
theorem take1 (y : S16x4096x1024.Idx → EReal) (t : S84x1.Idx → BitVec 32) (b : Fin 84) (k : Fin 4096) (f : Fin 1024) (e : Fin 16)
    (ht : (t (ix2 b (0 : Fin 1))).toNat = e.val) :
    Host.gather gather_S16x4096x1024_S84x1_S84x4096x1024_12_0_n_n_0_1_140961024 y t (ix3 b k f) = y (ix3 e k f) := by
  unfold Host.gather
  refine congrArg y (funext fun a => Fin.ext ?_)
  match a with
  | ⟨0, _⟩ =>
    refine Eq.trans ?_ ((clamp_eq _ (by have := e.isLt; omega)).trans ht)
    refine (Nat.add_zero _).trans ((Nat.add_zero _).trans ?_)
    exact congrArg (fun z => min (t z).toInt.toNat (16 - 1)) (Shape.idx_ext₂ rfl rfl)
  | ⟨1, _⟩ => exact (Nat.zero_add _).trans rfl
  | ⟨2, _⟩ => exact (Nat.zero_add _).trans rfl

/-- The same for the third weight. -/
theorem take2 (y : S16x1024x4096.Idx → EReal) (t : S84x1.Idx → BitVec 32) (b : Fin 84) (k : Fin 1024) (f : Fin 4096) (e : Fin 16)
    (ht : (t (ix2 b (0 : Fin 1))).toNat = e.val) :
    Host.gather gather_S16x1024x4096_S84x1_S84x1024x4096_12_0_n_n_0_1_110244096 y t (ix3 b k f) = y (ix3 e k f) := by
  unfold Host.gather
  refine congrArg y (funext fun a => Fin.ext ?_)
  match a with
  | ⟨0, _⟩ =>
    refine Eq.trans ?_ ((clamp_eq _ (by have := e.isLt; omega)).trans ht)
    refine (Nat.add_zero _).trans ((Nat.add_zero _).trans ?_)
    exact congrArg (fun z => min (t z).toInt.toNat (16 - 1)) (Shape.idx_ext₂ rfl rfl)
  | ⟨1, _⟩ => exact (Nat.zero_add _).trans rfl
  | ⟨2, _⟩ => exact (Nat.zero_add _).trans rfl

/-- Row `r` of block `b`. -/
def row (b : Fin 84) (r : Fin 256) : Fin 21504 := ⟨b.val * 256 + r.val, by omega⟩

/-- The rows, block by block. -/
theorem v4_at (b : Fin 84) (r : Fin 256) (k : Fin 4096) : val_main_v4 (F := Ideal) x (ix3 b r k) = x (ix2 (row b r) k) := by
  rw [val_main_v4_apply, val_main_v0_apply]
  have hk := k.isLt
  refine congrArg x (Shape.idx_ext₂ ?_ ?_)
  · show ((b.val * 256 + r.val) * 4096 + k.val) / 4096 = b.val * 256 + r.val
    omega
  · show ((b.val * 256 + r.val) * 4096 + k.val) % 4096 = k.val
    omega

include hb in
/-- The index into the first weights is the block's expert. -/
theorem v10_at (b : Fin 84) : (val_main_v10 (F := Ideal) be (ix2 b (0 : Fin 1))).toNat = (expert be hb b).val := by
  rw [val_main_v10_apply, val_main_v9_apply, val_main_v6_apply, val_main_v8_apply, val_main_v5_apply, val_main_v7_apply, val_main_c_apply,
    val_main_c_0_apply, wrap_eq _ (hb _)]
  exact congrArg (fun z => (be z).toNat) (eq_ix1 _)
include hb in
/-- The index into the second weights is the block's expert. -/
theorem v18_at (b : Fin 84) : (val_main_v18 (F := Ideal) be (ix2 b (0 : Fin 1))).toNat = (expert be hb b).val := by
  rw [val_main_v18_apply, val_main_v17_apply, val_main_v14_apply, val_main_v16_apply, val_main_v13_apply, val_main_v15_apply, val_main_c_1_apply,
    val_main_c_2_apply, wrap_eq _ (hb _)]
  exact congrArg (fun z => (be z).toNat) (eq_ix1 _)
include hb in
/-- The index into the third weights is the block's expert. -/
theorem v28_at (b : Fin 84) : (val_main_v28 (F := Ideal) be (ix2 b (0 : Fin 1))).toNat = (expert be hb b).val := by
  rw [val_main_v28_apply, val_main_v27_apply, val_main_v24_apply, val_main_v26_apply, val_main_v23_apply, val_main_v25_apply, val_main_c_3_apply,
    val_main_c_4_apply, wrap_eq _ (hb _)]
  exact congrArg (fun z => (be z).toNat) (eq_ix1 _)

/-- A row times the first weights of its expert. -/
theorem v12_at (b : Fin 84) (r : Fin 256) (f : Fin 1024) :
    val_main_v12 (F := Ideal) be x w1 (ix3 b r f) = proj x w1 (expert be hb b) (row b r) f := by
  rw [val_main_v12_apply]
  refine Finset.sum_congr rfl fun k _ => congrArg₂ (· * ·) ?_ ?_
  · rw [eq_ix3 (lidx_main_v12 (ix3 b r f) k)]; exact v4_at x b r k
  · rw [eq_ix3 (ridx_main_v12 (ix3 b r f) k)]; exact take1 _ _ b k f _ (v10_at be hb b)

/-- A row times the second weights of its expert. -/
theorem v20_at (b : Fin 84) (r : Fin 256) (f : Fin 1024) :
    val_main_v20 (F := Ideal) be x w3 (ix3 b r f) = proj x w3 (expert be hb b) (row b r) f := by
  rw [val_main_v20_apply]
  refine Finset.sum_congr rfl fun k _ => congrArg₂ (· * ·) ?_ ?_
  · rw [eq_ix3 (lidx_main_v20 (ix3 b r f) k)]; exact v4_at x b r k
  · rw [eq_ix3 (ridx_main_v20 (ix3 b r f) k)]; exact take1 _ _ b k f _ (v18_at be hb b)

/-- The hidden layer, entry by entry. -/
theorem v22_at (b : Fin 84) (r : Fin 256) (f : Fin 1024) :
    val_main_v22 (F := Ideal) be x w1 w3 (ix3 b r f) = hid x w1 w3 (expert be hb b) (row b r) f := by
  rw [val_main_v22_apply, val_main_v21_apply, val_main_call0_v5_apply, val_main_call0_v3_apply, val_main_call0_v1_apply, val_main_call0_v0_apply,
    val_main_call0_v4_apply, val_main_call0_v2_apply, val_main_call0_cst_apply, val_main_call0_cst_0_apply, v12_at be hb x w1, v20_at be hb x w3]
  simp only [Ideal.mulf_def, Ideal.addf_def, Ideal.hostDivf_def, Ideal.hostUnary_exp_def, Ideal.hostNegf_def, Ideal.ofBits_def, Ideal.ofBits_one_f32]
  rfl

/-- The feed-forward of a row by its expert. -/
theorem v30_at (b : Fin 84) (r : Fin 256) (j : Fin 4096) :
    val_main_v30 (F := Ideal) be x w1 w3 w2 (ix3 b r j) = ffn x w1 w3 w2 (expert be hb b) (row b r) j := by
  rw [val_main_v30_apply]
  refine Finset.sum_congr rfl fun f _ => congrArg₂ (· * ·) ?_ ?_
  · rw [eq_ix3 (lidx_main_v30 (ix3 b r j) f)]; exact v22_at be hb x w1 w3 b r f
  · rw [eq_ix3 (ridx_main_v30 (ix3 b r j) f)]; exact take2 _ _ b f j _ (v28_at be hb b)

/-- A block is selected when its number is below the count. -/
theorem sel_at (i : S84x256x4096.Idx) :
    val_main_call1_v1 (F := Ideal) nu i = IntOp.cmpi .slt (BitVec.ofNat 32 (i 0).val) (nu (ix1 (0 : Fin 1))) := by
  rw [val_main_call1_v1_apply, val_main_v35_apply, val_main_v34_apply, val_main_v31_apply, val_main_v33_apply]
  refine congrArg (IntOp.cmpi .slt _) ?_
  unfold val_main_v32 shapeCast
  refine congrArg nu (funext fun a => ?_)
  match a with
  | ⟨0, h⟩ => exact Subsingleton.elim (α := Fin 1) _ _

/-- The reference's result is `G`. -/
theorem ref_eq : val_main_v37 (F := Ideal) be nu x w1 w3 w2 = G be hb nu x w1 w3 w2 := by
  funext i
  obtain ⟨p, j, rfl⟩ : ∃ (p : Fin 21504) (j : Fin 4096), i = ix2 p j := ⟨i 0, i 1, eq_ix2 i⟩
  have hj := j.isLt
  have hp := p.isLt
  have e : idx_main_v37 (ix2 p j) = ix3 (blockOf p) (⟨p.val % 256, by omega⟩ : Fin 256) j := by
    refine (eq_ix3 _).trans ?_
    have e0 : (idx_main_v37 (ix2 p j)) 0 = blockOf p := Fin.ext (by show (p.val * 4096 + j.val) / 1048576 = p.val / 256; omega)
    have e1 : (idx_main_v37 (ix2 p j)) 1 = (⟨p.val % 256, by omega⟩ : Fin 256) :=
      Fin.ext (by show (p.val * 4096 + j.val) / 4096 % 256 = p.val % 256; omega)
    have e2 : (idx_main_v37 (ix2 p j)) 2 = j := Fin.ext (by show (p.val * 4096 + j.val) % 4096 = j.val; omega)
    rw [e0, e1, e2]; rfl
  have er : row (blockOf p) ⟨p.val % 256, by omega⟩ = p := Fin.ext (by show p.val / 256 * 256 + p.val % 256 = p.val; omega)
  rw [val_main_v37_apply, e, val_main_v36_apply, sel_at, v30_at be hb, er, val_main_call1_v2_apply]
  unfold G Scalar.select
  refine if_congr Iff.rfl rfl ?_
  show Ideal.ofBits .f32 0#32 = 0
  exact Ideal.ofBits_zero_f32

end Reference

end Cert.Proof.Moe

end
-- ==== Proof.MoeVal.lean ====
/-
  The experts' layer over the extended reals: what the kernel leaves in its result array.
-/
module

public import proofs.«01_k».proof.Proof.MoeIdealFrame
public import proofs.«01_k».proof.Proof.MoeRef
public import Idealize.ShloMosaic.Lib.KernelVsHost
public import Idealize.ShloMosaic.Lib.ValueIdx
public import Idealize.ShloMosaic.Lib.WholeRead
public import Idealize.ShloMosaic.Lib.Pipeline.Value
public import Idealize.ShloMosaic.Lib.MatmulPlain
public import Idealize.ShloMosaic.Lib.ValueLayout
public import Idealize.ShloMosaic.Lib.VecWindow

@[expose] public section

set_option maxRecDepth 16384

noncomputable section

namespace Cert.Proof.MoeI

open Cert.MoeIdeal Cert.MoeIdeal.Gen
open Idealize.ShloMosaic Idealize.ShloMosaic.TcCoe Idealize.SL.Sem
open Idealize.ShloMosaic.Pipeline (Dat Cfg Window)
open Idealize.ShloMosaic.ValueIdx
open scoped BigOperators

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

section
variable (c : Dev nD) (i : grid0.Coords) (arg4 : Memref sig .tc .vmem S256x4096 .bf16) (harg4 : arg4.IsWhole)
  (arg5 : Memref sig .tc .vmem S1x4096x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S256x4096 .f32) (harg8 : arg8.IsWhole)
  (T0 : S84.Idx → Elt Ideal .i32) (T1 : S1.Idx → Elt Ideal .i32) (x0 : S256x4096.Idx → Elt Ideal .bf16) (x1 : S1x4096x512.Idx → Elt Ideal .bf16)
  (x2 : S1x4096x512.Idx → Elt Ideal .bf16) (x3 : S1x512x4096.Idx → Elt Ideal .bf16) (xo4 : S256x4096.Idx → Elt Ideal .f32)

/-- The first point of a used block leaves its own product. -/
theorem leftA_eq (h1 : k0_cond1 i (word T1) = 1#1) (h2 : k0_cond2 i = 1#1) (h3 : ¬(k0_cond3 i = 1#1)) (h4 : ¬(k0_cond4 i (word T1) = 1#1)) :
    leftA c i arg4 harg4 arg5 harg5 arg6 harg6 arg7 harg7 arg8 harg8 T0 T1 x0 x1 x2 x3 h1 h2 h3 h4 = k0_pay1 (F := Ideal) x0 x1 x2 x3 := by
  unfold leftA
  refine (View.read_writes_eq_canon _ _ _ (coverA c i arg4 harg4 arg5 harg5 arg6 harg6 arg7 harg7 arg8 harg8 T0 T1 x0 x1 x2 x3 h1 h2 h3 h4)).trans ?_
  unfold runA
  dsimp only
  unfold runA.sl.HO4_1
  refine (View.canon_unit_zero hz _ _).trans ?_
  rw [View.readAt_rep_full, View.readAt_rep_full, View.readAt_rep_full, View.readAt_rep_full]

/-- The second point of a used block adds its own product to what it found. -/
theorem leftB_eq (h1 : k0_cond1 i (word T1) = 1#1) (h2 : ¬(k0_cond2 i = 1#1)) (h3 : (k0_cond3 i = 1#1)) (h4 : ¬(k0_cond4 i (word T1) = 1#1)) :
    leftB c i arg4 harg4 arg5 harg5 arg6 harg6 arg7 harg7 arg8 harg8 T0 T1 x0 x1 x2 x3 xo4 h1 h2 h3 h4 = k0_pay2 (F := Ideal) x0 x1 x2 x3 xo4 := by
  unfold leftB
  refine (View.read_writes_eq_canon _ _ _ (coverB c i arg4 harg4 arg5 harg5 arg6 harg6 arg7 harg7 arg8 harg8 T0 T1 x0 x1 x2 x3 xo4 h1 h2 h3 h4)).trans ?_
  unfold runB
  dsimp only
  unfold runB.sl.HO4_1
  refine (View.canon_unit_zero hz _ _).trans ?_
  rw [View.readAt_rep_full, View.readAt_rep_full, View.readAt_rep_full, View.readAt_rep_full, View.readAt_full, harg8.read_unread]

/-- The first point of an unused block leaves zeros. -/
theorem leftC_eq (h1 : ¬(k0_cond1 i (word T1) = 1#1)) (h4 : (k0_cond4 i (word T1) = 1#1)) :
    leftC c i arg4 harg4 arg5 harg5 arg6 harg6 arg7 harg7 arg8 harg8 T0 T1 x0 x1 x2 x3 h1 h4 = k0_pay3 (F := Ideal) := by
  unfold leftC
  refine (View.read_writes_eq_canon _ _ _ (coverC c i arg4 harg4 arg5 harg5 arg6 harg6 arg7 harg7 arg8 harg8 T0 T1 x0 x1 x2 x3 h1 h4)).trans ?_
  unfold runC
  dsimp only
  unfold runC.sl.HO4_1
  exact View.canon_unit_zero hz _ _
end

/-- One point's product: the block's rows through the point's 512 columns of the hidden layer. -/
theorem pay1_apply (x0 : FVec Ideal S256x4096 .bf16) (x1 x2 : FVec Ideal S1x4096x512 .bf16) (x3 : FVec Ideal S1x512x4096 .bf16)
    (r : Fin 256) (j : Fin 4096) :
    k0_pay1 (F := Ideal) x0 x1 x2 x3 (ix2 r j)
      = ∑ f : Fin 512, ((∑ k : Fin 4096, x0 (ix2 r k) * x1 (ix3 (0 : Fin 1) k f)) * Ideal.logistic (∑ k : Fin 4096, x0 (ix2 r k) * x1 (ix3 (0 : Fin 1) k f))
          * ∑ k : Fin 4096, x0 (ix2 r k) * x2 (ix3 (0 : Fin 1) k f)) * x3 (ix3 (0 : Fin 1) f j) := by
  unfold k0_pay1
  refine (Ideal.matmul_plain_apply none _ _ _ r j).trans ?_
  rw [constant_apply, Ideal.ofBits_zero_f32, zero_add]
  refine Finset.sum_congr rfl fun f _ => congrArg₂ (· * ·) ?_ (shapeCast_1ab_ab_apply x3 _ f j)
  have m1 : ∀ (y : FVec Ideal S1x4096x512 .bf16) h, FloatOps.matmul dot_S256x4096_S4096x512_S256x512_1_0_0_1_n_n none x0 (shapeCast S4096x512 y h)
      (constant S256x512 .f32 0#32) (ix2 r f) = ∑ k : Fin 4096, x0 (ix2 r k) * y (ix3 (0 : Fin 1) k f) := fun y h => by
    refine (Ideal.matmul_plain_apply none _ _ _ r f).trans ?_
    rw [constant_apply, Ideal.ofBits_zero_f32, zero_add]
    exact Finset.sum_congr rfl fun k _ => congrArg (x0 (ix2 r k) * ·) (shapeCast_1ab_ab_apply y _ k f)
  exact congrArg₂ (· * ·) (congrArg₂ (· * ·) (m1 x1 _) (congrArg Ideal.logistic (m1 x1 _))) (m1 x2 _)

/-- The same from blocks that are parts of the arrays: rows `p`, expert `e`'s columns `g`. -/
theorem pay1_of (x0 : FVec Ideal S256x4096 .bf16) (x1 x2 : FVec Ideal S1x4096x512 .bf16) (x3 : FVec Ideal S1x512x4096 .bf16)
    (x : S21504x4096.Idx → EReal) (w1 w3 : S16x4096x1024.Idx → EReal) (w2 : S16x1024x4096.Idx → EReal) (e : Fin 16) (g : Fin 512 → Fin 1024)
    (p : Fin 21504) (r : Fin 256) (j : Fin 4096) (h0 : ∀ k, x0 (ix2 r k) = x (ix2 p k)) (h1 : ∀ k f, x1 (ix3 (0 : Fin 1) k f) = w1 (ix3 e k (g f)))
    (h2 : ∀ k f, x2 (ix3 (0 : Fin 1) k f) = w3 (ix3 e k (g f))) (h3 : ∀ f, x3 (ix3 (0 : Fin 1) f j) = w2 (ix3 e (g f) j)) :
    k0_pay1 (F := Ideal) x0 x1 x2 x3 (ix2 r j) = ∑ f : Fin 512, Moe.hid x w1 w3 e p (g f) * w2 (ix3 e (g f) j) := by
  refine (pay1_apply _ _ _ _ r j).trans (Finset.sum_congr rfl fun f _ => congrArg₂ (· * ·) ?_ (h3 f))
  have p1 : ∑ k : Fin 4096, x0 (ix2 r k) * x1 (ix3 (0 : Fin 1) k f) = Moe.proj x w1 e p (g f) :=
    Finset.sum_congr rfl fun k _ => congrArg₂ (· * ·) (h0 k) (h1 k f)
  have p3 : ∑ k : Fin 4096, x0 (ix2 r k) * x2 (ix3 (0 : Fin 1) k f) = Moe.proj x w3 e p (g f) :=
    Finset.sum_congr rfl fun k _ => congrArg₂ (· * ·) (h0 k) (h2 k f)
  exact congrArg₂ (· * ·) (congrArg₂ (· * ·) p1 (congrArg Ideal.logistic p1)) p3

/-! ## The blocks of each point -/

/-- Two places of a rank-3 array with the same coordinates are one. -/
theorem idx3 {a b c : Nat} {x y : (⟨3, ![a, b, c]⟩ : Shape).Idx} (h0 : (x 0).val = (y 0).val) (h1 : (x 1).val = (y 1).val)
    (h2 : (x 2).val = (y 2).val) : x = y := funext fun i => match i with
  | ⟨0, _⟩ => Fin.ext h0
  | ⟨1, _⟩ => Fin.ext h1
  | ⟨2, _⟩ => Fin.ext h2

/-- The grid's points in order: two for each block of rows. -/
theorem coords_eq : ∀ t : Fin grid0.N, (grid0.coords t 0).val = t.val / 2 ∧ (grid0.coords t 1).val = t.val % 2 := by
  decide +kernel

variable (tb : Tab) (m : (ℓ : Loc nD τ sig) → Buf (Elt Ideal) ℓ) (ρ : Dev nD → PrngReg) (c : Dev nD)

/-- Point `t`'s block of rows. -/
def bk (t : Fin (cfgA tb).N) : Fin 84 := ⟨t.val / 2, by have : t.val < 168 := t.isLt; omega⟩
/-- Column `f` of point `t`'s 512 columns of the hidden layer. -/
def col (t : Fin (cfgA tb).N) (f : Fin 512) : Fin 1024 := ⟨t.val % 2 * 512 + f.val, by omega⟩
/-- Point `t`'s expert. -/
def ex (t : Fin (cfgA tb).N) : Fin 16 := Moe.expert tb.be tb.ok (bk tb t)

/-- The rows, and the three weights, on core `c`. -/
abbrev X : S21504x4096.Idx → EReal := m ((c : Thread nD τ).loc main_arg2)
/-- The first weights as given. -/
abbrev W1 : S16x4096x1024.Idx → EReal := m ((c : Thread nD τ).loc main_arg3)
/-- The second weights, those of the gate's partner, as given. -/
abbrev W3 : S16x4096x1024.Idx → EReal := m ((c : Thread nD τ).loc main_arg4)
/-- The weights out of the hidden layer as given. -/
abbrev W2 : S16x1024x4096.Idx → EReal := m ((c : Thread nD τ).loc main_arg5)

/-- The block's number is half the point's. -/
theorem word0 (t : Fin (cfgA tb).N) : (BitVec.ofNat 32 (crd tb t 0).val).toNat = t.val / 2 := by
  have h : (crd tb t 0).val = t.val / 2 := (coords_eq t).1
  have : t.val < 168 := t.isLt
  rw [h, BitVec.toNat_ofNat]; omega
/-- The half's number is the point's parity. -/
theorem word1 (t : Fin (cfgA tb).N) : (BitVec.ofNat 32 (crd tb t 1).val).toNat = t.val % 2 := by
  have h : (crd tb t 1).val = t.val % 2 := (coords_eq t).2
  rw [h, BitVec.toNat_ofNat]; omega

/-- The expert the index maps read at point `t`. -/
theorem table_at (t : Fin (cfgA tb).N) : ((pfN tb).at 0 (Rect.unit (s := S84) ![(Scalar.indexCast (BitVec.ofNat 32 (crd tb t 0).val)).toNat] S1.size
    (k0_off1_inb (crd tb t))) numel1_S1).toNat = (ex tb t).val := by
  show (tb.be _).toNat = (tb.be _).toNat
  refine congrArg (fun z => (tb.be z).toNat) (funext fun a => ?_)
  match a with
  | ⟨0, _⟩ =>
    refine Fin.ext ?_
    show (BitVec.ofNat 32 (crd tb t 0).val).toNat + 1 * 0 = t.val / 2
    rw [word0, Nat.mul_zero, Nat.add_zero]

/-- The rows' block, entry by entry. -/
theorem blk0 (t : Fin (cfgA tb).N) (r : Fin 256) (k : Fin 4096) :
    iblk tb m ρ c (0 : Fin 5) t (ix2 r k) = X m c (ix2 (Moe.row (bk tb t) r) k) := by
  show X m c ((((cfgA tb).win (0 : Fin 5)).rect t).emb (ix2 r k)) = _
  have a0 := ((cfgA tb).win (0 : Fin 5)).rect_emb_val t (ix2 r k) (0 : Fin 2)
  have a1 := ((cfgA tb).win (0 : Fin 5)).rect_emb_val t (ix2 r k) (1 : Fin 2)
  refine congrArg _ (Shape.idx_ext₂ ?_ ?_)
  · exact a0.trans (congrArg (· * 256 + r.val) (word0 tb t))
  · exact a1.trans (Nat.zero_add _)

/-- The first weights' block, entry by entry. -/
theorem blk1 (t : Fin (cfgA tb).N) (k : Fin 4096) (f : Fin 512) :
    iblk tb m ρ c (1 : Fin 5) t (ix3 (0 : Fin 1) k f) = W1 m c (ix3 (ex tb t) k (col tb t f)) := by
  show W1 m c ((((cfgA tb).win (1 : Fin 5)).rect t).emb (ix3 (0 : Fin 1) k f)) = _
  have a0 := ((cfgA tb).win (1 : Fin 5)).rect_emb_val t (ix3 (0 : Fin 1) k f) (0 : Fin 3)
  have a1 := ((cfgA tb).win (1 : Fin 5)).rect_emb_val t (ix3 (0 : Fin 1) k f) (1 : Fin 3)
  have a2 := ((cfgA tb).win (1 : Fin 5)).rect_emb_val t (ix3 (0 : Fin 1) k f) (2 : Fin 3)
  refine congrArg _ (idx3 ?_ ?_ ?_)
  · exact a0.trans ((Nat.mul_one _).trans (table_at tb t))
  · exact a1.trans (Nat.zero_add _)
  · exact a2.trans (congrArg (· * 512 + f.val) (word1 tb t))

/-- The second weights' block, entry by entry. -/
theorem blk2 (t : Fin (cfgA tb).N) (k : Fin 4096) (f : Fin 512) :
    iblk tb m ρ c (2 : Fin 5) t (ix3 (0 : Fin 1) k f) = W3 m c (ix3 (ex tb t) k (col tb t f)) := by
  show W3 m c ((((cfgA tb).win (2 : Fin 5)).rect t).emb (ix3 (0 : Fin 1) k f)) = _
  have a0 := ((cfgA tb).win (2 : Fin 5)).rect_emb_val t (ix3 (0 : Fin 1) k f) (0 : Fin 3)
  have a1 := ((cfgA tb).win (2 : Fin 5)).rect_emb_val t (ix3 (0 : Fin 1) k f) (1 : Fin 3)
  have a2 := ((cfgA tb).win (2 : Fin 5)).rect_emb_val t (ix3 (0 : Fin 1) k f) (2 : Fin 3)
  refine congrArg _ (idx3 ?_ ?_ ?_)
  · exact a0.trans ((Nat.mul_one _).trans (table_at tb t))
  · exact a1.trans (Nat.zero_add _)
  · exact a2.trans (congrArg (· * 512 + f.val) (word1 tb t))

/-- The third weights' block, entry by entry. -/
theorem blk3 (t : Fin (cfgA tb).N) (f : Fin 512) (j : Fin 4096) :
    iblk tb m ρ c (3 : Fin 5) t (ix3 (0 : Fin 1) f j) = W2 m c (ix3 (ex tb t) (col tb t f) j) := by
  show W2 m c ((((cfgA tb).win (3 : Fin 5)).rect t).emb (ix3 (0 : Fin 1) f j)) = _
  have a0 := ((cfgA tb).win (3 : Fin 5)).rect_emb_val t (ix3 (0 : Fin 1) f j) (0 : Fin 3)
  have a1 := ((cfgA tb).win (3 : Fin 5)).rect_emb_val t (ix3 (0 : Fin 1) f j) (1 : Fin 3)
  have a2 := ((cfgA tb).win (3 : Fin 5)).rect_emb_val t (ix3 (0 : Fin 1) f j) (2 : Fin 3)
  refine congrArg _ (idx3 ?_ ?_ ?_)
  · exact a0.trans ((Nat.mul_one _).trans (table_at tb t))
  · exact a1.trans (congrArg (· * 512 + f.val) (word1 tb t))
  · exact a2.trans (Nat.zero_add _)

/-! ## What a block's two points leave -/

/-- Point `t`'s share of the sum over the hidden layer. -/
def part (t : Fin (cfgA tb).N) (r : Fin 256) (j : Fin 4096) : EReal :=
  ∑ f : Fin 512, Moe.hid (X m c) (W1 m c) (W3 m c) (ex tb t) (Moe.row (bk tb t) r) (col tb t f) * W2 m c (ix3 (ex tb t) (col tb t f) j)

/-- The body's product at point `t` is that half's part of the sum. -/
theorem pay1_at (t : Fin (cfgA tb).N) (r : Fin 256) (j : Fin 4096) :
    k0_pay1 (F := Ideal) (iblk tb m ρ c (0 : Fin 5) t) (iblk tb m ρ c (1 : Fin 5) t) (iblk tb m ρ c (2 : Fin 5) t) (iblk tb m ρ c (3 : Fin 5) t) (ix2 r j)
      = part tb m c t r j :=
  pay1_of _ _ _ _ (X m c) (W1 m c) (W3 m c) (W2 m c) (ex tb t) (col tb t) (Moe.row (bk tb t) r) r j (blk0 tb m ρ c t r) (blk1 tb m ρ c t)
    (blk2 tb m ρ c t) (fun f => blk3 tb m ρ c t f j)

/-- The two points' shares are the whole sum. -/
theorem parts (t t' : Fin (cfgA tb).N) (h : t.val % 2 = 1) (h' : t'.val + 1 = t.val) (r : Fin 256) (j : Fin 4096) :
    part tb m c t' r j + part tb m c t r j
      = Moe.ffn (X m c) (W1 m c) (W3 m c) (W2 m c) (ex tb t) (Moe.row (bk tb t) r) j := by
  have eb : bk tb t' = bk tb t := Fin.ext (by show t'.val / 2 = t.val / 2; omega)
  have ee : ex tb t' = ex tb t := by unfold ex; rw [eb]
  have ec' : ∀ f : Fin 512, col tb t' f = Fin.castAdd 512 f := fun f => Fin.ext (by show t'.val % 2 * 512 + f.val = f.val; omega)
  have ec : ∀ f : Fin 512, col tb t f = Fin.natAdd 512 f := fun f => Fin.ext (by show t.val % 2 * 512 + f.val = 512 + f.val; omega)
  unfold part Moe.ffn
  rw [eb, ee]
  simp only [ec, ec']
  exact (Fin.sum_univ_add (a := 512) (b := 512) (fun f : Fin 1024 =>
    Moe.hid (X m c) (W1 m c) (W3 m c) (ex tb t) (Moe.row (bk tb t) r) f * W2 m c (ix3 (ex tb t) f j))).symm

/-- A block is used in the kernel's test exactly if it is in the mathematics. -/
theorem used_iff (t : Fin (cfgA tb).N) : Used tb t ↔ Moe.IsUsed tb.nu (bk tb t).val := by
  have e : word tb.nu = tb.nu (ix1 (0 : Fin 1)) := congrArg tb.nu (funext fun a => by
    match a with
    | ⟨0, _⟩ => exact Subsingleton.elim (α := Fin 1) _ _)
  have h : (crd tb t 0).val = t.val / 2 := (coords_eq t).1
  unfold Used Moe.IsUsed k0_cond1
  dsimp only
  rw [e, h]
  show _ ↔ IntOp.cmpi .slt (BitVec.ofNat 32 (t.val / 2)) (tb.nu (ix1 (0 : Fin 1))) = 1#1
  unfold Scalar.cmpi
  generalize IntOp.cmpi .slt (BitVec.ofNat 32 (t.val / 2)) (tb.nu (ix1 (0 : Fin 1))) = a
  revert a
  decide

/-- The layer's result on core `c`. -/
abbrev Gc : S21504x4096.Idx → EReal := Moe.G tb.be tb.ok tb.nu (X m c) (W1 m c) (W3 m c) (W2 m c)

/-- After its second point a block's buffer holds the block of the layer's result. -/
theorem traj_at (t : Fin (cfgA tb).N) (h : t.val % 2 = 1) (r : Fin 256) (j : Fin 4096) :
    traj tb m ρ c t.val t.isLt (ix2 r j) = Gc tb m c (ix2 (Moe.row (bk tb t) r) j) := by
  have ht : t.val ≠ 0 := by omega
  have hn1 : ¬First tb t := fun e => by have := (first_iff tb t).mp e; omega
  obtain ⟨t', e'⟩ : ∃ t' : Fin (cfgA tb).N, t'.val + 1 = t.val := ⟨⟨t.val - 1, by have := t.isLt; omega⟩, by show t.val - 1 + 1 = t.val; omega⟩
  have hf : First tb t' := (first_iff tb t').mpr (by omega)
  have eb : bk tb t' = bk tb t := Fin.ext (by show t'.val / 2 = t.val / 2; omega)
  have er : Moe.blockOf (Moe.row (bk tb t) r) = bk tb t := Fin.ext (by
    have := r.isLt
    show ((bk tb t).val * 256 + r.val) / 256 = (bk tb t).val
    omega)
  have ep : prev tb m ρ c t = traj tb m ρ c t'.val t'.isLt := by
    unfold prev
    rw [dif_neg ht]
    have e : ∀ n (hn : n < (cfgA tb).N), n = t'.val → traj tb m ρ c n hn = traj tb m ρ c t'.val t'.isLt := by rintro n hn rfl; rfl
    exact e _ _ (by omega)
  have eG : Gc tb m c (ix2 (Moe.row (bk tb t) r) j)
      = if Moe.IsUsed tb.nu (bk tb t).val then Moe.ffn (X m c) (W1 m c) (W3 m c) (W2 m c) (ex tb t) (Moe.row (bk tb t) r) j else 0 := by
    show (if Moe.IsUsed tb.nu (Moe.blockOf (Moe.row (bk tb t) r)).val then
      Moe.ffn (X m c) (W1 m c) (W3 m c) (W2 m c) (Moe.expert tb.be tb.ok (Moe.blockOf (Moe.row (bk tb t) r))) (Moe.row (bk tb t) r) j else 0) = _
    rw [er]; rfl
  rw [eG, traj_eq, ep, traj_eq]
  by_cases q : Moe.IsUsed tb.nu (bk tb t).val
  · have q0 : Used tb t := (used_iff tb t).mpr q
    have q0' : Used tb t' := (used_iff tb t').mpr (by rw [eb]; exact q)
    rw [if_pos q, stepB tb m ρ c t _ q0 hn1, stepA tb m ρ c t' _ q0' hf, leftB_eq, leftA_eq]
    unfold k0_pay2
    rw [shapeCast_self]
    refine Eq.trans ?_ (parts tb m c t t' h e' r j)
    exact congrArg₂ (· + ·) (pay1_at tb m ρ c t' r j) (pay1_at tb m ρ c t r j)
  · have q0 : ¬Used tb t := fun e => q ((used_iff tb t).mp e)
    have q0' : ¬Used tb t' := fun e => q (by have := (used_iff tb t').mp e; rwa [eb] at this)
    rw [if_neg q, stepD tb m ρ c t _ q0 hn1, stepC tb m ρ c t' _ q0' hf, leftC_eq]
    show Ideal.ofBits .f32 0#32 = 0
    exact Ideal.ofBits_zero_f32

/-- What point `t` writes back is its block of the layer's result. -/
theorem flushed_eq (t : Fin (cfgA tb).N) (h : ((cfgA tb).win (4 : Fin 5)).flush t = true) :
    (dats tb m ρ 0 c).flushed (4 : Fin 5) t = (((cfgA tb).win (4 : Fin 5)).blk t).view.read (Elt Ideal) (Gc tb m c) := by
  rw [flush_eq] at h
  have h' : t.val % 2 = 1 := of_decide_eq_true h
  show ((cfgA tb).win (4 : Fin 5)).cut (crd tb t) ((dats tb m ρ 0 c).after (4 : Fin 5) t) = _
  rw [after4]
  funext y
  obtain ⟨r, j, rfl⟩ : ∃ (r : Fin 256) (j : Fin 4096), y = ix2 r j := ⟨y 0, y 1, eq_ix2 y⟩
  refine (traj_at tb m ρ c t h' r j).trans ?_
  show _ = Gc tb m c ((((cfgA tb).win (4 : Fin 5)).rect t).emb (ix2 r j))
  have a0 := ((cfgA tb).win (4 : Fin 5)).rect_emb_val t (ix2 r j) (0 : Fin 2)
  have a1 := ((cfgA tb).win (4 : Fin 5)).rect_emb_val t (ix2 r j) (1 : Fin 2)
  refine congrArg _ (Shape.idx_ext₂ ?_ ?_).symm
  · exact a0.trans (congrArg (· * 256 + r.val) (word0 tb t))
  · exact a1.trans (Nat.zero_add _)

/-- The blocks written back tile the result. -/
theorem cover (i : S21504x4096.Idx) :
    ∃ t : Fin (cfgA tb).N, ((cfgA tb).win (4 : Fin 5)).flush t = true ∧ i ∈ (((cfgA tb).win (4 : Fin 5)).blk t).view.set := by
  have h0 : (i 0 : Nat) < 21504 := (i 0).isLt
  have h1 : (i 1 : Nat) < 4096 := (i 1).isLt
  obtain ⟨t, et⟩ : ∃ t : Fin (cfgA tb).N, t.val = 2 * ((i 0 : Nat) / 256) + 1 :=
    ⟨⟨2 * ((i 0 : Nat) / 256) + 1, by show 2 * ((i 0 : Nat) / 256) + 1 < 168; omega⟩, rfl⟩
  refine ⟨t, by rw [flush_eq]; exact decide_eq_true (by omega), ?_⟩
  show i ∈ ((View.whole main_v0).slice (((cfgA tb).win (4 : Fin 5)).rect t)).set
  rw [View.set_slice_whole, Rect.mem_set_unit]
  have w := word0 tb t
  intro a
  match a with
  | ⟨0, _⟩ =>
    show (BitVec.ofNat 32 (crd tb t 0).val).toNat * 256 ≤ (i 0 : Nat) ∧ (i 0 : Nat) < (BitVec.ofNat 32 (crd tb t 0).val).toNat * 256 + 256
    rw [w]; omega
  | ⟨1, _⟩ =>
    show 0 * 4096 ≤ (i 1 : Nat) ∧ (i 1 : Nat) < 0 * 4096 + 4096
    omega

/-- So the result array ends holding the layer's result. -/
theorem final : (dats tb m ρ 0 c).arrAt (4 : Fin 5) (cfgA tb).N = Gc tb m c :=
  (dats tb m ρ 0 c).arrAt_eq_of_cover (4 : Fin 5) _ (fun t h => flushed_eq tb m ρ c t h) (cover tb)

end Cert.Proof.MoeI

end
-- ==== Proof.MoeRun.lean ====
/-
  The experts' layer: one step of its body in each of the four cases a step can be in.
-/
module

public import proofs.«01_k».proof.Defs
public import proofs.«01_k».proof.Proof.Gen.Moe
public import proofs.«01_k».proof.Proof.Gen.Moe.Launch
public import proofs.«01_k».proof.Proof.Gen.Moe.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.PureOps.BitExact

@[expose] public section

set_option maxRecDepth 16384
set_option Elab.async false

noncomputable section

namespace Cert.Proof.MoeK

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables, whole: the blocks' experts, and the number of used blocks. -/
abbrev tbM0_0 : Memref sig .tc .smem S84 .i32 := Memref.whole main_arg0
/-- The number of used blocks, whole. -/
abbrev tbM0_1 : Memref sig .tc .smem S1 .i32 := Memref.whole main_arg1

/-- The number of used blocks, as the body loads it. -/
abbrev word (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

/-- One staging buffer of the output, through which contents are stated. -/
abbrev VO : View sig .tc .vmem S256x4096 .f32 := (Memref.whole cc0_stg4_0 : Memref sig .tc .vmem S256x4096 .f32).view

variable (c : Dev nD) (i : grid0.Coords) (arg4 : Memref sig .tc .vmem S256x4096 .bf16) (harg4 : arg4.IsWhole)
  (arg5 : Memref sig .tc .vmem S1x4096x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S256x4096 .f32) (harg8 : arg8.IsWhole)
  (T0 : S84.Idx → Elt Bits .i32) (T1 : S1.Idx → Elt Bits .i32) (x0 : S256x4096.Idx → Elt Bits .bf16) (x1 : S1x4096x512.Idx → Elt Bits .bf16)
  (x2 : S1x4096x512.Idx → Elt Bits .bf16) (x3 : S1x512x4096.Idx → Elt Bits .bf16) (xo4 : S256x4096.Idx → Elt Bits .f32)

set_option backward.proofsInPublic true in
set_option maxHeartbeats 8000000 in
/-- A used block, first half of the hidden columns: the body stores its product. -/
noncomputable def runA (k0_h1 : k0_cond1 i (word T1) = 1#1) (k0_h2 : k0_cond2 i = 1#1) (k0_h3 : ¬(k0_cond3 i = 1#1)) (k0_h4 : ¬(k0_cond4 i (word T1) = 1#1)) :
    { out0 : List (View.Piece (Elt Bits) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = k0_cond2 _ = _; exact k0_h2) | (guard_target = ¬(k0_cond3 _ = _); exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverA (k0_h1 : k0_cond1 i (word T1) = 1#1) (k0_h2 : k0_cond2 i = 1#1) (k0_h3 : ¬(k0_cond3 i = 1#1)) (k0_h4 : ¬(k0_cond4 i (word T1) = 1#1)) (y : S256x4096.Idx) :
    ∃ pc ∈ (runA c i arg4 harg4 arg5 harg5 arg6 harg6 arg7 harg7 arg8 harg8 T0 T1 x0 x1 x2 x3 k0_h1 k0_h2 k0_h3 k0_h4).1, y ∈ pc.1.set :=
  View.cover_of_tiledL (runA c i arg4 harg4 arg5 harg5 arg6 harg6 arg7 harg7 arg8 harg8 T0 T1 x0 x1 x2 x3 k0_h1 k0_h2 k0_h3 k0_h4).1 S256x4096.size (by sl_kernel_rfl) y

/-- What this case leaves in the output's block. -/
noncomputable def leftA (k0_h1 : k0_cond1 i (word T1) = 1#1) (k0_h2 : k0_cond2 i = 1#1) (k0_h3 : ¬(k0_cond3 i = 1#1)) (k0_h4 : ¬(k0_cond4 i (word T1) = 1#1)) : S256x4096.Idx → Elt Bits .f32 :=
  VO.read (Elt Bits) (VO.writes (Elt Bits) VO.junk (runA c i arg4 harg4 arg5 harg5 arg6 harg6 arg7 harg7 arg8 harg8 T0 T1 x0 x1 x2 x3 k0_h1 k0_h2 k0_h3 k0_h4).1)

set_option backward.proofsInPublic true in
set_option maxHeartbeats 8000000 in
/-- A used block, second half: the body adds its product to what the block holds. -/
noncomputable def runB (k0_h1 : k0_cond1 i (word T1) = 1#1) (k0_h2 : ¬(k0_cond2 i = 1#1)) (k0_h3 : k0_cond3 i = 1#1) (k0_h4 : ¬(k0_cond4 i (word T1) = 1#1)) :
    { out0 : List (View.Piece (Elt Bits) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare xo4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverB (k0_h1 : k0_cond1 i (word T1) = 1#1) (k0_h2 : ¬(k0_cond2 i = 1#1)) (k0_h3 : k0_cond3 i = 1#1) (k0_h4 : ¬(k0_cond4 i (word T1) = 1#1)) (y : S256x4096.Idx) :
    ∃ pc ∈ (runB c i arg4 harg4 arg5 harg5 arg6 harg6 arg7 harg7 arg8 harg8 T0 T1 x0 x1 x2 x3 xo4 k0_h1 k0_h2 k0_h3 k0_h4).1, y ∈ pc.1.set :=
  View.cover_of_tiledL (runB c i arg4 harg4 arg5 harg5 arg6 harg6 arg7 harg7 arg8 harg8 T0 T1 x0 x1 x2 x3 xo4 k0_h1 k0_h2 k0_h3 k0_h4).1 S256x4096.size (by sl_kernel_rfl) y

/-- What this case leaves in the output's block. -/
noncomputable def leftB (k0_h1 : k0_cond1 i (word T1) = 1#1) (k0_h2 : ¬(k0_cond2 i = 1#1)) (k0_h3 : k0_cond3 i = 1#1) (k0_h4 : ¬(k0_cond4 i (word T1) = 1#1)) : S256x4096.Idx → Elt Bits .f32 :=
  VO.read (Elt Bits) (VO.writes (Elt Bits) VO.junk (runB c i arg4 harg4 arg5 harg5 arg6 harg6 arg7 harg7 arg8 harg8 T0 T1 x0 x1 x2 x3 xo4 k0_h1 k0_h2 k0_h3 k0_h4).1)

set_option backward.proofsInPublic true in
set_option maxHeartbeats 8000000 in
/-- An unused block, first step: the body stores zeros. -/
noncomputable def runC (k0_h1 : ¬(k0_cond1 i (word T1) = 1#1)) (k0_h4 : k0_cond4 i (word T1) = 1#1) :
    { out0 : List (View.Piece (Elt Bits) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond4 _ _ = _; exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverC (k0_h1 : ¬(k0_cond1 i (word T1) = 1#1)) (k0_h4 : k0_cond4 i (word T1) = 1#1) (y : S256x4096.Idx) :
    ∃ pc ∈ (runC c i arg4 harg4 arg5 harg5 arg6 harg6 arg7 harg7 arg8 harg8 T0 T1 x0 x1 x2 x3 k0_h1 k0_h4).1, y ∈ pc.1.set :=
  View.cover_of_tiledL (runC c i arg4 harg4 arg5 harg5 arg6 harg6 arg7 harg7 arg8 harg8 T0 T1 x0 x1 x2 x3 k0_h1 k0_h4).1 S256x4096.size (by sl_kernel_rfl) y

/-- What this case leaves in the output's block. -/
noncomputable def leftC (k0_h1 : ¬(k0_cond1 i (word T1) = 1#1)) (k0_h4 : k0_cond4 i (word T1) = 1#1) : S256x4096.Idx → Elt Bits .f32 :=
  VO.read (Elt Bits) (VO.writes (Elt Bits) VO.junk (runC c i arg4 harg4 arg5 harg5 arg6 harg6 arg7 harg7 arg8 harg8 T0 T1 x0 x1 x2 x3 k0_h1 k0_h4).1)

set_option backward.proofsInPublic true in
set_option maxHeartbeats 8000000 in
/-- An unused block, second step: the body does nothing. -/
theorem runD (k0_h1 : ¬(k0_cond1 i (word T1) = 1#1)) (k0_h4 : ¬(k0_cond4 i (word T1) = 1#1)) (y4 : S256x4096.Idx → Elt Bits .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4) -∗ K ⟨⟩))
          ⊢ wp frame (wpE (defs₀ (F := Bits)) Variants.none c none) Set.univ (cc0_moe_ffn i tbM0_0 (Memref.isWhole_whole _) tbM0_1 (Memref.isWhole_whole _) arg4 harg4 arg5 harg5 arg6 harg6 arg7 harg7 arg8 harg8) K := by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = ¬(k0_cond1 _ _ = _); exact k0_h1) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; · ipureintro; exact harg8.read_unread _
    iexact HO4

end Cert.Proof.MoeK

end
-- ==== Proof.MoeFrame.lean ====
/-
  The experts' layer: the kernel runs to its end from any tables that name only the sixteen experts.
-/
module

public import proofs.«01_k».proof.Proof.MoeRun
public import Idealize.ShloMosaic.Lib.Pipeline.Quiescent
public import Idealize.ShloMosaic.Lib.Claim

@[expose] public section

set_option maxRecDepth 16384
set_option Elab.async false

noncomputable section

namespace Cert.Proof.MoeK

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The pipeline's share of the ghost state. -/
abbrev EP : Emb (UR sig nD τ) 𝕄 := emb₁

/-- The two tables' contents, every expert one of the sixteen. -/
structure Tab where
  be : S84.Idx → BitVec 32
  nu : S1.Idx → BitVec 32
  ok : ∀ x, (be x).toNat < 16

variable (tb : Tab)

set_option backward.proofsInPublic true in
/-- The tables' contents as the pipeline takes them. -/
def pfN : pre0.Contents (Elt Bits) := fun | ⟨0, _⟩ => tb.be | ⟨1, _⟩ => tb.nu | ⟨_ + 2, h⟩ => absurd h (by simp)

/-- The coordinates of a grid point are small. -/
theorem crd_lt (i : grid0.Coords) : (BitVec.ofNat 32 (i 1).val).toNat < 2 := by
  have h : (i 1).val < 2 := (i 1).isLt
  rw [BitVec.toNat_ofNat]; omega

/-- Every expert read from the table has its blocks inside the weights. -/
theorem in1 (i : grid0.Coords) (a : Fin 3) : (cc0_transform_1 k0_off1_inb numel1_S1 (pfN tb) i a + 1) * S1x4096x512.size a ≤ S16x4096x1024.size a := by
  have h := crd_lt i
  match a with
  | ⟨0, _⟩ => exact (Nat.mul_one _).trans_le (tb.ok _)
  | ⟨1, _⟩ => exact (by decide : (0 + 1) * 4096 ≤ 4096)
  | ⟨2, _⟩ => show ((BitVec.ofNat 32 (i 1).val).toNat + 1) * 512 ≤ 1024; omega
/-- The second weights' block lies inside the weights. -/
theorem in2 (i : grid0.Coords) (a : Fin 3) : (cc0_transform_2 k0_off1_inb numel1_S1 (pfN tb) i a + 1) * S1x4096x512.size a ≤ S16x4096x1024.size a := in1 tb i a
/-- The third weights' block lies inside the weights. -/
theorem in3 (i : grid0.Coords) (a : Fin 3) : (cc0_transform_3 k0_off1_inb numel1_S1 (pfN tb) i a + 1) * S1x512x4096.size a ≤ S16x1024x4096.size a := by
  have h := crd_lt i
  match a with
  | ⟨0, _⟩ => exact (Nat.mul_one _).trans_le (tb.ok _)
  | ⟨1, _⟩ => show ((BitVec.ofNat 32 (i 1).val).toNat + 1) * 512 ≤ 1024; omega
  | ⟨2, _⟩ => exact (by decide : (0 + 1) * 4096 ≤ 4096)

/-- So the pipeline's side condition holds of these tables. -/
theorem ok_pfN : ok0 (F := Bits) (pfN tb) :=
  ⟨fun i => ⟨in1 tb i, .inr (Affine.block_words_dvd (s := S16x4096x1024) (p := EltTy.packing .bf16) (by decide) (by decide))⟩,
   fun i => ⟨in2 tb i, .inr (Affine.block_words_dvd (s := S16x4096x1024) (p := EltTy.packing .bf16) (by decide) (by decide))⟩,
   fun i => ⟨in3 tb i, .inr (Affine.block_words_dvd (s := S16x1024x4096) (p := EltTy.packing .bf16) (by decide) (by decide))⟩⟩

/-- The pipeline at these tables. -/
def adm : (pcfg0 (F := Bits)).Adm := ⟨pfN tb, ok_pfN tb⟩
/-- The pipeline's configuration at these tables. -/
abbrev cfgA : Pipeline.Cfg sig Λ₀ := cfg0 (F := Bits) (adm tb)
/-- The one pipeline of the program. -/
abbrev pcs : Fin 1 → Pipeline.Cfg sig Λ₀ := Pipeline.pin (pcfgs (F := Bits)) fun _ => adm tb

variable (m : (ℓ : Loc nD τ sig) → Buf (Elt Bits) ℓ) (ρ : Dev nD → PrngReg)

/-- Point `t`'s coordinates. -/
abbrev crd (t : Fin (cfgA tb).N) : (cfgA tb).grid.Coords := (cfgA tb).grid.coords t

/-! Each window's staging buffer at point `t`, and that it is whole. -/
/-- The buffer of operand 0 at point `t`. -/
abbrev ms0 (t : Fin (cfgA tb).N) : Memref sig .tc .vmem S256x4096 .bf16 := spec0_0.stage ((cfgA tb).slots t (0 : Fin 5))
/-- Operand 0's buffer is taken whole. -/
abbrev hs0 (t : Fin (cfgA tb).N) : (ms0 tb t).IsWhole := hstage0_0 (((cfgA tb).slots t (0 : Fin 5)).cast nbuf0_0)
/-- The buffer of operand 1 at point `t`. -/
abbrev ms1 (t : Fin (cfgA tb).N) : Memref sig .tc .vmem S1x4096x512 .bf16 := spec0_1.stage ((cfgA tb).slots t (1 : Fin 5))
/-- Operand 1's buffer is taken whole. -/
abbrev hs1 (t : Fin (cfgA tb).N) : (ms1 tb t).IsWhole := hstage0_1 (((cfgA tb).slots t (1 : Fin 5)).cast nbuf0_1)
/-- The buffer of operand 2 at point `t`. -/
abbrev ms2 (t : Fin (cfgA tb).N) : Memref sig .tc .vmem S1x4096x512 .bf16 := spec0_2.stage ((cfgA tb).slots t (2 : Fin 5))
/-- Operand 2's buffer is taken whole. -/
abbrev hs2 (t : Fin (cfgA tb).N) : (ms2 tb t).IsWhole := hstage0_2 (((cfgA tb).slots t (2 : Fin 5)).cast nbuf0_2)
/-- The buffer of operand 3 at point `t`. -/
abbrev ms3 (t : Fin (cfgA tb).N) : Memref sig .tc .vmem S1x512x4096 .bf16 := spec0_3.stage ((cfgA tb).slots t (3 : Fin 5))
/-- Operand 3's buffer is taken whole. -/
abbrev hs3 (t : Fin (cfgA tb).N) : (ms3 tb t).IsWhole := hstage0_3 (((cfgA tb).slots t (3 : Fin 5)).cast nbuf0_3)
/-- The buffer of operand 4 at point `t`. -/
abbrev ms4 (t : Fin (cfgA tb).N) : Memref sig .tc .vmem S256x4096 .f32 := spec0_4.stage ((cfgA tb).slots t (4 : Fin 5))
/-- Operand 4's buffer is taken whole. -/
abbrev hs4 (t : Fin (cfgA tb).N) : (ms4 tb t).IsWhole := hstage0_4 (((cfgA tb).slots t (4 : Fin 5)).cast nbuf0_4)

/-- Window `w`'s block at point `t`, read off its array at launch. -/
def iblk (c : Dev nD) (w : Fin (cfgA tb).W) (t : Fin (cfgA tb).N) : (((cfgA tb).win w).xblock (crd tb t)).Idx → Elt Bits ((cfgA tb).win w).elt :=
  (((cfgA tb).win w).blk t).view.read (Elt Bits) ((s₀ m ρ).mem (((cfgA tb).win w).arr.view.loc (c : Thread nD τ)))

/-! ## The four cases -/

/-- The block at point `t` is used. -/
abbrev Used (t : Fin (cfgA tb).N) : Prop := k0_cond1 (crd tb t) (word tb.nu) = 1#1
/-- Point `t` is the first of its block. -/
abbrev First (t : Fin (cfgA tb).N) : Prop := k0_cond2 (crd tb t) = 1#1

/-- A point is the first of its block exactly if it is even. -/
theorem parity : ∀ t : Fin grid0.N, (k0_cond2 (grid0.coords t) = 1#1 ↔ t.val % 2 = 0) ∧ (k0_cond3 (grid0.coords t) = 1#1 ↔ ¬t.val % 2 = 0) := by
  decide +kernel

/-- The first points are the even ones. -/
theorem first_iff (t : Fin (cfgA tb).N) : First tb t ↔ t.val % 2 = 0 := (parity t).1

/-- The third condition holds exactly at a block's second point. -/
theorem cond3_iff (t : Fin (cfgA tb).N) : k0_cond3 (crd tb t) = 1#1 ↔ ¬First tb t :=
  (parity t).2.trans (not_congr (first_iff tb t)).symm

/-- Zeros are stored exactly at the first point of an unused block. -/
theorem cond4_iff (i : grid0.Coords) (w : BitVec 32) : k0_cond4 i w = 1#1 ↔ ¬k0_cond1 i w = 1#1 ∧ k0_cond2 i = 1#1 := by
  unfold k0_cond4 k0_cond1 k0_cond2
  dsimp only
  generalize Scalar.cmpi .slt (BitVec.ofNat 32 (i 0).val) w = a
  generalize Scalar.cmpi .eq (BitVec.ofNat 32 (i 1).val) 0#32 = b
  revert a b
  decide

/-- Whether the write-back at point `t` is where it is said to be. -/
def flushAt (t : Fin 168) : Bool := ((cfgA tb).win (4 : Fin 5)).flushF t == decide (t.val % 2 = 1)

/-- The output's block is written back at the odd points. -/
theorem flush_eq (t : Fin (cfgA tb).N) : ((cfgA tb).win (4 : Fin 5)).flush t = decide (t.val % 2 = 1) := by
  rw [Pipeline.Window.flush_eq_flushF]
  have h : decide (∀ t : Fin 168, flushAt tb t = true) = true := by sl_kernel_rfl
  exact eq_of_beq (of_decide_eq_true h t)

/-- Where the body stores nothing. -/
theorem idle_eq (t : Fin (cfgA tb).N) : (cfgA tb).idle (4 : Fin 5) ((cfgA tb).grid.coords t) = true ↔ ¬Used tb t ∧ ¬First tb t := by
  have e : (cfgA tb).idle (4 : Fin 5) ((cfgA tb).grid.coords t) = (!(k0_cond1 (crd tb t) (word tb.nu) == 1#1 && k0_cond2 (crd tb t) == 1#1)
      && !(k0_cond1 (crd tb t) (word tb.nu) == 1#1 && k0_cond3 (crd tb t) == 1#1) && !(k0_cond4 (crd tb t) (word tb.nu) == 1#1)) := rfl
  rw [e]
  have h3 := cond3_iff tb t
  have h4 := cond4_iff (crd tb t) (word tb.nu)
  by_cases q0 : Used tb t <;> by_cases q1 : First tb t <;> simp_all

/-- Outside an unused block's second point the output is stored. -/
theorem idle_false {t : Fin (cfgA tb).N} (h : ¬(¬Used tb t ∧ ¬First tb t)) : (cfgA tb).idle (4 : Fin 5) ((cfgA tb).grid.coords t) = false :=
  Bool.eq_false_iff.mpr fun e => h ((idle_eq tb t).mp e)

/-- Nothing has been stored in the output's buffer since its last write-back exactly before the even points. -/
theorem fresh_eq (t : Fin (cfgA tb).N) : (cfgA tb).fresh (4 : Fin 5) t.val = decide (t.val % 2 = 0) :=
  Pipeline.Cfg.fresh_tab (cfgA tb) (4 : Fin 5) (fun n => decide (n % 2 = 0)) rfl (fun t => by
    rw [flush_eq]
    by_cases h : t.val % 2 = 0
    · rw [idle_false tb (fun e => e.2 ((first_iff tb t).mpr h))]
      have h' : (t.val + 1) % 2 = 1 := by omega
      simp [h, h']
    · have h' : (t.val + 1) % 2 = 0 := by omega
      have h'' : t.val % 2 = 1 := by omega
      simp [h', h'']) t.val (Nat.le_of_lt t.isLt)

/-! Each case's conditions, as the body tests them, and its schedule. -/

/-- The four conditions at the first point of a used block. -/
theorem hypsA {t : Fin (cfgA tb).N} (q0 : Used tb t) (q1 : First tb t) :
    k0_cond1 (crd tb t) (word tb.nu) = 1#1 ∧ k0_cond2 (crd tb t) = 1#1 ∧ ¬k0_cond3 (crd tb t) = 1#1 ∧ ¬k0_cond4 (crd tb t) (word tb.nu) = 1#1 :=
  ⟨q0, q1, fun h => (cond3_iff tb t).mp h q1, fun h => ((cond4_iff _ _).mp h).1 q0⟩
/-- The four conditions at the second point of a used block. -/
theorem hypsB {t : Fin (cfgA tb).N} (q0 : Used tb t) (q1 : ¬First tb t) :
    k0_cond1 (crd tb t) (word tb.nu) = 1#1 ∧ ¬k0_cond2 (crd tb t) = 1#1 ∧ k0_cond3 (crd tb t) = 1#1 ∧ ¬k0_cond4 (crd tb t) (word tb.nu) = 1#1 :=
  ⟨q0, q1, (cond3_iff tb t).mpr q1, fun h => ((cond4_iff _ _).mp h).1 q0⟩
/-- The four conditions at the first point of an unused block. -/
theorem hypsC {t : Fin (cfgA tb).N} (q0 : ¬Used tb t) (q1 : First tb t) :
    ¬k0_cond1 (crd tb t) (word tb.nu) = 1#1 ∧ k0_cond4 (crd tb t) (word tb.nu) = 1#1 := ⟨q0, (cond4_iff _ _).mpr ⟨q0, q1⟩⟩
/-- The four conditions at the second point of an unused block. -/
theorem hypsD {t : Fin (cfgA tb).N} (q0 : ¬Used tb t) (q1 : ¬First tb t) :
    ¬k0_cond1 (crd tb t) (word tb.nu) = 1#1 ∧ ¬k0_cond4 (crd tb t) (word tb.nu) = 1#1 := ⟨q0, fun h => q1 ((cond4_iff _ _).mp h).2⟩

/-- At a first point the output is stored anew and not written back. -/
theorem sched_first {t : Fin (cfgA tb).N} (q : First tb t) :
    (cfgA tb).idle (4 : Fin 5) ((cfgA tb).grid.coords t) = false ∧ ((cfgA tb).win (4 : Fin 5)).flush t = false ∧ (cfgA tb).fresh (4 : Fin 5) t.val = true := by
  have h := (first_iff tb t).mp q
  rw [flush_eq, fresh_eq]
  exact ⟨idle_false tb fun e => e.2 q, decide_eq_false (by omega), decide_eq_true h⟩
/-- At a second point the output is written back. -/
theorem sched_second {t : Fin (cfgA tb).N} (q : ¬First tb t) :
    ((cfgA tb).win (4 : Fin 5)).flush t = true ∧ (cfgA tb).fresh (4 : Fin 5) t.val = false := by
  have h : ¬t.val % 2 = 0 := fun e => q ((first_iff tb t).mpr e)
  rw [flush_eq, fresh_eq]
  exact ⟨decide_eq_true (by omega), decide_eq_false h⟩

/-! ## What the output's buffer holds after each point -/

/-- One step: what the output's buffer holds after point `t`, from what it held before. -/
def step (c : Dev nD) (t : Fin (cfgA tb).N) (prev : S256x4096.Idx → Elt Bits .f32) : S256x4096.Idx → Elt Bits .f32 :=
  if q0 : Used tb t then
    if q1 : First tb t then
      leftA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsA tb q0 q1).1 (hypsA tb q0 q1).2.1 (hypsA tb q0 q1).2.2.1 (hypsA tb q0 q1).2.2.2
    else
      leftB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) prev (hypsB tb q0 q1).1 (hypsB tb q0 q1).2.1 (hypsB tb q0 q1).2.2.1 (hypsB tb q0 q1).2.2.2
  else
    if q1 : First tb t then
      leftC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsC tb q0 q1).1 (hypsC tb q0 q1).2
    else prev

/-- What it holds after position `n`. -/
def traj (c : Dev nD) : (n : ℕ) → n < (cfgA tb).N → (S256x4096.Idx → Elt Bits .f32)
  | 0, h => step tb m ρ c ⟨0, h⟩ default
  | n + 1, h => step tb m ρ c ⟨n + 1, h⟩ (traj c n (Nat.lt_of_succ_lt h))

/-- What it held before point `t`. -/
def prev (c : Dev nD) (t : Fin (cfgA tb).N) : S256x4096.Idx → Elt Bits .f32 :=
  if h : t.val = 0 then default else traj tb m ρ c (t.val - 1) (by omega)

/-- The output's buffer after a point is one step from what was there before. -/
theorem traj_eq (c : Dev nD) (t : Fin (cfgA tb).N) : traj tb m ρ c t.val t.isLt = step tb m ρ c t (prev tb m ρ c t) := by
  obtain ⟨n, hn⟩ := t
  cases n with
  | zero => rfl
  | succ n => unfold prev; simp only [Nat.add_one_ne_zero, dif_neg, not_false_eq_true]; rfl

/-- The step at the first point of a used block. -/
theorem stepA (c : Dev nD) (t : Fin (cfgA tb).N) (p : S256x4096.Idx → Elt Bits .f32) (q0 : Used tb t) (q1 : First tb t) :
    step tb m ρ c t p = leftA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsA tb q0 q1).1 (hypsA tb q0 q1).2.1 (hypsA tb q0 q1).2.2.1 (hypsA tb q0 q1).2.2.2 := by
  unfold step; simp only [dif_pos q0, dif_pos q1]
/-- The step at the second point of a used block. -/
theorem stepB (c : Dev nD) (t : Fin (cfgA tb).N) (p : S256x4096.Idx → Elt Bits .f32) (q0 : Used tb t) (q1 : ¬First tb t) :
    step tb m ρ c t p = leftB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) p (hypsB tb q0 q1).1 (hypsB tb q0 q1).2.1 (hypsB tb q0 q1).2.2.1 (hypsB tb q0 q1).2.2.2 := by
  unfold step; simp only [dif_pos q0, dif_neg q1]
/-- The step at the first point of an unused block. -/
theorem stepC (c : Dev nD) (t : Fin (cfgA tb).N) (p : S256x4096.Idx → Elt Bits .f32) (q0 : ¬Used tb t) (q1 : First tb t) :
    step tb m ρ c t p = leftC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsC tb q0 q1).1 (hypsC tb q0 q1).2 := by
  unfold step; simp only [dif_neg q0, dif_pos q1]
/-- The step at the second point of an unused block. -/
theorem stepD (c : Dev nD) (t : Fin (cfgA tb).N) (p : S256x4096.Idx → Elt Bits .f32) (q0 : ¬Used tb t) (q1 : ¬First tb t) :
    step tb m ρ c t p = p := by
  unfold step; simp only [dif_neg q0, dif_neg q1]

/-! ## The pipeline's proof data -/

/-- Between points the body keeps its half of the two tables. -/
def Phi (c : Dev nD) : sProp 𝕄 :=
  iprop((tbM0_0.view.loc (c : Thread nD τ) ↦{fullShare.right} tb.be) ∗ (tbM0_1.view.loc (c : Thread nD τ) ↦{fullShare.right} tb.nu))

/-- The proof data of the pipeline on core `c`. -/
def dats (_ : Fin 1) (c : Dev nD) : Dat τ (Elt Bits) Unit ℕ (UR sig nD τ) ℕ (cfgA tb) c where
  A w := (s₀ m ρ).mem (((cfgA tb).win w).arr.view.loc (c : Thread nD τ))
  after w t := match w with
    | ⟨0, _⟩ => iblk tb m ρ c (0 : Fin 5) t
    | ⟨1, _⟩ => iblk tb m ρ c (1 : Fin 5) t
    | ⟨2, _⟩ => iblk tb m ρ c (2 : Fin 5) t
    | ⟨3, _⟩ => iblk tb m ρ c (3 : Fin 5) t
    | ⟨4, _⟩ => traj tb m ρ c t.val t.isLt
  Φ _ := Phi tb c
  q _ := fullShare
  owed _ := 0

/-- The body leaves operand 0's block as it was fetched. -/
theorem after0 (c : Dev nD) (t : Fin (cfgA tb).N) : (dats tb m ρ 0 c).after (0 : Fin 5) t = iblk tb m ρ c (0 : Fin 5) t := rfl
/-- The body leaves operand 1's block as it was fetched. -/
theorem after1 (c : Dev nD) (t : Fin (cfgA tb).N) : (dats tb m ρ 0 c).after (1 : Fin 5) t = iblk tb m ρ c (1 : Fin 5) t := rfl
/-- The body leaves operand 2's block as it was fetched. -/
theorem after2 (c : Dev nD) (t : Fin (cfgA tb).N) : (dats tb m ρ 0 c).after (2 : Fin 5) t = iblk tb m ρ c (2 : Fin 5) t := rfl
/-- The body leaves operand 3's block as it was fetched. -/
theorem after3 (c : Dev nD) (t : Fin (cfgA tb).N) : (dats tb m ρ 0 c).after (3 : Fin 5) t = iblk tb m ρ c (3 : Fin 5) t := rfl
/-- After the body, operand 4's buffer. -/
theorem after4 (c : Dev nD) (t : Fin (cfgA tb).N) : (dats tb m ρ 0 c).after (4 : Fin 5) t = traj tb m ρ c t.val t.isLt := rfl

/-! An input's buffer holds its block when the body runs. -/

/-- Before the body, operand 0's buffer holds its block. -/
theorem before0 (c : Dev nD) (t : Fin (cfgA tb).N) (d) : (dats tb m ρ 0 c).before (0 : Fin 5) t d = iblk tb m ρ c (0 : Fin 5) t :=
  ((dats tb m ρ 0 c).before_in_eq_fetched (0 : Fin 5) rfl (fun _ => rfl) (fun _ _ _ => rfl)
    (fun t => by rw [after0]; unfold Dat.blockOf iblk; rfl) t d).trans (by unfold Dat.fetched Dat.blockOf iblk; rfl)
/-- Before the body, operand 1's buffer holds its block. -/
theorem before1 (c : Dev nD) (t : Fin (cfgA tb).N) (d) : (dats tb m ρ 0 c).before (1 : Fin 5) t d = iblk tb m ρ c (1 : Fin 5) t :=
  ((dats tb m ρ 0 c).before_in_eq_fetched (1 : Fin 5) rfl (fun _ => rfl) (fun _ _ _ => rfl)
    (fun t => by rw [after1]; unfold Dat.blockOf iblk; rfl) t d).trans (by unfold Dat.fetched Dat.blockOf iblk; rfl)
/-- Before the body, operand 2's buffer holds its block. -/
theorem before2 (c : Dev nD) (t : Fin (cfgA tb).N) (d) : (dats tb m ρ 0 c).before (2 : Fin 5) t d = iblk tb m ρ c (2 : Fin 5) t :=
  ((dats tb m ρ 0 c).before_in_eq_fetched (2 : Fin 5) rfl (fun _ => rfl) (fun _ _ _ => rfl)
    (fun t => by rw [after2]; unfold Dat.blockOf iblk; rfl) t d).trans (by unfold Dat.fetched Dat.blockOf iblk; rfl)
/-- Before the body, operand 3's buffer holds its block. -/
theorem before3 (c : Dev nD) (t : Fin (cfgA tb).N) (d) : (dats tb m ρ 0 c).before (3 : Fin 5) t d = iblk tb m ρ c (3 : Fin 5) t :=
  ((dats tb m ρ 0 c).before_in_eq_fetched (3 : Fin 5) rfl (fun _ => rfl) (fun _ _ _ => rfl)
    (fun t => by rw [after3]; unfold Dat.blockOf iblk; rfl) t d).trans (by unfold Dat.fetched Dat.blockOf iblk; rfl)

/-- What the output's buffer holds carries over the points where the body stores nothing. -/
theorem carry (c : Dev nD) (t : Fin (cfgA tb).N) (ht : t.val ≠ 0) (hi : (cfgA tb).idle (4 : Fin 5) ((cfgA tb).grid.coords t) = true)
    (_ : (cfgA tb).fresh (4 : Fin 5) t.val = false) :
    (dats tb m ρ 0 c).after (4 : Fin 5) t = (dats tb m ρ 0 c).after (4 : Fin 5) ⟨t.val - 1, by omega⟩ := by
  obtain ⟨q0, q1⟩ := (idle_eq tb t).mp hi
  rw [after4, after4, traj_eq, stepD tb m ρ c t _ q0 q1]
  unfold prev; rw [dif_neg ht]

/-- The output's buffer, when the body runs: anything before a block's first point, then what the point before left. -/
theorem before4 (c : Dev nD) (t : Fin (cfgA tb).N) (d) :
    (dats tb m ρ 0 c).before (4 : Fin 5) t d = if (cfgA tb).fresh (4 : Fin 5) t.val then d else prev tb m ρ c t := by
  rw [(dats tb m ρ 0 c).before_out_traj (4 : Fin 5) rfl (fun _ _ => rfl) (carry tb m ρ c) t.val t rfl d]
  by_cases hf : (cfgA tb).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after4]; unfold prev; rw [dif_neg h0]

/-! ## The body at a point -/

/-- The body at point `t`, on that point's buffers. -/
abbrev bodyAt (t : Fin (cfgA tb).N) : Prog (TpuEff nD τ sig (Elt Bits) Λ₀ .tc) PUnit :=
  cc0_moe_ffn (crd tb t) (Memref.whole main_arg0) (Memref.isWhole_whole _) (Memref.whole main_arg1) (Memref.isWhole_whole _) (ms0 tb t) (hs0 tb t) (ms1 tb t) (hs1 tb t) (ms2 tb t) (hs2 tb t) (ms3 tb t) (hs3 tb t) (ms4 tb t) (hs4 tb t)

set_option maxHeartbeats 4000000 in
/-- The body at point `t`, case by case, leaves the buffers as the proof data say. -/
theorem sound_body (c : Dev nD) (t : Fin (cfgA tb).N) :
    iprop((dats tb m ρ 0 c).Φ t.castSucc ∗ (dats tb m ρ 0 c).owesAt () t.castSucc
        ∗ (∃ d, owns (c : Thread nD τ) (ms0 tb t) fullShare ((dats tb m ρ 0 c).before (0 : Fin 5) t d))
        ∗ (∃ d, owns (c : Thread nD τ) (ms1 tb t) fullShare ((dats tb m ρ 0 c).before (1 : Fin 5) t d))
        ∗ (∃ d, owns (c : Thread nD τ) (ms2 tb t) fullShare ((dats tb m ρ 0 c).before (2 : Fin 5) t d))
        ∗ (∃ d, owns (c : Thread nD τ) (ms3 tb t) fullShare ((dats tb m ρ 0 c).before (3 : Fin 5) t d))
        ∗ (∃ d, owns (c : Thread nD τ) (ms4 tb t) fullShare ((dats tb m ρ 0 c).before (4 : Fin 5) t d)))
      ⊢ wp frame (wpE (defs₀ (F := Bits)) Variants.none c none) Set.univ (bodyAt tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  by_cases q0 : Used tb t
  · by_cases q1 : First tb t
    · obtain ⟨i4, f4, fr4⟩ := sched_first tb q1
      have h := hypsA tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepA tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2.1 h.2.2.1 h.2.2.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverA c _ _ _ _ _ _ _ _ _ _ _ _ _ _ _ _ _ _ _ _ _)
    · obtain ⟨f4, fr4⟩ := sched_second tb q1
      have i4 := idle_false tb (fun e => e.1 q0)
      have h := hypsB tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepB tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) _ h.1 h.2.1 h.2.2.1 h.2.2.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverB c _ _ _ _ _ _ _ _ _ _ _ _ _ _ _ _ _ _ _ _ _ _)
  · by_cases q1 : First tb t
    · obtain ⟨i4, f4, fr4⟩ := sched_first tb q1
      have h := hypsC tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepC tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverC c _ _ _ _ _ _ _ _ _ _ _ _ _ _ _ _ _ _ _)
    · obtain ⟨f4, fr4⟩ := sched_second tb q1
      have i4 := (idle_eq tb t).mpr ⟨q0, q1⟩
      have h := hypsD tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepD tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply (runD c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4

/-- The body obligation at every point. -/
theorem body_obligation (c : Dev nD) : BodyObligation (dats tb m ρ 0 c) (defs₀ (F := Bits)) Variants.none () Set.univ := fun t => by
  rw [bigSep_W0]
  exact sound_body tb m ρ c t

/-! ## The launch -/

/-- The ghost state at the start. -/
def u₀ : UR sig nD τ :=
  initOf (Pipeline.cells (pcs tb) ((launch0 (F := Bits)).cellOf_inj fun _ => adm tb))
    (Pipeline.launchToks (pcs tb) ((launch0 (F := Bits)).cellOf_inj fun _ => adm tb))

/-- Every window holds its operand whole. -/
theorem share_eq (c : Dev nD) (w : Fin (cfgA tb).W) : (dats tb m ρ 0 c).share w = fullShare := by unfold Dat.share; split <;> rfl

/-- Holding both tables is holding the one and the other. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The launch gives what the body keeps from point to point. -/
theorem phi_intro (c : Dev nD) :
    iprop(BI.emp ∗ Pipeline.prefHeld pre0 c (fun _ => fullShare.right) (adm tb).1 ∗ Pipeline.scopedRest spec0 c) ⊢ (dats tb m ρ 0 c).Φ 0 := by
  rw [prefHeld_eq, scopedRest0_eq, show (dats tb m ρ 0 c).Φ 0 = Phi tb c from rfl]
  unfold Phi
  iintro ⟨-, ⟨HT0, HT1⟩, -⟩
  isplitl [HT0]
  · iexact HT0
  iexact HT1

/-- What the body kept is given back at the end. -/
theorem phi_exit (c : Dev nD) : (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb c from rfl]
  unfold Phi
  iintro ⟨-, -⟩
  isplitr; · iempintro
  iempintro

/-- The launch memory's tables are `tb`'s. -/
def Held : Prop :=
  (∀ c : Dev nD, m ((c : Thread nD τ).loc main_arg0) = tb.be) ∧ (∀ c : Dev nD, m ((c : Thread nD τ).loc main_arg1) = tb.nu)

/-- What the run ends in: every array as the pipeline computes it, every table as it was. -/
def Ends : PUnit × MemSt nD τ sig (Elt Bits) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = (adm tb).1 j

variable {tb m} in
/-- The tables hold the contents they were said to hold. -/
theorem held_pre (hp : Held tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- From a memory holding these tables the kernel runs to its end, all semaphores at zero. -/
theorem run_main_quiescent (hp : Held tb m) :
    θ_run (defs (F := Bits)) (onTc (τ := τ) (main (F := Bits))) (s₀ m ρ) (fun r => Ends tb m ρ r ∧ r.2.sem = fun _ => 0) :=
  Pipeline.θ_run_region_noSem_pf_quiescent pcfgs (fun _ => adm tb) (dats tb m ρ) () ((launch0 (F := Bits)).cellOf_inj fun _ => adm tb) (0 : Fin 1)
    (launch0 (F := Bits)).win.to₀ (launch0 (F := Bits)).pre EP defs₀ Variants.none m ρ main
    (hbody := fun c => (body_obligation tb m ρ c).loose) (hne := (launch0 (F := Bits)).block_pos)
    (harr := (launch0 (F := Bits)).arr_whole) (hstage := (launch0 (F := Bits)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Bits)).win.arr_inj c (launch0 (F := Bits)).arr_whole
      (share_eq tb m ρ c) _ _ fun _ => rfl)
    (hpf := held_pre hp)
    (X := fun _ => iprop(emp)) (Y := fun _ => iprop(emp)) (Z := fun _ => iprop(emp))
    (hX := fun c => by rw [unscopedRestP0_eq]; iintro -; isplitr <;> iempintro)
    (hin := phi_intro tb m ρ)
    (hout := phi_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The program runs to its end, and its memory is as stated. -/
theorem run_main (hp : Held tb m) : θ_run (defs (F := Bits)) (onTc (τ := τ) (main (F := Bits))) (s₀ m ρ) (Ends tb m ρ) :=
  (θ_run defs _ _).mono (fun _ h => h.1) (run_main_quiescent tb m ρ hp)

variable {tb m ρ} in
/-- The arguments end as they began. -/
theorem kept (hp : Held tb m) (r : PUnit × MemSt nD τ sig (Elt Bits)) (h : Ends tb m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp.1 c).symm, ((h c).2 1).trans (hp.2 c).symm,
    ((h c).1 (0 : Fin 5)).trans ((dats tb m ρ 0 c).arrAt_in (0 : Fin 5) rfl _), ((h c).1 (1 : Fin 5)).trans ((dats tb m ρ 0 c).arrAt_in (1 : Fin 5) rfl _),
    ((h c).1 (2 : Fin 5)).trans ((dats tb m ρ 0 c).arrAt_in (2 : Fin 5) rfl _), ((h c).1 (3 : Fin 5)).trans ((dats tb m ρ 0 c).arrAt_in (3 : Fin 5) rfl _)⟩

/-- The frame: the kernel ends with its arguments unchanged and its semaphores at zero. -/
theorem frame (hp : Held tb m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept hp r h.1 c, h.2⟩) (run_main_quiescent tb m ρ hp)

end Cert.Proof.MoeK

end
-- ==== Proof.Moe.lean ====
/-
  The experts' layer: frames and value.
-/
module

public import proofs.«01_k».proof.Defs
public import proofs.«01_k».proof.Proof.MoeVal
public import proofs.«01_k».proof.Proof.MoeFrame

@[expose] public section

set_option maxRecDepth 16384

noncomputable section

namespace Cert.Proof.Moe

open Idealize.ShloMosaic Idealize.ShloMosaic.TcCoe Idealize.SL.Sem

/-- The tables in the memory the kernel starts from. -/
def tabK (m : (ℓ : Loc Cert.Moe.nD Cert.Moe.τ Cert.Moe.sig) → Buf (Elt Bits) ℓ) (h : Cert.Pre_Moe m) : MoeK.Tab where
  be := m (((0 : Dev Cert.Moe.nD) : Thread Cert.Moe.nD Cert.Moe.τ).loc Cert.Moe.main_arg0)
  nu := m (((0 : Dev Cert.Moe.nD) : Thread Cert.Moe.nD Cert.Moe.τ).loc Cert.Moe.main_arg1)
  ok := inRange _ _ _ _ _ _ (h 0)

/-- There is one core, so every core's tables are these. -/
theorem heldK (m : (ℓ : Loc Cert.Moe.nD Cert.Moe.τ Cert.Moe.sig) → Buf (Elt Bits) ℓ) (h : Cert.Pre_Moe m) : MoeK.Held (tabK m h) m :=
  ⟨fun c => by obtain rfl : c = 0 := Subsingleton.elim (α := Fin 1) c 0; rfl, fun c => by obtain rfl : c = 0 := Subsingleton.elim (α := Fin 1) c 0; rfl⟩

/-- The kernel's frame. -/
theorem frame_kernel : Cert.quiescent_Moe := fun m ρ h => MoeK.frame (tabK m h) m ρ (heldK m h)

/-- The tables in the memory the kernel starts from, over the extended reals. -/
def tabI (m : (ℓ : Loc Cert.MoeIdeal.nD Cert.MoeIdeal.τ Cert.MoeIdeal.sig) → Buf (Elt Ideal) ℓ) (h : Cert.Pre_MoeIdeal m) : MoeI.Tab where
  be := m (((0 : Dev Cert.MoeIdeal.nD) : Thread Cert.MoeIdeal.nD Cert.MoeIdeal.τ).loc Cert.MoeIdeal.main_arg0)
  nu := m (((0 : Dev Cert.MoeIdeal.nD) : Thread Cert.MoeIdeal.nD Cert.MoeIdeal.τ).loc Cert.MoeIdeal.main_arg1)
  ok := inRange _ _ _ _ _ _ (h 0)

/-- Every core's tables are these. -/
theorem heldI (m : (ℓ : Loc Cert.MoeIdeal.nD Cert.MoeIdeal.τ Cert.MoeIdeal.sig) → Buf (Elt Ideal) ℓ) (h : Cert.Pre_MoeIdeal m) : MoeI.Held (tabI m h) m :=
  ⟨fun c => by obtain rfl : c = 0 := Subsingleton.elim (α := Fin 1) c 0; rfl, fun c => by obtain rfl : c = 0 := Subsingleton.elim (α := Fin 1) c 0; rfl⟩

/-- The frame of the kernel over the extended reals. -/
theorem frame_ideal : Cert.quiescent_MoeIdeal := fun m ρ h => MoeI.frame (tabI m h) m ρ (heldI m h)

/-- The reference's frame. -/
theorem frame_ref : Cert.quiescent_MoeRefIdeal := fun m ρ _ =>
  (θ_run Cert.MoeRefIdeal.defs _ _).mono (fun r h => ⟨fun c => (h c).2,
      sem_eq_zero_of_no_sems (by decide) r.2⟩)
    (Cert.MoeRefIdeal.Value.run (F := Ideal) m ρ)

/-- The same under the precondition. -/
theorem frame_ref_pre : Cert.quiescent_MoeRefIdeal_pre_moe_pre := fun m ρ _ => frame_ref m ρ trivial

/-- The kernel's result is the reference's. -/
theorem algebraic : Cert.algebraic_MoeIdeal_MoeRefIdeal := by
  intro m ρ m' ρ' hp hagree
  refine ⟨fun c => MoeI.Gc (tabI m hp) m c, ?_, ?_⟩
  · exact (θ_run Cert.MoeIdeal.defs _ _).mono
      (fun r h c => ⟨((h c).1 (4 : Fin 5)).trans (MoeI.final (tabI m hp) m ρ c), MoeI.kept (heldI m hp) r h c⟩)
      (MoeI.run_main (tabI m hp) m ρ (heldI m hp))
  · refine (θ_run Cert.MoeRefIdeal.defs _ _).mono (fun r h c => ⟨(h c).1.trans ?_, (h c).2⟩)
      (Cert.MoeRefIdeal.Value.run (F := Ideal) m' ρ')
    obtain ⟨e0, e1, e2, e3, e4, e5⟩ := hagree c
    rw [Cert.MoeRefIdeal.Read.val_main_v37_eq, e0, e1, e2, e3, e4, e5, (heldI m hp).1 c, (heldI m hp).2 c]
    exact ref_eq (tabI m hp).be (tabI m hp).ok (tabI m hp).nu _ _ _ _

end Cert.Proof.Moe

end
-- ==== Proof.ModTab.lean ====
/-
  The modulation table: the kernel's result array and the reference's are one function of the arguments.
-/
module

public import proofs.«01_k».proof.Defs
public import proofs.«01_k».proof.Proof.Gen.ModTabIdeal.Value
public import proofs.«01_k».proof.Proof.Gen.ModTabRefIdeal.Run
public import proofs.«01_k».proof.Proof.Gen.ModTabRefIdeal.Read
public import Idealize.ShloMosaic.Lib.Pipeline.Value
public import Idealize.ShloMosaic.Lib.IdealHost
public import Idealize.ShloMosaic.Lib.MatmulPlain
public import Idealize.ShloMosaic.Lib.ValueIdx
public import Idealize.ShloMosaic.Lib.ValueLayout

@[expose] public section

set_option maxRecDepth 16384

noncomputable section

namespace Cert.Proof.ModTab

open Cert.ModTabIdeal Cert.ModTabIdeal.Gen Idealize.ShloMosaic Idealize.ShloMosaic.TcCoe Idealize.SL.Sem
open Idealize.ShloMosaic.Pipeline (Dat)
open Idealize.ShloMosaic.ValueIdx
open scoped BigOperators

/-- A condition's entry times its logistic. -/
def act (v : S8x4096.Idx → EReal) (r : Fin 8) (k : Fin 4096) : EReal := v (ix2 r k) * Ideal.logistic (v (ix2 r k))

/-- The table: the activated conditions times the first layer's weights, plus its bias. -/
def G (v : S8x4096.Idx → EReal) (w : S2x4096x24576.Idx → EReal) (b : S2x24576.Idx → EReal) : S8x24576.Idx → EReal := fun i =>
  (∑ k : Fin 4096, act v (i 0) k * w (ix3 (0 : Fin 2) k (i 1))) + b (ix2 (0 : Fin 2) (i 1))

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- The bias with an axis more, as the region finds it. -/
theorem V_b (c : Dev nD) : V m c main_v0 = shapeCast S2x1x24576 (m ((c : Thread nD τ).loc main_arg2)) shapeCasts_S2x24576_S2x1x24576 := by
  unfold V
  after_results_simp <;> rfl

/-- The bias with an axis more, at an index. -/
theorem bias_at (b : S2x24576.Idx → EReal) (j : Fin 24576) :
    shapeCast S2x1x24576 b shapeCasts_S2x24576_S2x1x24576 (ix3 (0 : Fin 2) (0 : Fin 1) j) = b (ix2 (0 : Fin 2) j) := by
  refine shapeCast_apply _ _ _ _ ?_
  rw [Shape.rowMajor_val_two, Shape.rowMajor_val_three]
  show 0 * 24576 + j.val = (0 * 1 + 0) * 24576 + j.val
  omega

/-- Block indices of the windows, point by point. -/
theorem idx_h : ∀ t : Fin cfg0.N, (win0_0.index t 0 = 0 ∧ win0_0.index t 1 = 0)
    ∧ (win0_1.index t 0 = 0 ∧ win0_1.index t 1 = 0 ∧ win0_1.index t 2 = win0_3.index t 1)
    ∧ (win0_2.index t 0 = 0 ∧ win0_2.index t 1 = 0 ∧ win0_2.index t 2 = win0_3.index t 1) ∧ win0_3.index t 0 = 0 :=
  (by decide +kernel : ∀ t : Fin grid0.N, (win0_0.index t 0 = 0 ∧ win0_0.index t 1 = 0)
    ∧ (win0_1.index t 0 = 0 ∧ win0_1.index t 1 = 0 ∧ win0_1.index t 2 = win0_3.index t 1)
    ∧ (win0_2.index t 0 = 0 ∧ win0_2.index t 1 = 0 ∧ win0_2.index t 2 = win0_3.index t 1) ∧ win0_3.index t 0 = 0)

/-- Every block of the result is some point's. -/
theorem idx_onto : ∀ b : Fin 48, ∃ t : Fin cfg0.N, win0_3.index t 1 = b.val :=
  (by decide +kernel : ∀ b : Fin 48, ∃ t : Fin grid0.N, win0_3.index t 1 = b.val)

/-- The body's result, at an index. -/
theorem pay_apply (x0 : FVec Ideal S8x4096 .f32) (x1 : FVec Ideal S1x4096x512 .f32) (x2 : FVec Ideal S1x1x512 .f32) (r : Fin 8) (s : Fin 512) :
    k0_pay1 (F := Ideal) x0 x1 x2 (ix2 r s)
      = (∑ k : Fin 4096, act x0 r k * x1 (ix3 (0 : Fin 1) k s)) + x2 (ix3 (0 : Fin 1) (0 : Fin 1) s) := by
  unfold k0_pay1
  rw [addf_apply]
  refine congrArg₂ (· + ·) ?_ ?_
  · refine (Ideal.matmul_plain_apply none _ _ _ r s).trans ?_
    rw [constant_apply, Ideal.ofBits_zero_f32, zero_add]
    exact Finset.sum_congr rfl fun k _ => congrArg (act x0 r k * ·) (shapeCast_1ab_ab_apply x1 _ k s)
  · refine (broadcastTo_apply _ _ (ix2 r s) (ix2 (0 : Fin 1) s) (fun a => match a with | ⟨0, _⟩ => rfl | ⟨1, _⟩ => rfl)).trans ?_
    exact shapeCast_1ab_ab_apply x2 _ (0 : Fin 1) s

/-- What point `t` writes back is block `t` of `G`. -/
theorem flushed_eq (c : Dev nD) (t : Fin cfg0.N) :
    (dats m 0 c).flushed 3 t = (win0_3.blk t).view.read (Elt Ideal)
      (G (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz, View.ld_unit_zero hz, View.ld_unit_zero hz3, View.ld_unit_zero hz3]
  funext y
  obtain ⟨r, s, rfl⟩ : ∃ (r : Fin 8) (s : Fin 512), y = ix2 r s := ⟨y 0, y 1, eq_ix2 y⟩
  refine (pay_apply (iblk m c 0 t) (iblk m c 1 t) (iblk m c 2 t) r s).trans ?_
  show _ = G (m ((c : Thread nD τ).loc main_arg0)) (m ((c : Thread nD τ).loc main_arg1)) (m ((c : Thread nD τ).loc main_arg2))
    ((win0_3.rect t).emb (ix2 r s))
  obtain ⟨⟨e1, e2⟩, ⟨e3, e4, e5⟩, ⟨e6, e7, e8⟩, e9⟩ := idx_h t
  have o0 : ((win0_3.rect t).emb (ix2 r s) 0).val = win0_3.index t 0 * 8 + r.val := win0_3.rect_emb_val t (ix2 r s) 0
  have o1 : ((win0_3.rect t).emb (ix2 r s) 1).val = win0_3.index t 1 * 512 + s.val := win0_3.rect_emb_val t (ix2 r s) 1
  unfold G
  refine congrArg₂ (· + ·) (Finset.sum_congr rfl fun k _ => congrArg₂ (· * ·) ?_ ?_) ?_
  · have h : iblk m c 0 t (ix2 r k) = m ((c : Thread nD τ).loc main_arg0) (ix2 ((win0_3.rect t).emb (ix2 r s) 0) k) := by
      show V m c main_arg0 ((win0_0.rect t).emb (ix2 r k)) = _
      rw [V_main_arg0]
      have a0 := win0_0.rect_emb_val t (ix2 r k) 0
      have a1 := win0_0.rect_emb_val t (ix2 r k) 1
      refine congrArg _ (Shape.idx_ext₂ ?_ ?_)
      · rw [a0, e1]
        refine Eq.trans ?_ o0.symm
        rw [e9]; rfl
      · rw [a1, e2]; exact Nat.zero_add _
    exact congrArg₂ (· * ·) h (congrArg Ideal.logistic h)
  · show V m c main_arg1 ((win0_1.rect t).emb (ix3 (0 : Fin 1) k s)) = _
    rw [V_main_arg1]
    have a0 := win0_1.rect_emb_val t (ix3 (0 : Fin 1) k s) 0
    have a1 := win0_1.rect_emb_val t (ix3 (0 : Fin 1) k s) 1
    have a2 := win0_1.rect_emb_val t (ix3 (0 : Fin 1) k s) 2
    refine congrArg _ (funext fun a => Fin.ext ?_)
    match a with
    | ⟨0, _⟩ => exact a0.trans (by rw [e3]; rfl)
    | ⟨1, _⟩ => exact a1.trans (by rw [e4]; exact Nat.zero_add _)
    | ⟨2, _⟩ => exact a2.trans (by rw [e5]; exact o1.symm)
  · show V m c main_v0 ((win0_2.rect t).emb (ix3 (0 : Fin 1) (0 : Fin 1) s)) = _
    rw [V_b]
    have a0 := win0_2.rect_emb_val t (ix3 (0 : Fin 1) (0 : Fin 1) s) 0
    have a1 := win0_2.rect_emb_val t (ix3 (0 : Fin 1) (0 : Fin 1) s) 1
    have a2 := win0_2.rect_emb_val t (ix3 (0 : Fin 1) (0 : Fin 1) s) 2
    have eb : (win0_2.rect t).emb (ix3 (0 : Fin 1) (0 : Fin 1) s) = ix3 (0 : Fin 2) (0 : Fin 1) ((win0_3.rect t).emb (ix2 r s) 1) :=
      funext fun a => Fin.ext (match a with
        | ⟨0, _⟩ => a0.trans (by rw [e6]; rfl)
        | ⟨1, _⟩ => a1.trans (by rw [e7]; rfl)
        | ⟨2, _⟩ => a2.trans (by rw [e8]; exact o1.symm))
    rw [eb]
    exact bias_at _ _

/-- The result's blocks tile its array. -/
theorem cover (i : S8x24576.Idx) :
    ∃ t : Fin cfg0.N, (cfg0.win 3).flush t = true ∧ i ∈ ((cfg0.win 3).blk t).view.set := by
  have h0 : (i 0 : Nat) < 8 := (i 0).isLt
  have h1 : (i 1 : Nat) < 24576 := (i 1).isLt
  obtain ⟨t, hb⟩ := idx_onto ⟨(i 1 : Nat) / 512, by omega⟩
  have ha := (idx_h t).2.2.2
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 8 ≤ (i 0 : Nat) ∧ (i 0 : Nat) < win0_3.index t 0 * 8 + 8
    rw [ha]; omega
  | ⟨1, _⟩ =>
    show win0_3.index t 1 * 512 ≤ (i 1 : Nat) ∧ (i 1 : Nat) < win0_3.index t 1 * 512 + 512
    rw [hb]; dsimp only; omega

/-- So the result array ends holding `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

end Kernel

section Reference
open Cert.ModTabRefIdeal.Read

variable (v : S8x4096.Idx → EReal) (w : S2x4096x24576.Idx → EReal) (b : S2x24576.Idx → EReal)

/-- The reference's activated conditions. -/
theorem act_eq (r : Fin 8) (k : Fin 4096) : val_main_v0 (F := Ideal) v (ix2 r k) = act v r k := by
  rw [val_main_v0_apply, val_main_call0_v5_apply, val_main_call0_v3_apply, val_main_call0_v1_apply, val_main_call0_v0_apply,
    val_main_call0_v4_apply, val_main_call0_v2_apply, val_main_call0_cst_apply, val_main_call0_cst_0_apply]
  simp only [Ideal.mulf_def, Ideal.addf_def, Ideal.hostDivf_def, Ideal.hostUnary_exp_def, Ideal.hostNegf_def, Ideal.ofBits_def, Ideal.ofBits_one_f32]
  rfl

/-- The reference's result is `G`. -/
theorem ref_eq : val_main_v8 (F := Ideal) v w b = G v w b := by
  funext i
  obtain ⟨r, s, rfl⟩ : ∃ (r : Fin 8) (s : Fin 24576), i = ix2 r s := ⟨i 0, i 1, eq_ix2 i⟩
  rw [val_main_v8_apply, val_main_v3_apply, Ideal.addf_def]
  have hs := s.isLt
  unfold G
  refine congrArg₂ (· + ·) (Finset.sum_congr rfl fun k _ => congrArg₂ (· * ·) ?_ ?_) ?_
  · rw [eq_ix2 (lidx_main_v3 (ix2 r s) k)]; exact act_eq v r k
  · have hk := k.isLt
    rw [val_main_v2_apply, val_main_v1_apply]
    refine congrArg w (funext fun a => Fin.ext ?_)
    match a with
    | ⟨0, _⟩ => rfl
    | ⟨1, _⟩ => show (k.val * 24576 + s.val) / 24576 % 4096 = k.val; omega
    | ⟨2, _⟩ => show (k.val * 24576 + s.val) % 24576 = s.val; omega
  · rw [val_main_v7_apply, val_main_v6_apply, val_main_v5_apply, val_main_v4_apply]
    refine congrArg b (Shape.idx_ext₂ rfl ?_)
    show s.val % 24576 = s.val
    omega

end Reference

/-- The reference's frame. -/
theorem frame_ref : Cert.quiescent_ModTabRefIdeal := fun m ρ _ =>
  (θ_run Cert.ModTabRefIdeal.defs _ _).mono (fun r h => ⟨fun c => (h c).2,
      sem_eq_zero_of_no_sems (by decide) r.2⟩)
    (Cert.ModTabRefIdeal.Value.run (F := Ideal) m ρ)

/-- The kernel's result is the reference's. -/
theorem algebraic : Cert.algebraic_ModTabIdeal_ModTabRefIdeal := by
  intro m ρ m' ρ' _ hagree
  refine ⟨fun c => G (m ((c : Thread nD τ).loc main_arg0)) (m ((c : Thread nD τ).loc main_arg1))
    (m ((c : Thread nD τ).loc main_arg2)), ?_, ?_⟩
  · exact (θ_run Cert.ModTabIdeal.defs _ _).mono (fun r h c => ⟨((h c).1).trans (final m c), (h c).2⟩)
      (Cert.ModTabIdeal.Value.run_blocks (F := Ideal) m ρ)
  · refine (θ_run Cert.ModTabRefIdeal.defs _ _).mono (fun r h c => ⟨(h c).1.trans ?_, (h c).2⟩)
      (Cert.ModTabRefIdeal.Value.run (F := Ideal) m' ρ')
    rw [Cert.ModTabRefIdeal.Read.val_main_v8_eq, ref_eq, (hagree c).1, (hagree c).2.1, (hagree c).2.2]

end Cert.Proof.ModTab

end
-- ==== Proof.Rows.lean ====
/-
  What the row normalisations share: a block of 256 rows normalised and scaled by its weights, and a chunk of the modulation
  table spread over a block, each read at an index.
-/
module

public import Idealize.ShloMosaic.Lib.Pipeline.Value
public import Idealize.ShloMosaic.Lib.KernelVsHost
public import Idealize.ShloMosaic.Lib.ValueIdx
public import Idealize.ShloMosaic.Lib.ValueLayout

@[expose] public section

set_option maxRecDepth 16384

noncomputable section

namespace Cert.Proof.Rows

open Idealize.ShloMosaic
open Idealize.ShloMosaic.ValueIdx
open scoped BigOperators

/-- A block of rows. -/
abbrev Blk : Shape := ⟨2, ![256, 4096]⟩
/-- One entry a row. -/
abbrev Col : Shape := ⟨2, ![256, 1]⟩
/-- One row. -/
abbrev Row : Shape := ⟨2, ![1, 4096]⟩
/-- One row of the modulation table's chunk. -/
abbrev Chunk : Shape := ⟨3, ![1, 1, 4096]⟩

/-- A row divided by the root of its mean square (plus a millionth), times the weights. -/
def rowNorm (x g : Fin 4096 → EReal) (j : Fin 4096) : EReal :=
  x j * Ideal.rsqrt (Ideal.div (∑ e, x e * x e) (FloatOps.ofBits (F := Ideal) .f32 0x45800000#32)
    + FloatOps.ofBits (F := Ideal) .f32 0x358637BD#32) * g j

/-- A block's rows, normalised. -/
def normed (x : FVec Ideal Blk .f32) (g : FVec Ideal Row .f32) (hr : Blk.Reduces [1] ⟨1, ![256]⟩)
    (hc : (⟨1, ![256]⟩ : Shape).ShapeCasts Col) (hb : Col.Broadcasts Blk) (hg : Row.ShapeCasts Row) (hw : Row.Broadcasts Blk) :
    FVec Ideal Blk .f32 :=
  mulf (mulf x (broadcastTo Blk (rsqrt (addf (divf (shapeCast Col
      (multiReduction (F := Ideal) .add [1] ⟨1, ![256]⟩ (mulf x x) 0x00000000#32 hr (.inl rfl) rfl) hc)
      (broadcast Col (Scalar.ofBits (F := Ideal) .f32 0x45800000#32)))
      (broadcast Col (Scalar.ofBits (F := Ideal) .f32 0x358637BD#32)))) hb))
    (broadcastTo Blk (shapeCast Row g hg) hw)

/-- A column spread over a block, at an index. -/
theorem col_at (x : FVec Ideal Col .f32) (hb : Col.Broadcasts Blk) (r : Fin 256) (j : Fin 4096) :
    broadcastTo Blk x hb (ix2 r j) = x (ix2 r (0 : Fin 1)) :=
  broadcastTo_apply x _ _ _ fun a => match a with
    | ⟨0, _⟩ => rfl
    | ⟨1, _⟩ => rfl

/-- A row spread over a block, at an index. -/
theorem row_at (g : FVec Ideal Row .f32) (hw : Row.Broadcasts Blk) (r : Fin 256) (j : Fin 4096) :
    broadcastTo Blk g hw (ix2 r j) = g (ix2 (0 : Fin 1) j) :=
  broadcastTo_apply g _ _ _ fun a => match a with
    | ⟨0, _⟩ => rfl
    | ⟨1, _⟩ => rfl

/-- A chunk of the modulation table as a row, at an index. -/
theorem chunk_at (v : FVec Ideal Chunk .f32) (h : Chunk.ShapeCasts Row) (j : Fin 4096) :
    shapeCast Row v h (ix2 (0 : Fin 1) j) = v (ix3 (0 : Fin 1) (0 : Fin 1) j) := shapeCast_1ab_ab_apply v h (0 : Fin 1) j

/-- The normalised block at an index. -/
theorem normed_apply (x : FVec Ideal Blk .f32) (g : FVec Ideal Row .f32) (hr) (hc) (hb) (hg) (hw) (r : Fin 256) (j : Fin 4096) :
    normed x g hr hc hb hg hw (ix2 r j) = rowNorm (fun e => x (ix2 r e)) (fun e => g (ix2 (0 : Fin 1) e)) j := by
  have e0 (x : FVec Ideal Col .f32) (i : Col.Idx) : rsqrt (F := Ideal) x i = Ideal.rsqrt (x i) := rfl
  have e3 (x : FVec Ideal ⟨1, ![256]⟩ .f32) : shapeCast Col x hc (ix2 r (0 : Fin 1)) = x (ix1 r) :=
    shapeCast_apply x _ _ _ (by
      rw [Shape.rowMajor_val_two, Shape.rowMajor_val_one]; show r.val = r.val * 1 + 0; omega)
  have e4 (x : FVec Ideal Blk .f32) :
      multiReduction (F := Ideal) .add [1] ⟨1, ![256]⟩ x 0x00000000#32 hr (.inl rfl) rfl (ix1 r) = ∑ e : Fin 4096, x (ix2 r e) := by
    refine (Ideal.multiReduction_add_single x _ _ _ _ _).trans ?_
    exact Finset.sum_congr rfl fun j _ => congrArg x (Shape.idx_ext₂ rfl rfl)
  have e5 : shapeCast Row g hg (ix2 (0 : Fin 1) j) = g (ix2 (0 : Fin 1) j) := shapeCast_apply g _ _ _ rfl
  unfold normed rowNorm
  rw [mulf_apply, mulf_apply, col_at, row_at, e0, addf_apply, divf_apply, e3, e4, e5]
  rfl

end Cert.Proof.Rows

end
-- ==== Proof.NormR.lean ====
/-
  The modulated normalisation with the router's logits: the kernel's two result arrays and the reference's are the same
  functions of the arguments.
-/
module

public import proofs.«01_k».proof.Defs
public import proofs.«01_k».proof.Proof.Gen.NormRIdeal.Value
public import proofs.«01_k».proof.Proof.Gen.NormRRefIdeal.Run
public import proofs.«01_k».proof.Proof.Gen.NormRRefIdeal.Read
public import proofs.«01_k».proof.Proof.Rows
public import Idealize.ShloMosaic.Lib.IdealHost
public import Idealize.ShloMosaic.Lib.MatmulPlain

@[expose] public section

set_option maxRecDepth 16384

noncomputable section

namespace Cert.Proof.NormR

open Cert.NormRIdeal Cert.NormRIdeal.Gen Idealize.ShloMosaic Idealize.ShloMosaic.TcCoe Idealize.SL.Sem
open Idealize.ShloMosaic.Pipeline (Dat)
open Idealize.ShloMosaic.ValueIdx
open Cert.Proof.Rows
open scoped BigOperators

/-- The float one, as both programs print it. -/
def one : EReal := FloatOps.ofBits (F := Ideal) .f32 0x3F800000#32

/-- A row normalised, times one plus the modulation's chunk four of its group, plus chunk three: the first 8192 rows are two
    groups of 4096, the last 512 a third. -/
def hrow (x : S8704x4096.Idx → EReal) (nw : S4096.Idx → EReal) (md : S8x1x24576.Idx → EReal) (r : Fin 8704) (j : Fin 4096) : EReal :=
  rowNorm (fun e => x (ix2 r e)) (fun e => nw (ix1 e)) j
      * (one + md (ix3 (⟨r.val / 4096, by omega⟩ : Fin 8) (0 : Fin 1) (⟨16384 + j.val, by omega⟩ : Fin 24576)))
    + md (ix3 (⟨r.val / 4096, by omega⟩ : Fin 8) (0 : Fin 1) (⟨12288 + j.val, by omega⟩ : Fin 24576))

/-- The first result: the modulated rows. -/
def G (x : S8704x4096.Idx → EReal) (nw : S4096.Idx → EReal) (md : S8x1x24576.Idx → EReal) : S8704x4096.Idx → EReal :=
  fun i => hrow x nw md (i 0) (i 1)

/-- The router's weights with columns of zeros up to 128. -/
def rcol (w : S4096x16.Idx → EReal) (k : Fin 4096) (j : Fin 128) : EReal :=
  if h : j.val < 16 then w (ix2 k (⟨j.val, h⟩ : Fin 16)) else 0

/-- The second result: the modulated rows times the router's padded weights. -/
def L (x : S8704x4096.Idx → EReal) (nw : S4096.Idx → EReal) (md : S8x1x24576.Idx → EReal) (w : S4096x16.Idx → EReal) :
    S8704x128.Idx → EReal := fun i => ∑ k : Fin 4096, hrow x nw md (i 0) k * rcol w k (i 1)

/-- The padding's zero, as the kernel's program makes it. -/
def zero : S_.Idx → EReal := sitofp (F := Ideal) .f32 (constantI S_ 32 0#32)

/-- It is zero. -/
theorem zero_eq (i : S_.Idx) : zero i = 0 := by
  show (((0#32 : BitVec 32).toInt : ℝ) : EReal) = 0
  simp

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- The normalisation's weights as one row, as the region finds them. -/
theorem V_nw (c : Dev nD) : V m c main_v1 = shapeCast S1x4096 (m ((c : Thread nD τ).loc main_arg1)) shapeCasts_S4096_S1x4096 := by
  unfold V
  simp only [hostOps0, hostOps0_1, hostOps0_2,
    List.flatten_cons, List.flatten_nil, List.append_nil, List.cons_append, List.nil_append]
  after_results_simp <;> rfl

/-- The padded router's weights, as the region finds them. -/
theorem V_w (c : Dev nD) : V m c main_v0 = pad S4096x128 ![0, 0] ![0, 112] ![0, 0] (m ((c : Thread nD τ).loc main_arg3)) zero
    pads_S4096x16_S4096x128_000_01120 h_S_ := by
  unfold V
  simp only [hostOps0, hostOps0_1, hostOps0_2,
    List.flatten_cons, List.flatten_nil, List.append_nil, List.cons_append, List.nil_append]
  after_results_simp <;> rfl

/-- The weights as one row, at an index. -/
theorem nw_at (nw : S4096.Idx → EReal) (e : Fin 4096) :
    shapeCast S1x4096 nw shapeCasts_S4096_S1x4096 (ix2 (0 : Fin 1) e) = nw (ix1 e) := by
  refine shapeCast_apply _ _ _ _ ?_
  rw [Shape.rowMajor_val_two, Shape.rowMajor_val_one]
  show e.val = 0 * 4096 + e.val
  omega

/-- The padded router's weights, at an index. -/
theorem w_at (w : S4096x16.Idx → EReal) (k : Fin 4096) (j : Fin 128) :
    pad S4096x128 ![0, 0] ![0, 112] ![0, 0] w zero pads_S4096x16_S4096x128_000_01120 h_S_ (ix2 k j) = rcol w k j := by
  have hj := j.isLt
  unfold rcol
  by_cases h : j.val < 16
  · rw [dif_pos h]
    exact pad_apply_of_inside _ _ _ _ _ _ _ (ix2 k j) (ix2 k ⟨j.val, h⟩) (fun a => match a with
      | ⟨0, _⟩ => by show k.val = 0 + k.val * (0 + 1); omega
      | ⟨1, _⟩ => by show j.val = 0 + j.val * (0 + 1); omega)
  · rw [dif_neg h]
    refine (pad_apply_of_not_inside _ _ _ _ _ _ _ (ix2 k j) (1 : Fin 2) (fun hn => ?_)).trans (zero_eq _)
    have := hn.2.2
    have : (j.val - 0) / (0 + 1) < 16 := this
    omega

/-- Block indices of the windows, point by point. -/
theorem idx_h : ∀ t : Fin cfg0.N, (win0_0.index t 0 = win0_5.index t 0 ∧ win0_0.index t 1 = 0)
    ∧ (win0_1.index t 0 = 0 ∧ win0_1.index t 1 = 0)
    ∧ (win0_2.index t 0 = win0_5.index t 0 / 16 ∧ win0_2.index t 1 = 0 ∧ win0_2.index t 2 = 3)
    ∧ (win0_3.index t 0 = win0_5.index t 0 / 16 ∧ win0_3.index t 1 = 0 ∧ win0_3.index t 2 = 4)
    ∧ (win0_4.index t 0 = 0 ∧ win0_4.index t 1 = 0) ∧ win0_5.index t 1 = 0
    ∧ (win0_6.index t 0 = win0_5.index t 0 ∧ win0_6.index t 1 = 0) :=
  (by decide +kernel : ∀ t : Fin grid0.N, (win0_0.index t 0 = win0_5.index t 0 ∧ win0_0.index t 1 = 0)
    ∧ (win0_1.index t 0 = 0 ∧ win0_1.index t 1 = 0)
    ∧ (win0_2.index t 0 = win0_5.index t 0 / 16 ∧ win0_2.index t 1 = 0 ∧ win0_2.index t 2 = 3)
    ∧ (win0_3.index t 0 = win0_5.index t 0 / 16 ∧ win0_3.index t 1 = 0 ∧ win0_3.index t 2 = 4)
    ∧ (win0_4.index t 0 = 0 ∧ win0_4.index t 1 = 0) ∧ win0_5.index t 1 = 0
    ∧ (win0_6.index t 0 = win0_5.index t 0 ∧ win0_6.index t 1 = 0))

/-- Every block of the results is some point's. -/
theorem idx_onto : ∀ b : Fin 34, ∃ t : Fin cfg0.N, win0_5.index t 0 = b.val :=
  (by decide +kernel : ∀ b : Fin 34, ∃ t : Fin grid0.N, win0_5.index t 0 = b.val)

/-- The body's modulated rows, at an index. -/
theorem pay_apply (x : FVec Ideal S256x4096 .f32) (nw : FVec Ideal S1x4096 .f32) (sc sh : FVec Ideal S1x1x4096 .f32) (r : Fin 256) (j : Fin 4096) :
    k0_pay1 (F := Ideal) x nw sc sh (ix2 r j)
      = (rowNorm (fun e => x (ix2 r e)) (fun e => nw (ix2 (0 : Fin 1) e)) j * (one + sc (ix3 (0 : Fin 1) (0 : Fin 1) j))
        + sh (ix3 (0 : Fin 1) (0 : Fin 1) j) : EReal) := by
  unfold k0_pay1
  rw [addf_apply, mulf_apply, row_at, row_at, chunk_at, addf_apply, chunk_at]
  exact congrArg (fun v : EReal => v * (one + sc (ix3 (0 : Fin 1) (0 : Fin 1) j)) + sh (ix3 (0 : Fin 1) (0 : Fin 1) j))
    (normed_apply x nw reduces_S256x4096_S256 shapeCasts_S256_S256x1 broadcasts_S256x1_S256x4096
      shapeCasts_S1x4096_S1x4096 broadcasts_S1x4096_S256x4096 r j)

/-- The body's logits, at an index. -/
theorem logit_apply (x : FVec Ideal S256x4096 .f32) (nw : FVec Ideal S1x4096 .f32) (sc sh : FVec Ideal S1x1x4096 .f32)
    (w : FVec Ideal S4096x128 .f32) (r : Fin 256) (j : Fin 128) :
    k0_pay3 (F := Ideal) x nw sc sh w (ix2 r j) = ∑ k : Fin 4096, (k0_pay1 (F := Ideal) x nw sc sh (ix2 r k) * w (ix2 k j) : EReal) := by
  unfold k0_pay3
  refine (Ideal.matmul_plain_apply (some .fp32) _ _ _ r j).trans ?_
  rw [constant_apply, Ideal.ofBits_zero_f32, zero_add]
  exact Finset.sum_congr rfl fun k _ => congrArg (_ * ·) (shapeCast_apply w _ _ _ rfl)

/-- At point `t`, row `r` of the body's modulated rows is the result's row that the point's block puts there. -/
theorem body_row (c : Dev nD) (t : Fin cfg0.N) (r : Fin 256) (j : Fin 4096) (R : Fin 8704) (hR : R.val = win0_5.index t 0 * 256 + r.val) :
    k0_pay1 (F := Ideal) (iblk m c 0 t) (iblk m c 1 t) (iblk m c 3 t) (iblk m c 2 t) (ix2 r j)
      = hrow (m ((c : Thread nD τ).loc main_arg0)) (m ((c : Thread nD τ).loc main_arg1)) (m ((c : Thread nD τ).loc main_arg2)) R j := by
  refine (pay_apply (iblk m c 0 t) (iblk m c 1 t) (iblk m c 3 t) (iblk m c 2 t) r j).trans ?_
  obtain ⟨⟨a0, a1⟩, ⟨n0, n1⟩, ⟨b0, b1, b2⟩, ⟨c0, c1, c2⟩, -, -, -⟩ := idx_h t
  have hr := r.isLt
  unfold hrow
  refine congrArg₂ (· + ·) (congrArg₂ (· * ·) (congrArg₂ (fun x g => rowNorm x g j) (funext fun e => ?_) (funext fun e => ?_))
    (congrArg (one + ·) ?_)) ?_
  · show V m c main_arg0 ((win0_0.rect t).emb (ix2 r e)) = _
    rw [V_main_arg0]
    refine congrArg _ (Shape.idx_ext₂ ((win0_0.rect_emb_val t (ix2 r e) 0).trans ?_) ((win0_0.rect_emb_val t (ix2 r e) 1).trans ?_))
    · rw [a0]; exact hR.symm
    · rw [a1]; exact Nat.zero_add _
  · show V m c main_v1 ((win0_1.rect t).emb (ix2 (0 : Fin 1) e)) = _
    rw [V_nw]
    have eb : (win0_1.rect t).emb (ix2 (0 : Fin 1) e) = ix2 (0 : Fin 1) e :=
      Shape.idx_ext₂ ((win0_1.rect_emb_val t (ix2 (0 : Fin 1) e) 0).trans (by rw [n0]; rfl))
        ((win0_1.rect_emb_val t (ix2 (0 : Fin 1) e) 1).trans (by rw [n1]; exact Nat.zero_add _))
    rw [eb]
    exact nw_at _ e
  · show V m c main_arg2 ((win0_3.rect t).emb (ix3 (0 : Fin 1) (0 : Fin 1) j)) = _
    rw [V_main_arg2]
    refine congrArg _ (funext fun a => Fin.ext ?_)
    match a with
    | ⟨0, _⟩ =>
      refine (win0_3.rect_emb_val t (ix3 (0 : Fin 1) (0 : Fin 1) j) 0).trans ?_
      rw [c0]
      show win0_5.index t 0 / 16 * 1 + 0 = R.val / 4096
      omega
    | ⟨1, _⟩ => exact (win0_3.rect_emb_val t (ix3 (0 : Fin 1) (0 : Fin 1) j) 1).trans (by rw [c1]; rfl)
    | ⟨2, _⟩ => exact (win0_3.rect_emb_val t (ix3 (0 : Fin 1) (0 : Fin 1) j) 2).trans (by rw [c2]; rfl)
  · show V m c main_arg2 ((win0_2.rect t).emb (ix3 (0 : Fin 1) (0 : Fin 1) j)) = _
    rw [V_main_arg2]
    refine congrArg _ (funext fun a => Fin.ext ?_)
    match a with
    | ⟨0, _⟩ =>
      refine (win0_2.rect_emb_val t (ix3 (0 : Fin 1) (0 : Fin 1) j) 0).trans ?_
      rw [b0]
      show win0_5.index t 0 / 16 * 1 + 0 = R.val / 4096
      omega
    | ⟨1, _⟩ => exact (win0_2.rect_emb_val t (ix3 (0 : Fin 1) (0 : Fin 1) j) 1).trans (by rw [b1]; rfl)
    | ⟨2, _⟩ => exact (win0_2.rect_emb_val t (ix3 (0 : Fin 1) (0 : Fin 1) j) 2).trans (by rw [b2]; rfl)

/-- What point `t` writes back to the first result is block `t` of `G`. -/
theorem flushed_eq5 (c : Dev nD) (t : Fin cfg0.N) :
    (dats m 0 c).flushed 5 t = (win0_5.blk t).view.read (Elt Ideal)
      (G (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  unfold out0_5
  rw [View.canon_unit_zero hz, View.ld_unit_zero hz, View.ld_unit_zero hz, View.ld_unit_zero hz3, View.ld_unit_zero hz3]
  funext y
  obtain ⟨r, s, rfl⟩ : ∃ (r : Fin 256) (s : Fin 4096), y = ix2 r s := ⟨y 0, y 1, eq_ix2 y⟩
  have q1 := (idx_h t).2.2.2.2.2.1
  have o0 : ((win0_5.rect t).emb (ix2 r s) 0).val = win0_5.index t 0 * 256 + r.val := win0_5.rect_emb_val t (ix2 r s) 0
  have o1 : ((win0_5.rect t).emb (ix2 r s) 1).val = win0_5.index t 1 * 4096 + s.val := win0_5.rect_emb_val t (ix2 r s) 1
  have es : (win0_5.rect t).emb (ix2 r s) 1 = s := Fin.ext (o1.trans (by rw [q1]; omega))
  refine (body_row m c t r s ((win0_5.rect t).emb (ix2 r s) 0) o0).trans ?_
  exact congrArg (hrow (m ((c : Thread nD τ).loc main_arg0)) (m ((c : Thread nD τ).loc main_arg1)) (m ((c : Thread nD τ).loc main_arg2))
    ((win0_5.rect t).emb (ix2 r s) 0)) es.symm

/-- What point `t` writes back to the second result is block `t` of `L`. -/
theorem flushed_eq6 (c : Dev nD) (t : Fin cfg0.N) :
    (dats m 0 c).flushed 6 t = (win0_6.blk t).view.read (Elt Ideal)
      (L (m ((c : Thread nD τ).loc main_arg0)) (m ((c : Thread nD τ).loc main_arg1)) (m ((c : Thread nD τ).loc main_arg2))
        (m ((c : Thread nD τ).loc main_arg3))) := by
  show (cfg0.win 6).cut (grid0.coords t) ((dats m 0 c).after 6 t) = _
  rw [after0_6]
  unfold out0_6
  rw [View.canon_unit_zero hz, View.ld_unit_zero hz, View.ld_unit_zero hz, View.ld_unit_zero hz3, View.ld_unit_zero hz3,
    View.ld_unit_zero hz]
  funext y
  obtain ⟨r, s, rfl⟩ : ∃ (r : Fin 256) (s : Fin 128), y = ix2 r s := ⟨y 0, y 1, eq_ix2 y⟩
  obtain ⟨-, -, -, -, ⟨d0, d1⟩, -, ⟨q0, q1⟩⟩ := idx_h t
  have o0 : ((win0_6.rect t).emb (ix2 r s) 0).val = win0_6.index t 0 * 256 + r.val := win0_6.rect_emb_val t (ix2 r s) 0
  have o1 : ((win0_6.rect t).emb (ix2 r s) 1).val = win0_6.index t 1 * 128 + s.val := win0_6.rect_emb_val t (ix2 r s) 1
  have es : (win0_6.rect t).emb (ix2 r s) 1 = s := Fin.ext (o1.trans (by rw [q1]; omega))
  refine (logit_apply (iblk m c 0 t) (iblk m c 1 t) (iblk m c 3 t) (iblk m c 2 t) (iblk m c 4 t) r s).trans ?_
  show _ = L (m ((c : Thread nD τ).loc main_arg0)) (m ((c : Thread nD τ).loc main_arg1)) (m ((c : Thread nD τ).loc main_arg2))
    (m ((c : Thread nD τ).loc main_arg3)) ((win0_6.rect t).emb (ix2 r s))
  unfold L
  rw [es]
  refine Finset.sum_congr rfl fun k _ => congrArg₂ (· * ·) (body_row m c t r k _ (o0.trans (by rw [q0]))) ?_
  show V m c main_v0 ((win0_4.rect t).emb (ix2 k s)) = _
  rw [V_w]
  have eb : (win0_4.rect t).emb (ix2 k s) = ix2 k s :=
    Shape.idx_ext₂ ((win0_4.rect_emb_val t (ix2 k s) 0).trans (by rw [d0]; exact Nat.zero_add _))
      ((win0_4.rect_emb_val t (ix2 k s) 1).trans (by rw [d1]; exact Nat.zero_add _))
  rw [eb]
  exact w_at _ k s

/-- The first result's blocks tile its array. -/
theorem cover5 (i : S8704x4096.Idx) :
    ∃ t : Fin cfg0.N, (cfg0.win 5).flush t = true ∧ i ∈ ((cfg0.win 5).blk t).view.set := by
  have h0 : (i 0 : Nat) < 8704 := (i 0).isLt
  have h1 : (i 1 : Nat) < 4096 := (i 1).isLt
  obtain ⟨t, ha⟩ := idx_onto ⟨(i 0 : Nat) / 256, by omega⟩
  have hb := (idx_h t).2.2.2.2.2.1
  refine ⟨t, flush0_5 t, ?_⟩
  show i ∈ ((View.whole main_v2_0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [ha]; dsimp only; omega
  | ⟨1, _⟩ =>
    show win0_5.index t 1 * 4096 ≤ (i 1 : Nat) ∧ (i 1 : Nat) < win0_5.index t 1 * 4096 + 4096
    rw [hb]; omega

/-- The second result's blocks tile its array. -/
theorem cover6 (i : S8704x128.Idx) :
    ∃ t : Fin cfg0.N, (cfg0.win 6).flush t = true ∧ i ∈ ((cfg0.win 6).blk t).view.set := by
  have h0 : (i 0 : Nat) < 8704 := (i 0).isLt
  have h1 : (i 1 : Nat) < 128 := (i 1).isLt
  obtain ⟨t, ha⟩ := idx_onto ⟨(i 0 : Nat) / 256, by omega⟩
  obtain ⟨hq, hb⟩ := (idx_h t).2.2.2.2.2.2
  refine ⟨t, flush0_6 t, ?_⟩
  show i ∈ ((View.whole main_v2_1).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [hq, ha]; dsimp only; omega
  | ⟨1, _⟩ =>
    show win0_6.index t 1 * 128 ≤ (i 1 : Nat) ∧ (i 1 : Nat) < win0_6.index t 1 * 128 + 128
    rw [hb]; omega

/-- So the first result array ends holding `G` of the arguments. -/
theorem final5 (c : Dev nD) : (dats m 0 c).arrAt 5 cfg0.N
    = G (m ((c : Thread nD τ).loc main_arg0)) (m ((c : Thread nD τ).loc main_arg1)) (m ((c : Thread nD τ).loc main_arg2)) :=
  (dats m 0 c).arrAt_eq_of_cover 5 _ (fun t _ => flushed_eq5 m c t) cover5

/-- And the second `L`. -/
theorem final6 (c : Dev nD) : (dats m 0 c).arrAt 6 cfg0.N
    = L (m ((c : Thread nD τ).loc main_arg0)) (m ((c : Thread nD τ).loc main_arg1)) (m ((c : Thread nD τ).loc main_arg2))
        (m ((c : Thread nD τ).loc main_arg3)) :=
  (dats m 0 c).arrAt_eq_of_cover 6 _ (fun t _ => flushed_eq6 m c t) cover6

end Kernel

section Reference
open Cert.NormRRefIdeal.Read

variable (x : S8704x4096.Idx → EReal) (nw : S4096.Idx → EReal) (md : S8x1x24576.Idx → EReal) (w : S4096x16.Idx → EReal)

/-- The reference's normalised rows. -/
theorem norm_eq (r : Fin 8704) (j : Fin 4096) :
    val_main_v14 (F := Ideal) x nw (ix2 r j) = rowNorm (fun e => x (ix2 r e)) (fun e => nw (ix1 e)) j := by
  rw [val_main_v14_apply, val_main_v11_apply, val_main_v10_apply, val_main_v9_apply, val_main_v8_apply, val_main_v6_apply,
    val_main_v4_apply, val_main_v3_apply, val_main_v5_apply, val_main_v7_apply, val_main_v13_apply, val_main_v12_apply,
    val_main_cst_apply, val_main_cst_0_apply, val_main_cst_1_apply]
  simp only [Ideal.mulf_def, Ideal.addf_def, Ideal.hostDivf_def]
  unfold rowNorm
  refine congrArg₂ (· * ·) (congrArg (x (ix2 r j) * ·) ?_) (congrArg nw (funext fun a => match a with | ⟨0, _⟩ => rfl))
  refine congrArg Ideal.rsqrt (congrArg (· + FloatOps.ofBits (F := Ideal) .f32 0x358637BD#32)
    (congrArg (Ideal.div · (FloatOps.ofBits (F := Ideal) .f32 0x45800000#32)) ?_))
  refine (congrArg (· + _) Ideal.ofBits_zero_f32).trans ((zero_add _).trans (Finset.sum_congr rfl fun e _ => ?_))
  have hi : idx_main_v3 (idx_main_v4 (idx_main_v10 (ix2 r j))) e = ix2 r e := Shape.idx_ext₂ rfl rfl
  rw [val_main_v2_apply, Ideal.mulf_def, hi]

/-- The reference's modulated rows, among the first 8192. -/
theorem lat_eq (r : Fin 8192) (j : Fin 4096) :
    val_main_v36 (F := Ideal) x nw md (ix2 r j) = hrow x nw md ⟨r.val, by omega⟩ j := by
  have hr := r.isLt
  have hj := j.isLt
  have e1 : idx_main_v36 (ix2 r j) = ix3 (⟨r.val / 4096, by omega⟩ : Fin 2) (⟨r.val % 4096, by omega⟩ : Fin 4096) j :=
    funext fun a => Fin.ext (match a with
      | ⟨0, _⟩ => by show (r.val * 4096 + j.val) / 16777216 = r.val / 4096; omega
      | ⟨1, _⟩ => by show (r.val * 4096 + j.val) / 4096 % 4096 = r.val % 4096; omega
      | ⟨2, _⟩ => by show (r.val * 4096 + j.val) % 4096 = j.val; omega)
  have e2 : idx_main_v15 (idx_main_v16 (ix3 (⟨r.val / 4096, by omega⟩ : Fin 2) (⟨r.val % 4096, by omega⟩ : Fin 4096) j))
      = ix2 (⟨r.val, by omega⟩ : Fin 8704) j := Shape.idx_ext₂
    (by show ((r.val / 4096 * 4096 + r.val % 4096) * 4096 + j.val) / 4096 = r.val; omega)
    (by show ((r.val / 4096 * 4096 + r.val % 4096) * 4096 + j.val) % 4096 = j.val; omega)
  rw [val_main_v36_apply, e1, val_main_v24_apply, val_main_v21_apply, val_main_v16_apply, val_main_v15_apply, e2, norm_eq,
    val_main_v20_apply, val_main_v19_apply, val_main_v18_apply, val_main_cst_2_apply, val_main_v17_apply, val_main_v1_apply,
    val_main_v23_apply, val_main_v22_apply, val_main_v0_apply]
  simp only [Ideal.mulf_def, Ideal.addf_def]
  unfold hrow
  refine congrArg₂ (· + ·) (congrArg (_ * ·) (congrArg (one + ·) (congrArg md (funext fun a => ?_)))) (congrArg md (funext fun a => ?_))
  · match a with | ⟨0, _⟩ => rfl | ⟨1, _⟩ => rfl | ⟨2, _⟩ => rfl
  · match a with | ⟨0, _⟩ => rfl | ⟨1, _⟩ => rfl | ⟨2, _⟩ => rfl

/-- The reference's modulated rows, among the last 512. -/
theorem ctx_eq (r : Fin 512) (j : Fin 4096) :
    val_main_v35 (F := Ideal) x nw md (ix2 r j) = hrow x nw md ⟨8192 + r.val, by omega⟩ j := by
  have hr := r.isLt
  have hj := j.isLt
  have e2 : idx_main_v25 (ix2 r j) = ix2 (⟨8192 + r.val, by omega⟩ : Fin 8704) j := Shape.idx_ext₂ rfl rfl
  rw [val_main_v35_apply, val_main_v31_apply, val_main_v25_apply, e2, norm_eq,
    val_main_v30_apply, val_main_v29_apply, val_main_v28_apply, val_main_cst_3_apply, val_main_v27_apply, val_main_v26_apply, val_main_v1_apply,
    val_main_v34_apply, val_main_v33_apply, val_main_v32_apply, val_main_v0_apply]
  simp only [Ideal.mulf_def, Ideal.addf_def]
  unfold hrow
  refine congrArg₂ (· + ·) (congrArg (_ * ·) (congrArg (one + ·) (congrArg md (funext fun a => Fin.ext ?_))))
    (congrArg md (funext fun a => Fin.ext ?_))
  · match a with
    | ⟨0, _⟩ => show 2 + 0 = (8192 + r.val) / 4096; omega
    | ⟨1, _⟩ => rfl
    | ⟨2, _⟩ => show 16384 + (0 * 4096 + j.val) % 4096 = 16384 + j.val; omega
  · match a with
    | ⟨0, _⟩ => show 2 + 0 = (8192 + r.val) / 4096; omega
    | ⟨1, _⟩ => rfl
    | ⟨2, _⟩ => show 12288 + (0 * 4096 + j.val) % 4096 = 12288 + j.val; omega

/-- The reference's modulated rows. -/
theorem rows_eq (r : Fin 8704) (j : Fin 4096) : val_main_v37 (F := Ideal) x nw md (ix2 r j) = hrow x nw md r j := by
  have hr := r.isLt
  unfold val_main_v37
  by_cases h : r.val < 8192
  · refine (concatenate_pair_apply_left (t := Cert.NormRRefIdeal.S8704x4096) (s₁ := Cert.NormRRefIdeal.S8192x4096)
      (s₂ := Cert.NormRRefIdeal.S512x4096) 0 _ _ _ _ rfl (ix2 ⟨r.val, h⟩ j)
      (fun a => match a with | ⟨0, _⟩ => rfl | ⟨1, _⟩ => rfl)).trans ?_
    exact lat_eq x nw md ⟨r.val, h⟩ j
  · refine (concatenate_pair_apply_right (t := Cert.NormRRefIdeal.S8704x4096) (s₁ := Cert.NormRRefIdeal.S8192x4096)
      (s₂ := Cert.NormRRefIdeal.S512x4096) 0 _ _ _ _ rfl rfl (ix2 ⟨r.val - 8192, by omega⟩ j)
      (fun a ha => match a, ha with | ⟨0, _⟩, ha => absurd rfl ha | ⟨1, _⟩, _ => rfl)
      (by show r.val - 8192 + 8192 = r.val; omega)).trans ?_
    refine (ctx_eq x nw md ⟨r.val - 8192, by omega⟩ j).trans (congrArg (fun r => hrow x nw md r j) (Fin.ext ?_))
    show 8192 + (r.val - 8192) = r.val
    omega

/-- The reference's first result is `G`. -/
theorem ref_eq5 : val_main_v38 (F := Ideal) x nw md = G x nw md := by
  funext i
  obtain ⟨r, s, rfl⟩ : ∃ (r : Fin 8704) (s : Fin 4096), i = ix2 r s := ⟨i 0, i 1, eq_ix2 i⟩
  rw [val_main_v38_apply]
  exact rows_eq x nw md r s

/-- The reference's second result is `L`. -/
theorem ref_eq6 : val_main_v40 (F := Ideal) x nw md w = L x nw md w := by
  funext i
  obtain ⟨r, s, rfl⟩ : ∃ (r : Fin 8704) (s : Fin 128), i = ix2 r s := ⟨i 0, i 1, eq_ix2 i⟩
  unfold val_main_v40 L
  by_cases h : s.val < 16
  · refine (pad_apply_of_inside _ _ _ _ _ _ _ (ix2 r s) (ix2 r ⟨s.val, h⟩) (fun a => match a with
      | ⟨0, _⟩ => by show r.val = 0 + r.val * (0 + 1); omega
      | ⟨1, _⟩ => by show s.val = 0 + s.val * (0 + 1); omega)).trans ?_
    rw [val_main_v39_apply]
    refine Finset.sum_congr rfl fun k _ => congrArg₂ (· * ·) ?_ ?_
    · rw [eq_ix2 (lidx_main_v39 (ix2 r ⟨s.val, h⟩) k)]; exact rows_eq x nw md r k
    · refine Eq.trans ?_ (dif_pos h).symm
      exact congrArg w (Shape.idx_ext₂ rfl rfl)
  · refine (pad_apply_of_not_inside _ _ _ _ _ _ _ (ix2 r s) (1 : Fin 2) (fun hn => ?_)).trans ?_
    · have := hn.2.2
      have : (s.val - 0) / (0 + 1) < 16 := this
      omega
    · refine (zero_eq _).trans (Finset.sum_eq_zero fun k _ => ?_).symm
      refine (congrArg (_ * ·) (dif_neg h)).trans (mul_zero _)

end Reference

/-- The reference's frame. -/
theorem frame_ref : Cert.quiescent_NormRRefIdeal := fun m ρ _ =>
  (θ_run Cert.NormRRefIdeal.defs _ _).mono (fun r h => ⟨fun c => (h c).2.2,
      sem_eq_zero_of_no_sems (by decide) r.2⟩)
    (Cert.NormRRefIdeal.Value.run (F := Ideal) m ρ)

/-- The kernel's results are the reference's. -/
theorem algebraic : Cert.algebraic_NormRIdeal_NormRRefIdeal := by
  intro m ρ m' ρ' _ hagree
  refine ⟨fun c => G (m ((c : Thread nD τ).loc main_arg0)) (m ((c : Thread nD τ).loc main_arg1)) (m ((c : Thread nD τ).loc main_arg2)),
    fun c => L (m ((c : Thread nD τ).loc main_arg0)) (m ((c : Thread nD τ).loc main_arg1)) (m ((c : Thread nD τ).loc main_arg2))
      (m ((c : Thread nD τ).loc main_arg3)), ?_, ?_⟩
  · exact (θ_run Cert.NormRIdeal.defs _ _).mono
      (fun r h c => ⟨((h c).1).trans (final5 m c), ((h c).2.1).trans (final6 m c), (h c).2.2⟩)
      (Cert.NormRIdeal.Value.run_blocks (F := Ideal) m ρ)
  · refine (θ_run Cert.NormRRefIdeal.defs _ _).mono (fun r h c => ⟨(h c).1.trans ?_, (h c).2.1.trans ?_, (h c).2.2⟩)
      (Cert.NormRRefIdeal.Value.run (F := Ideal) m' ρ')
    · obtain ⟨h0, h1, h2, h3⟩ := hagree c
      rw [Cert.NormRRefIdeal.Read.val_main_v38_eq, ref_eq5, h0, h1, h2]
    · obtain ⟨h0, h1, h2, h3⟩ := hagree c
      rw [Cert.NormRRefIdeal.Read.val_main_v40_eq, ref_eq6, h0, h1, h2, h3]

end Cert.Proof.NormR

end
-- ==== Proof.FfnRes.lean ====
/-
  The experts' residual with the final normalisation: the kernel's result array and the reference's are one function of the
  arguments.
-/
module

public import proofs.«01_k».proof.Defs
public import proofs.«01_k».proof.Proof.Gen.FfnResIdeal.Value
public import proofs.«01_k».proof.Proof.Gen.FfnResRefIdeal.Run
public import proofs.«01_k».proof.Proof.Gen.FfnResRefIdeal.Read
public import proofs.«01_k».proof.Proof.Rows
public import Idealize.ShloMosaic.Lib.IdealHost

@[expose] public section

set_option maxRecDepth 16384

noncomputable section

namespace Cert.Proof.FfnRes

open Cert.FfnResIdeal Cert.FfnResIdeal.Gen Idealize.ShloMosaic Idealize.ShloMosaic.TcCoe Idealize.SL.Sem
open Idealize.ShloMosaic.Pipeline (Dat)
open Idealize.ShloMosaic.ValueIdx
open Cert.Proof.Rows
open scoped BigOperators

/-- A row plus the modulation's chunk five of its batch times the gated sum of the two experts' rows. -/
def resid (x f0 f1 : S8192x4096.Idx → EReal) (gate : S8192x2.Idx → EReal) (md : S8x1x24576.Idx → EReal) (r : Fin 8192) (e : Fin 4096) : EReal :=
  x (ix2 r e) + md (ix3 (⟨r.val / 4096, by omega⟩ : Fin 8) (0 : Fin 1) (⟨20480 + e.val, by omega⟩ : Fin 24576))
    * (gate (ix2 r (0 : Fin 2)) * f0 (ix2 r e) + gate (ix2 r (1 : Fin 2)) * f1 (ix2 r e))

/-- The result: that sum, normalised row by row. -/
def G (x f0 f1 : S8192x4096.Idx → EReal) (gate : S8192x2.Idx → EReal) (md : S8x1x24576.Idx → EReal) (nw : S4096.Idx → EReal) :
    S8192x4096.Idx → EReal := fun i => rowNorm (resid x f0 f1 gate md (i 0)) (fun e => nw (ix1 e)) (i 1)

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- The normalisation's weights as one row, as the region finds them. -/
theorem V_nw (c : Dev nD) : V m c main_v0 = shapeCast S1x4096 (m ((c : Thread nD τ).loc main_arg5)) shapeCasts_S4096_S1x4096 := by
  unfold V
  after_results_simp <;> rfl

/-- The weights as one row, at an index. -/
theorem nw_at (nw : S4096.Idx → EReal) (e : Fin 4096) :
    shapeCast S1x4096 nw shapeCasts_S4096_S1x4096 (ix2 (0 : Fin 1) e) = nw (ix1 e) := by
  refine shapeCast_apply _ _ _ _ ?_
  rw [Shape.rowMajor_val_two, Shape.rowMajor_val_one]
  show e.val = 0 * 4096 + e.val
  omega

/-- Block indices of the windows, point by point. -/
theorem idx_h : ∀ t : Fin cfg0.N, (win0_0.index t 0 = win0_6.index t 0 ∧ win0_0.index t 1 = 0)
    ∧ (win0_1.index t 0 = win0_6.index t 0 ∧ win0_1.index t 1 = 0) ∧ (win0_2.index t 0 = win0_6.index t 0 ∧ win0_2.index t 1 = 0)
    ∧ (win0_3.index t 0 = win0_6.index t 0 ∧ win0_3.index t 1 = 0)
    ∧ (win0_4.index t 0 = win0_6.index t 0 / 16 ∧ win0_4.index t 1 = 0 ∧ win0_4.index t 2 = 5)
    ∧ (win0_5.index t 0 = 0 ∧ win0_5.index t 1 = 0) ∧ win0_6.index t 1 = 0 :=
  (by decide +kernel : ∀ t : Fin grid0.N, (win0_0.index t 0 = win0_6.index t 0 ∧ win0_0.index t 1 = 0)
    ∧ (win0_1.index t 0 = win0_6.index t 0 ∧ win0_1.index t 1 = 0) ∧ (win0_2.index t 0 = win0_6.index t 0 ∧ win0_2.index t 1 = 0)
    ∧ (win0_3.index t 0 = win0_6.index t 0 ∧ win0_3.index t 1 = 0)
    ∧ (win0_4.index t 0 = win0_6.index t 0 / 16 ∧ win0_4.index t 1 = 0 ∧ win0_4.index t 2 = 5)
    ∧ (win0_5.index t 0 = 0 ∧ win0_5.index t 1 = 0) ∧ win0_6.index t 1 = 0)

/-- Every block of the result is some point's. -/
theorem idx_onto : ∀ b : Fin 32, ∃ t : Fin cfg0.N, win0_6.index t 0 = b.val :=
  (by decide +kernel : ∀ b : Fin 32, ∃ t : Fin grid0.N, win0_6.index t 0 = b.val)

/-- The body's sum, a block of rows. -/
def bsum (g : FVec Ideal S256x2 .f32) (f0 f1 x : FVec Ideal S256x4096 .f32) (md : FVec Ideal S1x1x4096 .f32) : FVec Ideal S256x4096 .f32 :=
  addf x (mulf (broadcastTo S256x4096 (shapeCast S1x4096 md shapeCasts_S1x1x4096_S1x4096) broadcasts_S1x4096_S256x4096)
    (addf (mulf (broadcastTo S256x4096 (extractStridedSlice S256x1 ![0, 0] g slices_S256x2_o0_0_S256x1) broadcasts_S256x1_S256x4096) f0)
      (mulf (broadcastTo S256x4096 (extractStridedSlice S256x1 ![0, 1] g slices_S256x2_o0_1_S256x1) broadcasts_S256x1_S256x4096) f1)))

/-- The body's sum, at an index. -/
theorem bsum_apply (g : FVec Ideal S256x2 .f32) (f0 f1 x : FVec Ideal S256x4096 .f32) (md : FVec Ideal S1x1x4096 .f32) (r : Fin 256) (e : Fin 4096) :
    bsum g f0 f1 x md (ix2 r e) = (x (ix2 r e) + md (ix3 (0 : Fin 1) (0 : Fin 1) e)
      * (g (ix2 r (0 : Fin 2)) * f0 (ix2 r e) + g (ix2 r (1 : Fin 2)) * f1 (ix2 r e)) : EReal) := by
  have h0 : extractStridedSlice S256x1 ![0, 0] g slices_S256x2_o0_0_S256x1 (ix2 r (0 : Fin 1)) = g (ix2 r (0 : Fin 2)) :=
    extractStridedSlice_apply _ _ _ _ _ fun a => match a with
      | ⟨0, _⟩ => (Nat.zero_add _).symm
      | ⟨1, _⟩ => rfl
  have h1 : extractStridedSlice S256x1 ![0, 1] g slices_S256x2_o0_1_S256x1 (ix2 r (0 : Fin 1)) = g (ix2 r (1 : Fin 2)) :=
    extractStridedSlice_apply _ _ _ _ _ fun a => match a with
      | ⟨0, _⟩ => (Nat.zero_add _).symm
      | ⟨1, _⟩ => rfl
  unfold bsum
  rw [addf_apply, mulf_apply, addf_apply, mulf_apply, mulf_apply, row_at, chunk_at, col_at, col_at, h0, h1]

/-- The body's result, at an index. -/
theorem pay_apply (g : FVec Ideal S256x2 .f32) (f0 f1 x : FVec Ideal S256x4096 .f32) (md : FVec Ideal S1x1x4096 .f32)
    (nw : FVec Ideal S1x4096 .f32) (r : Fin 256) (s : Fin 4096) :
    k0_pay1 (F := Ideal) g f0 f1 x md nw (ix2 r s)
      = rowNorm (fun e => bsum g f0 f1 x md (ix2 r e)) (fun e => nw (ix2 (0 : Fin 1) e)) s :=
  normed_apply (bsum g f0 f1 x md) nw reduces_S256x4096_S256 shapeCasts_S256_S256x1 broadcasts_S256x1_S256x4096
    shapeCasts_S1x4096_S1x4096 broadcasts_S1x4096_S256x4096 r s

/-- What point `t` writes back is block `t` of `G`. -/
theorem flushed_eq (c : Dev nD) (t : Fin cfg0.N) :
    (dats m 0 c).flushed 6 t = (win0_6.blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  unfold out0_6
  rw [View.canon_unit_zero hz, View.ld_unit_zero hz, View.ld_unit_zero hz, View.ld_unit_zero hz, View.ld_unit_zero hz,
    View.ld_unit_zero hz3, View.ld_unit_zero hz]
  funext y
  obtain ⟨r, s, rfl⟩ : ∃ (r : Fin 256) (s : Fin 4096), y = ix2 r s := ⟨y 0, y 1, eq_ix2 y⟩
  refine (pay_apply (iblk m c 3 t) (iblk m c 1 t) (iblk m c 2 t) (iblk m c 0 t) (iblk m c 4 t) (iblk m c 5 t) r s).trans ?_
  show _ = G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ((win0_6.rect t).emb (ix2 r s))
  obtain ⟨⟨a0, a1⟩, ⟨b0, b1⟩, ⟨c0, c1⟩, ⟨d0, d1⟩, ⟨g0, g1, g2⟩, ⟨n0, n1⟩, q1⟩ := idx_h t
  have o0 : ((win0_6.rect t).emb (ix2 r s) 0).val = win0_6.index t 0 * 256 + r.val := win0_6.rect_emb_val t (ix2 r s) 0
  have o1 : ((win0_6.rect t).emb (ix2 r s) 1).val = win0_6.index t 1 * 4096 + s.val := win0_6.rect_emb_val t (ix2 r s) 1
  have es : (win0_6.rect t).emb (ix2 r s) 1 = s := Fin.ext (o1.trans (by rw [q1]; omega))
  unfold G
  rw [es]
  refine congrArg₂ (fun x g => rowNorm x g s) (funext fun e => ?_) (funext fun e => ?_)
  · refine (bsum_apply (iblk m c 3 t) (iblk m c 1 t) (iblk m c 2 t) (iblk m c 0 t) (iblk m c 4 t) r e).trans ?_
    unfold resid
    refine congrArg₂ (· + ·) ?_ (congrArg₂ (· * ·) ?_ (congrArg₂ (· + ·) (congrArg₂ (· * ·) ?_ ?_) (congrArg₂ (· * ·) ?_ ?_)))
    · show V m c main_arg0 ((win0_0.rect t).emb (ix2 r e)) = _
      rw [V_main_arg0]
      refine congrArg _ (Shape.idx_ext₂ ((win0_0.rect_emb_val t (ix2 r e) 0).trans ?_) ((win0_0.rect_emb_val t (ix2 r e) 1).trans ?_))
      · rw [a0]; exact o0.symm
      · rw [a1]; exact Nat.zero_add _
    · show V m c main_arg4 ((win0_4.rect t).emb (ix3 (0 : Fin 1) (0 : Fin 1) e)) = _
      rw [V_main_arg4]
      refine congrArg _ (funext fun a => Fin.ext ?_)
      match a with
      | ⟨0, _⟩ =>
        refine (win0_4.rect_emb_val t (ix3 (0 : Fin 1) (0 : Fin 1) e) 0).trans ?_
        rw [g0]
        show win0_6.index t 0 / 16 * 1 + 0 = ((win0_6.rect t).emb (ix2 r s) 0).val / 4096
        rw [o0]
        have := r.isLt
        omega
      | ⟨1, _⟩ => exact (win0_4.rect_emb_val t (ix3 (0 : Fin 1) (0 : Fin 1) e) 1).trans (by rw [g1]; rfl)
      | ⟨2, _⟩ => exact (win0_4.rect_emb_val t (ix3 (0 : Fin 1) (0 : Fin 1) e) 2).trans (by rw [g2]; rfl)
    · show V m c main_arg3 ((win0_3.rect t).emb (ix2 r (0 : Fin 2))) = _
      rw [V_main_arg3]
      refine congrArg _ (Shape.idx_ext₂ ((win0_3.rect_emb_val t (ix2 r (0 : Fin 2)) 0).trans ?_) ((win0_3.rect_emb_val t (ix2 r (0 : Fin 2)) 1).trans ?_))
      · rw [d0]; exact o0.symm
      · rw [d1]; rfl
    · show V m c main_arg1 ((win0_1.rect t).emb (ix2 r e)) = _
      rw [V_main_arg1]
      refine congrArg _ (Shape.idx_ext₂ ((win0_1.rect_emb_val t (ix2 r e) 0).trans ?_) ((win0_1.rect_emb_val t (ix2 r e) 1).trans ?_))
      · rw [b0]; exact o0.symm
      · rw [b1]; exact Nat.zero_add _
    · show V m c main_arg3 ((win0_3.rect t).emb (ix2 r (1 : Fin 2))) = _
      rw [V_main_arg3]
      refine congrArg _ (Shape.idx_ext₂ ((win0_3.rect_emb_val t (ix2 r (1 : Fin 2)) 0).trans ?_) ((win0_3.rect_emb_val t (ix2 r (1 : Fin 2)) 1).trans ?_))
      · rw [d0]; exact o0.symm
      · rw [d1]; rfl
    · show V m c main_arg2 ((win0_2.rect t).emb (ix2 r e)) = _
      rw [V_main_arg2]
      refine congrArg _ (Shape.idx_ext₂ ((win0_2.rect_emb_val t (ix2 r e) 0).trans ?_) ((win0_2.rect_emb_val t (ix2 r e) 1).trans ?_))
      · rw [c0]; exact o0.symm
      · rw [c1]; exact Nat.zero_add _
  · show V m c main_v0 ((win0_5.rect t).emb (ix2 (0 : Fin 1) e)) = _
    rw [V_nw]
    have eb : (win0_5.rect t).emb (ix2 (0 : Fin 1) e) = ix2 (0 : Fin 1) e :=
      Shape.idx_ext₂ ((win0_5.rect_emb_val t (ix2 (0 : Fin 1) e) 0).trans (by rw [n0]; rfl))
        ((win0_5.rect_emb_val t (ix2 (0 : Fin 1) e) 1).trans (by rw [n1]; exact Nat.zero_add _))
    rw [eb]
    exact nw_at _ e

/-- The result's blocks tile its array. -/
theorem cover (i : S8192x4096.Idx) :
    ∃ t : Fin cfg0.N, (cfg0.win 6).flush t = true ∧ i ∈ ((cfg0.win 6).blk t).view.set := by
  have h0 : (i 0 : Nat) < 8192 := (i 0).isLt
  have h1 : (i 1 : Nat) < 4096 := (i 1).isLt
  obtain ⟨t, ha⟩ := idx_onto ⟨(i 0 : Nat) / 256, by omega⟩
  have hb := (idx_h t).2.2.2.2.2.2
  refine ⟨t, flush0_6 t, ?_⟩
  show i ∈ ((View.whole main_v1).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [ha]; dsimp only; omega
  | ⟨1, _⟩ =>
    show win0_6.index t 1 * 4096 ≤ (i 1 : Nat) ∧ (i 1 : Nat) < win0_6.index t 1 * 4096 + 4096
    rw [hb]; omega

/-- So the result array ends holding `G` of the arguments. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) cover

end Kernel

section Reference
open Cert.FfnResRefIdeal.Read

variable (x f0 f1 : S8192x4096.Idx → EReal) (gate : S8192x2.Idx → EReal) (md : S8x1x24576.Idx → EReal) (nw : S4096.Idx → EReal)

/-- The reference's sum, at a position of a batch. -/
theorem sum_eq (b : Fin 2) (p e : Fin 4096) :
    val_main_v12 (F := Ideal) x f0 f1 gate md (ix3 b p e) = resid x f0 f1 gate md ⟨b.val * 4096 + p.val, by omega⟩ e := by
  have hb := b.isLt
  have hp := p.isLt
  have he := e.isLt
  have i7 : idx_main_v7 (ix3 b p e) = ix2 (⟨b.val * 4096 + p.val, by omega⟩ : Fin 8192) e := Shape.idx_ext₂
    (by show ((b.val * 4096 + p.val) * 4096 + e.val) / 4096 = b.val * 4096 + p.val; omega)
    (by show ((b.val * 4096 + p.val) * 4096 + e.val) % 4096 = e.val; omega)
  have i9 : idx_main_v9 (ix3 b p e) = ix2 (⟨b.val * 4096 + p.val, by omega⟩ : Fin 8192) e := i7
  rw [val_main_v12_apply, val_main_v7_apply, val_main_v11_apply, val_main_v10_apply, val_main_v8_apply, val_main_v9_apply, i7, i9,
    val_main_v6_apply, val_main_v2_apply, val_main_v5_apply, val_main_v1_apply, val_main_v0_apply, val_main_v4_apply, val_main_v3_apply]
  simp only [Ideal.mulf_def, Ideal.addf_def]
  unfold resid
  refine congrArg₂ (· + ·) rfl (congrArg₂ (· * ·) (congrArg md (funext fun a => Fin.ext ?_))
    (congrArg₂ (· + ·) (congrArg₂ (· * ·) (congrArg gate (Shape.idx_ext₂ rfl rfl)) rfl) (congrArg₂ (· * ·) (congrArg gate (Shape.idx_ext₂ rfl rfl)) rfl)))
  match a with
  | ⟨0, _⟩ => show b.val = (b.val * 4096 + p.val) / 4096; omega
  | ⟨1, _⟩ => rfl
  | ⟨2, _⟩ => rfl

/-- The reference's normalised sum, at a position of a batch. -/
theorem norm_eq (b : Fin 2) (p s : Fin 4096) :
    val_main_v25 (F := Ideal) x f0 f1 gate md nw (ix3 b p s)
      = rowNorm (resid x f0 f1 gate md ⟨b.val * 4096 + p.val, by omega⟩) (fun e => nw (ix1 e)) s := by
  rw [val_main_v25_apply, val_main_v22_apply, sum_eq, val_main_v21_apply, val_main_v20_apply, val_main_v19_apply, val_main_v17_apply,
    val_main_v15_apply, val_main_v14_apply, val_main_v16_apply, val_main_v18_apply, val_main_v24_apply, val_main_v23_apply,
    val_main_cst_apply, val_main_cst_0_apply, val_main_cst_1_apply]
  simp only [Ideal.mulf_def, Ideal.addf_def, Ideal.hostDivf_def]
  unfold rowNorm
  refine congrArg₂ (· * ·) (congrArg (resid x f0 f1 gate md _ s * ·) ?_) (congrArg nw (funext fun a => match a with | ⟨0, _⟩ => rfl))
  refine congrArg Ideal.rsqrt (congrArg (· + FloatOps.ofBits (F := Ideal) .f32 0x358637BD#32)
    (congrArg (Ideal.div · (FloatOps.ofBits (F := Ideal) .f32 0x45800000#32)) ?_))
  refine (congrArg (· + _) Ideal.ofBits_zero_f32).trans ((zero_add _).trans (Finset.sum_congr rfl fun e _ => ?_))
  rw [val_main_v13_apply, Ideal.mulf_def]
  have hi : idx_main_v14 (idx_main_v15 (idx_main_v21 (ix3 b p s))) e = ix3 b p e :=
    funext fun a => match a with | ⟨0, _⟩ => rfl | ⟨1, _⟩ => rfl | ⟨2, _⟩ => rfl
  rw [hi, sum_eq]

/-- The reference's result is `G`. -/
theorem ref_eq : val_main_v26 (F := Ideal) x f0 f1 gate md nw = G x f0 f1 gate md nw := by
  funext i
  obtain ⟨r, s, rfl⟩ : ∃ (r : Fin 8192) (s : Fin 4096), i = ix2 r s := ⟨i 0, i 1, eq_ix2 i⟩
  have hr := r.isLt
  have hs := s.isLt
  have e1 : idx_main_v26 (ix2 r s) = ix3 (⟨r.val / 4096, by omega⟩ : Fin 2) (⟨r.val % 4096, by omega⟩ : Fin 4096) s :=
    funext fun a => Fin.ext (match a with
      | ⟨0, _⟩ => by show (r.val * 4096 + s.val) / 16777216 = r.val / 4096; omega
      | ⟨1, _⟩ => by show (r.val * 4096 + s.val) / 4096 % 4096 = r.val % 4096; omega
      | ⟨2, _⟩ => by show (r.val * 4096 + s.val) % 4096 = s.val; omega)
  rw [val_main_v26_apply, e1, norm_eq]
  have e2 : (⟨r.val / 4096 * 4096 + r.val % 4096, by omega⟩ : Fin 8192) = r := Fin.ext (by show r.val / 4096 * 4096 + r.val % 4096 = r.val; omega)
  exact congrArg (fun r => rowNorm (resid x f0 f1 gate md r) (fun e => nw (ix1 e)) s) e2

end Reference

/-- The reference's frame. -/
theorem frame_ref : Cert.quiescent_FfnResRefIdeal := fun m ρ _ =>
  (θ_run Cert.FfnResRefIdeal.defs _ _).mono (fun r h => ⟨fun c => (h c).2,
      sem_eq_zero_of_no_sems (by decide) r.2⟩)
    (Cert.FfnResRefIdeal.Value.run (F := Ideal) m ρ)

/-- The kernel's result is the reference's. -/
theorem algebraic : Cert.algebraic_FfnResIdeal_FfnResRefIdeal := by
  intro m ρ m' ρ' _ hagree
  refine ⟨fun c => G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)), ?_, ?_⟩
  · exact (θ_run Cert.FfnResIdeal.defs _ _).mono (fun r h c => ⟨((h c).1).trans (final m c), (h c).2⟩)
      (Cert.FfnResIdeal.Value.run_blocks (F := Ideal) m ρ)
  · refine (θ_run Cert.FfnResRefIdeal.defs _ _).mono (fun r h c => ⟨(h c).1.trans ?_, (h c).2⟩)
      (Cert.FfnResRefIdeal.Value.run (F := Ideal) m' ρ')
    obtain ⟨h0, h1, h2, h3, h4, h5⟩ := hagree c
    rw [Cert.FfnResRefIdeal.Read.val_main_v26_eq, ref_eq, h0, h1, h2, h3, h4, h5]

end Cert.Proof.FfnRes

end
-- ==== Proof.ProjOut.lean ====
/-
  The residual projection after the attention, on the latent rows: the kernel's result array and the reference's are one function of the arguments.
-/
module

public import proofs.«01_k».proof.Defs
public import proofs.«01_k».proof.Proof.Gen.ProjOutIdeal.Value
public import proofs.«01_k».proof.Proof.Gen.ProjOutRefIdeal.Run
public import proofs.«01_k».proof.Proof.Gen.ProjOutRefIdeal.Read
public import Idealize.ShloMosaic.Lib.Pipeline.Value
public import Idealize.ShloMosaic.Lib.MatmulPlain
public import Idealize.ShloMosaic.Lib.ValueIdx

@[expose] public section

set_option maxRecDepth 16384

noncomputable section

namespace Cert.Proof.ProjOut

open Cert.ProjOutIdeal Cert.ProjOutIdeal.Gen Idealize.ShloMosaic Idealize.ShloMosaic.TcCoe Idealize.SL.Sem
open Idealize.ShloMosaic.Pipeline (Dat)
open Idealize.ShloMosaic.ValueIdx
open scoped BigOperators

/-- The sample of a row. -/
theorem grp_lt (i : S8192x4096.Idx) : (i 0).val / 4096 < 8 := by
  have h0 : (i 0).val < 8192 := (i 0).isLt
  omega

/-- The residual's row under a row of the result. -/
theorem row_lt (i : S8192x4096.Idx) : (i 0).val < 8704 := by
  have h0 : (i 0).val < 8192 := (i 0).isLt
  omega

/-- The result at row `i 0`, column `i 1`: the residual plus its sample's gate times the row of `a` against the column of
    `w`. -/
def G (a : S8192x4096.Idx → EReal) (w : S4096x4096.Idx → EReal) (x : S8704x4096.Idx → EReal) (g : S8x1x24576.Idx → EReal) :
    S8192x4096.Idx → EReal := fun i =>
  x (ix2 ⟨(i 0).val, row_lt i⟩ (i 1))
    + g (ix3 ⟨(i 0).val / 4096, grp_lt i⟩ (0 : Fin 1) ⟨8192 + (i 1).val, by have h1 : (i 1).val < 4096 := (i 1).isLt; omega⟩)
    * ∑ k : Fin 4096, a (ix2 (i 0) k) * w (ix2 k (i 1))

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- The cast weights, as the region finds them. -/
theorem V_w (c : Dev nD) : V m c main_v0 = truncf (F := Ideal) .bf16 (m ((c : Thread nD τ).loc main_arg1)) bitsLt_bf16_f32 := by
  unfold V
  after_results

/-- Block indices of the windows, point by point: eight blocks of rows make one latent group. -/
theorem idx_h : ∀ t : Fin cfg0.N, win0_0.index t 0 = win0_4.index t 0 ∧ win0_0.index t 1 = 0
    ∧ win0_1.index t 0 = 0 ∧ win0_1.index t 1 = win0_4.index t 1
    ∧ win0_2.index t 0 = win0_4.index t 0 ∧ win0_2.index t 1 = win0_4.index t 1
    ∧ win0_3.index t 0 = win0_4.index t 0 / 8 ∧ win0_3.index t 1 = 0 ∧ win0_3.index t 2 = 16 + win0_4.index t 1 :=
  (by decide +kernel : ∀ t : Fin grid0.N, win0_0.index t 0 = win0_4.index t 0 ∧ win0_0.index t 1 = 0
    ∧ win0_1.index t 0 = 0 ∧ win0_1.index t 1 = win0_4.index t 1
    ∧ win0_2.index t 0 = win0_4.index t 0 ∧ win0_2.index t 1 = win0_4.index t 1
    ∧ win0_3.index t 0 = win0_4.index t 0 / 8 ∧ win0_3.index t 1 = 0 ∧ win0_3.index t 2 = 16 + win0_4.index t 1)

/-- Every block of the result is some point's. -/
theorem idx_onto : ∀ (a : Fin 16) (b : Fin 8), ∃ t : Fin cfg0.N, win0_4.index t 0 = a.val ∧ win0_4.index t 1 = b.val :=
  (by decide +kernel : ∀ (a : Fin 16) (b : Fin 8), ∃ t : Fin grid0.N, win0_4.index t 0 = a.val ∧ win0_4.index t 1 = b.val)

/-- The body's result, at an index. -/
theorem pay_apply (x0 : FVec Ideal S512x4096 .bf16) (x1 : FVec Ideal S4096x512 .bf16) (x2 : FVec Ideal S512x512 .f32)
    (x3 : FVec Ideal S1x1x512 .f32) (r : Fin 512) (s : Fin 512) :
    k0_pay1 (F := Ideal) x0 x1 x2 x3 (ix2 r s)
      = x2 (ix2 r s) + x3 (ix3 (0 : Fin 1) (0 : Fin 1) s) * ∑ k : Fin 4096, x0 (ix2 r k) * x1 (ix2 k s) := by
  unfold k0_pay1
  rw [addf_apply, mulf_apply, shapeCast_self]
  refine congrArg (x2 (ix2 r s) + ·) (congrArg₂ (· * ·) ?_ ?_)
  · refine (broadcastTo_apply _ _ (ix2 r s) (ix2 (0 : Fin 1) s) (fun a => match a with | ⟨0, _⟩ => rfl | ⟨1, _⟩ => rfl)).trans ?_
    exact shapeCast_apply x3 _ (ix2 (0 : Fin 1) s) (ix3 (0 : Fin 1) (0 : Fin 1) s) (by
      rw [Shape.rowMajor_val_three, Shape.rowMajor_val_two]; rfl)
  · refine (Ideal.matmul_plain_apply none x0 x1 _ r s).trans ?_
    rw [constant_apply, Ideal.ofBits_zero_f32, zero_add]

/-- What point `t` writes back is block `t` of `G`. -/
theorem flushed_eq (c : Dev nD) (t : Fin cfg0.N) :
    (dats m 0 c).flushed 4 t = (win0_4.blk t).view.read (Elt Ideal)
      (G (m ((c : Thread nD τ).loc main_arg0)) (m ((c : Thread nD τ).loc main_arg1)) (m ((c : Thread nD τ).loc main_arg2))
        (m ((c : Thread nD τ).loc main_arg3))) := by
  show (cfg0.win 4).cut (grid0.coords t) ((dats m 0 c).after 4 t) = _
  rw [after0_4]
  unfold out0_4
  rw [View.canon_unit_zero hz, View.ld_unit_zero hz, View.ld_unit_zero hz, View.ld_unit_zero hz, View.ld_unit_zero hz3]
  funext y
  obtain ⟨r, s, rfl⟩ : ∃ (r : Fin 512) (s : Fin 512), y = ix2 r s := ⟨y 0, y 1, eq_ix2 y⟩
  refine (pay_apply (iblk m c 0 t) (iblk m c 1 t) (iblk m c 2 t) (iblk m c 3 t) r s).trans ?_
  show _ = G (m ((c : Thread nD τ).loc main_arg0)) (m ((c : Thread nD τ).loc main_arg1)) (m ((c : Thread nD τ).loc main_arg2))
    (m ((c : Thread nD τ).loc main_arg3)) ((win0_4.rect t).emb (ix2 r s))
  obtain ⟨e1, e2, e3, e4, e5, e6, e7, e8, e9⟩ := idx_h t
  have o0 : ((win0_4.rect t).emb (ix2 r s) 0).val = win0_4.index t 0 * 512 + r.val := win0_4.rect_emb_val t (ix2 r s) 0
  have o1 : ((win0_4.rect t).emb (ix2 r s) 1).val = win0_4.index t 1 * 512 + s.val := win0_4.rect_emb_val t (ix2 r s) 1
  have hr : r.val < 512 := r.isLt
  unfold G
  refine congrArg₂ (· + ·) ?_ (congrArg₂ (· * ·) ?_ (Finset.sum_congr rfl fun k _ => congrArg₂ (· * ·) ?_ ?_))
  · show V m c main_arg2 ((win0_2.rect t).emb (ix2 r s)) = _
    rw [V_main_arg2]
    have a0 := win0_2.rect_emb_val t (ix2 r s) 0
    have a1 := win0_2.rect_emb_val t (ix2 r s) 1
    refine congrArg _ (Shape.idx_ext₂ ?_ ?_)
    · rw [a0, e5]; exact o0.symm
    · rw [a1, e6]; exact o1.symm
  · show V m c main_arg3 ((win0_3.rect t).emb (ix3 (0 : Fin 1) (0 : Fin 1) s)) = _
    rw [V_main_arg3]
    have a0 := win0_3.rect_emb_val t (ix3 (0 : Fin 1) (0 : Fin 1) s) 0
    have a1 := win0_3.rect_emb_val t (ix3 (0 : Fin 1) (0 : Fin 1) s) 1
    have a2 := win0_3.rect_emb_val t (ix3 (0 : Fin 1) (0 : Fin 1) s) 2
    refine congrArg _ (funext fun a => Fin.ext ?_)
    match a with
    | ⟨0, _⟩ =>
      refine a0.trans ?_
      rw [e7]
      show win0_4.index t 0 / 8 * 1 + 0 = ((win0_4.rect t).emb (ix2 r s) 0).val / 4096
      rw [o0]; omega
    | ⟨1, _⟩ =>
      refine a1.trans ?_
      rw [e8]; rfl
    | ⟨2, _⟩ =>
      refine a2.trans ?_
      rw [e9]
      show (16 + win0_4.index t 1) * 512 + s.val = 8192 + ((win0_4.rect t).emb (ix2 r s) 1).val
      rw [o1]; omega
  · show V m c main_arg0 ((win0_0.rect t).emb (ix2 r k)) = _
    rw [V_main_arg0]
    have a0 := win0_0.rect_emb_val t (ix2 r k) 0
    have a1 := win0_0.rect_emb_val t (ix2 r k) 1
    refine congrArg _ (Shape.idx_ext₂ ?_ ?_)
    · rw [a0, e1]; exact o0.symm
    · rw [a1, e2]; exact (Nat.zero_add _)
  · show V m c main_v0 ((win0_1.rect t).emb (ix2 k s)) = _
    rw [V_w]
    have b0 := win0_1.rect_emb_val t (ix2 k s) 0
    have b1 := win0_1.rect_emb_val t (ix2 k s) 1
    refine congrArg (m ((c : Thread nD τ).loc main_arg1)) (Shape.idx_ext₂ ?_ ?_)
    · rw [b0, e3]; exact (Nat.zero_add _)
    · rw [b1, e4]; exact o1.symm

/-- The result's blocks tile its array. -/
theorem cover (i : S8192x4096.Idx) :
    ∃ t : Fin cfg0.N, (cfg0.win 4).flush t = true ∧ i ∈ ((cfg0.win 4).blk t).view.set := by
  have h0 : (i 0 : Nat) < 8192 := (i 0).isLt
  have h1 : (i 1 : Nat) < 4096 := (i 1).isLt
  obtain ⟨t, ha, hb⟩ := idx_onto ⟨(i 0 : Nat) / 512, by omega⟩ ⟨(i 1 : Nat) / 512, by omega⟩
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [ha]; dsimp only; omega
  | ⟨1, _⟩ =>
    show win0_4.index t 1 * 512 ≤ (i 1 : Nat) ∧ (i 1 : Nat) < win0_4.index t 1 * 512 + 512
    rw [hb]; dsimp only; omega

/-- So the result array ends holding `G` of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

end Kernel

section Reference
open Cert.ProjOutRefIdeal.Read

variable (a : S8192x4096.Idx → EReal) (w : S4096x4096.Idx → EReal) (x : S8704x4096.Idx → EReal) (g : S8x1x24576.Idx → EReal)

/-- The reference's product, at an index. -/
theorem prod_eq (i : S8192x4096.Idx) :
    val_main_v1 (F := Ideal) a w i = ∑ k : Fin 4096, a (ix2 (i 0) k) * w (ix2 k (i 1)) := by
  rw [val_main_v1_apply]
  refine Finset.sum_congr rfl fun k _ => congrArg₂ (· * ·) ?_ ?_
  · rw [val_main_v0_apply]
    exact congrArg a (Shape.idx_ext₂ rfl rfl)
  · exact congrArg w (Shape.idx_ext₂ rfl rfl)

/-- The reference's result is `G`. -/
theorem ref_eq : val_main_v15 (F := Ideal) a w x g = G a w x g := by
  funext i
  obtain ⟨r, s, rfl⟩ : ∃ (r : Fin 8192) (s : Fin 4096), i = ix2 r s := ⟨i 0, i 1, eq_ix2 i⟩
  have hr := r.isLt
  have hs := s.isLt
  rw [val_main_v15_apply, val_main_v14_apply, val_main_v13_apply, val_main_v12_apply, val_main_v8_apply, val_main_v5_apply,
    val_main_v4_apply, val_main_v3_apply, val_main_v2_apply, prod_eq, Ideal.addf_def, Ideal.mulf_def]
  unfold G
  refine congrArg₂ (· + ·) (congrArg x (Shape.idx_ext₂ ?_ ?_)) (congrArg₂ (· * ·) (congrArg g (funext fun b => Fin.ext ?_))
    (Finset.sum_congr rfl fun k _ => congrArg₂ (· * ·) (congrArg a (Shape.idx_ext₂ ?_ rfl)) (congrArg w (Shape.idx_ext₂ rfl ?_))))
  · show (((r.val * 4096 + s.val) / 16777216 * 4096 + (r.val * 4096 + s.val) / 4096 % 4096) * 4096 + (r.val * 4096 + s.val) % 4096) / 4096 = r.val
    omega
  · show (((r.val * 4096 + s.val) / 16777216 * 4096 + (r.val * 4096 + s.val) / 4096 % 4096) * 4096 + (r.val * 4096 + s.val) % 4096) % 4096 = s.val
    omega
  · match b with
    | ⟨0, _⟩ =>
      show (r.val * 4096 + s.val) / 16777216 = r.val / 4096
      omega
    | ⟨1, _⟩ => rfl
    | ⟨2, _⟩ =>
      show 8192 + (r.val * 4096 + s.val) % 4096 = 8192 + s.val
      omega
  · show (((r.val * 4096 + s.val) / 16777216 * 4096 + (r.val * 4096 + s.val) / 4096 % 4096) * 4096 + (r.val * 4096 + s.val) % 4096) / 4096 = r.val
    omega
  · show (((r.val * 4096 + s.val) / 16777216 * 4096 + (r.val * 4096 + s.val) / 4096 % 4096) * 4096 + (r.val * 4096 + s.val) % 4096) % 4096 = s.val
    omega

end Reference

/-- The reference's frame. -/
theorem frame_ref : Cert.quiescent_ProjOutRefIdeal := fun m ρ _ =>
  (θ_run Cert.ProjOutRefIdeal.defs _ _).mono (fun r h => ⟨fun c => (h c).2,
      sem_eq_zero_of_no_sems (by decide) r.2⟩)
    (Cert.ProjOutRefIdeal.Value.run (F := Ideal) m ρ)

/-- The kernel's result is the reference's. -/
theorem algebraic : Cert.algebraic_ProjOutIdeal_ProjOutRefIdeal := by
  intro m ρ m' ρ' _ hagree
  refine ⟨fun c => G (m ((c : Thread nD τ).loc main_arg0)) (m ((c : Thread nD τ).loc main_arg1))
    (m ((c : Thread nD τ).loc main_arg2)) (m ((c : Thread nD τ).loc main_arg3)), ?_, ?_⟩
  · exact (θ_run Cert.ProjOutIdeal.defs _ _).mono (fun r h c => ⟨((h c).1).trans (final m c), (h c).2⟩)
      (Cert.ProjOutIdeal.Value.run_blocks (F := Ideal) m ρ)
  · refine (θ_run Cert.ProjOutRefIdeal.defs _ _).mono (fun r h c => ⟨(h c).1.trans ?_, (h c).2⟩)
      (Cert.ProjOutRefIdeal.Value.run (F := Ideal) m' ρ')
    rw [Cert.ProjOutRefIdeal.Read.val_main_v15_eq, ref_eq, (hagree c).1, (hagree c).2.1, (hagree c).2.2.1, (hagree c).2.2.2]

end Cert.Proof.ProjOut

end
-- ==== Proof.MoeLastIdealRun.lean ====
/-
  The experts of the last layer over the extended reals: one step of its body in each of the four cases a step can be in.
-/
module

public import proofs.«01_k».proof.Defs
public import proofs.«01_k».proof.Proof.Gen.MoeLastIdeal
public import proofs.«01_k».proof.Proof.Gen.MoeLastIdeal.Launch
public import proofs.«01_k».proof.Proof.Gen.MoeLastIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.PureOps.Ideal

@[expose] public section

set_option maxRecDepth 16384
set_option Elab.async false

noncomputable section

namespace Cert.Proof.MoeLastI

open Cert.MoeLastIdeal Cert.MoeLastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables, whole: the blocks' experts, and the number of used blocks. -/
abbrev tbM0_0 : Memref sig .tc .smem S80 .i32 := Memref.whole main_arg0
/-- The number of used blocks, whole. -/
abbrev tbM0_1 : Memref sig .tc .smem S1 .i32 := Memref.whole main_arg1

/-- The number of used blocks, as the body loads it. -/
abbrev word (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

/-- One staging buffer of the output, through which contents are stated. -/
abbrev VO : View sig .tc .vmem S256x4096 .f32 := (Memref.whole cc0_stg4_0 : Memref sig .tc .vmem S256x4096 .f32).view

variable (c : Dev nD) (i : grid0.Coords) (arg4 : Memref sig .tc .vmem S256x4096 .bf16) (harg4 : arg4.IsWhole)
  (arg5 : Memref sig .tc .vmem S1x4096x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S256x4096 .f32) (harg8 : arg8.IsWhole)
  (T0 : S80.Idx → Elt Ideal .i32) (T1 : S1.Idx → Elt Ideal .i32) (x0 : S256x4096.Idx → Elt Ideal .bf16) (x1 : S1x4096x512.Idx → Elt Ideal .bf16)
  (x2 : S1x4096x512.Idx → Elt Ideal .bf16) (x3 : S1x512x4096.Idx → Elt Ideal .bf16) (xo4 : S256x4096.Idx → Elt Ideal .f32)

set_option backward.proofsInPublic true in
set_option maxHeartbeats 8000000 in
/-- A used block, first half of the hidden columns: the body stores its product. -/
noncomputable def runA (k0_h1 : k0_cond1 i (word T1) = 1#1) (k0_h2 : k0_cond2 i = 1#1) (k0_h3 : ¬(k0_cond3 i = 1#1)) (k0_h4 : ¬(k0_cond4 i (word T1) = 1#1)) :
    { out0 : List (View.Piece (Elt Ideal) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = k0_cond2 _ = _; exact k0_h2) | (guard_target = ¬(k0_cond3 _ = _); exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverA (k0_h1 : k0_cond1 i (word T1) = 1#1) (k0_h2 : k0_cond2 i = 1#1) (k0_h3 : ¬(k0_cond3 i = 1#1)) (k0_h4 : ¬(k0_cond4 i (word T1) = 1#1)) (y : S256x4096.Idx) :
    ∃ pc ∈ (runA c i arg4 harg4 arg5 harg5 arg6 harg6 arg7 harg7 arg8 harg8 T0 T1 x0 x1 x2 x3 k0_h1 k0_h2 k0_h3 k0_h4).1, y ∈ pc.1.set :=
  View.cover_of_tiledL (runA c i arg4 harg4 arg5 harg5 arg6 harg6 arg7 harg7 arg8 harg8 T0 T1 x0 x1 x2 x3 k0_h1 k0_h2 k0_h3 k0_h4).1 S256x4096.size (by sl_kernel_rfl) y

/-- What this case leaves in the output's block. -/
noncomputable def leftA (k0_h1 : k0_cond1 i (word T1) = 1#1) (k0_h2 : k0_cond2 i = 1#1) (k0_h3 : ¬(k0_cond3 i = 1#1)) (k0_h4 : ¬(k0_cond4 i (word T1) = 1#1)) : S256x4096.Idx → Elt Ideal .f32 :=
  VO.read (Elt Ideal) (VO.writes (Elt Ideal) VO.junk (runA c i arg4 harg4 arg5 harg5 arg6 harg6 arg7 harg7 arg8 harg8 T0 T1 x0 x1 x2 x3 k0_h1 k0_h2 k0_h3 k0_h4).1)

set_option backward.proofsInPublic true in
set_option maxHeartbeats 8000000 in
/-- A used block, second half: the body adds its product to what the block holds. -/
noncomputable def runB (k0_h1 : k0_cond1 i (word T1) = 1#1) (k0_h2 : ¬(k0_cond2 i = 1#1)) (k0_h3 : k0_cond3 i = 1#1) (k0_h4 : ¬(k0_cond4 i (word T1) = 1#1)) :
    { out0 : List (View.Piece (Elt Ideal) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare xo4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverB (k0_h1 : k0_cond1 i (word T1) = 1#1) (k0_h2 : ¬(k0_cond2 i = 1#1)) (k0_h3 : k0_cond3 i = 1#1) (k0_h4 : ¬(k0_cond4 i (word T1) = 1#1)) (y : S256x4096.Idx) :
    ∃ pc ∈ (runB c i arg4 harg4 arg5 harg5 arg6 harg6 arg7 harg7 arg8 harg8 T0 T1 x0 x1 x2 x3 xo4 k0_h1 k0_h2 k0_h3 k0_h4).1, y ∈ pc.1.set :=
  View.cover_of_tiledL (runB c i arg4 harg4 arg5 harg5 arg6 harg6 arg7 harg7 arg8 harg8 T0 T1 x0 x1 x2 x3 xo4 k0_h1 k0_h2 k0_h3 k0_h4).1 S256x4096.size (by sl_kernel_rfl) y

/-- What this case leaves in the output's block. -/
noncomputable def leftB (k0_h1 : k0_cond1 i (word T1) = 1#1) (k0_h2 : ¬(k0_cond2 i = 1#1)) (k0_h3 : k0_cond3 i = 1#1) (k0_h4 : ¬(k0_cond4 i (word T1) = 1#1)) : S256x4096.Idx → Elt Ideal .f32 :=
  VO.read (Elt Ideal) (VO.writes (Elt Ideal) VO.junk (runB c i arg4 harg4 arg5 harg5 arg6 harg6 arg7 harg7 arg8 harg8 T0 T1 x0 x1 x2 x3 xo4 k0_h1 k0_h2 k0_h3 k0_h4).1)

set_option backward.proofsInPublic true in
set_option maxHeartbeats 8000000 in
/-- An unused block, first step: the body stores zeros. -/
noncomputable def runC (k0_h1 : ¬(k0_cond1 i (word T1) = 1#1)) (k0_h4 : k0_cond4 i (word T1) = 1#1) :
    { out0 : List (View.Piece (Elt Ideal) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond4 _ _ = _; exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverC (k0_h1 : ¬(k0_cond1 i (word T1) = 1#1)) (k0_h4 : k0_cond4 i (word T1) = 1#1) (y : S256x4096.Idx) :
    ∃ pc ∈ (runC c i arg4 harg4 arg5 harg5 arg6 harg6 arg7 harg7 arg8 harg8 T0 T1 x0 x1 x2 x3 k0_h1 k0_h4).1, y ∈ pc.1.set :=
  View.cover_of_tiledL (runC c i arg4 harg4 arg5 harg5 arg6 harg6 arg7 harg7 arg8 harg8 T0 T1 x0 x1 x2 x3 k0_h1 k0_h4).1 S256x4096.size (by sl_kernel_rfl) y

/-- What this case leaves in the output's block. -/
noncomputable def leftC (k0_h1 : ¬(k0_cond1 i (word T1) = 1#1)) (k0_h4 : k0_cond4 i (word T1) = 1#1) : S256x4096.Idx → Elt Ideal .f32 :=
  VO.read (Elt Ideal) (VO.writes (Elt Ideal) VO.junk (runC c i arg4 harg4 arg5 harg5 arg6 harg6 arg7 harg7 arg8 harg8 T0 T1 x0 x1 x2 x3 k0_h1 k0_h4).1)

set_option backward.proofsInPublic true in
set_option maxHeartbeats 8000000 in
/-- An unused block, second step: the body does nothing. -/
theorem runD (k0_h1 : ¬(k0_cond1 i (word T1) = 1#1)) (k0_h4 : ¬(k0_cond4 i (word T1) = 1#1)) (y4 : S256x4096.Idx → Elt Ideal .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4) -∗ K ⟨⟩))
          ⊢ wp frame (wpE (defs₀ (F := Ideal)) Variants.none c none) Set.univ (cc0_moe_ffn i tbM0_0 (Memref.isWhole_whole _) tbM0_1 (Memref.isWhole_whole _) arg4 harg4 arg5 harg5 arg6 harg6 arg7 harg7 arg8 harg8) K := by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = ¬(k0_cond1 _ _ = _); exact k0_h1) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; · ipureintro; exact harg8.read_unread _
    iexact HO4

end Cert.Proof.MoeLastI

end
-- ==== Proof.MoeLastIdealFrame.lean ====
/-
  The experts of the last layer over the extended reals: the kernel runs to its end from any tables that name only the sixteen experts.
-/
module

public import proofs.«01_k».proof.Proof.MoeLastIdealRun
public import Idealize.ShloMosaic.Lib.Pipeline.Quiescent
public import Idealize.ShloMosaic.Lib.Claim

@[expose] public section

set_option maxRecDepth 16384
set_option Elab.async false

noncomputable section

namespace Cert.Proof.MoeLastI

open Cert.MoeLastIdeal Cert.MoeLastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The pipeline's share of the ghost state. -/
abbrev EP : Emb (UR sig nD τ) 𝕄 := emb₁

/-- The two tables' contents, every expert one of the sixteen. -/
structure Tab where
  be : S80.Idx → BitVec 32
  nu : S1.Idx → BitVec 32
  ok : ∀ x, (be x).toNat < 16

variable (tb : Tab)

set_option backward.proofsInPublic true in
/-- The tables' contents as the pipeline takes them. -/
def pfN : pre0.Contents (Elt Ideal) := fun | ⟨0, _⟩ => tb.be | ⟨1, _⟩ => tb.nu | ⟨_ + 2, h⟩ => absurd h (by simp)

/-- The coordinates of a grid point are small. -/
theorem crd_lt (i : grid0.Coords) : (BitVec.ofNat 32 (i 1).val).toNat < 2 := by
  have h : (i 1).val < 2 := (i 1).isLt
  rw [BitVec.toNat_ofNat]; omega

/-- Every expert read from the table has its blocks inside the weights. -/
theorem in1 (i : grid0.Coords) (a : Fin 3) : (cc0_transform_1 k0_off1_inb numel1_S1 (pfN tb) i a + 1) * S1x4096x512.size a ≤ S16x4096x1024.size a := by
  have h := crd_lt i
  match a with
  | ⟨0, _⟩ => exact (Nat.mul_one _).trans_le (tb.ok _)
  | ⟨1, _⟩ => exact (by decide : (0 + 1) * 4096 ≤ 4096)
  | ⟨2, _⟩ => show ((BitVec.ofNat 32 (i 1).val).toNat + 1) * 512 ≤ 1024; omega
/-- The second weights' block lies inside the weights. -/
theorem in2 (i : grid0.Coords) (a : Fin 3) : (cc0_transform_2 k0_off1_inb numel1_S1 (pfN tb) i a + 1) * S1x4096x512.size a ≤ S16x4096x1024.size a := in1 tb i a
/-- The third weights' block lies inside the weights. -/
theorem in3 (i : grid0.Coords) (a : Fin 3) : (cc0_transform_3 k0_off1_inb numel1_S1 (pfN tb) i a + 1) * S1x512x4096.size a ≤ S16x1024x4096.size a := by
  have h := crd_lt i
  match a with
  | ⟨0, _⟩ => exact (Nat.mul_one _).trans_le (tb.ok _)
  | ⟨1, _⟩ => show ((BitVec.ofNat 32 (i 1).val).toNat + 1) * 512 ≤ 1024; omega
  | ⟨2, _⟩ => exact (by decide : (0 + 1) * 4096 ≤ 4096)

/-- So the pipeline's side condition holds of these tables. -/
theorem ok_pfN : ok0 (F := Ideal) (pfN tb) :=
  ⟨fun i => ⟨in1 tb i, .inr (Affine.block_words_dvd (s := S16x4096x1024) (p := EltTy.packing .bf16) (by decide) (by decide))⟩,
   fun i => ⟨in2 tb i, .inr (Affine.block_words_dvd (s := S16x4096x1024) (p := EltTy.packing .bf16) (by decide) (by decide))⟩,
   fun i => ⟨in3 tb i, .inr (Affine.block_words_dvd (s := S16x1024x4096) (p := EltTy.packing .bf16) (by decide) (by decide))⟩⟩

/-- The pipeline at these tables. -/
def adm : (pcfg0 (F := Ideal)).Adm := ⟨pfN tb, ok_pfN tb⟩
/-- The pipeline's configuration at these tables. -/
abbrev cfgA : Pipeline.Cfg sig Λ₀ := cfg0 (F := Ideal) (adm tb)
/-- The one pipeline of the program. -/
abbrev pcs : Fin 1 → Pipeline.Cfg sig Λ₀ := Pipeline.pin (pcfgs (F := Ideal)) fun _ => adm tb

variable (m : (ℓ : Loc nD τ sig) → Buf (Elt Ideal) ℓ) (ρ : Dev nD → PrngReg)

/-- Point `t`'s coordinates. -/
abbrev crd (t : Fin (cfgA tb).N) : (cfgA tb).grid.Coords := (cfgA tb).grid.coords t

/-! Each window's staging buffer at point `t`, and that it is whole. -/
/-- The buffer of operand 0 at point `t`. -/
abbrev ms0 (t : Fin (cfgA tb).N) : Memref sig .tc .vmem S256x4096 .bf16 := spec0_0.stage ((cfgA tb).slots t (0 : Fin 5))
/-- Operand 0's buffer is taken whole. -/
abbrev hs0 (t : Fin (cfgA tb).N) : (ms0 tb t).IsWhole := hstage0_0 (((cfgA tb).slots t (0 : Fin 5)).cast nbuf0_0)
/-- The buffer of operand 1 at point `t`. -/
abbrev ms1 (t : Fin (cfgA tb).N) : Memref sig .tc .vmem S1x4096x512 .bf16 := spec0_1.stage ((cfgA tb).slots t (1 : Fin 5))
/-- Operand 1's buffer is taken whole. -/
abbrev hs1 (t : Fin (cfgA tb).N) : (ms1 tb t).IsWhole := hstage0_1 (((cfgA tb).slots t (1 : Fin 5)).cast nbuf0_1)
/-- The buffer of operand 2 at point `t`. -/
abbrev ms2 (t : Fin (cfgA tb).N) : Memref sig .tc .vmem S1x4096x512 .bf16 := spec0_2.stage ((cfgA tb).slots t (2 : Fin 5))
/-- Operand 2's buffer is taken whole. -/
abbrev hs2 (t : Fin (cfgA tb).N) : (ms2 tb t).IsWhole := hstage0_2 (((cfgA tb).slots t (2 : Fin 5)).cast nbuf0_2)
/-- The buffer of operand 3 at point `t`. -/
abbrev ms3 (t : Fin (cfgA tb).N) : Memref sig .tc .vmem S1x512x4096 .bf16 := spec0_3.stage ((cfgA tb).slots t (3 : Fin 5))
/-- Operand 3's buffer is taken whole. -/
abbrev hs3 (t : Fin (cfgA tb).N) : (ms3 tb t).IsWhole := hstage0_3 (((cfgA tb).slots t (3 : Fin 5)).cast nbuf0_3)
/-- The buffer of operand 4 at point `t`. -/
abbrev ms4 (t : Fin (cfgA tb).N) : Memref sig .tc .vmem S256x4096 .f32 := spec0_4.stage ((cfgA tb).slots t (4 : Fin 5))
/-- Operand 4's buffer is taken whole. -/
abbrev hs4 (t : Fin (cfgA tb).N) : (ms4 tb t).IsWhole := hstage0_4 (((cfgA tb).slots t (4 : Fin 5)).cast nbuf0_4)

/-- Window `w`'s block at point `t`, read off its array at launch. -/
def iblk (c : Dev nD) (w : Fin (cfgA tb).W) (t : Fin (cfgA tb).N) : (((cfgA tb).win w).xblock (crd tb t)).Idx → Elt Ideal ((cfgA tb).win w).elt :=
  (((cfgA tb).win w).blk t).view.read (Elt Ideal) ((s₀ m ρ).mem (((cfgA tb).win w).arr.view.loc (c : Thread nD τ)))

/-! ## The four cases -/

/-- The block at point `t` is used. -/
abbrev Used (t : Fin (cfgA tb).N) : Prop := k0_cond1 (crd tb t) (word tb.nu) = 1#1
/-- Point `t` is the first of its block. -/
abbrev First (t : Fin (cfgA tb).N) : Prop := k0_cond2 (crd tb t) = 1#1

/-- A point is the first of its block exactly if it is even. -/
theorem parity : ∀ t : Fin grid0.N, (k0_cond2 (grid0.coords t) = 1#1 ↔ t.val % 2 = 0) ∧ (k0_cond3 (grid0.coords t) = 1#1 ↔ ¬t.val % 2 = 0) := by
  decide +kernel

/-- The first points are the even ones. -/
theorem first_iff (t : Fin (cfgA tb).N) : First tb t ↔ t.val % 2 = 0 := (parity t).1

/-- The third condition holds exactly at a block's second point. -/
theorem cond3_iff (t : Fin (cfgA tb).N) : k0_cond3 (crd tb t) = 1#1 ↔ ¬First tb t :=
  (parity t).2.trans (not_congr (first_iff tb t)).symm

/-- Zeros are stored exactly at the first point of an unused block. -/
theorem cond4_iff (i : grid0.Coords) (w : BitVec 32) : k0_cond4 i w = 1#1 ↔ ¬k0_cond1 i w = 1#1 ∧ k0_cond2 i = 1#1 := by
  unfold k0_cond4 k0_cond1 k0_cond2
  dsimp only
  generalize Scalar.cmpi .slt (BitVec.ofNat 32 (i 0).val) w = a
  generalize Scalar.cmpi .eq (BitVec.ofNat 32 (i 1).val) 0#32 = b
  revert a b
  decide

/-- Whether the write-back at point `t` is where it is said to be. -/
def flushAt (t : Fin 160) : Bool := ((cfgA tb).win (4 : Fin 5)).flushF t == decide (t.val % 2 = 1)

/-- The output's block is written back at the odd points. -/
theorem flush_eq (t : Fin (cfgA tb).N) : ((cfgA tb).win (4 : Fin 5)).flush t = decide (t.val % 2 = 1) := by
  rw [Pipeline.Window.flush_eq_flushF]
  have h : decide (∀ t : Fin 160, flushAt tb t = true) = true := by sl_kernel_rfl
  exact eq_of_beq (of_decide_eq_true h t)

/-- Where the body stores nothing. -/
theorem idle_eq (t : Fin (cfgA tb).N) : (cfgA tb).idle (4 : Fin 5) ((cfgA tb).grid.coords t) = true ↔ ¬Used tb t ∧ ¬First tb t := by
  have e : (cfgA tb).idle (4 : Fin 5) ((cfgA tb).grid.coords t) = (!(k0_cond1 (crd tb t) (word tb.nu) == 1#1 && k0_cond2 (crd tb t) == 1#1)
      && !(k0_cond1 (crd tb t) (word tb.nu) == 1#1 && k0_cond3 (crd tb t) == 1#1) && !(k0_cond4 (crd tb t) (word tb.nu) == 1#1)) := rfl
  rw [e]
  have h3 := cond3_iff tb t
  have h4 := cond4_iff (crd tb t) (word tb.nu)
  by_cases q0 : Used tb t <;> by_cases q1 : First tb t <;> simp_all

/-- Outside an unused block's second point the output is stored. -/
theorem idle_false {t : Fin (cfgA tb).N} (h : ¬(¬Used tb t ∧ ¬First tb t)) : (cfgA tb).idle (4 : Fin 5) ((cfgA tb).grid.coords t) = false :=
  Bool.eq_false_iff.mpr fun e => h ((idle_eq tb t).mp e)

/-- Nothing has been stored in the output's buffer since its last write-back exactly before the even points. -/
theorem fresh_eq (t : Fin (cfgA tb).N) : (cfgA tb).fresh (4 : Fin 5) t.val = decide (t.val % 2 = 0) :=
  Pipeline.Cfg.fresh_tab (cfgA tb) (4 : Fin 5) (fun n => decide (n % 2 = 0)) rfl (fun t => by
    rw [flush_eq]
    by_cases h : t.val % 2 = 0
    · rw [idle_false tb (fun e => e.2 ((first_iff tb t).mpr h))]
      have h' : (t.val + 1) % 2 = 1 := by omega
      simp [h, h']
    · have h' : (t.val + 1) % 2 = 0 := by omega
      have h'' : t.val % 2 = 1 := by omega
      simp [h', h'']) t.val (Nat.le_of_lt t.isLt)

/-! Each case's conditions, as the body tests them, and its schedule. -/

/-- The four conditions at the first point of a used block. -/
theorem hypsA {t : Fin (cfgA tb).N} (q0 : Used tb t) (q1 : First tb t) :
    k0_cond1 (crd tb t) (word tb.nu) = 1#1 ∧ k0_cond2 (crd tb t) = 1#1 ∧ ¬k0_cond3 (crd tb t) = 1#1 ∧ ¬k0_cond4 (crd tb t) (word tb.nu) = 1#1 :=
  ⟨q0, q1, fun h => (cond3_iff tb t).mp h q1, fun h => ((cond4_iff _ _).mp h).1 q0⟩
/-- The four conditions at the second point of a used block. -/
theorem hypsB {t : Fin (cfgA tb).N} (q0 : Used tb t) (q1 : ¬First tb t) :
    k0_cond1 (crd tb t) (word tb.nu) = 1#1 ∧ ¬k0_cond2 (crd tb t) = 1#1 ∧ k0_cond3 (crd tb t) = 1#1 ∧ ¬k0_cond4 (crd tb t) (word tb.nu) = 1#1 :=
  ⟨q0, q1, (cond3_iff tb t).mpr q1, fun h => ((cond4_iff _ _).mp h).1 q0⟩
/-- The four conditions at the first point of an unused block. -/
theorem hypsC {t : Fin (cfgA tb).N} (q0 : ¬Used tb t) (q1 : First tb t) :
    ¬k0_cond1 (crd tb t) (word tb.nu) = 1#1 ∧ k0_cond4 (crd tb t) (word tb.nu) = 1#1 := ⟨q0, (cond4_iff _ _).mpr ⟨q0, q1⟩⟩
/-- The four conditions at the second point of an unused block. -/
theorem hypsD {t : Fin (cfgA tb).N} (q0 : ¬Used tb t) (q1 : ¬First tb t) :
    ¬k0_cond1 (crd tb t) (word tb.nu) = 1#1 ∧ ¬k0_cond4 (crd tb t) (word tb.nu) = 1#1 := ⟨q0, fun h => q1 ((cond4_iff _ _).mp h).2⟩

/-- At a first point the output is stored anew and not written back. -/
theorem sched_first {t : Fin (cfgA tb).N} (q : First tb t) :
    (cfgA tb).idle (4 : Fin 5) ((cfgA tb).grid.coords t) = false ∧ ((cfgA tb).win (4 : Fin 5)).flush t = false ∧ (cfgA tb).fresh (4 : Fin 5) t.val = true := by
  have h := (first_iff tb t).mp q
  rw [flush_eq, fresh_eq]
  exact ⟨idle_false tb fun e => e.2 q, decide_eq_false (by omega), decide_eq_true h⟩
/-- At a second point the output is written back. -/
theorem sched_second {t : Fin (cfgA tb).N} (q : ¬First tb t) :
    ((cfgA tb).win (4 : Fin 5)).flush t = true ∧ (cfgA tb).fresh (4 : Fin 5) t.val = false := by
  have h : ¬t.val % 2 = 0 := fun e => q ((first_iff tb t).mpr e)
  rw [flush_eq, fresh_eq]
  exact ⟨decide_eq_true (by omega), decide_eq_false h⟩

/-! ## What the output's buffer holds after each point -/

/-- One step: what the output's buffer holds after point `t`, from what it held before. -/
def step (c : Dev nD) (t : Fin (cfgA tb).N) (prev : S256x4096.Idx → Elt Ideal .f32) : S256x4096.Idx → Elt Ideal .f32 :=
  if q0 : Used tb t then
    if q1 : First tb t then
      leftA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsA tb q0 q1).1 (hypsA tb q0 q1).2.1 (hypsA tb q0 q1).2.2.1 (hypsA tb q0 q1).2.2.2
    else
      leftB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) prev (hypsB tb q0 q1).1 (hypsB tb q0 q1).2.1 (hypsB tb q0 q1).2.2.1 (hypsB tb q0 q1).2.2.2
  else
    if q1 : First tb t then
      leftC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsC tb q0 q1).1 (hypsC tb q0 q1).2
    else prev

/-- What it holds after position `n`. -/
def traj (c : Dev nD) : (n : ℕ) → n < (cfgA tb).N → (S256x4096.Idx → Elt Ideal .f32)
  | 0, h => step tb m ρ c ⟨0, h⟩ default
  | n + 1, h => step tb m ρ c ⟨n + 1, h⟩ (traj c n (Nat.lt_of_succ_lt h))

/-- What it held before point `t`. -/
def prev (c : Dev nD) (t : Fin (cfgA tb).N) : S256x4096.Idx → Elt Ideal .f32 :=
  if h : t.val = 0 then default else traj tb m ρ c (t.val - 1) (by omega)

/-- The output's buffer after a point is one step from what was there before. -/
theorem traj_eq (c : Dev nD) (t : Fin (cfgA tb).N) : traj tb m ρ c t.val t.isLt = step tb m ρ c t (prev tb m ρ c t) := by
  obtain ⟨n, hn⟩ := t
  cases n with
  | zero => rfl
  | succ n => unfold prev; simp only [Nat.add_one_ne_zero, dif_neg, not_false_eq_true]; rfl

/-- The step at the first point of a used block. -/
theorem stepA (c : Dev nD) (t : Fin (cfgA tb).N) (p : S256x4096.Idx → Elt Ideal .f32) (q0 : Used tb t) (q1 : First tb t) :
    step tb m ρ c t p = leftA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsA tb q0 q1).1 (hypsA tb q0 q1).2.1 (hypsA tb q0 q1).2.2.1 (hypsA tb q0 q1).2.2.2 := by
  unfold step; simp only [dif_pos q0, dif_pos q1]
/-- The step at the second point of a used block. -/
theorem stepB (c : Dev nD) (t : Fin (cfgA tb).N) (p : S256x4096.Idx → Elt Ideal .f32) (q0 : Used tb t) (q1 : ¬First tb t) :
    step tb m ρ c t p = leftB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) p (hypsB tb q0 q1).1 (hypsB tb q0 q1).2.1 (hypsB tb q0 q1).2.2.1 (hypsB tb q0 q1).2.2.2 := by
  unfold step; simp only [dif_pos q0, dif_neg q1]
/-- The step at the first point of an unused block. -/
theorem stepC (c : Dev nD) (t : Fin (cfgA tb).N) (p : S256x4096.Idx → Elt Ideal .f32) (q0 : ¬Used tb t) (q1 : First tb t) :
    step tb m ρ c t p = leftC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsC tb q0 q1).1 (hypsC tb q0 q1).2 := by
  unfold step; simp only [dif_neg q0, dif_pos q1]
/-- The step at the second point of an unused block. -/
theorem stepD (c : Dev nD) (t : Fin (cfgA tb).N) (p : S256x4096.Idx → Elt Ideal .f32) (q0 : ¬Used tb t) (q1 : ¬First tb t) :
    step tb m ρ c t p = p := by
  unfold step; simp only [dif_neg q0, dif_neg q1]

/-! ## The pipeline's proof data -/

/-- Between points the body keeps its half of the two tables. -/
def Phi (c : Dev nD) : sProp 𝕄 :=
  iprop((tbM0_0.view.loc (c : Thread nD τ) ↦{fullShare.right} tb.be) ∗ (tbM0_1.view.loc (c : Thread nD τ) ↦{fullShare.right} tb.nu))

/-- The proof data of the pipeline on core `c`. -/
def dats (_ : Fin 1) (c : Dev nD) : Dat τ (Elt Ideal) Unit ℕ (UR sig nD τ) ℕ (cfgA tb) c where
  A w := (s₀ m ρ).mem (((cfgA tb).win w).arr.view.loc (c : Thread nD τ))
  after w t := match w with
    | ⟨0, _⟩ => iblk tb m ρ c (0 : Fin 5) t
    | ⟨1, _⟩ => iblk tb m ρ c (1 : Fin 5) t
    | ⟨2, _⟩ => iblk tb m ρ c (2 : Fin 5) t
    | ⟨3, _⟩ => iblk tb m ρ c (3 : Fin 5) t
    | ⟨4, _⟩ => traj tb m ρ c t.val t.isLt
  Φ _ := Phi tb c
  q _ := fullShare
  owed _ := 0

/-- The body leaves operand 0's block as it was fetched. -/
theorem after0 (c : Dev nD) (t : Fin (cfgA tb).N) : (dats tb m ρ 0 c).after (0 : Fin 5) t = iblk tb m ρ c (0 : Fin 5) t := rfl
/-- The body leaves operand 1's block as it was fetched. -/
theorem after1 (c : Dev nD) (t : Fin (cfgA tb).N) : (dats tb m ρ 0 c).after (1 : Fin 5) t = iblk tb m ρ c (1 : Fin 5) t := rfl
/-- The body leaves operand 2's block as it was fetched. -/
theorem after2 (c : Dev nD) (t : Fin (cfgA tb).N) : (dats tb m ρ 0 c).after (2 : Fin 5) t = iblk tb m ρ c (2 : Fin 5) t := rfl
/-- The body leaves operand 3's block as it was fetched. -/
theorem after3 (c : Dev nD) (t : Fin (cfgA tb).N) : (dats tb m ρ 0 c).after (3 : Fin 5) t = iblk tb m ρ c (3 : Fin 5) t := rfl
/-- After the body, operand 4's buffer. -/
theorem after4 (c : Dev nD) (t : Fin (cfgA tb).N) : (dats tb m ρ 0 c).after (4 : Fin 5) t = traj tb m ρ c t.val t.isLt := rfl

/-! An input's buffer holds its block when the body runs. -/

/-- Before the body, operand 0's buffer holds its block. -/
theorem before0 (c : Dev nD) (t : Fin (cfgA tb).N) (d) : (dats tb m ρ 0 c).before (0 : Fin 5) t d = iblk tb m ρ c (0 : Fin 5) t :=
  ((dats tb m ρ 0 c).before_in_eq_fetched (0 : Fin 5) rfl (fun _ => rfl) (fun _ _ _ => rfl)
    (fun t => by rw [after0]; unfold Dat.blockOf iblk; rfl) t d).trans (by unfold Dat.fetched Dat.blockOf iblk; rfl)
/-- Before the body, operand 1's buffer holds its block. -/
theorem before1 (c : Dev nD) (t : Fin (cfgA tb).N) (d) : (dats tb m ρ 0 c).before (1 : Fin 5) t d = iblk tb m ρ c (1 : Fin 5) t :=
  ((dats tb m ρ 0 c).before_in_eq_fetched (1 : Fin 5) rfl (fun _ => rfl) (fun _ _ _ => rfl)
    (fun t => by rw [after1]; unfold Dat.blockOf iblk; rfl) t d).trans (by unfold Dat.fetched Dat.blockOf iblk; rfl)
/-- Before the body, operand 2's buffer holds its block. -/
theorem before2 (c : Dev nD) (t : Fin (cfgA tb).N) (d) : (dats tb m ρ 0 c).before (2 : Fin 5) t d = iblk tb m ρ c (2 : Fin 5) t :=
  ((dats tb m ρ 0 c).before_in_eq_fetched (2 : Fin 5) rfl (fun _ => rfl) (fun _ _ _ => rfl)
    (fun t => by rw [after2]; unfold Dat.blockOf iblk; rfl) t d).trans (by unfold Dat.fetched Dat.blockOf iblk; rfl)
/-- Before the body, operand 3's buffer holds its block. -/
theorem before3 (c : Dev nD) (t : Fin (cfgA tb).N) (d) : (dats tb m ρ 0 c).before (3 : Fin 5) t d = iblk tb m ρ c (3 : Fin 5) t :=
  ((dats tb m ρ 0 c).before_in_eq_fetched (3 : Fin 5) rfl (fun _ => rfl) (fun _ _ _ => rfl)
    (fun t => by rw [after3]; unfold Dat.blockOf iblk; rfl) t d).trans (by unfold Dat.fetched Dat.blockOf iblk; rfl)

/-- What the output's buffer holds carries over the points where the body stores nothing. -/
theorem carry (c : Dev nD) (t : Fin (cfgA tb).N) (ht : t.val ≠ 0) (hi : (cfgA tb).idle (4 : Fin 5) ((cfgA tb).grid.coords t) = true)
    (_ : (cfgA tb).fresh (4 : Fin 5) t.val = false) :
    (dats tb m ρ 0 c).after (4 : Fin 5) t = (dats tb m ρ 0 c).after (4 : Fin 5) ⟨t.val - 1, by omega⟩ := by
  obtain ⟨q0, q1⟩ := (idle_eq tb t).mp hi
  rw [after4, after4, traj_eq, stepD tb m ρ c t _ q0 q1]
  unfold prev; rw [dif_neg ht]

/-- The output's buffer, when the body runs: anything before a block's first point, then what the point before left. -/
theorem before4 (c : Dev nD) (t : Fin (cfgA tb).N) (d) :
    (dats tb m ρ 0 c).before (4 : Fin 5) t d = if (cfgA tb).fresh (4 : Fin 5) t.val then d else prev tb m ρ c t := by
  rw [(dats tb m ρ 0 c).before_out_traj (4 : Fin 5) rfl (fun _ _ => rfl) (carry tb m ρ c) t.val t rfl d]
  by_cases hf : (cfgA tb).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after4]; unfold prev; rw [dif_neg h0]

/-! ## The body at a point -/

/-- The body at point `t`, on that point's buffers. -/
abbrev bodyAt (t : Fin (cfgA tb).N) : Prog (TpuEff nD τ sig (Elt Ideal) Λ₀ .tc) PUnit :=
  cc0_moe_ffn (crd tb t) (Memref.whole main_arg0) (Memref.isWhole_whole _) (Memref.whole main_arg1) (Memref.isWhole_whole _) (ms0 tb t) (hs0 tb t) (ms1 tb t) (hs1 tb t) (ms2 tb t) (hs2 tb t) (ms3 tb t) (hs3 tb t) (ms4 tb t) (hs4 tb t)

set_option maxHeartbeats 4000000 in
/-- The body at point `t`, case by case, leaves the buffers as the proof data say. -/
theorem sound_body (c : Dev nD) (t : Fin (cfgA tb).N) :
    iprop((dats tb m ρ 0 c).Φ t.castSucc ∗ (dats tb m ρ 0 c).owesAt () t.castSucc
        ∗ (∃ d, owns (c : Thread nD τ) (ms0 tb t) fullShare ((dats tb m ρ 0 c).before (0 : Fin 5) t d))
        ∗ (∃ d, owns (c : Thread nD τ) (ms1 tb t) fullShare ((dats tb m ρ 0 c).before (1 : Fin 5) t d))
        ∗ (∃ d, owns (c : Thread nD τ) (ms2 tb t) fullShare ((dats tb m ρ 0 c).before (2 : Fin 5) t d))
        ∗ (∃ d, owns (c : Thread nD τ) (ms3 tb t) fullShare ((dats tb m ρ 0 c).before (3 : Fin 5) t d))
        ∗ (∃ d, owns (c : Thread nD τ) (ms4 tb t) fullShare ((dats tb m ρ 0 c).before (4 : Fin 5) t d)))
      ⊢ wp frame (wpE (defs₀ (F := Ideal)) Variants.none c none) Set.univ (bodyAt tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  by_cases q0 : Used tb t
  · by_cases q1 : First tb t
    · obtain ⟨i4, f4, fr4⟩ := sched_first tb q1
      have h := hypsA tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepA tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2.1 h.2.2.1 h.2.2.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverA c _ _ _ _ _ _ _ _ _ _ _ _ _ _ _ _ _ _ _ _ _)
    · obtain ⟨f4, fr4⟩ := sched_second tb q1
      have i4 := idle_false tb (fun e => e.1 q0)
      have h := hypsB tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepB tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) _ h.1 h.2.1 h.2.2.1 h.2.2.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverB c _ _ _ _ _ _ _ _ _ _ _ _ _ _ _ _ _ _ _ _ _ _)
  · by_cases q1 : First tb t
    · obtain ⟨i4, f4, fr4⟩ := sched_first tb q1
      have h := hypsC tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepC tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverC c _ _ _ _ _ _ _ _ _ _ _ _ _ _ _ _ _ _ _)
    · obtain ⟨f4, fr4⟩ := sched_second tb q1
      have i4 := (idle_eq tb t).mpr ⟨q0, q1⟩
      have h := hypsD tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepD tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply (runD c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4

/-- The body obligation at every point. -/
theorem body_obligation (c : Dev nD) : BodyObligation (dats tb m ρ 0 c) (defs₀ (F := Ideal)) Variants.none () Set.univ := fun t => by
  rw [bigSep_W0]
  exact sound_body tb m ρ c t

/-! ## The launch -/

/-- The ghost state at the start. -/
def u₀ : UR sig nD τ :=
  initOf (Pipeline.cells (pcs tb) ((launch0 (F := Ideal)).cellOf_inj fun _ => adm tb))
    (Pipeline.launchToks (pcs tb) ((launch0 (F := Ideal)).cellOf_inj fun _ => adm tb))

/-- Every window holds its operand whole. -/
theorem share_eq (c : Dev nD) (w : Fin (cfgA tb).W) : (dats tb m ρ 0 c).share w = fullShare := by unfold Dat.share; split <;> rfl

/-- Holding both tables is holding the one and the other. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The launch gives what the body keeps from point to point. -/
theorem phi_intro (c : Dev nD) :
    iprop(BI.emp ∗ Pipeline.prefHeld pre0 c (fun _ => fullShare.right) (adm tb).1 ∗ Pipeline.scopedRest spec0 c) ⊢ (dats tb m ρ 0 c).Φ 0 := by
  rw [prefHeld_eq, scopedRest0_eq, show (dats tb m ρ 0 c).Φ 0 = Phi tb c from rfl]
  unfold Phi
  iintro ⟨-, ⟨HT0, HT1⟩, -⟩
  isplitl [HT0]
  · iexact HT0
  iexact HT1

/-- What the body kept is given back at the end. -/
theorem phi_exit (c : Dev nD) : (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb c from rfl]
  unfold Phi
  iintro ⟨-, -⟩
  isplitr; · iempintro
  iempintro

/-- The launch memory's tables are `tb`'s. -/
def Held : Prop :=
  (∀ c : Dev nD, m ((c : Thread nD τ).loc main_arg0) = tb.be) ∧ (∀ c : Dev nD, m ((c : Thread nD τ).loc main_arg1) = tb.nu)

/-- What the run ends in: every array as the pipeline computes it, every table as it was. -/
def Ends : PUnit × MemSt nD τ sig (Elt Ideal) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = (adm tb).1 j

variable {tb m} in
/-- The tables hold the contents they were said to hold. -/
theorem held_pre (hp : Held tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- From a memory holding these tables the kernel runs to its end, all semaphores at zero. -/
theorem run_main_quiescent (hp : Held tb m) :
    θ_run (defs (F := Ideal)) (onTc (τ := τ) (main (F := Ideal))) (s₀ m ρ) (fun r => Ends tb m ρ r ∧ r.2.sem = fun _ => 0) :=
  Pipeline.θ_run_region_noSem_pf_quiescent pcfgs (fun _ => adm tb) (dats tb m ρ) () ((launch0 (F := Ideal)).cellOf_inj fun _ => adm tb) (0 : Fin 1)
    (launch0 (F := Ideal)).win.to₀ (launch0 (F := Ideal)).pre EP defs₀ Variants.none m ρ main
    (hbody := fun c => (body_obligation tb m ρ c).loose) (hne := (launch0 (F := Ideal)).block_pos)
    (harr := (launch0 (F := Ideal)).arr_whole) (hstage := (launch0 (F := Ideal)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Ideal)).win.arr_inj c (launch0 (F := Ideal)).arr_whole
      (share_eq tb m ρ c) _ _ fun _ => rfl)
    (hpf := held_pre hp)
    (X := fun _ => iprop(emp)) (Y := fun _ => iprop(emp)) (Z := fun _ => iprop(emp))
    (hX := fun c => by rw [unscopedRestP0_eq]; iintro -; isplitr <;> iempintro)
    (hin := phi_intro tb m ρ)
    (hout := phi_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The program runs to its end, and its memory is as stated. -/
theorem run_main (hp : Held tb m) : θ_run (defs (F := Ideal)) (onTc (τ := τ) (main (F := Ideal))) (s₀ m ρ) (Ends tb m ρ) :=
  (θ_run defs _ _).mono (fun _ h => h.1) (run_main_quiescent tb m ρ hp)

variable {tb m ρ} in
/-- The arguments end as they began. -/
theorem kept (hp : Held tb m) (r : PUnit × MemSt nD τ sig (Elt Ideal)) (h : Ends tb m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp.1 c).symm, ((h c).2 1).trans (hp.2 c).symm,
    ((h c).1 (0 : Fin 5)).trans ((dats tb m ρ 0 c).arrAt_in (0 : Fin 5) rfl _), ((h c).1 (1 : Fin 5)).trans ((dats tb m ρ 0 c).arrAt_in (1 : Fin 5) rfl _),
    ((h c).1 (2 : Fin 5)).trans ((dats tb m ρ 0 c).arrAt_in (2 : Fin 5) rfl _), ((h c).1 (3 : Fin 5)).trans ((dats tb m ρ 0 c).arrAt_in (3 : Fin 5) rfl _)⟩

/-- The frame: the kernel ends with its arguments unchanged and its semaphores at zero. -/
theorem frame (hp : Held tb m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept hp r h.1 c, h.2⟩) (run_main_quiescent tb m ρ hp)

end Cert.Proof.MoeLastI

end
-- ==== Proof.MoeLastRef.lean ====
/-
  The experts of the last layer: its mathematics as one function of the arguments, and the reference read as that function.
-/
module

public import proofs.«01_k».proof.Defs
public import proofs.«01_k».proof.Proof.MoeRef
public import proofs.«01_k».proof.Proof.Gen.MoeLastRefIdeal.Run
public import proofs.«01_k».proof.Proof.Gen.MoeLastRefIdeal.Read
public import proofs.«01_k».proof.Proof.Gen.Pre_moe_last_pre
public import Idealize.ShloMosaic.Lib.KernelVsHost
public import Idealize.ShloMosaic.Lib.ValueIdx
public import Idealize.ShloMosaic.Lib.StableHlo.Predicate
public import Idealize.ShloMosaic.Lib.IdealHost

@[expose] public section

set_option maxRecDepth 16384

noncomputable section

namespace Cert.Proof.MoeLast

open Cert.MoeLastRefIdeal Cert.MoeLastRefIdeal.Gen Idealize.ShloMosaic Idealize.ShloMosaic.TcCoe Idealize.SL.Sem
open Idealize.ShloMosaic.ValueIdx
open scoped BigOperators

/-- The block of 256 rows that row `p` is in. -/
def blockOf (p : Fin 20480) : Fin 80 := ⟨p.val / 256, by omega⟩

/-- The expert of a block. -/
def expert (be : S80.Idx → BitVec 32) (hb : ∀ x, (be x).toNat < 16) (b : Fin 80) : Fin 16 := ⟨(be (ix1 b)).toNat, hb _⟩

/-- Block `b` is one of the used ones: its number is below their count, as signed words. -/
def IsUsed (nu : S1.Idx → BitVec 32) (b : Nat) : Prop := IntOp.cmpi .slt (BitVec.ofNat 32 b) (nu (ix1 (0 : Fin 1))) = 1#1

instance (nu : S1.Idx → BitVec 32) (b : Nat) : Decidable (IsUsed nu b) := inferInstanceAs (Decidable (_ = _))

/-- Row `p` of the rows times column `f` of expert `e`'s matrix. -/
def proj (x : S20480x4096.Idx → EReal) (w : S16x4096x1024.Idx → EReal) (e : Fin 16) (p : Fin 20480) (f : Fin 1024) : EReal :=
  ∑ k : Fin 4096, x (ix2 p k) * w (ix3 e k f)

/-- The hidden layer: the first product times its logistic, times the second product. -/
def hid (x : S20480x4096.Idx → EReal) (w1 w3 : S16x4096x1024.Idx → EReal) (e : Fin 16) (p : Fin 20480) (f : Fin 1024) : EReal :=
  proj x w1 e p f * Ideal.logistic (proj x w1 e p f) * proj x w3 e p f

/-- Expert `e`'s output at row `p` and column `j`. -/
def ffn (x : S20480x4096.Idx → EReal) (w1 w3 : S16x4096x1024.Idx → EReal) (w2 : S16x1024x4096.Idx → EReal) (e : Fin 16)
    (p : Fin 20480) (j : Fin 4096) : EReal := ∑ f : Fin 1024, hid x w1 w3 e p f * w2 (ix3 e f j)

/-- The layer: each row through its block's expert, zero in the blocks that are not used. -/
def G (be : S80.Idx → BitVec 32) (hb : ∀ x, (be x).toNat < 16) (nu : S1.Idx → BitVec 32) (x : S20480x4096.Idx → EReal)
    (w1 w3 : S16x4096x1024.Idx → EReal) (w2 : S16x1024x4096.Idx → EReal) : S20480x4096.Idx → EReal := fun i =>
  if IsUsed nu (blockOf (i 0)).val then ffn x w1 w3 w2 (expert be hb (blockOf (i 0))) (i 0) (i 1) else 0

/-- The precondition says that every block's expert is one of the sixteen. -/
theorem inRange (be : S80.Idx → BitVec 32) (nu : S1.Idx → BitVec 32) {F : FTy → Type} [FloatOps F] (x : FVec F S20480x4096 .bf16)
    (w1 w3 : FVec F S16x4096x1024 .bf16) (w2 : FVec F S16x1024x4096 .bf16)
    (h : Cert.Pre_moe_last_pre.fn (F := F) be nu x w1 w3 w2 = (fun _ => 1#1)) (i : S80.Idx) : (be i).toNat < 16 :=
  Moe.word_range (be i) (congrFun h i)

section Reference
open Cert.MoeLastRefIdeal.Read

variable (be : S80.Idx → BitVec 32) (hb : ∀ x, (be x).toNat < 16) (nu : S1.Idx → BitVec 32) (x : S20480x4096.Idx → EReal)
  (w1 w3 : S16x4096x1024.Idx → EReal) (w2 : S16x1024x4096.Idx → EReal)

/-- A word below sixteen is not negative, so the reference's wrap of a negative index leaves it. -/
theorem wrap_eq (v : BitVec 32) (h : v.toNat < 16) : Scalar.select (IntOp.cmpi .slt v 0#32) (IntOp.addi v 16#32) v = v := by
  have e : IntOp.cmpi .slt v 0#32 = 0#1 := by
    simp only [IntOp.cmpi]
    have : v.slt 0#32 = false := by
      rw [BitVec.slt, decide_eq_false_iff_not]
      have := StableHlo.Predicate.toInt_ofNat_small v.toNat (by omega)
      rw [BitVec.ofNat_toNat, BitVec.setWidth_eq] at this
      rw [this]; simp
    rw [this]; rfl
  rw [e]; rfl

/-- The signed reading of a word below sixteen, clamped into the sixteen. -/
theorem clamp_eq (v : BitVec 32) (h : v.toNat < 16) : min v.toInt.toNat (16 - 1) = v.toNat := by
  have := StableHlo.Predicate.toInt_ofNat_small v.toNat (by omega)
  rw [BitVec.ofNat_toNat, BitVec.setWidth_eq] at this
  rw [this]; omega

/-- The matrices of each block's expert, read at an index: the first two weights. -/
theorem take1 (y : S16x4096x1024.Idx → EReal) (t : S80x1.Idx → BitVec 32) (b : Fin 80) (k : Fin 4096) (f : Fin 1024) (e : Fin 16)
    (ht : (t (ix2 b (0 : Fin 1))).toNat = e.val) :
    Host.gather gather_S16x4096x1024_S80x1_S80x4096x1024_12_0_n_n_0_1_140961024 y t (ix3 b k f) = y (ix3 e k f) := by
  unfold Host.gather
  refine congrArg y (funext fun a => Fin.ext ?_)
  match a with
  | ⟨0, _⟩ =>
    refine Eq.trans ?_ ((clamp_eq _ (by have := e.isLt; omega)).trans ht)
    refine (Nat.add_zero _).trans ((Nat.add_zero _).trans ?_)
    exact congrArg (fun z => min (t z).toInt.toNat (16 - 1)) (Shape.idx_ext₂ rfl rfl)
  | ⟨1, _⟩ => exact (Nat.zero_add _).trans rfl
  | ⟨2, _⟩ => exact (Nat.zero_add _).trans rfl

/-- The same for the third weight. -/
theorem take2 (y : S16x1024x4096.Idx → EReal) (t : S80x1.Idx → BitVec 32) (b : Fin 80) (k : Fin 1024) (f : Fin 4096) (e : Fin 16)
    (ht : (t (ix2 b (0 : Fin 1))).toNat = e.val) :
    Host.gather gather_S16x1024x4096_S80x1_S80x1024x4096_12_0_n_n_0_1_110244096 y t (ix3 b k f) = y (ix3 e k f) := by
  unfold Host.gather
  refine congrArg y (funext fun a => Fin.ext ?_)
  match a with
  | ⟨0, _⟩ =>
    refine Eq.trans ?_ ((clamp_eq _ (by have := e.isLt; omega)).trans ht)
    refine (Nat.add_zero _).trans ((Nat.add_zero _).trans ?_)
    exact congrArg (fun z => min (t z).toInt.toNat (16 - 1)) (Shape.idx_ext₂ rfl rfl)
  | ⟨1, _⟩ => exact (Nat.zero_add _).trans rfl
  | ⟨2, _⟩ => exact (Nat.zero_add _).trans rfl

/-- Row `r` of block `b`. -/
def row (b : Fin 80) (r : Fin 256) : Fin 20480 := ⟨b.val * 256 + r.val, by omega⟩

/-- The rows, block by block. -/
theorem v4_at (b : Fin 80) (r : Fin 256) (k : Fin 4096) : val_main_v4 (F := Ideal) x (ix3 b r k) = x (ix2 (row b r) k) := by
  rw [val_main_v4_apply, val_main_v0_apply]
  have hk := k.isLt
  refine congrArg x (Shape.idx_ext₂ ?_ ?_)
  · show ((b.val * 256 + r.val) * 4096 + k.val) / 4096 = b.val * 256 + r.val
    omega
  · show ((b.val * 256 + r.val) * 4096 + k.val) % 4096 = k.val
    omega

include hb in
/-- The index into the first weights is the block's expert. -/
theorem v10_at (b : Fin 80) : (val_main_v10 (F := Ideal) be (ix2 b (0 : Fin 1))).toNat = (expert be hb b).val := by
  rw [val_main_v10_apply, val_main_v9_apply, val_main_v6_apply, val_main_v8_apply, val_main_v5_apply, val_main_v7_apply, val_main_c_apply,
    val_main_c_0_apply, wrap_eq _ (hb _)]
  exact congrArg (fun z => (be z).toNat) (eq_ix1 _)
include hb in
/-- The index into the second weights is the block's expert. -/
theorem v18_at (b : Fin 80) : (val_main_v18 (F := Ideal) be (ix2 b (0 : Fin 1))).toNat = (expert be hb b).val := by
  rw [val_main_v18_apply, val_main_v17_apply, val_main_v14_apply, val_main_v16_apply, val_main_v13_apply, val_main_v15_apply, val_main_c_1_apply,
    val_main_c_2_apply, wrap_eq _ (hb _)]
  exact congrArg (fun z => (be z).toNat) (eq_ix1 _)
include hb in
/-- The index into the third weights is the block's expert. -/
theorem v28_at (b : Fin 80) : (val_main_v28 (F := Ideal) be (ix2 b (0 : Fin 1))).toNat = (expert be hb b).val := by
  rw [val_main_v28_apply, val_main_v27_apply, val_main_v24_apply, val_main_v26_apply, val_main_v23_apply, val_main_v25_apply, val_main_c_3_apply,
    val_main_c_4_apply, wrap_eq _ (hb _)]
  exact congrArg (fun z => (be z).toNat) (eq_ix1 _)

/-- A row times the first weights of its expert. -/
theorem v12_at (b : Fin 80) (r : Fin 256) (f : Fin 1024) :
    val_main_v12 (F := Ideal) be x w1 (ix3 b r f) = proj x w1 (expert be hb b) (row b r) f := by
  rw [val_main_v12_apply]
  refine Finset.sum_congr rfl fun k _ => congrArg₂ (· * ·) ?_ ?_
  · rw [eq_ix3 (lidx_main_v12 (ix3 b r f) k)]; exact v4_at x b r k
  · rw [eq_ix3 (ridx_main_v12 (ix3 b r f) k)]; exact take1 _ _ b k f _ (v10_at be hb b)

/-- A row times the second weights of its expert. -/
theorem v20_at (b : Fin 80) (r : Fin 256) (f : Fin 1024) :
    val_main_v20 (F := Ideal) be x w3 (ix3 b r f) = proj x w3 (expert be hb b) (row b r) f := by
  rw [val_main_v20_apply]
  refine Finset.sum_congr rfl fun k _ => congrArg₂ (· * ·) ?_ ?_
  · rw [eq_ix3 (lidx_main_v20 (ix3 b r f) k)]; exact v4_at x b r k
  · rw [eq_ix3 (ridx_main_v20 (ix3 b r f) k)]; exact take1 _ _ b k f _ (v18_at be hb b)

/-- The hidden layer, entry by entry. -/
theorem v22_at (b : Fin 80) (r : Fin 256) (f : Fin 1024) :
    val_main_v22 (F := Ideal) be x w1 w3 (ix3 b r f) = hid x w1 w3 (expert be hb b) (row b r) f := by
  rw [val_main_v22_apply, val_main_v21_apply, val_main_call0_v5_apply, val_main_call0_v3_apply, val_main_call0_v1_apply, val_main_call0_v0_apply,
    val_main_call0_v4_apply, val_main_call0_v2_apply, val_main_call0_cst_apply, val_main_call0_cst_0_apply, v12_at be hb x w1, v20_at be hb x w3]
  simp only [Ideal.mulf_def, Ideal.addf_def, Ideal.hostDivf_def, Ideal.hostUnary_exp_def, Ideal.hostNegf_def, Ideal.ofBits_def, Ideal.ofBits_one_f32]
  rfl

/-- The feed-forward of a row by its expert. -/
theorem v30_at (b : Fin 80) (r : Fin 256) (j : Fin 4096) :
    val_main_v30 (F := Ideal) be x w1 w3 w2 (ix3 b r j) = ffn x w1 w3 w2 (expert be hb b) (row b r) j := by
  rw [val_main_v30_apply]
  refine Finset.sum_congr rfl fun f _ => congrArg₂ (· * ·) ?_ ?_
  · rw [eq_ix3 (lidx_main_v30 (ix3 b r j) f)]; exact v22_at be hb x w1 w3 b r f
  · rw [eq_ix3 (ridx_main_v30 (ix3 b r j) f)]; exact take2 _ _ b f j _ (v28_at be hb b)

/-- A block is selected when its number is below the count. -/
theorem sel_at (i : S80x256x4096.Idx) :
    val_main_call1_v1 (F := Ideal) nu i = IntOp.cmpi .slt (BitVec.ofNat 32 (i 0).val) (nu (ix1 (0 : Fin 1))) := by
  rw [val_main_call1_v1_apply, val_main_v35_apply, val_main_v34_apply, val_main_v31_apply, val_main_v33_apply]
  refine congrArg (IntOp.cmpi .slt _) ?_
  unfold val_main_v32 shapeCast
  refine congrArg nu (funext fun a => ?_)
  match a with
  | ⟨0, h⟩ => exact Subsingleton.elim (α := Fin 1) _ _

/-- The reference's result is `G`. -/
theorem ref_eq : val_main_v37 (F := Ideal) be nu x w1 w3 w2 = G be hb nu x w1 w3 w2 := by
  funext i
  obtain ⟨p, j, rfl⟩ : ∃ (p : Fin 20480) (j : Fin 4096), i = ix2 p j := ⟨i 0, i 1, eq_ix2 i⟩
  have hj := j.isLt
  have hp := p.isLt
  have e : idx_main_v37 (ix2 p j) = ix3 (blockOf p) (⟨p.val % 256, by omega⟩ : Fin 256) j := by
    refine (eq_ix3 _).trans ?_
    have e0 : (idx_main_v37 (ix2 p j)) 0 = blockOf p := Fin.ext (by show (p.val * 4096 + j.val) / 1048576 = p.val / 256; omega)
    have e1 : (idx_main_v37 (ix2 p j)) 1 = (⟨p.val % 256, by omega⟩ : Fin 256) :=
      Fin.ext (by show (p.val * 4096 + j.val) / 4096 % 256 = p.val % 256; omega)
    have e2 : (idx_main_v37 (ix2 p j)) 2 = j := Fin.ext (by show (p.val * 4096 + j.val) % 4096 = j.val; omega)
    rw [e0, e1, e2]; rfl
  have er : row (blockOf p) ⟨p.val % 256, by omega⟩ = p := Fin.ext (by show p.val / 256 * 256 + p.val % 256 = p.val; omega)
  rw [val_main_v37_apply, e, val_main_v36_apply, sel_at, v30_at be hb, er, val_main_call1_v2_apply]
  unfold G Scalar.select
  refine if_congr Iff.rfl rfl ?_
  show Ideal.ofBits .f32 0#32 = 0
  exact Ideal.ofBits_zero_f32

end Reference

end Cert.Proof.MoeLast

end
-- ==== Proof.MoeLastVal.lean ====
/-
  The experts of the last layer over the extended reals: what the kernel leaves in its result array.
-/
module

public import proofs.«01_k».proof.Proof.MoeLastIdealFrame
public import proofs.«01_k».proof.Proof.MoeLastRef
public import Idealize.ShloMosaic.Lib.KernelVsHost
public import Idealize.ShloMosaic.Lib.ValueIdx
public import Idealize.ShloMosaic.Lib.WholeRead
public import Idealize.ShloMosaic.Lib.Pipeline.Value
public import Idealize.ShloMosaic.Lib.MatmulPlain
public import Idealize.ShloMosaic.Lib.ValueLayout
public import Idealize.ShloMosaic.Lib.VecWindow

@[expose] public section

set_option maxRecDepth 16384

noncomputable section

namespace Cert.Proof.MoeLastI

open Cert.MoeLastIdeal Cert.MoeLastIdeal.Gen
open Idealize.ShloMosaic Idealize.ShloMosaic.TcCoe Idealize.SL.Sem
open Idealize.ShloMosaic.Pipeline (Dat Cfg Window)
open Idealize.ShloMosaic.ValueIdx
open scoped BigOperators

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

section
variable (c : Dev nD) (i : grid0.Coords) (arg4 : Memref sig .tc .vmem S256x4096 .bf16) (harg4 : arg4.IsWhole)
  (arg5 : Memref sig .tc .vmem S1x4096x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S256x4096 .f32) (harg8 : arg8.IsWhole)
  (T0 : S80.Idx → Elt Ideal .i32) (T1 : S1.Idx → Elt Ideal .i32) (x0 : S256x4096.Idx → Elt Ideal .bf16) (x1 : S1x4096x512.Idx → Elt Ideal .bf16)
  (x2 : S1x4096x512.Idx → Elt Ideal .bf16) (x3 : S1x512x4096.Idx → Elt Ideal .bf16) (xo4 : S256x4096.Idx → Elt Ideal .f32)

/-- The first point of a used block leaves its own product. -/
theorem leftA_eq (h1 : k0_cond1 i (word T1) = 1#1) (h2 : k0_cond2 i = 1#1) (h3 : ¬(k0_cond3 i = 1#1)) (h4 : ¬(k0_cond4 i (word T1) = 1#1)) :
    leftA c i arg4 harg4 arg5 harg5 arg6 harg6 arg7 harg7 arg8 harg8 T0 T1 x0 x1 x2 x3 h1 h2 h3 h4 = k0_pay1 (F := Ideal) x0 x1 x2 x3 := by
  unfold leftA
  refine (View.read_writes_eq_canon _ _ _ (coverA c i arg4 harg4 arg5 harg5 arg6 harg6 arg7 harg7 arg8 harg8 T0 T1 x0 x1 x2 x3 h1 h2 h3 h4)).trans ?_
  unfold runA
  dsimp only
  unfold runA.sl.HO4_1
  refine (View.canon_unit_zero hz _ _).trans ?_
  rw [View.readAt_rep_full, View.readAt_rep_full, View.readAt_rep_full, View.readAt_rep_full]

/-- The second point of a used block adds its own product to what it found. -/
theorem leftB_eq (h1 : k0_cond1 i (word T1) = 1#1) (h2 : ¬(k0_cond2 i = 1#1)) (h3 : (k0_cond3 i = 1#1)) (h4 : ¬(k0_cond4 i (word T1) = 1#1)) :
    leftB c i arg4 harg4 arg5 harg5 arg6 harg6 arg7 harg7 arg8 harg8 T0 T1 x0 x1 x2 x3 xo4 h1 h2 h3 h4 = k0_pay2 (F := Ideal) x0 x1 x2 x3 xo4 := by
  unfold leftB
  refine (View.read_writes_eq_canon _ _ _ (coverB c i arg4 harg4 arg5 harg5 arg6 harg6 arg7 harg7 arg8 harg8 T0 T1 x0 x1 x2 x3 xo4 h1 h2 h3 h4)).trans ?_
  unfold runB
  dsimp only
  unfold runB.sl.HO4_1
  refine (View.canon_unit_zero hz _ _).trans ?_
  rw [View.readAt_rep_full, View.readAt_rep_full, View.readAt_rep_full, View.readAt_rep_full, View.readAt_full, harg8.read_unread]

/-- The first point of an unused block leaves zeros. -/
theorem leftC_eq (h1 : ¬(k0_cond1 i (word T1) = 1#1)) (h4 : (k0_cond4 i (word T1) = 1#1)) :
    leftC c i arg4 harg4 arg5 harg5 arg6 harg6 arg7 harg7 arg8 harg8 T0 T1 x0 x1 x2 x3 h1 h4 = k0_pay3 (F := Ideal) := by
  unfold leftC
  refine (View.read_writes_eq_canon _ _ _ (coverC c i arg4 harg4 arg5 harg5 arg6 harg6 arg7 harg7 arg8 harg8 T0 T1 x0 x1 x2 x3 h1 h4)).trans ?_
  unfold runC
  dsimp only
  unfold runC.sl.HO4_1
  exact View.canon_unit_zero hz _ _
end

/-- One point's product: the block's rows through the point's 512 columns of the hidden layer. -/
theorem pay1_apply (x0 : FVec Ideal S256x4096 .bf16) (x1 x2 : FVec Ideal S1x4096x512 .bf16) (x3 : FVec Ideal S1x512x4096 .bf16)
    (r : Fin 256) (j : Fin 4096) :
    k0_pay1 (F := Ideal) x0 x1 x2 x3 (ix2 r j)
      = ∑ f : Fin 512, ((∑ k : Fin 4096, x0 (ix2 r k) * x1 (ix3 (0 : Fin 1) k f)) * Ideal.logistic (∑ k : Fin 4096, x0 (ix2 r k) * x1 (ix3 (0 : Fin 1) k f))
          * ∑ k : Fin 4096, x0 (ix2 r k) * x2 (ix3 (0 : Fin 1) k f)) * x3 (ix3 (0 : Fin 1) f j) := by
  unfold k0_pay1
  refine (Ideal.matmul_plain_apply none _ _ _ r j).trans ?_
  rw [constant_apply, Ideal.ofBits_zero_f32, zero_add]
  refine Finset.sum_congr rfl fun f _ => congrArg₂ (· * ·) ?_ (shapeCast_1ab_ab_apply x3 _ f j)
  have m1 : ∀ (y : FVec Ideal S1x4096x512 .bf16) h, FloatOps.matmul dot_S256x4096_S4096x512_S256x512_1_0_0_1_n_n none x0 (shapeCast S4096x512 y h)
      (constant S256x512 .f32 0#32) (ix2 r f) = ∑ k : Fin 4096, x0 (ix2 r k) * y (ix3 (0 : Fin 1) k f) := fun y h => by
    refine (Ideal.matmul_plain_apply none _ _ _ r f).trans ?_
    rw [constant_apply, Ideal.ofBits_zero_f32, zero_add]
    exact Finset.sum_congr rfl fun k _ => congrArg (x0 (ix2 r k) * ·) (shapeCast_1ab_ab_apply y _ k f)
  exact congrArg₂ (· * ·) (congrArg₂ (· * ·) (m1 x1 _) (congrArg Ideal.logistic (m1 x1 _))) (m1 x2 _)

/-- The same from blocks that are parts of the arrays: rows `p`, expert `e`'s columns `g`. -/
theorem pay1_of (x0 : FVec Ideal S256x4096 .bf16) (x1 x2 : FVec Ideal S1x4096x512 .bf16) (x3 : FVec Ideal S1x512x4096 .bf16)
    (x : S20480x4096.Idx → EReal) (w1 w3 : S16x4096x1024.Idx → EReal) (w2 : S16x1024x4096.Idx → EReal) (e : Fin 16) (g : Fin 512 → Fin 1024)
    (p : Fin 20480) (r : Fin 256) (j : Fin 4096) (h0 : ∀ k, x0 (ix2 r k) = x (ix2 p k)) (h1 : ∀ k f, x1 (ix3 (0 : Fin 1) k f) = w1 (ix3 e k (g f)))
    (h2 : ∀ k f, x2 (ix3 (0 : Fin 1) k f) = w3 (ix3 e k (g f))) (h3 : ∀ f, x3 (ix3 (0 : Fin 1) f j) = w2 (ix3 e (g f) j)) :
    k0_pay1 (F := Ideal) x0 x1 x2 x3 (ix2 r j) = ∑ f : Fin 512, MoeLast.hid x w1 w3 e p (g f) * w2 (ix3 e (g f) j) := by
  refine (pay1_apply _ _ _ _ r j).trans (Finset.sum_congr rfl fun f _ => congrArg₂ (· * ·) ?_ (h3 f))
  have p1 : ∑ k : Fin 4096, x0 (ix2 r k) * x1 (ix3 (0 : Fin 1) k f) = MoeLast.proj x w1 e p (g f) :=
    Finset.sum_congr rfl fun k _ => congrArg₂ (· * ·) (h0 k) (h1 k f)
  have p3 : ∑ k : Fin 4096, x0 (ix2 r k) * x2 (ix3 (0 : Fin 1) k f) = MoeLast.proj x w3 e p (g f) :=
    Finset.sum_congr rfl fun k _ => congrArg₂ (· * ·) (h0 k) (h2 k f)
  exact congrArg₂ (· * ·) (congrArg₂ (· * ·) p1 (congrArg Ideal.logistic p1)) p3

/-! ## The blocks of each point -/

/-- Two places of a rank-3 array with the same coordinates are one. -/
theorem idx3 {a b c : Nat} {x y : (⟨3, ![a, b, c]⟩ : Shape).Idx} (h0 : (x 0).val = (y 0).val) (h1 : (x 1).val = (y 1).val)
    (h2 : (x 2).val = (y 2).val) : x = y := funext fun i => match i with
  | ⟨0, _⟩ => Fin.ext h0
  | ⟨1, _⟩ => Fin.ext h1
  | ⟨2, _⟩ => Fin.ext h2

/-- The grid's points in order: two for each block of rows. -/
theorem coords_eq : ∀ t : Fin grid0.N, (grid0.coords t 0).val = t.val / 2 ∧ (grid0.coords t 1).val = t.val % 2 := by
  decide +kernel

variable (tb : Tab) (m : (ℓ : Loc nD τ sig) → Buf (Elt Ideal) ℓ) (ρ : Dev nD → PrngReg) (c : Dev nD)

/-- Point `t`'s block of rows. -/
def bk (t : Fin (cfgA tb).N) : Fin 80 := ⟨t.val / 2, by have : t.val < 160 := t.isLt; omega⟩
/-- Column `f` of point `t`'s 512 columns of the hidden layer. -/
def col (t : Fin (cfgA tb).N) (f : Fin 512) : Fin 1024 := ⟨t.val % 2 * 512 + f.val, by omega⟩
/-- Point `t`'s expert. -/
def ex (t : Fin (cfgA tb).N) : Fin 16 := MoeLast.expert tb.be tb.ok (bk tb t)

/-- The rows, and the three weights, on core `c`. -/
abbrev X : S20480x4096.Idx → EReal := m ((c : Thread nD τ).loc main_arg2)
/-- The first weights as given. -/
abbrev W1 : S16x4096x1024.Idx → EReal := m ((c : Thread nD τ).loc main_arg3)
/-- The second weights, those of the gate's partner, as given. -/
abbrev W3 : S16x4096x1024.Idx → EReal := m ((c : Thread nD τ).loc main_arg4)
/-- The weights out of the hidden layer as given. -/
abbrev W2 : S16x1024x4096.Idx → EReal := m ((c : Thread nD τ).loc main_arg5)

/-- The block's number is half the point's. -/
theorem word0 (t : Fin (cfgA tb).N) : (BitVec.ofNat 32 (crd tb t 0).val).toNat = t.val / 2 := by
  have h : (crd tb t 0).val = t.val / 2 := (coords_eq t).1
  have : t.val < 160 := t.isLt
  rw [h, BitVec.toNat_ofNat]; omega
/-- The half's number is the point's parity. -/
theorem word1 (t : Fin (cfgA tb).N) : (BitVec.ofNat 32 (crd tb t 1).val).toNat = t.val % 2 := by
  have h : (crd tb t 1).val = t.val % 2 := (coords_eq t).2
  rw [h, BitVec.toNat_ofNat]; omega

/-- The expert the index maps read at point `t`. -/
theorem table_at (t : Fin (cfgA tb).N) : ((pfN tb).at 0 (Rect.unit (s := S80) ![(Scalar.indexCast (BitVec.ofNat 32 (crd tb t 0).val)).toNat] S1.size
    (k0_off1_inb (crd tb t))) numel1_S1).toNat = (ex tb t).val := by
  show (tb.be _).toNat = (tb.be _).toNat
  refine congrArg (fun z => (tb.be z).toNat) (funext fun a => ?_)
  match a with
  | ⟨0, _⟩ =>
    refine Fin.ext ?_
    show (BitVec.ofNat 32 (crd tb t 0).val).toNat + 1 * 0 = t.val / 2
    rw [word0, Nat.mul_zero, Nat.add_zero]

/-- The rows' block, entry by entry. -/
theorem blk0 (t : Fin (cfgA tb).N) (r : Fin 256) (k : Fin 4096) :
    iblk tb m ρ c (0 : Fin 5) t (ix2 r k) = X m c (ix2 (MoeLast.row (bk tb t) r) k) := by
  show X m c ((((cfgA tb).win (0 : Fin 5)).rect t).emb (ix2 r k)) = _
  have a0 := ((cfgA tb).win (0 : Fin 5)).rect_emb_val t (ix2 r k) (0 : Fin 2)
  have a1 := ((cfgA tb).win (0 : Fin 5)).rect_emb_val t (ix2 r k) (1 : Fin 2)
  refine congrArg _ (Shape.idx_ext₂ ?_ ?_)
  · exact a0.trans (congrArg (· * 256 + r.val) (word0 tb t))
  · exact a1.trans (Nat.zero_add _)

/-- The first weights' block, entry by entry. -/
theorem blk1 (t : Fin (cfgA tb).N) (k : Fin 4096) (f : Fin 512) :
    iblk tb m ρ c (1 : Fin 5) t (ix3 (0 : Fin 1) k f) = W1 m c (ix3 (ex tb t) k (col tb t f)) := by
  show W1 m c ((((cfgA tb).win (1 : Fin 5)).rect t).emb (ix3 (0 : Fin 1) k f)) = _
  have a0 := ((cfgA tb).win (1 : Fin 5)).rect_emb_val t (ix3 (0 : Fin 1) k f) (0 : Fin 3)
  have a1 := ((cfgA tb).win (1 : Fin 5)).rect_emb_val t (ix3 (0 : Fin 1) k f) (1 : Fin 3)
  have a2 := ((cfgA tb).win (1 : Fin 5)).rect_emb_val t (ix3 (0 : Fin 1) k f) (2 : Fin 3)
  refine congrArg _ (idx3 ?_ ?_ ?_)
  · exact a0.trans ((Nat.mul_one _).trans (table_at tb t))
  · exact a1.trans (Nat.zero_add _)
  · exact a2.trans (congrArg (· * 512 + f.val) (word1 tb t))

/-- The second weights' block, entry by entry. -/
theorem blk2 (t : Fin (cfgA tb).N) (k : Fin 4096) (f : Fin 512) :
    iblk tb m ρ c (2 : Fin 5) t (ix3 (0 : Fin 1) k f) = W3 m c (ix3 (ex tb t) k (col tb t f)) := by
  show W3 m c ((((cfgA tb).win (2 : Fin 5)).rect t).emb (ix3 (0 : Fin 1) k f)) = _
  have a0 := ((cfgA tb).win (2 : Fin 5)).rect_emb_val t (ix3 (0 : Fin 1) k f) (0 : Fin 3)
  have a1 := ((cfgA tb).win (2 : Fin 5)).rect_emb_val t (ix3 (0 : Fin 1) k f) (1 : Fin 3)
  have a2 := ((cfgA tb).win (2 : Fin 5)).rect_emb_val t (ix3 (0 : Fin 1) k f) (2 : Fin 3)
  refine congrArg _ (idx3 ?_ ?_ ?_)
  · exact a0.trans ((Nat.mul_one _).trans (table_at tb t))
  · exact a1.trans (Nat.zero_add _)
  · exact a2.trans (congrArg (· * 512 + f.val) (word1 tb t))

/-- The third weights' block, entry by entry. -/
theorem blk3 (t : Fin (cfgA tb).N) (f : Fin 512) (j : Fin 4096) :
    iblk tb m ρ c (3 : Fin 5) t (ix3 (0 : Fin 1) f j) = W2 m c (ix3 (ex tb t) (col tb t f) j) := by
  show W2 m c ((((cfgA tb).win (3 : Fin 5)).rect t).emb (ix3 (0 : Fin 1) f j)) = _
  have a0 := ((cfgA tb).win (3 : Fin 5)).rect_emb_val t (ix3 (0 : Fin 1) f j) (0 : Fin 3)
  have a1 := ((cfgA tb).win (3 : Fin 5)).rect_emb_val t (ix3 (0 : Fin 1) f j) (1 : Fin 3)
  have a2 := ((cfgA tb).win (3 : Fin 5)).rect_emb_val t (ix3 (0 : Fin 1) f j) (2 : Fin 3)
  refine congrArg _ (idx3 ?_ ?_ ?_)
  · exact a0.trans ((Nat.mul_one _).trans (table_at tb t))
  · exact a1.trans (congrArg (· * 512 + f.val) (word1 tb t))
  · exact a2.trans (Nat.zero_add _)

/-! ## What a block's two points leave -/

/-- Point `t`'s share of the sum over the hidden layer. -/
def part (t : Fin (cfgA tb).N) (r : Fin 256) (j : Fin 4096) : EReal :=
  ∑ f : Fin 512, MoeLast.hid (X m c) (W1 m c) (W3 m c) (ex tb t) (MoeLast.row (bk tb t) r) (col tb t f) * W2 m c (ix3 (ex tb t) (col tb t f) j)

/-- The body's product at point `t` is that half's part of the sum. -/
theorem pay1_at (t : Fin (cfgA tb).N) (r : Fin 256) (j : Fin 4096) :
    k0_pay1 (F := Ideal) (iblk tb m ρ c (0 : Fin 5) t) (iblk tb m ρ c (1 : Fin 5) t) (iblk tb m ρ c (2 : Fin 5) t) (iblk tb m ρ c (3 : Fin 5) t) (ix2 r j)
      = part tb m c t r j :=
  pay1_of _ _ _ _ (X m c) (W1 m c) (W3 m c) (W2 m c) (ex tb t) (col tb t) (MoeLast.row (bk tb t) r) r j (blk0 tb m ρ c t r) (blk1 tb m ρ c t)
    (blk2 tb m ρ c t) (fun f => blk3 tb m ρ c t f j)

/-- The two points' shares are the whole sum. -/
theorem parts (t t' : Fin (cfgA tb).N) (h : t.val % 2 = 1) (h' : t'.val + 1 = t.val) (r : Fin 256) (j : Fin 4096) :
    part tb m c t' r j + part tb m c t r j
      = MoeLast.ffn (X m c) (W1 m c) (W3 m c) (W2 m c) (ex tb t) (MoeLast.row (bk tb t) r) j := by
  have eb : bk tb t' = bk tb t := Fin.ext (by show t'.val / 2 = t.val / 2; omega)
  have ee : ex tb t' = ex tb t := by unfold ex; rw [eb]
  have ec' : ∀ f : Fin 512, col tb t' f = Fin.castAdd 512 f := fun f => Fin.ext (by show t'.val % 2 * 512 + f.val = f.val; omega)
  have ec : ∀ f : Fin 512, col tb t f = Fin.natAdd 512 f := fun f => Fin.ext (by show t.val % 2 * 512 + f.val = 512 + f.val; omega)
  unfold part MoeLast.ffn
  rw [eb, ee]
  simp only [ec, ec']
  exact (Fin.sum_univ_add (a := 512) (b := 512) (fun f : Fin 1024 =>
    MoeLast.hid (X m c) (W1 m c) (W3 m c) (ex tb t) (MoeLast.row (bk tb t) r) f * W2 m c (ix3 (ex tb t) f j))).symm

/-- A block is used in the kernel's test exactly if it is in the mathematics. -/
theorem used_iff (t : Fin (cfgA tb).N) : Used tb t ↔ MoeLast.IsUsed tb.nu (bk tb t).val := by
  have e : word tb.nu = tb.nu (ix1 (0 : Fin 1)) := congrArg tb.nu (funext fun a => by
    match a with
    | ⟨0, _⟩ => exact Subsingleton.elim (α := Fin 1) _ _)
  have h : (crd tb t 0).val = t.val / 2 := (coords_eq t).1
  unfold Used MoeLast.IsUsed k0_cond1
  dsimp only
  rw [e, h]
  show _ ↔ IntOp.cmpi .slt (BitVec.ofNat 32 (t.val / 2)) (tb.nu (ix1 (0 : Fin 1))) = 1#1
  unfold Scalar.cmpi
  generalize IntOp.cmpi .slt (BitVec.ofNat 32 (t.val / 2)) (tb.nu (ix1 (0 : Fin 1))) = a
  revert a
  decide

/-- The layer's result on core `c`. -/
abbrev Gc : S20480x4096.Idx → EReal := MoeLast.G tb.be tb.ok tb.nu (X m c) (W1 m c) (W3 m c) (W2 m c)

/-- After its second point a block's buffer holds the block of the layer's result. -/
theorem traj_at (t : Fin (cfgA tb).N) (h : t.val % 2 = 1) (r : Fin 256) (j : Fin 4096) :
    traj tb m ρ c t.val t.isLt (ix2 r j) = Gc tb m c (ix2 (MoeLast.row (bk tb t) r) j) := by
  have ht : t.val ≠ 0 := by omega
  have hn1 : ¬First tb t := fun e => by have := (first_iff tb t).mp e; omega
  obtain ⟨t', e'⟩ : ∃ t' : Fin (cfgA tb).N, t'.val + 1 = t.val := ⟨⟨t.val - 1, by have := t.isLt; omega⟩, by show t.val - 1 + 1 = t.val; omega⟩
  have hf : First tb t' := (first_iff tb t').mpr (by omega)
  have eb : bk tb t' = bk tb t := Fin.ext (by show t'.val / 2 = t.val / 2; omega)
  have er : MoeLast.blockOf (MoeLast.row (bk tb t) r) = bk tb t := Fin.ext (by
    have := r.isLt
    show ((bk tb t).val * 256 + r.val) / 256 = (bk tb t).val
    omega)
  have ep : prev tb m ρ c t = traj tb m ρ c t'.val t'.isLt := by
    unfold prev
    rw [dif_neg ht]
    have e : ∀ n (hn : n < (cfgA tb).N), n = t'.val → traj tb m ρ c n hn = traj tb m ρ c t'.val t'.isLt := by rintro n hn rfl; rfl
    exact e _ _ (by omega)
  have eG : Gc tb m c (ix2 (MoeLast.row (bk tb t) r) j)
      = if MoeLast.IsUsed tb.nu (bk tb t).val then MoeLast.ffn (X m c) (W1 m c) (W3 m c) (W2 m c) (ex tb t) (MoeLast.row (bk tb t) r) j else 0 := by
    show (if MoeLast.IsUsed tb.nu (MoeLast.blockOf (MoeLast.row (bk tb t) r)).val then
      MoeLast.ffn (X m c) (W1 m c) (W3 m c) (W2 m c) (MoeLast.expert tb.be tb.ok (MoeLast.blockOf (MoeLast.row (bk tb t) r))) (MoeLast.row (bk tb t) r) j else 0) = _
    rw [er]; rfl
  rw [eG, traj_eq, ep, traj_eq]
  by_cases q : MoeLast.IsUsed tb.nu (bk tb t).val
  · have q0 : Used tb t := (used_iff tb t).mpr q
    have q0' : Used tb t' := (used_iff tb t').mpr (by rw [eb]; exact q)
    rw [if_pos q, stepB tb m ρ c t _ q0 hn1, stepA tb m ρ c t' _ q0' hf, leftB_eq, leftA_eq]
    unfold k0_pay2
    rw [shapeCast_self]
    refine Eq.trans ?_ (parts tb m c t t' h e' r j)
    exact congrArg₂ (· + ·) (pay1_at tb m ρ c t' r j) (pay1_at tb m ρ c t r j)
  · have q0 : ¬Used tb t := fun e => q ((used_iff tb t).mp e)
    have q0' : ¬Used tb t' := fun e => q (by have := (used_iff tb t').mp e; rwa [eb] at this)
    rw [if_neg q, stepD tb m ρ c t _ q0 hn1, stepC tb m ρ c t' _ q0' hf, leftC_eq]
    show Ideal.ofBits .f32 0#32 = 0
    exact Ideal.ofBits_zero_f32

/-- What point `t` writes back is its block of the layer's result. -/
theorem flushed_eq (t : Fin (cfgA tb).N) (h : ((cfgA tb).win (4 : Fin 5)).flush t = true) :
    (dats tb m ρ 0 c).flushed (4 : Fin 5) t = (((cfgA tb).win (4 : Fin 5)).blk t).view.read (Elt Ideal) (Gc tb m c) := by
  rw [flush_eq] at h
  have h' : t.val % 2 = 1 := of_decide_eq_true h
  show ((cfgA tb).win (4 : Fin 5)).cut (crd tb t) ((dats tb m ρ 0 c).after (4 : Fin 5) t) = _
  rw [after4]
  funext y
  obtain ⟨r, j, rfl⟩ : ∃ (r : Fin 256) (j : Fin 4096), y = ix2 r j := ⟨y 0, y 1, eq_ix2 y⟩
  refine (traj_at tb m ρ c t h' r j).trans ?_
  show _ = Gc tb m c ((((cfgA tb).win (4 : Fin 5)).rect t).emb (ix2 r j))
  have a0 := ((cfgA tb).win (4 : Fin 5)).rect_emb_val t (ix2 r j) (0 : Fin 2)
  have a1 := ((cfgA tb).win (4 : Fin 5)).rect_emb_val t (ix2 r j) (1 : Fin 2)
  refine congrArg _ (Shape.idx_ext₂ ?_ ?_).symm
  · exact a0.trans (congrArg (· * 256 + r.val) (word0 tb t))
  · exact a1.trans (Nat.zero_add _)

/-- The blocks written back tile the result. -/
theorem cover (i : S20480x4096.Idx) :
    ∃ t : Fin (cfgA tb).N, ((cfgA tb).win (4 : Fin 5)).flush t = true ∧ i ∈ (((cfgA tb).win (4 : Fin 5)).blk t).view.set := by
  have h0 : (i 0 : Nat) < 20480 := (i 0).isLt
  have h1 : (i 1 : Nat) < 4096 := (i 1).isLt
  obtain ⟨t, et⟩ : ∃ t : Fin (cfgA tb).N, t.val = 2 * ((i 0 : Nat) / 256) + 1 :=
    ⟨⟨2 * ((i 0 : Nat) / 256) + 1, by show 2 * ((i 0 : Nat) / 256) + 1 < 160; omega⟩, rfl⟩
  refine ⟨t, by rw [flush_eq]; exact decide_eq_true (by omega), ?_⟩
  show i ∈ ((View.whole main_v0).slice (((cfgA tb).win (4 : Fin 5)).rect t)).set
  rw [View.set_slice_whole, Rect.mem_set_unit]
  have w := word0 tb t
  intro a
  match a with
  | ⟨0, _⟩ =>
    show (BitVec.ofNat 32 (crd tb t 0).val).toNat * 256 ≤ (i 0 : Nat) ∧ (i 0 : Nat) < (BitVec.ofNat 32 (crd tb t 0).val).toNat * 256 + 256
    rw [w]; omega
  | ⟨1, _⟩ =>
    show 0 * 4096 ≤ (i 1 : Nat) ∧ (i 1 : Nat) < 0 * 4096 + 4096
    omega

/-- So the result array ends holding the layer's result. -/
theorem final : (dats tb m ρ 0 c).arrAt (4 : Fin 5) (cfgA tb).N = Gc tb m c :=
  (dats tb m ρ 0 c).arrAt_eq_of_cover (4 : Fin 5) _ (fun t h => flushed_eq tb m ρ c t h) (cover tb)

end Cert.Proof.MoeLastI

end
-- ==== Proof.MoeLastRun.lean ====
/-
  The experts of the last layer: one step of its body in each of the four cases a step can be in.
-/
module

public import proofs.«01_k».proof.Defs
public import proofs.«01_k».proof.Proof.Gen.MoeLast
public import proofs.«01_k».proof.Proof.Gen.MoeLast.Launch
public import proofs.«01_k».proof.Proof.Gen.MoeLast.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.PureOps.BitExact

@[expose] public section

set_option maxRecDepth 16384
set_option Elab.async false

noncomputable section

namespace Cert.Proof.MoeLastK

open Cert.MoeLast Cert.MoeLast.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables, whole: the blocks' experts, and the number of used blocks. -/
abbrev tbM0_0 : Memref sig .tc .smem S80 .i32 := Memref.whole main_arg0
/-- The number of used blocks, whole. -/
abbrev tbM0_1 : Memref sig .tc .smem S1 .i32 := Memref.whole main_arg1

/-- The number of used blocks, as the body loads it. -/
abbrev word (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

/-- One staging buffer of the output, through which contents are stated. -/
abbrev VO : View sig .tc .vmem S256x4096 .f32 := (Memref.whole cc0_stg4_0 : Memref sig .tc .vmem S256x4096 .f32).view

variable (c : Dev nD) (i : grid0.Coords) (arg4 : Memref sig .tc .vmem S256x4096 .bf16) (harg4 : arg4.IsWhole)
  (arg5 : Memref sig .tc .vmem S1x4096x512 .bf16) (harg5 : arg5.IsWhole) (arg6 : Memref sig .tc .vmem S1x4096x512 .bf16) (harg6 : arg6.IsWhole)
  (arg7 : Memref sig .tc .vmem S1x512x4096 .bf16) (harg7 : arg7.IsWhole) (arg8 : Memref sig .tc .vmem S256x4096 .f32) (harg8 : arg8.IsWhole)
  (T0 : S80.Idx → Elt Bits .i32) (T1 : S1.Idx → Elt Bits .i32) (x0 : S256x4096.Idx → Elt Bits .bf16) (x1 : S1x4096x512.Idx → Elt Bits .bf16)
  (x2 : S1x4096x512.Idx → Elt Bits .bf16) (x3 : S1x512x4096.Idx → Elt Bits .bf16) (xo4 : S256x4096.Idx → Elt Bits .f32)

set_option backward.proofsInPublic true in
set_option maxHeartbeats 8000000 in
/-- A used block, first half of the hidden columns: the body stores its product. -/
noncomputable def runA (k0_h1 : k0_cond1 i (word T1) = 1#1) (k0_h2 : k0_cond2 i = 1#1) (k0_h3 : ¬(k0_cond3 i = 1#1)) (k0_h4 : ¬(k0_cond4 i (word T1) = 1#1)) :
    { out0 : List (View.Piece (Elt Bits) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = k0_cond2 _ = _; exact k0_h2) | (guard_target = ¬(k0_cond3 _ = _); exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverA (k0_h1 : k0_cond1 i (word T1) = 1#1) (k0_h2 : k0_cond2 i = 1#1) (k0_h3 : ¬(k0_cond3 i = 1#1)) (k0_h4 : ¬(k0_cond4 i (word T1) = 1#1)) (y : S256x4096.Idx) :
    ∃ pc ∈ (runA c i arg4 harg4 arg5 harg5 arg6 harg6 arg7 harg7 arg8 harg8 T0 T1 x0 x1 x2 x3 k0_h1 k0_h2 k0_h3 k0_h4).1, y ∈ pc.1.set :=
  View.cover_of_tiledL (runA c i arg4 harg4 arg5 harg5 arg6 harg6 arg7 harg7 arg8 harg8 T0 T1 x0 x1 x2 x3 k0_h1 k0_h2 k0_h3 k0_h4).1 S256x4096.size (by sl_kernel_rfl) y

/-- What this case leaves in the output's block. -/
noncomputable def leftA (k0_h1 : k0_cond1 i (word T1) = 1#1) (k0_h2 : k0_cond2 i = 1#1) (k0_h3 : ¬(k0_cond3 i = 1#1)) (k0_h4 : ¬(k0_cond4 i (word T1) = 1#1)) : S256x4096.Idx → Elt Bits .f32 :=
  VO.read (Elt Bits) (VO.writes (Elt Bits) VO.junk (runA c i arg4 harg4 arg5 harg5 arg6 harg6 arg7 harg7 arg8 harg8 T0 T1 x0 x1 x2 x3 k0_h1 k0_h2 k0_h3 k0_h4).1)

set_option backward.proofsInPublic true in
set_option maxHeartbeats 8000000 in
/-- A used block, second half: the body adds its product to what the block holds. -/
noncomputable def runB (k0_h1 : k0_cond1 i (word T1) = 1#1) (k0_h2 : ¬(k0_cond2 i = 1#1)) (k0_h3 : k0_cond3 i = 1#1) (k0_h4 : ¬(k0_cond4 i (word T1) = 1#1)) :
    { out0 : List (View.Piece (Elt Bits) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare xo4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverB (k0_h1 : k0_cond1 i (word T1) = 1#1) (k0_h2 : ¬(k0_cond2 i = 1#1)) (k0_h3 : k0_cond3 i = 1#1) (k0_h4 : ¬(k0_cond4 i (word T1) = 1#1)) (y : S256x4096.Idx) :
    ∃ pc ∈ (runB c i arg4 harg4 arg5 harg5 arg6 harg6 arg7 harg7 arg8 harg8 T0 T1 x0 x1 x2 x3 xo4 k0_h1 k0_h2 k0_h3 k0_h4).1, y ∈ pc.1.set :=
  View.cover_of_tiledL (runB c i arg4 harg4 arg5 harg5 arg6 harg6 arg7 harg7 arg8 harg8 T0 T1 x0 x1 x2 x3 xo4 k0_h1 k0_h2 k0_h3 k0_h4).1 S256x4096.size (by sl_kernel_rfl) y

/-- What this case leaves in the output's block. -/
noncomputable def leftB (k0_h1 : k0_cond1 i (word T1) = 1#1) (k0_h2 : ¬(k0_cond2 i = 1#1)) (k0_h3 : k0_cond3 i = 1#1) (k0_h4 : ¬(k0_cond4 i (word T1) = 1#1)) : S256x4096.Idx → Elt Bits .f32 :=
  VO.read (Elt Bits) (VO.writes (Elt Bits) VO.junk (runB c i arg4 harg4 arg5 harg5 arg6 harg6 arg7 harg7 arg8 harg8 T0 T1 x0 x1 x2 x3 xo4 k0_h1 k0_h2 k0_h3 k0_h4).1)

set_option backward.proofsInPublic true in
set_option maxHeartbeats 8000000 in
/-- An unused block, first step: the body stores zeros. -/
noncomputable def runC (k0_h1 : ¬(k0_cond1 i (word T1) = 1#1)) (k0_h4 : k0_cond4 i (word T1) = 1#1) :
    { out0 : List (View.Piece (Elt Bits) S256x4096 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond4 _ _ = _; exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of this case covers the block. -/
theorem coverC (k0_h1 : ¬(k0_cond1 i (word T1) = 1#1)) (k0_h4 : k0_cond4 i (word T1) = 1#1) (y : S256x4096.Idx) :
    ∃ pc ∈ (runC c i arg4 harg4 arg5 harg5 arg6 harg6 arg7 harg7 arg8 harg8 T0 T1 x0 x1 x2 x3 k0_h1 k0_h4).1, y ∈ pc.1.set :=
  View.cover_of_tiledL (runC c i arg4 harg4 arg5 harg5 arg6 harg6 arg7 harg7 arg8 harg8 T0 T1 x0 x1 x2 x3 k0_h1 k0_h4).1 S256x4096.size (by sl_kernel_rfl) y

/-- What this case leaves in the output's block. -/
noncomputable def leftC (k0_h1 : ¬(k0_cond1 i (word T1) = 1#1)) (k0_h4 : k0_cond4 i (word T1) = 1#1) : S256x4096.Idx → Elt Bits .f32 :=
  VO.read (Elt Bits) (VO.writes (Elt Bits) VO.junk (runC c i arg4 harg4 arg5 harg5 arg6 harg6 arg7 harg7 arg8 harg8 T0 T1 x0 x1 x2 x3 k0_h1 k0_h4).1)

set_option backward.proofsInPublic true in
set_option maxHeartbeats 8000000 in
/-- An unused block, second step: the body does nothing. -/
theorem runD (k0_h1 : ¬(k0_cond1 i (word T1) = 1#1)) (k0_h4 : ¬(k0_cond4 i (word T1) = 1#1)) (y4 : S256x4096.Idx → Elt Bits .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4) -∗ K ⟨⟩))
          ⊢ wp frame (wpE (defs₀ (F := Bits)) Variants.none c none) Set.univ (cc0_moe_ffn i tbM0_0 (Memref.isWhole_whole _) tbM0_1 (Memref.isWhole_whole _) arg4 harg4 arg5 harg5 arg6 harg6 arg7 harg7 arg8 harg8) K := by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = ¬(k0_cond1 _ _ = _); exact k0_h1) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; · ipureintro; exact harg8.read_unread _
    iexact HO4

end Cert.Proof.MoeLastK

end
-- ==== Proof.MoeLastFrame.lean ====
/-
  The experts of the last layer: the kernel runs to its end from any tables that name only the sixteen experts.
-/
module

public import proofs.«01_k».proof.Proof.MoeLastRun
public import Idealize.ShloMosaic.Lib.Pipeline.Quiescent
public import Idealize.ShloMosaic.Lib.Claim

@[expose] public section

set_option maxRecDepth 16384
set_option Elab.async false

noncomputable section

namespace Cert.Proof.MoeLastK

open Cert.MoeLast Cert.MoeLast.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The pipeline's share of the ghost state. -/
abbrev EP : Emb (UR sig nD τ) 𝕄 := emb₁

/-- The two tables' contents, every expert one of the sixteen. -/
structure Tab where
  be : S80.Idx → BitVec 32
  nu : S1.Idx → BitVec 32
  ok : ∀ x, (be x).toNat < 16

variable (tb : Tab)

set_option backward.proofsInPublic true in
/-- The tables' contents as the pipeline takes them. -/
def pfN : pre0.Contents (Elt Bits) := fun | ⟨0, _⟩ => tb.be | ⟨1, _⟩ => tb.nu | ⟨_ + 2, h⟩ => absurd h (by simp)

/-- The coordinates of a grid point are small. -/
theorem crd_lt (i : grid0.Coords) : (BitVec.ofNat 32 (i 1).val).toNat < 2 := by
  have h : (i 1).val < 2 := (i 1).isLt
  rw [BitVec.toNat_ofNat]; omega

/-- Every expert read from the table has its blocks inside the weights. -/
theorem in1 (i : grid0.Coords) (a : Fin 3) : (cc0_transform_1 k0_off1_inb numel1_S1 (pfN tb) i a + 1) * S1x4096x512.size a ≤ S16x4096x1024.size a := by
  have h := crd_lt i
  match a with
  | ⟨0, _⟩ => exact (Nat.mul_one _).trans_le (tb.ok _)
  | ⟨1, _⟩ => exact (by decide : (0 + 1) * 4096 ≤ 4096)
  | ⟨2, _⟩ => show ((BitVec.ofNat 32 (i 1).val).toNat + 1) * 512 ≤ 1024; omega
/-- The second weights' block lies inside the weights. -/
theorem in2 (i : grid0.Coords) (a : Fin 3) : (cc0_transform_2 k0_off1_inb numel1_S1 (pfN tb) i a + 1) * S1x4096x512.size a ≤ S16x4096x1024.size a := in1 tb i a
/-- The third weights' block lies inside the weights. -/
theorem in3 (i : grid0.Coords) (a : Fin 3) : (cc0_transform_3 k0_off1_inb numel1_S1 (pfN tb) i a + 1) * S1x512x4096.size a ≤ S16x1024x4096.size a := by
  have h := crd_lt i
  match a with
  | ⟨0, _⟩ => exact (Nat.mul_one _).trans_le (tb.ok _)
  | ⟨1, _⟩ => show ((BitVec.ofNat 32 (i 1).val).toNat + 1) * 512 ≤ 1024; omega
  | ⟨2, _⟩ => exact (by decide : (0 + 1) * 4096 ≤ 4096)

/-- So the pipeline's side condition holds of these tables. -/
theorem ok_pfN : ok0 (F := Bits) (pfN tb) :=
  ⟨fun i => ⟨in1 tb i, .inr (Affine.block_words_dvd (s := S16x4096x1024) (p := EltTy.packing .bf16) (by decide) (by decide))⟩,
   fun i => ⟨in2 tb i, .inr (Affine.block_words_dvd (s := S16x4096x1024) (p := EltTy.packing .bf16) (by decide) (by decide))⟩,
   fun i => ⟨in3 tb i, .inr (Affine.block_words_dvd (s := S16x1024x4096) (p := EltTy.packing .bf16) (by decide) (by decide))⟩⟩

/-- The pipeline at these tables. -/
def adm : (pcfg0 (F := Bits)).Adm := ⟨pfN tb, ok_pfN tb⟩
/-- The pipeline's configuration at these tables. -/
abbrev cfgA : Pipeline.Cfg sig Λ₀ := cfg0 (F := Bits) (adm tb)
/-- The one pipeline of the program. -/
abbrev pcs : Fin 1 → Pipeline.Cfg sig Λ₀ := Pipeline.pin (pcfgs (F := Bits)) fun _ => adm tb

variable (m : (ℓ : Loc nD τ sig) → Buf (Elt Bits) ℓ) (ρ : Dev nD → PrngReg)

/-- Point `t`'s coordinates. -/
abbrev crd (t : Fin (cfgA tb).N) : (cfgA tb).grid.Coords := (cfgA tb).grid.coords t

/-! Each window's staging buffer at point `t`, and that it is whole. -/
/-- The buffer of operand 0 at point `t`. -/
abbrev ms0 (t : Fin (cfgA tb).N) : Memref sig .tc .vmem S256x4096 .bf16 := spec0_0.stage ((cfgA tb).slots t (0 : Fin 5))
/-- Operand 0's buffer is taken whole. -/
abbrev hs0 (t : Fin (cfgA tb).N) : (ms0 tb t).IsWhole := hstage0_0 (((cfgA tb).slots t (0 : Fin 5)).cast nbuf0_0)
/-- The buffer of operand 1 at point `t`. -/
abbrev ms1 (t : Fin (cfgA tb).N) : Memref sig .tc .vmem S1x4096x512 .bf16 := spec0_1.stage ((cfgA tb).slots t (1 : Fin 5))
/-- Operand 1's buffer is taken whole. -/
abbrev hs1 (t : Fin (cfgA tb).N) : (ms1 tb t).IsWhole := hstage0_1 (((cfgA tb).slots t (1 : Fin 5)).cast nbuf0_1)
/-- The buffer of operand 2 at point `t`. -/
abbrev ms2 (t : Fin (cfgA tb).N) : Memref sig .tc .vmem S1x4096x512 .bf16 := spec0_2.stage ((cfgA tb).slots t (2 : Fin 5))
/-- Operand 2's buffer is taken whole. -/
abbrev hs2 (t : Fin (cfgA tb).N) : (ms2 tb t).IsWhole := hstage0_2 (((cfgA tb).slots t (2 : Fin 5)).cast nbuf0_2)
/-- The buffer of operand 3 at point `t`. -/
abbrev ms3 (t : Fin (cfgA tb).N) : Memref sig .tc .vmem S1x512x4096 .bf16 := spec0_3.stage ((cfgA tb).slots t (3 : Fin 5))
/-- Operand 3's buffer is taken whole. -/
abbrev hs3 (t : Fin (cfgA tb).N) : (ms3 tb t).IsWhole := hstage0_3 (((cfgA tb).slots t (3 : Fin 5)).cast nbuf0_3)
/-- The buffer of operand 4 at point `t`. -/
abbrev ms4 (t : Fin (cfgA tb).N) : Memref sig .tc .vmem S256x4096 .f32 := spec0_4.stage ((cfgA tb).slots t (4 : Fin 5))
/-- Operand 4's buffer is taken whole. -/
abbrev hs4 (t : Fin (cfgA tb).N) : (ms4 tb t).IsWhole := hstage0_4 (((cfgA tb).slots t (4 : Fin 5)).cast nbuf0_4)

/-- Window `w`'s block at point `t`, read off its array at launch. -/
def iblk (c : Dev nD) (w : Fin (cfgA tb).W) (t : Fin (cfgA tb).N) : (((cfgA tb).win w).xblock (crd tb t)).Idx → Elt Bits ((cfgA tb).win w).elt :=
  (((cfgA tb).win w).blk t).view.read (Elt Bits) ((s₀ m ρ).mem (((cfgA tb).win w).arr.view.loc (c : Thread nD τ)))

/-! ## The four cases -/

/-- The block at point `t` is used. -/
abbrev Used (t : Fin (cfgA tb).N) : Prop := k0_cond1 (crd tb t) (word tb.nu) = 1#1
/-- Point `t` is the first of its block. -/
abbrev First (t : Fin (cfgA tb).N) : Prop := k0_cond2 (crd tb t) = 1#1

/-- A point is the first of its block exactly if it is even. -/
theorem parity : ∀ t : Fin grid0.N, (k0_cond2 (grid0.coords t) = 1#1 ↔ t.val % 2 = 0) ∧ (k0_cond3 (grid0.coords t) = 1#1 ↔ ¬t.val % 2 = 0) := by
  decide +kernel

/-- The first points are the even ones. -/
theorem first_iff (t : Fin (cfgA tb).N) : First tb t ↔ t.val % 2 = 0 := (parity t).1

/-- The third condition holds exactly at a block's second point. -/
theorem cond3_iff (t : Fin (cfgA tb).N) : k0_cond3 (crd tb t) = 1#1 ↔ ¬First tb t :=
  (parity t).2.trans (not_congr (first_iff tb t)).symm

/-- Zeros are stored exactly at the first point of an unused block. -/
theorem cond4_iff (i : grid0.Coords) (w : BitVec 32) : k0_cond4 i w = 1#1 ↔ ¬k0_cond1 i w = 1#1 ∧ k0_cond2 i = 1#1 := by
  unfold k0_cond4 k0_cond1 k0_cond2
  dsimp only
  generalize Scalar.cmpi .slt (BitVec.ofNat 32 (i 0).val) w = a
  generalize Scalar.cmpi .eq (BitVec.ofNat 32 (i 1).val) 0#32 = b
  revert a b
  decide

/-- Whether the write-back at point `t` is where it is said to be. -/
def flushAt (t : Fin 160) : Bool := ((cfgA tb).win (4 : Fin 5)).flushF t == decide (t.val % 2 = 1)

/-- The output's block is written back at the odd points. -/
theorem flush_eq (t : Fin (cfgA tb).N) : ((cfgA tb).win (4 : Fin 5)).flush t = decide (t.val % 2 = 1) := by
  rw [Pipeline.Window.flush_eq_flushF]
  have h : decide (∀ t : Fin 160, flushAt tb t = true) = true := by sl_kernel_rfl
  exact eq_of_beq (of_decide_eq_true h t)

/-- Where the body stores nothing. -/
theorem idle_eq (t : Fin (cfgA tb).N) : (cfgA tb).idle (4 : Fin 5) ((cfgA tb).grid.coords t) = true ↔ ¬Used tb t ∧ ¬First tb t := by
  have e : (cfgA tb).idle (4 : Fin 5) ((cfgA tb).grid.coords t) = (!(k0_cond1 (crd tb t) (word tb.nu) == 1#1 && k0_cond2 (crd tb t) == 1#1)
      && !(k0_cond1 (crd tb t) (word tb.nu) == 1#1 && k0_cond3 (crd tb t) == 1#1) && !(k0_cond4 (crd tb t) (word tb.nu) == 1#1)) := rfl
  rw [e]
  have h3 := cond3_iff tb t
  have h4 := cond4_iff (crd tb t) (word tb.nu)
  by_cases q0 : Used tb t <;> by_cases q1 : First tb t <;> simp_all

/-- Outside an unused block's second point the output is stored. -/
theorem idle_false {t : Fin (cfgA tb).N} (h : ¬(¬Used tb t ∧ ¬First tb t)) : (cfgA tb).idle (4 : Fin 5) ((cfgA tb).grid.coords t) = false :=
  Bool.eq_false_iff.mpr fun e => h ((idle_eq tb t).mp e)

/-- Nothing has been stored in the output's buffer since its last write-back exactly before the even points. -/
theorem fresh_eq (t : Fin (cfgA tb).N) : (cfgA tb).fresh (4 : Fin 5) t.val = decide (t.val % 2 = 0) :=
  Pipeline.Cfg.fresh_tab (cfgA tb) (4 : Fin 5) (fun n => decide (n % 2 = 0)) rfl (fun t => by
    rw [flush_eq]
    by_cases h : t.val % 2 = 0
    · rw [idle_false tb (fun e => e.2 ((first_iff tb t).mpr h))]
      have h' : (t.val + 1) % 2 = 1 := by omega
      simp [h, h']
    · have h' : (t.val + 1) % 2 = 0 := by omega
      have h'' : t.val % 2 = 1 := by omega
      simp [h', h'']) t.val (Nat.le_of_lt t.isLt)

/-! Each case's conditions, as the body tests them, and its schedule. -/

/-- The four conditions at the first point of a used block. -/
theorem hypsA {t : Fin (cfgA tb).N} (q0 : Used tb t) (q1 : First tb t) :
    k0_cond1 (crd tb t) (word tb.nu) = 1#1 ∧ k0_cond2 (crd tb t) = 1#1 ∧ ¬k0_cond3 (crd tb t) = 1#1 ∧ ¬k0_cond4 (crd tb t) (word tb.nu) = 1#1 :=
  ⟨q0, q1, fun h => (cond3_iff tb t).mp h q1, fun h => ((cond4_iff _ _).mp h).1 q0⟩
/-- The four conditions at the second point of a used block. -/
theorem hypsB {t : Fin (cfgA tb).N} (q0 : Used tb t) (q1 : ¬First tb t) :
    k0_cond1 (crd tb t) (word tb.nu) = 1#1 ∧ ¬k0_cond2 (crd tb t) = 1#1 ∧ k0_cond3 (crd tb t) = 1#1 ∧ ¬k0_cond4 (crd tb t) (word tb.nu) = 1#1 :=
  ⟨q0, q1, (cond3_iff tb t).mpr q1, fun h => ((cond4_iff _ _).mp h).1 q0⟩
/-- The four conditions at the first point of an unused block. -/
theorem hypsC {t : Fin (cfgA tb).N} (q0 : ¬Used tb t) (q1 : First tb t) :
    ¬k0_cond1 (crd tb t) (word tb.nu) = 1#1 ∧ k0_cond4 (crd tb t) (word tb.nu) = 1#1 := ⟨q0, (cond4_iff _ _).mpr ⟨q0, q1⟩⟩
/-- The four conditions at the second point of an unused block. -/
theorem hypsD {t : Fin (cfgA tb).N} (q0 : ¬Used tb t) (q1 : ¬First tb t) :
    ¬k0_cond1 (crd tb t) (word tb.nu) = 1#1 ∧ ¬k0_cond4 (crd tb t) (word tb.nu) = 1#1 := ⟨q0, fun h => q1 ((cond4_iff _ _).mp h).2⟩

/-- At a first point the output is stored anew and not written back. -/
theorem sched_first {t : Fin (cfgA tb).N} (q : First tb t) :
    (cfgA tb).idle (4 : Fin 5) ((cfgA tb).grid.coords t) = false ∧ ((cfgA tb).win (4 : Fin 5)).flush t = false ∧ (cfgA tb).fresh (4 : Fin 5) t.val = true := by
  have h := (first_iff tb t).mp q
  rw [flush_eq, fresh_eq]
  exact ⟨idle_false tb fun e => e.2 q, decide_eq_false (by omega), decide_eq_true h⟩
/-- At a second point the output is written back. -/
theorem sched_second {t : Fin (cfgA tb).N} (q : ¬First tb t) :
    ((cfgA tb).win (4 : Fin 5)).flush t = true ∧ (cfgA tb).fresh (4 : Fin 5) t.val = false := by
  have h : ¬t.val % 2 = 0 := fun e => q ((first_iff tb t).mpr e)
  rw [flush_eq, fresh_eq]
  exact ⟨decide_eq_true (by omega), decide_eq_false h⟩

/-! ## What the output's buffer holds after each point -/

/-- One step: what the output's buffer holds after point `t`, from what it held before. -/
def step (c : Dev nD) (t : Fin (cfgA tb).N) (prev : S256x4096.Idx → Elt Bits .f32) : S256x4096.Idx → Elt Bits .f32 :=
  if q0 : Used tb t then
    if q1 : First tb t then
      leftA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsA tb q0 q1).1 (hypsA tb q0 q1).2.1 (hypsA tb q0 q1).2.2.1 (hypsA tb q0 q1).2.2.2
    else
      leftB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) prev (hypsB tb q0 q1).1 (hypsB tb q0 q1).2.1 (hypsB tb q0 q1).2.2.1 (hypsB tb q0 q1).2.2.2
  else
    if q1 : First tb t then
      leftC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsC tb q0 q1).1 (hypsC tb q0 q1).2
    else prev

/-- What it holds after position `n`. -/
def traj (c : Dev nD) : (n : ℕ) → n < (cfgA tb).N → (S256x4096.Idx → Elt Bits .f32)
  | 0, h => step tb m ρ c ⟨0, h⟩ default
  | n + 1, h => step tb m ρ c ⟨n + 1, h⟩ (traj c n (Nat.lt_of_succ_lt h))

/-- What it held before point `t`. -/
def prev (c : Dev nD) (t : Fin (cfgA tb).N) : S256x4096.Idx → Elt Bits .f32 :=
  if h : t.val = 0 then default else traj tb m ρ c (t.val - 1) (by omega)

/-- The output's buffer after a point is one step from what was there before. -/
theorem traj_eq (c : Dev nD) (t : Fin (cfgA tb).N) : traj tb m ρ c t.val t.isLt = step tb m ρ c t (prev tb m ρ c t) := by
  obtain ⟨n, hn⟩ := t
  cases n with
  | zero => rfl
  | succ n => unfold prev; simp only [Nat.add_one_ne_zero, dif_neg, not_false_eq_true]; rfl

/-- The step at the first point of a used block. -/
theorem stepA (c : Dev nD) (t : Fin (cfgA tb).N) (p : S256x4096.Idx → Elt Bits .f32) (q0 : Used tb t) (q1 : First tb t) :
    step tb m ρ c t p = leftA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsA tb q0 q1).1 (hypsA tb q0 q1).2.1 (hypsA tb q0 q1).2.2.1 (hypsA tb q0 q1).2.2.2 := by
  unfold step; simp only [dif_pos q0, dif_pos q1]
/-- The step at the second point of a used block. -/
theorem stepB (c : Dev nD) (t : Fin (cfgA tb).N) (p : S256x4096.Idx → Elt Bits .f32) (q0 : Used tb t) (q1 : ¬First tb t) :
    step tb m ρ c t p = leftB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) p (hypsB tb q0 q1).1 (hypsB tb q0 q1).2.1 (hypsB tb q0 q1).2.2.1 (hypsB tb q0 q1).2.2.2 := by
  unfold step; simp only [dif_pos q0, dif_neg q1]
/-- The step at the first point of an unused block. -/
theorem stepC (c : Dev nD) (t : Fin (cfgA tb).N) (p : S256x4096.Idx → Elt Bits .f32) (q0 : ¬Used tb t) (q1 : First tb t) :
    step tb m ρ c t p = leftC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) (hypsC tb q0 q1).1 (hypsC tb q0 q1).2 := by
  unfold step; simp only [dif_neg q0, dif_pos q1]
/-- The step at the second point of an unused block. -/
theorem stepD (c : Dev nD) (t : Fin (cfgA tb).N) (p : S256x4096.Idx → Elt Bits .f32) (q0 : ¬Used tb t) (q1 : ¬First tb t) :
    step tb m ρ c t p = p := by
  unfold step; simp only [dif_neg q0, dif_neg q1]

/-! ## The pipeline's proof data -/

/-- Between points the body keeps its half of the two tables. -/
def Phi (c : Dev nD) : sProp 𝕄 :=
  iprop((tbM0_0.view.loc (c : Thread nD τ) ↦{fullShare.right} tb.be) ∗ (tbM0_1.view.loc (c : Thread nD τ) ↦{fullShare.right} tb.nu))

/-- The proof data of the pipeline on core `c`. -/
def dats (_ : Fin 1) (c : Dev nD) : Dat τ (Elt Bits) Unit ℕ (UR sig nD τ) ℕ (cfgA tb) c where
  A w := (s₀ m ρ).mem (((cfgA tb).win w).arr.view.loc (c : Thread nD τ))
  after w t := match w with
    | ⟨0, _⟩ => iblk tb m ρ c (0 : Fin 5) t
    | ⟨1, _⟩ => iblk tb m ρ c (1 : Fin 5) t
    | ⟨2, _⟩ => iblk tb m ρ c (2 : Fin 5) t
    | ⟨3, _⟩ => iblk tb m ρ c (3 : Fin 5) t
    | ⟨4, _⟩ => traj tb m ρ c t.val t.isLt
  Φ _ := Phi tb c
  q _ := fullShare
  owed _ := 0

/-- The body leaves operand 0's block as it was fetched. -/
theorem after0 (c : Dev nD) (t : Fin (cfgA tb).N) : (dats tb m ρ 0 c).after (0 : Fin 5) t = iblk tb m ρ c (0 : Fin 5) t := rfl
/-- The body leaves operand 1's block as it was fetched. -/
theorem after1 (c : Dev nD) (t : Fin (cfgA tb).N) : (dats tb m ρ 0 c).after (1 : Fin 5) t = iblk tb m ρ c (1 : Fin 5) t := rfl
/-- The body leaves operand 2's block as it was fetched. -/
theorem after2 (c : Dev nD) (t : Fin (cfgA tb).N) : (dats tb m ρ 0 c).after (2 : Fin 5) t = iblk tb m ρ c (2 : Fin 5) t := rfl
/-- The body leaves operand 3's block as it was fetched. -/
theorem after3 (c : Dev nD) (t : Fin (cfgA tb).N) : (dats tb m ρ 0 c).after (3 : Fin 5) t = iblk tb m ρ c (3 : Fin 5) t := rfl
/-- After the body, operand 4's buffer. -/
theorem after4 (c : Dev nD) (t : Fin (cfgA tb).N) : (dats tb m ρ 0 c).after (4 : Fin 5) t = traj tb m ρ c t.val t.isLt := rfl

/-! An input's buffer holds its block when the body runs. -/

/-- Before the body, operand 0's buffer holds its block. -/
theorem before0 (c : Dev nD) (t : Fin (cfgA tb).N) (d) : (dats tb m ρ 0 c).before (0 : Fin 5) t d = iblk tb m ρ c (0 : Fin 5) t :=
  ((dats tb m ρ 0 c).before_in_eq_fetched (0 : Fin 5) rfl (fun _ => rfl) (fun _ _ _ => rfl)
    (fun t => by rw [after0]; unfold Dat.blockOf iblk; rfl) t d).trans (by unfold Dat.fetched Dat.blockOf iblk; rfl)
/-- Before the body, operand 1's buffer holds its block. -/
theorem before1 (c : Dev nD) (t : Fin (cfgA tb).N) (d) : (dats tb m ρ 0 c).before (1 : Fin 5) t d = iblk tb m ρ c (1 : Fin 5) t :=
  ((dats tb m ρ 0 c).before_in_eq_fetched (1 : Fin 5) rfl (fun _ => rfl) (fun _ _ _ => rfl)
    (fun t => by rw [after1]; unfold Dat.blockOf iblk; rfl) t d).trans (by unfold Dat.fetched Dat.blockOf iblk; rfl)
/-- Before the body, operand 2's buffer holds its block. -/
theorem before2 (c : Dev nD) (t : Fin (cfgA tb).N) (d) : (dats tb m ρ 0 c).before (2 : Fin 5) t d = iblk tb m ρ c (2 : Fin 5) t :=
  ((dats tb m ρ 0 c).before_in_eq_fetched (2 : Fin 5) rfl (fun _ => rfl) (fun _ _ _ => rfl)
    (fun t => by rw [after2]; unfold Dat.blockOf iblk; rfl) t d).trans (by unfold Dat.fetched Dat.blockOf iblk; rfl)
/-- Before the body, operand 3's buffer holds its block. -/
theorem before3 (c : Dev nD) (t : Fin (cfgA tb).N) (d) : (dats tb m ρ 0 c).before (3 : Fin 5) t d = iblk tb m ρ c (3 : Fin 5) t :=
  ((dats tb m ρ 0 c).before_in_eq_fetched (3 : Fin 5) rfl (fun _ => rfl) (fun _ _ _ => rfl)
    (fun t => by rw [after3]; unfold Dat.blockOf iblk; rfl) t d).trans (by unfold Dat.fetched Dat.blockOf iblk; rfl)

/-- What the output's buffer holds carries over the points where the body stores nothing. -/
theorem carry (c : Dev nD) (t : Fin (cfgA tb).N) (ht : t.val ≠ 0) (hi : (cfgA tb).idle (4 : Fin 5) ((cfgA tb).grid.coords t) = true)
    (_ : (cfgA tb).fresh (4 : Fin 5) t.val = false) :
    (dats tb m ρ 0 c).after (4 : Fin 5) t = (dats tb m ρ 0 c).after (4 : Fin 5) ⟨t.val - 1, by omega⟩ := by
  obtain ⟨q0, q1⟩ := (idle_eq tb t).mp hi
  rw [after4, after4, traj_eq, stepD tb m ρ c t _ q0 q1]
  unfold prev; rw [dif_neg ht]

/-- The output's buffer, when the body runs: anything before a block's first point, then what the point before left. -/
theorem before4 (c : Dev nD) (t : Fin (cfgA tb).N) (d) :
    (dats tb m ρ 0 c).before (4 : Fin 5) t d = if (cfgA tb).fresh (4 : Fin 5) t.val then d else prev tb m ρ c t := by
  rw [(dats tb m ρ 0 c).before_out_traj (4 : Fin 5) rfl (fun _ _ => rfl) (carry tb m ρ c) t.val t rfl d]
  by_cases hf : (cfgA tb).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after4]; unfold prev; rw [dif_neg h0]

/-! ## The body at a point -/

/-- The body at point `t`, on that point's buffers. -/
abbrev bodyAt (t : Fin (cfgA tb).N) : Prog (TpuEff nD τ sig (Elt Bits) Λ₀ .tc) PUnit :=
  cc0_moe_ffn (crd tb t) (Memref.whole main_arg0) (Memref.isWhole_whole _) (Memref.whole main_arg1) (Memref.isWhole_whole _) (ms0 tb t) (hs0 tb t) (ms1 tb t) (hs1 tb t) (ms2 tb t) (hs2 tb t) (ms3 tb t) (hs3 tb t) (ms4 tb t) (hs4 tb t)

set_option maxHeartbeats 4000000 in
/-- The body at point `t`, case by case, leaves the buffers as the proof data say. -/
theorem sound_body (c : Dev nD) (t : Fin (cfgA tb).N) :
    iprop((dats tb m ρ 0 c).Φ t.castSucc ∗ (dats tb m ρ 0 c).owesAt () t.castSucc
        ∗ (∃ d, owns (c : Thread nD τ) (ms0 tb t) fullShare ((dats tb m ρ 0 c).before (0 : Fin 5) t d))
        ∗ (∃ d, owns (c : Thread nD τ) (ms1 tb t) fullShare ((dats tb m ρ 0 c).before (1 : Fin 5) t d))
        ∗ (∃ d, owns (c : Thread nD τ) (ms2 tb t) fullShare ((dats tb m ρ 0 c).before (2 : Fin 5) t d))
        ∗ (∃ d, owns (c : Thread nD τ) (ms3 tb t) fullShare ((dats tb m ρ 0 c).before (3 : Fin 5) t d))
        ∗ (∃ d, owns (c : Thread nD τ) (ms4 tb t) fullShare ((dats tb m ρ 0 c).before (4 : Fin 5) t d)))
      ⊢ wp frame (wpE (defs₀ (F := Bits)) Variants.none c none) Set.univ (bodyAt tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  by_cases q0 : Used tb t
  · by_cases q1 : First tb t
    · obtain ⟨i4, f4, fr4⟩ := sched_first tb q1
      have h := hypsA tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepA tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runA c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2.1 h.2.2.1 h.2.2.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverA c _ _ _ _ _ _ _ _ _ _ _ _ _ _ _ _ _ _ _ _ _)
    · obtain ⟨f4, fr4⟩ := sched_second tb q1
      have i4 := idle_false tb (fun e => e.1 q0)
      have h := hypsB tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepB tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runB c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) _ h.1 h.2.1 h.2.2.1 h.2.2.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverB c _ _ _ _ _ _ _ _ _ _ _ _ _ _ _ _ _ _ _ _ _ _)
  · by_cases q1 : First tb t
    · obtain ⟨i4, f4, fr4⟩ := sched_first tb q1
      have h := hypsC tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepC tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply ((runC c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverC c _ _ _ _ _ _ _ _ _ _ _ _ _ _ _ _ _ _ _)
    · obtain ⟨f4, fr4⟩ := sched_second tb q1
      have i4 := (idle_eq tb t).mpr ⟨q0, q1⟩
      have h := hypsD tb q0 q1
      rewrite [i4]
      simp only [before0, before1, before2, before3, before4, after0, after1, after2, after3, after4, f4]
      simp only [fr4, Bool.false_eq_true, ↓reduceIte]
      rewrite [show (dats tb m ρ 0 c).Φ t.succ = Phi tb c from rfl, show (dats tb m ρ 0 c).Φ t.castSucc = Phi tb c from rfl,
        show (dats tb m ρ 0 c).owesAt () t.succ = (dats tb m ρ 0 c).owesAt () t.castSucc from rfl]
      rewrite [traj_eq, stepD tb m ρ c t _ q0 q1]
      unfold Phi
      iintro ⟨⟨HT0, HT1⟩, Ho, ⟨%d0, H0⟩, ⟨%d1, H1⟩, ⟨%d2, H2⟩, ⟨%d3, H3⟩, ⟨%d4, H4⟩⟩
      iapply (runD c (crd tb t) (ms0 tb t) (hs0 tb t) (ms1 tb t) (hs1 tb t) (ms2 tb t) (hs2 tb t) (ms3 tb t) (hs3 tb t) (ms4 tb t) (hs4 tb t) tb.be tb.nu (iblk tb m ρ c (0 : Fin 5) t) (iblk tb m ρ c (1 : Fin 5) t) (iblk tb m ρ c (2 : Fin 5) t) (iblk tb m ρ c (3 : Fin 5) t) h.1 h.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4

/-- The body obligation at every point. -/
theorem body_obligation (c : Dev nD) : BodyObligation (dats tb m ρ 0 c) (defs₀ (F := Bits)) Variants.none () Set.univ := fun t => by
  rw [bigSep_W0]
  exact sound_body tb m ρ c t

/-! ## The launch -/

/-- The ghost state at the start. -/
def u₀ : UR sig nD τ :=
  initOf (Pipeline.cells (pcs tb) ((launch0 (F := Bits)).cellOf_inj fun _ => adm tb))
    (Pipeline.launchToks (pcs tb) ((launch0 (F := Bits)).cellOf_inj fun _ => adm tb))

/-- Every window holds its operand whole. -/
theorem share_eq (c : Dev nD) (w : Fin (cfgA tb).W) : (dats tb m ρ 0 c).share w = fullShare := by unfold Dat.share; split <;> rfl

/-- Holding both tables is holding the one and the other. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The launch gives what the body keeps from point to point. -/
theorem phi_intro (c : Dev nD) :
    iprop(BI.emp ∗ Pipeline.prefHeld pre0 c (fun _ => fullShare.right) (adm tb).1 ∗ Pipeline.scopedRest spec0 c) ⊢ (dats tb m ρ 0 c).Φ 0 := by
  rw [prefHeld_eq, scopedRest0_eq, show (dats tb m ρ 0 c).Φ 0 = Phi tb c from rfl]
  unfold Phi
  iintro ⟨-, ⟨HT0, HT1⟩, -⟩
  isplitl [HT0]
  · iexact HT0
  iexact HT1

/-- What the body kept is given back at the end. -/
theorem phi_exit (c : Dev nD) : (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb c from rfl]
  unfold Phi
  iintro ⟨-, -⟩
  isplitr; · iempintro
  iempintro

/-- The launch memory's tables are `tb`'s. -/
def Held : Prop :=
  (∀ c : Dev nD, m ((c : Thread nD τ).loc main_arg0) = tb.be) ∧ (∀ c : Dev nD, m ((c : Thread nD τ).loc main_arg1) = tb.nu)

/-- What the run ends in: every array as the pipeline computes it, every table as it was. -/
def Ends : PUnit × MemSt nD τ sig (Elt Bits) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = (adm tb).1 j

variable {tb m} in
/-- The tables hold the contents they were said to hold. -/
theorem held_pre (hp : Held tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- From a memory holding these tables the kernel runs to its end, all semaphores at zero. -/
theorem run_main_quiescent (hp : Held tb m) :
    θ_run (defs (F := Bits)) (onTc (τ := τ) (main (F := Bits))) (s₀ m ρ) (fun r => Ends tb m ρ r ∧ r.2.sem = fun _ => 0) :=
  Pipeline.θ_run_region_noSem_pf_quiescent pcfgs (fun _ => adm tb) (dats tb m ρ) () ((launch0 (F := Bits)).cellOf_inj fun _ => adm tb) (0 : Fin 1)
    (launch0 (F := Bits)).win.to₀ (launch0 (F := Bits)).pre EP defs₀ Variants.none m ρ main
    (hbody := fun c => (body_obligation tb m ρ c).loose) (hne := (launch0 (F := Bits)).block_pos)
    (harr := (launch0 (F := Bits)).arr_whole) (hstage := (launch0 (F := Bits)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Bits)).win.arr_inj c (launch0 (F := Bits)).arr_whole
      (share_eq tb m ρ c) _ _ fun _ => rfl)
    (hpf := held_pre hp)
    (X := fun _ => iprop(emp)) (Y := fun _ => iprop(emp)) (Z := fun _ => iprop(emp))
    (hX := fun c => by rw [unscopedRestP0_eq]; iintro -; isplitr <;> iempintro)
    (hin := phi_intro tb m ρ)
    (hout := phi_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The program runs to its end, and its memory is as stated. -/
theorem run_main (hp : Held tb m) : θ_run (defs (F := Bits)) (onTc (τ := τ) (main (F := Bits))) (s₀ m ρ) (Ends tb m ρ) :=
  (θ_run defs _ _).mono (fun _ h => h.1) (run_main_quiescent tb m ρ hp)

variable {tb m ρ} in
/-- The arguments end as they began. -/
theorem kept (hp : Held tb m) (r : PUnit × MemSt nD τ sig (Elt Bits)) (h : Ends tb m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp.1 c).symm, ((h c).2 1).trans (hp.2 c).symm,
    ((h c).1 (0 : Fin 5)).trans ((dats tb m ρ 0 c).arrAt_in (0 : Fin 5) rfl _), ((h c).1 (1 : Fin 5)).trans ((dats tb m ρ 0 c).arrAt_in (1 : Fin 5) rfl _),
    ((h c).1 (2 : Fin 5)).trans ((dats tb m ρ 0 c).arrAt_in (2 : Fin 5) rfl _), ((h c).1 (3 : Fin 5)).trans ((dats tb m ρ 0 c).arrAt_in (3 : Fin 5) rfl _)⟩

/-- The frame: the kernel ends with its arguments unchanged and its semaphores at zero. -/
theorem frame (hp : Held tb m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept hp r h.1 c, h.2⟩) (run_main_quiescent tb m ρ hp)

end Cert.Proof.MoeLastK

end
-- ==== Proof.MoeLast.lean ====
/-
  The experts of the last layer: frames and value.
-/
module

public import proofs.«01_k».proof.Defs
public import proofs.«01_k».proof.Proof.MoeLastVal
public import proofs.«01_k».proof.Proof.MoeLastFrame

@[expose] public section

set_option maxRecDepth 16384

noncomputable section

namespace Cert.Proof.MoeLast

open Idealize.ShloMosaic Idealize.ShloMosaic.TcCoe Idealize.SL.Sem

/-- The tables in the memory the kernel starts from. -/
def tabK (m : (ℓ : Loc Cert.MoeLast.nD Cert.MoeLast.τ Cert.MoeLast.sig) → Buf (Elt Bits) ℓ) (h : Cert.Pre_MoeLast m) : MoeLastK.Tab where
  be := m (((0 : Dev Cert.MoeLast.nD) : Thread Cert.MoeLast.nD Cert.MoeLast.τ).loc Cert.MoeLast.main_arg0)
  nu := m (((0 : Dev Cert.MoeLast.nD) : Thread Cert.MoeLast.nD Cert.MoeLast.τ).loc Cert.MoeLast.main_arg1)
  ok := inRange _ _ _ _ _ _ (h 0)

/-- There is one core, so every core's tables are these. -/
theorem heldK (m : (ℓ : Loc Cert.MoeLast.nD Cert.MoeLast.τ Cert.MoeLast.sig) → Buf (Elt Bits) ℓ) (h : Cert.Pre_MoeLast m) : MoeLastK.Held (tabK m h) m :=
  ⟨fun c => by obtain rfl : c = 0 := Subsingleton.elim (α := Fin 1) c 0; rfl, fun c => by obtain rfl : c = 0 := Subsingleton.elim (α := Fin 1) c 0; rfl⟩

/-- The kernel's frame. -/
theorem frame_kernel : Cert.quiescent_MoeLast := fun m ρ h => MoeLastK.frame (tabK m h) m ρ (heldK m h)

/-- The tables in the memory the kernel starts from, over the extended reals. -/
def tabI (m : (ℓ : Loc Cert.MoeLastIdeal.nD Cert.MoeLastIdeal.τ Cert.MoeLastIdeal.sig) → Buf (Elt Ideal) ℓ) (h : Cert.Pre_MoeLastIdeal m) : MoeLastI.Tab where
  be := m (((0 : Dev Cert.MoeLastIdeal.nD) : Thread Cert.MoeLastIdeal.nD Cert.MoeLastIdeal.τ).loc Cert.MoeLastIdeal.main_arg0)
  nu := m (((0 : Dev Cert.MoeLastIdeal.nD) : Thread Cert.MoeLastIdeal.nD Cert.MoeLastIdeal.τ).loc Cert.MoeLastIdeal.main_arg1)
  ok := inRange _ _ _ _ _ _ (h 0)

/-- Every core's tables are these. -/
theorem heldI (m : (ℓ : Loc Cert.MoeLastIdeal.nD Cert.MoeLastIdeal.τ Cert.MoeLastIdeal.sig) → Buf (Elt Ideal) ℓ) (h : Cert.Pre_MoeLastIdeal m) : MoeLastI.Held (tabI m h) m :=
  ⟨fun c => by obtain rfl : c = 0 := Subsingleton.elim (α := Fin 1) c 0; rfl, fun c => by obtain rfl : c = 0 := Subsingleton.elim (α := Fin 1) c 0; rfl⟩

/-- The frame of the kernel over the extended reals. -/
theorem frame_ideal : Cert.quiescent_MoeLastIdeal := fun m ρ h => MoeLastI.frame (tabI m h) m ρ (heldI m h)

/-- The reference's frame. -/
theorem frame_ref : Cert.quiescent_MoeLastRefIdeal := fun m ρ _ =>
  (θ_run Cert.MoeLastRefIdeal.defs _ _).mono (fun r h => ⟨fun c => (h c).2,
      sem_eq_zero_of_no_sems (by decide) r.2⟩)
    (Cert.MoeLastRefIdeal.Value.run (F := Ideal) m ρ)

/-- The same under the precondition. -/
theorem frame_ref_pre : Cert.quiescent_MoeLastRefIdeal_pre_moe_last_pre := fun m ρ _ => frame_ref m ρ trivial

/-- The kernel's result is the reference's. -/
theorem algebraic : Cert.algebraic_MoeLastIdeal_MoeLastRefIdeal := by
  intro m ρ m' ρ' hp hagree
  refine ⟨fun c => MoeLastI.Gc (tabI m hp) m c, ?_, ?_⟩
  · exact (θ_run Cert.MoeLastIdeal.defs _ _).mono
      (fun r h c => ⟨((h c).1 (4 : Fin 5)).trans (MoeLastI.final (tabI m hp) m ρ c), MoeLastI.kept (heldI m hp) r h c⟩)
      (MoeLastI.run_main (tabI m hp) m ρ (heldI m hp))
  · refine (θ_run Cert.MoeLastRefIdeal.defs _ _).mono (fun r h c => ⟨(h c).1.trans ?_, (h c).2⟩)
      (Cert.MoeLastRefIdeal.Value.run (F := Ideal) m' ρ')
    obtain ⟨e0, e1, e2, e3, e4, e5⟩ := hagree c
    rw [Cert.MoeLastRefIdeal.Read.val_main_v37_eq, e0, e1, e2, e3, e4, e5, (heldI m hp).1 c, (heldI m hp).2 c]
    exact ref_eq (tabI m hp).be (tabI m hp).ok (tabI m hp).nu _ _ _ _

end Cert.Proof.MoeLast

end
-- ==== Proof.ModLast.lean ====
/-
  The last layer's modulation table: the kernel's result array and the reference's are one function of the arguments.
-/
module

public import proofs.«01_k».proof.Defs
public import proofs.«01_k».proof.Proof.Gen.ModLastIdeal.Value
public import proofs.«01_k».proof.Proof.Gen.ModLastRefIdeal.Run
public import proofs.«01_k».proof.Proof.Gen.ModLastRefIdeal.Read
public import Idealize.ShloMosaic.Lib.Pipeline.Value
public import Idealize.ShloMosaic.Lib.IdealHost
public import Idealize.ShloMosaic.Lib.MatmulPlain
public import Idealize.ShloMosaic.Lib.ValueIdx
public import Idealize.ShloMosaic.Lib.ValueLayout

@[expose] public section

set_option maxRecDepth 16384

noncomputable section

namespace Cert.Proof.ModLast

open Cert.ModLastIdeal Cert.ModLastIdeal.Gen Idealize.ShloMosaic Idealize.ShloMosaic.TcCoe Idealize.SL.Sem
open Idealize.ShloMosaic.Pipeline (Dat)
open Idealize.ShloMosaic.ValueIdx
open scoped BigOperators

/-- A condition's entry times its logistic. -/
def act (v : S8x4096.Idx → EReal) (r : Fin 8) (k : Fin 4096) : EReal := v (ix2 r k) * Ideal.logistic (v (ix2 r k))

/-- The table: the activated conditions times the last layer's weights, plus its bias. -/
def G (v : S8x4096.Idx → EReal) (w : S2x4096x24576.Idx → EReal) (b : S2x24576.Idx → EReal) : S8x24576.Idx → EReal := fun i =>
  (∑ k : Fin 4096, act v (i 0) k * w (ix3 (1 : Fin 2) k (i 1))) + b (ix2 (1 : Fin 2) (i 1))

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- The bias with an axis more, as the region finds it. -/
theorem V_b (c : Dev nD) : V m c main_v0 = shapeCast S2x1x24576 (m ((c : Thread nD τ).loc main_arg2)) shapeCasts_S2x24576_S2x1x24576 := by
  unfold V
  after_results_simp <;> rfl

/-- The bias with an axis more, at an index. -/
theorem bias_at (b : S2x24576.Idx → EReal) (j : Fin 24576) :
    shapeCast S2x1x24576 b shapeCasts_S2x24576_S2x1x24576 (ix3 (1 : Fin 2) (0 : Fin 1) j) = b (ix2 (1 : Fin 2) j) := by
  refine shapeCast_apply _ _ _ _ ?_
  rw [Shape.rowMajor_val_two, Shape.rowMajor_val_three]
  show 1 * 24576 + j.val = (1 * 1 + 0) * 24576 + j.val
  omega

/-- Block indices of the windows, point by point. -/
theorem idx_h : ∀ t : Fin cfg0.N, (win0_0.index t 0 = 0 ∧ win0_0.index t 1 = 0)
    ∧ (win0_1.index t 0 = 1 ∧ win0_1.index t 1 = 0 ∧ win0_1.index t 2 = win0_3.index t 1)
    ∧ (win0_2.index t 0 = 1 ∧ win0_2.index t 1 = 0 ∧ win0_2.index t 2 = win0_3.index t 1) ∧ win0_3.index t 0 = 0 :=
  (by decide +kernel : ∀ t : Fin grid0.N, (win0_0.index t 0 = 0 ∧ win0_0.index t 1 = 0)
    ∧ (win0_1.index t 0 = 1 ∧ win0_1.index t 1 = 0 ∧ win0_1.index t 2 = win0_3.index t 1)
    ∧ (win0_2.index t 0 = 1 ∧ win0_2.index t 1 = 0 ∧ win0_2.index t 2 = win0_3.index t 1) ∧ win0_3.index t 0 = 0)

/-- Every block of the result is some point's. -/
theorem idx_onto : ∀ b : Fin 48, ∃ t : Fin cfg0.N, win0_3.index t 1 = b.val :=
  (by decide +kernel : ∀ b : Fin 48, ∃ t : Fin grid0.N, win0_3.index t 1 = b.val)

/-- The body's result, at an index. -/
theorem pay_apply (x0 : FVec Ideal S8x4096 .f32) (x1 : FVec Ideal S1x4096x512 .f32) (x2 : FVec Ideal S1x1x512 .f32) (r : Fin 8) (s : Fin 512) :
    k0_pay1 (F := Ideal) x0 x1 x2 (ix2 r s)
      = (∑ k : Fin 4096, act x0 r k * x1 (ix3 (0 : Fin 1) k s)) + x2 (ix3 (0 : Fin 1) (0 : Fin 1) s) := by
  unfold k0_pay1
  rw [addf_apply]
  refine congrArg₂ (· + ·) ?_ ?_
  · refine (Ideal.matmul_plain_apply none _ _ _ r s).trans ?_
    rw [constant_apply, Ideal.ofBits_zero_f32, zero_add]
    exact Finset.sum_congr rfl fun k _ => congrArg (act x0 r k * ·) (shapeCast_1ab_ab_apply x1 _ k s)
  · refine (broadcastTo_apply _ _ (ix2 r s) (ix2 (0 : Fin 1) s) (fun a => match a with | ⟨0, _⟩ => rfl | ⟨1, _⟩ => rfl)).trans ?_
    exact shapeCast_1ab_ab_apply x2 _ (0 : Fin 1) s

/-- What point `t` writes back is block `t` of `G`. -/
theorem flushed_eq (c : Dev nD) (t : Fin cfg0.N) :
    (dats m 0 c).flushed 3 t = (win0_3.blk t).view.read (Elt Ideal)
      (G (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz, View.ld_unit_zero hz, View.ld_unit_zero hz3, View.ld_unit_zero hz3]
  funext y
  obtain ⟨r, s, rfl⟩ : ∃ (r : Fin 8) (s : Fin 512), y = ix2 r s := ⟨y 0, y 1, eq_ix2 y⟩
  refine (pay_apply (iblk m c 0 t) (iblk m c 1 t) (iblk m c 2 t) r s).trans ?_
  show _ = G (m ((c : Thread nD τ).loc main_arg0)) (m ((c : Thread nD τ).loc main_arg1)) (m ((c : Thread nD τ).loc main_arg2))
    ((win0_3.rect t).emb (ix2 r s))
  obtain ⟨⟨e1, e2⟩, ⟨e3, e4, e5⟩, ⟨e6, e7, e8⟩, e9⟩ := idx_h t
  have o0 : ((win0_3.rect t).emb (ix2 r s) 0).val = win0_3.index t 0 * 8 + r.val := win0_3.rect_emb_val t (ix2 r s) 0
  have o1 : ((win0_3.rect t).emb (ix2 r s) 1).val = win0_3.index t 1 * 512 + s.val := win0_3.rect_emb_val t (ix2 r s) 1
  unfold G
  refine congrArg₂ (· + ·) (Finset.sum_congr rfl fun k _ => congrArg₂ (· * ·) ?_ ?_) ?_
  · have h : iblk m c 0 t (ix2 r k) = m ((c : Thread nD τ).loc main_arg0) (ix2 ((win0_3.rect t).emb (ix2 r s) 0) k) := by
      show V m c main_arg0 ((win0_0.rect t).emb (ix2 r k)) = _
      rw [V_main_arg0]
      have a0 := win0_0.rect_emb_val t (ix2 r k) 0
      have a1 := win0_0.rect_emb_val t (ix2 r k) 1
      refine congrArg _ (Shape.idx_ext₂ ?_ ?_)
      · rw [a0, e1]
        refine Eq.trans ?_ o0.symm
        rw [e9]; rfl
      · rw [a1, e2]; exact Nat.zero_add _
    exact congrArg₂ (· * ·) h (congrArg Ideal.logistic h)
  · show V m c main_arg1 ((win0_1.rect t).emb (ix3 (0 : Fin 1) k s)) = _
    rw [V_main_arg1]
    have a0 := win0_1.rect_emb_val t (ix3 (0 : Fin 1) k s) 0
    have a1 := win0_1.rect_emb_val t (ix3 (0 : Fin 1) k s) 1
    have a2 := win0_1.rect_emb_val t (ix3 (0 : Fin 1) k s) 2
    refine congrArg _ (funext fun a => Fin.ext ?_)
    match a with
    | ⟨0, _⟩ => exact a0.trans (by rw [e3]; rfl)
    | ⟨1, _⟩ => exact a1.trans (by rw [e4]; exact Nat.zero_add _)
    | ⟨2, _⟩ => exact a2.trans (by rw [e5]; exact o1.symm)
  · show V m c main_v0 ((win0_2.rect t).emb (ix3 (0 : Fin 1) (0 : Fin 1) s)) = _
    rw [V_b]
    have a0 := win0_2.rect_emb_val t (ix3 (0 : Fin 1) (0 : Fin 1) s) 0
    have a1 := win0_2.rect_emb_val t (ix3 (0 : Fin 1) (0 : Fin 1) s) 1
    have a2 := win0_2.rect_emb_val t (ix3 (0 : Fin 1) (0 : Fin 1) s) 2
    have eb : (win0_2.rect t).emb (ix3 (0 : Fin 1) (0 : Fin 1) s) = ix3 (1 : Fin 2) (0 : Fin 1) ((win0_3.rect t).emb (ix2 r s) 1) :=
      funext fun a => Fin.ext (match a with
        | ⟨0, _⟩ => a0.trans (by rw [e6]; rfl)
        | ⟨1, _⟩ => a1.trans (by rw [e7]; rfl)
        | ⟨2, _⟩ => a2.trans (by rw [e8]; exact o1.symm))
    rw [eb]
    exact bias_at _ _

/-- The result's blocks tile its array. -/
theorem cover (i : S8x24576.Idx) :
    ∃ t : Fin cfg0.N, (cfg0.win 3).flush t = true ∧ i ∈ ((cfg0.win 3).blk t).view.set := by
  have h0 : (i 0 : Nat) < 8 := (i 0).isLt
  have h1 : (i 1 : Nat) < 24576 := (i 1).isLt
  obtain ⟨t, hb⟩ := idx_onto ⟨(i 1 : Nat) / 512, by omega⟩
  have ha := (idx_h t).2.2.2
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 8 ≤ (i 0 : Nat) ∧ (i 0 : Nat) < win0_3.index t 0 * 8 + 8
    rw [ha]; omega
  | ⟨1, _⟩ =>
    show win0_3.index t 1 * 512 ≤ (i 1 : Nat) ∧ (i 1 : Nat) < win0_3.index t 1 * 512 + 512
    rw [hb]; dsimp only; omega

/-- So the result array ends holding `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

end Kernel

section Reference
open Cert.ModLastRefIdeal.Read

variable (v : S8x4096.Idx → EReal) (w : S2x4096x24576.Idx → EReal) (b : S2x24576.Idx → EReal)

/-- The reference's activated conditions. -/
theorem act_eq (r : Fin 8) (k : Fin 4096) : val_main_v0 (F := Ideal) v (ix2 r k) = act v r k := by
  rw [val_main_v0_apply, val_main_call0_v5_apply, val_main_call0_v3_apply, val_main_call0_v1_apply, val_main_call0_v0_apply,
    val_main_call0_v4_apply, val_main_call0_v2_apply, val_main_call0_cst_apply, val_main_call0_cst_0_apply]
  simp only [Ideal.mulf_def, Ideal.addf_def, Ideal.hostDivf_def, Ideal.hostUnary_exp_def, Ideal.hostNegf_def, Ideal.ofBits_def, Ideal.ofBits_one_f32]
  rfl

/-- The reference's result is `G`. -/
theorem ref_eq : val_main_v8 (F := Ideal) v w b = G v w b := by
  funext i
  obtain ⟨r, s, rfl⟩ : ∃ (r : Fin 8) (s : Fin 24576), i = ix2 r s := ⟨i 0, i 1, eq_ix2 i⟩
  rw [val_main_v8_apply, val_main_v3_apply, Ideal.addf_def]
  have hs := s.isLt
  unfold G
  refine congrArg₂ (· + ·) (Finset.sum_congr rfl fun k _ => congrArg₂ (· * ·) ?_ ?_) ?_
  · rw [eq_ix2 (lidx_main_v3 (ix2 r s) k)]; exact act_eq v r k
  · have hk := k.isLt
    rw [val_main_v2_apply, val_main_v1_apply]
    refine congrArg w (funext fun a => Fin.ext ?_)
    match a with
    | ⟨0, _⟩ => rfl
    | ⟨1, _⟩ => show (k.val * 24576 + s.val) / 24576 % 4096 = k.val; omega
    | ⟨2, _⟩ => show (k.val * 24576 + s.val) % 24576 = s.val; omega
  · rw [val_main_v7_apply, val_main_v6_apply, val_main_v5_apply, val_main_v4_apply]
    refine congrArg b (Shape.idx_ext₂ rfl ?_)
    show s.val % 24576 = s.val
    omega

end Reference

/-- The reference's frame. -/
theorem frame_ref : Cert.quiescent_ModLastRefIdeal := fun m ρ _ =>
  (θ_run Cert.ModLastRefIdeal.defs _ _).mono (fun r h => ⟨fun c => (h c).2,
      sem_eq_zero_of_no_sems (by decide) r.2⟩)
    (Cert.ModLastRefIdeal.Value.run (F := Ideal) m ρ)

/-- The kernel's result is the reference's. -/
theorem algebraic : Cert.algebraic_ModLastIdeal_ModLastRefIdeal := by
  intro m ρ m' ρ' _ hagree
  refine ⟨fun c => G (m ((c : Thread nD τ).loc main_arg0)) (m ((c : Thread nD τ).loc main_arg1))
    (m ((c : Thread nD τ).loc main_arg2)), ?_, ?_⟩
  · exact (θ_run Cert.ModLastIdeal.defs _ _).mono (fun r h c => ⟨((h c).1).trans (final m c), (h c).2⟩)
      (Cert.ModLastIdeal.Value.run_blocks (F := Ideal) m ρ)
  · refine (θ_run Cert.ModLastRefIdeal.defs _ _).mono (fun r h c => ⟨(h c).1.trans ?_, (h c).2⟩)
      (Cert.ModLastRefIdeal.Value.run (F := Ideal) m' ρ')
    rw [Cert.ModLastRefIdeal.Read.val_main_v8_eq, ref_eq, (hagree c).1, (hagree c).2.1, (hagree c).2.2]

end Cert.Proof.ModLast

end
-- ==== Proof.NormLast.lean ====
/-
  The last layer's modulated normalisation with the router's logits: the kernel's two result arrays and the reference's are the same
  functions of the arguments.
-/
module

public import proofs.«01_k».proof.Defs
public import proofs.«01_k».proof.Proof.Gen.NormLastIdeal.Value
public import proofs.«01_k».proof.Proof.Gen.NormLastRefIdeal.Run
public import proofs.«01_k».proof.Proof.Gen.NormLastRefIdeal.Read
public import proofs.«01_k».proof.Proof.Rows
public import Idealize.ShloMosaic.Lib.IdealHost
public import Idealize.ShloMosaic.Lib.MatmulPlain

@[expose] public section

set_option maxRecDepth 16384

noncomputable section

namespace Cert.Proof.NormLast

open Cert.NormLastIdeal Cert.NormLastIdeal.Gen Idealize.ShloMosaic Idealize.ShloMosaic.TcCoe Idealize.SL.Sem
open Idealize.ShloMosaic.Pipeline (Dat)
open Idealize.ShloMosaic.ValueIdx
open Cert.Proof.Rows
open scoped BigOperators

/-- The float one, as both programs print it. -/
def one : EReal := FloatOps.ofBits (F := Ideal) .f32 0x3F800000#32

/-- A row normalised, times one plus the modulation's chunk four of its sample, plus chunk three: each sample has 4096 rows. -/
def hrow (x : S8192x4096.Idx → EReal) (nw : S4096.Idx → EReal) (md : S8x1x24576.Idx → EReal) (r : Fin 8192) (j : Fin 4096) : EReal :=
  rowNorm (fun e => x (ix2 r e)) (fun e => nw (ix1 e)) j
      * (one + md (ix3 (⟨r.val / 4096, by omega⟩ : Fin 8) (0 : Fin 1) (⟨16384 + j.val, by omega⟩ : Fin 24576)))
    + md (ix3 (⟨r.val / 4096, by omega⟩ : Fin 8) (0 : Fin 1) (⟨12288 + j.val, by omega⟩ : Fin 24576))

/-- The first result: the modulated rows. -/
def G (x : S8192x4096.Idx → EReal) (nw : S4096.Idx → EReal) (md : S8x1x24576.Idx → EReal) : S8192x4096.Idx → EReal :=
  fun i => hrow x nw md (i 0) (i 1)

/-- The router's weights with columns of zeros up to 128. -/
def rcol (w : S4096x16.Idx → EReal) (k : Fin 4096) (j : Fin 128) : EReal :=
  if h : j.val < 16 then w (ix2 k (⟨j.val, h⟩ : Fin 16)) else 0

/-- The second result: the modulated rows times the router's padded weights. -/
def L (x : S8192x4096.Idx → EReal) (nw : S4096.Idx → EReal) (md : S8x1x24576.Idx → EReal) (w : S4096x16.Idx → EReal) :
    S8192x128.Idx → EReal := fun i => ∑ k : Fin 4096, hrow x nw md (i 0) k * rcol w k (i 1)

/-- The padding's zero, as the kernel's program makes it. -/
def zero : S_.Idx → EReal := sitofp (F := Ideal) .f32 (constantI S_ 32 0#32)

/-- It is zero. -/
theorem zero_eq (i : S_.Idx) : zero i = 0 := by
  show (((0#32 : BitVec 32).toInt : ℝ) : EReal) = 0
  simp

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- The normalisation's weights as one row, as the region finds them. -/
theorem V_nw (c : Dev nD) : V m c main_v1 = shapeCast S1x4096 (m ((c : Thread nD τ).loc main_arg1)) shapeCasts_S4096_S1x4096 := by
  unfold V
  simp only [hostOps0, hostOps0_1, hostOps0_2,
    List.flatten_cons, List.flatten_nil, List.append_nil, List.cons_append, List.nil_append]
  after_results_simp <;> rfl

/-- The padded router's weights, as the region finds them. -/
theorem V_w (c : Dev nD) : V m c main_v0 = pad S4096x128 ![0, 0] ![0, 112] ![0, 0] (m ((c : Thread nD τ).loc main_arg3)) zero
    pads_S4096x16_S4096x128_000_01120 h_S_ := by
  unfold V
  simp only [hostOps0, hostOps0_1, hostOps0_2,
    List.flatten_cons, List.flatten_nil, List.append_nil, List.cons_append, List.nil_append]
  after_results_simp <;> rfl

/-- The weights as one row, at an index. -/
theorem nw_at (nw : S4096.Idx → EReal) (e : Fin 4096) :
    shapeCast S1x4096 nw shapeCasts_S4096_S1x4096 (ix2 (0 : Fin 1) e) = nw (ix1 e) := by
  refine shapeCast_apply _ _ _ _ ?_
  rw [Shape.rowMajor_val_two, Shape.rowMajor_val_one]
  show e.val = 0 * 4096 + e.val
  omega

/-- The padded router's weights, at an index. -/
theorem w_at (w : S4096x16.Idx → EReal) (k : Fin 4096) (j : Fin 128) :
    pad S4096x128 ![0, 0] ![0, 112] ![0, 0] w zero pads_S4096x16_S4096x128_000_01120 h_S_ (ix2 k j) = rcol w k j := by
  have hj := j.isLt
  unfold rcol
  by_cases h : j.val < 16
  · rw [dif_pos h]
    exact pad_apply_of_inside _ _ _ _ _ _ _ (ix2 k j) (ix2 k ⟨j.val, h⟩) (fun a => match a with
      | ⟨0, _⟩ => by show k.val = 0 + k.val * (0 + 1); omega
      | ⟨1, _⟩ => by show j.val = 0 + j.val * (0 + 1); omega)
  · rw [dif_neg h]
    refine (pad_apply_of_not_inside _ _ _ _ _ _ _ (ix2 k j) (1 : Fin 2) (fun hn => ?_)).trans (zero_eq _)
    have := hn.2.2
    have : (j.val - 0) / (0 + 1) < 16 := this
    omega

/-- Block indices of the windows, point by point. -/
theorem idx_h : ∀ t : Fin cfg0.N, (win0_0.index t 0 = win0_5.index t 0 ∧ win0_0.index t 1 = 0)
    ∧ (win0_1.index t 0 = 0 ∧ win0_1.index t 1 = 0)
    ∧ (win0_2.index t 0 = win0_5.index t 0 / 16 ∧ win0_2.index t 1 = 0 ∧ win0_2.index t 2 = 3)
    ∧ (win0_3.index t 0 = win0_5.index t 0 / 16 ∧ win0_3.index t 1 = 0 ∧ win0_3.index t 2 = 4)
    ∧ (win0_4.index t 0 = 0 ∧ win0_4.index t 1 = 0) ∧ win0_5.index t 1 = 0
    ∧ (win0_6.index t 0 = win0_5.index t 0 ∧ win0_6.index t 1 = 0) :=
  (by decide +kernel : ∀ t : Fin grid0.N, (win0_0.index t 0 = win0_5.index t 0 ∧ win0_0.index t 1 = 0)
    ∧ (win0_1.index t 0 = 0 ∧ win0_1.index t 1 = 0)
    ∧ (win0_2.index t 0 = win0_5.index t 0 / 16 ∧ win0_2.index t 1 = 0 ∧ win0_2.index t 2 = 3)
    ∧ (win0_3.index t 0 = win0_5.index t 0 / 16 ∧ win0_3.index t 1 = 0 ∧ win0_3.index t 2 = 4)
    ∧ (win0_4.index t 0 = 0 ∧ win0_4.index t 1 = 0) ∧ win0_5.index t 1 = 0
    ∧ (win0_6.index t 0 = win0_5.index t 0 ∧ win0_6.index t 1 = 0))

/-- Every block of the results is some point's. -/
theorem idx_onto : ∀ b : Fin 32, ∃ t : Fin cfg0.N, win0_5.index t 0 = b.val :=
  (by decide +kernel : ∀ b : Fin 32, ∃ t : Fin grid0.N, win0_5.index t 0 = b.val)

/-- The body's modulated rows, at an index. -/
theorem pay_apply (x : FVec Ideal S256x4096 .f32) (nw : FVec Ideal S1x4096 .f32) (sc sh : FVec Ideal S1x1x4096 .f32) (r : Fin 256) (j : Fin 4096) :
    k0_pay1 (F := Ideal) x nw sc sh (ix2 r j)
      = (rowNorm (fun e => x (ix2 r e)) (fun e => nw (ix2 (0 : Fin 1) e)) j * (one + sc (ix3 (0 : Fin 1) (0 : Fin 1) j))
        + sh (ix3 (0 : Fin 1) (0 : Fin 1) j) : EReal) := by
  unfold k0_pay1
  rw [addf_apply, mulf_apply, row_at, row_at, chunk_at, addf_apply, chunk_at]
  exact congrArg (fun v : EReal => v * (one + sc (ix3 (0 : Fin 1) (0 : Fin 1) j)) + sh (ix3 (0 : Fin 1) (0 : Fin 1) j))
    (normed_apply x nw reduces_S256x4096_S256 shapeCasts_S256_S256x1 broadcasts_S256x1_S256x4096
      shapeCasts_S1x4096_S1x4096 broadcasts_S1x4096_S256x4096 r j)

/-- The body's logits, at an index. -/
theorem logit_apply (x : FVec Ideal S256x4096 .f32) (nw : FVec Ideal S1x4096 .f32) (sc sh : FVec Ideal S1x1x4096 .f32)
    (w : FVec Ideal S4096x128 .f32) (r : Fin 256) (j : Fin 128) :
    k0_pay3 (F := Ideal) x nw sc sh w (ix2 r j) = ∑ k : Fin 4096, (k0_pay1 (F := Ideal) x nw sc sh (ix2 r k) * w (ix2 k j) : EReal) := by
  unfold k0_pay3
  refine (Ideal.matmul_plain_apply (some .fp32) _ _ _ r j).trans ?_
  rw [constant_apply, Ideal.ofBits_zero_f32, zero_add]
  exact Finset.sum_congr rfl fun k _ => congrArg (_ * ·) (shapeCast_apply w _ _ _ rfl)

/-- At point `t`, row `r` of the body's modulated rows is the result's row that the point's block puts there. -/
theorem body_row (c : Dev nD) (t : Fin cfg0.N) (r : Fin 256) (j : Fin 4096) (R : Fin 8192) (hR : R.val = win0_5.index t 0 * 256 + r.val) :
    k0_pay1 (F := Ideal) (iblk m c 0 t) (iblk m c 1 t) (iblk m c 3 t) (iblk m c 2 t) (ix2 r j)
      = hrow (m ((c : Thread nD τ).loc main_arg0)) (m ((c : Thread nD τ).loc main_arg1)) (m ((c : Thread nD τ).loc main_arg2)) R j := by
  refine (pay_apply (iblk m c 0 t) (iblk m c 1 t) (iblk m c 3 t) (iblk m c 2 t) r j).trans ?_
  obtain ⟨⟨a0, a1⟩, ⟨n0, n1⟩, ⟨b0, b1, b2⟩, ⟨c0, c1, c2⟩, -, -, -⟩ := idx_h t
  have hr := r.isLt
  unfold hrow
  refine congrArg₂ (· + ·) (congrArg₂ (· * ·) (congrArg₂ (fun x g => rowNorm x g j) (funext fun e => ?_) (funext fun e => ?_))
    (congrArg (one + ·) ?_)) ?_
  · show V m c main_arg0 ((win0_0.rect t).emb (ix2 r e)) = _
    rw [V_main_arg0]
    refine congrArg _ (Shape.idx_ext₂ ((win0_0.rect_emb_val t (ix2 r e) 0).trans ?_) ((win0_0.rect_emb_val t (ix2 r e) 1).trans ?_))
    · rw [a0]; exact hR.symm
    · rw [a1]; exact Nat.zero_add _
  · show V m c main_v1 ((win0_1.rect t).emb (ix2 (0 : Fin 1) e)) = _
    rw [V_nw]
    have eb : (win0_1.rect t).emb (ix2 (0 : Fin 1) e) = ix2 (0 : Fin 1) e :=
      Shape.idx_ext₂ ((win0_1.rect_emb_val t (ix2 (0 : Fin 1) e) 0).trans (by rw [n0]; rfl))
        ((win0_1.rect_emb_val t (ix2 (0 : Fin 1) e) 1).trans (by rw [n1]; exact Nat.zero_add _))
    rw [eb]
    exact nw_at _ e
  · show V m c main_arg2 ((win0_3.rect t).emb (ix3 (0 : Fin 1) (0 : Fin 1) j)) = _
    rw [V_main_arg2]
    refine congrArg _ (funext fun a => Fin.ext ?_)
    match a with
    | ⟨0, _⟩ =>
      refine (win0_3.rect_emb_val t (ix3 (0 : Fin 1) (0 : Fin 1) j) 0).trans ?_
      rw [c0]
      show win0_5.index t 0 / 16 * 1 + 0 = R.val / 4096
      omega
    | ⟨1, _⟩ => exact (win0_3.rect_emb_val t (ix3 (0 : Fin 1) (0 : Fin 1) j) 1).trans (by rw [c1]; rfl)
    | ⟨2, _⟩ => exact (win0_3.rect_emb_val t (ix3 (0 : Fin 1) (0 : Fin 1) j) 2).trans (by rw [c2]; rfl)
  · show V m c main_arg2 ((win0_2.rect t).emb (ix3 (0 : Fin 1) (0 : Fin 1) j)) = _
    rw [V_main_arg2]
    refine congrArg _ (funext fun a => Fin.ext ?_)
    match a with
    | ⟨0, _⟩ =>
      refine (win0_2.rect_emb_val t (ix3 (0 : Fin 1) (0 : Fin 1) j) 0).trans ?_
      rw [b0]
      show win0_5.index t 0 / 16 * 1 + 0 = R.val / 4096
      omega
    | ⟨1, _⟩ => exact (win0_2.rect_emb_val t (ix3 (0 : Fin 1) (0 : Fin 1) j) 1).trans (by rw [b1]; rfl)
    | ⟨2, _⟩ => exact (win0_2.rect_emb_val t (ix3 (0 : Fin 1) (0 : Fin 1) j) 2).trans (by rw [b2]; rfl)

/-- What point `t` writes back to the first result is block `t` of `G`. -/
theorem flushed_eq5 (c : Dev nD) (t : Fin cfg0.N) :
    (dats m 0 c).flushed 5 t = (win0_5.blk t).view.read (Elt Ideal)
      (G (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  unfold out0_5
  rw [View.canon_unit_zero hz, View.ld_unit_zero hz, View.ld_unit_zero hz, View.ld_unit_zero hz3, View.ld_unit_zero hz3]
  funext y
  obtain ⟨r, s, rfl⟩ : ∃ (r : Fin 256) (s : Fin 4096), y = ix2 r s := ⟨y 0, y 1, eq_ix2 y⟩
  have q1 := (idx_h t).2.2.2.2.2.1
  have o0 : ((win0_5.rect t).emb (ix2 r s) 0).val = win0_5.index t 0 * 256 + r.val := win0_5.rect_emb_val t (ix2 r s) 0
  have o1 : ((win0_5.rect t).emb (ix2 r s) 1).val = win0_5.index t 1 * 4096 + s.val := win0_5.rect_emb_val t (ix2 r s) 1
  have es : (win0_5.rect t).emb (ix2 r s) 1 = s := Fin.ext (o1.trans (by rw [q1]; omega))
  refine (body_row m c t r s ((win0_5.rect t).emb (ix2 r s) 0) o0).trans ?_
  exact congrArg (hrow (m ((c : Thread nD τ).loc main_arg0)) (m ((c : Thread nD τ).loc main_arg1)) (m ((c : Thread nD τ).loc main_arg2))
    ((win0_5.rect t).emb (ix2 r s) 0)) es.symm

/-- What point `t` writes back to the second result is block `t` of `L`. -/
theorem flushed_eq6 (c : Dev nD) (t : Fin cfg0.N) :
    (dats m 0 c).flushed 6 t = (win0_6.blk t).view.read (Elt Ideal)
      (L (m ((c : Thread nD τ).loc main_arg0)) (m ((c : Thread nD τ).loc main_arg1)) (m ((c : Thread nD τ).loc main_arg2))
        (m ((c : Thread nD τ).loc main_arg3))) := by
  show (cfg0.win 6).cut (grid0.coords t) ((dats m 0 c).after 6 t) = _
  rw [after0_6]
  unfold out0_6
  rw [View.canon_unit_zero hz, View.ld_unit_zero hz, View.ld_unit_zero hz, View.ld_unit_zero hz3, View.ld_unit_zero hz3,
    View.ld_unit_zero hz]
  funext y
  obtain ⟨r, s, rfl⟩ : ∃ (r : Fin 256) (s : Fin 128), y = ix2 r s := ⟨y 0, y 1, eq_ix2 y⟩
  obtain ⟨-, -, -, -, ⟨d0, d1⟩, -, ⟨q0, q1⟩⟩ := idx_h t
  have o0 : ((win0_6.rect t).emb (ix2 r s) 0).val = win0_6.index t 0 * 256 + r.val := win0_6.rect_emb_val t (ix2 r s) 0
  have o1 : ((win0_6.rect t).emb (ix2 r s) 1).val = win0_6.index t 1 * 128 + s.val := win0_6.rect_emb_val t (ix2 r s) 1
  have es : (win0_6.rect t).emb (ix2 r s) 1 = s := Fin.ext (o1.trans (by rw [q1]; omega))
  refine (logit_apply (iblk m c 0 t) (iblk m c 1 t) (iblk m c 3 t) (iblk m c 2 t) (iblk m c 4 t) r s).trans ?_
  show _ = L (m ((c : Thread nD τ).loc main_arg0)) (m ((c : Thread nD τ).loc main_arg1)) (m ((c : Thread nD τ).loc main_arg2))
    (m ((c : Thread nD τ).loc main_arg3)) ((win0_6.rect t).emb (ix2 r s))
  unfold L
  rw [es]
  refine Finset.sum_congr rfl fun k _ => congrArg₂ (· * ·) (body_row m c t r k _ (o0.trans (by rw [q0]))) ?_
  show V m c main_v0 ((win0_4.rect t).emb (ix2 k s)) = _
  rw [V_w]
  have eb : (win0_4.rect t).emb (ix2 k s) = ix2 k s :=
    Shape.idx_ext₂ ((win0_4.rect_emb_val t (ix2 k s) 0).trans (by rw [d0]; exact Nat.zero_add _))
      ((win0_4.rect_emb_val t (ix2 k s) 1).trans (by rw [d1]; exact Nat.zero_add _))
  rw [eb]
  exact w_at _ k s

/-- The first result's blocks tile its array. -/
theorem cover5 (i : S8192x4096.Idx) :
    ∃ t : Fin cfg0.N, (cfg0.win 5).flush t = true ∧ i ∈ ((cfg0.win 5).blk t).view.set := by
  have h0 : (i 0 : Nat) < 8192 := (i 0).isLt
  have h1 : (i 1 : Nat) < 4096 := (i 1).isLt
  obtain ⟨t, ha⟩ := idx_onto ⟨(i 0 : Nat) / 256, by omega⟩
  have hb := (idx_h t).2.2.2.2.2.1
  refine ⟨t, flush0_5 t, ?_⟩
  show i ∈ ((View.whole main_v2_0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [ha]; dsimp only; omega
  | ⟨1, _⟩ =>
    show win0_5.index t 1 * 4096 ≤ (i 1 : Nat) ∧ (i 1 : Nat) < win0_5.index t 1 * 4096 + 4096
    rw [hb]; omega

/-- The second result's blocks tile its array. -/
theorem cover6 (i : S8192x128.Idx) :
    ∃ t : Fin cfg0.N, (cfg0.win 6).flush t = true ∧ i ∈ ((cfg0.win 6).blk t).view.set := by
  have h0 : (i 0 : Nat) < 8192 := (i 0).isLt
  have h1 : (i 1 : Nat) < 128 := (i 1).isLt
  obtain ⟨t, ha⟩ := idx_onto ⟨(i 0 : Nat) / 256, by omega⟩
  obtain ⟨hq, hb⟩ := (idx_h t).2.2.2.2.2.2
  refine ⟨t, flush0_6 t, ?_⟩
  show i ∈ ((View.whole main_v2_1).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [hq, ha]; dsimp only; omega
  | ⟨1, _⟩ =>
    show win0_6.index t 1 * 128 ≤ (i 1 : Nat) ∧ (i 1 : Nat) < win0_6.index t 1 * 128 + 128
    rw [hb]; omega

/-- So the first result array ends holding `G` of the arguments. -/
theorem final5 (c : Dev nD) : (dats m 0 c).arrAt 5 cfg0.N
    = G (m ((c : Thread nD τ).loc main_arg0)) (m ((c : Thread nD τ).loc main_arg1)) (m ((c : Thread nD τ).loc main_arg2)) :=
  (dats m 0 c).arrAt_eq_of_cover 5 _ (fun t _ => flushed_eq5 m c t) cover5

/-- And the second `L`. -/
theorem final6 (c : Dev nD) : (dats m 0 c).arrAt 6 cfg0.N
    = L (m ((c : Thread nD τ).loc main_arg0)) (m ((c : Thread nD τ).loc main_arg1)) (m ((c : Thread nD τ).loc main_arg2))
        (m ((c : Thread nD τ).loc main_arg3)) :=
  (dats m 0 c).arrAt_eq_of_cover 6 _ (fun t _ => flushed_eq6 m c t) cover6

end Kernel

section Reference
open Cert.NormLastRefIdeal.Read

variable (x : S8192x4096.Idx → EReal) (nw : S4096.Idx → EReal) (md : S8x1x24576.Idx → EReal) (w : S4096x16.Idx → EReal)

/-- The reference's normalised rows. -/
theorem norm_eq (r : Fin 8192) (j : Fin 4096) :
    val_main_v14 (F := Ideal) x nw (ix2 r j) = rowNorm (fun e => x (ix2 r e)) (fun e => nw (ix1 e)) j := by
  rw [val_main_v14_apply, val_main_v11_apply, val_main_v10_apply, val_main_v9_apply, val_main_v8_apply, val_main_v6_apply,
    val_main_v4_apply, val_main_v3_apply, val_main_v5_apply, val_main_v7_apply, val_main_v13_apply, val_main_v12_apply,
    val_main_cst_apply, val_main_cst_0_apply, val_main_cst_1_apply]
  simp only [Ideal.mulf_def, Ideal.addf_def, Ideal.hostDivf_def]
  unfold rowNorm
  refine congrArg₂ (· * ·) (congrArg (x (ix2 r j) * ·) ?_) (congrArg nw (funext fun a => match a with | ⟨0, _⟩ => rfl))
  refine congrArg Ideal.rsqrt (congrArg (· + FloatOps.ofBits (F := Ideal) .f32 0x358637BD#32)
    (congrArg (Ideal.div · (FloatOps.ofBits (F := Ideal) .f32 0x45800000#32)) ?_))
  refine (congrArg (· + _) Ideal.ofBits_zero_f32).trans ((zero_add _).trans (Finset.sum_congr rfl fun e _ => ?_))
  have hi : idx_main_v3 (idx_main_v4 (idx_main_v10 (ix2 r j))) e = ix2 r e := Shape.idx_ext₂ rfl rfl
  rw [val_main_v2_apply, Ideal.mulf_def, hi]

/-- The reference's modulated rows. -/
theorem rows_eq (r : Fin 8192) (j : Fin 4096) : val_main_v22 (F := Ideal) x nw md (ix2 r j) = hrow x nw md r j := by
  have hr := r.isLt
  have hj := j.isLt
  have e1 : idx_main_v22 (ix2 r j) = ix3 (⟨r.val / 4096, by omega⟩ : Fin 2) (⟨r.val % 4096, by omega⟩ : Fin 4096) j :=
    funext fun a => Fin.ext (match a with
      | ⟨0, _⟩ => by show (r.val * 4096 + j.val) / 16777216 = r.val / 4096; omega
      | ⟨1, _⟩ => by show (r.val * 4096 + j.val) / 4096 % 4096 = r.val % 4096; omega
      | ⟨2, _⟩ => by show (r.val * 4096 + j.val) % 4096 = j.val; omega)
  have e2 : idx_main_v15 (ix3 (⟨r.val / 4096, by omega⟩ : Fin 2) (⟨r.val % 4096, by omega⟩ : Fin 4096) j) = ix2 r j := Shape.idx_ext₂
    (by show ((r.val / 4096 * 4096 + r.val % 4096) * 4096 + j.val) / 4096 = r.val; omega)
    (by show ((r.val / 4096 * 4096 + r.val % 4096) * 4096 + j.val) % 4096 = j.val; omega)
  rw [val_main_v22_apply, e1, val_main_v21_apply, val_main_v19_apply, val_main_v15_apply, e2, norm_eq, val_main_v18_apply,
    val_main_v17_apply, val_main_v16_apply, val_main_cst_2_apply, val_main_v1_apply, val_main_v20_apply, val_main_v0_apply]
  simp only [Ideal.mulf_def, Ideal.addf_def]
  unfold hrow
  refine congrArg₂ (· + ·) (congrArg (_ * ·) (congrArg (one + ·) (congrArg md (funext fun a => ?_)))) (congrArg md (funext fun a => ?_))
  · match a with | ⟨0, _⟩ => rfl | ⟨1, _⟩ => rfl | ⟨2, _⟩ => rfl
  · match a with | ⟨0, _⟩ => rfl | ⟨1, _⟩ => rfl | ⟨2, _⟩ => rfl

/-- The reference's first result is `G`. -/
theorem ref_eq5 : val_main_v23 (F := Ideal) x nw md = G x nw md := by
  funext i
  obtain ⟨r, s, rfl⟩ : ∃ (r : Fin 8192) (s : Fin 4096), i = ix2 r s := ⟨i 0, i 1, eq_ix2 i⟩
  rw [val_main_v23_apply]
  exact rows_eq x nw md r s

/-- The reference's second result is `L`. -/
theorem ref_eq6 : val_main_v25 (F := Ideal) x nw md w = L x nw md w := by
  funext i
  obtain ⟨r, s, rfl⟩ : ∃ (r : Fin 8192) (s : Fin 128), i = ix2 r s := ⟨i 0, i 1, eq_ix2 i⟩
  unfold val_main_v25 L
  by_cases h : s.val < 16
  · refine (pad_apply_of_inside _ _ _ _ _ _ _ (ix2 r s) (ix2 r ⟨s.val, h⟩) (fun a => match a with
      | ⟨0, _⟩ => by show r.val = 0 + r.val * (0 + 1); omega
      | ⟨1, _⟩ => by show s.val = 0 + s.val * (0 + 1); omega)).trans ?_
    rw [val_main_v24_apply]
    refine Finset.sum_congr rfl fun k _ => congrArg₂ (· * ·) ?_ ?_
    · rw [eq_ix2 (lidx_main_v24 (ix2 r ⟨s.val, h⟩) k)]; exact rows_eq x nw md r k
    · refine Eq.trans ?_ (dif_pos h).symm
      exact congrArg w (Shape.idx_ext₂ rfl rfl)
  · refine (pad_apply_of_not_inside _ _ _ _ _ _ _ (ix2 r s) (1 : Fin 2) (fun hn => ?_)).trans ?_
    · have := hn.2.2
      have : (s.val - 0) / (0 + 1) < 16 := this
      omega
    · refine (zero_eq _).trans (Finset.sum_eq_zero fun k _ => ?_).symm
      refine (congrArg (_ * ·) (dif_neg h)).trans (mul_zero _)

end Reference

/-- The reference's frame. -/
theorem frame_ref : Cert.quiescent_NormLastRefIdeal := fun m ρ _ =>
  (θ_run Cert.NormLastRefIdeal.defs _ _).mono (fun r h => ⟨fun c => (h c).2.2,
      sem_eq_zero_of_no_sems (by decide) r.2⟩)
    (Cert.NormLastRefIdeal.Value.run (F := Ideal) m ρ)

/-- The kernel's results are the reference's. -/
theorem algebraic : Cert.algebraic_NormLastIdeal_NormLastRefIdeal := by
  intro m ρ m' ρ' _ hagree
  refine ⟨fun c => G (m ((c : Thread nD τ).loc main_arg0)) (m ((c : Thread nD τ).loc main_arg1)) (m ((c : Thread nD τ).loc main_arg2)),
    fun c => L (m ((c : Thread nD τ).loc main_arg0)) (m ((c : Thread nD τ).loc main_arg1)) (m ((c : Thread nD τ).loc main_arg2))
      (m ((c : Thread nD τ).loc main_arg3)), ?_, ?_⟩
  · exact (θ_run Cert.NormLastIdeal.defs _ _).mono
      (fun r h c => ⟨((h c).1).trans (final5 m c), ((h c).2.1).trans (final6 m c), (h c).2.2⟩)
      (Cert.NormLastIdeal.Value.run_blocks (F := Ideal) m ρ)
  · refine (θ_run Cert.NormLastRefIdeal.defs _ _).mono (fun r h c => ⟨(h c).1.trans ?_, (h c).2.1.trans ?_, (h c).2.2⟩)
      (Cert.NormLastRefIdeal.Value.run (F := Ideal) m' ρ')
    · obtain ⟨h0, h1, h2, h3⟩ := hagree c
      rw [Cert.NormLastRefIdeal.Read.val_main_v23_eq, ref_eq5, h0, h1, h2]
    · obtain ⟨h0, h1, h2, h3⟩ := hagree c
      rw [Cert.NormLastRefIdeal.Read.val_main_v25_eq, ref_eq6, h0, h1, h2, h3]

end Cert.Proof.NormLast

end
-- ==== Proof.NormMix.lean ====
/-
  The modulated normalisation before the mixers: the kernel's result array and the reference's are one function of the
  arguments.
-/
module

public import proofs.«01_k».proof.Defs
public import proofs.«01_k».proof.Proof.Gen.NormMixIdeal.Value
public import proofs.«01_k».proof.Proof.Gen.NormMixRefIdeal.Run
public import proofs.«01_k».proof.Proof.Gen.NormMixRefIdeal.Read
public import proofs.«01_k».proof.Proof.Rows
public import Idealize.ShloMosaic.Lib.IdealHost

@[expose] public section

set_option maxRecDepth 16384

noncomputable section

namespace Cert.Proof.NormMix

open Cert.NormMixIdeal Cert.NormMixIdeal.Gen Idealize.ShloMosaic Idealize.ShloMosaic.TcCoe Idealize.SL.Sem
open Idealize.ShloMosaic.Pipeline (Dat)
open Idealize.ShloMosaic.ValueIdx
open Cert.Proof.Rows
open scoped BigOperators

/-- The float one, as both programs print it. -/
def one : EReal := FloatOps.ofBits (F := Ideal) .f32 0x3F800000#32

/-- A row normalised, times one plus the modulation's chunk one of its group, plus chunk zero: the first 8192 rows are two
    groups of 4096, the last 512 a third. -/
def hrow (x : S8704x4096.Idx → EReal) (nw : S4096.Idx → EReal) (md : S8x1x24576.Idx → EReal) (r : Fin 8704) (j : Fin 4096) : EReal :=
  rowNorm (fun e => x (ix2 r e)) (fun e => nw (ix1 e)) j
      * (one + md (ix3 (⟨r.val / 4096, by omega⟩ : Fin 8) (0 : Fin 1) (⟨4096 + j.val, by omega⟩ : Fin 24576)))
    + md (ix3 (⟨r.val / 4096, by omega⟩ : Fin 8) (0 : Fin 1) (⟨j.val, by omega⟩ : Fin 24576))

/-- The result: the modulated rows. -/
def G (x : S8704x4096.Idx → EReal) (nw : S4096.Idx → EReal) (md : S8x1x24576.Idx → EReal) : S8704x4096.Idx → EReal :=
  fun i => hrow x nw md (i 0) (i 1)

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- The normalisation's weights as one row, as the region finds them. -/
theorem V_nw (c : Dev nD) : V m c main_v0 = shapeCast S1x4096 (m ((c : Thread nD τ).loc main_arg1)) shapeCasts_S4096_S1x4096 := by
  unfold V
  after_results_simp <;> rfl

/-- The weights as one row, at an index. -/
theorem nw_at (nw : S4096.Idx → EReal) (e : Fin 4096) :
    shapeCast S1x4096 nw shapeCasts_S4096_S1x4096 (ix2 (0 : Fin 1) e) = nw (ix1 e) := by
  refine shapeCast_apply _ _ _ _ ?_
  rw [Shape.rowMajor_val_two, Shape.rowMajor_val_one]
  show e.val = 0 * 4096 + e.val
  omega

/-- Block indices of the windows, point by point. -/
theorem idx_h : ∀ t : Fin cfg0.N, (win0_0.index t 0 = win0_4.index t 0 ∧ win0_0.index t 1 = 0)
    ∧ (win0_1.index t 0 = 0 ∧ win0_1.index t 1 = 0)
    ∧ (win0_2.index t 0 = win0_4.index t 0 / 16 ∧ win0_2.index t 1 = 0 ∧ win0_2.index t 2 = 0)
    ∧ (win0_3.index t 0 = win0_4.index t 0 / 16 ∧ win0_3.index t 1 = 0 ∧ win0_3.index t 2 = 1) ∧ win0_4.index t 1 = 0 :=
  (by decide +kernel : ∀ t : Fin grid0.N, (win0_0.index t 0 = win0_4.index t 0 ∧ win0_0.index t 1 = 0)
    ∧ (win0_1.index t 0 = 0 ∧ win0_1.index t 1 = 0)
    ∧ (win0_2.index t 0 = win0_4.index t 0 / 16 ∧ win0_2.index t 1 = 0 ∧ win0_2.index t 2 = 0)
    ∧ (win0_3.index t 0 = win0_4.index t 0 / 16 ∧ win0_3.index t 1 = 0 ∧ win0_3.index t 2 = 1) ∧ win0_4.index t 1 = 0)

/-- Every block of the result is some point's. -/
theorem idx_onto : ∀ b : Fin 34, ∃ t : Fin cfg0.N, win0_4.index t 0 = b.val :=
  (by decide +kernel : ∀ b : Fin 34, ∃ t : Fin grid0.N, win0_4.index t 0 = b.val)

/-- The body's modulated rows, at an index. -/
theorem pay_apply (x : FVec Ideal S256x4096 .f32) (nw : FVec Ideal S1x4096 .f32) (sc sh : FVec Ideal S1x1x4096 .f32) (r : Fin 256) (j : Fin 4096) :
    k0_pay1 (F := Ideal) x nw sc sh (ix2 r j)
      = (rowNorm (fun e => x (ix2 r e)) (fun e => nw (ix2 (0 : Fin 1) e)) j * (one + sc (ix3 (0 : Fin 1) (0 : Fin 1) j))
        + sh (ix3 (0 : Fin 1) (0 : Fin 1) j) : EReal) := by
  unfold k0_pay1
  rw [truncf_apply, addf_apply, mulf_apply, row_at, row_at, chunk_at, addf_apply, chunk_at]
  exact congrArg (fun v : EReal => v * (one + sc (ix3 (0 : Fin 1) (0 : Fin 1) j)) + sh (ix3 (0 : Fin 1) (0 : Fin 1) j))
    (normed_apply x nw reduces_S256x4096_S256 shapeCasts_S256_S256x1 broadcasts_S256x1_S256x4096
      shapeCasts_S1x4096_S1x4096 broadcasts_S1x4096_S256x4096 r j)

/-- At point `t`, row `r` of the body's modulated rows is the result's row that the point's block puts there. -/
theorem body_row (c : Dev nD) (t : Fin cfg0.N) (r : Fin 256) (j : Fin 4096) (R : Fin 8704) (hR : R.val = win0_4.index t 0 * 256 + r.val) :
    k0_pay1 (F := Ideal) (iblk m c 0 t) (iblk m c 1 t) (iblk m c 3 t) (iblk m c 2 t) (ix2 r j)
      = hrow (m ((c : Thread nD τ).loc main_arg0)) (m ((c : Thread nD τ).loc main_arg1)) (m ((c : Thread nD τ).loc main_arg2)) R j := by
  refine (pay_apply (iblk m c 0 t) (iblk m c 1 t) (iblk m c 3 t) (iblk m c 2 t) r j).trans ?_
  obtain ⟨⟨a0, a1⟩, ⟨n0, n1⟩, ⟨b0, b1, b2⟩, ⟨c0, c1, c2⟩, -⟩ := idx_h t
  have hr := r.isLt
  unfold hrow
  refine congrArg₂ (· + ·) (congrArg₂ (· * ·) (congrArg₂ (fun x g => rowNorm x g j) (funext fun e => ?_) (funext fun e => ?_))
    (congrArg (one + ·) ?_)) ?_
  · show V m c main_arg0 ((win0_0.rect t).emb (ix2 r e)) = _
    rw [V_main_arg0]
    refine congrArg _ (Shape.idx_ext₂ ((win0_0.rect_emb_val t (ix2 r e) 0).trans ?_) ((win0_0.rect_emb_val t (ix2 r e) 1).trans ?_))
    · rw [a0]; exact hR.symm
    · rw [a1]; exact Nat.zero_add _
  · show V m c main_v0 ((win0_1.rect t).emb (ix2 (0 : Fin 1) e)) = _
    rw [V_nw]
    have eb : (win0_1.rect t).emb (ix2 (0 : Fin 1) e) = ix2 (0 : Fin 1) e :=
      Shape.idx_ext₂ ((win0_1.rect_emb_val t (ix2 (0 : Fin 1) e) 0).trans (by rw [n0]; rfl))
        ((win0_1.rect_emb_val t (ix2 (0 : Fin 1) e) 1).trans (by rw [n1]; exact Nat.zero_add _))
    rw [eb]
    exact nw_at _ e
  · show V m c main_arg2 ((win0_3.rect t).emb (ix3 (0 : Fin 1) (0 : Fin 1) j)) = _
    rw [V_main_arg2]
    refine congrArg _ (funext fun a => Fin.ext ?_)
    match a with
    | ⟨0, _⟩ =>
      refine (win0_3.rect_emb_val t (ix3 (0 : Fin 1) (0 : Fin 1) j) 0).trans ?_
      rw [c0]
      show win0_4.index t 0 / 16 * 1 + 0 = R.val / 4096
      omega
    | ⟨1, _⟩ => exact (win0_3.rect_emb_val t (ix3 (0 : Fin 1) (0 : Fin 1) j) 1).trans (by rw [c1]; rfl)
    | ⟨2, _⟩ => exact (win0_3.rect_emb_val t (ix3 (0 : Fin 1) (0 : Fin 1) j) 2).trans (by rw [c2]; rfl)
  · show V m c main_arg2 ((win0_2.rect t).emb (ix3 (0 : Fin 1) (0 : Fin 1) j)) = _
    rw [V_main_arg2]
    refine congrArg _ (funext fun a => Fin.ext ?_)
    match a with
    | ⟨0, _⟩ =>
      refine (win0_2.rect_emb_val t (ix3 (0 : Fin 1) (0 : Fin 1) j) 0).trans ?_
      rw [b0]
      show win0_4.index t 0 / 16 * 1 + 0 = R.val / 4096
      omega
    | ⟨1, _⟩ => exact (win0_2.rect_emb_val t (ix3 (0 : Fin 1) (0 : Fin 1) j) 1).trans (by rw [b1]; rfl)
    | ⟨2, _⟩ => exact (win0_2.rect_emb_val t (ix3 (0 : Fin 1) (0 : Fin 1) j) 2).trans (by rw [b2, Nat.zero_mul, Nat.zero_add]; rfl)

/-- What point `t` writes back is block `t` of `G`. -/
theorem flushed_eq (c : Dev nD) (t : Fin cfg0.N) :
    (dats m 0 c).flushed 4 t = (win0_4.blk t).view.read (Elt Ideal)
      (G (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz, View.ld_unit_zero hz, View.ld_unit_zero hz, View.ld_unit_zero hz3, View.ld_unit_zero hz3]
  funext y
  obtain ⟨r, s, rfl⟩ : ∃ (r : Fin 256) (s : Fin 4096), y = ix2 r s := ⟨y 0, y 1, eq_ix2 y⟩
  have q1 := (idx_h t).2.2.2.2
  have o0 : ((win0_4.rect t).emb (ix2 r s) 0).val = win0_4.index t 0 * 256 + r.val := win0_4.rect_emb_val t (ix2 r s) 0
  have o1 : ((win0_4.rect t).emb (ix2 r s) 1).val = win0_4.index t 1 * 4096 + s.val := win0_4.rect_emb_val t (ix2 r s) 1
  have es : (win0_4.rect t).emb (ix2 r s) 1 = s := Fin.ext (o1.trans (by rw [q1]; omega))
  refine (body_row m c t r s ((win0_4.rect t).emb (ix2 r s) 0) o0).trans ?_
  exact congrArg (hrow (m ((c : Thread nD τ).loc main_arg0)) (m ((c : Thread nD τ).loc main_arg1)) (m ((c : Thread nD τ).loc main_arg2))
    ((win0_4.rect t).emb (ix2 r s) 0)) es.symm

/-- The result's blocks tile its array. -/
theorem cover (i : S8704x4096.Idx) :
    ∃ t : Fin cfg0.N, (cfg0.win 4).flush t = true ∧ i ∈ ((cfg0.win 4).blk t).view.set := by
  have h0 : (i 0 : Nat) < 8704 := (i 0).isLt
  have h1 : (i 1 : Nat) < 4096 := (i 1).isLt
  obtain ⟨t, ha⟩ := idx_onto ⟨(i 0 : Nat) / 256, by omega⟩
  have hb := (idx_h t).2.2.2.2
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [ha]; dsimp only; omega
  | ⟨1, _⟩ =>
    show win0_4.index t 1 * 4096 ≤ (i 1 : Nat) ∧ (i 1 : Nat) < win0_4.index t 1 * 4096 + 4096
    rw [hb]; omega

/-- So the result array ends holding `G` of the arguments. -/
theorem final (c : Dev nD) : (dats m 0 c).arrAt 4 cfg0.N
    = G (m ((c : Thread nD τ).loc main_arg0)) (m ((c : Thread nD τ).loc main_arg1)) (m ((c : Thread nD τ).loc main_arg2)) :=
  (dats m 0 c).arrAt_eq_of_cover 4 _ (fun t _ => flushed_eq m c t) cover

end Kernel

section Reference
open Cert.NormMixRefIdeal.Read

variable (x : S8704x4096.Idx → EReal) (nw : S4096.Idx → EReal) (md : S8x1x24576.Idx → EReal)

/-- The reference's normalised rows. -/
theorem norm_eq (r : Fin 8704) (j : Fin 4096) :
    val_main_v14 (F := Ideal) x nw (ix2 r j) = rowNorm (fun e => x (ix2 r e)) (fun e => nw (ix1 e)) j := by
  rw [val_main_v14_apply, val_main_v11_apply, val_main_v10_apply, val_main_v9_apply, val_main_v8_apply, val_main_v6_apply,
    val_main_v4_apply, val_main_v3_apply, val_main_v5_apply, val_main_v7_apply, val_main_v13_apply, val_main_v12_apply,
    val_main_cst_apply, val_main_cst_0_apply, val_main_cst_1_apply]
  simp only [Ideal.mulf_def, Ideal.addf_def, Ideal.hostDivf_def]
  unfold rowNorm
  refine congrArg₂ (· * ·) (congrArg (x (ix2 r j) * ·) ?_) (congrArg nw (funext fun a => match a with | ⟨0, _⟩ => rfl))
  refine congrArg Ideal.rsqrt (congrArg (· + FloatOps.ofBits (F := Ideal) .f32 0x358637BD#32)
    (congrArg (Ideal.div · (FloatOps.ofBits (F := Ideal) .f32 0x45800000#32)) ?_))
  refine (congrArg (· + _) Ideal.ofBits_zero_f32).trans ((zero_add _).trans (Finset.sum_congr rfl fun e _ => ?_))
  have hi : idx_main_v3 (idx_main_v4 (idx_main_v10 (ix2 r j))) e = ix2 r e := Shape.idx_ext₂ rfl rfl
  rw [val_main_v2_apply, Ideal.mulf_def, hi]

/-- The reference's modulated rows, among the first 8192. -/
theorem lat_eq (r : Fin 8192) (j : Fin 4096) :
    val_main_v36 (F := Ideal) x nw md (ix2 r j) = hrow x nw md ⟨r.val, by omega⟩ j := by
  have hr := r.isLt
  have hj := j.isLt
  have e1 : idx_main_v36 (ix2 r j) = ix3 (⟨r.val / 4096, by omega⟩ : Fin 2) (⟨r.val % 4096, by omega⟩ : Fin 4096) j :=
    funext fun a => Fin.ext (match a with
      | ⟨0, _⟩ => by show (r.val * 4096 + j.val) / 16777216 = r.val / 4096; omega
      | ⟨1, _⟩ => by show (r.val * 4096 + j.val) / 4096 % 4096 = r.val % 4096; omega
      | ⟨2, _⟩ => by show (r.val * 4096 + j.val) % 4096 = j.val; omega)
  have e2 : idx_main_v15 (idx_main_v16 (ix3 (⟨r.val / 4096, by omega⟩ : Fin 2) (⟨r.val % 4096, by omega⟩ : Fin 4096) j))
      = ix2 (⟨r.val, by omega⟩ : Fin 8704) j := Shape.idx_ext₂
    (by show ((r.val / 4096 * 4096 + r.val % 4096) * 4096 + j.val) / 4096 = r.val; omega)
    (by show ((r.val / 4096 * 4096 + r.val % 4096) * 4096 + j.val) % 4096 = j.val; omega)
  rw [val_main_v36_apply, e1, val_main_v24_apply, val_main_v21_apply, val_main_v16_apply, val_main_v15_apply, e2, norm_eq,
    val_main_v20_apply, val_main_v19_apply, val_main_v18_apply, val_main_cst_2_apply, val_main_v17_apply, val_main_v1_apply,
    val_main_v23_apply, val_main_v22_apply, val_main_v0_apply]
  simp only [Ideal.mulf_def, Ideal.addf_def]
  unfold hrow
  refine congrArg₂ (· + ·) (congrArg (_ * ·) (congrArg (one + ·) (congrArg md (funext fun a => ?_)))) (congrArg md (funext fun a => ?_))
  · match a with | ⟨0, _⟩ => rfl | ⟨1, _⟩ => rfl | ⟨2, _⟩ => rfl
  · match a with | ⟨0, _⟩ => rfl | ⟨1, _⟩ => rfl | ⟨2, _⟩ => rfl

/-- The reference's modulated rows, among the last 512. -/
theorem ctx_eq (r : Fin 512) (j : Fin 4096) :
    val_main_v35 (F := Ideal) x nw md (ix2 r j) = hrow x nw md ⟨8192 + r.val, by omega⟩ j := by
  have hr := r.isLt
  have hj := j.isLt
  have e2 : idx_main_v25 (ix2 r j) = ix2 (⟨8192 + r.val, by omega⟩ : Fin 8704) j := Shape.idx_ext₂ rfl rfl
  rw [val_main_v35_apply, val_main_v31_apply, val_main_v25_apply, e2, norm_eq,
    val_main_v30_apply, val_main_v29_apply, val_main_v28_apply, val_main_cst_3_apply, val_main_v27_apply, val_main_v26_apply, val_main_v1_apply,
    val_main_v34_apply, val_main_v33_apply, val_main_v32_apply, val_main_v0_apply]
  simp only [Ideal.mulf_def, Ideal.addf_def]
  unfold hrow
  refine congrArg₂ (· + ·) (congrArg (_ * ·) (congrArg (one + ·) (congrArg md (funext fun a => Fin.ext ?_))))
    (congrArg md (funext fun a => Fin.ext ?_))
  · match a with
    | ⟨0, _⟩ => show 2 + 0 = (8192 + r.val) / 4096; omega
    | ⟨1, _⟩ => rfl
    | ⟨2, _⟩ => show 4096 + (0 * 4096 + j.val) % 4096 = 4096 + j.val; omega
  · match a with
    | ⟨0, _⟩ => show 2 + 0 = (8192 + r.val) / 4096; omega
    | ⟨1, _⟩ => rfl
    | ⟨2, _⟩ => show (0 * 4096 + j.val) % 4096 = j.val; omega

/-- The reference's modulated rows. -/
theorem rows_eq (r : Fin 8704) (j : Fin 4096) : val_main_v37 (F := Ideal) x nw md (ix2 r j) = hrow x nw md r j := by
  have hr := r.isLt
  unfold val_main_v37
  by_cases h : r.val < 8192
  · refine (concatenate_pair_apply_left (t := Cert.NormMixRefIdeal.S8704x4096) (s₁ := Cert.NormMixRefIdeal.S8192x4096)
      (s₂ := Cert.NormMixRefIdeal.S512x4096) 0 _ _ _ _ rfl (ix2 ⟨r.val, h⟩ j)
      (fun a => match a with | ⟨0, _⟩ => rfl | ⟨1, _⟩ => rfl)).trans ?_
    exact lat_eq x nw md ⟨r.val, h⟩ j
  · refine (concatenate_pair_apply_right (t := Cert.NormMixRefIdeal.S8704x4096) (s₁ := Cert.NormMixRefIdeal.S8192x4096)
      (s₂ := Cert.NormMixRefIdeal.S512x4096) 0 _ _ _ _ rfl rfl (ix2 ⟨r.val - 8192, by omega⟩ j)
      (fun a ha => match a, ha with | ⟨0, _⟩, ha => absurd rfl ha | ⟨1, _⟩, _ => rfl)
      (by show r.val - 8192 + 8192 = r.val; omega)).trans ?_
    refine (ctx_eq x nw md ⟨r.val - 8192, by omega⟩ j).trans (congrArg (fun r => hrow x nw md r j) (Fin.ext ?_))
    show 8192 + (r.val - 8192) = r.val
    omega

/-- The reference's result is `G`. -/
theorem ref_eq : val_main_v38 (F := Ideal) x nw md = G x nw md := by
  funext i
  obtain ⟨r, s, rfl⟩ : ∃ (r : Fin 8704) (s : Fin 4096), i = ix2 r s := ⟨i 0, i 1, eq_ix2 i⟩
  rw [val_main_v38_apply]
  exact rows_eq x nw md r s

end Reference

/-- The reference's frame. -/
theorem frame_ref : Cert.quiescent_NormMixRefIdeal := fun m ρ _ =>
  (θ_run Cert.NormMixRefIdeal.defs _ _).mono (fun r h => ⟨fun c => (h c).2,
      sem_eq_zero_of_no_sems (by decide) r.2⟩)
    (Cert.NormMixRefIdeal.Value.run (F := Ideal) m ρ)

/-- The kernel's result is the reference's. -/
theorem algebraic : Cert.algebraic_NormMixIdeal_NormMixRefIdeal := by
  intro m ρ m' ρ' _ hagree
  refine ⟨fun c => G (m ((c : Thread nD τ).loc main_arg0)) (m ((c : Thread nD τ).loc main_arg1)) (m ((c : Thread nD τ).loc main_arg2)), ?_, ?_⟩
  · exact (θ_run Cert.NormMixIdeal.defs _ _).mono (fun r h c => ⟨((h c).1).trans (final m c), (h c).2⟩)
      (Cert.NormMixIdeal.Value.run_blocks (F := Ideal) m ρ)
  · refine (θ_run Cert.NormMixRefIdeal.defs _ _).mono (fun r h c => ⟨(h c).1.trans ?_, (h c).2⟩)
      (Cert.NormMixRefIdeal.Value.run (F := Ideal) m' ρ')
    obtain ⟨h0, h1, h2⟩ := hagree c
    rw [Cert.NormMixRefIdeal.Read.val_main_v38_eq, ref_eq, h0, h1, h2]

end Cert.Proof.NormMix

end
-- ==== Proof.FfnMid.lean ====
/-
  The experts' residual of the first layer: the kernel's result array and the reference's are one function of the arguments.
-/
module

public import proofs.«01_k».proof.Defs
public import proofs.«01_k».proof.Proof.Gen.FfnMidIdeal.Value
public import proofs.«01_k».proof.Proof.Gen.FfnMidRefIdeal.Run
public import proofs.«01_k».proof.Proof.Gen.FfnMidRefIdeal.Read
public import proofs.«01_k».proof.Proof.Rows
public import Idealize.ShloMosaic.Lib.IdealHost

@[expose] public section

set_option maxRecDepth 16384

noncomputable section

namespace Cert.Proof.FfnMid

open Cert.FfnMidIdeal Cert.FfnMidIdeal.Gen Idealize.ShloMosaic Idealize.ShloMosaic.TcCoe Idealize.SL.Sem
open Idealize.ShloMosaic.Pipeline (Dat)
open Idealize.ShloMosaic.ValueIdx
open Cert.Proof.Rows
open scoped BigOperators

/-- A row plus the modulation's chunk five of its group times the gated sum of the two experts' rows. -/
def resid (x f0 f1 : S8704x4096.Idx → EReal) (gate : S8704x2.Idx → EReal) (md : S8x1x24576.Idx → EReal) (r : Fin 8704) (e : Fin 4096) : EReal :=
  x (ix2 r e) + md (ix3 (⟨r.val / 4096, by omega⟩ : Fin 8) (0 : Fin 1) (⟨20480 + e.val, by omega⟩ : Fin 24576))
    * (gate (ix2 r (0 : Fin 2)) * f0 (ix2 r e) + gate (ix2 r (1 : Fin 2)) * f1 (ix2 r e))

/-- The result: that sum. -/
def G (x f0 f1 : S8704x4096.Idx → EReal) (gate : S8704x2.Idx → EReal) (md : S8x1x24576.Idx → EReal) : S8704x4096.Idx → EReal :=
  fun i => resid x f0 f1 gate md (i 0) (i 1)

section Kernel
variable (m : (ℓ : Loc nD τ sig) → Buf (Elt Ideal) ℓ) (ρ : Dev nD → PrngReg)

/-- The offsets of a whole buffer with two axes are zero. -/
theorem hz : (![0, 0] : Fin 2 → Nat) = fun _ => 0 := funext fun a => by fin_cases a <;> rfl
/-- The offsets of a whole buffer with three axes are zero. -/
theorem hz3 : (![0, 0, 0] : Fin 3 → Nat) = fun _ => 0 := funext fun a => by fin_cases a <;> rfl

/-- Block indices of the windows, point by point. -/
theorem idx_h : ∀ t : Fin cfg0.N, (win0_0.index t 0 = win0_5.index t 0 ∧ win0_0.index t 1 = 0)
    ∧ (win0_1.index t 0 = win0_5.index t 0 ∧ win0_1.index t 1 = 0) ∧ (win0_2.index t 0 = win0_5.index t 0 ∧ win0_2.index t 1 = 0)
    ∧ (win0_3.index t 0 = win0_5.index t 0 ∧ win0_3.index t 1 = 0)
    ∧ (win0_4.index t 0 = win0_5.index t 0 / 16 ∧ win0_4.index t 1 = 0 ∧ win0_4.index t 2 = 5) ∧ win0_5.index t 1 = 0 :=
  (by decide +kernel : ∀ t : Fin grid0.N, (win0_0.index t 0 = win0_5.index t 0 ∧ win0_0.index t 1 = 0)
    ∧ (win0_1.index t 0 = win0_5.index t 0 ∧ win0_1.index t 1 = 0) ∧ (win0_2.index t 0 = win0_5.index t 0 ∧ win0_2.index t 1 = 0)
    ∧ (win0_3.index t 0 = win0_5.index t 0 ∧ win0_3.index t 1 = 0)
    ∧ (win0_4.index t 0 = win0_5.index t 0 / 16 ∧ win0_4.index t 1 = 0 ∧ win0_4.index t 2 = 5) ∧ win0_5.index t 1 = 0)

/-- Every block of the result is some point's. -/
theorem idx_onto : ∀ b : Fin 34, ∃ t : Fin cfg0.N, win0_5.index t 0 = b.val :=
  (by decide +kernel : ∀ b : Fin 34, ∃ t : Fin grid0.N, win0_5.index t 0 = b.val)

/-- The body's sum, a block of rows. -/
def bsum (g : FVec Ideal S256x2 .f32) (f0 f1 x : FVec Ideal S256x4096 .f32) (md : FVec Ideal S1x1x4096 .f32) : FVec Ideal S256x4096 .f32 :=
  addf x (mulf (broadcastTo S256x4096 (shapeCast S1x4096 md shapeCasts_S1x1x4096_S1x4096) broadcasts_S1x4096_S256x4096)
    (addf (mulf (broadcastTo S256x4096 (extractStridedSlice S256x1 ![0, 0] g slices_S256x2_o0_0_S256x1) broadcasts_S256x1_S256x4096) f0)
      (mulf (broadcastTo S256x4096 (extractStridedSlice S256x1 ![0, 1] g slices_S256x2_o0_1_S256x1) broadcasts_S256x1_S256x4096) f1)))

/-- The body's sum, at an index. -/
theorem bsum_apply (g : FVec Ideal S256x2 .f32) (f0 f1 x : FVec Ideal S256x4096 .f32) (md : FVec Ideal S1x1x4096 .f32) (r : Fin 256) (e : Fin 4096) :
    bsum g f0 f1 x md (ix2 r e) = (x (ix2 r e) + md (ix3 (0 : Fin 1) (0 : Fin 1) e)
      * (g (ix2 r (0 : Fin 2)) * f0 (ix2 r e) + g (ix2 r (1 : Fin 2)) * f1 (ix2 r e)) : EReal) := by
  have h0 : extractStridedSlice S256x1 ![0, 0] g slices_S256x2_o0_0_S256x1 (ix2 r (0 : Fin 1)) = g (ix2 r (0 : Fin 2)) :=
    extractStridedSlice_apply _ _ _ _ _ fun a => match a with
      | ⟨0, _⟩ => (Nat.zero_add _).symm
      | ⟨1, _⟩ => rfl
  have h1 : extractStridedSlice S256x1 ![0, 1] g slices_S256x2_o0_1_S256x1 (ix2 r (0 : Fin 1)) = g (ix2 r (1 : Fin 2)) :=
    extractStridedSlice_apply _ _ _ _ _ fun a => match a with
      | ⟨0, _⟩ => (Nat.zero_add _).symm
      | ⟨1, _⟩ => rfl
  unfold bsum
  rw [addf_apply, mulf_apply, addf_apply, mulf_apply, mulf_apply, row_at, chunk_at, col_at, col_at, h0, h1]

/-- What point `t` writes back is block `t` of `G`. -/
theorem flushed_eq (c : Dev nD) (t : Fin cfg0.N) :
    (dats m 0 c).flushed 5 t = (win0_5.blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5]
  unfold out0_5
  rw [View.canon_unit_zero hz, View.ld_unit_zero hz, View.ld_unit_zero hz, View.ld_unit_zero hz, View.ld_unit_zero hz,
    View.ld_unit_zero hz3]
  funext y
  obtain ⟨r, s, rfl⟩ : ∃ (r : Fin 256) (s : Fin 4096), y = ix2 r s := ⟨y 0, y 1, eq_ix2 y⟩
  show _ = G (m ((c : Thread nD τ).loc main_arg0)) (m ((c : Thread nD τ).loc main_arg1)) (m ((c : Thread nD τ).loc main_arg2))
    (m ((c : Thread nD τ).loc main_arg3)) (m ((c : Thread nD τ).loc main_arg4))
    ((win0_5.rect t).emb (ix2 r s))
  obtain ⟨⟨a0, a1⟩, ⟨b0, b1⟩, ⟨c0, c1⟩, ⟨d0, d1⟩, ⟨g0, g1, g2⟩, q1⟩ := idx_h t
  have o0 : ((win0_5.rect t).emb (ix2 r s) 0).val = win0_5.index t 0 * 256 + r.val := win0_5.rect_emb_val t (ix2 r s) 0
  have o1 : ((win0_5.rect t).emb (ix2 r s) 1).val = win0_5.index t 1 * 4096 + s.val := win0_5.rect_emb_val t (ix2 r s) 1
  have es : (win0_5.rect t).emb (ix2 r s) 1 = s := Fin.ext (o1.trans (by rw [q1]; omega))
  unfold G
  rw [es]
  refine (bsum_apply (iblk m c 3 t) (iblk m c 1 t) (iblk m c 2 t) (iblk m c 0 t) (iblk m c 4 t) r s).trans ?_
  unfold resid
  refine congrArg₂ (· + ·) ?_ (congrArg₂ (· * ·) ?_ (congrArg₂ (· + ·) (congrArg₂ (· * ·) ?_ ?_) (congrArg₂ (· * ·) ?_ ?_)))
  · show V m c main_arg0 ((win0_0.rect t).emb (ix2 r s)) = _
    rw [V_main_arg0]
    refine congrArg _ (Shape.idx_ext₂ ((win0_0.rect_emb_val t (ix2 r s) 0).trans ?_) ((win0_0.rect_emb_val t (ix2 r s) 1).trans ?_))
    · rw [a0]; exact o0.symm
    · rw [a1]; exact Nat.zero_add _
  · show V m c main_arg4 ((win0_4.rect t).emb (ix3 (0 : Fin 1) (0 : Fin 1) s)) = _
    rw [V_main_arg4]
    refine congrArg _ (funext fun a => Fin.ext ?_)
    match a with
    | ⟨0, _⟩ =>
      refine (win0_4.rect_emb_val t (ix3 (0 : Fin 1) (0 : Fin 1) s) 0).trans ?_
      rw [g0]
      show win0_5.index t 0 / 16 * 1 + 0 = ((win0_5.rect t).emb (ix2 r s) 0).val / 4096
      rw [o0]
      have := r.isLt
      omega
    | ⟨1, _⟩ => exact (win0_4.rect_emb_val t (ix3 (0 : Fin 1) (0 : Fin 1) s) 1).trans (by rw [g1]; rfl)
    | ⟨2, _⟩ => exact (win0_4.rect_emb_val t (ix3 (0 : Fin 1) (0 : Fin 1) s) 2).trans (by rw [g2]; rfl)
  · show V m c main_arg3 ((win0_3.rect t).emb (ix2 r (0 : Fin 2))) = _
    rw [V_main_arg3]
    refine congrArg _ (Shape.idx_ext₂ ((win0_3.rect_emb_val t (ix2 r (0 : Fin 2)) 0).trans ?_) ((win0_3.rect_emb_val t (ix2 r (0 : Fin 2)) 1).trans ?_))
    · rw [d0]; exact o0.symm
    · rw [d1]; rfl
  · show V m c main_arg1 ((win0_1.rect t).emb (ix2 r s)) = _
    rw [V_main_arg1]
    refine congrArg _ (Shape.idx_ext₂ ((win0_1.rect_emb_val t (ix2 r s) 0).trans ?_) ((win0_1.rect_emb_val t (ix2 r s) 1).trans ?_))
    · rw [b0]; exact o0.symm
    · rw [b1]; exact Nat.zero_add _
  · show V m c main_arg3 ((win0_3.rect t).emb (ix2 r (1 : Fin 2))) = _
    rw [V_main_arg3]
    refine congrArg _ (Shape.idx_ext₂ ((win0_3.rect_emb_val t (ix2 r (1 : Fin 2)) 0).trans ?_) ((win0_3.rect_emb_val t (ix2 r (1 : Fin 2)) 1).trans ?_))
    · rw [d0]; exact o0.symm
    · rw [d1]; rfl
  · show V m c main_arg2 ((win0_2.rect t).emb (ix2 r s)) = _
    rw [V_main_arg2]
    refine congrArg _ (Shape.idx_ext₂ ((win0_2.rect_emb_val t (ix2 r s) 0).trans ?_) ((win0_2.rect_emb_val t (ix2 r s) 1).trans ?_))
    · rw [c0]; exact o0.symm
    · rw [c1]; exact Nat.zero_add _

/-- The result's blocks tile its array. -/
theorem cover (i : S8704x4096.Idx) :
    ∃ t : Fin cfg0.N, (cfg0.win 5).flush t = true ∧ i ∈ ((cfg0.win 5).blk t).view.set := by
  have h0 : (i 0 : Nat) < 8704 := (i 0).isLt
  have h1 : (i 1 : Nat) < 4096 := (i 1).isLt
  obtain ⟨t, ha⟩ := idx_onto ⟨(i 0 : Nat) / 256, by omega⟩
  have hb := (idx_h t).2.2.2.2.2
  refine ⟨t, flush0_5 t, ?_⟩
  show i ∈ ((View.whole main_v0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [ha]; dsimp only; omega
  | ⟨1, _⟩ =>
    show win0_5.index t 1 * 4096 ≤ (i 1 : Nat) ∧ (i 1 : Nat) < win0_5.index t 1 * 4096 + 4096
    rw [hb]; omega

/-- So the result array ends holding `G` of the arguments. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

end Kernel

section Reference
open Cert.FfnMidRefIdeal.Read

variable (x f0 f1 : S8704x4096.Idx → EReal) (gate : S8704x2.Idx → EReal) (md : S8x1x24576.Idx → EReal)

/-- The reference's gated sum of a row's two experts. -/
theorem mix_eq (r : Fin 8704) (e : Fin 4096) :
    val_main_v6 (F := Ideal) f0 f1 gate (ix2 r e) = gate (ix2 r (0 : Fin 2)) * f0 (ix2 r e) + gate (ix2 r (1 : Fin 2)) * f1 (ix2 r e) := by
  rw [val_main_v6_apply, val_main_v2_apply, val_main_v5_apply, val_main_v1_apply, val_main_v0_apply, val_main_v4_apply, val_main_v3_apply]
  simp only [Ideal.mulf_def, Ideal.addf_def]
  exact congrArg₂ (· + ·) (congrArg (· * _) (congrArg gate (Shape.idx_ext₂ rfl rfl))) (congrArg (· * _) (congrArg gate (Shape.idx_ext₂ rfl rfl)))

/-- The reference's latent rows. -/
theorem lat_eq (r : Fin 8192) (s : Fin 4096) :
    val_main_v23 (F := Ideal) x f0 f1 gate md (ix2 r s) = resid x f0 f1 gate md ⟨r.val, by omega⟩ s := by
  have hr := r.isLt
  have hs := s.isLt
  have e1 : idx_main_v23 (ix2 r s) = ix3 (⟨r.val / 4096, by omega⟩ : Fin 2) (⟨r.val % 4096, by omega⟩ : Fin 4096) s :=
    funext fun a => Fin.ext (match a with
      | ⟨0, _⟩ => by show (r.val * 4096 + s.val) / 16777216 = r.val / 4096; omega
      | ⟨1, _⟩ => by show (r.val * 4096 + s.val) / 4096 % 4096 = r.val % 4096; omega
      | ⟨2, _⟩ => by show (r.val * 4096 + s.val) % 4096 = s.val; omega)
  have e2 : idx_main_v8 (idx_main_v9 (ix3 (⟨r.val / 4096, by omega⟩ : Fin 2) (⟨r.val % 4096, by omega⟩ : Fin 4096) s))
      = ix2 (⟨r.val, by omega⟩ : Fin 8704) s := Shape.idx_ext₂
    (by show ((r.val / 4096 * 4096 + r.val % 4096) * 4096 + s.val) / 4096 = r.val; omega)
    (by show ((r.val / 4096 * 4096 + r.val % 4096) * 4096 + s.val) % 4096 = s.val; omega)
  have e3 : idx_main_v11 (idx_main_v12 (ix3 (⟨r.val / 4096, by omega⟩ : Fin 2) (⟨r.val % 4096, by omega⟩ : Fin 4096) s))
      = ix2 (⟨r.val, by omega⟩ : Fin 8704) s := e2
  rw [val_main_v23_apply, e1, val_main_v15_apply, val_main_v9_apply, val_main_v8_apply, e2, val_main_v14_apply, val_main_v13_apply,
    val_main_v10_apply, val_main_v7_apply, val_main_v12_apply, val_main_v11_apply, e3, mix_eq]
  simp only [Ideal.mulf_def, Ideal.addf_def]
  unfold resid
  refine congrArg (_ + ·) (congrArg (· * _) (congrArg md (funext fun a => ?_)))
  match a with | ⟨0, _⟩ => rfl | ⟨1, _⟩ => rfl | ⟨2, _⟩ => rfl

/-- The reference's context rows. -/
theorem ctx_eq (r : Fin 512) (s : Fin 4096) :
    val_main_v22 (F := Ideal) x f0 f1 gate md (ix2 r s) = resid x f0 f1 gate md ⟨8192 + r.val, by omega⟩ s := by
  have hr := r.isLt
  have hs := s.isLt
  have e2 : idx_main_v16 (ix2 r s) = ix2 (⟨8192 + r.val, by omega⟩ : Fin 8704) s := Shape.idx_ext₂ rfl rfl
  have e3 : idx_main_v19 (ix2 r s) = ix2 (⟨8192 + r.val, by omega⟩ : Fin 8704) s := Shape.idx_ext₂ rfl rfl
  rw [val_main_v22_apply, val_main_v16_apply, e2, val_main_v21_apply, val_main_v20_apply, val_main_v18_apply, val_main_v17_apply,
    val_main_v7_apply, val_main_v19_apply, e3, mix_eq]
  simp only [Ideal.mulf_def, Ideal.addf_def]
  unfold resid
  refine congrArg (_ + ·) (congrArg (· * _) (congrArg md (funext fun a => Fin.ext ?_)))
  match a with
  | ⟨0, _⟩ => show 2 + 0 = (8192 + r.val) / 4096; omega
  | ⟨1, _⟩ => rfl
  | ⟨2, _⟩ => show 20480 + (0 * 4096 + s.val) % 4096 = 20480 + s.val; omega

/-- The reference's result is `G`. -/
theorem ref_eq : val_main_v24 (F := Ideal) x f0 f1 gate md = G x f0 f1 gate md := by
  funext i
  obtain ⟨r, s, rfl⟩ : ∃ (r : Fin 8704) (s : Fin 4096), i = ix2 r s := ⟨i 0, i 1, eq_ix2 i⟩
  have hr := r.isLt
  unfold val_main_v24
  by_cases h : r.val < 8192
  · refine (concatenate_pair_apply_left (t := Cert.FfnMidRefIdeal.S8704x4096) (s₁ := Cert.FfnMidRefIdeal.S8192x4096)
      (s₂ := Cert.FfnMidRefIdeal.S512x4096) 0 _ _ _ _ rfl (ix2 ⟨r.val, h⟩ s)
      (fun a => match a with | ⟨0, _⟩ => rfl | ⟨1, _⟩ => rfl)).trans ?_
    exact lat_eq x f0 f1 gate md ⟨r.val, h⟩ s
  · refine (concatenate_pair_apply_right (t := Cert.FfnMidRefIdeal.S8704x4096) (s₁ := Cert.FfnMidRefIdeal.S8192x4096)
      (s₂ := Cert.FfnMidRefIdeal.S512x4096) 0 _ _ _ _ rfl rfl (ix2 ⟨r.val - 8192, by omega⟩ s)
      (fun a ha => match a, ha with | ⟨0, _⟩, ha => absurd rfl ha | ⟨1, _⟩, _ => rfl)
      (by show r.val - 8192 + 8192 = r.val; omega)).trans ?_
    refine (ctx_eq x f0 f1 gate md ⟨r.val - 8192, by omega⟩ s).trans (congrArg (fun r => resid x f0 f1 gate md r s) (Fin.ext ?_))
    show 8192 + (r.val - 8192) = r.val
    omega

end Reference

/-- The reference's frame. -/
theorem frame_ref : Cert.quiescent_FfnMidRefIdeal := fun m ρ _ =>
  (θ_run Cert.FfnMidRefIdeal.defs _ _).mono (fun r h => ⟨fun c => (h c).2,
      sem_eq_zero_of_no_sems (by decide) r.2⟩)
    (Cert.FfnMidRefIdeal.Value.run (F := Ideal) m ρ)

/-- The kernel's result is the reference's. -/
theorem algebraic : Cert.algebraic_FfnMidIdeal_FfnMidRefIdeal := by
  intro m ρ m' ρ' _ hagree
  refine ⟨fun c => G (m ((c : Thread nD τ).loc main_arg0)) (m ((c : Thread nD τ).loc main_arg1)) (m ((c : Thread nD τ).loc main_arg2))
    (m ((c : Thread nD τ).loc main_arg3)) (m ((c : Thread nD τ).loc main_arg4)), ?_, ?_⟩
  · exact (θ_run Cert.FfnMidIdeal.defs _ _).mono (fun r h c => ⟨((h c).1).trans (final m c), (h c).2⟩)
      (Cert.FfnMidIdeal.Value.run_blocks (F := Ideal) m ρ)
  · refine (θ_run Cert.FfnMidRefIdeal.defs _ _).mono (fun r h c => ⟨(h c).1.trans ?_, (h c).2⟩)
      (Cert.FfnMidRefIdeal.Value.run (F := Ideal) m' ρ')
    obtain ⟨h0, h1, h2, h3, h4⟩ := hagree c
    rw [Cert.FfnMidRefIdeal.Read.val_main_v24_eq, ref_eq, h0, h1, h2, h3, h4]

end Cert.Proof.FfnMid

end
-- ==== Proof.lean ====
/-
  The certificate: for each call, the two programs' frames, the reference's frame and the equality of the results.
-/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.AttnClaim
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.ProjInRefIdeal.Read
public import proofs.«01_k».proof.Proof.ProjIn
public import proofs.«01_k».proof.Proof.Gen.ProjRes
public import proofs.«01_k».proof.Proof.Gen.ProjRes.Skeleton
public import proofs.«01_k».proof.Proof.Gen.ProjRes.Launch
public import proofs.«01_k».proof.Proof.Gen.ProjRes.Points
public import proofs.«01_k».proof.Proof.Gen.ProjRes.Frame
public import proofs.«01_k».proof.Proof.Gen.ProjResIdeal
public import proofs.«01_k».proof.Proof.Gen.ProjResIdeal.Skeleton
public import proofs.«01_k».proof.Proof.Gen.ProjResIdeal.Launch
public import proofs.«01_k».proof.Proof.Gen.ProjResIdeal.Points
public import proofs.«01_k».proof.Proof.Gen.ProjResIdeal.Frame
public import proofs.«01_k».proof.Proof.Gen.ProjResIdeal.Value
public import proofs.«01_k».proof.Proof.Gen.ProjResRefIdeal
public import proofs.«01_k».proof.Proof.Gen.ProjResRefIdeal.Run
public import proofs.«01_k».proof.Proof.Gen.ProjResRefIdeal.Read
public import proofs.«01_k».proof.Proof.ProjRes
public import proofs.«01_k».proof.Proof.Gen.ProjQ
public import proofs.«01_k».proof.Proof.Gen.ProjQ.Skeleton
public import proofs.«01_k».proof.Proof.Gen.ProjQ.Launch
public import proofs.«01_k».proof.Proof.Gen.ProjQ.Points
public import proofs.«01_k».proof.Proof.Gen.ProjQ.Frame
public import proofs.«01_k».proof.Proof.Gen.ProjQIdeal
public import proofs.«01_k».proof.Proof.Gen.ProjQIdeal.Skeleton
public import proofs.«01_k».proof.Proof.Gen.ProjQIdeal.Launch
public import proofs.«01_k».proof.Proof.Gen.ProjQIdeal.Points
public import proofs.«01_k».proof.Proof.Gen.ProjQIdeal.Frame
public import proofs.«01_k».proof.Proof.Gen.ProjQIdeal.Value
public import proofs.«01_k».proof.Proof.Gen.ProjQRefIdeal
public import proofs.«01_k».proof.Proof.Gen.ProjQRefIdeal.Run
public import proofs.«01_k».proof.Proof.Gen.ProjQRefIdeal.Read
public import proofs.«01_k».proof.Proof.ProjQ
public import proofs.«01_k».proof.Proof.Gen.ProjK
public import proofs.«01_k».proof.Proof.Gen.ProjK.Skeleton
public import proofs.«01_k».proof.Proof.Gen.ProjK.Launch
public import proofs.«01_k».proof.Proof.Gen.ProjK.Points
public import proofs.«01_k».proof.Proof.Gen.ProjK.Frame
public import proofs.«01_k».proof.Proof.Gen.ProjKIdeal
public import proofs.«01_k».proof.Proof.Gen.ProjKIdeal.Skeleton
public import proofs.«01_k».proof.Proof.Gen.ProjKIdeal.Launch
public import proofs.«01_k».proof.Proof.Gen.ProjKIdeal.Points
public import proofs.«01_k».proof.Proof.Gen.ProjKIdeal.Frame
public import proofs.«01_k».proof.Proof.Gen.ProjKIdeal.Value
public import proofs.«01_k».proof.Proof.Gen.ProjKRefIdeal
public import proofs.«01_k».proof.Proof.Gen.ProjKRefIdeal.Run
public import proofs.«01_k».proof.Proof.Gen.ProjKRefIdeal.Read
public import proofs.«01_k».proof.Proof.ProjK
public import proofs.«01_k».proof.Proof.Gen.ProjV
public import proofs.«01_k».proof.Proof.Gen.ProjV.Skeleton
public import proofs.«01_k».proof.Proof.Gen.ProjV.Launch
public import proofs.«01_k».proof.Proof.Gen.ProjV.Points
public import proofs.«01_k».proof.Proof.Gen.ProjV.Frame
public import proofs.«01_k».proof.Proof.Gen.ProjVIdeal
public import proofs.«01_k».proof.Proof.Gen.ProjVIdeal.Skeleton
public import proofs.«01_k».proof.Proof.Gen.ProjVIdeal.Launch
public import proofs.«01_k».proof.Proof.Gen.ProjVIdeal.Points
public import proofs.«01_k».proof.Proof.Gen.ProjVIdeal.Frame
public import proofs.«01_k».proof.Proof.Gen.ProjVIdeal.Value
public import proofs.«01_k».proof.Proof.Gen.ProjVRefIdeal
public import proofs.«01_k».proof.Proof.Gen.ProjVRefIdeal.Run
public import proofs.«01_k».proof.Proof.Gen.ProjVRefIdeal.Read
public import proofs.«01_k».proof.Proof.ProjV
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.MoeRefIdeal.Read
public import proofs.«01_k».proof.Proof.Moe
public import proofs.«01_k».proof.Proof.Gen.Pre_moe_pre
public import proofs.«01_k».proof.Proof.Gen.ModTab
public import proofs.«01_k».proof.Proof.Gen.ModTab.Skeleton
public import proofs.«01_k».proof.Proof.Gen.ModTab.Launch
public import proofs.«01_k».proof.Proof.Gen.ModTab.Points
public import proofs.«01_k».proof.Proof.Gen.ModTab.Frame
public import proofs.«01_k».proof.Proof.Gen.ModTabIdeal
public import proofs.«01_k».proof.Proof.Gen.ModTabIdeal.Skeleton
public import proofs.«01_k».proof.Proof.Gen.ModTabIdeal.Launch
public import proofs.«01_k».proof.Proof.Gen.ModTabIdeal.Points
public import proofs.«01_k».proof.Proof.Gen.ModTabIdeal.Frame
public import proofs.«01_k».proof.Proof.Gen.ModTabIdeal.Value
public import proofs.«01_k».proof.Proof.Gen.ModTabRefIdeal
public import proofs.«01_k».proof.Proof.Gen.ModTabRefIdeal.Run
public import proofs.«01_k».proof.Proof.Gen.ModTabRefIdeal.Read
public import proofs.«01_k».proof.Proof.ModTab
public import proofs.«01_k».proof.Proof.Gen.NormR
public import proofs.«01_k».proof.Proof.Gen.NormR.Skeleton
public import proofs.«01_k».proof.Proof.Gen.NormR.Launch
public import proofs.«01_k».proof.Proof.Gen.NormR.Points
public import proofs.«01_k».proof.Proof.Gen.NormR.Frame
public import proofs.«01_k».proof.Proof.Gen.NormRIdeal
public import proofs.«01_k».proof.Proof.Gen.NormRIdeal.Skeleton
public import proofs.«01_k».proof.Proof.Gen.NormRIdeal.Launch
public import proofs.«01_k».proof.Proof.Gen.NormRIdeal.Points
public import proofs.«01_k».proof.Proof.Gen.NormRIdeal.Frame
public import proofs.«01_k».proof.Proof.Gen.NormRIdeal.Value
public import proofs.«01_k».proof.Proof.Gen.NormRRefIdeal
public import proofs.«01_k».proof.Proof.Gen.NormRRefIdeal.Run
public import proofs.«01_k».proof.Proof.Gen.NormRRefIdeal.Read
public import proofs.«01_k».proof.Proof.NormR
public import proofs.«01_k».proof.Proof.Gen.FfnRes
public import proofs.«01_k».proof.Proof.Gen.FfnRes.Skeleton
public import proofs.«01_k».proof.Proof.Gen.FfnRes.Launch
public import proofs.«01_k».proof.Proof.Gen.FfnRes.Points
public import proofs.«01_k».proof.Proof.Gen.FfnRes.Frame
public import proofs.«01_k».proof.Proof.Gen.FfnResIdeal
public import proofs.«01_k».proof.Proof.Gen.FfnResIdeal.Skeleton
public import proofs.«01_k».proof.Proof.Gen.FfnResIdeal.Launch
public import proofs.«01_k».proof.Proof.Gen.FfnResIdeal.Points
public import proofs.«01_k».proof.Proof.Gen.FfnResIdeal.Frame
public import proofs.«01_k».proof.Proof.Gen.FfnResIdeal.Value
public import proofs.«01_k».proof.Proof.Gen.FfnResRefIdeal
public import proofs.«01_k».proof.Proof.Gen.FfnResRefIdeal.Run
public import proofs.«01_k».proof.Proof.Gen.FfnResRefIdeal.Read
public import proofs.«01_k».proof.Proof.FfnRes
public import proofs.«01_k».proof.Proof.Gen.ProjOut
public import proofs.«01_k».proof.Proof.Gen.ProjOut.Skeleton
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutIdeal.Value
public import proofs.«01_k».proof.Proof.Gen.ProjOutRefIdeal
public import proofs.«01_k».proof.Proof.Gen.ProjOutRefIdeal.Run
public import proofs.«01_k».proof.Proof.Gen.ProjOutRefIdeal.Read
public import proofs.«01_k».proof.Proof.ProjOut
public import proofs.«01_k».proof.Proof.Gen.MoeLast
public import proofs.«01_k».proof.Proof.Gen.MoeLast.Skeleton
public import proofs.«01_k».proof.Proof.Gen.MoeLast.Launch
public import proofs.«01_k».proof.Proof.Gen.MoeLastIdeal
public import proofs.«01_k».proof.Proof.Gen.MoeLastIdeal.Skeleton
public import proofs.«01_k».proof.Proof.Gen.MoeLastIdeal.Launch
public import proofs.«01_k».proof.Proof.Gen.MoeLastRefIdeal
public import proofs.«01_k».proof.Proof.Gen.MoeLastRefIdeal.Run
public import proofs.«01_k».proof.Proof.Gen.MoeLastRefIdeal.Read
public import proofs.«01_k».proof.Proof.MoeLast
public import proofs.«01_k».proof.Proof.Gen.Pre_moe_last_pre
public import proofs.«01_k».proof.Proof.Gen.ModLast
public import proofs.«01_k».proof.Proof.Gen.ModLast.Skeleton
public import proofs.«01_k».proof.Proof.Gen.ModLast.Launch
public import proofs.«01_k».proof.Proof.Gen.ModLast.Points
public import proofs.«01_k».proof.Proof.Gen.ModLast.Frame
public import proofs.«01_k».proof.Proof.Gen.ModLastIdeal
public import proofs.«01_k».proof.Proof.Gen.ModLastIdeal.Skeleton
public import proofs.«01_k».proof.Proof.Gen.ModLastIdeal.Launch
public import proofs.«01_k».proof.Proof.Gen.ModLastIdeal.Points
public import proofs.«01_k».proof.Proof.Gen.ModLastIdeal.Frame
public import proofs.«01_k».proof.Proof.Gen.ModLastIdeal.Value
public import proofs.«01_k».proof.Proof.Gen.ModLastRefIdeal
public import proofs.«01_k».proof.Proof.Gen.ModLastRefIdeal.Run
public import proofs.«01_k».proof.Proof.Gen.ModLastRefIdeal.Read
public import proofs.«01_k».proof.Proof.ModLast
public import proofs.«01_k».proof.Proof.Gen.NormLast
public import proofs.«01_k».proof.Proof.Gen.NormLast.Skeleton
public import proofs.«01_k».proof.Proof.Gen.NormLast.Launch
public import proofs.«01_k».proof.Proof.Gen.NormLast.Points
public import proofs.«01_k».proof.Proof.Gen.NormLast.Frame
public import proofs.«01_k».proof.Proof.Gen.NormLastIdeal
public import proofs.«01_k».proof.Proof.Gen.NormLastIdeal.Skeleton
public import proofs.«01_k».proof.Proof.Gen.NormLastIdeal.Launch
public import proofs.«01_k».proof.Proof.Gen.NormLastIdeal.Points
public import proofs.«01_k».proof.Proof.Gen.NormLastIdeal.Frame
public import proofs.«01_k».proof.Proof.Gen.NormLastIdeal.Value
public import proofs.«01_k».proof.Proof.Gen.NormLastRefIdeal
public import proofs.«01_k».proof.Proof.Gen.NormLastRefIdeal.Run
public import proofs.«01_k».proof.Proof.Gen.NormLastRefIdeal.Read
public import proofs.«01_k».proof.Proof.NormLast
public import proofs.«01_k».proof.Proof.Gen.NormMix
public import proofs.«01_k».proof.Proof.Gen.NormMix.Skeleton
public import proofs.«01_k».proof.Proof.Gen.NormMix.Launch
public import proofs.«01_k».proof.Proof.Gen.NormMix.Points
public import proofs.«01_k».proof.Proof.Gen.NormMix.Frame
public import proofs.«01_k».proof.Proof.Gen.NormMixIdeal
public import proofs.«01_k».proof.Proof.Gen.NormMixIdeal.Skeleton
public import proofs.«01_k».proof.Proof.Gen.NormMixIdeal.Launch
public import proofs.«01_k».proof.Proof.Gen.NormMixIdeal.Points
public import proofs.«01_k».proof.Proof.Gen.NormMixIdeal.Frame
public import proofs.«01_k».proof.Proof.Gen.NormMixIdeal.Value
public import proofs.«01_k».proof.Proof.Gen.NormMixRefIdeal
public import proofs.«01_k».proof.Proof.Gen.NormMixRefIdeal.Run
public import proofs.«01_k».proof.Proof.Gen.NormMixRefIdeal.Read
public import proofs.«01_k».proof.Proof.NormMix
public import proofs.«01_k».proof.Proof.Gen.FfnMid
public import proofs.«01_k».proof.Proof.Gen.FfnMid.Skeleton
public import proofs.«01_k».proof.Proof.Gen.FfnMid.Launch
public import proofs.«01_k».proof.Proof.Gen.FfnMid.Points
public import proofs.«01_k».proof.Proof.Gen.FfnMid.Frame
public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import proofs.«01_k».proof.Proof.Gen.FfnMidIdeal.Value
public import proofs.«01_k».proof.Proof.Gen.FfnMidRefIdeal
public import proofs.«01_k».proof.Proof.Gen.FfnMidRefIdeal.Run
public import proofs.«01_k».proof.Proof.Gen.FfnMidRefIdeal.Read
public import proofs.«01_k».proof.Proof.FfnMid

@[expose] public section

noncomputable section

namespace Cert.Proof

open Idealize.ShloMosaic Idealize.SL.Sem

/-- The frame of the attention. -/
theorem frame_Attn : Cert.quiescent_Attn := fun m ρ _ => Cert.Attn.Gen.frame m ρ

/-- The frame of the attention over the extended reals. -/
theorem frame_AttnIdeal : Cert.quiescent_AttnIdeal := fun m ρ _ => Cert.AttnIdeal.Gen.frame m ρ

/-- The frame of the input projection. -/
theorem frame_ProjIn : Cert.quiescent_ProjIn := fun m ρ _ => Cert.ProjIn.Gen.frame m ρ

/-- The frame of the input projection over the extended reals. -/
theorem frame_ProjInIdeal : Cert.quiescent_ProjInIdeal := fun m ρ _ => Cert.ProjInIdeal.Gen.frame m ρ

/-- The frame of the residual projection. -/
theorem frame_ProjRes : Cert.quiescent_ProjRes := fun m ρ _ => Cert.ProjRes.Gen.frame m ρ

/-- The frame of the residual projection over the extended reals. -/
theorem frame_ProjResIdeal : Cert.quiescent_ProjResIdeal := fun m ρ _ => Cert.ProjResIdeal.Gen.frame m ρ

/-- The frame of the query projection. -/
theorem frame_ProjQ : Cert.quiescent_ProjQ := fun m ρ _ => Cert.ProjQ.Gen.frame m ρ

/-- The frame of the query projection over the extended reals. -/
theorem frame_ProjQIdeal : Cert.quiescent_ProjQIdeal := fun m ρ _ => Cert.ProjQIdeal.Gen.frame m ρ

/-- The frame of the key projection. -/
theorem frame_ProjK : Cert.quiescent_ProjK := fun m ρ _ => Cert.ProjK.Gen.frame m ρ

/-- The frame of the key projection over the extended reals. -/
theorem frame_ProjKIdeal : Cert.quiescent_ProjKIdeal := fun m ρ _ => Cert.ProjKIdeal.Gen.frame m ρ

/-- The frame of the value projection. -/
theorem frame_ProjV : Cert.quiescent_ProjV := fun m ρ _ => Cert.ProjV.Gen.frame m ρ

/-- The frame of the value projection over the extended reals. -/
theorem frame_ProjVIdeal : Cert.quiescent_ProjVIdeal := fun m ρ _ => Cert.ProjVIdeal.Gen.frame m ρ

/-- The frame of the attention's residual projection. -/
theorem frame_ProjOut : Cert.quiescent_ProjOut := fun m ρ _ => Cert.ProjOut.Gen.frame m ρ

/-- The frame of the attention's residual projection over the extended reals. -/
theorem frame_ProjOutIdeal : Cert.quiescent_ProjOutIdeal := fun m ρ _ => Cert.ProjOutIdeal.Gen.frame m ρ

/-- The frame of the modulation table. -/
theorem frame_ModTab : Cert.quiescent_ModTab := fun m ρ _ => Cert.ModTab.Gen.frame m ρ

/-- The frame of the modulation table over the extended reals. -/
theorem frame_ModTabIdeal : Cert.quiescent_ModTabIdeal := fun m ρ _ => Cert.ModTabIdeal.Gen.frame m ρ

/-- The frame of the modulated normalisation. -/
theorem frame_NormR : Cert.quiescent_NormR := fun m ρ _ => Cert.NormR.Gen.frame m ρ

/-- The frame of the modulated normalisation over the extended reals. -/
theorem frame_NormRIdeal : Cert.quiescent_NormRIdeal := fun m ρ _ => Cert.NormRIdeal.Gen.frame m ρ

/-- The frame of the last residual. -/
theorem frame_FfnRes : Cert.quiescent_FfnRes := fun m ρ _ => Cert.FfnRes.Gen.frame m ρ

/-- The frame of the last residual over the extended reals. -/
theorem frame_FfnResIdeal : Cert.quiescent_FfnResIdeal := fun m ρ _ => Cert.FfnResIdeal.Gen.frame m ρ

/-- The frame of the last layer's modulation table. -/
theorem frame_ModLast : Cert.quiescent_ModLast := fun m ρ _ => Cert.ModLast.Gen.frame m ρ

/-- The frame of the last layer's modulation table over the extended reals. -/
theorem frame_ModLastIdeal : Cert.quiescent_ModLastIdeal := fun m ρ _ => Cert.ModLastIdeal.Gen.frame m ρ

/-- The frame of the last layer's modulated normalisation. -/
theorem frame_NormLast : Cert.quiescent_NormLast := fun m ρ _ => Cert.NormLast.Gen.frame m ρ

/-- The frame of the last layer's modulated normalisation over the extended reals. -/
theorem frame_NormLastIdeal : Cert.quiescent_NormLastIdeal := fun m ρ _ => Cert.NormLastIdeal.Gen.frame m ρ

/-- The frame of the mixers' modulated normalisation. -/
theorem frame_NormMix : Cert.quiescent_NormMix := fun m ρ _ => Cert.NormMix.Gen.frame m ρ

/-- The frame of the mixers' modulated normalisation over the extended reals. -/
theorem frame_NormMixIdeal : Cert.quiescent_NormMixIdeal := fun m ρ _ => Cert.NormMixIdeal.Gen.frame m ρ

/-- The frame of the first layer's residual. -/
theorem frame_FfnMid : Cert.quiescent_FfnMid := fun m ρ _ => Cert.FfnMid.Gen.frame m ρ

/-- The frame of the first layer's residual over the extended reals. -/
theorem frame_FfnMidIdeal : Cert.quiescent_FfnMidIdeal := fun m ρ _ => Cert.FfnMidIdeal.Gen.frame m ρ

/-- Every claim of the certificate. -/
theorem claim : Cert.Claim := ⟨
  Cert.Attn.Gen.facts, Cert.AttnIdeal.Gen.facts, Cert.AttnRefIdeal.Gen.facts, Cert.ProjIn.Gen.facts,
  Cert.ProjInIdeal.Gen.facts, Cert.ProjInRefIdeal.Gen.facts, Cert.ProjRes.Gen.facts, Cert.ProjResIdeal.Gen.facts,
  Cert.ProjResRefIdeal.Gen.facts, Cert.ProjQ.Gen.facts, Cert.ProjQIdeal.Gen.facts, Cert.ProjQRefIdeal.Gen.facts,
  Cert.ProjK.Gen.facts, Cert.ProjKIdeal.Gen.facts, Cert.ProjKRefIdeal.Gen.facts, Cert.ProjV.Gen.facts,
  Cert.ProjVIdeal.Gen.facts, Cert.ProjVRefIdeal.Gen.facts, Cert.ProjOut.Gen.facts, Cert.ProjOutIdeal.Gen.facts, Cert.ProjOutRefIdeal.Gen.facts,
  Cert.ModTab.Gen.facts, Cert.ModTabIdeal.Gen.facts, Cert.ModTabRefIdeal.Gen.facts, Cert.NormR.Gen.facts, Cert.NormRIdeal.Gen.facts, Cert.NormRRefIdeal.Gen.facts, Cert.FfnRes.Gen.facts, Cert.FfnResIdeal.Gen.facts, Cert.FfnResRefIdeal.Gen.facts,
  Cert.ModLast.Gen.facts, Cert.ModLastIdeal.Gen.facts, Cert.ModLastRefIdeal.Gen.facts,
  Cert.NormLast.Gen.facts, Cert.NormLastIdeal.Gen.facts, Cert.NormLastRefIdeal.Gen.facts,
  Cert.NormMix.Gen.facts, Cert.NormMixIdeal.Gen.facts, Cert.NormMixRefIdeal.Gen.facts,
  Cert.FfnMid.Gen.facts, Cert.FfnMidIdeal.Gen.facts, Cert.FfnMidRefIdeal.Gen.facts,
  Cert.Moe.Gen.facts,
  Cert.MoeIdeal.Gen.facts, Cert.MoeRefIdeal.Gen.facts,
  Cert.MoeLast.Gen.facts, Cert.MoeLastIdeal.Gen.facts, Cert.MoeLastRefIdeal.Gen.facts,
  Cert.Pre_attn_pre.Gen.facts, Cert.Pre_moe_pre.Gen.facts, Cert.Pre_moe_last_pre.Gen.facts, frame_Attn, frame_AttnIdeal,
  fun m ρ _ => frame_AttnIdeal m ρ trivial, Attn.frame_ref, Attn.frame_ref_pre, frame_ProjIn, frame_ProjInIdeal,
  ProjIn.frame_ref, frame_ProjRes, frame_ProjResIdeal, ProjRes.frame_ref, frame_ProjQ, frame_ProjQIdeal,
  ProjQ.frame_ref, frame_ProjK, frame_ProjKIdeal, ProjK.frame_ref, frame_ProjV, frame_ProjVIdeal, ProjV.frame_ref, frame_ProjOut, frame_ProjOutIdeal, ProjOut.frame_ref,
  frame_ModTab, frame_ModTabIdeal, ModTab.frame_ref, frame_NormR, frame_NormRIdeal, NormR.frame_ref, frame_FfnRes, frame_FfnResIdeal, FfnRes.frame_ref,
  frame_ModLast, frame_ModLastIdeal, ModLast.frame_ref,
  frame_NormLast, frame_NormLastIdeal, NormLast.frame_ref,
  frame_NormMix, frame_NormMixIdeal, NormMix.frame_ref,
  frame_FfnMid, frame_FfnMidIdeal, FfnMid.frame_ref,
  Moe.frame_kernel, Moe.frame_ideal, Moe.frame_ref, Moe.frame_ref_pre,
  MoeLast.frame_kernel, MoeLast.frame_ideal, MoeLast.frame_ref, MoeLast.frame_ref_pre,
  trivial, Attn.algebraic, trivial, ProjIn.algebraic, trivial, ProjRes.algebraic, ProjQ.preserves, ProjQ.algebraic,
  trivial, ProjK.algebraic, trivial, ProjV.algebraic, trivial, ProjOut.algebraic, trivial, ModTab.algebraic, trivial, NormR.algebraic, trivial, FfnRes.algebraic, trivial, ModLast.algebraic, trivial, NormLast.algebraic, trivial, NormMix.algebraic, trivial, FfnMid.algebraic,
  trivial, Moe.algebraic, trivial, MoeLast.algebraic⟩

end Cert.Proof

end
